-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Gather [hPre_in_ring : Cert.Pre_in_ring.Facts] (m : (ℓ : Loc Cert.Gather.nD Cert.Gather.τ Cert.Gather.sig) → Buf (Elt Bits) ℓ) : Prop :=
  ∀ c : Dev Cert.Gather.nD,
    (Cert.Pre_in_ring.fn (F := Bits) (m ((c.tc : Thread Cert.Gather.nD Cert.Gather.τ).loc Cert.Gather.main_arg0)) (m ((c.tc : Thread Cert.Gather.nD Cert.Gather.τ).loc Cert.Gather.main_arg1)) (m ((c.tc : Thread Cert.Gather.nD Cert.Gather.τ).loc Cert.Gather.main_arg2))) = (fun _ => 1#1)

def Pre_GatherRef [hPre_in_ring : Cert.Pre_in_ring.Facts] (m : (ℓ : Loc Cert.GatherRef.nD Cert.GatherRef.τ Cert.GatherRef.sig) → Buf (Elt Bits) ℓ) : Prop :=
  ∀ c : Dev Cert.GatherRef.nD,
    (Cert.Pre_in_ring.fn (F := Bits) (m ((c.tc : Thread Cert.GatherRef.nD Cert.GatherRef.τ).loc Cert.GatherRef.main_arg0)) (m ((c.tc : Thread Cert.GatherRef.nD Cert.GatherRef.τ).loc Cert.GatherRef.main_arg1)) (m ((c.tc : Thread Cert.GatherRef.nD Cert.GatherRef.τ).loc Cert.GatherRef.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Gather [hGather : Cert.Gather.Facts] [hPre_in_ring : Cert.Pre_in_ring.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2))
      ∧ r.2.sem = fun _ => 0)

def quiescent_GatherRef [hGatherRef : Cert.GatherRef.Facts] [hPre_in_ring : Cert.Pre_in_ring.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0)
      ∧ r.2.mem ((c.tc : Thread Cert.GatherRef.nD Cert.GatherRef.τ).loc Cert.GatherRef.main_arg1) = m ((c.tc : Thread Cert.GatherRef.nD Cert.GatherRef.τ).loc Cert.GatherRef.main_arg1)
      ∧ r.2.mem ((c.tc : Thread Cert.GatherRef.nD Cert.GatherRef.τ).loc Cert.GatherRef.main_arg2) = m ((c.tc : Thread Cert.GatherRef.nD Cert.GatherRef.τ).loc Cert.GatherRef.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def bitexact_Gather_GatherRef_on_seven_rows [hGather : Cert.Gather.Facts] [hGatherRef : Cert.GatherRef.Facts] [hPre_in_ring : Cert.Pre_in_ring.Facts] [hOn_seven_rows : Cert.On_seven_rows.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m' ((c.tc : Thread Cert.GatherRef.nD Cert.GatherRef.τ).loc Cert.GatherRef.main_arg0) = m ((c.tc : Thread Cert.Gather.nD Cert.Gather.τ).loc Cert.Gather.main_arg0)
      ∧ m' ((c.tc : Thread Cert.GatherRef.nD Cert.GatherRef.τ).loc Cert.GatherRef.main_arg1) = m ((c.tc : Thread Cert.Gather.nD Cert.Gather.τ).loc Cert.Gather.main_arg1)
      ∧ m' ((c.tc : Thread Cert.GatherRef.nD Cert.GatherRef.τ).loc Cert.GatherRef.main_arg2) = m ((c.tc : Thread Cert.Gather.nD Cert.Gather.τ).loc Cert.Gather.main_arg2)) →
    ∃ (v0 : (c : Dev Cert.Gather.nD) → Buf (Elt Bits) ((c.tc : Thread Cert.Gather.nD Cert.Gather.τ).loc Cert.Gather.main_v0_0)) (v1 : (c : Dev Cert.Gather.nD) → Buf (Elt Bits) ((c.tc : Thread Cert.Gather.nD Cert.Gather.τ).loc Cert.Gather.main_v0_1)),
      θ_run (Cert.Gather.defs (F := Bits)) (Cert.Gather.threads (F := Bits)) ⟨m, fun _ => 0, g⟩ (fun r => ∀ c : Dev Cert.Gather.nD,
          (∀ i : (⟨4, ![21, 7, 84, 1536]⟩ : Shape).Idx, (Cert.On_seven_rows.fn (F := Bits) (m ((c.tc : Thread Cert.Gather.nD Cert.Gather.τ).loc Cert.Gather.main_arg0)) (m ((c.tc : Thread Cert.Gather.nD Cert.Gather.τ).loc Cert.Gather.main_arg1)) (m ((c.tc : Thread Cert.Gather.nD Cert.Gather.τ).loc Cert.Gather.main_arg2))).1 i = 1#1 → r.2.mem ((c.tc : Thread Cert.Gather.nD Cert.Gather.τ).loc Cert.Gather.main_v0_0) i = v0 c i)
          ∧ (∀ i : (⟨2, ![8, 1536]⟩ : Shape).Idx, (Cert.On_seven_rows.fn (F := Bits) (m ((c.tc : Thread Cert.Gather.nD Cert.Gather.τ).loc Cert.Gather.main_arg0)) (m ((c.tc : Thread Cert.Gather.nD Cert.Gather.τ).loc Cert.Gather.main_arg1)) (m ((c.tc : Thread Cert.Gather.nD Cert.Gather.τ).loc Cert.Gather.main_arg2))).2 i = 1#1 → r.2.mem ((c.tc : Thread Cert.Gather.nD Cert.Gather.τ).loc Cert.Gather.main_v0_1) i = v1 c i)
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1)
          ∧ r.2.mem ((c.tc : Thread Cert.Gather.nD Cert.Gather.τ).loc Cert.Gather.main_arg2) = m ((c.tc : Thread Cert.Gather.nD Cert.Gather.τ).loc Cert.Gather.main_arg2))
      ∧ θ_run (Cert.GatherRef.defs (F := Bits)) (onTc (τ := Cert.GatherRef.τ) (Cert.GatherRef.main (F := Bits))) ⟨m', fun _ => 0, g'⟩ (fun r => ∀ c : Dev Cert.GatherRef.nD,
          (∀ i : (⟨4, ![21, 7, 84, 1536]⟩ : Shape).Idx, (Cert.On_seven_rows.fn (F := Bits) (m ((c.tc : Thread Cert.Gather.nD Cert.Gather.τ).loc Cert.Gather.main_arg0)) (m ((c.tc : Thread Cert.Gather.nD Cert.Gather.τ).loc Cert.Gather.main_arg1)) (m ((c.tc : Thread Cert.Gather.nD Cert.Gather.τ).loc Cert.Gather.main_arg2))).1 i = 1#1 → r.2.mem ((c.tc : Thread Cert.GatherRef.nD Cert.GatherRef.τ).loc Cert.GatherRef.main_v18) i = v0 c i)
          ∧ (∀ i : (⟨2, ![8, 1536]⟩ : Shape).Idx, (Cert.On_seven_rows.fn (F := Bits) (m ((c.tc : Thread Cert.Gather.nD Cert.Gather.τ).loc Cert.Gather.main_arg0)) (m ((c.tc : Thread Cert.Gather.nD Cert.Gather.τ).loc Cert.Gather.main_arg1)) (m ((c.tc : Thread Cert.Gather.nD Cert.Gather.τ).loc Cert.Gather.main_arg2))).2 i = 1#1 → r.2.mem ((c.tc : Thread Cert.GatherRef.nD Cert.GatherRef.τ).loc Cert.GatherRef.main_v27) i = v1 c i)
          ∧ r.2.mem ((c.tc : Thread Cert.GatherRef.nD Cert.GatherRef.τ).loc Cert.GatherRef.main_arg0) = m' ((c.tc : Thread Cert.GatherRef.nD Cert.GatherRef.τ).loc Cert.GatherRef.main_arg0)
          ∧ r.2.mem ((c.tc : Thread Cert.GatherRef.nD Cert.GatherRef.τ).loc Cert.GatherRef.main_arg1) = m' ((c.tc : Thread Cert.GatherRef.nD Cert.GatherRef.τ).loc Cert.GatherRef.main_arg1)
          ∧ r.2.mem ((c.tc : Thread Cert.GatherRef.nD Cert.GatherRef.τ).loc Cert.GatherRef.main_arg2) = m' ((c.tc : Thread Cert.GatherRef.nD Cert.GatherRef.τ).loc Cert.GatherRef.main_arg2))

def Claim : Prop :=
  ∃ (hKernel : Cert.Kernel.Facts) (hKernelIdeal : Cert.KernelIdeal.Facts) (hReferenceIdeal : Cert.ReferenceIdeal.Facts) (hGather : Cert.Gather.Facts) (hGatherRef : Cert.GatherRef.Facts) (hPre_in_ring : Cert.Pre_in_ring.Facts) (hOn_seven_rows : Cert.On_seven_rows.Facts),
    quiescent_Kernel (hKernel := hKernel)
    ∧ quiescent_KernelIdeal (hKernelIdeal := hKernelIdeal)
    ∧ quiescent_ReferenceIdeal (hReferenceIdeal := hReferenceIdeal)
    ∧ quiescent_Gather (hGather := hGather) (hPre_in_ring := hPre_in_ring)
    ∧ quiescent_GatherRef (hGatherRef := hGatherRef) (hPre_in_ring := hPre_in_ring)
    ∧ preserves_Kernel_KernelIdeal
    ∧ algebraic_KernelIdeal_ReferenceIdeal (hKernelIdeal := hKernelIdeal) (hReferenceIdeal := hReferenceIdeal)
    ∧ bitexact_Gather_GatherRef_on_seven_rows (hGather := hGather) (hGatherRef := hGatherRef) (hPre_in_ring := hPre_in_ring) (hOn_seven_rows := hOn_seven_rows)
-- ==== On_seven_rows.lean ====
abbrev S84x21x45000 : Shape := ⟨3, ![84, 21, 45000]⟩
abbrev S45000 : Shape := ⟨1, ![45000]⟩
abbrev S1536 : Shape := ⟨1, ![1536]⟩
abbrev S_ : Shape := ⟨0, ![]⟩
abbrev S21x7x84x1536 : Shape := ⟨4, ![21, 7, 84, 1536]⟩
abbrev S8x1536 : Shape := ⟨2, ![8, 1536]⟩

class Facts : Prop where
  bcast_S_S21x7x84x1536 : S_.BroadcastsInDim S21x7x84x1536 (![] : Fin 0 → Fin S21x7x84x1536.rank)
  bcast_S_S8x1536 : S_.BroadcastsInDim S8x1536 (![] : Fin 0 → Fin S8x1536.rank)

variable [Facts]

def fn {F : FTy → Type} [FloatOps F] (main_arg0 : IVec S84x21x45000 32) (main_arg1 : IVec S45000 32) (main_arg2 : IVec S1536 32) : IVec S21x7x84x1536 1 × IVec S8x1536 1 :=
  let main_c : IVec S_ 1 := constantI S_ 1 1#1
  let main_v0 : IVec S21x7x84x1536 1 := broadcastInDim S21x7x84x1536 ![] bcast_S_S21x7x84x1536 main_c
  let main_v1 : IVec S8x1536 32 := iotaInDim S8x1536 32 0
  let main_c_0 : IVec S_ 32 := constantI S_ 32 7#32
  let main_v2 : IVec S8x1536 32 := broadcastInDim S8x1536 ![] bcast_S_S8x1536 main_c_0
  let main_v3 : IVec S8x1536 1 := cmpi .slt main_v1 main_v2
  (main_v0, main_v3)
-- ==== Pre_in_ring.lean ====
abbrev S84x21x45000 : Shape := ⟨3, ![84, 21, 45000]⟩
abbrev S45000 : Shape := ⟨1, ![45000]⟩
abbrev S1536 : Shape := ⟨1, ![1536]⟩
abbrev S_ : Shape := ⟨0, ![]⟩

class Facts : Prop where
  bcast_S_S1536 : S_.BroadcastsInDim S1536 (![] : Fin 0 → Fin S1536.rank)

variable [Facts]

def fn {F : FTy → Type} [FloatOps F] (main_arg0 : IVec S84x21x45000 32) (main_arg1 : IVec S45000 32) (main_arg2 : IVec S1536 32) : IVec S1536 1 :=
  let main_c : IVec S_ 32 := constantI S_ 32 0#32
  let main_v0 : IVec S1536 32 := broadcastInDim S1536 ![] bcast_S_S1536 main_c
  let main_v1 : IVec S1536 1 := cmpi .sge main_arg2 main_v0
  let main_c_0 : IVec S_ 32 := constantI S_ 32 45000#32
  let main_v2 : IVec S1536 32 := broadcastInDim S1536 ![] bcast_S_S1536 main_c_0
  let main_v3 : IVec S1536 1 := cmpi .slt main_arg2 main_v2
  let main_v4 : IVec S1536 1 := andi main_v1 main_v3
  main_v4
-- ==== Kernel.lean ====
abbrev S21x7x84x1536 : Shape := ⟨4, ![21, 7, 84, 1536]⟩
abbrev S8x1536 : Shape := ⟨2, ![8, 1536]⟩
abbrev S8x8x4x96 : Shape := ⟨4, ![8, 8, 4, 96]⟩
abbrev S96 : Shape := ⟨1, ![96]⟩
abbrev S2x4x2x4x4x96 : Shape := ⟨6, ![2, 4, 2, 4, 4, 96]⟩
abbrev S96x2x2x4x4x4 : Shape := ⟨6, ![96, 2, 2, 4, 4, 4]⟩
abbrev S1x96x2x2x4x4x4 : Shape := ⟨7, ![1, 96, 2, 2, 4, 4, 4]⟩
abbrev S2x96x2x2x4x4x4 : Shape := ⟨7, ![2, 96, 2, 2, 4, 4, 4]⟩
abbrev S2x96x256 : Shape := ⟨3, ![2, 96, 256]⟩
abbrev S96x1 : Shape := ⟨2, ![96, 1]⟩
abbrev S20x20x96x1536 : Shape := ⟨4, ![20, 20, 96, 1536]⟩
abbrev S1x7x84x1536 : Shape := ⟨4, ![1, 7, 84, 1536]⟩
abbrev S1x20x96x1536 : Shape := ⟨4, ![1, 20, 96, 1536]⟩
abbrev S2x2688x1536 : Shape := ⟨3, ![2, 2688, 1536]⟩
abbrev S96x128 : Shape := ⟨2, ![96, 128]⟩
abbrev S1x1536 : Shape := ⟨2, ![1, 1536]⟩
abbrev S1x1x8x1536 : Shape := ⟨4, ![1, 1, 8, 1536]⟩
abbrev S32x1536 : Shape := ⟨2, ![32, 1536]⟩
abbrev S16x1536 : Shape := ⟨2, ![16, 1536]⟩
abbrev S1x16x1536 : Shape := ⟨3, ![1, 16, 1536]⟩
abbrev S1x1x4x1536 : Shape := ⟨4, ![1, 1, 4, 1536]⟩
abbrev S4x1536 : Shape := ⟨2, ![4, 1536]⟩
abbrev S1x96x256 : Shape := ⟨3, ![1, 96, 256]⟩
abbrev S96x256 : Shape := ⟨2, ![96, 256]⟩
abbrev S96x1536 : Shape := ⟨2, ![96, 1536]⟩
abbrev S1x256x1536 : Shape := ⟨3, ![1, 256, 1536]⟩
abbrev S256x1536 : Shape := ⟨2, ![256, 1536]⟩
abbrev S1x1x96x1536 : Shape := ⟨4, ![1, 1, 96, 1536]⟩

abbrev nBuf : Space → Nat
  | .hbm => 16
  | .vmem => 15
  | .smem => 0
  | _ => 0

abbrev bufTy : (tb : Table) → Fin (tcTables nBuf tb) → BufTy
  | .hbm, ⟨0, _⟩ => ⟨S21x7x84x1536, .i32⟩
  | .hbm, ⟨1, _⟩ => ⟨S8x1536, .i32⟩
  | .hbm, ⟨2, _⟩ => ⟨S8x8x4x96, .fp8e4m3⟩
  | .hbm, ⟨3, _⟩ => ⟨S96, .f32⟩
  | .hbm, ⟨4, _⟩ => ⟨S96, .f32⟩
  | .hbm, ⟨5, _⟩ => ⟨S2x4x2x4x4x96, .fp8e4m3⟩
  | .hbm, ⟨6, _⟩ => ⟨S96x2x2x4x4x4, .fp8e4m3⟩
  | .hbm, ⟨7, _⟩ => ⟨S96x2x2x4x4x4, .fp8e4m3⟩
  | .hbm, ⟨8, _⟩ => ⟨S1x96x2x2x4x4x4, .fp8e4m3⟩
  | .hbm, ⟨9, _⟩ => ⟨S1x96x2x2x4x4x4, .fp8e4m3⟩
  | .hbm, ⟨10, _⟩ => ⟨S2x96x2x2x4x4x4, .fp8e4m3⟩
  | .hbm, ⟨11, _⟩ => ⟨S2x96x256, .fp8e4m3⟩
  | .hbm, ⟨12, _⟩ => ⟨S96x1, .f32⟩
  | .hbm, ⟨13, _⟩ => ⟨S96x1, .f32⟩
  | .hbm, ⟨14, _⟩ => ⟨S20x20x96x1536, .bf16⟩
  | .hbm, ⟨15, _⟩ => ⟨S20x20x96x1536, .bf16⟩
  | .local _ .vmem, ⟨0, _⟩ => ⟨S1x7x84x1536, .i32⟩
  | .local _ .vmem, ⟨1, _⟩ => ⟨S1x7x84x1536, .i32⟩
  | .local _ .vmem, ⟨2, _⟩ => ⟨S8x1536, .i32⟩
  | .local _ .vmem, ⟨3, _⟩ => ⟨S2x96x256, .fp8e4m3⟩
  | .local _ .vmem, ⟨4, _⟩ => ⟨S96x1, .f32⟩
  | .local _ .vmem, ⟨5, _⟩ => ⟨S96x1, .f32⟩
  | .local _ .vmem, ⟨6, _⟩ => ⟨S1x20x96x1536, .bf16⟩
  | .local _ .vmem, ⟨7, _⟩ => ⟨S1x20x96x1536, .bf16⟩
  | .local _ .vmem, ⟨8, _⟩ => ⟨S1x20x96x1536, .bf16⟩
  | .local _ .vmem, ⟨9, _⟩ => ⟨S1x20x96x1536, .bf16⟩
  | .local _ .vmem, ⟨10, _⟩ => ⟨S2x2688x1536, .bf16⟩
  | .local _ .vmem, ⟨11, _⟩ => ⟨S8x1536, .i32⟩
  | .local _ .vmem, ⟨12, _⟩ => ⟨S2x96x256, .bf16⟩
  | .local _ .vmem, ⟨13, _⟩ => ⟨S96x128, .f32⟩
  | .local _ .vmem, ⟨14, _⟩ => ⟨S96x128, .f32⟩
  | _, _ => ⟨S21x7x84x1536, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![21], ![false]⟩

def k0_mult1 (i : grid0.Coords) : BitVec 32 :=
  let c0_i32_6 : BitVec 32 := 0#32
  let arg0 : BitVec 32 := BitVec.ofNat 32 (i 0).val
  let c2_i32 : BitVec 32 := 2#32
  let v3 : BitVec 32 := Scalar.remsi arg0 c2_i32
  let c64_i32 : BitVec 32 := 64#32
  let v11 : BitVec 32 := Scalar.muli v3 c64_i32
  let v12 : BitVec 32 := Scalar.addi c0_i32_6 v11
  let c0_i32_7 : BitVec 32 := 0#32
  let v13 : BitVec 32 := Scalar.addi v12 c0_i32_7
  v13
def k0_off1 (i : grid0.Coords) (c0_i32_6 : BitVec 32) (c0_i32_7 : BitVec 32) : Fin 3 → Nat :=
  let c0_8 : Index := 0#32
  let arg0 : BitVec 32 := BitVec.ofNat 32 (i 0).val
  let c2_i32 : BitVec 32 := 2#32
  let v3 : BitVec 32 := Scalar.remsi arg0 c2_i32
  let c64_i32 : BitVec 32 := 64#32
  let v11 : BitVec 32 := Scalar.muli v3 c64_i32
  let v12 : BitVec 32 := Scalar.addi c0_i32_6 v11
  let v13 : BitVec 32 := Scalar.addi v12 c0_i32_7
  let v14 : BitVec 32 := v13
  let v16 : Index := Scalar.indexCast v14
  let c0_9 : Index := 0#32
  ![0, v16.toNat, 0]
def k0_mult2 (i : grid0.Coords) : BitVec 32 :=
  let c128_i32 : BitVec 32 := 128#32
  let arg0 : BitVec 32 := BitVec.ofNat 32 (i 0).val
  let c2_i32 : BitVec 32 := 2#32
  let v3 : BitVec 32 := Scalar.remsi arg0 c2_i32
  let c64_i32_10 : BitVec 32 := 64#32
  let v20 : BitVec 32 := Scalar.muli v3 c64_i32_10
  let v21 : BitVec 32 := Scalar.addi c128_i32 v20
  let c0_i32_11 : BitVec 32 := 0#32
  let v22 : BitVec 32 := Scalar.addi v21 c0_i32_11
  v22
def k0_mult3 (i : grid0.Coords) : BitVec 32 :=
  let c0_i32_20 : BitVec 32 := 0#32
  let arg0 : BitVec 32 := BitVec.ofNat 32 (i 0).val
  let c2_i32 : BitVec 32 := 2#32
  let v3 : BitVec 32 := Scalar.remsi arg0 c2_i32
  let c64_i32_19 : BitVec 32 := 64#32
  let v36 : BitVec 32 := Scalar.muli v3 c64_i32_19
  let v37 : BitVec 32 := Scalar.addi c0_i32_20 v36
  let c16_i32 : BitVec 32 := 16#32
  let v38 : BitVec 32 := Scalar.addi v37 c16_i32
  v38
def k0_mult4 (i : grid0.Coords) : BitVec 32 :=
  let c128_i32_24 : BitVec 32 := 128#32
  let arg0 : BitVec 32 := BitVec.ofNat 32 (i 0).val
  let c2_i32 : BitVec 32 := 2#32
  let v3 : BitVec 32 := Scalar.remsi arg0 c2_i32
  let c64_i32_23 : BitVec 32 := 64#32
  let v45 : BitVec 32 := Scalar.muli v3 c64_i32_23
  let v46 : BitVec 32 := Scalar.addi c128_i32_24 v45
  let c16_i32_25 : BitVec 32 := 16#32
  let v47 : BitVec 32 := Scalar.addi v46 c16_i32_25
  v47
def k0_mult5 (i : grid0.Coords) : BitVec 32 :=
  let c0_i32_34 : BitVec 32 := 0#32
  let arg0 : BitVec 32 := BitVec.ofNat 32 (i 0).val
  let c2_i32 : BitVec 32 := 2#32
  let v3 : BitVec 32 := Scalar.remsi arg0 c2_i32
  let c64_i32_33 : BitVec 32 := 64#32
  let v61 : BitVec 32 := Scalar.muli v3 c64_i32_33
  let v62 : BitVec 32 := Scalar.addi c0_i32_34 v61
  let c32_i32 : BitVec 32 := 32#32
  let v63 : BitVec 32 := Scalar.addi v62 c32_i32
  v63
def k0_mult6 (i : grid0.Coords) : BitVec 32 :=
  let c128_i32_38 : BitVec 32 := 128#32
  let arg0 : BitVec 32 := BitVec.ofNat 32 (i 0).val
  let c2_i32 : BitVec 32 := 2#32
  let v3 : BitVec 32 := Scalar.remsi arg0 c2_i32
  let c64_i32_37 : BitVec 32 := 64#32
  let v70 : BitVec 32 := Scalar.muli v3 c64_i32_37
  let v71 : BitVec 32 := Scalar.addi c128_i32_38 v70
  let c32_i32_39 : BitVec 32 := 32#32
  let v72 : BitVec 32 := Scalar.addi v71 c32_i32_39
  v72
def k0_mult7 (i : grid0.Coords) : BitVec 32 :=
  let c0_i32_46 : BitVec 32 := 0#32
  let arg0 : BitVec 32 := BitVec.ofNat 32 (i 0).val
  let c2_i32 : BitVec 32 := 2#32
  let v3 : BitVec 32 := Scalar.remsi arg0 c2_i32
  let c64_i32_45 : BitVec 32 := 64#32
  let v83 : BitVec 32 := Scalar.muli v3 c64_i32_45
  let v84 : BitVec 32 := Scalar.addi c0_i32_46 v83
  let c48_i32 : BitVec 32 := 48#32
  let v85 : BitVec 32 := Scalar.addi v84 c48_i32
  v85
def k0_mult8 (i : grid0.Coords) : BitVec 32 :=
  let c128_i32_50 : BitVec 32 := 128#32
  let arg0 : BitVec 32 := BitVec.ofNat 32 (i 0).val
  let c2_i32 : BitVec 32 := 2#32
  let v3 : BitVec 32 := Scalar.remsi arg0 c2_i32
  let c64_i32_49 : BitVec 32 := 64#32
  let v92 : BitVec 32 := Scalar.muli v3 c64_i32_49
  let v93 : BitVec 32 := Scalar.addi c128_i32_50 v92
  let c48_i32_51 : BitVec 32 := 48#32
  let v94 : BitVec 32 := Scalar.addi v93 c48_i32_51
  v94
def k0_mult9 (i : grid0.Coords) : BitVec 32 :=
  let c0_i32_61 : BitVec 32 := 0#32
  let arg0 : BitVec 32 := BitVec.ofNat 32 (i 0).val
  let c2_i32 : BitVec 32 := 2#32
  let v3 : BitVec 32 := Scalar.remsi arg0 c2_i32
  let c64_i32_60 : BitVec 32 := 64#32
  let v108 : BitVec 32 := Scalar.muli v3 c64_i32_60
  let v109 : BitVec 32 := Scalar.addi c0_i32_61 v108
  let c0_i32_62 : BitVec 32 := 0#32
  let v110 : BitVec 32 := Scalar.addi v109 c0_i32_62
  v110
def k0_off2 (i : grid0.Coords) (c0_i32_61 : BitVec 32) (c0_i32_62 : BitVec 32) : Fin 3 → Nat :=
  let c1_63 : Index := 1#32
  let arg0 : BitVec 32 := BitVec.ofNat 32 (i 0).val
  let c2_i32 : BitVec 32 := 2#32
  let v3 : BitVec 32 := Scalar.remsi arg0 c2_i32
  let c64_i32_60 : BitVec 32 := 64#32
  let v108 : BitVec 32 := Scalar.muli v3 c64_i32_60
  let v109 : BitVec 32 := Scalar.addi c0_i32_61 v108
  let v110 : BitVec 32 := Scalar.addi v109 c0_i32_62
  let v111 : BitVec 32 := v110
  let v113 : Index := Scalar.indexCast v111
  let c0_64 : Index := 0#32
  ![1, v113.toNat, 0]
def k0_mult10 (i : grid0.Coords) : BitVec 32 :=
  let c128_i32_66 : BitVec 32 := 128#32
  let arg0 : BitVec 32 := BitVec.ofNat 32 (i 0).val
  let c2_i32 : BitVec 32 := 2#32
  let v3 : BitVec 32 := Scalar.remsi arg0 c2_i32
  let c64_i32_65 : BitVec 32 := 64#32
  let v117 : BitVec 32 := Scalar.muli v3 c64_i32_65
  let v118 : BitVec 32 := Scalar.addi c128_i32_66 v117
  let c0_i32_67 : BitVec 32 := 0#32
  let v119 : BitVec 32 := Scalar.addi v118 c0_i32_67
  v119
def k0_mult11 (i : grid0.Coords) : BitVec 32 :=
  let c0_i32_76 : BitVec 32 := 0#32
  let arg0 : BitVec 32 := BitVec.ofNat 32 (i 0).val
  let c2_i32 : BitVec 32 := 2#32
  let v3 : BitVec 32 := Scalar.remsi arg0 c2_i32
  let c64_i32_75 : BitVec 32 := 64#32
  let v133 : BitVec 32 := Scalar.muli v3 c64_i32_75
  let v134 : BitVec 32 := Scalar.addi c0_i32_76 v133
  let c16_i32_77 : BitVec 32 := 16#32
  let v135 : BitVec 32 := Scalar.addi v134 c16_i32_77
  v135
def k0_mult12 (i : grid0.Coords) : BitVec 32 :=
  let c128_i32_81 : BitVec 32 := 128#32
  let arg0 : BitVec 32 := BitVec.ofNat 32 (i 0).val
  let c2_i32 : BitVec 32 := 2#32
  let v3 : BitVec 32 := Scalar.remsi arg0 c2_i32
  let c64_i32_80 : BitVec 32 := 64#32
  let v142 : BitVec 32 := Scalar.muli v3 c64_i32_80
  let v143 : BitVec 32 := Scalar.addi c128_i32_81 v142
  let c16_i32_82 : BitVec 32 := 16#32
  let v144 : BitVec 32 := Scalar.addi v143 c16_i32_82
  v144
def k0_mult13 (i : grid0.Coords) : BitVec 32 :=
  let c0_i32_91 : BitVec 32 := 0#32
  let arg0 : BitVec 32 := BitVec.ofNat 32 (i 0).val
  let c2_i32 : BitVec 32 := 2#32
  let v3 : BitVec 32 := Scalar.remsi arg0 c2_i32
  let c64_i32_90 : BitVec 32 := 64#32
  let v158 : BitVec 32 := Scalar.muli v3 c64_i32_90
  let v159 : BitVec 32 := Scalar.addi c0_i32_91 v158
  let c32_i32_92 : BitVec 32 := 32#32
  let v160 : BitVec 32 := Scalar.addi v159 c32_i32_92
  v160
def k0_mult14 (i : grid0.Coords) : BitVec 32 :=
  let c128_i32_96 : BitVec 32 := 128#32
  let arg0 : BitVec 32 := BitVec.ofNat 32 (i 0).val
  let c2_i32 : BitVec 32 := 2#32
  let v3 : BitVec 32 := Scalar.remsi arg0 c2_i32
  let c64_i32_95 : BitVec 32 := 64#32
  let v167 : BitVec 32 := Scalar.muli v3 c64_i32_95
  let v168 : BitVec 32 := Scalar.addi c128_i32_96 v167
  let c32_i32_97 : BitVec 32 := 32#32
  let v169 : BitVec 32 := Scalar.addi v168 c32_i32_97
  v169
def k0_mult15 (i : grid0.Coords) : BitVec 32 :=
  let c0_i32_104 : BitVec 32 := 0#32
  let arg0 : BitVec 32 := BitVec.ofNat 32 (i 0).val
  let c2_i32 : BitVec 32 := 2#32
  let v3 : BitVec 32 := Scalar.remsi arg0 c2_i32
  let c64_i32_103 : BitVec 32 := 64#32
  let v180 : BitVec 32 := Scalar.muli v3 c64_i32_103
  let v181 : BitVec 32 := Scalar.addi c0_i32_104 v180
  let c48_i32_105 : BitVec 32 := 48#32
  let v182 : BitVec 32 := Scalar.addi v181 c48_i32_105
  v182
def k0_mult16 (i : grid0.Coords) : BitVec 32 :=
  let c128_i32_109 : BitVec 32 := 128#32
  let arg0 : BitVec 32 := BitVec.ofNat 32 (i 0).val
  let c2_i32 : BitVec 32 := 2#32
  let v3 : BitVec 32 := Scalar.remsi arg0 c2_i32
  let c64_i32_108 : BitVec 32 := 64#32
  let v189 : BitVec 32 := Scalar.muli v3 c64_i32_108
  let v190 : BitVec 32 := Scalar.addi c128_i32_109 v189
  let c48_i32_110 : BitVec 32 := 48#32
  let v191 : BitVec 32 := Scalar.addi v190 c48_i32_110
  v191
def k0_mult17 (i : grid0.Coords) : BitVec 32 :=
  let c256_i32 : BitVec 32 := 256#32
  let arg0 : BitVec 32 := BitVec.ofNat 32 (i 0).val
  let c2_i32 : BitVec 32 := 2#32
  let v3 : BitVec 32 := Scalar.remsi arg0 c2_i32
  let c64_i32_118 : BitVec 32 := 64#32
  let v205 : BitVec 32 := Scalar.muli v3 c64_i32_118
  let v206 : BitVec 32 := Scalar.addi c256_i32 v205
  let c0_i32_119 : BitVec 32 := 0#32
  let v207 : BitVec 32 := Scalar.addi v206 c0_i32_119
  v207
def k0_mult18 (i : grid0.Coords) : BitVec 32 :=
  let c384_i32 : BitVec 32 := 384#32
  let arg0 : BitVec 32 := BitVec.ofNat 32 (i 0).val
  let c2_i32 : BitVec 32 := 2#32
  let v3 : BitVec 32 := Scalar.remsi arg0 c2_i32
  let c64_i32_122 : BitVec 32 := 64#32
  let v214 : BitVec 32 := Scalar.muli v3 c64_i32_122
  let v215 : BitVec 32 := Scalar.addi c384_i32 v214
  let c0_i32_123 : BitVec 32 := 0#32
  let v216 : BitVec 32 := Scalar.addi v215 c0_i32_123
  v216
def k0_mult19 (i : grid0.Coords) : BitVec 32 :=
  let c256_i32_133 : BitVec 32 := 256#32
  let arg0 : BitVec 32 := BitVec.ofNat 32 (i 0).val
  let c2_i32 : BitVec 32 := 2#32
  let v3 : BitVec 32 := Scalar.remsi arg0 c2_i32
  let c64_i32_132 : BitVec 32 := 64#32
  let v230 : BitVec 32 := Scalar.muli v3 c64_i32_132
  let v231 : BitVec 32 := Scalar.addi c256_i32_133 v230
  let c16_i32_134 : BitVec 32 := 16#32
  let v232 : BitVec 32 := Scalar.addi v231 c16_i32_134
  v232
def k0_mult20 (i : grid0.Coords) : BitVec 32 :=
  let c384_i32_138 : BitVec 32 := 384#32
  let arg0 : BitVec 32 := BitVec.ofNat 32 (i 0).val
  let c2_i32 : BitVec 32 := 2#32
  let v3 : BitVec 32 := Scalar.remsi arg0 c2_i32
  let c64_i32_137 : BitVec 32 := 64#32
  let v239 : BitVec 32 := Scalar.muli v3 c64_i32_137
  let v240 : BitVec 32 := Scalar.addi c384_i32_138 v239
  let c16_i32_139 : BitVec 32 := 16#32
  let v241 : BitVec 32 := Scalar.addi v240 c16_i32_139
  v241
def k0_mult21 (i : grid0.Coords) : BitVec 32 :=
  let c256_i32_149 : BitVec 32 := 256#32
  let arg0 : BitVec 32 := BitVec.ofNat 32 (i 0).val
  let c2_i32 : BitVec 32 := 2#32
  let v3 : BitVec 32 := Scalar.remsi arg0 c2_i32
  let c64_i32_148 : BitVec 32 := 64#32
  let v255 : BitVec 32 := Scalar.muli v3 c64_i32_148
  let v256 : BitVec 32 := Scalar.addi c256_i32_149 v255
  let c32_i32_150 : BitVec 32 := 32#32
  let v257 : BitVec 32 := Scalar.addi v256 c32_i32_150
  v257
def k0_mult22 (i : grid0.Coords) : BitVec 32 :=
  let c384_i32_154 : BitVec 32 := 384#32
  let arg0 : BitVec 32 := BitVec.ofNat 32 (i 0).val
  let c2_i32 : BitVec 32 := 2#32
  let v3 : BitVec 32 := Scalar.remsi arg0 c2_i32
  let c64_i32_153 : BitVec 32 := 64#32
  let v264 : BitVec 32 := Scalar.muli v3 c64_i32_153
  let v265 : BitVec 32 := Scalar.addi c384_i32_154 v264
  let c32_i32_155 : BitVec 32 := 32#32
  let v266 : BitVec 32 := Scalar.addi v265 c32_i32_155
  v266
def k0_mult23 (i : grid0.Coords) : BitVec 32 :=
  let c256_i32_163 : BitVec 32 := 256#32
  let arg0 : BitVec 32 := BitVec.ofNat 32 (i 0).val
  let c2_i32 : BitVec 32 := 2#32
  let v3 : BitVec 32 := Scalar.remsi arg0 c2_i32
  let c64_i32_162 : BitVec 32 := 64#32
  let v277 : BitVec 32 := Scalar.muli v3 c64_i32_162
  let v278 : BitVec 32 := Scalar.addi c256_i32_163 v277
  let c48_i32_164 : BitVec 32 := 48#32
  let v279 : BitVec 32 := Scalar.addi v278 c48_i32_164
  v279
def k0_mult24 (i : grid0.Coords) : BitVec 32 :=
  let c384_i32_168 : BitVec 32 := 384#32
  let arg0 : BitVec 32 := BitVec.ofNat 32 (i 0).val
  let c2_i32 : BitVec 32 := 2#32
  let v3 : BitVec 32 := Scalar.remsi arg0 c2_i32
  let c64_i32_167 : BitVec 32 := 64#32
  let v286 : BitVec 32 := Scalar.muli v3 c64_i32_167
  let v287 : BitVec 32 := Scalar.addi c384_i32_168 v286
  let c48_i32_169 : BitVec 32 := 48#32
  let v288 : BitVec 32 := Scalar.addi v287 c48_i32_169
  v288
def k0_mult25 (i : grid0.Coords) : BitVec 32 :=
  let c256_i32_179 : BitVec 32 := 256#32
  let arg0 : BitVec 32 := BitVec.ofNat 32 (i 0).val
  let c2_i32 : BitVec 32 := 2#32
  let v3 : BitVec 32 := Scalar.remsi arg0 c2_i32
  let c64_i32_178 : BitVec 32 := 64#32
  let v302 : BitVec 32 := Scalar.muli v3 c64_i32_178
  let v303 : BitVec 32 := Scalar.addi c256_i32_179 v302
  let c0_i32_180 : BitVec 32 := 0#32
  let v304 : BitVec 32 := Scalar.addi v303 c0_i32_180
  v304
def k0_mult26 (i : grid0.Coords) : BitVec 32 :=
  let c384_i32_184 : BitVec 32 := 384#32
  let arg0 : BitVec 32 := BitVec.ofNat 32 (i 0).val
  let c2_i32 : BitVec 32 := 2#32
  let v3 : BitVec 32 := Scalar.remsi arg0 c2_i32
  let c64_i32_183 : BitVec 32 := 64#32
  let v311 : BitVec 32 := Scalar.muli v3 c64_i32_183
  let v312 : BitVec 32 := Scalar.addi c384_i32_184 v311
  let c0_i32_185 : BitVec 32 := 0#32
  let v313 : BitVec 32 := Scalar.addi v312 c0_i32_185
  v313
def k0_mult27 (i : grid0.Coords) : BitVec 32 :=
  let c256_i32_195 : BitVec 32 := 256#32
  let arg0 : BitVec 32 := BitVec.ofNat 32 (i 0).val
  let c2_i32 : BitVec 32 := 2#32
  let v3 : BitVec 32 := Scalar.remsi arg0 c2_i32
  let c64_i32_194 : BitVec 32 := 64#32
  let v327 : BitVec 32 := Scalar.muli v3 c64_i32_194
  let v328 : BitVec 32 := Scalar.addi c256_i32_195 v327
  let c16_i32_196 : BitVec 32 := 16#32
  let v329 : BitVec 32 := Scalar.addi v328 c16_i32_196
  v329
def k0_mult28 (i : grid0.Coords) : BitVec 32 :=
  let c384_i32_200 : BitVec 32 := 384#32
  let arg0 : BitVec 32 := BitVec.ofNat 32 (i 0).val
  let c2_i32 : BitVec 32 := 2#32
  let v3 : BitVec 32 := Scalar.remsi arg0 c2_i32
  let c64_i32_199 : BitVec 32 := 64#32
  let v336 : BitVec 32 := Scalar.muli v3 c64_i32_199
  let v337 : BitVec 32 := Scalar.addi c384_i32_200 v336
  let c16_i32_201 : BitVec 32 := 16#32
  let v338 : BitVec 32 := Scalar.addi v337 c16_i32_201
  v338
def k0_mult29 (i : grid0.Coords) : BitVec 32 :=
  let c256_i32_211 : BitVec 32 := 256#32
  let arg0 : BitVec 32 := BitVec.ofNat 32 (i 0).val
  let c2_i32 : BitVec 32 := 2#32
  let v3 : BitVec 32 := Scalar.remsi arg0 c2_i32
  let c64_i32_210 : BitVec 32 := 64#32
  let v352 : BitVec 32 := Scalar.muli v3 c64_i32_210
  let v353 : BitVec 32 := Scalar.addi c256_i32_211 v352
  let c32_i32_212 : BitVec 32 := 32#32
  let v354 : BitVec 32 := Scalar.addi v353 c32_i32_212
  v354
def k0_mult30 (i : grid0.Coords) : BitVec 32 :=
  let c384_i32_216 : BitVec 32 := 384#32
  let arg0 : BitVec 32 := BitVec.ofNat 32 (i 0).val
  let c2_i32 : BitVec 32 := 2#32
  let v3 : BitVec 32 := Scalar.remsi arg0 c2_i32
  let c64_i32_215 : BitVec 32 := 64#32
  let v361 : BitVec 32 := Scalar.muli v3 c64_i32_215
  let v362 : BitVec 32 := Scalar.addi c384_i32_216 v361
  let c32_i32_217 : BitVec 32 := 32#32
  let v363 : BitVec 32 := Scalar.addi v362 c32_i32_217
  v363
def k0_mult31 (i : grid0.Coords) : BitVec 32 :=
  let c256_i32_225 : BitVec 32 := 256#32
  let arg0 : BitVec 32 := BitVec.ofNat 32 (i 0).val
  let c2_i32 : BitVec 32 := 2#32
  let v3 : BitVec 32 := Scalar.remsi arg0 c2_i32
  let c64_i32_224 : BitVec 32 := 64#32
  let v374 : BitVec 32 := Scalar.muli v3 c64_i32_224
  let v375 : BitVec 32 := Scalar.addi c256_i32_225 v374
  let c48_i32_226 : BitVec 32 := 48#32
  let v376 : BitVec 32 := Scalar.addi v375 c48_i32_226
  v376
def k0_mult32 (i : grid0.Coords) : BitVec 32 :=
  let c384_i32_230 : BitVec 32 := 384#32
  let arg0 : BitVec 32 := BitVec.ofNat 32 (i 0).val
  let c2_i32 : BitVec 32 := 2#32
  let v3 : BitVec 32 := Scalar.remsi arg0 c2_i32
  let c64_i32_229 : BitVec 32 := 64#32
  let v383 : BitVec 32 := Scalar.muli v3 c64_i32_229
  let v384 : BitVec 32 := Scalar.addi c384_i32_230 v383
  let c48_i32_231 : BitVec 32 := 48#32
  let v385 : BitVec 32 := Scalar.addi v384 c48_i32_231
  v385
def k0_mult33 (i : grid0.Coords) : BitVec 32 :=
  let c512_i32 : BitVec 32 := 512#32
  let arg0 : BitVec 32 := BitVec.ofNat 32 (i 0).val
  let c2_i32 : BitVec 32 := 2#32
  let v3 : BitVec 32 := Scalar.remsi arg0 c2_i32
  let c64_i32_239 : BitVec 32 := 64#32
  let v399 : BitVec 32 := Scalar.muli v3 c64_i32_239
  let v400 : BitVec 32 := Scalar.addi c512_i32 v399
  let c0_i32_240 : BitVec 32 := 0#32
  let v401 : BitVec 32 := Scalar.addi v400 c0_i32_240
  v401
def k0_mult34 (i : grid0.Coords) : BitVec 32 :=
  let c640_i32 : BitVec 32 := 640#32
  let arg0 : BitVec 32 := BitVec.ofNat 32 (i 0).val
  let c2_i32 : BitVec 32 := 2#32
  let v3 : BitVec 32 := Scalar.remsi arg0 c2_i32
  let c64_i32_243 : BitVec 32 := 64#32
  let v408 : BitVec 32 := Scalar.muli v3 c64_i32_243
  let v409 : BitVec 32 := Scalar.addi c640_i32 v408
  let c0_i32_244 : BitVec 32 := 0#32
  let v410 : BitVec 32 := Scalar.addi v409 c0_i32_244
  v410
def k0_mult35 (i : grid0.Coords) : BitVec 32 :=
  let c512_i32_254 : BitVec 32 := 512#32
  let arg0 : BitVec 32 := BitVec.ofNat 32 (i 0).val
  let c2_i32 : BitVec 32 := 2#32
  let v3 : BitVec 32 := Scalar.remsi arg0 c2_i32
  let c64_i32_253 : BitVec 32 := 64#32
  let v424 : BitVec 32 := Scalar.muli v3 c64_i32_253
  let v425 : BitVec 32 := Scalar.addi c512_i32_254 v424
  let c16_i32_255 : BitVec 32 := 16#32
  let v426 : BitVec 32 := Scalar.addi v425 c16_i32_255
  v426
def k0_mult36 (i : grid0.Coords) : BitVec 32 :=
  let c640_i32_259 : BitVec 32 := 640#32
  let arg0 : BitVec 32 := BitVec.ofNat 32 (i 0).val
  let c2_i32 : BitVec 32 := 2#32
  let v3 : BitVec 32 := Scalar.remsi arg0 c2_i32
  let c64_i32_258 : BitVec 32 := 64#32
  let v433 : BitVec 32 := Scalar.muli v3 c64_i32_258
  let v434 : BitVec 32 := Scalar.addi c640_i32_259 v433
  let c16_i32_260 : BitVec 32 := 16#32
  let v435 : BitVec 32 := Scalar.addi v434 c16_i32_260
  v435
def k0_mult37 (i : grid0.Coords) : BitVec 32 :=
  let c512_i32_270 : BitVec 32 := 512#32
  let arg0 : BitVec 32 := BitVec.ofNat 32 (i 0).val
  let c2_i32 : BitVec 32 := 2#32
  let v3 : BitVec 32 := Scalar.remsi arg0 c2_i32
  let c64_i32_269 : BitVec 32 := 64#32
  let v449 : BitVec 32 := Scalar.muli v3 c64_i32_269
  let v450 : BitVec 32 := Scalar.addi c512_i32_270 v449
  let c32_i32_271 : BitVec 32 := 32#32
  let v451 : BitVec 32 := Scalar.addi v450 c32_i32_271
  v451
def k0_mult38 (i : grid0.Coords) : BitVec 32 :=
  let c640_i32_275 : BitVec 32 := 640#32
  let arg0 : BitVec 32 := BitVec.ofNat 32 (i 0).val
  let c2_i32 : BitVec 32 := 2#32
  let v3 : BitVec 32 := Scalar.remsi arg0 c2_i32
  let c64_i32_274 : BitVec 32 := 64#32
  let v458 : BitVec 32 := Scalar.muli v3 c64_i32_274
  let v459 : BitVec 32 := Scalar.addi c640_i32_275 v458
  let c32_i32_276 : BitVec 32 := 32#32
  let v460 : BitVec 32 := Scalar.addi v459 c32_i32_276
  v460
def k0_mult39 (i : grid0.Coords) : BitVec 32 :=
  let c512_i32_284 : BitVec 32 := 512#32
  let arg0 : BitVec 32 := BitVec.ofNat 32 (i 0).val
  let c2_i32 : BitVec 32 := 2#32
  let v3 : BitVec 32 := Scalar.remsi arg0 c2_i32
  let c64_i32_283 : BitVec 32 := 64#32
  let v471 : BitVec 32 := Scalar.muli v3 c64_i32_283
  let v472 : BitVec 32 := Scalar.addi c512_i32_284 v471
  let c48_i32_285 : BitVec 32 := 48#32
  let v473 : BitVec 32 := Scalar.addi v472 c48_i32_285
  v473
def k0_mult40 (i : grid0.Coords) : BitVec 32 :=
  let c640_i32_289 : BitVec 32 := 640#32
  let arg0 : BitVec 32 := BitVec.ofNat 32 (i 0).val
  let c2_i32 : BitVec 32 := 2#32
  let v3 : BitVec 32 := Scalar.remsi arg0 c2_i32
  let c64_i32_288 : BitVec 32 := 64#32
  let v480 : BitVec 32 := Scalar.muli v3 c64_i32_288
  let v481 : BitVec 32 := Scalar.addi c640_i32_289 v480
  let c48_i32_290 : BitVec 32 := 48#32
  let v482 : BitVec 32 := Scalar.addi v481 c48_i32_290
  v482
def k0_mult41 (i : grid0.Coords) : BitVec 32 :=
  let c512_i32_300 : BitVec 32 := 512#32
  let arg0 : BitVec 32 := BitVec.ofNat 32 (i 0).val
  let c2_i32 : BitVec 32 := 2#32
  let v3 : BitVec 32 := Scalar.remsi arg0 c2_i32
  let c64_i32_299 : BitVec 32 := 64#32
  let v496 : BitVec 32 := Scalar.muli v3 c64_i32_299
  let v497 : BitVec 32 := Scalar.addi c512_i32_300 v496
  let c0_i32_301 : BitVec 32 := 0#32
  let v498 : BitVec 32 := Scalar.addi v497 c0_i32_301
  v498
def k0_mult42 (i : grid0.Coords) : BitVec 32 :=
  let c640_i32_305 : BitVec 32 := 640#32
  let arg0 : BitVec 32 := BitVec.ofNat 32 (i 0).val
  let c2_i32 : BitVec 32 := 2#32
  let v3 : BitVec 32 := Scalar.remsi arg0 c2_i32
  let c64_i32_304 : BitVec 32 := 64#32
  let v505 : BitVec 32 := Scalar.muli v3 c64_i32_304
  let v506 : BitVec 32 := Scalar.addi c640_i32_305 v505
  let c0_i32_306 : BitVec 32 := 0#32
  let v507 : BitVec 32 := Scalar.addi v506 c0_i32_306
  v507
def k0_mult43 (i : grid0.Coords) : BitVec 32 :=
  let c512_i32_316 : BitVec 32 := 512#32
  let arg0 : BitVec 32 := BitVec.ofNat 32 (i 0).val
  let c2_i32 : BitVec 32 := 2#32
  let v3 : BitVec 32 := Scalar.remsi arg0 c2_i32
  let c64_i32_315 : BitVec 32 := 64#32
  let v521 : BitVec 32 := Scalar.muli v3 c64_i32_315
  let v522 : BitVec 32 := Scalar.addi c512_i32_316 v521
  let c16_i32_317 : BitVec 32 := 16#32
  let v523 : BitVec 32 := Scalar.addi v522 c16_i32_317
  v523
def k0_mult44 (i : grid0.Coords) : BitVec 32 :=
  let c640_i32_321 : BitVec 32 := 640#32
  let arg0 : BitVec 32 := BitVec.ofNat 32 (i 0).val
  let c2_i32 : BitVec 32 := 2#32
  let v3 : BitVec 32 := Scalar.remsi arg0 c2_i32
  let c64_i32_320 : BitVec 32 := 64#32
  let v530 : BitVec 32 := Scalar.muli v3 c64_i32_320
  let v531 : BitVec 32 := Scalar.addi c640_i32_321 v530
  let c16_i32_322 : BitVec 32 := 16#32
  let v532 : BitVec 32 := Scalar.addi v531 c16_i32_322
  v532
def k0_mult45 (i : grid0.Coords) : BitVec 32 :=
  let c512_i32_332 : BitVec 32 := 512#32
  let arg0 : BitVec 32 := BitVec.ofNat 32 (i 0).val
  let c2_i32 : BitVec 32 := 2#32
  let v3 : BitVec 32 := Scalar.remsi arg0 c2_i32
  let c64_i32_331 : BitVec 32 := 64#32
  let v546 : BitVec 32 := Scalar.muli v3 c64_i32_331
  let v547 : BitVec 32 := Scalar.addi c512_i32_332 v546
  let c32_i32_333 : BitVec 32 := 32#32
  let v548 : BitVec 32 := Scalar.addi v547 c32_i32_333
  v548
def k0_mult46 (i : grid0.Coords) : BitVec 32 :=
  let c640_i32_337 : BitVec 32 := 640#32
  let arg0 : BitVec 32 := BitVec.ofNat 32 (i 0).val
  let c2_i32 : BitVec 32 := 2#32
  let v3 : BitVec 32 := Scalar.remsi arg0 c2_i32
  let c64_i32_336 : BitVec 32 := 64#32
  let v555 : BitVec 32 := Scalar.muli v3 c64_i32_336
  let v556 : BitVec 32 := Scalar.addi c640_i32_337 v555
  let c32_i32_338 : BitVec 32 := 32#32
  let v557 : BitVec 32 := Scalar.addi v556 c32_i32_338
  v557
def k0_mult47 (i : grid0.Coords) : BitVec 32 :=
  let c512_i32_346 : BitVec 32 := 512#32
  let arg0 : BitVec 32 := BitVec.ofNat 32 (i 0).val
  let c2_i32 : BitVec 32 := 2#32
  let v3 : BitVec 32 := Scalar.remsi arg0 c2_i32
  let c64_i32_345 : BitVec 32 := 64#32
  let v568 : BitVec 32 := Scalar.muli v3 c64_i32_345
  let v569 : BitVec 32 := Scalar.addi c512_i32_346 v568
  let c48_i32_347 : BitVec 32 := 48#32
  let v570 : BitVec 32 := Scalar.addi v569 c48_i32_347
  v570
def k0_mult48 (i : grid0.Coords) : BitVec 32 :=
  let c640_i32_351 : BitVec 32 := 640#32
  let arg0 : BitVec 32 := BitVec.ofNat 32 (i 0).val
  let c2_i32 : BitVec 32 := 2#32
  let v3 : BitVec 32 := Scalar.remsi arg0 c2_i32
  let c64_i32_350 : BitVec 32 := 64#32
  let v577 : BitVec 32 := Scalar.muli v3 c64_i32_350
  let v578 : BitVec 32 := Scalar.addi c640_i32_351 v577
  let c48_i32_352 : BitVec 32 := 48#32
  let v579 : BitVec 32 := Scalar.addi v578 c48_i32_352
  v579
def k0_mult49 (i : grid0.Coords) : BitVec 32 :=
  let c768_i32 : BitVec 32 := 768#32
  let arg0 : BitVec 32 := BitVec.ofNat 32 (i 0).val
  let c2_i32 : BitVec 32 := 2#32
  let v3 : BitVec 32 := Scalar.remsi arg0 c2_i32
  let c64_i32_360 : BitVec 32 := 64#32
  let v593 : BitVec 32 := Scalar.muli v3 c64_i32_360
  let v594 : BitVec 32 := Scalar.addi c768_i32 v593
  let c0_i32_361 : BitVec 32 := 0#32
  let v595 : BitVec 32 := Scalar.addi v594 c0_i32_361
  v595
def k0_mult50 (i : grid0.Coords) : BitVec 32 :=
  let c896_i32 : BitVec 32 := 896#32
  let arg0 : BitVec 32 := BitVec.ofNat 32 (i 0).val
  let c2_i32 : BitVec 32 := 2#32
  let v3 : BitVec 32 := Scalar.remsi arg0 c2_i32
  let c64_i32_364 : BitVec 32 := 64#32
  let v602 : BitVec 32 := Scalar.muli v3 c64_i32_364
  let v603 : BitVec 32 := Scalar.addi c896_i32 v602
  let c0_i32_365 : BitVec 32 := 0#32
  let v604 : BitVec 32 := Scalar.addi v603 c0_i32_365
  v604
def k0_mult51 (i : grid0.Coords) : BitVec 32 :=
  let c768_i32_375 : BitVec 32 := 768#32
  let arg0 : BitVec 32 := BitVec.ofNat 32 (i 0).val
  let c2_i32 : BitVec 32 := 2#32
  let v3 : BitVec 32 := Scalar.remsi arg0 c2_i32
  let c64_i32_374 : BitVec 32 := 64#32
  let v618 : BitVec 32 := Scalar.muli v3 c64_i32_374
  let v619 : BitVec 32 := Scalar.addi c768_i32_375 v618
  let c16_i32_376 : BitVec 32 := 16#32
  let v620 : BitVec 32 := Scalar.addi v619 c16_i32_376
  v620
def k0_mult52 (i : grid0.Coords) : BitVec 32 :=
  let c896_i32_380 : BitVec 32 := 896#32
  let arg0 : BitVec 32 := BitVec.ofNat 32 (i 0).val
  let c2_i32 : BitVec 32 := 2#32
  let v3 : BitVec 32 := Scalar.remsi arg0 c2_i32
  let c64_i32_379 : BitVec 32 := 64#32
  let v627 : BitVec 32 := Scalar.muli v3 c64_i32_379
  let v628 : BitVec 32 := Scalar.addi c896_i32_380 v627
  let c16_i32_381 : BitVec 32 := 16#32
  let v629 : BitVec 32 := Scalar.addi v628 c16_i32_381
  v629
def k0_mult53 (i : grid0.Coords) : BitVec 32 :=
  let c768_i32_391 : BitVec 32 := 768#32
  let arg0 : BitVec 32 := BitVec.ofNat 32 (i 0).val
  let c2_i32 : BitVec 32 := 2#32
  let v3 : BitVec 32 := Scalar.remsi arg0 c2_i32
  let c64_i32_390 : BitVec 32 := 64#32
  let v643 : BitVec 32 := Scalar.muli v3 c64_i32_390
  let v644 : BitVec 32 := Scalar.addi c768_i32_391 v643
  let c32_i32_392 : BitVec 32 := 32#32
  let v645 : BitVec 32 := Scalar.addi v644 c32_i32_392
  v645
def k0_mult54 (i : grid0.Coords) : BitVec 32 :=
  let c896_i32_396 : BitVec 32 := 896#32
  let arg0 : BitVec 32 := BitVec.ofNat 32 (i 0).val
  let c2_i32 : BitVec 32 := 2#32
  let v3 : BitVec 32 := Scalar.remsi arg0 c2_i32
  let c64_i32_395 : BitVec 32 := 64#32
  let v652 : BitVec 32 := Scalar.muli v3 c64_i32_395
  let v653 : BitVec 32 := Scalar.addi c896_i32_396 v652
  let c32_i32_397 : BitVec 32 := 32#32
  let v654 : BitVec 32 := Scalar.addi v653 c32_i32_397
  v654
def k0_mult55 (i : grid0.Coords) : BitVec 32 :=
  let c768_i32_405 : BitVec 32 := 768#32
  let arg0 : BitVec 32 := BitVec.ofNat 32 (i 0).val
  let c2_i32 : BitVec 32 := 2#32
  let v3 : BitVec 32 := Scalar.remsi arg0 c2_i32
  let c64_i32_404 : BitVec 32 := 64#32
  let v665 : BitVec 32 := Scalar.muli v3 c64_i32_404
  let v666 : BitVec 32 := Scalar.addi c768_i32_405 v665
  let c48_i32_406 : BitVec 32 := 48#32
  let v667 : BitVec 32 := Scalar.addi v666 c48_i32_406
  v667
def k0_mult56 (i : grid0.Coords) : BitVec 32 :=
  let c896_i32_410 : BitVec 32 := 896#32
  let arg0 : BitVec 32 := BitVec.ofNat 32 (i 0).val
  let c2_i32 : BitVec 32 := 2#32
  let v3 : BitVec 32 := Scalar.remsi arg0 c2_i32
  let c64_i32_409 : BitVec 32 := 64#32
  let v674 : BitVec 32 := Scalar.muli v3 c64_i32_409
  let v675 : BitVec 32 := Scalar.addi c896_i32_410 v674
  let c48_i32_411 : BitVec 32 := 48#32
  let v676 : BitVec 32 := Scalar.addi v675 c48_i32_411
  v676
def k0_mult57 (i : grid0.Coords) : BitVec 32 :=
  let c768_i32_421 : BitVec 32 := 768#32
  let arg0 : BitVec 32 := BitVec.ofNat 32 (i 0).val
  let c2_i32 : BitVec 32 := 2#32
  let v3 : BitVec 32 := Scalar.remsi arg0 c2_i32
  let c64_i32_420 : BitVec 32 := 64#32
  let v690 : BitVec 32 := Scalar.muli v3 c64_i32_420
  let v691 : BitVec 32 := Scalar.addi c768_i32_421 v690
  let c0_i32_422 : BitVec 32 := 0#32
  let v692 : BitVec 32 := Scalar.addi v691 c0_i32_422
  v692
def k0_mult58 (i : grid0.Coords) : BitVec 32 :=
  let c896_i32_426 : BitVec 32 := 896#32
  let arg0 : BitVec 32 := BitVec.ofNat 32 (i 0).val
  let c2_i32 : BitVec 32 := 2#32
  let v3 : BitVec 32 := Scalar.remsi arg0 c2_i32
  let c64_i32_425 : BitVec 32 := 64#32
  let v699 : BitVec 32 := Scalar.muli v3 c64_i32_425
  let v700 : BitVec 32 := Scalar.addi c896_i32_426 v699
  let c0_i32_427 : BitVec 32 := 0#32
  let v701 : BitVec 32 := Scalar.addi v700 c0_i32_427
  v701
def k0_mult59 (i : grid0.Coords) : BitVec 32 :=
  let c768_i32_437 : BitVec 32 := 768#32
  let arg0 : BitVec 32 := BitVec.ofNat 32 (i 0).val
  let c2_i32 : BitVec 32 := 2#32
  let v3 : BitVec 32 := Scalar.remsi arg0 c2_i32
  let c64_i32_436 : BitVec 32 := 64#32
  let v715 : BitVec 32 := Scalar.muli v3 c64_i32_436
  let v716 : BitVec 32 := Scalar.addi c768_i32_437 v715
  let c16_i32_438 : BitVec 32 := 16#32
  let v717 : BitVec 32 := Scalar.addi v716 c16_i32_438
  v717
def k0_mult60 (i : grid0.Coords) : BitVec 32 :=
  let c896_i32_442 : BitVec 32 := 896#32
  let arg0 : BitVec 32 := BitVec.ofNat 32 (i 0).val
  let c2_i32 : BitVec 32 := 2#32
  let v3 : BitVec 32 := Scalar.remsi arg0 c2_i32
  let c64_i32_441 : BitVec 32 := 64#32
  let v724 : BitVec 32 := Scalar.muli v3 c64_i32_441
  let v725 : BitVec 32 := Scalar.addi c896_i32_442 v724
  let c16_i32_443 : BitVec 32 := 16#32
  let v726 : BitVec 32 := Scalar.addi v725 c16_i32_443
  v726
def k0_mult61 (i : grid0.Coords) : BitVec 32 :=
  let c768_i32_453 : BitVec 32 := 768#32
  let arg0 : BitVec 32 := BitVec.ofNat 32 (i 0).val
  let c2_i32 : BitVec 32 := 2#32
  let v3 : BitVec 32 := Scalar.remsi arg0 c2_i32
  let c64_i32_452 : BitVec 32 := 64#32
  let v740 : BitVec 32 := Scalar.muli v3 c64_i32_452
  let v741 : BitVec 32 := Scalar.addi c768_i32_453 v740
  let c32_i32_454 : BitVec 32 := 32#32
  let v742 : BitVec 32 := Scalar.addi v741 c32_i32_454
  v742
def k0_mult62 (i : grid0.Coords) : BitVec 32 :=
  let c896_i32_458 : BitVec 32 := 896#32
  let arg0 : BitVec 32 := BitVec.ofNat 32 (i 0).val
  let c2_i32 : BitVec 32 := 2#32
  let v3 : BitVec 32 := Scalar.remsi arg0 c2_i32
  let c64_i32_457 : BitVec 32 := 64#32
  let v749 : BitVec 32 := Scalar.muli v3 c64_i32_457
  let v750 : BitVec 32 := Scalar.addi c896_i32_458 v749
  let c32_i32_459 : BitVec 32 := 32#32
  let v751 : BitVec 32 := Scalar.addi v750 c32_i32_459
  v751
def k0_mult63 (i : grid0.Coords) : BitVec 32 :=
  let c768_i32_467 : BitVec 32 := 768#32
  let arg0 : BitVec 32 := BitVec.ofNat 32 (i 0).val
  let c2_i32 : BitVec 32 := 2#32
  let v3 : BitVec 32 := Scalar.remsi arg0 c2_i32
  let c64_i32_466 : BitVec 32 := 64#32
  let v762 : BitVec 32 := Scalar.muli v3 c64_i32_466
  let v763 : BitVec 32 := Scalar.addi c768_i32_467 v762
  let c48_i32_468 : BitVec 32 := 48#32
  let v764 : BitVec 32 := Scalar.addi v763 c48_i32_468
  v764
def k0_mult64 (i : grid0.Coords) : BitVec 32 :=
  let c896_i32_472 : BitVec 32 := 896#32
  let arg0 : BitVec 32 := BitVec.ofNat 32 (i 0).val
  let c2_i32 : BitVec 32 := 2#32
  let v3 : BitVec 32 := Scalar.remsi arg0 c2_i32
  let c64_i32_471 : BitVec 32 := 64#32
  let v771 : BitVec 32 := Scalar.muli v3 c64_i32_471
  let v772 : BitVec 32 := Scalar.addi c896_i32_472 v771
  let c48_i32_473 : BitVec 32 := 48#32
  let v773 : BitVec 32 := Scalar.addi v772 c48_i32_473
  v773
def k0_mult65 (i : grid0.Coords) : BitVec 32 :=
  let c1024_i32 : BitVec 32 := 1024#32
  let arg0 : BitVec 32 := BitVec.ofNat 32 (i 0).val
  let c2_i32 : BitVec 32 := 2#32
  let v3 : BitVec 32 := Scalar.remsi arg0 c2_i32
  let c64_i32_481 : BitVec 32 := 64#32
  let v787 : BitVec 32 := Scalar.muli v3 c64_i32_481
  let v788 : BitVec 32 := Scalar.addi c1024_i32 v787
  let c0_i32_482 : BitVec 32 := 0#32
  let v789 : BitVec 32 := Scalar.addi v788 c0_i32_482
  v789
def k0_mult66 (i : grid0.Coords) : BitVec 32 :=
  let c1152_i32 : BitVec 32 := 1152#32
  let arg0 : BitVec 32 := BitVec.ofNat 32 (i 0).val
  let c2_i32 : BitVec 32 := 2#32
  let v3 : BitVec 32 := Scalar.remsi arg0 c2_i32
  let c64_i32_485 : BitVec 32 := 64#32
  let v796 : BitVec 32 := Scalar.muli v3 c64_i32_485
  let v797 : BitVec 32 := Scalar.addi c1152_i32 v796
  let c0_i32_486 : BitVec 32 := 0#32
  let v798 : BitVec 32 := Scalar.addi v797 c0_i32_486
  v798
def k0_mult67 (i : grid0.Coords) : BitVec 32 :=
  let c1024_i32_496 : BitVec 32 := 1024#32
  let arg0 : BitVec 32 := BitVec.ofNat 32 (i 0).val
  let c2_i32 : BitVec 32 := 2#32
  let v3 : BitVec 32 := Scalar.remsi arg0 c2_i32
  let c64_i32_495 : BitVec 32 := 64#32
  let v812 : BitVec 32 := Scalar.muli v3 c64_i32_495
  let v813 : BitVec 32 := Scalar.addi c1024_i32_496 v812
  let c16_i32_497 : BitVec 32 := 16#32
  let v814 : BitVec 32 := Scalar.addi v813 c16_i32_497
  v814
def k0_mult68 (i : grid0.Coords) : BitVec 32 :=
  let c1152_i32_501 : BitVec 32 := 1152#32
  let arg0 : BitVec 32 := BitVec.ofNat 32 (i 0).val
  let c2_i32 : BitVec 32 := 2#32
  let v3 : BitVec 32 := Scalar.remsi arg0 c2_i32
  let c64_i32_500 : BitVec 32 := 64#32
  let v821 : BitVec 32 := Scalar.muli v3 c64_i32_500
  let v822 : BitVec 32 := Scalar.addi c1152_i32_501 v821
  let c16_i32_502 : BitVec 32 := 16#32
  let v823 : BitVec 32 := Scalar.addi v822 c16_i32_502
  v823
def k0_mult69 (i : grid0.Coords) : BitVec 32 :=
  let c1024_i32_512 : BitVec 32 := 1024#32
  let arg0 : BitVec 32 := BitVec.ofNat 32 (i 0).val
  let c2_i32 : BitVec 32 := 2#32
  let v3 : BitVec 32 := Scalar.remsi arg0 c2_i32
  let c64_i32_511 : BitVec 32 := 64#32
  let v837 : BitVec 32 := Scalar.muli v3 c64_i32_511
  let v838 : BitVec 32 := Scalar.addi c1024_i32_512 v837
  let c32_i32_513 : BitVec 32 := 32#32
  let v839 : BitVec 32 := Scalar.addi v838 c32_i32_513
  v839
def k0_mult70 (i : grid0.Coords) : BitVec 32 :=
  let c1152_i32_517 : BitVec 32 := 1152#32
  let arg0 : BitVec 32 := BitVec.ofNat 32 (i 0).val
  let c2_i32 : BitVec 32 := 2#32
  let v3 : BitVec 32 := Scalar.remsi arg0 c2_i32
  let c64_i32_516 : BitVec 32 := 64#32
  let v846 : BitVec 32 := Scalar.muli v3 c64_i32_516
  let v847 : BitVec 32 := Scalar.addi c1152_i32_517 v846
  let c32_i32_518 : BitVec 32 := 32#32
  let v848 : BitVec 32 := Scalar.addi v847 c32_i32_518
  v848
def k0_mult71 (i : grid0.Coords) : BitVec 32 :=
  let c1024_i32_526 : BitVec 32 := 1024#32
  let arg0 : BitVec 32 := BitVec.ofNat 32 (i 0).val
  let c2_i32 : BitVec 32 := 2#32
  let v3 : BitVec 32 := Scalar.remsi arg0 c2_i32
  let c64_i32_525 : BitVec 32 := 64#32
  let v859 : BitVec 32 := Scalar.muli v3 c64_i32_525
  let v860 : BitVec 32 := Scalar.addi c1024_i32_526 v859
  let c48_i32_527 : BitVec 32 := 48#32
  let v861 : BitVec 32 := Scalar.addi v860 c48_i32_527
  v861
def k0_mult72 (i : grid0.Coords) : BitVec 32 :=
  let c1152_i32_531 : BitVec 32 := 1152#32
  let arg0 : BitVec 32 := BitVec.ofNat 32 (i 0).val
  let c2_i32 : BitVec 32 := 2#32
  let v3 : BitVec 32 := Scalar.remsi arg0 c2_i32
  let c64_i32_530 : BitVec 32 := 64#32
  let v868 : BitVec 32 := Scalar.muli v3 c64_i32_530
  let v869 : BitVec 32 := Scalar.addi c1152_i32_531 v868
  let c48_i32_532 : BitVec 32 := 48#32
  let v870 : BitVec 32 := Scalar.addi v869 c48_i32_532
  v870
def k0_mult73 (i : grid0.Coords) : BitVec 32 :=
  let c1024_i32_542 : BitVec 32 := 1024#32
  let arg0 : BitVec 32 := BitVec.ofNat 32 (i 0).val
  let c2_i32 : BitVec 32 := 2#32
  let v3 : BitVec 32 := Scalar.remsi arg0 c2_i32
  let c64_i32_541 : BitVec 32 := 64#32
  let v884 : BitVec 32 := Scalar.muli v3 c64_i32_541
  let v885 : BitVec 32 := Scalar.addi c1024_i32_542 v884
  let c0_i32_543 : BitVec 32 := 0#32
  let v886 : BitVec 32 := Scalar.addi v885 c0_i32_543
  v886
def k0_mult74 (i : grid0.Coords) : BitVec 32 :=
  let c1152_i32_547 : BitVec 32 := 1152#32
  let arg0 : BitVec 32 := BitVec.ofNat 32 (i 0).val
  let c2_i32 : BitVec 32 := 2#32
  let v3 : BitVec 32 := Scalar.remsi arg0 c2_i32
  let c64_i32_546 : BitVec 32 := 64#32
  let v893 : BitVec 32 := Scalar.muli v3 c64_i32_546
  let v894 : BitVec 32 := Scalar.addi c1152_i32_547 v893
  let c0_i32_548 : BitVec 32 := 0#32
  let v895 : BitVec 32 := Scalar.addi v894 c0_i32_548
  v895
def k0_mult75 (i : grid0.Coords) : BitVec 32 :=
  let c1024_i32_558 : BitVec 32 := 1024#32
  let arg0 : BitVec 32 := BitVec.ofNat 32 (i 0).val
  let c2_i32 : BitVec 32 := 2#32
  let v3 : BitVec 32 := Scalar.remsi arg0 c2_i32
  let c64_i32_557 : BitVec 32 := 64#32
  let v909 : BitVec 32 := Scalar.muli v3 c64_i32_557
  let v910 : BitVec 32 := Scalar.addi c1024_i32_558 v909
  let c16_i32_559 : BitVec 32 := 16#32
  let v911 : BitVec 32 := Scalar.addi v910 c16_i32_559
  v911
def k0_mult76 (i : grid0.Coords) : BitVec 32 :=
  let c1152_i32_563 : BitVec 32 := 1152#32
  let arg0 : BitVec 32 := BitVec.ofNat 32 (i 0).val
  let c2_i32 : BitVec 32 := 2#32
  let v3 : BitVec 32 := Scalar.remsi arg0 c2_i32
  let c64_i32_562 : BitVec 32 := 64#32
  let v918 : BitVec 32 := Scalar.muli v3 c64_i32_562
  let v919 : BitVec 32 := Scalar.addi c1152_i32_563 v918
  let c16_i32_564 : BitVec 32 := 16#32
  let v920 : BitVec 32 := Scalar.addi v919 c16_i32_564
  v920
def k0_mult77 (i : grid0.Coords) : BitVec 32 :=
  let c1024_i32_574 : BitVec 32 := 1024#32
  let arg0 : BitVec 32 := BitVec.ofNat 32 (i 0).val
  let c2_i32 : BitVec 32 := 2#32
  let v3 : BitVec 32 := Scalar.remsi arg0 c2_i32
  let c64_i32_573 : BitVec 32 := 64#32
  let v934 : BitVec 32 := Scalar.muli v3 c64_i32_573
  let v935 : BitVec 32 := Scalar.addi c1024_i32_574 v934
  let c32_i32_575 : BitVec 32 := 32#32
  let v936 : BitVec 32 := Scalar.addi v935 c32_i32_575
  v936
def k0_mult78 (i : grid0.Coords) : BitVec 32 :=
  let c1152_i32_579 : BitVec 32 := 1152#32
  let arg0 : BitVec 32 := BitVec.ofNat 32 (i 0).val
  let c2_i32 : BitVec 32 := 2#32
  let v3 : BitVec 32 := Scalar.remsi arg0 c2_i32
  let c64_i32_578 : BitVec 32 := 64#32
  let v943 : BitVec 32 := Scalar.muli v3 c64_i32_578
  let v944 : BitVec 32 := Scalar.addi c1152_i32_579 v943
  let c32_i32_580 : BitVec 32 := 32#32
  let v945 : BitVec 32 := Scalar.addi v944 c32_i32_580
  v945
def k0_mult79 (i : grid0.Coords) : BitVec 32 :=
  let c1024_i32_588 : BitVec 32 := 1024#32
  let arg0 : BitVec 32 := BitVec.ofNat 32 (i 0).val
  let c2_i32 : BitVec 32 := 2#32
  let v3 : BitVec 32 := Scalar.remsi arg0 c2_i32
  let c64_i32_587 : BitVec 32 := 64#32
  let v956 : BitVec 32 := Scalar.muli v3 c64_i32_587
  let v957 : BitVec 32 := Scalar.addi c1024_i32_588 v956
  let c48_i32_589 : BitVec 32 := 48#32
  let v958 : BitVec 32 := Scalar.addi v957 c48_i32_589
  v958
def k0_mult80 (i : grid0.Coords) : BitVec 32 :=
  let c1152_i32_593 : BitVec 32 := 1152#32
  let arg0 : BitVec 32 := BitVec.ofNat 32 (i 0).val
  let c2_i32 : BitVec 32 := 2#32
  let v3 : BitVec 32 := Scalar.remsi arg0 c2_i32
  let c64_i32_592 : BitVec 32 := 64#32
  let v965 : BitVec 32 := Scalar.muli v3 c64_i32_592
  let v966 : BitVec 32 := Scalar.addi c1152_i32_593 v965
  let c48_i32_594 : BitVec 32 := 48#32
  let v967 : BitVec 32 := Scalar.addi v966 c48_i32_594
  v967
def k0_mult81 (i : grid0.Coords) : BitVec 32 :=
  let c1280_i32 : BitVec 32 := 1280#32
  let arg0 : BitVec 32 := BitVec.ofNat 32 (i 0).val
  let c2_i32 : BitVec 32 := 2#32
  let v3 : BitVec 32 := Scalar.remsi arg0 c2_i32
  let c64_i32_602 : BitVec 32 := 64#32
  let v981 : BitVec 32 := Scalar.muli v3 c64_i32_602
  let v982 : BitVec 32 := Scalar.addi c1280_i32 v981
  let c0_i32_603 : BitVec 32 := 0#32
  let v983 : BitVec 32 := Scalar.addi v982 c0_i32_603
  v983
def k0_mult82 (i : grid0.Coords) : BitVec 32 :=
  let c1408_i32 : BitVec 32 := 1408#32
  let arg0 : BitVec 32 := BitVec.ofNat 32 (i 0).val
  let c2_i32 : BitVec 32 := 2#32
  let v3 : BitVec 32 := Scalar.remsi arg0 c2_i32
  let c64_i32_606 : BitVec 32 := 64#32
  let v990 : BitVec 32 := Scalar.muli v3 c64_i32_606
  let v991 : BitVec 32 := Scalar.addi c1408_i32 v990
  let c0_i32_607 : BitVec 32 := 0#32
  let v992 : BitVec 32 := Scalar.addi v991 c0_i32_607
  v992
def k0_mult83 (i : grid0.Coords) : BitVec 32 :=
  let c1280_i32_617 : BitVec 32 := 1280#32
  let arg0 : BitVec 32 := BitVec.ofNat 32 (i 0).val
  let c2_i32 : BitVec 32 := 2#32
  let v3 : BitVec 32 := Scalar.remsi arg0 c2_i32
  let c64_i32_616 : BitVec 32 := 64#32
  let v1006 : BitVec 32 := Scalar.muli v3 c64_i32_616
  let v1007 : BitVec 32 := Scalar.addi c1280_i32_617 v1006
  let c16_i32_618 : BitVec 32 := 16#32
  let v1008 : BitVec 32 := Scalar.addi v1007 c16_i32_618
  v1008
def k0_mult84 (i : grid0.Coords) : BitVec 32 :=
  let c1408_i32_622 : BitVec 32 := 1408#32
  let arg0 : BitVec 32 := BitVec.ofNat 32 (i 0).val
  let c2_i32 : BitVec 32 := 2#32
  let v3 : BitVec 32 := Scalar.remsi arg0 c2_i32
  let c64_i32_621 : BitVec 32 := 64#32
  let v1015 : BitVec 32 := Scalar.muli v3 c64_i32_621
  let v1016 : BitVec 32 := Scalar.addi c1408_i32_622 v1015
  let c16_i32_623 : BitVec 32 := 16#32
  let v1017 : BitVec 32 := Scalar.addi v1016 c16_i32_623
  v1017
def k0_mult85 (i : grid0.Coords) : BitVec 32 :=
  let c1280_i32_633 : BitVec 32 := 1280#32
  let arg0 : BitVec 32 := BitVec.ofNat 32 (i 0).val
  let c2_i32 : BitVec 32 := 2#32
  let v3 : BitVec 32 := Scalar.remsi arg0 c2_i32
  let c64_i32_632 : BitVec 32 := 64#32
  let v1031 : BitVec 32 := Scalar.muli v3 c64_i32_632
  let v1032 : BitVec 32 := Scalar.addi c1280_i32_633 v1031
  let c32_i32_634 : BitVec 32 := 32#32
  let v1033 : BitVec 32 := Scalar.addi v1032 c32_i32_634
  v1033
def k0_mult86 (i : grid0.Coords) : BitVec 32 :=
  let c1408_i32_638 : BitVec 32 := 1408#32
  let arg0 : BitVec 32 := BitVec.ofNat 32 (i 0).val
  let c2_i32 : BitVec 32 := 2#32
  let v3 : BitVec 32 := Scalar.remsi arg0 c2_i32
  let c64_i32_637 : BitVec 32 := 64#32
  let v1040 : BitVec 32 := Scalar.muli v3 c64_i32_637
  let v1041 : BitVec 32 := Scalar.addi c1408_i32_638 v1040
  let c32_i32_639 : BitVec 32 := 32#32
  let v1042 : BitVec 32 := Scalar.addi v1041 c32_i32_639
  v1042
def k0_mult87 (i : grid0.Coords) : BitVec 32 :=
  let c1280_i32_647 : BitVec 32 := 1280#32
  let arg0 : BitVec 32 := BitVec.ofNat 32 (i 0).val
  let c2_i32 : BitVec 32 := 2#32
  let v3 : BitVec 32 := Scalar.remsi arg0 c2_i32
  let c64_i32_646 : BitVec 32 := 64#32
  let v1053 : BitVec 32 := Scalar.muli v3 c64_i32_646
  let v1054 : BitVec 32 := Scalar.addi c1280_i32_647 v1053
  let c48_i32_648 : BitVec 32 := 48#32
  let v1055 : BitVec 32 := Scalar.addi v1054 c48_i32_648
  v1055
def k0_mult88 (i : grid0.Coords) : BitVec 32 :=
  let c1408_i32_652 : BitVec 32 := 1408#32
  let arg0 : BitVec 32 := BitVec.ofNat 32 (i 0).val
  let c2_i32 : BitVec 32 := 2#32
  let v3 : BitVec 32 := Scalar.remsi arg0 c2_i32
  let c64_i32_651 : BitVec 32 := 64#32
  let v1062 : BitVec 32 := Scalar.muli v3 c64_i32_651
  let v1063 : BitVec 32 := Scalar.addi c1408_i32_652 v1062
  let c48_i32_653 : BitVec 32 := 48#32
  let v1064 : BitVec 32 := Scalar.addi v1063 c48_i32_653
  v1064
def k0_mult89 (i : grid0.Coords) : BitVec 32 :=
  let c1280_i32_663 : BitVec 32 := 1280#32
  let arg0 : BitVec 32 := BitVec.ofNat 32 (i 0).val
  let c2_i32 : BitVec 32 := 2#32
  let v3 : BitVec 32 := Scalar.remsi arg0 c2_i32
  let c64_i32_662 : BitVec 32 := 64#32
  let v1078 : BitVec 32 := Scalar.muli v3 c64_i32_662
  let v1079 : BitVec 32 := Scalar.addi c1280_i32_663 v1078
  let c0_i32_664 : BitVec 32 := 0#32
  let v1080 : BitVec 32 := Scalar.addi v1079 c0_i32_664
  v1080
def k0_mult90 (i : grid0.Coords) : BitVec 32 :=
  let c1408_i32_668 : BitVec 32 := 1408#32
  let arg0 : BitVec 32 := BitVec.ofNat 32 (i 0).val
  let c2_i32 : BitVec 32 := 2#32
  let v3 : BitVec 32 := Scalar.remsi arg0 c2_i32
  let c64_i32_667 : BitVec 32 := 64#32
  let v1087 : BitVec 32 := Scalar.muli v3 c64_i32_667
  let v1088 : BitVec 32 := Scalar.addi c1408_i32_668 v1087
  let c0_i32_669 : BitVec 32 := 0#32
  let v1089 : BitVec 32 := Scalar.addi v1088 c0_i32_669
  v1089
def k0_mult91 (i : grid0.Coords) : BitVec 32 :=
  let c1280_i32_679 : BitVec 32 := 1280#32
  let arg0 : BitVec 32 := BitVec.ofNat 32 (i 0).val
  let c2_i32 : BitVec 32 := 2#32
  let v3 : BitVec 32 := Scalar.remsi arg0 c2_i32
  let c64_i32_678 : BitVec 32 := 64#32
  let v1103 : BitVec 32 := Scalar.muli v3 c64_i32_678
  let v1104 : BitVec 32 := Scalar.addi c1280_i32_679 v1103
  let c16_i32_680 : BitVec 32 := 16#32
  let v1105 : BitVec 32 := Scalar.addi v1104 c16_i32_680
  v1105
def k0_mult92 (i : grid0.Coords) : BitVec 32 :=
  let c1408_i32_684 : BitVec 32 := 1408#32
  let arg0 : BitVec 32 := BitVec.ofNat 32 (i 0).val
  let c2_i32 : BitVec 32 := 2#32
  let v3 : BitVec 32 := Scalar.remsi arg0 c2_i32
  let c64_i32_683 : BitVec 32 := 64#32
  let v1112 : BitVec 32 := Scalar.muli v3 c64_i32_683
  let v1113 : BitVec 32 := Scalar.addi c1408_i32_684 v1112
  let c16_i32_685 : BitVec 32 := 16#32
  let v1114 : BitVec 32 := Scalar.addi v1113 c16_i32_685
  v1114
def k0_mult93 (i : grid0.Coords) : BitVec 32 :=
  let c1280_i32_695 : BitVec 32 := 1280#32
  let arg0 : BitVec 32 := BitVec.ofNat 32 (i 0).val
  let c2_i32 : BitVec 32 := 2#32
  let v3 : BitVec 32 := Scalar.remsi arg0 c2_i32
  let c64_i32_694 : BitVec 32 := 64#32
  let v1128 : BitVec 32 := Scalar.muli v3 c64_i32_694
  let v1129 : BitVec 32 := Scalar.addi c1280_i32_695 v1128
  let c32_i32_696 : BitVec 32 := 32#32
  let v1130 : BitVec 32 := Scalar.addi v1129 c32_i32_696
  v1130
def k0_mult94 (i : grid0.Coords) : BitVec 32 :=
  let c1408_i32_700 : BitVec 32 := 1408#32
  let arg0 : BitVec 32 := BitVec.ofNat 32 (i 0).val
  let c2_i32 : BitVec 32 := 2#32
  let v3 : BitVec 32 := Scalar.remsi arg0 c2_i32
  let c64_i32_699 : BitVec 32 := 64#32
  let v1137 : BitVec 32 := Scalar.muli v3 c64_i32_699
  let v1138 : BitVec 32 := Scalar.addi c1408_i32_700 v1137
  let c32_i32_701 : BitVec 32 := 32#32
  let v1139 : BitVec 32 := Scalar.addi v1138 c32_i32_701
  v1139
def k0_mult95 (i : grid0.Coords) : BitVec 32 :=
  let c1280_i32_709 : BitVec 32 := 1280#32
  let arg0 : BitVec 32 := BitVec.ofNat 32 (i 0).val
  let c2_i32 : BitVec 32 := 2#32
  let v3 : BitVec 32 := Scalar.remsi arg0 c2_i32
  let c64_i32_708 : BitVec 32 := 64#32
  let v1150 : BitVec 32 := Scalar.muli v3 c64_i32_708
  let v1151 : BitVec 32 := Scalar.addi c1280_i32_709 v1150
  let c48_i32_710 : BitVec 32 := 48#32
  let v1152 : BitVec 32 := Scalar.addi v1151 c48_i32_710
  v1152
def k0_mult96 (i : grid0.Coords) : BitVec 32 :=
  let c1408_i32_714 : BitVec 32 := 1408#32
  let arg0 : BitVec 32 := BitVec.ofNat 32 (i 0).val
  let c2_i32 : BitVec 32 := 2#32
  let v3 : BitVec 32 := Scalar.remsi arg0 c2_i32
  let c64_i32_713 : BitVec 32 := 64#32
  let v1159 : BitVec 32 := Scalar.muli v3 c64_i32_713
  let v1160 : BitVec 32 := Scalar.addi c1408_i32_714 v1159
  let c48_i32_715 : BitVec 32 := 48#32
  let v1161 : BitVec 32 := Scalar.addi v1160 c48_i32_715
  v1161
def k0_mult97 (i : grid0.Coords) : BitVec 32 :=
  let c1536_i32 : BitVec 32 := 1536#32
  let arg0 : BitVec 32 := BitVec.ofNat 32 (i 0).val
  let c2_i32 : BitVec 32 := 2#32
  let v3 : BitVec 32 := Scalar.remsi arg0 c2_i32
  let c64_i32_723 : BitVec 32 := 64#32
  let v1175 : BitVec 32 := Scalar.muli v3 c64_i32_723
  let v1176 : BitVec 32 := Scalar.addi c1536_i32 v1175
  let c0_i32_724 : BitVec 32 := 0#32
  let v1177 : BitVec 32 := Scalar.addi v1176 c0_i32_724
  v1177
def k0_mult98 (i : grid0.Coords) : BitVec 32 :=
  let c1664_i32 : BitVec 32 := 1664#32
  let arg0 : BitVec 32 := BitVec.ofNat 32 (i 0).val
  let c2_i32 : BitVec 32 := 2#32
  let v3 : BitVec 32 := Scalar.remsi arg0 c2_i32
  let c64_i32_727 : BitVec 32 := 64#32
  let v1184 : BitVec 32 := Scalar.muli v3 c64_i32_727
  let v1185 : BitVec 32 := Scalar.addi c1664_i32 v1184
  let c0_i32_728 : BitVec 32 := 0#32
  let v1186 : BitVec 32 := Scalar.addi v1185 c0_i32_728
  v1186
def k0_mult99 (i : grid0.Coords) : BitVec 32 :=
  let c1536_i32_738 : BitVec 32 := 1536#32
  let arg0 : BitVec 32 := BitVec.ofNat 32 (i 0).val
  let c2_i32 : BitVec 32 := 2#32
  let v3 : BitVec 32 := Scalar.remsi arg0 c2_i32
  let c64_i32_737 : BitVec 32 := 64#32
  let v1200 : BitVec 32 := Scalar.muli v3 c64_i32_737
  let v1201 : BitVec 32 := Scalar.addi c1536_i32_738 v1200
  let c16_i32_739 : BitVec 32 := 16#32
  let v1202 : BitVec 32 := Scalar.addi v1201 c16_i32_739
  v1202
def k0_mult100 (i : grid0.Coords) : BitVec 32 :=
  let c1664_i32_743 : BitVec 32 := 1664#32
  let arg0 : BitVec 32 := BitVec.ofNat 32 (i 0).val
  let c2_i32 : BitVec 32 := 2#32
  let v3 : BitVec 32 := Scalar.remsi arg0 c2_i32
  let c64_i32_742 : BitVec 32 := 64#32
  let v1209 : BitVec 32 := Scalar.muli v3 c64_i32_742
  let v1210 : BitVec 32 := Scalar.addi c1664_i32_743 v1209
  let c16_i32_744 : BitVec 32 := 16#32
  let v1211 : BitVec 32 := Scalar.addi v1210 c16_i32_744
  v1211
def k0_mult101 (i : grid0.Coords) : BitVec 32 :=
  let c1536_i32_754 : BitVec 32 := 1536#32
  let arg0 : BitVec 32 := BitVec.ofNat 32 (i 0).val
  let c2_i32 : BitVec 32 := 2#32
  let v3 : BitVec 32 := Scalar.remsi arg0 c2_i32
  let c64_i32_753 : BitVec 32 := 64#32
  let v1225 : BitVec 32 := Scalar.muli v3 c64_i32_753
  let v1226 : BitVec 32 := Scalar.addi c1536_i32_754 v1225
  let c32_i32_755 : BitVec 32 := 32#32
  let v1227 : BitVec 32 := Scalar.addi v1226 c32_i32_755
  v1227
def k0_mult102 (i : grid0.Coords) : BitVec 32 :=
  let c1664_i32_759 : BitVec 32 := 1664#32
  let arg0 : BitVec 32 := BitVec.ofNat 32 (i 0).val
  let c2_i32 : BitVec 32 := 2#32
  let v3 : BitVec 32 := Scalar.remsi arg0 c2_i32
  let c64_i32_758 : BitVec 32 := 64#32
  let v1234 : BitVec 32 := Scalar.muli v3 c64_i32_758
  let v1235 : BitVec 32 := Scalar.addi c1664_i32_759 v1234
  let c32_i32_760 : BitVec 32 := 32#32
  let v1236 : BitVec 32 := Scalar.addi v1235 c32_i32_760
  v1236
def k0_mult103 (i : grid0.Coords) : BitVec 32 :=
  let c1536_i32_768 : BitVec 32 := 1536#32
  let arg0 : BitVec 32 := BitVec.ofNat 32 (i 0).val
  let c2_i32 : BitVec 32 := 2#32
  let v3 : BitVec 32 := Scalar.remsi arg0 c2_i32
  let c64_i32_767 : BitVec 32 := 64#32
  let v1247 : BitVec 32 := Scalar.muli v3 c64_i32_767
  let v1248 : BitVec 32 := Scalar.addi c1536_i32_768 v1247
  let c48_i32_769 : BitVec 32 := 48#32
  let v1249 : BitVec 32 := Scalar.addi v1248 c48_i32_769
  v1249
def k0_mult104 (i : grid0.Coords) : BitVec 32 :=
  let c1664_i32_773 : BitVec 32 := 1664#32
  let arg0 : BitVec 32 := BitVec.ofNat 32 (i 0).val
  let c2_i32 : BitVec 32 := 2#32
  let v3 : BitVec 32 := Scalar.remsi arg0 c2_i32
  let c64_i32_772 : BitVec 32 := 64#32
  let v1256 : BitVec 32 := Scalar.muli v3 c64_i32_772
  let v1257 : BitVec 32 := Scalar.addi c1664_i32_773 v1256
  let c48_i32_774 : BitVec 32 := 48#32
  let v1258 : BitVec 32 := Scalar.addi v1257 c48_i32_774
  v1258
def k0_mult105 (i : grid0.Coords) : BitVec 32 :=
  let c1536_i32_784 : BitVec 32 := 1536#32
  let arg0 : BitVec 32 := BitVec.ofNat 32 (i 0).val
  let c2_i32 : BitVec 32 := 2#32
  let v3 : BitVec 32 := Scalar.remsi arg0 c2_i32
  let c64_i32_783 : BitVec 32 := 64#32
  let v1272 : BitVec 32 := Scalar.muli v3 c64_i32_783
  let v1273 : BitVec 32 := Scalar.addi c1536_i32_784 v1272
  let c0_i32_785 : BitVec 32 := 0#32
  let v1274 : BitVec 32 := Scalar.addi v1273 c0_i32_785
  v1274
def k0_mult106 (i : grid0.Coords) : BitVec 32 :=
  let c1664_i32_789 : BitVec 32 := 1664#32
  let arg0 : BitVec 32 := BitVec.ofNat 32 (i 0).val
  let c2_i32 : BitVec 32 := 2#32
  let v3 : BitVec 32 := Scalar.remsi arg0 c2_i32
  let c64_i32_788 : BitVec 32 := 64#32
  let v1281 : BitVec 32 := Scalar.muli v3 c64_i32_788
  let v1282 : BitVec 32 := Scalar.addi c1664_i32_789 v1281
  let c0_i32_790 : BitVec 32 := 0#32
  let v1283 : BitVec 32 := Scalar.addi v1282 c0_i32_790
  v1283
def k0_mult107 (i : grid0.Coords) : BitVec 32 :=
  let c1536_i32_800 : BitVec 32 := 1536#32
  let arg0 : BitVec 32 := BitVec.ofNat 32 (i 0).val
  let c2_i32 : BitVec 32 := 2#32
  let v3 : BitVec 32 := Scalar.remsi arg0 c2_i32
  let c64_i32_799 : BitVec 32 := 64#32
  let v1297 : BitVec 32 := Scalar.muli v3 c64_i32_799
  let v1298 : BitVec 32 := Scalar.addi c1536_i32_800 v1297
  let c16_i32_801 : BitVec 32 := 16#32
  let v1299 : BitVec 32 := Scalar.addi v1298 c16_i32_801
  v1299
def k0_mult108 (i : grid0.Coords) : BitVec 32 :=
  let c1664_i32_805 : BitVec 32 := 1664#32
  let arg0 : BitVec 32 := BitVec.ofNat 32 (i 0).val
  let c2_i32 : BitVec 32 := 2#32
  let v3 : BitVec 32 := Scalar.remsi arg0 c2_i32
  let c64_i32_804 : BitVec 32 := 64#32
  let v1306 : BitVec 32 := Scalar.muli v3 c64_i32_804
  let v1307 : BitVec 32 := Scalar.addi c1664_i32_805 v1306
  let c16_i32_806 : BitVec 32 := 16#32
  let v1308 : BitVec 32 := Scalar.addi v1307 c16_i32_806
  v1308
def k0_mult109 (i : grid0.Coords) : BitVec 32 :=
  let c1536_i32_816 : BitVec 32 := 1536#32
  let arg0 : BitVec 32 := BitVec.ofNat 32 (i 0).val
  let c2_i32 : BitVec 32 := 2#32
  let v3 : BitVec 32 := Scalar.remsi arg0 c2_i32
  let c64_i32_815 : BitVec 32 := 64#32
  let v1322 : BitVec 32 := Scalar.muli v3 c64_i32_815
  let v1323 : BitVec 32 := Scalar.addi c1536_i32_816 v1322
  let c32_i32_817 : BitVec 32 := 32#32
  let v1324 : BitVec 32 := Scalar.addi v1323 c32_i32_817
  v1324
def k0_mult110 (i : grid0.Coords) : BitVec 32 :=
  let c1664_i32_821 : BitVec 32 := 1664#32
  let arg0 : BitVec 32 := BitVec.ofNat 32 (i 0).val
  let c2_i32 : BitVec 32 := 2#32
  let v3 : BitVec 32 := Scalar.remsi arg0 c2_i32
  let c64_i32_820 : BitVec 32 := 64#32
  let v1331 : BitVec 32 := Scalar.muli v3 c64_i32_820
  let v1332 : BitVec 32 := Scalar.addi c1664_i32_821 v1331
  let c32_i32_822 : BitVec 32 := 32#32
  let v1333 : BitVec 32 := Scalar.addi v1332 c32_i32_822
  v1333
def k0_mult111 (i : grid0.Coords) : BitVec 32 :=
  let c1536_i32_830 : BitVec 32 := 1536#32
  let arg0 : BitVec 32 := BitVec.ofNat 32 (i 0).val
  let c2_i32 : BitVec 32 := 2#32
  let v3 : BitVec 32 := Scalar.remsi arg0 c2_i32
  let c64_i32_829 : BitVec 32 := 64#32
  let v1344 : BitVec 32 := Scalar.muli v3 c64_i32_829
  let v1345 : BitVec 32 := Scalar.addi c1536_i32_830 v1344
  let c48_i32_831 : BitVec 32 := 48#32
  let v1346 : BitVec 32 := Scalar.addi v1345 c48_i32_831
  v1346
def k0_mult112 (i : grid0.Coords) : BitVec 32 :=
  let c1664_i32_835 : BitVec 32 := 1664#32
  let arg0 : BitVec 32 := BitVec.ofNat 32 (i 0).val
  let c2_i32 : BitVec 32 := 2#32
  let v3 : BitVec 32 := Scalar.remsi arg0 c2_i32
  let c64_i32_834 : BitVec 32 := 64#32
  let v1353 : BitVec 32 := Scalar.muli v3 c64_i32_834
  let v1354 : BitVec 32 := Scalar.addi c1664_i32_835 v1353
  let c48_i32_836 : BitVec 32 := 48#32
  let v1355 : BitVec 32 := Scalar.addi v1354 c48_i32_836
  v1355
def k0_mult113 (i : grid0.Coords) : BitVec 32 :=
  let c1792_i32 : BitVec 32 := 1792#32
  let arg0 : BitVec 32 := BitVec.ofNat 32 (i 0).val
  let c2_i32 : BitVec 32 := 2#32
  let v3 : BitVec 32 := Scalar.remsi arg0 c2_i32
  let c64_i32_844 : BitVec 32 := 64#32
  let v1369 : BitVec 32 := Scalar.muli v3 c64_i32_844
  let v1370 : BitVec 32 := Scalar.addi c1792_i32 v1369
  let c0_i32_845 : BitVec 32 := 0#32
  let v1371 : BitVec 32 := Scalar.addi v1370 c0_i32_845
  v1371
def k0_mult114 (i : grid0.Coords) : BitVec 32 :=
  let c1920_i32 : BitVec 32 := 1920#32
  let arg0 : BitVec 32 := BitVec.ofNat 32 (i 0).val
  let c2_i32 : BitVec 32 := 2#32
  let v3 : BitVec 32 := Scalar.remsi arg0 c2_i32
  let c64_i32_848 : BitVec 32 := 64#32
  let v1378 : BitVec 32 := Scalar.muli v3 c64_i32_848
  let v1379 : BitVec 32 := Scalar.addi c1920_i32 v1378
  let c0_i32_849 : BitVec 32 := 0#32
  let v1380 : BitVec 32 := Scalar.addi v1379 c0_i32_849
  v1380
def k0_mult115 (i : grid0.Coords) : BitVec 32 :=
  let c1792_i32_859 : BitVec 32 := 1792#32
  let arg0 : BitVec 32 := BitVec.ofNat 32 (i 0).val
  let c2_i32 : BitVec 32 := 2#32
  let v3 : BitVec 32 := Scalar.remsi arg0 c2_i32
  let c64_i32_858 : BitVec 32 := 64#32
  let v1394 : BitVec 32 := Scalar.muli v3 c64_i32_858
  let v1395 : BitVec 32 := Scalar.addi c1792_i32_859 v1394
  let c16_i32_860 : BitVec 32 := 16#32
  let v1396 : BitVec 32 := Scalar.addi v1395 c16_i32_860
  v1396
def k0_mult116 (i : grid0.Coords) : BitVec 32 :=
  let c1920_i32_864 : BitVec 32 := 1920#32
  let arg0 : BitVec 32 := BitVec.ofNat 32 (i 0).val
  let c2_i32 : BitVec 32 := 2#32
  let v3 : BitVec 32 := Scalar.remsi arg0 c2_i32
  let c64_i32_863 : BitVec 32 := 64#32
  let v1403 : BitVec 32 := Scalar.muli v3 c64_i32_863
  let v1404 : BitVec 32 := Scalar.addi c1920_i32_864 v1403
  let c16_i32_865 : BitVec 32 := 16#32
  let v1405 : BitVec 32 := Scalar.addi v1404 c16_i32_865
  v1405
def k0_mult117 (i : grid0.Coords) : BitVec 32 :=
  let c1792_i32_875 : BitVec 32 := 1792#32
  let arg0 : BitVec 32 := BitVec.ofNat 32 (i 0).val
  let c2_i32 : BitVec 32 := 2#32
  let v3 : BitVec 32 := Scalar.remsi arg0 c2_i32
  let c64_i32_874 : BitVec 32 := 64#32
  let v1419 : BitVec 32 := Scalar.muli v3 c64_i32_874
  let v1420 : BitVec 32 := Scalar.addi c1792_i32_875 v1419
  let c32_i32_876 : BitVec 32 := 32#32
  let v1421 : BitVec 32 := Scalar.addi v1420 c32_i32_876
  v1421
def k0_mult118 (i : grid0.Coords) : BitVec 32 :=
  let c1920_i32_880 : BitVec 32 := 1920#32
  let arg0 : BitVec 32 := BitVec.ofNat 32 (i 0).val
  let c2_i32 : BitVec 32 := 2#32
  let v3 : BitVec 32 := Scalar.remsi arg0 c2_i32
  let c64_i32_879 : BitVec 32 := 64#32
  let v1428 : BitVec 32 := Scalar.muli v3 c64_i32_879
  let v1429 : BitVec 32 := Scalar.addi c1920_i32_880 v1428
  let c32_i32_881 : BitVec 32 := 32#32
  let v1430 : BitVec 32 := Scalar.addi v1429 c32_i32_881
  v1430
def k0_mult119 (i : grid0.Coords) : BitVec 32 :=
  let c1792_i32_889 : BitVec 32 := 1792#32
  let arg0 : BitVec 32 := BitVec.ofNat 32 (i 0).val
  let c2_i32 : BitVec 32 := 2#32
  let v3 : BitVec 32 := Scalar.remsi arg0 c2_i32
  let c64_i32_888 : BitVec 32 := 64#32
  let v1441 : BitVec 32 := Scalar.muli v3 c64_i32_888
  let v1442 : BitVec 32 := Scalar.addi c1792_i32_889 v1441
  let c48_i32_890 : BitVec 32 := 48#32
  let v1443 : BitVec 32 := Scalar.addi v1442 c48_i32_890
  v1443
def k0_mult120 (i : grid0.Coords) : BitVec 32 :=
  let c1920_i32_894 : BitVec 32 := 1920#32
  let arg0 : BitVec 32 := BitVec.ofNat 32 (i 0).val
  let c2_i32 : BitVec 32 := 2#32
  let v3 : BitVec 32 := Scalar.remsi arg0 c2_i32
  let c64_i32_893 : BitVec 32 := 64#32
  let v1450 : BitVec 32 := Scalar.muli v3 c64_i32_893
  let v1451 : BitVec 32 := Scalar.addi c1920_i32_894 v1450
  let c48_i32_895 : BitVec 32 := 48#32
  let v1452 : BitVec 32 := Scalar.addi v1451 c48_i32_895
  v1452
def k0_mult121 (i : grid0.Coords) : BitVec 32 :=
  let c1792_i32_905 : BitVec 32 := 1792#32
  let arg0 : BitVec 32 := BitVec.ofNat 32 (i 0).val
  let c2_i32 : BitVec 32 := 2#32
  let v3 : BitVec 32 := Scalar.remsi arg0 c2_i32
  let c64_i32_904 : BitVec 32 := 64#32
  let v1466 : BitVec 32 := Scalar.muli v3 c64_i32_904
  let v1467 : BitVec 32 := Scalar.addi c1792_i32_905 v1466
  let c0_i32_906 : BitVec 32 := 0#32
  let v1468 : BitVec 32 := Scalar.addi v1467 c0_i32_906
  v1468
def k0_mult122 (i : grid0.Coords) : BitVec 32 :=
  let c1920_i32_910 : BitVec 32 := 1920#32
  let arg0 : BitVec 32 := BitVec.ofNat 32 (i 0).val
  let c2_i32 : BitVec 32 := 2#32
  let v3 : BitVec 32 := Scalar.remsi arg0 c2_i32
  let c64_i32_909 : BitVec 32 := 64#32
  let v1475 : BitVec 32 := Scalar.muli v3 c64_i32_909
  let v1476 : BitVec 32 := Scalar.addi c1920_i32_910 v1475
  let c0_i32_911 : BitVec 32 := 0#32
  let v1477 : BitVec 32 := Scalar.addi v1476 c0_i32_911
  v1477
def k0_mult123 (i : grid0.Coords) : BitVec 32 :=
  let c1792_i32_921 : BitVec 32 := 1792#32
  let arg0 : BitVec 32 := BitVec.ofNat 32 (i 0).val
  let c2_i32 : BitVec 32 := 2#32
  let v3 : BitVec 32 := Scalar.remsi arg0 c2_i32
  let c64_i32_920 : BitVec 32 := 64#32
  let v1491 : BitVec 32 := Scalar.muli v3 c64_i32_920
  let v1492 : BitVec 32 := Scalar.addi c1792_i32_921 v1491
  let c16_i32_922 : BitVec 32 := 16#32
  let v1493 : BitVec 32 := Scalar.addi v1492 c16_i32_922
  v1493
def k0_mult124 (i : grid0.Coords) : BitVec 32 :=
  let c1920_i32_926 : BitVec 32 := 1920#32
  let arg0 : BitVec 32 := BitVec.ofNat 32 (i 0).val
  let c2_i32 : BitVec 32 := 2#32
  let v3 : BitVec 32 := Scalar.remsi arg0 c2_i32
  let c64_i32_925 : BitVec 32 := 64#32
  let v1500 : BitVec 32 := Scalar.muli v3 c64_i32_925
  let v1501 : BitVec 32 := Scalar.addi c1920_i32_926 v1500
  let c16_i32_927 : BitVec 32 := 16#32
  let v1502 : BitVec 32 := Scalar.addi v1501 c16_i32_927
  v1502
def k0_mult125 (i : grid0.Coords) : BitVec 32 :=
  let c1792_i32_937 : BitVec 32 := 1792#32
  let arg0 : BitVec 32 := BitVec.ofNat 32 (i 0).val
  let c2_i32 : BitVec 32 := 2#32
  let v3 : BitVec 32 := Scalar.remsi arg0 c2_i32
  let c64_i32_936 : BitVec 32 := 64#32
  let v1516 : BitVec 32 := Scalar.muli v3 c64_i32_936
  let v1517 : BitVec 32 := Scalar.addi c1792_i32_937 v1516
  let c32_i32_938 : BitVec 32 := 32#32
  let v1518 : BitVec 32 := Scalar.addi v1517 c32_i32_938
  v1518
def k0_mult126 (i : grid0.Coords) : BitVec 32 :=
  let c1920_i32_942 : BitVec 32 := 1920#32
  let arg0 : BitVec 32 := BitVec.ofNat 32 (i 0).val
  let c2_i32 : BitVec 32 := 2#32
  let v3 : BitVec 32 := Scalar.remsi arg0 c2_i32
  let c64_i32_941 : BitVec 32 := 64#32
  let v1525 : BitVec 32 := Scalar.muli v3 c64_i32_941
  let v1526 : BitVec 32 := Scalar.addi c1920_i32_942 v1525
  let c32_i32_943 : BitVec 32 := 32#32
  let v1527 : BitVec 32 := Scalar.addi v1526 c32_i32_943
  v1527
def k0_mult127 (i : grid0.Coords) : BitVec 32 :=
  let c1792_i32_951 : BitVec 32 := 1792#32
  let arg0 : BitVec 32 := BitVec.ofNat 32 (i 0).val
  let c2_i32 : BitVec 32 := 2#32
  let v3 : BitVec 32 := Scalar.remsi arg0 c2_i32
  let c64_i32_950 : BitVec 32 := 64#32
  let v1538 : BitVec 32 := Scalar.muli v3 c64_i32_950
  let v1539 : BitVec 32 := Scalar.addi c1792_i32_951 v1538
  let c48_i32_952 : BitVec 32 := 48#32
  let v1540 : BitVec 32 := Scalar.addi v1539 c48_i32_952
  v1540
def k0_mult128 (i : grid0.Coords) : BitVec 32 :=
  let c1920_i32_956 : BitVec 32 := 1920#32
  let arg0 : BitVec 32 := BitVec.ofNat 32 (i 0).val
  let c2_i32 : BitVec 32 := 2#32
  let v3 : BitVec 32 := Scalar.remsi arg0 c2_i32
  let c64_i32_955 : BitVec 32 := 64#32
  let v1547 : BitVec 32 := Scalar.muli v3 c64_i32_955
  let v1548 : BitVec 32 := Scalar.addi c1920_i32_956 v1547
  let c48_i32_957 : BitVec 32 := 48#32
  let v1549 : BitVec 32 := Scalar.addi v1548 c48_i32_957
  v1549
def k0_mult129 (i : grid0.Coords) : BitVec 32 :=
  let c2048_i32 : BitVec 32 := 2048#32
  let arg0 : BitVec 32 := BitVec.ofNat 32 (i 0).val
  let c2_i32 : BitVec 32 := 2#32
  let v3 : BitVec 32 := Scalar.remsi arg0 c2_i32
  let c64_i32_965 : BitVec 32 := 64#32
  let v1563 : BitVec 32 := Scalar.muli v3 c64_i32_965
  let v1564 : BitVec 32 := Scalar.addi c2048_i32 v1563
  let c0_i32_966 : BitVec 32 := 0#32
  let v1565 : BitVec 32 := Scalar.addi v1564 c0_i32_966
  v1565
def k0_mult130 (i : grid0.Coords) : BitVec 32 :=
  let c2176_i32 : BitVec 32 := 2176#32
  let arg0 : BitVec 32 := BitVec.ofNat 32 (i 0).val
  let c2_i32 : BitVec 32 := 2#32
  let v3 : BitVec 32 := Scalar.remsi arg0 c2_i32
  let c64_i32_969 : BitVec 32 := 64#32
  let v1572 : BitVec 32 := Scalar.muli v3 c64_i32_969
  let v1573 : BitVec 32 := Scalar.addi c2176_i32 v1572
  let c0_i32_970 : BitVec 32 := 0#32
  let v1574 : BitVec 32 := Scalar.addi v1573 c0_i32_970
  v1574
def k0_mult131 (i : grid0.Coords) : BitVec 32 :=
  let c2048_i32_980 : BitVec 32 := 2048#32
  let arg0 : BitVec 32 := BitVec.ofNat 32 (i 0).val
  let c2_i32 : BitVec 32 := 2#32
  let v3 : BitVec 32 := Scalar.remsi arg0 c2_i32
  let c64_i32_979 : BitVec 32 := 64#32
  let v1588 : BitVec 32 := Scalar.muli v3 c64_i32_979
  let v1589 : BitVec 32 := Scalar.addi c2048_i32_980 v1588
  let c16_i32_981 : BitVec 32 := 16#32
  let v1590 : BitVec 32 := Scalar.addi v1589 c16_i32_981
  v1590
def k0_mult132 (i : grid0.Coords) : BitVec 32 :=
  let c2176_i32_985 : BitVec 32 := 2176#32
  let arg0 : BitVec 32 := BitVec.ofNat 32 (i 0).val
  let c2_i32 : BitVec 32 := 2#32
  let v3 : BitVec 32 := Scalar.remsi arg0 c2_i32
  let c64_i32_984 : BitVec 32 := 64#32
  let v1597 : BitVec 32 := Scalar.muli v3 c64_i32_984
  let v1598 : BitVec 32 := Scalar.addi c2176_i32_985 v1597
  let c16_i32_986 : BitVec 32 := 16#32
  let v1599 : BitVec 32 := Scalar.addi v1598 c16_i32_986
  v1599
def k0_mult133 (i : grid0.Coords) : BitVec 32 :=
  let c2048_i32_996 : BitVec 32 := 2048#32
  let arg0 : BitVec 32 := BitVec.ofNat 32 (i 0).val
  let c2_i32 : BitVec 32 := 2#32
  let v3 : BitVec 32 := Scalar.remsi arg0 c2_i32
  let c64_i32_995 : BitVec 32 := 64#32
  let v1613 : BitVec 32 := Scalar.muli v3 c64_i32_995
  let v1614 : BitVec 32 := Scalar.addi c2048_i32_996 v1613
  let c32_i32_997 : BitVec 32 := 32#32
  let v1615 : BitVec 32 := Scalar.addi v1614 c32_i32_997
  v1615
def k0_mult134 (i : grid0.Coords) : BitVec 32 :=
  let c2176_i32_1001 : BitVec 32 := 2176#32
  let arg0 : BitVec 32 := BitVec.ofNat 32 (i 0).val
  let c2_i32 : BitVec 32 := 2#32
  let v3 : BitVec 32 := Scalar.remsi arg0 c2_i32
  let c64_i32_1000 : BitVec 32 := 64#32
  let v1622 : BitVec 32 := Scalar.muli v3 c64_i32_1000
  let v1623 : BitVec 32 := Scalar.addi c2176_i32_1001 v1622
  let c32_i32_1002 : BitVec 32 := 32#32
  let v1624 : BitVec 32 := Scalar.addi v1623 c32_i32_1002
  v1624
def k0_mult135 (i : grid0.Coords) : BitVec 32 :=
  let c2048_i32_1010 : BitVec 32 := 2048#32
  let arg0 : BitVec 32 := BitVec.ofNat 32 (i 0).val
  let c2_i32 : BitVec 32 := 2#32
  let v3 : BitVec 32 := Scalar.remsi arg0 c2_i32
  let c64_i32_1009 : BitVec 32 := 64#32
  let v1635 : BitVec 32 := Scalar.muli v3 c64_i32_1009
  let v1636 : BitVec 32 := Scalar.addi c2048_i32_1010 v1635
  let c48_i32_1011 : BitVec 32 := 48#32
  let v1637 : BitVec 32 := Scalar.addi v1636 c48_i32_1011
  v1637
def k0_mult136 (i : grid0.Coords) : BitVec 32 :=
  let c2176_i32_1015 : BitVec 32 := 2176#32
  let arg0 : BitVec 32 := BitVec.ofNat 32 (i 0).val
  let c2_i32 : BitVec 32 := 2#32
  let v3 : BitVec 32 := Scalar.remsi arg0 c2_i32
  let c64_i32_1014 : BitVec 32 := 64#32
  let v1644 : BitVec 32 := Scalar.muli v3 c64_i32_1014
  let v1645 : BitVec 32 := Scalar.addi c2176_i32_1015 v1644
  let c48_i32_1016 : BitVec 32 := 48#32
  let v1646 : BitVec 32 := Scalar.addi v1645 c48_i32_1016
  v1646
def k0_mult137 (i : grid0.Coords) : BitVec 32 :=
  let c2048_i32_1026 : BitVec 32 := 2048#32
  let arg0 : BitVec 32 := BitVec.ofNat 32 (i 0).val
  let c2_i32 : BitVec 32 := 2#32
  let v3 : BitVec 32 := Scalar.remsi arg0 c2_i32
  let c64_i32_1025 : BitVec 32 := 64#32
  let v1660 : BitVec 32 := Scalar.muli v3 c64_i32_1025
  let v1661 : BitVec 32 := Scalar.addi c2048_i32_1026 v1660
  let c0_i32_1027 : BitVec 32 := 0#32
  let v1662 : BitVec 32 := Scalar.addi v1661 c0_i32_1027
  v1662
def k0_mult138 (i : grid0.Coords) : BitVec 32 :=
  let c2176_i32_1031 : BitVec 32 := 2176#32
  let arg0 : BitVec 32 := BitVec.ofNat 32 (i 0).val
  let c2_i32 : BitVec 32 := 2#32
  let v3 : BitVec 32 := Scalar.remsi arg0 c2_i32
  let c64_i32_1030 : BitVec 32 := 64#32
  let v1669 : BitVec 32 := Scalar.muli v3 c64_i32_1030
  let v1670 : BitVec 32 := Scalar.addi c2176_i32_1031 v1669
  let c0_i32_1032 : BitVec 32 := 0#32
  let v1671 : BitVec 32 := Scalar.addi v1670 c0_i32_1032
  v1671
def k0_mult139 (i : grid0.Coords) : BitVec 32 :=
  let c2048_i32_1042 : BitVec 32 := 2048#32
  let arg0 : BitVec 32 := BitVec.ofNat 32 (i 0).val
  let c2_i32 : BitVec 32 := 2#32
  let v3 : BitVec 32 := Scalar.remsi arg0 c2_i32
  let c64_i32_1041 : BitVec 32 := 64#32
  let v1685 : BitVec 32 := Scalar.muli v3 c64_i32_1041
  let v1686 : BitVec 32 := Scalar.addi c2048_i32_1042 v1685
  let c16_i32_1043 : BitVec 32 := 16#32
  let v1687 : BitVec 32 := Scalar.addi v1686 c16_i32_1043
  v1687
def k0_mult140 (i : grid0.Coords) : BitVec 32 :=
  let c2176_i32_1047 : BitVec 32 := 2176#32
  let arg0 : BitVec 32 := BitVec.ofNat 32 (i 0).val
  let c2_i32 : BitVec 32 := 2#32
  let v3 : BitVec 32 := Scalar.remsi arg0 c2_i32
  let c64_i32_1046 : BitVec 32 := 64#32
  let v1694 : BitVec 32 := Scalar.muli v3 c64_i32_1046
  let v1695 : BitVec 32 := Scalar.addi c2176_i32_1047 v1694
  let c16_i32_1048 : BitVec 32 := 16#32
  let v1696 : BitVec 32 := Scalar.addi v1695 c16_i32_1048
  v1696
def k0_mult141 (i : grid0.Coords) : BitVec 32 :=
  let c2048_i32_1058 : BitVec 32 := 2048#32
  let arg0 : BitVec 32 := BitVec.ofNat 32 (i 0).val
  let c2_i32 : BitVec 32 := 2#32
  let v3 : BitVec 32 := Scalar.remsi arg0 c2_i32
  let c64_i32_1057 : BitVec 32 := 64#32
  let v1710 : BitVec 32 := Scalar.muli v3 c64_i32_1057
  let v1711 : BitVec 32 := Scalar.addi c2048_i32_1058 v1710
  let c32_i32_1059 : BitVec 32 := 32#32
  let v1712 : BitVec 32 := Scalar.addi v1711 c32_i32_1059
  v1712
def k0_mult142 (i : grid0.Coords) : BitVec 32 :=
  let c2176_i32_1063 : BitVec 32 := 2176#32
  let arg0 : BitVec 32 := BitVec.ofNat 32 (i 0).val
  let c2_i32 : BitVec 32 := 2#32
  let v3 : BitVec 32 := Scalar.remsi arg0 c2_i32
  let c64_i32_1062 : BitVec 32 := 64#32
  let v1719 : BitVec 32 := Scalar.muli v3 c64_i32_1062
  let v1720 : BitVec 32 := Scalar.addi c2176_i32_1063 v1719
  let c32_i32_1064 : BitVec 32 := 32#32
  let v1721 : BitVec 32 := Scalar.addi v1720 c32_i32_1064
  v1721
def k0_mult143 (i : grid0.Coords) : BitVec 32 :=
  let c2048_i32_1072 : BitVec 32 := 2048#32
  let arg0 : BitVec 32 := BitVec.ofNat 32 (i 0).val
  let c2_i32 : BitVec 32 := 2#32
  let v3 : BitVec 32 := Scalar.remsi arg0 c2_i32
  let c64_i32_1071 : BitVec 32 := 64#32
  let v1732 : BitVec 32 := Scalar.muli v3 c64_i32_1071
  let v1733 : BitVec 32 := Scalar.addi c2048_i32_1072 v1732
  let c48_i32_1073 : BitVec 32 := 48#32
  let v1734 : BitVec 32 := Scalar.addi v1733 c48_i32_1073
  v1734
def k0_mult144 (i : grid0.Coords) : BitVec 32 :=
  let c2176_i32_1077 : BitVec 32 := 2176#32
  let arg0 : BitVec 32 := BitVec.ofNat 32 (i 0).val
  let c2_i32 : BitVec 32 := 2#32
  let v3 : BitVec 32 := Scalar.remsi arg0 c2_i32
  let c64_i32_1076 : BitVec 32 := 64#32
  let v1741 : BitVec 32 := Scalar.muli v3 c64_i32_1076
  let v1742 : BitVec 32 := Scalar.addi c2176_i32_1077 v1741
  let c48_i32_1078 : BitVec 32 := 48#32
  let v1743 : BitVec 32 := Scalar.addi v1742 c48_i32_1078
  v1743
def k0_mult145 (i : grid0.Coords) : BitVec 32 :=
  let c2304_i32 : BitVec 32 := 2304#32
  let arg0 : BitVec 32 := BitVec.ofNat 32 (i 0).val
  let c2_i32 : BitVec 32 := 2#32
  let v3 : BitVec 32 := Scalar.remsi arg0 c2_i32
  let c64_i32_1086 : BitVec 32 := 64#32
  let v1757 : BitVec 32 := Scalar.muli v3 c64_i32_1086
  let v1758 : BitVec 32 := Scalar.addi c2304_i32 v1757
  let c0_i32_1087 : BitVec 32 := 0#32
  let v1759 : BitVec 32 := Scalar.addi v1758 c0_i32_1087
  v1759
def k0_mult146 (i : grid0.Coords) : BitVec 32 :=
  let c2432_i32 : BitVec 32 := 2432#32
  let arg0 : BitVec 32 := BitVec.ofNat 32 (i 0).val
  let c2_i32 : BitVec 32 := 2#32
  let v3 : BitVec 32 := Scalar.remsi arg0 c2_i32
  let c64_i32_1090 : BitVec 32 := 64#32
  let v1766 : BitVec 32 := Scalar.muli v3 c64_i32_1090
  let v1767 : BitVec 32 := Scalar.addi c2432_i32 v1766
  let c0_i32_1091 : BitVec 32 := 0#32
  let v1768 : BitVec 32 := Scalar.addi v1767 c0_i32_1091
  v1768
def k0_mult147 (i : grid0.Coords) : BitVec 32 :=
  let c2304_i32_1101 : BitVec 32 := 2304#32
  let arg0 : BitVec 32 := BitVec.ofNat 32 (i 0).val
  let c2_i32 : BitVec 32 := 2#32
  let v3 : BitVec 32 := Scalar.remsi arg0 c2_i32
  let c64_i32_1100 : BitVec 32 := 64#32
  let v1782 : BitVec 32 := Scalar.muli v3 c64_i32_1100
  let v1783 : BitVec 32 := Scalar.addi c2304_i32_1101 v1782
  let c16_i32_1102 : BitVec 32 := 16#32
  let v1784 : BitVec 32 := Scalar.addi v1783 c16_i32_1102
  v1784
def k0_mult148 (i : grid0.Coords) : BitVec 32 :=
  let c2432_i32_1106 : BitVec 32 := 2432#32
  let arg0 : BitVec 32 := BitVec.ofNat 32 (i 0).val
  let c2_i32 : BitVec 32 := 2#32
  let v3 : BitVec 32 := Scalar.remsi arg0 c2_i32
  let c64_i32_1105 : BitVec 32 := 64#32
  let v1791 : BitVec 32 := Scalar.muli v3 c64_i32_1105
  let v1792 : BitVec 32 := Scalar.addi c2432_i32_1106 v1791
  let c16_i32_1107 : BitVec 32 := 16#32
  let v1793 : BitVec 32 := Scalar.addi v1792 c16_i32_1107
  v1793
def k0_mult149 (i : grid0.Coords) : BitVec 32 :=
  let c2304_i32_1117 : BitVec 32 := 2304#32
  let arg0 : BitVec 32 := BitVec.ofNat 32 (i 0).val
  let c2_i32 : BitVec 32 := 2#32
  let v3 : BitVec 32 := Scalar.remsi arg0 c2_i32
  let c64_i32_1116 : BitVec 32 := 64#32
  let v1807 : BitVec 32 := Scalar.muli v3 c64_i32_1116
  let v1808 : BitVec 32 := Scalar.addi c2304_i32_1117 v1807
  let c32_i32_1118 : BitVec 32 := 32#32
  let v1809 : BitVec 32 := Scalar.addi v1808 c32_i32_1118
  v1809
def k0_mult150 (i : grid0.Coords) : BitVec 32 :=
  let c2432_i32_1122 : BitVec 32 := 2432#32
  let arg0 : BitVec 32 := BitVec.ofNat 32 (i 0).val
  let c2_i32 : BitVec 32 := 2#32
  let v3 : BitVec 32 := Scalar.remsi arg0 c2_i32
  let c64_i32_1121 : BitVec 32 := 64#32
  let v1816 : BitVec 32 := Scalar.muli v3 c64_i32_1121
  let v1817 : BitVec 32 := Scalar.addi c2432_i32_1122 v1816
  let c32_i32_1123 : BitVec 32 := 32#32
  let v1818 : BitVec 32 := Scalar.addi v1817 c32_i32_1123
  v1818
def k0_mult151 (i : grid0.Coords) : BitVec 32 :=
  let c2304_i32_1131 : BitVec 32 := 2304#32
  let arg0 : BitVec 32 := BitVec.ofNat 32 (i 0).val
  let c2_i32 : BitVec 32 := 2#32
  let v3 : BitVec 32 := Scalar.remsi arg0 c2_i32
  let c64_i32_1130 : BitVec 32 := 64#32
  let v1829 : BitVec 32 := Scalar.muli v3 c64_i32_1130
  let v1830 : BitVec 32 := Scalar.addi c2304_i32_1131 v1829
  let c48_i32_1132 : BitVec 32 := 48#32
  let v1831 : BitVec 32 := Scalar.addi v1830 c48_i32_1132
  v1831
def k0_mult152 (i : grid0.Coords) : BitVec 32 :=
  let c2432_i32_1136 : BitVec 32 := 2432#32
  let arg0 : BitVec 32 := BitVec.ofNat 32 (i 0).val
  let c2_i32 : BitVec 32 := 2#32
  let v3 : BitVec 32 := Scalar.remsi arg0 c2_i32
  let c64_i32_1135 : BitVec 32 := 64#32
  let v1838 : BitVec 32 := Scalar.muli v3 c64_i32_1135
  let v1839 : BitVec 32 := Scalar.addi c2432_i32_1136 v1838
  let c48_i32_1137 : BitVec 32 := 48#32
  let v1840 : BitVec 32 := Scalar.addi v1839 c48_i32_1137
  v1840
def k0_mult153 (i : grid0.Coords) : BitVec 32 :=
  let c2304_i32_1147 : BitVec 32 := 2304#32
  let arg0 : BitVec 32 := BitVec.ofNat 32 (i 0).val
  let c2_i32 : BitVec 32 := 2#32
  let v3 : BitVec 32 := Scalar.remsi arg0 c2_i32
  let c64_i32_1146 : BitVec 32 := 64#32
  let v1854 : BitVec 32 := Scalar.muli v3 c64_i32_1146
  let v1855 : BitVec 32 := Scalar.addi c2304_i32_1147 v1854
  let c0_i32_1148 : BitVec 32 := 0#32
  let v1856 : BitVec 32 := Scalar.addi v1855 c0_i32_1148
  v1856
def k0_mult154 (i : grid0.Coords) : BitVec 32 :=
  let c2432_i32_1152 : BitVec 32 := 2432#32
  let arg0 : BitVec 32 := BitVec.ofNat 32 (i 0).val
  let c2_i32 : BitVec 32 := 2#32
  let v3 : BitVec 32 := Scalar.remsi arg0 c2_i32
  let c64_i32_1151 : BitVec 32 := 64#32
  let v1863 : BitVec 32 := Scalar.muli v3 c64_i32_1151
  let v1864 : BitVec 32 := Scalar.addi c2432_i32_1152 v1863
  let c0_i32_1153 : BitVec 32 := 0#32
  let v1865 : BitVec 32 := Scalar.addi v1864 c0_i32_1153
  v1865
def k0_mult155 (i : grid0.Coords) : BitVec 32 :=
  let c2304_i32_1163 : BitVec 32 := 2304#32
  let arg0 : BitVec 32 := BitVec.ofNat 32 (i 0).val
  let c2_i32 : BitVec 32 := 2#32
  let v3 : BitVec 32 := Scalar.remsi arg0 c2_i32
  let c64_i32_1162 : BitVec 32 := 64#32
  let v1879 : BitVec 32 := Scalar.muli v3 c64_i32_1162
  let v1880 : BitVec 32 := Scalar.addi c2304_i32_1163 v1879
  let c16_i32_1164 : BitVec 32 := 16#32
  let v1881 : BitVec 32 := Scalar.addi v1880 c16_i32_1164
  v1881
def k0_mult156 (i : grid0.Coords) : BitVec 32 :=
  let c2432_i32_1168 : BitVec 32 := 2432#32
  let arg0 : BitVec 32 := BitVec.ofNat 32 (i 0).val
  let c2_i32 : BitVec 32 := 2#32
  let v3 : BitVec 32 := Scalar.remsi arg0 c2_i32
  let c64_i32_1167 : BitVec 32 := 64#32
  let v1888 : BitVec 32 := Scalar.muli v3 c64_i32_1167
  let v1889 : BitVec 32 := Scalar.addi c2432_i32_1168 v1888
  let c16_i32_1169 : BitVec 32 := 16#32
  let v1890 : BitVec 32 := Scalar.addi v1889 c16_i32_1169
  v1890
def k0_mult157 (i : grid0.Coords) : BitVec 32 :=
  let c2304_i32_1179 : BitVec 32 := 2304#32
  let arg0 : BitVec 32 := BitVec.ofNat 32 (i 0).val
  let c2_i32 : BitVec 32 := 2#32
  let v3 : BitVec 32 := Scalar.remsi arg0 c2_i32
  let c64_i32_1178 : BitVec 32 := 64#32
  let v1904 : BitVec 32 := Scalar.muli v3 c64_i32_1178
  let v1905 : BitVec 32 := Scalar.addi c2304_i32_1179 v1904
  let c32_i32_1180 : BitVec 32 := 32#32
  let v1906 : BitVec 32 := Scalar.addi v1905 c32_i32_1180
  v1906
def k0_mult158 (i : grid0.Coords) : BitVec 32 :=
  let c2432_i32_1184 : BitVec 32 := 2432#32
  let arg0 : BitVec 32 := BitVec.ofNat 32 (i 0).val
  let c2_i32 : BitVec 32 := 2#32
  let v3 : BitVec 32 := Scalar.remsi arg0 c2_i32
  let c64_i32_1183 : BitVec 32 := 64#32
  let v1913 : BitVec 32 := Scalar.muli v3 c64_i32_1183
  let v1914 : BitVec 32 := Scalar.addi c2432_i32_1184 v1913
  let c32_i32_1185 : BitVec 32 := 32#32
  let v1915 : BitVec 32 := Scalar.addi v1914 c32_i32_1185
  v1915
def k0_mult159 (i : grid0.Coords) : BitVec 32 :=
  let c2304_i32_1193 : BitVec 32 := 2304#32
  let arg0 : BitVec 32 := BitVec.ofNat 32 (i 0).val
  let c2_i32 : BitVec 32 := 2#32
  let v3 : BitVec 32 := Scalar.remsi arg0 c2_i32
  let c64_i32_1192 : BitVec 32 := 64#32
  let v1926 : BitVec 32 := Scalar.muli v3 c64_i32_1192
  let v1927 : BitVec 32 := Scalar.addi c2304_i32_1193 v1926
  let c48_i32_1194 : BitVec 32 := 48#32
  let v1928 : BitVec 32 := Scalar.addi v1927 c48_i32_1194
  v1928
def k0_mult160 (i : grid0.Coords) : BitVec 32 :=
  let c2432_i32_1198 : BitVec 32 := 2432#32
  let arg0 : BitVec 32 := BitVec.ofNat 32 (i 0).val
  let c2_i32 : BitVec 32 := 2#32
  let v3 : BitVec 32 := Scalar.remsi arg0 c2_i32
  let c64_i32_1197 : BitVec 32 := 64#32
  let v1935 : BitVec 32 := Scalar.muli v3 c64_i32_1197
  let v1936 : BitVec 32 := Scalar.addi c2432_i32_1198 v1935
  let c48_i32_1199 : BitVec 32 := 48#32
  let v1937 : BitVec 32 := Scalar.addi v1936 c48_i32_1199
  v1937
def k0_mult161 (i : grid0.Coords) : BitVec 32 :=
  let c2560_i32 : BitVec 32 := 2560#32
  let arg0 : BitVec 32 := BitVec.ofNat 32 (i 0).val
  let c2_i32 : BitVec 32 := 2#32
  let v3 : BitVec 32 := Scalar.remsi arg0 c2_i32
  let c64_i32_1207 : BitVec 32 := 64#32
  let v1951 : BitVec 32 := Scalar.muli v3 c64_i32_1207
  let v1952 : BitVec 32 := Scalar.addi c2560_i32 v1951
  let c0_i32_1208 : BitVec 32 := 0#32
  let v1953 : BitVec 32 := Scalar.addi v1952 c0_i32_1208
  v1953
def k0_mult162 (i : grid0.Coords) : BitVec 32 :=
  let c2560_i32_1218 : BitVec 32 := 2560#32
  let arg0 : BitVec 32 := BitVec.ofNat 32 (i 0).val
  let c2_i32 : BitVec 32 := 2#32
  let v3 : BitVec 32 := Scalar.remsi arg0 c2_i32
  let c64_i32_1217 : BitVec 32 := 64#32
  let v1966 : BitVec 32 := Scalar.muli v3 c64_i32_1217
  let v1967 : BitVec 32 := Scalar.addi c2560_i32_1218 v1966
  let c16_i32_1219 : BitVec 32 := 16#32
  let v1968 : BitVec 32 := Scalar.addi v1967 c16_i32_1219
  v1968
def k0_mult163 (i : grid0.Coords) : BitVec 32 :=
  let c2560_i32_1229 : BitVec 32 := 2560#32
  let arg0 : BitVec 32 := BitVec.ofNat 32 (i 0).val
  let c2_i32 : BitVec 32 := 2#32
  let v3 : BitVec 32 := Scalar.remsi arg0 c2_i32
  let c64_i32_1228 : BitVec 32 := 64#32
  let v1981 : BitVec 32 := Scalar.muli v3 c64_i32_1228
  let v1982 : BitVec 32 := Scalar.addi c2560_i32_1229 v1981
  let c32_i32_1230 : BitVec 32 := 32#32
  let v1983 : BitVec 32 := Scalar.addi v1982 c32_i32_1230
  v1983
def k0_mult164 (i : grid0.Coords) : BitVec 32 :=
  let c2560_i32_1238 : BitVec 32 := 2560#32
  let arg0 : BitVec 32 := BitVec.ofNat 32 (i 0).val
  let c2_i32 : BitVec 32 := 2#32
  let v3 : BitVec 32 := Scalar.remsi arg0 c2_i32
  let c64_i32_1237 : BitVec 32 := 64#32
  let v1993 : BitVec 32 := Scalar.muli v3 c64_i32_1237
  let v1994 : BitVec 32 := Scalar.addi c2560_i32_1238 v1993
  let c48_i32_1239 : BitVec 32 := 48#32
  let v1995 : BitVec 32 := Scalar.addi v1994 c48_i32_1239
  v1995
def k0_mult165 (i : grid0.Coords) : BitVec 32 :=
  let c2560_i32_1249 : BitVec 32 := 2560#32
  let arg0 : BitVec 32 := BitVec.ofNat 32 (i 0).val
  let c2_i32 : BitVec 32 := 2#32
  let v3 : BitVec 32 := Scalar.remsi arg0 c2_i32
  let c64_i32_1248 : BitVec 32 := 64#32
  let v2008 : BitVec 32 := Scalar.muli v3 c64_i32_1248
  let v2009 : BitVec 32 := Scalar.addi c2560_i32_1249 v2008
  let c0_i32_1250 : BitVec 32 := 0#32
  let v2010 : BitVec 32 := Scalar.addi v2009 c0_i32_1250
  v2010
def k0_mult166 (i : grid0.Coords) : BitVec 32 :=
  let c2560_i32_1260 : BitVec 32 := 2560#32
  let arg0 : BitVec 32 := BitVec.ofNat 32 (i 0).val
  let c2_i32 : BitVec 32 := 2#32
  let v3 : BitVec 32 := Scalar.remsi arg0 c2_i32
  let c64_i32_1259 : BitVec 32 := 64#32
  let v2023 : BitVec 32 := Scalar.muli v3 c64_i32_1259
  let v2024 : BitVec 32 := Scalar.addi c2560_i32_1260 v2023
  let c16_i32_1261 : BitVec 32 := 16#32
  let v2025 : BitVec 32 := Scalar.addi v2024 c16_i32_1261
  v2025
def k0_mult167 (i : grid0.Coords) : BitVec 32 :=
  let c2560_i32_1271 : BitVec 32 := 2560#32
  let arg0 : BitVec 32 := BitVec.ofNat 32 (i 0).val
  let c2_i32 : BitVec 32 := 2#32
  let v3 : BitVec 32 := Scalar.remsi arg0 c2_i32
  let c64_i32_1270 : BitVec 32 := 64#32
  let v2038 : BitVec 32 := Scalar.muli v3 c64_i32_1270
  let v2039 : BitVec 32 := Scalar.addi c2560_i32_1271 v2038
  let c32_i32_1272 : BitVec 32 := 32#32
  let v2040 : BitVec 32 := Scalar.addi v2039 c32_i32_1272
  v2040
def k0_mult168 (i : grid0.Coords) : BitVec 32 :=
  let c2560_i32_1280 : BitVec 32 := 2560#32
  let arg0 : BitVec 32 := BitVec.ofNat 32 (i 0).val
  let c2_i32 : BitVec 32 := 2#32
  let v3 : BitVec 32 := Scalar.remsi arg0 c2_i32
  let c64_i32_1279 : BitVec 32 := 64#32
  let v2050 : BitVec 32 := Scalar.muli v3 c64_i32_1279
  let v2051 : BitVec 32 := Scalar.addi c2560_i32_1280 v2050
  let c48_i32_1281 : BitVec 32 := 48#32
  let v2052 : BitVec 32 := Scalar.addi v2051 c48_i32_1281
  v2052
def k0_cond2 (i : grid0.Coords) : BitVec 1 :=
  let arg0 : BitVec 32 := BitVec.ofNat 32 (i 0).val
  let c0_i32_1284 : BitVec 32 := 0#32
  let v2058 : BitVec 1 := Scalar.cmpi .sgt arg0 c0_i32_1284
  let v2059 : BitVec 32 := Scalar.extui v2058
  let c0_i32_1285 : BitVec 32 := 0#32
  let v2060 : BitVec 1 := Scalar.cmpi .ne v2059 c0_i32_1285
  v2060

def k0_off3 (i : grid0.Coords) : Fin 3 → Nat :=
  let arg0 : BitVec 32 := BitVec.ofNat 32 (i 0).val
  let c1_i32 : BitVec 32 := 1#32
  let v2061 : BitVec 32 := Scalar.addi arg0 c1_i32
  let c2_i32_1286 : BitVec 32 := 2#32
  let v2062 : BitVec 32 := Scalar.remsi v2061 c2_i32_1286
  let v2063 : Index := Scalar.indexCast v2062
  let c0_1287 : Index := 0#32
  let c0_1288 : Index := 0#32
  ![v2063.toNat, 0, 0]
@[reducible] def k0_t1_loop : Scf.Loop 32 :=
  let c0_i32_1293 : BitVec 32 := 0#32
  let c20_i32 : BitVec 32 := 20#32
  let v2070 : BitVec 32 := Scalar.addi c0_i32_1293 c20_i32
  let c1_i32_1294 : BitVec 32 := 1#32
  ⟨c0_i32_1293, v2070, c1_i32_1294⟩
def k0_mult169 (k0_t1 : Fin k0_t1_loop.trips) : BitVec 32 :=
  let c0_i32_1297 : BitVec 32 := 0#32
  let c0_i32_1293 : BitVec 32 := 0#32
  let c1_i32_1294 : BitVec 32 := 1#32
  let arg13 : BitVec 32 := Scf.iv c0_i32_1293 c1_i32_1294 k0_t1
  let c1_i32_1296 : BitVec 32 := 1#32
  let v2071 : BitVec 32 := Scalar.muli arg13 c1_i32_1296
  let v2072 : BitVec 32 := Scalar.addi c0_i32_1297 v2071
  let c128_i32_1298 : BitVec 32 := 128#32
  let v2073 : BitVec 32 := Scalar.muli v2072 c128_i32_1298
  v2073
def k0_off4 (k0_t1 : Fin k0_t1_loop.trips) : Fin 3 → Nat :=
  let c0_1299 : Index := 0#32
  let c0_i32_1297 : BitVec 32 := 0#32
  let c0_i32_1293 : BitVec 32 := 0#32
  let c1_i32_1294 : BitVec 32 := 1#32
  let arg13 : BitVec 32 := Scf.iv c0_i32_1293 c1_i32_1294 k0_t1
  let c1_i32_1296 : BitVec 32 := 1#32
  let v2071 : BitVec 32 := Scalar.muli arg13 c1_i32_1296
  let v2072 : BitVec 32 := Scalar.addi c0_i32_1297 v2071
  let c128_i32_1298 : BitVec 32 := 128#32
  let v2073 : BitVec 32 := Scalar.muli v2072 c128_i32_1298
  let v2074 : BitVec 32 := v2073
  let v2075 : Index := Scalar.indexCast v2074
  let c0_1300 : Index := 0#32
  ![0, v2075.toNat, 0]
def k0_off5 (k0_t1 : Fin k0_t1_loop.trips) : Fin 4 → Nat :=
  let c0_1302 : Index := 0#32
  let c0_i32_1297 : BitVec 32 := 0#32
  let c0_i32_1293 : BitVec 32 := 0#32
  let c1_i32_1294 : BitVec 32 := 1#32
  let arg13 : BitVec 32 := Scf.iv c0_i32_1293 c1_i32_1294 k0_t1
  let c1_i32_1296 : BitVec 32 := 1#32
  let v2071 : BitVec 32 := Scalar.muli arg13 c1_i32_1296
  let v2072 : BitVec 32 := Scalar.addi c0_i32_1297 v2071
  let v2084 : Index := Scalar.indexCast v2072
  let c0_1303 : Index := 0#32
  let c0_1304 : Index := 0#32
  ![0, v2084.toNat, 0, 0]
def k0_off6 (k0_t1 : Fin k0_t1_loop.trips) : Fin 3 → Nat :=
  let c1_1305 : Index := 1#32
  let c0_i32_1297 : BitVec 32 := 0#32
  let c0_i32_1293 : BitVec 32 := 0#32
  let c1_i32_1294 : BitVec 32 := 1#32
  let arg13 : BitVec 32 := Scf.iv c0_i32_1293 c1_i32_1294 k0_t1
  let c1_i32_1296 : BitVec 32 := 1#32
  let v2071 : BitVec 32 := Scalar.muli arg13 c1_i32_1296
  let v2072 : BitVec 32 := Scalar.addi c0_i32_1297 v2071
  let c128_i32_1298 : BitVec 32 := 128#32
  let v2073 : BitVec 32 := Scalar.muli v2072 c128_i32_1298
  let v2074 : BitVec 32 := v2073
  let v2088 : Index := Scalar.indexCast v2074
  let c0_1306 : Index := 0#32
  ![1, v2088.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_6 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

abbrev stage0_0 : Fin 2 → Memref sig .tc .vmem S1x7x84x1536 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1536 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x96x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x20x96x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x20x96x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S21x7x84x1536 : Shape := ⟨4, ![21, 7, 84, 1536]⟩
abbrev S8x1536 : Shape := ⟨2, ![8, 1536]⟩
abbrev S8x8x4x96 : Shape := ⟨4, ![8, 8, 4, 96]⟩
abbrev S96 : Shape := ⟨1, ![96]⟩
abbrev S21x7x84x1536x1 : Shape := ⟨5, ![21, 7, 84, 1536, 1]⟩
abbrev S4 : Shape := ⟨1, ![4]⟩
abbrev S_ : Shape := ⟨0, ![]⟩
abbrev S1x1x1x1x4 : Shape := ⟨5, ![1, 1, 1, 1, 4]⟩
abbrev S21x7x84x1536x4 : Shape := ⟨5, ![21, 7, 84, 1536, 4]⟩
abbrev S21x7x21x4x1536x4 : Shape := ⟨6, ![21, 7, 21, 4, 1536, 4]⟩
abbrev S21x4x21x4x7x1536 : Shape := ⟨6, ![21, 4, 21, 4, 7, 1536]⟩
abbrev S84x84x7x1536 : Shape := ⟨4, ![84, 84, 7, 1536]⟩
abbrev S4x1536 : Shape := ⟨2, ![4, 1536]⟩
abbrev S1536 : Shape := ⟨1, ![1536]⟩
abbrev S1x1536 : Shape := ⟨2, ![1, 1536]⟩
abbrev S84x84x4x1536 : Shape := ⟨4, ![84, 84, 4, 1536]⟩
abbrev S20 : Shape := ⟨1, ![20]⟩
abbrev S20x1 : Shape := ⟨2, ![20, 1]⟩
abbrev S8 : Shape := ⟨1, ![8]⟩
abbrev S1x8 : Shape := ⟨2, ![1, 8]⟩
abbrev S20x8 : Shape := ⟨2, ![20, 8]⟩
abbrev S20x8x1 : Shape := ⟨3, ![20, 8, 1]⟩
abbrev S20x8x84x4x1536 : Shape := ⟨5, ![20, 8, 84, 4, 1536]⟩
abbrev S20x8x20x8x4x1536 : Shape := ⟨6, ![20, 8, 20, 8, 4, 1536]⟩
abbrev S96x20x20x1536 : Shape := ⟨4, ![96, 20, 20, 1536]⟩
abbrev S20x20x96x1536 : Shape := ⟨4, ![20, 20, 96, 1536]⟩
abbrev S96x1 : Shape := ⟨2, ![96, 1]⟩
abbrev S1x1x96x1 : Shape := ⟨4, ![1, 1, 96, 1]⟩

abbrev nBuf : Space → Nat
  | .hbm => 133
  | .vmem => 2
  | .smem => 0
  | _ => 0

abbrev hbmTy0_0 (i : Nat) : BufTy := match i % 128 with
  | 0 => ⟨S21x7x84x1536, .i32⟩
  | 1 => ⟨S8x1536, .i32⟩
  | 2 => ⟨S8x8x4x96, .fp8e4m3⟩
  | 3 => ⟨S96, .f32⟩
  | 4 => ⟨S96, .f32⟩
  | 5 => ⟨S8x8x4x96, .bf16⟩
  | 6 => ⟨S21x7x84x1536x1, .i32⟩
  | 7 => ⟨S4, .i32⟩
  | 8 => ⟨S_, .i32⟩
  | 9 => ⟨S4, .i32⟩
  | 10 => ⟨S4, .i32⟩
  | 11 => ⟨S1x1x1x1x4, .i32⟩
  | 12 => ⟨S21x7x84x1536x4, .i32⟩
  | 13 => ⟨S21x7x84x1536x4, .i32⟩
  | 14 => ⟨S21x7x84x1536x4, .i32⟩
  | 15 => ⟨S_, .i32⟩
  | 16 => ⟨S21x7x84x1536x4, .i32⟩
  | 17 => ⟨S21x7x84x1536x4, .i32⟩
  | 18 => ⟨S21x7x21x4x1536x4, .i32⟩
  | 19 => ⟨S21x4x21x4x7x1536, .i32⟩
  | 20 => ⟨S84x84x7x1536, .i32⟩
  | 21 => ⟨S4x1536, .i32⟩
  | 22 => ⟨S_, .i32⟩
  | 23 => ⟨S1536, .i32⟩
  | 24 => ⟨S1x1536, .i32⟩
  | 25 => ⟨S_, .i32⟩
  | 26 => ⟨S_, .i32⟩
  | 27 => ⟨S4x1536, .i32⟩
  | 28 => ⟨S4x1536, .i32⟩
  | 29 => ⟨S4x1536, .i32⟩
  | 30 => ⟨S_, .i32⟩
  | 31 => ⟨S4x1536, .i32⟩
  | 32 => ⟨S4x1536, .i1⟩
  | 33 => ⟨S4x1536, .i32⟩
  | 34 => ⟨S_, .i32⟩
  | 35 => ⟨S1536, .i32⟩
  | 36 => ⟨S1x1536, .i32⟩
  | 37 => ⟨S_, .i32⟩
  | 38 => ⟨S_, .i32⟩
  | 39 => ⟨S4x1536, .i32⟩
  | 40 => ⟨S4x1536, .i32⟩
  | 41 => ⟨S4x1536, .i32⟩
  | 42 => ⟨S_, .i32⟩
  | 43 => ⟨S4x1536, .i32⟩
  | 44 => ⟨S4x1536, .i1⟩
  | 45 => ⟨S84x84x4x1536, .i32⟩
  | 46 => ⟨S_, .i32⟩
  | 47 => ⟨S_, .i32⟩
  | 48 => ⟨S84x84x4x1536, .i1⟩
  | 49 => ⟨S84x84x4x1536, .i32⟩
  | 50 => ⟨S84x84x4x1536, .i32⟩
  | 51 => ⟨S84x84x4x1536, .bf16⟩
  | 52 => ⟨S84x84x4x1536, .i32⟩
  | 53 => ⟨S_, .i32⟩
  | 54 => ⟨S_, .i32⟩
  | 55 => ⟨S84x84x4x1536, .i1⟩
  | 56 => ⟨S84x84x4x1536, .i32⟩
  | 57 => ⟨S84x84x4x1536, .i32⟩
  | 58 => ⟨S84x84x4x1536, .bf16⟩
  | 59 => ⟨S20, .i32⟩
  | 60 => ⟨S20x1, .i32⟩
  | 61 => ⟨S_, .i32⟩
  | 62 => ⟨S20x1, .i32⟩
  | 63 => ⟨S20x1, .i32⟩
  | 64 => ⟨S8, .i32⟩
  | 65 => ⟨S1x8, .i32⟩
  | 66 => ⟨S20x8, .i32⟩
  | 67 => ⟨S20x8, .i32⟩
  | 68 => ⟨S20x8, .i32⟩
  | 69 => ⟨S_, .i32⟩
  | 70 => ⟨S20x8, .i32⟩
  | 71 => ⟨S20x8, .i1⟩
  | 72 => ⟨S_, .i32⟩
  | 73 => ⟨S20x8, .i32⟩
  | 74 => ⟨S20x8, .i32⟩
  | 75 => ⟨S20x8, .i32⟩
  | 76 => ⟨S20x8x1, .i32⟩
  | 77 => ⟨S20x8x84x4x1536, .bf16⟩
  | 78 => ⟨S_, .i32⟩
  | 79 => ⟨S20x8, .i32⟩
  | 80 => ⟨S20x8, .i1⟩
  | 81 => ⟨S_, .i32⟩
  | 82 => ⟨S20x8, .i32⟩
  | 83 => ⟨S20x8, .i32⟩
  | 84 => ⟨S20x8, .i32⟩
  | 85 => ⟨S20x8x1, .i32⟩
  | 86 => ⟨S20x8x20x8x4x1536, .bf16⟩
  | 87 => ⟨S96x20x20x1536, .f32⟩
  | 88 => ⟨S20x20x96x1536, .f32⟩
  | 89 => ⟨S96x1, .f32⟩
  | 90 => ⟨S1x1x96x1, .f32⟩
  | 91 => ⟨S20x20x96x1536, .f32⟩
  | 92 => ⟨S20x20x96x1536, .f32⟩
  | 93 => ⟨S96x1, .f32⟩
  | 94 => ⟨S1x1x96x1, .f32⟩
  | 95 => ⟨S20x20x96x1536, .f32⟩
  | 96 => ⟨S20x20x96x1536, .f32⟩
  | 97 => ⟨S_, .f32⟩
  | 98 => ⟨S20x20x96x1536, .f32⟩
  | 99 => ⟨S20x20x96x1536, .f32⟩
  | 100 => ⟨S20x20x96x1536, .bf16⟩
  | 101 => ⟨S_, .i32⟩
  | 102 => ⟨S20x8, .i32⟩
  | 103 => ⟨S20x8, .i1⟩
  | 104 => ⟨S_, .i32⟩
  | 105 => ⟨S20x8, .i32⟩
  | 106 => ⟨S20x8, .i32⟩
  | 107 => ⟨S20x8, .i32⟩
  | 108 => ⟨S20x8x1, .i32⟩
  | 109 => ⟨S20x8x84x4x1536, .bf16⟩
  | 110 => ⟨S_, .i32⟩
  | 111 => ⟨S20x8, .i32⟩
  | 112 => ⟨S20x8, .i1⟩
  | 113 => ⟨S_, .i32⟩
  | 114 => ⟨S20x8, .i32⟩
  | 115 => ⟨S20x8, .i32⟩
  | 116 => ⟨S20x8, .i32⟩
  | 117 => ⟨S20x8x1, .i32⟩
  | 118 => ⟨S20x8x20x8x4x1536, .bf16⟩
  | 119 => ⟨S96x20x20x1536, .f32⟩
  | 120 => ⟨S20x20x96x1536, .f32⟩
  | 121 => ⟨S96x1, .f32⟩
  | 122 => ⟨S1x1x96x1, .f32⟩
  | 123 => ⟨S20x20x96x1536, .f32⟩
  | 124 => ⟨S20x20x96x1536, .f32⟩
  | 125 => ⟨S96x1, .f32⟩
  | 126 => ⟨S1x1x96x1, .f32⟩
  | 127 => ⟨S20x20x96x1536, .f32⟩
  | _ => ⟨S21x7x84x1536, .i32⟩

abbrev hbmTy0_1 (i : Nat) : BufTy := match i % 128 with
  | 0 => ⟨S20x20x96x1536, .f32⟩
  | 1 => ⟨S_, .f32⟩
  | 2 => ⟨S20x20x96x1536, .f32⟩
  | 3 => ⟨S20x20x96x1536, .f32⟩
  | 4 => ⟨S20x20x96x1536, .bf16⟩
  | _ => ⟨S21x7x84x1536, .i32⟩

abbrev hbmTy (i : Nat) : BufTy := match i / 128 with
  | 0 => hbmTy0_0 i
  | 1 => hbmTy0_1 i
  | _ => ⟨S21x7x84x1536, .i32⟩

abbrev bufTy : (tb : Table) → Fin (tcTables nBuf tb) → BufTy
  | .hbm, ⟨i, _⟩ => hbmTy i
  | .local _ .vmem, ⟨0, _⟩ => ⟨S8x8x4x96, .fp8e4m3⟩
  | .local _ .vmem, ⟨1, _⟩ => ⟨S8x8x4x96, .bf16⟩
  | _, _ => ⟨S21x7x84x1536, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_call0_call0_c : Ref sig .tc := ⟨.hbm, 25, rfl⟩
abbrev main_call0_call0_v0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_call1_call0_c : Ref sig .tc := ⟨.hbm, 37, rfl⟩
abbrev main_call1_call0_v0 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_call3_v0 : Ref sig .tc := ⟨.hbm, 54, rfl⟩
abbrev main_call3_v1 : Ref sig .tc := ⟨.hbm, 55, rfl⟩
abbrev main_call3_v2 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_7 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_8 : Ref sig .tc := ⟨.hbm, 69, rfl⟩
abbrev main_v45 : Ref sig .tc := ⟨.hbm, 70, rfl⟩
abbrev main_v46 : Ref sig .tc := ⟨.hbm, 71, rfl⟩
abbrev main_c_9 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_10 : Ref sig .tc := ⟨.hbm, 78, rfl⟩
abbrev main_v52 : Ref sig .tc := ⟨.hbm, 79, rfl⟩
abbrev main_v53 : Ref sig .tc := ⟨.hbm, 80, rfl⟩
abbrev main_c_11 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_12 : Ref sig .tc := ⟨.hbm, 101, rfl⟩
abbrev main_v72 : Ref sig .tc := ⟨.hbm, 102, rfl⟩
abbrev main_v73 : Ref sig .tc := ⟨.hbm, 103, rfl⟩
abbrev main_c_13 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_14 : Ref sig .tc := ⟨.hbm, 110, rfl⟩
abbrev main_v79 : Ref sig .tc := ⟨.hbm, 111, rfl⟩
abbrev main_v80 : Ref sig .tc := ⟨.hbm, 112, rfl⟩
abbrev main_c_15 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_cst_16 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x8x4x96 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8x4x96 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Gather.lean ====
abbrev S84x21x45000 : Shape := ⟨3, ![84, 21, 45000]⟩
abbrev S45000 : Shape := ⟨1, ![45000]⟩
abbrev S1536 : Shape := ⟨1, ![1536]⟩
abbrev S21x7x84x1536 : Shape := ⟨4, ![21, 7, 84, 1536]⟩
abbrev S8x1536 : Shape := ⟨2, ![8, 1536]⟩
abbrev S45056 : Shape := ⟨1, ![45056]⟩
abbrev S10752 : Shape := ⟨1, ![10752]⟩
abbrev S2 : Shape := ⟨1, ![2]⟩
abbrev S_ : Shape := ⟨0, ![]⟩
abbrev S16 : Shape := ⟨1, ![16]⟩
abbrev S1x1x45000 : Shape := ⟨3, ![1, 1, 45000]⟩
abbrev S1 : Shape := ⟨1, ![1]⟩
abbrev S1x1x1x1536 : Shape := ⟨4, ![1, 1, 1, 1536]⟩
abbrev S1x1536 : Shape := ⟨2, ![1, 1536]⟩

abbrev nBuf : Table → Nat
  | .hbm => 5
  | .local .scVector .vmem => 5
  | _ => 0

abbrev bufTy : (tb : Table) → Fin (nBuf tb) → BufTy
  | .hbm, ⟨0, _⟩ => ⟨S84x21x45000, .i32⟩
  | .hbm, ⟨1, _⟩ => ⟨S45000, .i32⟩
  | .hbm, ⟨2, _⟩ => ⟨S1536, .i32⟩
  | .hbm, ⟨3, _⟩ => ⟨S21x7x84x1536, .i32⟩
  | .hbm, ⟨4, _⟩ => ⟨S8x1536, .i32⟩
  | .local .scVector .vmem, ⟨0, _⟩ => ⟨S45056, .i32⟩
  | .local .scVector .vmem, ⟨1, _⟩ => ⟨S45056, .i32⟩
  | .local .scVector .vmem, ⟨2, _⟩ => ⟨S1536, .i32⟩
  | .local .scVector .vmem, ⟨3, _⟩ => ⟨S10752, .i32⟩
  | .local .scVector .vmem, ⟨4, _⟩ => ⟨S10752, .i32⟩
  | _, _ => ⟨S84x21x45000, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v0_0_scv : Ref sig .scVector := ⟨.hbm, 3, rfl⟩
abbrev main_v0_1_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c96_i32 : BitVec 32 := 96#32
  let v2 : BitVec 32 := Scalar.addi c0_i32 c96_i32
  let c1_i32 : BitVec 32 := 1#32
  ⟨c0_i32, v2, c1_i32⟩
def k0_off1 (k0_t1 : Fin k0_t1_loop.trips) : Fin 1 → Nat :=
  let c0_i32_277 : BitVec 32 := 0#32
  let c0_i32 : BitVec 32 := 0#32
  let c1_i32 : BitVec 32 := 1#32
  let arg14 : BitVec 32 := Scf.iv c0_i32 c1_i32 k0_t1
  let c16_i32 : BitVec 32 := 16#32
  let v553 : BitVec 32 := Scalar.muli arg14 c16_i32
  let v554 : BitVec 32 := Scalar.addi c0_i32_277 v553
  let v555 : Index := Scalar.indexCast v554
  ![v555.toNat]
def k0_off2 (i : grid0.Coords) (c0_i32_9 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v23 : BitVec 32 := Scalar.addi v1 c0_i32_9
  let c0_i32_10 : BitVec 32 := 0#32
  let v25 : BitVec 1 := Scalar.cmpi .sgt v23 c0_i32_10
  let v26 : BitVec 32 := Scalar.extui v25
  let c0_i32_11 : BitVec 32 := 0#32
  let v27 : BitVec 1 := Scalar.cmpi .slt v23 c0_i32_11
  let v28 : BitVec 32 := Scalar.extui v27
  let v29 : BitVec 32 := Scalar.subi v26 v28
  let c21_i32 : BitVec 32 := 21#32
  let c0_i32_12 : BitVec 32 := 0#32
  let v30 : BitVec 1 := Scalar.cmpi .sgt c21_i32 c0_i32_12
  let v31 : BitVec 32 := Scalar.extui v30
  let c0_i32_13 : BitVec 32 := 0#32
  let v32 : BitVec 1 := Scalar.cmpi .slt c21_i32 c0_i32_13
  let v33 : BitVec 32 := Scalar.extui v32
  let v34 : BitVec 32 := Scalar.subi v31 v33
  let v35 : BitVec 1 := Scalar.cmpi .ne v29 v34
  let v36 : BitVec 32 := Scalar.remsi v23 c21_i32
  let c0_i32_14 : BitVec 32 := 0#32
  let v37 : BitVec 1 := Scalar.cmpi .ne v36 c0_i32_14
  let v38 : BitVec 1 := Scalar.andi v35 v37
  let v24 : BitVec 32 := Scalar.divsi v23 c21_i32
  let c1_i32_15 : BitVec 32 := 1#32
  let v39 : BitVec 32 := Scalar.subi v24 c1_i32_15
  let v40 : BitVec 32 := Scalar.select v38 v39 v24
  let c21_i32_16 : BitVec 32 := 21#32
  let c0_i32_17 : BitVec 32 := 0#32
  let v41 : BitVec 1 := Scalar.cmpi .eq c21_i32_16 c0_i32_17
  let c1_i32_18 : BitVec 32 := 1#32
  let v42 : BitVec 32 := Scalar.select v41 c1_i32_18 c21_i32_16
  let v43 : BitVec 32 := Scalar.remsi v23 v42
  let c0_i32_20 : BitVec 32 := 0#32
  let v45 : BitVec 1 := Scalar.cmpi .slt v43 c0_i32_20
  let c0_i32_21 : BitVec 32 := 0#32
  let v46 : BitVec 1 := Scalar.cmpi .slt v42 c0_i32_21
  let v47 : BitVec 1 := Scalar.xori v45 v46
  let c0_i32_19 : BitVec 32 := 0#32
  let v44 : BitVec 1 := Scalar.cmpi .ne v43 c0_i32_19
  let v48 : BitVec 1 := Scalar.andi v47 v44
  let v49 : BitVec 32 := Scalar.addi v43 v42
  let v50 : BitVec 32 := Scalar.select v48 v49 v43
  let c0_i32_24 : BitVec 32 := 0#32
  ![v40.toNat, v50.toNat, 0]
@[reducible] def k0_t2_loop (i : grid0.Coords) : Scf.Loop 32 :=
  let c0_i32_60 : BitVec 32 := 0#32
  let c1764_i32 : BitVec 32 := 1764#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v3 : BitVec 32 := Scalar.subi c1764_i32 v1
  let c32_i32 : BitVec 32 := 32#32
  let v4 : BitVec 32 := Scalar.addi v3 c32_i32
  let c1_i32_1 : BitVec 32 := 1#32
  let v5 : BitVec 32 := Scalar.subi v4 c1_i32_1
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c32_i32_2 : BitVec 32 := 32#32
  let c0_i32_5 : BitVec 32 := 0#32
  let v12 : BitVec 1 := Scalar.cmpi .sgt c32_i32_2 c0_i32_5
  let v13 : BitVec 32 := Scalar.extui v12
  let c0_i32_6 : BitVec 32 := 0#32
  let v14 : BitVec 1 := Scalar.cmpi .slt c32_i32_2 c0_i32_6
  let v15 : BitVec 32 := Scalar.extui v14
  let v16 : BitVec 32 := Scalar.subi v13 v15
  let v17 : BitVec 1 := Scalar.cmpi .ne v11 v16
  let v18 : BitVec 32 := Scalar.remsi v5 c32_i32_2
  let c0_i32_7 : BitVec 32 := 0#32
  let v19 : BitVec 1 := Scalar.cmpi .ne v18 c0_i32_7
  let v20 : BitVec 1 := Scalar.andi v17 v19
  let v6 : BitVec 32 := Scalar.divsi v5 c32_i32_2
  let c1_i32_8 : BitVec 32 := 1#32
  let v21 : BitVec 32 := Scalar.subi v6 c1_i32_8
  let v22 : BitVec 32 := Scalar.select v20 v21 v6
  let c1_i32_46 : BitVec 32 := 1#32
  let v95 : BitVec 32 := Scalar.addi v22 c1_i32_46
  let c0_i32_48 : BitVec 32 := 0#32
  let v97 : BitVec 1 := Scalar.cmpi .sgt v95 c0_i32_48
  let v98 : BitVec 32 := Scalar.extui v97
  let c0_i32_49 : BitVec 32 := 0#32
  let v99 : BitVec 1 := Scalar.cmpi .slt v95 c0_i32_49
  let v100 : BitVec 32 := Scalar.extui v99
  let v101 : BitVec 32 := Scalar.subi v98 v100
  let c2_i32_47 : BitVec 32 := 2#32
  let c0_i32_50 : BitVec 32 := 0#32
  let v102 : BitVec 1 := Scalar.cmpi .sgt c2_i32_47 c0_i32_50
  let v103 : BitVec 32 := Scalar.extui v102
  let c0_i32_51 : BitVec 32 := 0#32
  let v104 : BitVec 1 := Scalar.cmpi .slt c2_i32_47 c0_i32_51
  let v105 : BitVec 32 := Scalar.extui v104
  let v106 : BitVec 32 := Scalar.subi v103 v105
  let v107 : BitVec 1 := Scalar.cmpi .ne v101 v106
  let v108 : BitVec 32 := Scalar.remsi v95 c2_i32_47
  let c0_i32_52 : BitVec 32 := 0#32
  let v109 : BitVec 1 := Scalar.cmpi .ne v108 c0_i32_52
  let v110 : BitVec 1 := Scalar.andi v107 v109
  let v96 : BitVec 32 := Scalar.divsi v95 c2_i32_47
  let c1_i32_53 : BitVec 32 := 1#32
  let v111 : BitVec 32 := Scalar.subi v96 c1_i32_53
  let v112 : BitVec 32 := Scalar.select v110 v111 v96
  let c0_i32_54 : BitVec 32 := 0#32
  let v113 : BitVec 32 := Scalar.subi v112 c0_i32_54
  let c1_i32_55 : BitVec 32 := 1#32
  let c1_i32_56 : BitVec 32 := 1#32
  let v114 : BitVec 32 := Scalar.subi c1_i32_55 c1_i32_56
  let v115 : BitVec 32 := Scalar.addi v113 v114
  let c1_i32_57 : BitVec 32 := 1#32
  let v116 : BitVec 32 := Scalar.divsi v115 c1_i32_57
  let v117 : BitVec 32 := Scalar.subi v116 c0_i32_60
  let c1_i32_61 : BitVec 32 := 1#32
  let v119 : BitVec 32 := Scalar.divsi v117 c1_i32_61
  let v120 : BitVec 32 := Scalar.muli v119 c1_i32_61
  let v121 : BitVec 32 := Scalar.addi c0_i32_60 v120
  let c1_i32_62 : BitVec 32 := 1#32
  ⟨c0_i32_60, v121, c1_i32_62⟩
def k0_cond1 (i : grid0.Coords) (k0_t2 : Fin (k0_t2_loop i).trips) : BitVec 1 :=
  let c2_i32_277 : BitVec 32 := 2#32
  let c0_i32_59 : BitVec 32 := 0#32
  let c0_i32_60 : BitVec 32 := 0#32
  let c1_i32_62 : BitVec 32 := 1#32
  let arg14 : BitVec 32 := Scf.iv c0_i32_60 c1_i32_62 k0_t2
  let c1_i32_58 : BitVec 32 := 1#32
  let v553 : BitVec 32 := Scalar.muli arg14 c1_i32_58
  let v554 : BitVec 32 := Scalar.addi c0_i32_59 v553
  let v555 : BitVec 32 := Scalar.muli c2_i32_277 v554
  let c0_i32_278 : BitVec 32 := 0#32
  let v556 : BitVec 32 := Scalar.addi v555 c0_i32_278
  let c1764_i32 : BitVec 32 := 1764#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v3 : BitVec 32 := Scalar.subi c1764_i32 v1
  let c32_i32 : BitVec 32 := 32#32
  let v4 : BitVec 32 := Scalar.addi v3 c32_i32
  let c1_i32_1 : BitVec 32 := 1#32
  let v5 : BitVec 32 := Scalar.subi v4 c1_i32_1
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c32_i32_2 : BitVec 32 := 32#32
  let c0_i32_5 : BitVec 32 := 0#32
  let v12 : BitVec 1 := Scalar.cmpi .sgt c32_i32_2 c0_i32_5
  let v13 : BitVec 32 := Scalar.extui v12
  let c0_i32_6 : BitVec 32 := 0#32
  let v14 : BitVec 1 := Scalar.cmpi .slt c32_i32_2 c0_i32_6
  let v15 : BitVec 32 := Scalar.extui v14
  let v16 : BitVec 32 := Scalar.subi v13 v15
  let v17 : BitVec 1 := Scalar.cmpi .ne v11 v16
  let v18 : BitVec 32 := Scalar.remsi v5 c32_i32_2
  let c0_i32_7 : BitVec 32 := 0#32
  let v19 : BitVec 1 := Scalar.cmpi .ne v18 c0_i32_7
  let v20 : BitVec 1 := Scalar.andi v17 v19
  let v6 : BitVec 32 := Scalar.divsi v5 c32_i32_2
  let c1_i32_8 : BitVec 32 := 1#32
  let v21 : BitVec 32 := Scalar.subi v6 c1_i32_8
  let v22 : BitVec 32 := Scalar.select v20 v21 v6
  let v559 : BitVec 1 := Scalar.cmpi .slt v556 v22
  let v560 : BitVec 32 := Scalar.extui v559
  let c0_i32_280 : BitVec 32 := 0#32
  let v561 : BitVec 1 := Scalar.cmpi .ne v560 c0_i32_280
  v561

def k0_off3 (i : grid0.Coords) (k0_t2 : Fin (k0_t2_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_277 : BitVec 32 := 2#32
  let c0_i32_59 : BitVec 32 := 0#32
  let c0_i32_60 : BitVec 32 := 0#32
  let c1_i32_62 : BitVec 32 := 1#32
  let arg14 : BitVec 32 := Scf.iv c0_i32_60 c1_i32_62 k0_t2
  let c1_i32_58 : BitVec 32 := 1#32
  let v553 : BitVec 32 := Scalar.muli arg14 c1_i32_58
  let v554 : BitVec 32 := Scalar.addi c0_i32_59 v553
  let v555 : BitVec 32 := Scalar.muli c2_i32_277 v554
  let c0_i32_278 : BitVec 32 := 0#32
  let v556 : BitVec 32 := Scalar.addi v555 c0_i32_278
  let c32_i32_279 : BitVec 32 := 32#32
  let v557 : BitVec 32 := Scalar.muli v556 c32_i32_279
  let v558 : BitVec 32 := Scalar.addi v1 v557
  let c0_i32_286 : BitVec 32 := 0#32
  let v570 : BitVec 1 := Scalar.cmpi .sgt v558 c0_i32_286
  let v571 : BitVec 32 := Scalar.extui v570
  let c0_i32_287 : BitVec 32 := 0#32
  let v572 : BitVec 1 := Scalar.cmpi .slt v558 c0_i32_287
  let v573 : BitVec 32 := Scalar.extui v572
  let v574 : BitVec 32 := Scalar.subi v571 v573
  let c21_i32_285 : BitVec 32 := 21#32
  let c0_i32_288 : BitVec 32 := 0#32
  let v575 : BitVec 1 := Scalar.cmpi .sgt c21_i32_285 c0_i32_288
  let v576 : BitVec 32 := Scalar.extui v575
  let c0_i32_289 : BitVec 32 := 0#32
  let v577 : BitVec 1 := Scalar.cmpi .slt c21_i32_285 c0_i32_289
  let v578 : BitVec 32 := Scalar.extui v577
  let v579 : BitVec 32 := Scalar.subi v576 v578
  let v580 : BitVec 1 := Scalar.cmpi .ne v574 v579
  let v581 : BitVec 32 := Scalar.remsi v558 c21_i32_285
  let c0_i32_290 : BitVec 32 := 0#32
  let v582 : BitVec 1 := Scalar.cmpi .ne v581 c0_i32_290
  let v583 : BitVec 1 := Scalar.andi v580 v582
  let v569 : BitVec 32 := Scalar.divsi v558 c21_i32_285
  let c1_i32_291 : BitVec 32 := 1#32
  let v584 : BitVec 32 := Scalar.subi v569 c1_i32_291
  let v585 : BitVec 32 := Scalar.select v583 v584 v569
  let c21_i32_292 : BitVec 32 := 21#32
  let c0_i32_293 : BitVec 32 := 0#32
  let v586 : BitVec 1 := Scalar.cmpi .eq c21_i32_292 c0_i32_293
  let c1_i32_294 : BitVec 32 := 1#32
  let v587 : BitVec 32 := Scalar.select v586 c1_i32_294 c21_i32_292
  let v588 : BitVec 32 := Scalar.remsi v558 v587
  let c0_i32_296 : BitVec 32 := 0#32
  let v590 : BitVec 1 := Scalar.cmpi .slt v588 c0_i32_296
  let c0_i32_297 : BitVec 32 := 0#32
  let v591 : BitVec 1 := Scalar.cmpi .slt v587 c0_i32_297
  let v592 : BitVec 1 := Scalar.xori v590 v591
  let c0_i32_295 : BitVec 32 := 0#32
  let v589 : BitVec 1 := Scalar.cmpi .ne v588 c0_i32_295
  let v593 : BitVec 1 := Scalar.andi v592 v589
  let v594 : BitVec 32 := Scalar.addi v588 v587
  let v595 : BitVec 32 := Scalar.select v593 v594 v588
  let c0_i32_300 : BitVec 32 := 0#32
  ![v585.toNat, v595.toNat, 0]
def k0_cond2 (i : grid0.Coords) (k0_t2 : Fin (k0_t2_loop i).trips) : BitVec 1 :=
  let c2_i32_277 : BitVec 32 := 2#32
  let c0_i32_59 : BitVec 32 := 0#32
  let c0_i32_60 : BitVec 32 := 0#32
  let c1_i32_62 : BitVec 32 := 1#32
  let arg14 : BitVec 32 := Scf.iv c0_i32_60 c1_i32_62 k0_t2
  let c1_i32_58 : BitVec 32 := 1#32
  let v553 : BitVec 32 := Scalar.muli arg14 c1_i32_58
  let v554 : BitVec 32 := Scalar.addi c0_i32_59 v553
  let v555 : BitVec 32 := Scalar.muli c2_i32_277 v554
  let c0_i32_278 : BitVec 32 := 0#32
  let v556 : BitVec 32 := Scalar.addi v555 c0_i32_278
  let c2_i32_303 : BitVec 32 := 2#32
  let v604 : BitVec 1 := Scalar.cmpi .sge v556 c2_i32_303
  let v605 : BitVec 32 := Scalar.extui v604
  let c0_i32_304 : BitVec 32 := 0#32
  let v606 : BitVec 1 := Scalar.cmpi .ne v605 c0_i32_304
  v606

def k0_off4 (i : grid0.Coords) (k0_t2 : Fin (k0_t2_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_277 : BitVec 32 := 2#32
  let c0_i32_59 : BitVec 32 := 0#32
  let c0_i32_60 : BitVec 32 := 0#32
  let c1_i32_62 : BitVec 32 := 1#32
  let arg14 : BitVec 32 := Scf.iv c0_i32_60 c1_i32_62 k0_t2
  let c1_i32_58 : BitVec 32 := 1#32
  let v553 : BitVec 32 := Scalar.muli arg14 c1_i32_58
  let v554 : BitVec 32 := Scalar.addi c0_i32_59 v553
  let v555 : BitVec 32 := Scalar.muli c2_i32_277 v554
  let c0_i32_278 : BitVec 32 := 0#32
  let v556 : BitVec 32 := Scalar.addi v555 c0_i32_278
  let c32_i32_279 : BitVec 32 := 32#32
  let v557 : BitVec 32 := Scalar.muli v556 c32_i32_279
  let v558 : BitVec 32 := Scalar.addi v1 v557
  let c0_i32_423 : BitVec 32 := 0#32
  let v829 : BitVec 1 := Scalar.cmpi .sgt v558 c0_i32_423
  let v830 : BitVec 32 := Scalar.extui v829
  let c0_i32_424 : BitVec 32 := 0#32
  let v831 : BitVec 1 := Scalar.cmpi .slt v558 c0_i32_424
  let v832 : BitVec 32 := Scalar.extui v831
  let v833 : BitVec 32 := Scalar.subi v830 v832
  let c21_i32_422 : BitVec 32 := 21#32
  let c0_i32_425 : BitVec 32 := 0#32
  let v834 : BitVec 1 := Scalar.cmpi .sgt c21_i32_422 c0_i32_425
  let v835 : BitVec 32 := Scalar.extui v834
  let c0_i32_426 : BitVec 32 := 0#32
  let v836 : BitVec 1 := Scalar.cmpi .slt c21_i32_422 c0_i32_426
  let v837 : BitVec 32 := Scalar.extui v836
  let v838 : BitVec 32 := Scalar.subi v835 v837
  let v839 : BitVec 1 := Scalar.cmpi .ne v833 v838
  let v840 : BitVec 32 := Scalar.remsi v558 c21_i32_422
  let c0_i32_427 : BitVec 32 := 0#32
  let v841 : BitVec 1 := Scalar.cmpi .ne v840 c0_i32_427
  let v842 : BitVec 1 := Scalar.andi v839 v841
  let v828 : BitVec 32 := Scalar.divsi v558 c21_i32_422
  let c1_i32_428 : BitVec 32 := 1#32
  let v843 : BitVec 32 := Scalar.subi v828 c1_i32_428
  let v844 : BitVec 32 := Scalar.select v842 v843 v828
  let c0_i32_443 : BitVec 32 := 0#32
  let v868 : BitVec 1 := Scalar.cmpi .sgt v844 c0_i32_443
  let v869 : BitVec 32 := Scalar.extui v868
  let c0_i32_444 : BitVec 32 := 0#32
  let v870 : BitVec 1 := Scalar.cmpi .slt v844 c0_i32_444
  let v871 : BitVec 32 := Scalar.extui v870
  let v872 : BitVec 32 := Scalar.subi v869 v871
  let c4_i32_442 : BitVec 32 := 4#32
  let c0_i32_445 : BitVec 32 := 0#32
  let v873 : BitVec 1 := Scalar.cmpi .sgt c4_i32_442 c0_i32_445
  let v874 : BitVec 32 := Scalar.extui v873
  let c0_i32_446 : BitVec 32 := 0#32
  let v875 : BitVec 1 := Scalar.cmpi .slt c4_i32_442 c0_i32_446
  let v876 : BitVec 32 := Scalar.extui v875
  let v877 : BitVec 32 := Scalar.subi v874 v876
  let v878 : BitVec 1 := Scalar.cmpi .ne v872 v877
  let v879 : BitVec 32 := Scalar.remsi v844 c4_i32_442
  let c0_i32_447 : BitVec 32 := 0#32
  let v880 : BitVec 1 := Scalar.cmpi .ne v879 c0_i32_447
  let v881 : BitVec 1 := Scalar.andi v878 v880
  let v867 : BitVec 32 := Scalar.divsi v844 c4_i32_442
  let c1_i32_448 : BitVec 32 := 1#32
  let v882 : BitVec 32 := Scalar.subi v867 c1_i32_448
  let v883 : BitVec 32 := Scalar.select v881 v882 v867
  let c0_i32_491 : BitVec 32 := 0#32
  let c21_i32_429 : BitVec 32 := 21#32
  let c0_i32_430 : BitVec 32 := 0#32
  let v845 : BitVec 1 := Scalar.cmpi .eq c21_i32_429 c0_i32_430
  let c1_i32_431 : BitVec 32 := 1#32
  let v846 : BitVec 32 := Scalar.select v845 c1_i32_431 c21_i32_429
  let v847 : BitVec 32 := Scalar.remsi v558 v846
  let c0_i32_433 : BitVec 32 := 0#32
  let v849 : BitVec 1 := Scalar.cmpi .slt v847 c0_i32_433
  let c0_i32_434 : BitVec 32 := 0#32
  let v850 : BitVec 1 := Scalar.cmpi .slt v846 c0_i32_434
  let v851 : BitVec 1 := Scalar.xori v849 v850
  let c0_i32_432 : BitVec 32 := 0#32
  let v848 : BitVec 1 := Scalar.cmpi .ne v847 c0_i32_432
  let v852 : BitVec 1 := Scalar.andi v851 v848
  let v853 : BitVec 32 := Scalar.addi v847 v846
  let v854 : BitVec 32 := Scalar.select v852 v853 v847
  let c4_i32_435 : BitVec 32 := 4#32
  let v855 : BitVec 32 := Scalar.muli v854 c4_i32_435
  let c4_i32_436 : BitVec 32 := 4#32
  let c0_i32_437 : BitVec 32 := 0#32
  let v856 : BitVec 1 := Scalar.cmpi .eq c4_i32_436 c0_i32_437
  let c1_i32_438 : BitVec 32 := 1#32
  let v857 : BitVec 32 := Scalar.select v856 c1_i32_438 c4_i32_436
  let v858 : BitVec 32 := Scalar.remsi v844 v857
  let c0_i32_440 : BitVec 32 := 0#32
  let v860 : BitVec 1 := Scalar.cmpi .slt v858 c0_i32_440
  let c0_i32_441 : BitVec 32 := 0#32
  let v861 : BitVec 1 := Scalar.cmpi .slt v857 c0_i32_441
  let v862 : BitVec 1 := Scalar.xori v860 v861
  let c0_i32_439 : BitVec 32 := 0#32
  let v859 : BitVec 1 := Scalar.cmpi .ne v858 c0_i32_439
  let v863 : BitVec 1 := Scalar.andi v862 v859
  let v864 : BitVec 32 := Scalar.addi v858 v857
  let v865 : BitVec 32 := Scalar.select v863 v864 v858
  let v866 : BitVec 32 := Scalar.addi v855 v865
  let c0_i32_494 : BitVec 32 := 0#32
  ![v883.toNat, 0, v866.toNat, 0]
def k0_off5 (i : grid0.Coords) (k0_t2 : Fin (k0_t2_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_277 : BitVec 32 := 2#32
  let c0_i32_59 : BitVec 32 := 0#32
  let c0_i32_60 : BitVec 32 := 0#32
  let c1_i32_62 : BitVec 32 := 1#32
  let arg14 : BitVec 32 := Scf.iv c0_i32_60 c1_i32_62 k0_t2
  let c1_i32_58 : BitVec 32 := 1#32
  let v553 : BitVec 32 := Scalar.muli arg14 c1_i32_58
  let v554 : BitVec 32 := Scalar.addi c0_i32_59 v553
  let v555 : BitVec 32 := Scalar.muli c2_i32_277 v554
  let c0_i32_278 : BitVec 32 := 0#32
  let v556 : BitVec 32 := Scalar.addi v555 c0_i32_278
  let c32_i32_279 : BitVec 32 := 32#32
  let v557 : BitVec 32 := Scalar.muli v556 c32_i32_279
  let v558 : BitVec 32 := Scalar.addi v1 v557
  let c0_i32_423 : BitVec 32 := 0#32
  let v829 : BitVec 1 := Scalar.cmpi .sgt v558 c0_i32_423
  let v830 : BitVec 32 := Scalar.extui v829
  let c0_i32_424 : BitVec 32 := 0#32
  let v831 : BitVec 1 := Scalar.cmpi .slt v558 c0_i32_424
  let v832 : BitVec 32 := Scalar.extui v831
  let v833 : BitVec 32 := Scalar.subi v830 v832
  let c21_i32_422 : BitVec 32 := 21#32
  let c0_i32_425 : BitVec 32 := 0#32
  let v834 : BitVec 1 := Scalar.cmpi .sgt c21_i32_422 c0_i32_425
  let v835 : BitVec 32 := Scalar.extui v834
  let c0_i32_426 : BitVec 32 := 0#32
  let v836 : BitVec 1 := Scalar.cmpi .slt c21_i32_422 c0_i32_426
  let v837 : BitVec 32 := Scalar.extui v836
  let v838 : BitVec 32 := Scalar.subi v835 v837
  let v839 : BitVec 1 := Scalar.cmpi .ne v833 v838
  let v840 : BitVec 32 := Scalar.remsi v558 c21_i32_422
  let c0_i32_427 : BitVec 32 := 0#32
  let v841 : BitVec 1 := Scalar.cmpi .ne v840 c0_i32_427
  let v842 : BitVec 1 := Scalar.andi v839 v841
  let v828 : BitVec 32 := Scalar.divsi v558 c21_i32_422
  let c1_i32_428 : BitVec 32 := 1#32
  let v843 : BitVec 32 := Scalar.subi v828 c1_i32_428
  let v844 : BitVec 32 := Scalar.select v842 v843 v828
  let c0_i32_450 : BitVec 32 := 0#32
  let v885 : BitVec 1 := Scalar.cmpi .sgt v844 c0_i32_450
  let v886 : BitVec 32 := Scalar.extui v885
  let c0_i32_451 : BitVec 32 := 0#32
  let v887 : BitVec 1 := Scalar.cmpi .slt v844 c0_i32_451
  let v888 : BitVec 32 := Scalar.extui v887
  let v889 : BitVec 32 := Scalar.subi v886 v888
  let c4_i32_449 : BitVec 32 := 4#32
  let c0_i32_452 : BitVec 32 := 0#32
  let v890 : BitVec 1 := Scalar.cmpi .sgt c4_i32_449 c0_i32_452
  let v891 : BitVec 32 := Scalar.extui v890
  let c0_i32_453 : BitVec 32 := 0#32
  let v892 : BitVec 1 := Scalar.cmpi .slt c4_i32_449 c0_i32_453
  let v893 : BitVec 32 := Scalar.extui v892
  let v894 : BitVec 32 := Scalar.subi v891 v893
  let v895 : BitVec 1 := Scalar.cmpi .ne v889 v894
  let v896 : BitVec 32 := Scalar.remsi v844 c4_i32_449
  let c0_i32_454 : BitVec 32 := 0#32
  let v897 : BitVec 1 := Scalar.cmpi .ne v896 c0_i32_454
  let v898 : BitVec 1 := Scalar.andi v895 v897
  let v884 : BitVec 32 := Scalar.divsi v844 c4_i32_449
  let c1_i32_455 : BitVec 32 := 1#32
  let v899 : BitVec 32 := Scalar.subi v884 c1_i32_455
  let v900 : BitVec 32 := Scalar.select v898 v899 v884
  let c1_i32_497 : BitVec 32 := 1#32
  let c21_i32_429 : BitVec 32 := 21#32
  let c0_i32_430 : BitVec 32 := 0#32
  let v845 : BitVec 1 := Scalar.cmpi .eq c21_i32_429 c0_i32_430
  let c1_i32_431 : BitVec 32 := 1#32
  let v846 : BitVec 32 := Scalar.select v845 c1_i32_431 c21_i32_429
  let v847 : BitVec 32 := Scalar.remsi v558 v846
  let c0_i32_433 : BitVec 32 := 0#32
  let v849 : BitVec 1 := Scalar.cmpi .slt v847 c0_i32_433
  let c0_i32_434 : BitVec 32 := 0#32
  let v850 : BitVec 1 := Scalar.cmpi .slt v846 c0_i32_434
  let v851 : BitVec 1 := Scalar.xori v849 v850
  let c0_i32_432 : BitVec 32 := 0#32
  let v848 : BitVec 1 := Scalar.cmpi .ne v847 c0_i32_432
  let v852 : BitVec 1 := Scalar.andi v851 v848
  let v853 : BitVec 32 := Scalar.addi v847 v846
  let v854 : BitVec 32 := Scalar.select v852 v853 v847
  let c4_i32_435 : BitVec 32 := 4#32
  let v855 : BitVec 32 := Scalar.muli v854 c4_i32_435
  let c4_i32_436 : BitVec 32 := 4#32
  let c0_i32_437 : BitVec 32 := 0#32
  let v856 : BitVec 1 := Scalar.cmpi .eq c4_i32_436 c0_i32_437
  let c1_i32_438 : BitVec 32 := 1#32
  let v857 : BitVec 32 := Scalar.select v856 c1_i32_438 c4_i32_436
  let v858 : BitVec 32 := Scalar.remsi v844 v857
  let c0_i32_440 : BitVec 32 := 0#32
  let v860 : BitVec 1 := Scalar.cmpi .slt v858 c0_i32_440
  let c0_i32_441 : BitVec 32 := 0#32
  let v861 : BitVec 1 := Scalar.cmpi .slt v857 c0_i32_441
  let v862 : BitVec 1 := Scalar.xori v860 v861
  let c0_i32_439 : BitVec 32 := 0#32
  let v859 : BitVec 1 := Scalar.cmpi .ne v858 c0_i32_439
  let v863 : BitVec 1 := Scalar.andi v862 v859
  let v864 : BitVec 32 := Scalar.addi v858 v857
  let v865 : BitVec 32 := Scalar.select v863 v864 v858
  let v866 : BitVec 32 := Scalar.addi v855 v865
  let c0_i32_500 : BitVec 32 := 0#32
  ![v900.toNat, 1, v866.toNat, 0]
def k0_off6 (i : grid0.Coords) (k0_t2 : Fin (k0_t2_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_277 : BitVec 32 := 2#32
  let c0_i32_59 : BitVec 32 := 0#32
  let c0_i32_60 : BitVec 32 := 0#32
  let c1_i32_62 : BitVec 32 := 1#32
  let arg14 : BitVec 32 := Scf.iv c0_i32_60 c1_i32_62 k0_t2
  let c1_i32_58 : BitVec 32 := 1#32
  let v553 : BitVec 32 := Scalar.muli arg14 c1_i32_58
  let v554 : BitVec 32 := Scalar.addi c0_i32_59 v553
  let v555 : BitVec 32 := Scalar.muli c2_i32_277 v554
  let c0_i32_278 : BitVec 32 := 0#32
  let v556 : BitVec 32 := Scalar.addi v555 c0_i32_278
  let c32_i32_279 : BitVec 32 := 32#32
  let v557 : BitVec 32 := Scalar.muli v556 c32_i32_279
  let v558 : BitVec 32 := Scalar.addi v1 v557
  let c0_i32_423 : BitVec 32 := 0#32
  let v829 : BitVec 1 := Scalar.cmpi .sgt v558 c0_i32_423
  let v830 : BitVec 32 := Scalar.extui v829
  let c0_i32_424 : BitVec 32 := 0#32
  let v831 : BitVec 1 := Scalar.cmpi .slt v558 c0_i32_424
  let v832 : BitVec 32 := Scalar.extui v831
  let v833 : BitVec 32 := Scalar.subi v830 v832
  let c21_i32_422 : BitVec 32 := 21#32
  let c0_i32_425 : BitVec 32 := 0#32
  let v834 : BitVec 1 := Scalar.cmpi .sgt c21_i32_422 c0_i32_425
  let v835 : BitVec 32 := Scalar.extui v834
  let c0_i32_426 : BitVec 32 := 0#32
  let v836 : BitVec 1 := Scalar.cmpi .slt c21_i32_422 c0_i32_426
  let v837 : BitVec 32 := Scalar.extui v836
  let v838 : BitVec 32 := Scalar.subi v835 v837
  let v839 : BitVec 1 := Scalar.cmpi .ne v833 v838
  let v840 : BitVec 32 := Scalar.remsi v558 c21_i32_422
  let c0_i32_427 : BitVec 32 := 0#32
  let v841 : BitVec 1 := Scalar.cmpi .ne v840 c0_i32_427
  let v842 : BitVec 1 := Scalar.andi v839 v841
  let v828 : BitVec 32 := Scalar.divsi v558 c21_i32_422
  let c1_i32_428 : BitVec 32 := 1#32
  let v843 : BitVec 32 := Scalar.subi v828 c1_i32_428
  let v844 : BitVec 32 := Scalar.select v842 v843 v828
  let c0_i32_457 : BitVec 32 := 0#32
  let v902 : BitVec 1 := Scalar.cmpi .sgt v844 c0_i32_457
  let v903 : BitVec 32 := Scalar.extui v902
  let c0_i32_458 : BitVec 32 := 0#32
  let v904 : BitVec 1 := Scalar.cmpi .slt v844 c0_i32_458
  let v905 : BitVec 32 := Scalar.extui v904
  let v906 : BitVec 32 := Scalar.subi v903 v905
  let c4_i32_456 : BitVec 32 := 4#32
  let c0_i32_459 : BitVec 32 := 0#32
  let v907 : BitVec 1 := Scalar.cmpi .sgt c4_i32_456 c0_i32_459
  let v908 : BitVec 32 := Scalar.extui v907
  let c0_i32_460 : BitVec 32 := 0#32
  let v909 : BitVec 1 := Scalar.cmpi .slt c4_i32_456 c0_i32_460
  let v910 : BitVec 32 := Scalar.extui v909
  let v911 : BitVec 32 := Scalar.subi v908 v910
  let v912 : BitVec 1 := Scalar.cmpi .ne v906 v911
  let v913 : BitVec 32 := Scalar.remsi v844 c4_i32_456
  let c0_i32_461 : BitVec 32 := 0#32
  let v914 : BitVec 1 := Scalar.cmpi .ne v913 c0_i32_461
  let v915 : BitVec 1 := Scalar.andi v912 v914
  let v901 : BitVec 32 := Scalar.divsi v844 c4_i32_456
  let c1_i32_462 : BitVec 32 := 1#32
  let v916 : BitVec 32 := Scalar.subi v901 c1_i32_462
  let v917 : BitVec 32 := Scalar.select v915 v916 v901
  let c2_i32_503 : BitVec 32 := 2#32
  let c21_i32_429 : BitVec 32 := 21#32
  let c0_i32_430 : BitVec 32 := 0#32
  let v845 : BitVec 1 := Scalar.cmpi .eq c21_i32_429 c0_i32_430
  let c1_i32_431 : BitVec 32 := 1#32
  let v846 : BitVec 32 := Scalar.select v845 c1_i32_431 c21_i32_429
  let v847 : BitVec 32 := Scalar.remsi v558 v846
  let c0_i32_433 : BitVec 32 := 0#32
  let v849 : BitVec 1 := Scalar.cmpi .slt v847 c0_i32_433
  let c0_i32_434 : BitVec 32 := 0#32
  let v850 : BitVec 1 := Scalar.cmpi .slt v846 c0_i32_434
  let v851 : BitVec 1 := Scalar.xori v849 v850
  let c0_i32_432 : BitVec 32 := 0#32
  let v848 : BitVec 1 := Scalar.cmpi .ne v847 c0_i32_432
  let v852 : BitVec 1 := Scalar.andi v851 v848
  let v853 : BitVec 32 := Scalar.addi v847 v846
  let v854 : BitVec 32 := Scalar.select v852 v853 v847
  let c4_i32_435 : BitVec 32 := 4#32
  let v855 : BitVec 32 := Scalar.muli v854 c4_i32_435
  let c4_i32_436 : BitVec 32 := 4#32
  let c0_i32_437 : BitVec 32 := 0#32
  let v856 : BitVec 1 := Scalar.cmpi .eq c4_i32_436 c0_i32_437
  let c1_i32_438 : BitVec 32 := 1#32
  let v857 : BitVec 32 := Scalar.select v856 c1_i32_438 c4_i32_436
  let v858 : BitVec 32 := Scalar.remsi v844 v857
  let c0_i32_440 : BitVec 32 := 0#32
  let v860 : BitVec 1 := Scalar.cmpi .slt v858 c0_i32_440
  let c0_i32_441 : BitVec 32 := 0#32
  let v861 : BitVec 1 := Scalar.cmpi .slt v857 c0_i32_441
  let v862 : BitVec 1 := Scalar.xori v860 v861
  let c0_i32_439 : BitVec 32 := 0#32
  let v859 : BitVec 1 := Scalar.cmpi .ne v858 c0_i32_439
  let v863 : BitVec 1 := Scalar.andi v862 v859
  let v864 : BitVec 32 := Scalar.addi v858 v857
  let v865 : BitVec 32 := Scalar.select v863 v864 v858
  let v866 : BitVec 32 := Scalar.addi v855 v865
  let c0_i32_506 : BitVec 32 := 0#32
  ![v917.toNat, 2, v866.toNat, 0]
def k0_off7 (i : grid0.Coords) (k0_t2 : Fin (k0_t2_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_277 : BitVec 32 := 2#32
  let c0_i32_59 : BitVec 32 := 0#32
  let c0_i32_60 : BitVec 32 := 0#32
  let c1_i32_62 : BitVec 32 := 1#32
  let arg14 : BitVec 32 := Scf.iv c0_i32_60 c1_i32_62 k0_t2
  let c1_i32_58 : BitVec 32 := 1#32
  let v553 : BitVec 32 := Scalar.muli arg14 c1_i32_58
  let v554 : BitVec 32 := Scalar.addi c0_i32_59 v553
  let v555 : BitVec 32 := Scalar.muli c2_i32_277 v554
  let c0_i32_278 : BitVec 32 := 0#32
  let v556 : BitVec 32 := Scalar.addi v555 c0_i32_278
  let c32_i32_279 : BitVec 32 := 32#32
  let v557 : BitVec 32 := Scalar.muli v556 c32_i32_279
  let v558 : BitVec 32 := Scalar.addi v1 v557
  let c0_i32_423 : BitVec 32 := 0#32
  let v829 : BitVec 1 := Scalar.cmpi .sgt v558 c0_i32_423
  let v830 : BitVec 32 := Scalar.extui v829
  let c0_i32_424 : BitVec 32 := 0#32
  let v831 : BitVec 1 := Scalar.cmpi .slt v558 c0_i32_424
  let v832 : BitVec 32 := Scalar.extui v831
  let v833 : BitVec 32 := Scalar.subi v830 v832
  let c21_i32_422 : BitVec 32 := 21#32
  let c0_i32_425 : BitVec 32 := 0#32
  let v834 : BitVec 1 := Scalar.cmpi .sgt c21_i32_422 c0_i32_425
  let v835 : BitVec 32 := Scalar.extui v834
  let c0_i32_426 : BitVec 32 := 0#32
  let v836 : BitVec 1 := Scalar.cmpi .slt c21_i32_422 c0_i32_426
  let v837 : BitVec 32 := Scalar.extui v836
  let v838 : BitVec 32 := Scalar.subi v835 v837
  let v839 : BitVec 1 := Scalar.cmpi .ne v833 v838
  let v840 : BitVec 32 := Scalar.remsi v558 c21_i32_422
  let c0_i32_427 : BitVec 32 := 0#32
  let v841 : BitVec 1 := Scalar.cmpi .ne v840 c0_i32_427
  let v842 : BitVec 1 := Scalar.andi v839 v841
  let v828 : BitVec 32 := Scalar.divsi v558 c21_i32_422
  let c1_i32_428 : BitVec 32 := 1#32
  let v843 : BitVec 32 := Scalar.subi v828 c1_i32_428
  let v844 : BitVec 32 := Scalar.select v842 v843 v828
  let c0_i32_464 : BitVec 32 := 0#32
  let v919 : BitVec 1 := Scalar.cmpi .sgt v844 c0_i32_464
  let v920 : BitVec 32 := Scalar.extui v919
  let c0_i32_465 : BitVec 32 := 0#32
  let v921 : BitVec 1 := Scalar.cmpi .slt v844 c0_i32_465
  let v922 : BitVec 32 := Scalar.extui v921
  let v923 : BitVec 32 := Scalar.subi v920 v922
  let c4_i32_463 : BitVec 32 := 4#32
  let c0_i32_466 : BitVec 32 := 0#32
  let v924 : BitVec 1 := Scalar.cmpi .sgt c4_i32_463 c0_i32_466
  let v925 : BitVec 32 := Scalar.extui v924
  let c0_i32_467 : BitVec 32 := 0#32
  let v926 : BitVec 1 := Scalar.cmpi .slt c4_i32_463 c0_i32_467
  let v927 : BitVec 32 := Scalar.extui v926
  let v928 : BitVec 32 := Scalar.subi v925 v927
  let v929 : BitVec 1 := Scalar.cmpi .ne v923 v928
  let v930 : BitVec 32 := Scalar.remsi v844 c4_i32_463
  let c0_i32_468 : BitVec 32 := 0#32
  let v931 : BitVec 1 := Scalar.cmpi .ne v930 c0_i32_468
  let v932 : BitVec 1 := Scalar.andi v929 v931
  let v918 : BitVec 32 := Scalar.divsi v844 c4_i32_463
  let c1_i32_469 : BitVec 32 := 1#32
  let v933 : BitVec 32 := Scalar.subi v918 c1_i32_469
  let v934 : BitVec 32 := Scalar.select v932 v933 v918
  let c3_i32_509 : BitVec 32 := 3#32
  let c21_i32_429 : BitVec 32 := 21#32
  let c0_i32_430 : BitVec 32 := 0#32
  let v845 : BitVec 1 := Scalar.cmpi .eq c21_i32_429 c0_i32_430
  let c1_i32_431 : BitVec 32 := 1#32
  let v846 : BitVec 32 := Scalar.select v845 c1_i32_431 c21_i32_429
  let v847 : BitVec 32 := Scalar.remsi v558 v846
  let c0_i32_433 : BitVec 32 := 0#32
  let v849 : BitVec 1 := Scalar.cmpi .slt v847 c0_i32_433
  let c0_i32_434 : BitVec 32 := 0#32
  let v850 : BitVec 1 := Scalar.cmpi .slt v846 c0_i32_434
  let v851 : BitVec 1 := Scalar.xori v849 v850
  let c0_i32_432 : BitVec 32 := 0#32
  let v848 : BitVec 1 := Scalar.cmpi .ne v847 c0_i32_432
  let v852 : BitVec 1 := Scalar.andi v851 v848
  let v853 : BitVec 32 := Scalar.addi v847 v846
  let v854 : BitVec 32 := Scalar.select v852 v853 v847
  let c4_i32_435 : BitVec 32 := 4#32
  let v855 : BitVec 32 := Scalar.muli v854 c4_i32_435
  let c4_i32_436 : BitVec 32 := 4#32
  let c0_i32_437 : BitVec 32 := 0#32
  let v856 : BitVec 1 := Scalar.cmpi .eq c4_i32_436 c0_i32_437
  let c1_i32_438 : BitVec 32 := 1#32
  let v857 : BitVec 32 := Scalar.select v856 c1_i32_438 c4_i32_436
  let v858 : BitVec 32 := Scalar.remsi v844 v857
  let c0_i32_440 : BitVec 32 := 0#32
  let v860 : BitVec 1 := Scalar.cmpi .slt v858 c0_i32_440
  let c0_i32_441 : BitVec 32 := 0#32
  let v861 : BitVec 1 := Scalar.cmpi .slt v857 c0_i32_441
  let v862 : BitVec 1 := Scalar.xori v860 v861
  let c0_i32_439 : BitVec 32 := 0#32
  let v859 : BitVec 1 := Scalar.cmpi .ne v858 c0_i32_439
  let v863 : BitVec 1 := Scalar.andi v862 v859
  let v864 : BitVec 32 := Scalar.addi v858 v857
  let v865 : BitVec 32 := Scalar.select v863 v864 v858
  let v866 : BitVec 32 := Scalar.addi v855 v865
  let c0_i32_512 : BitVec 32 := 0#32
  ![v934.toNat, 3, v866.toNat, 0]
def k0_off8 (i : grid0.Coords) (k0_t2 : Fin (k0_t2_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_277 : BitVec 32 := 2#32
  let c0_i32_59 : BitVec 32 := 0#32
  let c0_i32_60 : BitVec 32 := 0#32
  let c1_i32_62 : BitVec 32 := 1#32
  let arg14 : BitVec 32 := Scf.iv c0_i32_60 c1_i32_62 k0_t2
  let c1_i32_58 : BitVec 32 := 1#32
  let v553 : BitVec 32 := Scalar.muli arg14 c1_i32_58
  let v554 : BitVec 32 := Scalar.addi c0_i32_59 v553
  let v555 : BitVec 32 := Scalar.muli c2_i32_277 v554
  let c0_i32_278 : BitVec 32 := 0#32
  let v556 : BitVec 32 := Scalar.addi v555 c0_i32_278
  let c32_i32_279 : BitVec 32 := 32#32
  let v557 : BitVec 32 := Scalar.muli v556 c32_i32_279
  let v558 : BitVec 32 := Scalar.addi v1 v557
  let c0_i32_423 : BitVec 32 := 0#32
  let v829 : BitVec 1 := Scalar.cmpi .sgt v558 c0_i32_423
  let v830 : BitVec 32 := Scalar.extui v829
  let c0_i32_424 : BitVec 32 := 0#32
  let v831 : BitVec 1 := Scalar.cmpi .slt v558 c0_i32_424
  let v832 : BitVec 32 := Scalar.extui v831
  let v833 : BitVec 32 := Scalar.subi v830 v832
  let c21_i32_422 : BitVec 32 := 21#32
  let c0_i32_425 : BitVec 32 := 0#32
  let v834 : BitVec 1 := Scalar.cmpi .sgt c21_i32_422 c0_i32_425
  let v835 : BitVec 32 := Scalar.extui v834
  let c0_i32_426 : BitVec 32 := 0#32
  let v836 : BitVec 1 := Scalar.cmpi .slt c21_i32_422 c0_i32_426
  let v837 : BitVec 32 := Scalar.extui v836
  let v838 : BitVec 32 := Scalar.subi v835 v837
  let v839 : BitVec 1 := Scalar.cmpi .ne v833 v838
  let v840 : BitVec 32 := Scalar.remsi v558 c21_i32_422
  let c0_i32_427 : BitVec 32 := 0#32
  let v841 : BitVec 1 := Scalar.cmpi .ne v840 c0_i32_427
  let v842 : BitVec 1 := Scalar.andi v839 v841
  let v828 : BitVec 32 := Scalar.divsi v558 c21_i32_422
  let c1_i32_428 : BitVec 32 := 1#32
  let v843 : BitVec 32 := Scalar.subi v828 c1_i32_428
  let v844 : BitVec 32 := Scalar.select v842 v843 v828
  let c0_i32_471 : BitVec 32 := 0#32
  let v936 : BitVec 1 := Scalar.cmpi .sgt v844 c0_i32_471
  let v937 : BitVec 32 := Scalar.extui v936
  let c0_i32_472 : BitVec 32 := 0#32
  let v938 : BitVec 1 := Scalar.cmpi .slt v844 c0_i32_472
  let v939 : BitVec 32 := Scalar.extui v938
  let v940 : BitVec 32 := Scalar.subi v937 v939
  let c4_i32_470 : BitVec 32 := 4#32
  let c0_i32_473 : BitVec 32 := 0#32
  let v941 : BitVec 1 := Scalar.cmpi .sgt c4_i32_470 c0_i32_473
  let v942 : BitVec 32 := Scalar.extui v941
  let c0_i32_474 : BitVec 32 := 0#32
  let v943 : BitVec 1 := Scalar.cmpi .slt c4_i32_470 c0_i32_474
  let v944 : BitVec 32 := Scalar.extui v943
  let v945 : BitVec 32 := Scalar.subi v942 v944
  let v946 : BitVec 1 := Scalar.cmpi .ne v940 v945
  let v947 : BitVec 32 := Scalar.remsi v844 c4_i32_470
  let c0_i32_475 : BitVec 32 := 0#32
  let v948 : BitVec 1 := Scalar.cmpi .ne v947 c0_i32_475
  let v949 : BitVec 1 := Scalar.andi v946 v948
  let v935 : BitVec 32 := Scalar.divsi v844 c4_i32_470
  let c1_i32_476 : BitVec 32 := 1#32
  let v950 : BitVec 32 := Scalar.subi v935 c1_i32_476
  let v951 : BitVec 32 := Scalar.select v949 v950 v935
  let c4_i32_515 : BitVec 32 := 4#32
  let c21_i32_429 : BitVec 32 := 21#32
  let c0_i32_430 : BitVec 32 := 0#32
  let v845 : BitVec 1 := Scalar.cmpi .eq c21_i32_429 c0_i32_430
  let c1_i32_431 : BitVec 32 := 1#32
  let v846 : BitVec 32 := Scalar.select v845 c1_i32_431 c21_i32_429
  let v847 : BitVec 32 := Scalar.remsi v558 v846
  let c0_i32_433 : BitVec 32 := 0#32
  let v849 : BitVec 1 := Scalar.cmpi .slt v847 c0_i32_433
  let c0_i32_434 : BitVec 32 := 0#32
  let v850 : BitVec 1 := Scalar.cmpi .slt v846 c0_i32_434
  let v851 : BitVec 1 := Scalar.xori v849 v850
  let c0_i32_432 : BitVec 32 := 0#32
  let v848 : BitVec 1 := Scalar.cmpi .ne v847 c0_i32_432
  let v852 : BitVec 1 := Scalar.andi v851 v848
  let v853 : BitVec 32 := Scalar.addi v847 v846
  let v854 : BitVec 32 := Scalar.select v852 v853 v847
  let c4_i32_435 : BitVec 32 := 4#32
  let v855 : BitVec 32 := Scalar.muli v854 c4_i32_435
  let c4_i32_436 : BitVec 32 := 4#32
  let c0_i32_437 : BitVec 32 := 0#32
  let v856 : BitVec 1 := Scalar.cmpi .eq c4_i32_436 c0_i32_437
  let c1_i32_438 : BitVec 32 := 1#32
  let v857 : BitVec 32 := Scalar.select v856 c1_i32_438 c4_i32_436
  let v858 : BitVec 32 := Scalar.remsi v844 v857
  let c0_i32_440 : BitVec 32 := 0#32
  let v860 : BitVec 1 := Scalar.cmpi .slt v858 c0_i32_440
  let c0_i32_441 : BitVec 32 := 0#32
  let v861 : BitVec 1 := Scalar.cmpi .slt v857 c0_i32_441
  let v862 : BitVec 1 := Scalar.xori v860 v861
  let c0_i32_439 : BitVec 32 := 0#32
  let v859 : BitVec 1 := Scalar.cmpi .ne v858 c0_i32_439
  let v863 : BitVec 1 := Scalar.andi v862 v859
  let v864 : BitVec 32 := Scalar.addi v858 v857
  let v865 : BitVec 32 := Scalar.select v863 v864 v858
  let v866 : BitVec 32 := Scalar.addi v855 v865
  let c0_i32_518 : BitVec 32 := 0#32
  ![v951.toNat, 4, v866.toNat, 0]
def k0_off9 (i : grid0.Coords) (k0_t2 : Fin (k0_t2_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_277 : BitVec 32 := 2#32
  let c0_i32_59 : BitVec 32 := 0#32
  let c0_i32_60 : BitVec 32 := 0#32
  let c1_i32_62 : BitVec 32 := 1#32
  let arg14 : BitVec 32 := Scf.iv c0_i32_60 c1_i32_62 k0_t2
  let c1_i32_58 : BitVec 32 := 1#32
  let v553 : BitVec 32 := Scalar.muli arg14 c1_i32_58
  let v554 : BitVec 32 := Scalar.addi c0_i32_59 v553
  let v555 : BitVec 32 := Scalar.muli c2_i32_277 v554
  let c0_i32_278 : BitVec 32 := 0#32
  let v556 : BitVec 32 := Scalar.addi v555 c0_i32_278
  let c32_i32_279 : BitVec 32 := 32#32
  let v557 : BitVec 32 := Scalar.muli v556 c32_i32_279
  let v558 : BitVec 32 := Scalar.addi v1 v557
  let c0_i32_423 : BitVec 32 := 0#32
  let v829 : BitVec 1 := Scalar.cmpi .sgt v558 c0_i32_423
  let v830 : BitVec 32 := Scalar.extui v829
  let c0_i32_424 : BitVec 32 := 0#32
  let v831 : BitVec 1 := Scalar.cmpi .slt v558 c0_i32_424
  let v832 : BitVec 32 := Scalar.extui v831
  let v833 : BitVec 32 := Scalar.subi v830 v832
  let c21_i32_422 : BitVec 32 := 21#32
  let c0_i32_425 : BitVec 32 := 0#32
  let v834 : BitVec 1 := Scalar.cmpi .sgt c21_i32_422 c0_i32_425
  let v835 : BitVec 32 := Scalar.extui v834
  let c0_i32_426 : BitVec 32 := 0#32
  let v836 : BitVec 1 := Scalar.cmpi .slt c21_i32_422 c0_i32_426
  let v837 : BitVec 32 := Scalar.extui v836
  let v838 : BitVec 32 := Scalar.subi v835 v837
  let v839 : BitVec 1 := Scalar.cmpi .ne v833 v838
  let v840 : BitVec 32 := Scalar.remsi v558 c21_i32_422
  let c0_i32_427 : BitVec 32 := 0#32
  let v841 : BitVec 1 := Scalar.cmpi .ne v840 c0_i32_427
  let v842 : BitVec 1 := Scalar.andi v839 v841
  let v828 : BitVec 32 := Scalar.divsi v558 c21_i32_422
  let c1_i32_428 : BitVec 32 := 1#32
  let v843 : BitVec 32 := Scalar.subi v828 c1_i32_428
  let v844 : BitVec 32 := Scalar.select v842 v843 v828
  let c0_i32_478 : BitVec 32 := 0#32
  let v953 : BitVec 1 := Scalar.cmpi .sgt v844 c0_i32_478
  let v954 : BitVec 32 := Scalar.extui v953
  let c0_i32_479 : BitVec 32 := 0#32
  let v955 : BitVec 1 := Scalar.cmpi .slt v844 c0_i32_479
  let v956 : BitVec 32 := Scalar.extui v955
  let v957 : BitVec 32 := Scalar.subi v954 v956
  let c4_i32_477 : BitVec 32 := 4#32
  let c0_i32_480 : BitVec 32 := 0#32
  let v958 : BitVec 1 := Scalar.cmpi .sgt c4_i32_477 c0_i32_480
  let v959 : BitVec 32 := Scalar.extui v958
  let c0_i32_481 : BitVec 32 := 0#32
  let v960 : BitVec 1 := Scalar.cmpi .slt c4_i32_477 c0_i32_481
  let v961 : BitVec 32 := Scalar.extui v960
  let v962 : BitVec 32 := Scalar.subi v959 v961
  let v963 : BitVec 1 := Scalar.cmpi .ne v957 v962
  let v964 : BitVec 32 := Scalar.remsi v844 c4_i32_477
  let c0_i32_482 : BitVec 32 := 0#32
  let v965 : BitVec 1 := Scalar.cmpi .ne v964 c0_i32_482
  let v966 : BitVec 1 := Scalar.andi v963 v965
  let v952 : BitVec 32 := Scalar.divsi v844 c4_i32_477
  let c1_i32_483 : BitVec 32 := 1#32
  let v967 : BitVec 32 := Scalar.subi v952 c1_i32_483
  let v968 : BitVec 32 := Scalar.select v966 v967 v952
  let c5_i32_521 : BitVec 32 := 5#32
  let c21_i32_429 : BitVec 32 := 21#32
  let c0_i32_430 : BitVec 32 := 0#32
  let v845 : BitVec 1 := Scalar.cmpi .eq c21_i32_429 c0_i32_430
  let c1_i32_431 : BitVec 32 := 1#32
  let v846 : BitVec 32 := Scalar.select v845 c1_i32_431 c21_i32_429
  let v847 : BitVec 32 := Scalar.remsi v558 v846
  let c0_i32_433 : BitVec 32 := 0#32
  let v849 : BitVec 1 := Scalar.cmpi .slt v847 c0_i32_433
  let c0_i32_434 : BitVec 32 := 0#32
  let v850 : BitVec 1 := Scalar.cmpi .slt v846 c0_i32_434
  let v851 : BitVec 1 := Scalar.xori v849 v850
  let c0_i32_432 : BitVec 32 := 0#32
  let v848 : BitVec 1 := Scalar.cmpi .ne v847 c0_i32_432
  let v852 : BitVec 1 := Scalar.andi v851 v848
  let v853 : BitVec 32 := Scalar.addi v847 v846
  let v854 : BitVec 32 := Scalar.select v852 v853 v847
  let c4_i32_435 : BitVec 32 := 4#32
  let v855 : BitVec 32 := Scalar.muli v854 c4_i32_435
  let c4_i32_436 : BitVec 32 := 4#32
  let c0_i32_437 : BitVec 32 := 0#32
  let v856 : BitVec 1 := Scalar.cmpi .eq c4_i32_436 c0_i32_437
  let c1_i32_438 : BitVec 32 := 1#32
  let v857 : BitVec 32 := Scalar.select v856 c1_i32_438 c4_i32_436
  let v858 : BitVec 32 := Scalar.remsi v844 v857
  let c0_i32_440 : BitVec 32 := 0#32
  let v860 : BitVec 1 := Scalar.cmpi .slt v858 c0_i32_440
  let c0_i32_441 : BitVec 32 := 0#32
  let v861 : BitVec 1 := Scalar.cmpi .slt v857 c0_i32_441
  let v862 : BitVec 1 := Scalar.xori v860 v861
  let c0_i32_439 : BitVec 32 := 0#32
  let v859 : BitVec 1 := Scalar.cmpi .ne v858 c0_i32_439
  let v863 : BitVec 1 := Scalar.andi v862 v859
  let v864 : BitVec 32 := Scalar.addi v858 v857
  let v865 : BitVec 32 := Scalar.select v863 v864 v858
  let v866 : BitVec 32 := Scalar.addi v855 v865
  let c0_i32_524 : BitVec 32 := 0#32
  ![v968.toNat, 5, v866.toNat, 0]
def k0_off10 (i : grid0.Coords) (k0_t2 : Fin (k0_t2_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_277 : BitVec 32 := 2#32
  let c0_i32_59 : BitVec 32 := 0#32
  let c0_i32_60 : BitVec 32 := 0#32
  let c1_i32_62 : BitVec 32 := 1#32
  let arg14 : BitVec 32 := Scf.iv c0_i32_60 c1_i32_62 k0_t2
  let c1_i32_58 : BitVec 32 := 1#32
  let v553 : BitVec 32 := Scalar.muli arg14 c1_i32_58
  let v554 : BitVec 32 := Scalar.addi c0_i32_59 v553
  let v555 : BitVec 32 := Scalar.muli c2_i32_277 v554
  let c0_i32_278 : BitVec 32 := 0#32
  let v556 : BitVec 32 := Scalar.addi v555 c0_i32_278
  let c32_i32_279 : BitVec 32 := 32#32
  let v557 : BitVec 32 := Scalar.muli v556 c32_i32_279
  let v558 : BitVec 32 := Scalar.addi v1 v557
  let c0_i32_423 : BitVec 32 := 0#32
  let v829 : BitVec 1 := Scalar.cmpi .sgt v558 c0_i32_423
  let v830 : BitVec 32 := Scalar.extui v829
  let c0_i32_424 : BitVec 32 := 0#32
  let v831 : BitVec 1 := Scalar.cmpi .slt v558 c0_i32_424
  let v832 : BitVec 32 := Scalar.extui v831
  let v833 : BitVec 32 := Scalar.subi v830 v832
  let c21_i32_422 : BitVec 32 := 21#32
  let c0_i32_425 : BitVec 32 := 0#32
  let v834 : BitVec 1 := Scalar.cmpi .sgt c21_i32_422 c0_i32_425
  let v835 : BitVec 32 := Scalar.extui v834
  let c0_i32_426 : BitVec 32 := 0#32
  let v836 : BitVec 1 := Scalar.cmpi .slt c21_i32_422 c0_i32_426
  let v837 : BitVec 32 := Scalar.extui v836
  let v838 : BitVec 32 := Scalar.subi v835 v837
  let v839 : BitVec 1 := Scalar.cmpi .ne v833 v838
  let v840 : BitVec 32 := Scalar.remsi v558 c21_i32_422
  let c0_i32_427 : BitVec 32 := 0#32
  let v841 : BitVec 1 := Scalar.cmpi .ne v840 c0_i32_427
  let v842 : BitVec 1 := Scalar.andi v839 v841
  let v828 : BitVec 32 := Scalar.divsi v558 c21_i32_422
  let c1_i32_428 : BitVec 32 := 1#32
  let v843 : BitVec 32 := Scalar.subi v828 c1_i32_428
  let v844 : BitVec 32 := Scalar.select v842 v843 v828
  let c0_i32_485 : BitVec 32 := 0#32
  let v970 : BitVec 1 := Scalar.cmpi .sgt v844 c0_i32_485
  let v971 : BitVec 32 := Scalar.extui v970
  let c0_i32_486 : BitVec 32 := 0#32
  let v972 : BitVec 1 := Scalar.cmpi .slt v844 c0_i32_486
  let v973 : BitVec 32 := Scalar.extui v972
  let v974 : BitVec 32 := Scalar.subi v971 v973
  let c4_i32_484 : BitVec 32 := 4#32
  let c0_i32_487 : BitVec 32 := 0#32
  let v975 : BitVec 1 := Scalar.cmpi .sgt c4_i32_484 c0_i32_487
  let v976 : BitVec 32 := Scalar.extui v975
  let c0_i32_488 : BitVec 32 := 0#32
  let v977 : BitVec 1 := Scalar.cmpi .slt c4_i32_484 c0_i32_488
  let v978 : BitVec 32 := Scalar.extui v977
  let v979 : BitVec 32 := Scalar.subi v976 v978
  let v980 : BitVec 1 := Scalar.cmpi .ne v974 v979
  let v981 : BitVec 32 := Scalar.remsi v844 c4_i32_484
  let c0_i32_489 : BitVec 32 := 0#32
  let v982 : BitVec 1 := Scalar.cmpi .ne v981 c0_i32_489
  let v983 : BitVec 1 := Scalar.andi v980 v982
  let v969 : BitVec 32 := Scalar.divsi v844 c4_i32_484
  let c1_i32_490 : BitVec 32 := 1#32
  let v984 : BitVec 32 := Scalar.subi v969 c1_i32_490
  let v985 : BitVec 32 := Scalar.select v983 v984 v969
  let c6_i32_527 : BitVec 32 := 6#32
  let c21_i32_429 : BitVec 32 := 21#32
  let c0_i32_430 : BitVec 32 := 0#32
  let v845 : BitVec 1 := Scalar.cmpi .eq c21_i32_429 c0_i32_430
  let c1_i32_431 : BitVec 32 := 1#32
  let v846 : BitVec 32 := Scalar.select v845 c1_i32_431 c21_i32_429
  let v847 : BitVec 32 := Scalar.remsi v558 v846
  let c0_i32_433 : BitVec 32 := 0#32
  let v849 : BitVec 1 := Scalar.cmpi .slt v847 c0_i32_433
  let c0_i32_434 : BitVec 32 := 0#32
  let v850 : BitVec 1 := Scalar.cmpi .slt v846 c0_i32_434
  let v851 : BitVec 1 := Scalar.xori v849 v850
  let c0_i32_432 : BitVec 32 := 0#32
  let v848 : BitVec 1 := Scalar.cmpi .ne v847 c0_i32_432
  let v852 : BitVec 1 := Scalar.andi v851 v848
  let v853 : BitVec 32 := Scalar.addi v847 v846
  let v854 : BitVec 32 := Scalar.select v852 v853 v847
  let c4_i32_435 : BitVec 32 := 4#32
  let v855 : BitVec 32 := Scalar.muli v854 c4_i32_435
  let c4_i32_436 : BitVec 32 := 4#32
  let c0_i32_437 : BitVec 32 := 0#32
  let v856 : BitVec 1 := Scalar.cmpi .eq c4_i32_436 c0_i32_437
  let c1_i32_438 : BitVec 32 := 1#32
  let v857 : BitVec 32 := Scalar.select v856 c1_i32_438 c4_i32_436
  let v858 : BitVec 32 := Scalar.remsi v844 v857
  let c0_i32_440 : BitVec 32 := 0#32
  let v860 : BitVec 1 := Scalar.cmpi .slt v858 c0_i32_440
  let c0_i32_441 : BitVec 32 := 0#32
  let v861 : BitVec 1 := Scalar.cmpi .slt v857 c0_i32_441
  let v862 : BitVec 1 := Scalar.xori v860 v861
  let c0_i32_439 : BitVec 32 := 0#32
  let v859 : BitVec 1 := Scalar.cmpi .ne v858 c0_i32_439
  let v863 : BitVec 1 := Scalar.andi v862 v859
  let v864 : BitVec 32 := Scalar.addi v858 v857
  let v865 : BitVec 32 := Scalar.select v863 v864 v858
  let v866 : BitVec 32 := Scalar.addi v855 v865
  let c0_i32_530 : BitVec 32 := 0#32
  ![v985.toNat, 6, v866.toNat, 0]
@[reducible] def k0_t3_loop : Scf.Loop 32 :=
  let c0_i32_305 : BitVec 32 := 0#32
  let c96_i32_306 : BitVec 32 := 96#32
  let v609 : BitVec 32 := Scalar.addi c0_i32_305 c96_i32_306
  let c1_i32_307 : BitVec 32 := 1#32
  ⟨c0_i32_305, v609, c1_i32_307⟩
def k0_off11 (k0_t3 : Fin k0_t3_loop.trips) : Fin 1 → Nat :=
  let c0_i32_422 : BitVec 32 := 0#32
  let c0_i32_305 : BitVec 32 := 0#32
  let c1_i32_307 : BitVec 32 := 1#32
  let arg15 : BitVec 32 := Scf.iv c0_i32_305 c1_i32_307 k0_t3
  let c16_i32 : BitVec 32 := 16#32
  let v828 : BitVec 32 := Scalar.muli arg15 c16_i32
  let v829 : BitVec 32 := Scalar.addi c0_i32_422 v828
  let v830 : Index := Scalar.indexCast v829
  ![v830.toNat]

def k0_chk1 (i : grid0.Coords) (k0_t2 : Fin (k0_t2_loop i).trips) (v833 : IVec S16 32) : Prop :=
  (∀ (k0_h1 : k0_cond1 i k0_t2 = 1#1), ∀ a x, ((![v833] : Fin 1 → IVec S16 32) a x).toNat < S45056.size a)
theorem k0_idx1_inb : ∀ (i : grid0.Coords) (k0_t2 : Fin (k0_t2_loop i).trips) (v833 : IVec S16 32) (k0_hw1 : k0_chk1 i k0_t2 v833), ∀ (k0_h1 : k0_cond1 i k0_t2 = 1#1), ∀ a x, ((![v833] : Fin 1 → IVec S16 32) a x).toNat < S45056.size a := fun i k0_t2 v833 k0_hw1 k0_h1 => k0_hw1 k0_h1
def k0_off12 (k0_t3 : Fin k0_t3_loop.trips) : Fin 1 → Nat :=
  let c0_i32_424 : BitVec 32 := 0#32
  let c0_i32_422 : BitVec 32 := 0#32
  let c0_i32_305 : BitVec 32 := 0#32
  let c1_i32_307 : BitVec 32 := 1#32
  let arg15 : BitVec 32 := Scf.iv c0_i32_305 c1_i32_307 k0_t3
  let c16_i32 : BitVec 32 := 16#32
  let v828 : BitVec 32 := Scalar.muli arg15 c16_i32
  let v829 : BitVec 32 := Scalar.addi c0_i32_422 v828
  let v835 : BitVec 32 := Scalar.addi c0_i32_424 v829
  let v836 : Index := Scalar.indexCast v835
  ![v836.toNat]

def k0_chk2 (i : grid0.Coords) (k0_t2 : Fin (k0_t2_loop i).trips) (v839 : IVec S16 32) : Prop :=
  (∀ (k0_h1 : k0_cond1 i k0_t2 = 1#1), ∀ a x, ((![v839] : Fin 1 → IVec S16 32) a x).toNat < S45056.size a)
theorem k0_idx2_inb : ∀ (i : grid0.Coords) (k0_t2 : Fin (k0_t2_loop i).trips) (v839 : IVec S16 32) (k0_hw2 : k0_chk2 i k0_t2 v839), ∀ (k0_h1 : k0_cond1 i k0_t2 = 1#1), ∀ a x, ((![v839] : Fin 1 → IVec S16 32) a x).toNat < S45056.size a := fun i k0_t2 v839 k0_hw2 k0_h1 => k0_hw2 k0_h1
def k0_off13 (k0_t3 : Fin k0_t3_loop.trips) : Fin 1 → Nat :=
  let c1536_i32_426 : BitVec 32 := 1536#32
  let c0_i32_422 : BitVec 32 := 0#32
  let c0_i32_305 : BitVec 32 := 0#32
  let c1_i32_307 : BitVec 32 := 1#32
  let arg15 : BitVec 32 := Scf.iv c0_i32_305 c1_i32_307 k0_t3
  let c16_i32 : BitVec 32 := 16#32
  let v828 : BitVec 32 := Scalar.muli arg15 c16_i32
  let v829 : BitVec 32 := Scalar.addi c0_i32_422 v828
  let v841 : BitVec 32 := Scalar.addi c1536_i32_426 v829
  let v842 : Index := Scalar.indexCast v841
  ![v842.toNat]

def k0_chk3 (i : grid0.Coords) (k0_t2 : Fin (k0_t2_loop i).trips) (v845 : IVec S16 32) : Prop :=
  (∀ (k0_h1 : k0_cond1 i k0_t2 = 1#1), ∀ a x, ((![v845] : Fin 1 → IVec S16 32) a x).toNat < S45056.size a)
theorem k0_idx3_inb : ∀ (i : grid0.Coords) (k0_t2 : Fin (k0_t2_loop i).trips) (v845 : IVec S16 32) (k0_hw3 : k0_chk3 i k0_t2 v845), ∀ (k0_h1 : k0_cond1 i k0_t2 = 1#1), ∀ a x, ((![v845] : Fin 1 → IVec S16 32) a x).toNat < S45056.size a := fun i k0_t2 v845 k0_hw3 k0_h1 => k0_hw3 k0_h1
def k0_off14 (k0_t3 : Fin k0_t3_loop.trips) : Fin 1 → Nat :=
  let c3072_i32_428 : BitVec 32 := 3072#32
  let c0_i32_422 : BitVec 32 := 0#32
  let c0_i32_305 : BitVec 32 := 0#32
  let c1_i32_307 : BitVec 32 := 1#32
  let arg15 : BitVec 32 := Scf.iv c0_i32_305 c1_i32_307 k0_t3
  let c16_i32 : BitVec 32 := 16#32
  let v828 : BitVec 32 := Scalar.muli arg15 c16_i32
  let v829 : BitVec 32 := Scalar.addi c0_i32_422 v828
  let v847 : BitVec 32 := Scalar.addi c3072_i32_428 v829
  let v848 : Index := Scalar.indexCast v847
  ![v848.toNat]

def k0_chk4 (i : grid0.Coords) (k0_t2 : Fin (k0_t2_loop i).trips) (v851 : IVec S16 32) : Prop :=
  (∀ (k0_h1 : k0_cond1 i k0_t2 = 1#1), ∀ a x, ((![v851] : Fin 1 → IVec S16 32) a x).toNat < S45056.size a)
theorem k0_idx4_inb : ∀ (i : grid0.Coords) (k0_t2 : Fin (k0_t2_loop i).trips) (v851 : IVec S16 32) (k0_hw4 : k0_chk4 i k0_t2 v851), ∀ (k0_h1 : k0_cond1 i k0_t2 = 1#1), ∀ a x, ((![v851] : Fin 1 → IVec S16 32) a x).toNat < S45056.size a := fun i k0_t2 v851 k0_hw4 k0_h1 => k0_hw4 k0_h1
def k0_off15 (k0_t3 : Fin k0_t3_loop.trips) : Fin 1 → Nat :=
  let c4608_i32_430 : BitVec 32 := 4608#32
  let c0_i32_422 : BitVec 32 := 0#32
  let c0_i32_305 : BitVec 32 := 0#32
  let c1_i32_307 : BitVec 32 := 1#32
  let arg15 : BitVec 32 := Scf.iv c0_i32_305 c1_i32_307 k0_t3
  let c16_i32 : BitVec 32 := 16#32
  let v828 : BitVec 32 := Scalar.muli arg15 c16_i32
  let v829 : BitVec 32 := Scalar.addi c0_i32_422 v828
  let v853 : BitVec 32 := Scalar.addi c4608_i32_430 v829
  let v854 : Index := Scalar.indexCast v853
  ![v854.toNat]

def k0_chk5 (i : grid0.Coords) (k0_t2 : Fin (k0_t2_loop i).trips) (v857 : IVec S16 32) : Prop :=
  (∀ (k0_h1 : k0_cond1 i k0_t2 = 1#1), ∀ a x, ((![v857] : Fin 1 → IVec S16 32) a x).toNat < S45056.size a)
theorem k0_idx5_inb : ∀ (i : grid0.Coords) (k0_t2 : Fin (k0_t2_loop i).trips) (v857 : IVec S16 32) (k0_hw5 : k0_chk5 i k0_t2 v857), ∀ (k0_h1 : k0_cond1 i k0_t2 = 1#1), ∀ a x, ((![v857] : Fin 1 → IVec S16 32) a x).toNat < S45056.size a := fun i k0_t2 v857 k0_hw5 k0_h1 => k0_hw5 k0_h1
def k0_off16 (k0_t3 : Fin k0_t3_loop.trips) : Fin 1 → Nat :=
  let c6144_i32_432 : BitVec 32 := 6144#32
  let c0_i32_422 : BitVec 32 := 0#32
  let c0_i32_305 : BitVec 32 := 0#32
  let c1_i32_307 : BitVec 32 := 1#32
  let arg15 : BitVec 32 := Scf.iv c0_i32_305 c1_i32_307 k0_t3
  let c16_i32 : BitVec 32 := 16#32
  let v828 : BitVec 32 := Scalar.muli arg15 c16_i32
  let v829 : BitVec 32 := Scalar.addi c0_i32_422 v828
  let v859 : BitVec 32 := Scalar.addi c6144_i32_432 v829
  let v860 : Index := Scalar.indexCast v859
  ![v860.toNat]

def k0_chk6 (i : grid0.Coords) (k0_t2 : Fin (k0_t2_loop i).trips) (v863 : IVec S16 32) : Prop :=
  (∀ (k0_h1 : k0_cond1 i k0_t2 = 1#1), ∀ a x, ((![v863] : Fin 1 → IVec S16 32) a x).toNat < S45056.size a)
theorem k0_idx6_inb : ∀ (i : grid0.Coords) (k0_t2 : Fin (k0_t2_loop i).trips) (v863 : IVec S16 32) (k0_hw6 : k0_chk6 i k0_t2 v863), ∀ (k0_h1 : k0_cond1 i k0_t2 = 1#1), ∀ a x, ((![v863] : Fin 1 → IVec S16 32) a x).toNat < S45056.size a := fun i k0_t2 v863 k0_hw6 k0_h1 => k0_hw6 k0_h1
def k0_off17 (k0_t3 : Fin k0_t3_loop.trips) : Fin 1 → Nat :=
  let c7680_i32_434 : BitVec 32 := 7680#32
  let c0_i32_422 : BitVec 32 := 0#32
  let c0_i32_305 : BitVec 32 := 0#32
  let c1_i32_307 : BitVec 32 := 1#32
  let arg15 : BitVec 32 := Scf.iv c0_i32_305 c1_i32_307 k0_t3
  let c16_i32 : BitVec 32 := 16#32
  let v828 : BitVec 32 := Scalar.muli arg15 c16_i32
  let v829 : BitVec 32 := Scalar.addi c0_i32_422 v828
  let v865 : BitVec 32 := Scalar.addi c7680_i32_434 v829
  let v866 : Index := Scalar.indexCast v865
  ![v866.toNat]

def k0_chk7 (i : grid0.Coords) (k0_t2 : Fin (k0_t2_loop i).trips) (v869 : IVec S16 32) : Prop :=
  (∀ (k0_h1 : k0_cond1 i k0_t2 = 1#1), ∀ a x, ((![v869] : Fin 1 → IVec S16 32) a x).toNat < S45056.size a)
theorem k0_idx7_inb : ∀ (i : grid0.Coords) (k0_t2 : Fin (k0_t2_loop i).trips) (v869 : IVec S16 32) (k0_hw7 : k0_chk7 i k0_t2 v869), ∀ (k0_h1 : k0_cond1 i k0_t2 = 1#1), ∀ a x, ((![v869] : Fin 1 → IVec S16 32) a x).toNat < S45056.size a := fun i k0_t2 v869 k0_hw7 k0_h1 => k0_hw7 k0_h1
def k0_off18 (k0_t3 : Fin k0_t3_loop.trips) : Fin 1 → Nat :=
  let c9216_i32_436 : BitVec 32 := 9216#32
  let c0_i32_422 : BitVec 32 := 0#32
  let c0_i32_305 : BitVec 32 := 0#32
  let c1_i32_307 : BitVec 32 := 1#32
  let arg15 : BitVec 32 := Scf.iv c0_i32_305 c1_i32_307 k0_t3
  let c16_i32 : BitVec 32 := 16#32
  let v828 : BitVec 32 := Scalar.muli arg15 c16_i32
  let v829 : BitVec 32 := Scalar.addi c0_i32_422 v828
  let v871 : BitVec 32 := Scalar.addi c9216_i32_436 v829
  let v872 : Index := Scalar.indexCast v871
  ![v872.toNat]
def k0_off19 (i : grid0.Coords) (k0_t2 : Fin (k0_t2_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_277 : BitVec 32 := 2#32
  let c0_i32_59 : BitVec 32 := 0#32
  let c0_i32_60 : BitVec 32 := 0#32
  let c1_i32_62 : BitVec 32 := 1#32
  let arg14 : BitVec 32 := Scf.iv c0_i32_60 c1_i32_62 k0_t2
  let c1_i32_58 : BitVec 32 := 1#32
  let v553 : BitVec 32 := Scalar.muli arg14 c1_i32_58
  let v554 : BitVec 32 := Scalar.addi c0_i32_59 v553
  let v555 : BitVec 32 := Scalar.muli c2_i32_277 v554
  let c0_i32_278 : BitVec 32 := 0#32
  let v556 : BitVec 32 := Scalar.addi v555 c0_i32_278
  let c32_i32_279 : BitVec 32 := 32#32
  let v557 : BitVec 32 := Scalar.muli v556 c32_i32_279
  let v558 : BitVec 32 := Scalar.addi v1 v557
  let c0_i32_310 : BitVec 32 := 0#32
  let v611 : BitVec 1 := Scalar.cmpi .sgt v558 c0_i32_310
  let v612 : BitVec 32 := Scalar.extui v611
  let c0_i32_311 : BitVec 32 := 0#32
  let v613 : BitVec 1 := Scalar.cmpi .slt v558 c0_i32_311
  let v614 : BitVec 32 := Scalar.extui v613
  let v615 : BitVec 32 := Scalar.subi v612 v614
  let c21_i32_309 : BitVec 32 := 21#32
  let c0_i32_312 : BitVec 32 := 0#32
  let v616 : BitVec 1 := Scalar.cmpi .sgt c21_i32_309 c0_i32_312
  let v617 : BitVec 32 := Scalar.extui v616
  let c0_i32_313 : BitVec 32 := 0#32
  let v618 : BitVec 1 := Scalar.cmpi .slt c21_i32_309 c0_i32_313
  let v619 : BitVec 32 := Scalar.extui v618
  let v620 : BitVec 32 := Scalar.subi v617 v619
  let v621 : BitVec 1 := Scalar.cmpi .ne v615 v620
  let v622 : BitVec 32 := Scalar.remsi v558 c21_i32_309
  let c0_i32_314 : BitVec 32 := 0#32
  let v623 : BitVec 1 := Scalar.cmpi .ne v622 c0_i32_314
  let v624 : BitVec 1 := Scalar.andi v621 v623
  let v610 : BitVec 32 := Scalar.divsi v558 c21_i32_309
  let c1_i32_315 : BitVec 32 := 1#32
  let v625 : BitVec 32 := Scalar.subi v610 c1_i32_315
  let v626 : BitVec 32 := Scalar.select v624 v625 v610
  let c0_i32_330 : BitVec 32 := 0#32
  let v650 : BitVec 1 := Scalar.cmpi .sgt v626 c0_i32_330
  let v651 : BitVec 32 := Scalar.extui v650
  let c0_i32_331 : BitVec 32 := 0#32
  let v652 : BitVec 1 := Scalar.cmpi .slt v626 c0_i32_331
  let v653 : BitVec 32 := Scalar.extui v652
  let v654 : BitVec 32 := Scalar.subi v651 v653
  let c4_i32_329 : BitVec 32 := 4#32
  let c0_i32_332 : BitVec 32 := 0#32
  let v655 : BitVec 1 := Scalar.cmpi .sgt c4_i32_329 c0_i32_332
  let v656 : BitVec 32 := Scalar.extui v655
  let c0_i32_333 : BitVec 32 := 0#32
  let v657 : BitVec 1 := Scalar.cmpi .slt c4_i32_329 c0_i32_333
  let v658 : BitVec 32 := Scalar.extui v657
  let v659 : BitVec 32 := Scalar.subi v656 v658
  let v660 : BitVec 1 := Scalar.cmpi .ne v654 v659
  let v661 : BitVec 32 := Scalar.remsi v626 c4_i32_329
  let c0_i32_334 : BitVec 32 := 0#32
  let v662 : BitVec 1 := Scalar.cmpi .ne v661 c0_i32_334
  let v663 : BitVec 1 := Scalar.andi v660 v662
  let v649 : BitVec 32 := Scalar.divsi v626 c4_i32_329
  let c1_i32_335 : BitVec 32 := 1#32
  let v664 : BitVec 32 := Scalar.subi v649 c1_i32_335
  let v665 : BitVec 32 := Scalar.select v663 v664 v649
  let c0_i32_378 : BitVec 32 := 0#32
  let c21_i32_316 : BitVec 32 := 21#32
  let c0_i32_317 : BitVec 32 := 0#32
  let v627 : BitVec 1 := Scalar.cmpi .eq c21_i32_316 c0_i32_317
  let c1_i32_318 : BitVec 32 := 1#32
  let v628 : BitVec 32 := Scalar.select v627 c1_i32_318 c21_i32_316
  let v629 : BitVec 32 := Scalar.remsi v558 v628
  let c0_i32_320 : BitVec 32 := 0#32
  let v631 : BitVec 1 := Scalar.cmpi .slt v629 c0_i32_320
  let c0_i32_321 : BitVec 32 := 0#32
  let v632 : BitVec 1 := Scalar.cmpi .slt v628 c0_i32_321
  let v633 : BitVec 1 := Scalar.xori v631 v632
  let c0_i32_319 : BitVec 32 := 0#32
  let v630 : BitVec 1 := Scalar.cmpi .ne v629 c0_i32_319
  let v634 : BitVec 1 := Scalar.andi v633 v630
  let v635 : BitVec 32 := Scalar.addi v629 v628
  let v636 : BitVec 32 := Scalar.select v634 v635 v629
  let c4_i32_322 : BitVec 32 := 4#32
  let v637 : BitVec 32 := Scalar.muli v636 c4_i32_322
  let c4_i32_323 : BitVec 32 := 4#32
  let c0_i32_324 : BitVec 32 := 0#32
  let v638 : BitVec 1 := Scalar.cmpi .eq c4_i32_323 c0_i32_324
  let c1_i32_325 : BitVec 32 := 1#32
  let v639 : BitVec 32 := Scalar.select v638 c1_i32_325 c4_i32_323
  let v640 : BitVec 32 := Scalar.remsi v626 v639
  let c0_i32_327 : BitVec 32 := 0#32
  let v642 : BitVec 1 := Scalar.cmpi .slt v640 c0_i32_327
  let c0_i32_328 : BitVec 32 := 0#32
  let v643 : BitVec 1 := Scalar.cmpi .slt v639 c0_i32_328
  let v644 : BitVec 1 := Scalar.xori v642 v643
  let c0_i32_326 : BitVec 32 := 0#32
  let v641 : BitVec 1 := Scalar.cmpi .ne v640 c0_i32_326
  let v645 : BitVec 1 := Scalar.andi v644 v641
  let v646 : BitVec 32 := Scalar.addi v640 v639
  let v647 : BitVec 32 := Scalar.select v645 v646 v640
  let v648 : BitVec 32 := Scalar.addi v637 v647
  let c0_i32_381 : BitVec 32 := 0#32
  ![v665.toNat, 0, v648.toNat, 0]
def k0_off20 (i : grid0.Coords) (k0_t2 : Fin (k0_t2_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_277 : BitVec 32 := 2#32
  let c0_i32_59 : BitVec 32 := 0#32
  let c0_i32_60 : BitVec 32 := 0#32
  let c1_i32_62 : BitVec 32 := 1#32
  let arg14 : BitVec 32 := Scf.iv c0_i32_60 c1_i32_62 k0_t2
  let c1_i32_58 : BitVec 32 := 1#32
  let v553 : BitVec 32 := Scalar.muli arg14 c1_i32_58
  let v554 : BitVec 32 := Scalar.addi c0_i32_59 v553
  let v555 : BitVec 32 := Scalar.muli c2_i32_277 v554
  let c0_i32_278 : BitVec 32 := 0#32
  let v556 : BitVec 32 := Scalar.addi v555 c0_i32_278
  let c32_i32_279 : BitVec 32 := 32#32
  let v557 : BitVec 32 := Scalar.muli v556 c32_i32_279
  let v558 : BitVec 32 := Scalar.addi v1 v557
  let c0_i32_310 : BitVec 32 := 0#32
  let v611 : BitVec 1 := Scalar.cmpi .sgt v558 c0_i32_310
  let v612 : BitVec 32 := Scalar.extui v611
  let c0_i32_311 : BitVec 32 := 0#32
  let v613 : BitVec 1 := Scalar.cmpi .slt v558 c0_i32_311
  let v614 : BitVec 32 := Scalar.extui v613
  let v615 : BitVec 32 := Scalar.subi v612 v614
  let c21_i32_309 : BitVec 32 := 21#32
  let c0_i32_312 : BitVec 32 := 0#32
  let v616 : BitVec 1 := Scalar.cmpi .sgt c21_i32_309 c0_i32_312
  let v617 : BitVec 32 := Scalar.extui v616
  let c0_i32_313 : BitVec 32 := 0#32
  let v618 : BitVec 1 := Scalar.cmpi .slt c21_i32_309 c0_i32_313
  let v619 : BitVec 32 := Scalar.extui v618
  let v620 : BitVec 32 := Scalar.subi v617 v619
  let v621 : BitVec 1 := Scalar.cmpi .ne v615 v620
  let v622 : BitVec 32 := Scalar.remsi v558 c21_i32_309
  let c0_i32_314 : BitVec 32 := 0#32
  let v623 : BitVec 1 := Scalar.cmpi .ne v622 c0_i32_314
  let v624 : BitVec 1 := Scalar.andi v621 v623
  let v610 : BitVec 32 := Scalar.divsi v558 c21_i32_309
  let c1_i32_315 : BitVec 32 := 1#32
  let v625 : BitVec 32 := Scalar.subi v610 c1_i32_315
  let v626 : BitVec 32 := Scalar.select v624 v625 v610
  let c0_i32_337 : BitVec 32 := 0#32
  let v667 : BitVec 1 := Scalar.cmpi .sgt v626 c0_i32_337
  let v668 : BitVec 32 := Scalar.extui v667
  let c0_i32_338 : BitVec 32 := 0#32
  let v669 : BitVec 1 := Scalar.cmpi .slt v626 c0_i32_338
  let v670 : BitVec 32 := Scalar.extui v669
  let v671 : BitVec 32 := Scalar.subi v668 v670
  let c4_i32_336 : BitVec 32 := 4#32
  let c0_i32_339 : BitVec 32 := 0#32
  let v672 : BitVec 1 := Scalar.cmpi .sgt c4_i32_336 c0_i32_339
  let v673 : BitVec 32 := Scalar.extui v672
  let c0_i32_340 : BitVec 32 := 0#32
  let v674 : BitVec 1 := Scalar.cmpi .slt c4_i32_336 c0_i32_340
  let v675 : BitVec 32 := Scalar.extui v674
  let v676 : BitVec 32 := Scalar.subi v673 v675
  let v677 : BitVec 1 := Scalar.cmpi .ne v671 v676
  let v678 : BitVec 32 := Scalar.remsi v626 c4_i32_336
  let c0_i32_341 : BitVec 32 := 0#32
  let v679 : BitVec 1 := Scalar.cmpi .ne v678 c0_i32_341
  let v680 : BitVec 1 := Scalar.andi v677 v679
  let v666 : BitVec 32 := Scalar.divsi v626 c4_i32_336
  let c1_i32_342 : BitVec 32 := 1#32
  let v681 : BitVec 32 := Scalar.subi v666 c1_i32_342
  let v682 : BitVec 32 := Scalar.select v680 v681 v666
  let c1_i32_384 : BitVec 32 := 1#32
  let c21_i32_316 : BitVec 32 := 21#32
  let c0_i32_317 : BitVec 32 := 0#32
  let v627 : BitVec 1 := Scalar.cmpi .eq c21_i32_316 c0_i32_317
  let c1_i32_318 : BitVec 32 := 1#32
  let v628 : BitVec 32 := Scalar.select v627 c1_i32_318 c21_i32_316
  let v629 : BitVec 32 := Scalar.remsi v558 v628
  let c0_i32_320 : BitVec 32 := 0#32
  let v631 : BitVec 1 := Scalar.cmpi .slt v629 c0_i32_320
  let c0_i32_321 : BitVec 32 := 0#32
  let v632 : BitVec 1 := Scalar.cmpi .slt v628 c0_i32_321
  let v633 : BitVec 1 := Scalar.xori v631 v632
  let c0_i32_319 : BitVec 32 := 0#32
  let v630 : BitVec 1 := Scalar.cmpi .ne v629 c0_i32_319
  let v634 : BitVec 1 := Scalar.andi v633 v630
  let v635 : BitVec 32 := Scalar.addi v629 v628
  let v636 : BitVec 32 := Scalar.select v634 v635 v629
  let c4_i32_322 : BitVec 32 := 4#32
  let v637 : BitVec 32 := Scalar.muli v636 c4_i32_322
  let c4_i32_323 : BitVec 32 := 4#32
  let c0_i32_324 : BitVec 32 := 0#32
  let v638 : BitVec 1 := Scalar.cmpi .eq c4_i32_323 c0_i32_324
  let c1_i32_325 : BitVec 32 := 1#32
  let v639 : BitVec 32 := Scalar.select v638 c1_i32_325 c4_i32_323
  let v640 : BitVec 32 := Scalar.remsi v626 v639
  let c0_i32_327 : BitVec 32 := 0#32
  let v642 : BitVec 1 := Scalar.cmpi .slt v640 c0_i32_327
  let c0_i32_328 : BitVec 32 := 0#32
  let v643 : BitVec 1 := Scalar.cmpi .slt v639 c0_i32_328
  let v644 : BitVec 1 := Scalar.xori v642 v643
  let c0_i32_326 : BitVec 32 := 0#32
  let v641 : BitVec 1 := Scalar.cmpi .ne v640 c0_i32_326
  let v645 : BitVec 1 := Scalar.andi v644 v641
  let v646 : BitVec 32 := Scalar.addi v640 v639
  let v647 : BitVec 32 := Scalar.select v645 v646 v640
  let v648 : BitVec 32 := Scalar.addi v637 v647
  let c0_i32_387 : BitVec 32 := 0#32
  ![v682.toNat, 1, v648.toNat, 0]
def k0_off21 (i : grid0.Coords) (k0_t2 : Fin (k0_t2_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_277 : BitVec 32 := 2#32
  let c0_i32_59 : BitVec 32 := 0#32
  let c0_i32_60 : BitVec 32 := 0#32
  let c1_i32_62 : BitVec 32 := 1#32
  let arg14 : BitVec 32 := Scf.iv c0_i32_60 c1_i32_62 k0_t2
  let c1_i32_58 : BitVec 32 := 1#32
  let v553 : BitVec 32 := Scalar.muli arg14 c1_i32_58
  let v554 : BitVec 32 := Scalar.addi c0_i32_59 v553
  let v555 : BitVec 32 := Scalar.muli c2_i32_277 v554
  let c0_i32_278 : BitVec 32 := 0#32
  let v556 : BitVec 32 := Scalar.addi v555 c0_i32_278
  let c32_i32_279 : BitVec 32 := 32#32
  let v557 : BitVec 32 := Scalar.muli v556 c32_i32_279
  let v558 : BitVec 32 := Scalar.addi v1 v557
  let c0_i32_310 : BitVec 32 := 0#32
  let v611 : BitVec 1 := Scalar.cmpi .sgt v558 c0_i32_310
  let v612 : BitVec 32 := Scalar.extui v611
  let c0_i32_311 : BitVec 32 := 0#32
  let v613 : BitVec 1 := Scalar.cmpi .slt v558 c0_i32_311
  let v614 : BitVec 32 := Scalar.extui v613
  let v615 : BitVec 32 := Scalar.subi v612 v614
  let c21_i32_309 : BitVec 32 := 21#32
  let c0_i32_312 : BitVec 32 := 0#32
  let v616 : BitVec 1 := Scalar.cmpi .sgt c21_i32_309 c0_i32_312
  let v617 : BitVec 32 := Scalar.extui v616
  let c0_i32_313 : BitVec 32 := 0#32
  let v618 : BitVec 1 := Scalar.cmpi .slt c21_i32_309 c0_i32_313
  let v619 : BitVec 32 := Scalar.extui v618
  let v620 : BitVec 32 := Scalar.subi v617 v619
  let v621 : BitVec 1 := Scalar.cmpi .ne v615 v620
  let v622 : BitVec 32 := Scalar.remsi v558 c21_i32_309
  let c0_i32_314 : BitVec 32 := 0#32
  let v623 : BitVec 1 := Scalar.cmpi .ne v622 c0_i32_314
  let v624 : BitVec 1 := Scalar.andi v621 v623
  let v610 : BitVec 32 := Scalar.divsi v558 c21_i32_309
  let c1_i32_315 : BitVec 32 := 1#32
  let v625 : BitVec 32 := Scalar.subi v610 c1_i32_315
  let v626 : BitVec 32 := Scalar.select v624 v625 v610
  let c0_i32_344 : BitVec 32 := 0#32
  let v684 : BitVec 1 := Scalar.cmpi .sgt v626 c0_i32_344
  let v685 : BitVec 32 := Scalar.extui v684
  let c0_i32_345 : BitVec 32 := 0#32
  let v686 : BitVec 1 := Scalar.cmpi .slt v626 c0_i32_345
  let v687 : BitVec 32 := Scalar.extui v686
  let v688 : BitVec 32 := Scalar.subi v685 v687
  let c4_i32_343 : BitVec 32 := 4#32
  let c0_i32_346 : BitVec 32 := 0#32
  let v689 : BitVec 1 := Scalar.cmpi .sgt c4_i32_343 c0_i32_346
  let v690 : BitVec 32 := Scalar.extui v689
  let c0_i32_347 : BitVec 32 := 0#32
  let v691 : BitVec 1 := Scalar.cmpi .slt c4_i32_343 c0_i32_347
  let v692 : BitVec 32 := Scalar.extui v691
  let v693 : BitVec 32 := Scalar.subi v690 v692
  let v694 : BitVec 1 := Scalar.cmpi .ne v688 v693
  let v695 : BitVec 32 := Scalar.remsi v626 c4_i32_343
  let c0_i32_348 : BitVec 32 := 0#32
  let v696 : BitVec 1 := Scalar.cmpi .ne v695 c0_i32_348
  let v697 : BitVec 1 := Scalar.andi v694 v696
  let v683 : BitVec 32 := Scalar.divsi v626 c4_i32_343
  let c1_i32_349 : BitVec 32 := 1#32
  let v698 : BitVec 32 := Scalar.subi v683 c1_i32_349
  let v699 : BitVec 32 := Scalar.select v697 v698 v683
  let c2_i32_390 : BitVec 32 := 2#32
  let c21_i32_316 : BitVec 32 := 21#32
  let c0_i32_317 : BitVec 32 := 0#32
  let v627 : BitVec 1 := Scalar.cmpi .eq c21_i32_316 c0_i32_317
  let c1_i32_318 : BitVec 32 := 1#32
  let v628 : BitVec 32 := Scalar.select v627 c1_i32_318 c21_i32_316
  let v629 : BitVec 32 := Scalar.remsi v558 v628
  let c0_i32_320 : BitVec 32 := 0#32
  let v631 : BitVec 1 := Scalar.cmpi .slt v629 c0_i32_320
  let c0_i32_321 : BitVec 32 := 0#32
  let v632 : BitVec 1 := Scalar.cmpi .slt v628 c0_i32_321
  let v633 : BitVec 1 := Scalar.xori v631 v632
  let c0_i32_319 : BitVec 32 := 0#32
  let v630 : BitVec 1 := Scalar.cmpi .ne v629 c0_i32_319
  let v634 : BitVec 1 := Scalar.andi v633 v630
  let v635 : BitVec 32 := Scalar.addi v629 v628
  let v636 : BitVec 32 := Scalar.select v634 v635 v629
  let c4_i32_322 : BitVec 32 := 4#32
  let v637 : BitVec 32 := Scalar.muli v636 c4_i32_322
  let c4_i32_323 : BitVec 32 := 4#32
  let c0_i32_324 : BitVec 32 := 0#32
  let v638 : BitVec 1 := Scalar.cmpi .eq c4_i32_323 c0_i32_324
  let c1_i32_325 : BitVec 32 := 1#32
  let v639 : BitVec 32 := Scalar.select v638 c1_i32_325 c4_i32_323
  let v640 : BitVec 32 := Scalar.remsi v626 v639
  let c0_i32_327 : BitVec 32 := 0#32
  let v642 : BitVec 1 := Scalar.cmpi .slt v640 c0_i32_327
  let c0_i32_328 : BitVec 32 := 0#32
  let v643 : BitVec 1 := Scalar.cmpi .slt v639 c0_i32_328
  let v644 : BitVec 1 := Scalar.xori v642 v643
  let c0_i32_326 : BitVec 32 := 0#32
  let v641 : BitVec 1 := Scalar.cmpi .ne v640 c0_i32_326
  let v645 : BitVec 1 := Scalar.andi v644 v641
  let v646 : BitVec 32 := Scalar.addi v640 v639
  let v647 : BitVec 32 := Scalar.select v645 v646 v640
  let v648 : BitVec 32 := Scalar.addi v637 v647
  let c0_i32_393 : BitVec 32 := 0#32
  ![v699.toNat, 2, v648.toNat, 0]
def k0_off22 (i : grid0.Coords) (k0_t2 : Fin (k0_t2_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_277 : BitVec 32 := 2#32
  let c0_i32_59 : BitVec 32 := 0#32
  let c0_i32_60 : BitVec 32 := 0#32
  let c1_i32_62 : BitVec 32 := 1#32
  let arg14 : BitVec 32 := Scf.iv c0_i32_60 c1_i32_62 k0_t2
  let c1_i32_58 : BitVec 32 := 1#32
  let v553 : BitVec 32 := Scalar.muli arg14 c1_i32_58
  let v554 : BitVec 32 := Scalar.addi c0_i32_59 v553
  let v555 : BitVec 32 := Scalar.muli c2_i32_277 v554
  let c0_i32_278 : BitVec 32 := 0#32
  let v556 : BitVec 32 := Scalar.addi v555 c0_i32_278
  let c32_i32_279 : BitVec 32 := 32#32
  let v557 : BitVec 32 := Scalar.muli v556 c32_i32_279
  let v558 : BitVec 32 := Scalar.addi v1 v557
  let c0_i32_310 : BitVec 32 := 0#32
  let v611 : BitVec 1 := Scalar.cmpi .sgt v558 c0_i32_310
  let v612 : BitVec 32 := Scalar.extui v611
  let c0_i32_311 : BitVec 32 := 0#32
  let v613 : BitVec 1 := Scalar.cmpi .slt v558 c0_i32_311
  let v614 : BitVec 32 := Scalar.extui v613
  let v615 : BitVec 32 := Scalar.subi v612 v614
  let c21_i32_309 : BitVec 32 := 21#32
  let c0_i32_312 : BitVec 32 := 0#32
  let v616 : BitVec 1 := Scalar.cmpi .sgt c21_i32_309 c0_i32_312
  let v617 : BitVec 32 := Scalar.extui v616
  let c0_i32_313 : BitVec 32 := 0#32
  let v618 : BitVec 1 := Scalar.cmpi .slt c21_i32_309 c0_i32_313
  let v619 : BitVec 32 := Scalar.extui v618
  let v620 : BitVec 32 := Scalar.subi v617 v619
  let v621 : BitVec 1 := Scalar.cmpi .ne v615 v620
  let v622 : BitVec 32 := Scalar.remsi v558 c21_i32_309
  let c0_i32_314 : BitVec 32 := 0#32
  let v623 : BitVec 1 := Scalar.cmpi .ne v622 c0_i32_314
  let v624 : BitVec 1 := Scalar.andi v621 v623
  let v610 : BitVec 32 := Scalar.divsi v558 c21_i32_309
  let c1_i32_315 : BitVec 32 := 1#32
  let v625 : BitVec 32 := Scalar.subi v610 c1_i32_315
  let v626 : BitVec 32 := Scalar.select v624 v625 v610
  let c0_i32_351 : BitVec 32 := 0#32
  let v701 : BitVec 1 := Scalar.cmpi .sgt v626 c0_i32_351
  let v702 : BitVec 32 := Scalar.extui v701
  let c0_i32_352 : BitVec 32 := 0#32
  let v703 : BitVec 1 := Scalar.cmpi .slt v626 c0_i32_352
  let v704 : BitVec 32 := Scalar.extui v703
  let v705 : BitVec 32 := Scalar.subi v702 v704
  let c4_i32_350 : BitVec 32 := 4#32
  let c0_i32_353 : BitVec 32 := 0#32
  let v706 : BitVec 1 := Scalar.cmpi .sgt c4_i32_350 c0_i32_353
  let v707 : BitVec 32 := Scalar.extui v706
  let c0_i32_354 : BitVec 32 := 0#32
  let v708 : BitVec 1 := Scalar.cmpi .slt c4_i32_350 c0_i32_354
  let v709 : BitVec 32 := Scalar.extui v708
  let v710 : BitVec 32 := Scalar.subi v707 v709
  let v711 : BitVec 1 := Scalar.cmpi .ne v705 v710
  let v712 : BitVec 32 := Scalar.remsi v626 c4_i32_350
  let c0_i32_355 : BitVec 32 := 0#32
  let v713 : BitVec 1 := Scalar.cmpi .ne v712 c0_i32_355
  let v714 : BitVec 1 := Scalar.andi v711 v713
  let v700 : BitVec 32 := Scalar.divsi v626 c4_i32_350
  let c1_i32_356 : BitVec 32 := 1#32
  let v715 : BitVec 32 := Scalar.subi v700 c1_i32_356
  let v716 : BitVec 32 := Scalar.select v714 v715 v700
  let c3_i32_396 : BitVec 32 := 3#32
  let c21_i32_316 : BitVec 32 := 21#32
  let c0_i32_317 : BitVec 32 := 0#32
  let v627 : BitVec 1 := Scalar.cmpi .eq c21_i32_316 c0_i32_317
  let c1_i32_318 : BitVec 32 := 1#32
  let v628 : BitVec 32 := Scalar.select v627 c1_i32_318 c21_i32_316
  let v629 : BitVec 32 := Scalar.remsi v558 v628
  let c0_i32_320 : BitVec 32 := 0#32
  let v631 : BitVec 1 := Scalar.cmpi .slt v629 c0_i32_320
  let c0_i32_321 : BitVec 32 := 0#32
  let v632 : BitVec 1 := Scalar.cmpi .slt v628 c0_i32_321
  let v633 : BitVec 1 := Scalar.xori v631 v632
  let c0_i32_319 : BitVec 32 := 0#32
  let v630 : BitVec 1 := Scalar.cmpi .ne v629 c0_i32_319
  let v634 : BitVec 1 := Scalar.andi v633 v630
  let v635 : BitVec 32 := Scalar.addi v629 v628
  let v636 : BitVec 32 := Scalar.select v634 v635 v629
  let c4_i32_322 : BitVec 32 := 4#32
  let v637 : BitVec 32 := Scalar.muli v636 c4_i32_322
  let c4_i32_323 : BitVec 32 := 4#32
  let c0_i32_324 : BitVec 32 := 0#32
  let v638 : BitVec 1 := Scalar.cmpi .eq c4_i32_323 c0_i32_324
  let c1_i32_325 : BitVec 32 := 1#32
  let v639 : BitVec 32 := Scalar.select v638 c1_i32_325 c4_i32_323
  let v640 : BitVec 32 := Scalar.remsi v626 v639
  let c0_i32_327 : BitVec 32 := 0#32
  let v642 : BitVec 1 := Scalar.cmpi .slt v640 c0_i32_327
  let c0_i32_328 : BitVec 32 := 0#32
  let v643 : BitVec 1 := Scalar.cmpi .slt v639 c0_i32_328
  let v644 : BitVec 1 := Scalar.xori v642 v643
  let c0_i32_326 : BitVec 32 := 0#32
  let v641 : BitVec 1 := Scalar.cmpi .ne v640 c0_i32_326
  let v645 : BitVec 1 := Scalar.andi v644 v641
  let v646 : BitVec 32 := Scalar.addi v640 v639
  let v647 : BitVec 32 := Scalar.select v645 v646 v640
  let v648 : BitVec 32 := Scalar.addi v637 v647
  let c0_i32_399 : BitVec 32 := 0#32
  ![v716.toNat, 3, v648.toNat, 0]
def k0_off23 (i : grid0.Coords) (k0_t2 : Fin (k0_t2_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_277 : BitVec 32 := 2#32
  let c0_i32_59 : BitVec 32 := 0#32
  let c0_i32_60 : BitVec 32 := 0#32
  let c1_i32_62 : BitVec 32 := 1#32
  let arg14 : BitVec 32 := Scf.iv c0_i32_60 c1_i32_62 k0_t2
  let c1_i32_58 : BitVec 32 := 1#32
  let v553 : BitVec 32 := Scalar.muli arg14 c1_i32_58
  let v554 : BitVec 32 := Scalar.addi c0_i32_59 v553
  let v555 : BitVec 32 := Scalar.muli c2_i32_277 v554
  let c0_i32_278 : BitVec 32 := 0#32
  let v556 : BitVec 32 := Scalar.addi v555 c0_i32_278
  let c32_i32_279 : BitVec 32 := 32#32
  let v557 : BitVec 32 := Scalar.muli v556 c32_i32_279
  let v558 : BitVec 32 := Scalar.addi v1 v557
  let c0_i32_310 : BitVec 32 := 0#32
  let v611 : BitVec 1 := Scalar.cmpi .sgt v558 c0_i32_310
  let v612 : BitVec 32 := Scalar.extui v611
  let c0_i32_311 : BitVec 32 := 0#32
  let v613 : BitVec 1 := Scalar.cmpi .slt v558 c0_i32_311
  let v614 : BitVec 32 := Scalar.extui v613
  let v615 : BitVec 32 := Scalar.subi v612 v614
  let c21_i32_309 : BitVec 32 := 21#32
  let c0_i32_312 : BitVec 32 := 0#32
  let v616 : BitVec 1 := Scalar.cmpi .sgt c21_i32_309 c0_i32_312
  let v617 : BitVec 32 := Scalar.extui v616
  let c0_i32_313 : BitVec 32 := 0#32
  let v618 : BitVec 1 := Scalar.cmpi .slt c21_i32_309 c0_i32_313
  let v619 : BitVec 32 := Scalar.extui v618
  let v620 : BitVec 32 := Scalar.subi v617 v619
  let v621 : BitVec 1 := Scalar.cmpi .ne v615 v620
  let v622 : BitVec 32 := Scalar.remsi v558 c21_i32_309
  let c0_i32_314 : BitVec 32 := 0#32
  let v623 : BitVec 1 := Scalar.cmpi .ne v622 c0_i32_314
  let v624 : BitVec 1 := Scalar.andi v621 v623
  let v610 : BitVec 32 := Scalar.divsi v558 c21_i32_309
  let c1_i32_315 : BitVec 32 := 1#32
  let v625 : BitVec 32 := Scalar.subi v610 c1_i32_315
  let v626 : BitVec 32 := Scalar.select v624 v625 v610
  let c0_i32_358 : BitVec 32 := 0#32
  let v718 : BitVec 1 := Scalar.cmpi .sgt v626 c0_i32_358
  let v719 : BitVec 32 := Scalar.extui v718
  let c0_i32_359 : BitVec 32 := 0#32
  let v720 : BitVec 1 := Scalar.cmpi .slt v626 c0_i32_359
  let v721 : BitVec 32 := Scalar.extui v720
  let v722 : BitVec 32 := Scalar.subi v719 v721
  let c4_i32_357 : BitVec 32 := 4#32
  let c0_i32_360 : BitVec 32 := 0#32
  let v723 : BitVec 1 := Scalar.cmpi .sgt c4_i32_357 c0_i32_360
  let v724 : BitVec 32 := Scalar.extui v723
  let c0_i32_361 : BitVec 32 := 0#32
  let v725 : BitVec 1 := Scalar.cmpi .slt c4_i32_357 c0_i32_361
  let v726 : BitVec 32 := Scalar.extui v725
  let v727 : BitVec 32 := Scalar.subi v724 v726
  let v728 : BitVec 1 := Scalar.cmpi .ne v722 v727
  let v729 : BitVec 32 := Scalar.remsi v626 c4_i32_357
  let c0_i32_362 : BitVec 32 := 0#32
  let v730 : BitVec 1 := Scalar.cmpi .ne v729 c0_i32_362
  let v731 : BitVec 1 := Scalar.andi v728 v730
  let v717 : BitVec 32 := Scalar.divsi v626 c4_i32_357
  let c1_i32_363 : BitVec 32 := 1#32
  let v732 : BitVec 32 := Scalar.subi v717 c1_i32_363
  let v733 : BitVec 32 := Scalar.select v731 v732 v717
  let c4_i32_402 : BitVec 32 := 4#32
  let c21_i32_316 : BitVec 32 := 21#32
  let c0_i32_317 : BitVec 32 := 0#32
  let v627 : BitVec 1 := Scalar.cmpi .eq c21_i32_316 c0_i32_317
  let c1_i32_318 : BitVec 32 := 1#32
  let v628 : BitVec 32 := Scalar.select v627 c1_i32_318 c21_i32_316
  let v629 : BitVec 32 := Scalar.remsi v558 v628
  let c0_i32_320 : BitVec 32 := 0#32
  let v631 : BitVec 1 := Scalar.cmpi .slt v629 c0_i32_320
  let c0_i32_321 : BitVec 32 := 0#32
  let v632 : BitVec 1 := Scalar.cmpi .slt v628 c0_i32_321
  let v633 : BitVec 1 := Scalar.xori v631 v632
  let c0_i32_319 : BitVec 32 := 0#32
  let v630 : BitVec 1 := Scalar.cmpi .ne v629 c0_i32_319
  let v634 : BitVec 1 := Scalar.andi v633 v630
  let v635 : BitVec 32 := Scalar.addi v629 v628
  let v636 : BitVec 32 := Scalar.select v634 v635 v629
  let c4_i32_322 : BitVec 32 := 4#32
  let v637 : BitVec 32 := Scalar.muli v636 c4_i32_322
  let c4_i32_323 : BitVec 32 := 4#32
  let c0_i32_324 : BitVec 32 := 0#32
  let v638 : BitVec 1 := Scalar.cmpi .eq c4_i32_323 c0_i32_324
  let c1_i32_325 : BitVec 32 := 1#32
  let v639 : BitVec 32 := Scalar.select v638 c1_i32_325 c4_i32_323
  let v640 : BitVec 32 := Scalar.remsi v626 v639
  let c0_i32_327 : BitVec 32 := 0#32
  let v642 : BitVec 1 := Scalar.cmpi .slt v640 c0_i32_327
  let c0_i32_328 : BitVec 32 := 0#32
  let v643 : BitVec 1 := Scalar.cmpi .slt v639 c0_i32_328
  let v644 : BitVec 1 := Scalar.xori v642 v643
  let c0_i32_326 : BitVec 32 := 0#32
  let v641 : BitVec 1 := Scalar.cmpi .ne v640 c0_i32_326
  let v645 : BitVec 1 := Scalar.andi v644 v641
  let v646 : BitVec 32 := Scalar.addi v640 v639
  let v647 : BitVec 32 := Scalar.select v645 v646 v640
  let v648 : BitVec 32 := Scalar.addi v637 v647
  let c0_i32_405 : BitVec 32 := 0#32
  ![v733.toNat, 4, v648.toNat, 0]
def k0_off24 (i : grid0.Coords) (k0_t2 : Fin (k0_t2_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_277 : BitVec 32 := 2#32
  let c0_i32_59 : BitVec 32 := 0#32
  let c0_i32_60 : BitVec 32 := 0#32
  let c1_i32_62 : BitVec 32 := 1#32
  let arg14 : BitVec 32 := Scf.iv c0_i32_60 c1_i32_62 k0_t2
  let c1_i32_58 : BitVec 32 := 1#32
  let v553 : BitVec 32 := Scalar.muli arg14 c1_i32_58
  let v554 : BitVec 32 := Scalar.addi c0_i32_59 v553
  let v555 : BitVec 32 := Scalar.muli c2_i32_277 v554
  let c0_i32_278 : BitVec 32 := 0#32
  let v556 : BitVec 32 := Scalar.addi v555 c0_i32_278
  let c32_i32_279 : BitVec 32 := 32#32
  let v557 : BitVec 32 := Scalar.muli v556 c32_i32_279
  let v558 : BitVec 32 := Scalar.addi v1 v557
  let c0_i32_310 : BitVec 32 := 0#32
  let v611 : BitVec 1 := Scalar.cmpi .sgt v558 c0_i32_310
  let v612 : BitVec 32 := Scalar.extui v611
  let c0_i32_311 : BitVec 32 := 0#32
  let v613 : BitVec 1 := Scalar.cmpi .slt v558 c0_i32_311
  let v614 : BitVec 32 := Scalar.extui v613
  let v615 : BitVec 32 := Scalar.subi v612 v614
  let c21_i32_309 : BitVec 32 := 21#32
  let c0_i32_312 : BitVec 32 := 0#32
  let v616 : BitVec 1 := Scalar.cmpi .sgt c21_i32_309 c0_i32_312
  let v617 : BitVec 32 := Scalar.extui v616
  let c0_i32_313 : BitVec 32 := 0#32
  let v618 : BitVec 1 := Scalar.cmpi .slt c21_i32_309 c0_i32_313
  let v619 : BitVec 32 := Scalar.extui v618
  let v620 : BitVec 32 := Scalar.subi v617 v619
  let v621 : BitVec 1 := Scalar.cmpi .ne v615 v620
  let v622 : BitVec 32 := Scalar.remsi v558 c21_i32_309
  let c0_i32_314 : BitVec 32 := 0#32
  let v623 : BitVec 1 := Scalar.cmpi .ne v622 c0_i32_314
  let v624 : BitVec 1 := Scalar.andi v621 v623
  let v610 : BitVec 32 := Scalar.divsi v558 c21_i32_309
  let c1_i32_315 : BitVec 32 := 1#32
  let v625 : BitVec 32 := Scalar.subi v610 c1_i32_315
  let v626 : BitVec 32 := Scalar.select v624 v625 v610
  let c0_i32_365 : BitVec 32 := 0#32
  let v735 : BitVec 1 := Scalar.cmpi .sgt v626 c0_i32_365
  let v736 : BitVec 32 := Scalar.extui v735
  let c0_i32_366 : BitVec 32 := 0#32
  let v737 : BitVec 1 := Scalar.cmpi .slt v626 c0_i32_366
  let v738 : BitVec 32 := Scalar.extui v737
  let v739 : BitVec 32 := Scalar.subi v736 v738
  let c4_i32_364 : BitVec 32 := 4#32
  let c0_i32_367 : BitVec 32 := 0#32
  let v740 : BitVec 1 := Scalar.cmpi .sgt c4_i32_364 c0_i32_367
  let v741 : BitVec 32 := Scalar.extui v740
  let c0_i32_368 : BitVec 32 := 0#32
  let v742 : BitVec 1 := Scalar.cmpi .slt c4_i32_364 c0_i32_368
  let v743 : BitVec 32 := Scalar.extui v742
  let v744 : BitVec 32 := Scalar.subi v741 v743
  let v745 : BitVec 1 := Scalar.cmpi .ne v739 v744
  let v746 : BitVec 32 := Scalar.remsi v626 c4_i32_364
  let c0_i32_369 : BitVec 32 := 0#32
  let v747 : BitVec 1 := Scalar.cmpi .ne v746 c0_i32_369
  let v748 : BitVec 1 := Scalar.andi v745 v747
  let v734 : BitVec 32 := Scalar.divsi v626 c4_i32_364
  let c1_i32_370 : BitVec 32 := 1#32
  let v749 : BitVec 32 := Scalar.subi v734 c1_i32_370
  let v750 : BitVec 32 := Scalar.select v748 v749 v734
  let c5_i32_408 : BitVec 32 := 5#32
  let c21_i32_316 : BitVec 32 := 21#32
  let c0_i32_317 : BitVec 32 := 0#32
  let v627 : BitVec 1 := Scalar.cmpi .eq c21_i32_316 c0_i32_317
  let c1_i32_318 : BitVec 32 := 1#32
  let v628 : BitVec 32 := Scalar.select v627 c1_i32_318 c21_i32_316
  let v629 : BitVec 32 := Scalar.remsi v558 v628
  let c0_i32_320 : BitVec 32 := 0#32
  let v631 : BitVec 1 := Scalar.cmpi .slt v629 c0_i32_320
  let c0_i32_321 : BitVec 32 := 0#32
  let v632 : BitVec 1 := Scalar.cmpi .slt v628 c0_i32_321
  let v633 : BitVec 1 := Scalar.xori v631 v632
  let c0_i32_319 : BitVec 32 := 0#32
  let v630 : BitVec 1 := Scalar.cmpi .ne v629 c0_i32_319
  let v634 : BitVec 1 := Scalar.andi v633 v630
  let v635 : BitVec 32 := Scalar.addi v629 v628
  let v636 : BitVec 32 := Scalar.select v634 v635 v629
  let c4_i32_322 : BitVec 32 := 4#32
  let v637 : BitVec 32 := Scalar.muli v636 c4_i32_322
  let c4_i32_323 : BitVec 32 := 4#32
  let c0_i32_324 : BitVec 32 := 0#32
  let v638 : BitVec 1 := Scalar.cmpi .eq c4_i32_323 c0_i32_324
  let c1_i32_325 : BitVec 32 := 1#32
  let v639 : BitVec 32 := Scalar.select v638 c1_i32_325 c4_i32_323
  let v640 : BitVec 32 := Scalar.remsi v626 v639
  let c0_i32_327 : BitVec 32 := 0#32
  let v642 : BitVec 1 := Scalar.cmpi .slt v640 c0_i32_327
  let c0_i32_328 : BitVec 32 := 0#32
  let v643 : BitVec 1 := Scalar.cmpi .slt v639 c0_i32_328
  let v644 : BitVec 1 := Scalar.xori v642 v643
  let c0_i32_326 : BitVec 32 := 0#32
  let v641 : BitVec 1 := Scalar.cmpi .ne v640 c0_i32_326
  let v645 : BitVec 1 := Scalar.andi v644 v641
  let v646 : BitVec 32 := Scalar.addi v640 v639
  let v647 : BitVec 32 := Scalar.select v645 v646 v640
  let v648 : BitVec 32 := Scalar.addi v637 v647
  let c0_i32_411 : BitVec 32 := 0#32
  ![v750.toNat, 5, v648.toNat, 0]
def k0_off25 (i : grid0.Coords) (k0_t2 : Fin (k0_t2_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_277 : BitVec 32 := 2#32
  let c0_i32_59 : BitVec 32 := 0#32
  let c0_i32_60 : BitVec 32 := 0#32
  let c1_i32_62 : BitVec 32 := 1#32
  let arg14 : BitVec 32 := Scf.iv c0_i32_60 c1_i32_62 k0_t2
  let c1_i32_58 : BitVec 32 := 1#32
  let v553 : BitVec 32 := Scalar.muli arg14 c1_i32_58
  let v554 : BitVec 32 := Scalar.addi c0_i32_59 v553
  let v555 : BitVec 32 := Scalar.muli c2_i32_277 v554
  let c0_i32_278 : BitVec 32 := 0#32
  let v556 : BitVec 32 := Scalar.addi v555 c0_i32_278
  let c32_i32_279 : BitVec 32 := 32#32
  let v557 : BitVec 32 := Scalar.muli v556 c32_i32_279
  let v558 : BitVec 32 := Scalar.addi v1 v557
  let c0_i32_310 : BitVec 32 := 0#32
  let v611 : BitVec 1 := Scalar.cmpi .sgt v558 c0_i32_310
  let v612 : BitVec 32 := Scalar.extui v611
  let c0_i32_311 : BitVec 32 := 0#32
  let v613 : BitVec 1 := Scalar.cmpi .slt v558 c0_i32_311
  let v614 : BitVec 32 := Scalar.extui v613
  let v615 : BitVec 32 := Scalar.subi v612 v614
  let c21_i32_309 : BitVec 32 := 21#32
  let c0_i32_312 : BitVec 32 := 0#32
  let v616 : BitVec 1 := Scalar.cmpi .sgt c21_i32_309 c0_i32_312
  let v617 : BitVec 32 := Scalar.extui v616
  let c0_i32_313 : BitVec 32 := 0#32
  let v618 : BitVec 1 := Scalar.cmpi .slt c21_i32_309 c0_i32_313
  let v619 : BitVec 32 := Scalar.extui v618
  let v620 : BitVec 32 := Scalar.subi v617 v619
  let v621 : BitVec 1 := Scalar.cmpi .ne v615 v620
  let v622 : BitVec 32 := Scalar.remsi v558 c21_i32_309
  let c0_i32_314 : BitVec 32 := 0#32
  let v623 : BitVec 1 := Scalar.cmpi .ne v622 c0_i32_314
  let v624 : BitVec 1 := Scalar.andi v621 v623
  let v610 : BitVec 32 := Scalar.divsi v558 c21_i32_309
  let c1_i32_315 : BitVec 32 := 1#32
  let v625 : BitVec 32 := Scalar.subi v610 c1_i32_315
  let v626 : BitVec 32 := Scalar.select v624 v625 v610
  let c0_i32_372 : BitVec 32 := 0#32
  let v752 : BitVec 1 := Scalar.cmpi .sgt v626 c0_i32_372
  let v753 : BitVec 32 := Scalar.extui v752
  let c0_i32_373 : BitVec 32 := 0#32
  let v754 : BitVec 1 := Scalar.cmpi .slt v626 c0_i32_373
  let v755 : BitVec 32 := Scalar.extui v754
  let v756 : BitVec 32 := Scalar.subi v753 v755
  let c4_i32_371 : BitVec 32 := 4#32
  let c0_i32_374 : BitVec 32 := 0#32
  let v757 : BitVec 1 := Scalar.cmpi .sgt c4_i32_371 c0_i32_374
  let v758 : BitVec 32 := Scalar.extui v757
  let c0_i32_375 : BitVec 32 := 0#32
  let v759 : BitVec 1 := Scalar.cmpi .slt c4_i32_371 c0_i32_375
  let v760 : BitVec 32 := Scalar.extui v759
  let v761 : BitVec 32 := Scalar.subi v758 v760
  let v762 : BitVec 1 := Scalar.cmpi .ne v756 v761
  let v763 : BitVec 32 := Scalar.remsi v626 c4_i32_371
  let c0_i32_376 : BitVec 32 := 0#32
  let v764 : BitVec 1 := Scalar.cmpi .ne v763 c0_i32_376
  let v765 : BitVec 1 := Scalar.andi v762 v764
  let v751 : BitVec 32 := Scalar.divsi v626 c4_i32_371
  let c1_i32_377 : BitVec 32 := 1#32
  let v766 : BitVec 32 := Scalar.subi v751 c1_i32_377
  let v767 : BitVec 32 := Scalar.select v765 v766 v751
  let c6_i32_414 : BitVec 32 := 6#32
  let c21_i32_316 : BitVec 32 := 21#32
  let c0_i32_317 : BitVec 32 := 0#32
  let v627 : BitVec 1 := Scalar.cmpi .eq c21_i32_316 c0_i32_317
  let c1_i32_318 : BitVec 32 := 1#32
  let v628 : BitVec 32 := Scalar.select v627 c1_i32_318 c21_i32_316
  let v629 : BitVec 32 := Scalar.remsi v558 v628
  let c0_i32_320 : BitVec 32 := 0#32
  let v631 : BitVec 1 := Scalar.cmpi .slt v629 c0_i32_320
  let c0_i32_321 : BitVec 32 := 0#32
  let v632 : BitVec 1 := Scalar.cmpi .slt v628 c0_i32_321
  let v633 : BitVec 1 := Scalar.xori v631 v632
  let c0_i32_319 : BitVec 32 := 0#32
  let v630 : BitVec 1 := Scalar.cmpi .ne v629 c0_i32_319
  let v634 : BitVec 1 := Scalar.andi v633 v630
  let v635 : BitVec 32 := Scalar.addi v629 v628
  let v636 : BitVec 32 := Scalar.select v634 v635 v629
  let c4_i32_322 : BitVec 32 := 4#32
  let v637 : BitVec 32 := Scalar.muli v636 c4_i32_322
  let c4_i32_323 : BitVec 32 := 4#32
  let c0_i32_324 : BitVec 32 := 0#32
  let v638 : BitVec 1 := Scalar.cmpi .eq c4_i32_323 c0_i32_324
  let c1_i32_325 : BitVec 32 := 1#32
  let v639 : BitVec 32 := Scalar.select v638 c1_i32_325 c4_i32_323
  let v640 : BitVec 32 := Scalar.remsi v626 v639
  let c0_i32_327 : BitVec 32 := 0#32
  let v642 : BitVec 1 := Scalar.cmpi .slt v640 c0_i32_327
  let c0_i32_328 : BitVec 32 := 0#32
  let v643 : BitVec 1 := Scalar.cmpi .slt v639 c0_i32_328
  let v644 : BitVec 1 := Scalar.xori v642 v643
  let c0_i32_326 : BitVec 32 := 0#32
  let v641 : BitVec 1 := Scalar.cmpi .ne v640 c0_i32_326
  let v645 : BitVec 1 := Scalar.andi v644 v641
  let v646 : BitVec 32 := Scalar.addi v640 v639
  let v647 : BitVec 32 := Scalar.select v645 v646 v640
  let v648 : BitVec 32 := Scalar.addi v637 v647
  let c0_i32_417 : BitVec 32 := 0#32
  ![v767.toNat, 6, v648.toNat, 0]
def k0_cond3 (i : grid0.Coords) (k0_t2 : Fin (k0_t2_loop i).trips) : BitVec 1 :=
  let c2_i32_277 : BitVec 32 := 2#32
  let c0_i32_59 : BitVec 32 := 0#32
  let c0_i32_60 : BitVec 32 := 0#32
  let c1_i32_62 : BitVec 32 := 1#32
  let arg14 : BitVec 32 := Scf.iv c0_i32_60 c1_i32_62 k0_t2
  let c1_i32_58 : BitVec 32 := 1#32
  let v553 : BitVec 32 := Scalar.muli arg14 c1_i32_58
  let v554 : BitVec 32 := Scalar.addi c0_i32_59 v553
  let v555 : BitVec 32 := Scalar.muli c2_i32_277 v554
  let c0_i32_278 : BitVec 32 := 0#32
  let v556 : BitVec 32 := Scalar.addi v555 c0_i32_278
  let c2_i32_420 : BitVec 32 := 2#32
  let v824 : BitVec 32 := Scalar.addi v556 c2_i32_420
  let c1764_i32 : BitVec 32 := 1764#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v3 : BitVec 32 := Scalar.subi c1764_i32 v1
  let c32_i32 : BitVec 32 := 32#32
  let v4 : BitVec 32 := Scalar.addi v3 c32_i32
  let c1_i32_1 : BitVec 32 := 1#32
  let v5 : BitVec 32 := Scalar.subi v4 c1_i32_1
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c32_i32_2 : BitVec 32 := 32#32
  let c0_i32_5 : BitVec 32 := 0#32
  let v12 : BitVec 1 := Scalar.cmpi .sgt c32_i32_2 c0_i32_5
  let v13 : BitVec 32 := Scalar.extui v12
  let c0_i32_6 : BitVec 32 := 0#32
  let v14 : BitVec 1 := Scalar.cmpi .slt c32_i32_2 c0_i32_6
  let v15 : BitVec 32 := Scalar.extui v14
  let v16 : BitVec 32 := Scalar.subi v13 v15
  let v17 : BitVec 1 := Scalar.cmpi .ne v11 v16
  let v18 : BitVec 32 := Scalar.remsi v5 c32_i32_2
  let c0_i32_7 : BitVec 32 := 0#32
  let v19 : BitVec 1 := Scalar.cmpi .ne v18 c0_i32_7
  let v20 : BitVec 1 := Scalar.andi v17 v19
  let v6 : BitVec 32 := Scalar.divsi v5 c32_i32_2
  let c1_i32_8 : BitVec 32 := 1#32
  let v21 : BitVec 32 := Scalar.subi v6 c1_i32_8
  let v22 : BitVec 32 := Scalar.select v20 v21 v6
  let v825 : BitVec 1 := Scalar.cmpi .slt v824 v22
  let v826 : BitVec 32 := Scalar.extui v825
  let c0_i32_421 : BitVec 32 := 0#32
  let v827 : BitVec 1 := Scalar.cmpi .ne v826 c0_i32_421
  v827

def k0_off26 (i : grid0.Coords) (k0_t2 : Fin (k0_t2_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_277 : BitVec 32 := 2#32
  let c0_i32_59 : BitVec 32 := 0#32
  let c0_i32_60 : BitVec 32 := 0#32
  let c1_i32_62 : BitVec 32 := 1#32
  let arg14 : BitVec 32 := Scf.iv c0_i32_60 c1_i32_62 k0_t2
  let c1_i32_58 : BitVec 32 := 1#32
  let v553 : BitVec 32 := Scalar.muli arg14 c1_i32_58
  let v554 : BitVec 32 := Scalar.addi c0_i32_59 v553
  let v555 : BitVec 32 := Scalar.muli c2_i32_277 v554
  let c0_i32_278 : BitVec 32 := 0#32
  let v556 : BitVec 32 := Scalar.addi v555 c0_i32_278
  let c32_i32_279 : BitVec 32 := 32#32
  let v557 : BitVec 32 := Scalar.muli v556 c32_i32_279
  let v558 : BitVec 32 := Scalar.addi v1 v557
  let c64_i32 : BitVec 32 := 64#32
  let v828 : BitVec 32 := Scalar.addi v558 c64_i32
  let c0_i32_423 : BitVec 32 := 0#32
  let v830 : BitVec 1 := Scalar.cmpi .sgt v828 c0_i32_423
  let v831 : BitVec 32 := Scalar.extui v830
  let c0_i32_424 : BitVec 32 := 0#32
  let v832 : BitVec 1 := Scalar.cmpi .slt v828 c0_i32_424
  let v833 : BitVec 32 := Scalar.extui v832
  let v834 : BitVec 32 := Scalar.subi v831 v833
  let c21_i32_422 : BitVec 32 := 21#32
  let c0_i32_425 : BitVec 32 := 0#32
  let v835 : BitVec 1 := Scalar.cmpi .sgt c21_i32_422 c0_i32_425
  let v836 : BitVec 32 := Scalar.extui v835
  let c0_i32_426 : BitVec 32 := 0#32
  let v837 : BitVec 1 := Scalar.cmpi .slt c21_i32_422 c0_i32_426
  let v838 : BitVec 32 := Scalar.extui v837
  let v839 : BitVec 32 := Scalar.subi v836 v838
  let v840 : BitVec 1 := Scalar.cmpi .ne v834 v839
  let v841 : BitVec 32 := Scalar.remsi v828 c21_i32_422
  let c0_i32_427 : BitVec 32 := 0#32
  let v842 : BitVec 1 := Scalar.cmpi .ne v841 c0_i32_427
  let v843 : BitVec 1 := Scalar.andi v840 v842
  let v829 : BitVec 32 := Scalar.divsi v828 c21_i32_422
  let c1_i32_428 : BitVec 32 := 1#32
  let v844 : BitVec 32 := Scalar.subi v829 c1_i32_428
  let v845 : BitVec 32 := Scalar.select v843 v844 v829
  let c21_i32_429 : BitVec 32 := 21#32
  let c0_i32_430 : BitVec 32 := 0#32
  let v846 : BitVec 1 := Scalar.cmpi .eq c21_i32_429 c0_i32_430
  let c1_i32_431 : BitVec 32 := 1#32
  let v847 : BitVec 32 := Scalar.select v846 c1_i32_431 c21_i32_429
  let v848 : BitVec 32 := Scalar.remsi v828 v847
  let c0_i32_433 : BitVec 32 := 0#32
  let v850 : BitVec 1 := Scalar.cmpi .slt v848 c0_i32_433
  let c0_i32_434 : BitVec 32 := 0#32
  let v851 : BitVec 1 := Scalar.cmpi .slt v847 c0_i32_434
  let v852 : BitVec 1 := Scalar.xori v850 v851
  let c0_i32_432 : BitVec 32 := 0#32
  let v849 : BitVec 1 := Scalar.cmpi .ne v848 c0_i32_432
  let v853 : BitVec 1 := Scalar.andi v852 v849
  let v854 : BitVec 32 := Scalar.addi v848 v847
  let v855 : BitVec 32 := Scalar.select v853 v854 v848
  let c0_i32_437 : BitVec 32 := 0#32
  ![v845.toNat, v855.toNat, 0]
def k0_cond4 (i : grid0.Coords) (k0_t2 : Fin (k0_t2_loop i).trips) : BitVec 1 :=
  let c2_i32_281 : BitVec 32 := 2#32
  let c0_i32_59 : BitVec 32 := 0#32
  let c0_i32_60 : BitVec 32 := 0#32
  let c1_i32_62 : BitVec 32 := 1#32
  let arg14 : BitVec 32 := Scf.iv c0_i32_60 c1_i32_62 k0_t2
  let c1_i32_58 : BitVec 32 := 1#32
  let v553 : BitVec 32 := Scalar.muli arg14 c1_i32_58
  let v554 : BitVec 32 := Scalar.addi c0_i32_59 v553
  let v562 : BitVec 32 := Scalar.muli c2_i32_281 v554
  let c1_i32_282 : BitVec 32 := 1#32
  let v563 : BitVec 32 := Scalar.addi v562 c1_i32_282
  let c1764_i32 : BitVec 32 := 1764#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v3 : BitVec 32 := Scalar.subi c1764_i32 v1
  let c32_i32 : BitVec 32 := 32#32
  let v4 : BitVec 32 := Scalar.addi v3 c32_i32
  let c1_i32_1 : BitVec 32 := 1#32
  let v5 : BitVec 32 := Scalar.subi v4 c1_i32_1
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c32_i32_2 : BitVec 32 := 32#32
  let c0_i32_5 : BitVec 32 := 0#32
  let v12 : BitVec 1 := Scalar.cmpi .sgt c32_i32_2 c0_i32_5
  let v13 : BitVec 32 := Scalar.extui v12
  let c0_i32_6 : BitVec 32 := 0#32
  let v14 : BitVec 1 := Scalar.cmpi .slt c32_i32_2 c0_i32_6
  let v15 : BitVec 32 := Scalar.extui v14
  let v16 : BitVec 32 := Scalar.subi v13 v15
  let v17 : BitVec 1 := Scalar.cmpi .ne v11 v16
  let v18 : BitVec 32 := Scalar.remsi v5 c32_i32_2
  let c0_i32_7 : BitVec 32 := 0#32
  let v19 : BitVec 1 := Scalar.cmpi .ne v18 c0_i32_7
  let v20 : BitVec 1 := Scalar.andi v17 v19
  let v6 : BitVec 32 := Scalar.divsi v5 c32_i32_2
  let c1_i32_8 : BitVec 32 := 1#32
  let v21 : BitVec 32 := Scalar.subi v6 c1_i32_8
  let v22 : BitVec 32 := Scalar.select v20 v21 v6
  let v566 : BitVec 1 := Scalar.cmpi .slt v563 v22
  let v567 : BitVec 32 := Scalar.extui v566
  let c0_i32_284 : BitVec 32 := 0#32
  let v568 : BitVec 1 := Scalar.cmpi .ne v567 c0_i32_284
  v568

def k0_off27 (i : grid0.Coords) (k0_t2 : Fin (k0_t2_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_281 : BitVec 32 := 2#32
  let c0_i32_59 : BitVec 32 := 0#32
  let c0_i32_60 : BitVec 32 := 0#32
  let c1_i32_62 : BitVec 32 := 1#32
  let arg14 : BitVec 32 := Scf.iv c0_i32_60 c1_i32_62 k0_t2
  let c1_i32_58 : BitVec 32 := 1#32
  let v553 : BitVec 32 := Scalar.muli arg14 c1_i32_58
  let v554 : BitVec 32 := Scalar.addi c0_i32_59 v553
  let v562 : BitVec 32 := Scalar.muli c2_i32_281 v554
  let c1_i32_282 : BitVec 32 := 1#32
  let v563 : BitVec 32 := Scalar.addi v562 c1_i32_282
  let c32_i32_283 : BitVec 32 := 32#32
  let v564 : BitVec 32 := Scalar.muli v563 c32_i32_283
  let v565 : BitVec 32 := Scalar.addi v1 v564
  let c0_i32_286 : BitVec 32 := 0#32
  let v570 : BitVec 1 := Scalar.cmpi .sgt v565 c0_i32_286
  let v571 : BitVec 32 := Scalar.extui v570
  let c0_i32_287 : BitVec 32 := 0#32
  let v572 : BitVec 1 := Scalar.cmpi .slt v565 c0_i32_287
  let v573 : BitVec 32 := Scalar.extui v572
  let v574 : BitVec 32 := Scalar.subi v571 v573
  let c21_i32_285 : BitVec 32 := 21#32
  let c0_i32_288 : BitVec 32 := 0#32
  let v575 : BitVec 1 := Scalar.cmpi .sgt c21_i32_285 c0_i32_288
  let v576 : BitVec 32 := Scalar.extui v575
  let c0_i32_289 : BitVec 32 := 0#32
  let v577 : BitVec 1 := Scalar.cmpi .slt c21_i32_285 c0_i32_289
  let v578 : BitVec 32 := Scalar.extui v577
  let v579 : BitVec 32 := Scalar.subi v576 v578
  let v580 : BitVec 1 := Scalar.cmpi .ne v574 v579
  let v581 : BitVec 32 := Scalar.remsi v565 c21_i32_285
  let c0_i32_290 : BitVec 32 := 0#32
  let v582 : BitVec 1 := Scalar.cmpi .ne v581 c0_i32_290
  let v583 : BitVec 1 := Scalar.andi v580 v582
  let v569 : BitVec 32 := Scalar.divsi v565 c21_i32_285
  let c1_i32_291 : BitVec 32 := 1#32
  let v584 : BitVec 32 := Scalar.subi v569 c1_i32_291
  let v585 : BitVec 32 := Scalar.select v583 v584 v569
  let c21_i32_292 : BitVec 32 := 21#32
  let c0_i32_293 : BitVec 32 := 0#32
  let v586 : BitVec 1 := Scalar.cmpi .eq c21_i32_292 c0_i32_293
  let c1_i32_294 : BitVec 32 := 1#32
  let v587 : BitVec 32 := Scalar.select v586 c1_i32_294 c21_i32_292
  let v588 : BitVec 32 := Scalar.remsi v565 v587
  let c0_i32_296 : BitVec 32 := 0#32
  let v590 : BitVec 1 := Scalar.cmpi .slt v588 c0_i32_296
  let c0_i32_297 : BitVec 32 := 0#32
  let v591 : BitVec 1 := Scalar.cmpi .slt v587 c0_i32_297
  let v592 : BitVec 1 := Scalar.xori v590 v591
  let c0_i32_295 : BitVec 32 := 0#32
  let v589 : BitVec 1 := Scalar.cmpi .ne v588 c0_i32_295
  let v593 : BitVec 1 := Scalar.andi v592 v589
  let v594 : BitVec 32 := Scalar.addi v588 v587
  let v595 : BitVec 32 := Scalar.select v593 v594 v588
  let c0_i32_300 : BitVec 32 := 0#32
  ![v585.toNat, v595.toNat, 0]
def k0_cond5 (i : grid0.Coords) (k0_t2 : Fin (k0_t2_loop i).trips) : BitVec 1 :=
  let c2_i32_281 : BitVec 32 := 2#32
  let c0_i32_59 : BitVec 32 := 0#32
  let c0_i32_60 : BitVec 32 := 0#32
  let c1_i32_62 : BitVec 32 := 1#32
  let arg14 : BitVec 32 := Scf.iv c0_i32_60 c1_i32_62 k0_t2
  let c1_i32_58 : BitVec 32 := 1#32
  let v553 : BitVec 32 := Scalar.muli arg14 c1_i32_58
  let v554 : BitVec 32 := Scalar.addi c0_i32_59 v553
  let v562 : BitVec 32 := Scalar.muli c2_i32_281 v554
  let c1_i32_282 : BitVec 32 := 1#32
  let v563 : BitVec 32 := Scalar.addi v562 c1_i32_282
  let c2_i32_303 : BitVec 32 := 2#32
  let v604 : BitVec 1 := Scalar.cmpi .sge v563 c2_i32_303
  let v605 : BitVec 32 := Scalar.extui v604
  let c0_i32_304 : BitVec 32 := 0#32
  let v606 : BitVec 1 := Scalar.cmpi .ne v605 c0_i32_304
  v606

def k0_off28 (i : grid0.Coords) (k0_t2 : Fin (k0_t2_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_281 : BitVec 32 := 2#32
  let c0_i32_59 : BitVec 32 := 0#32
  let c0_i32_60 : BitVec 32 := 0#32
  let c1_i32_62 : BitVec 32 := 1#32
  let arg14 : BitVec 32 := Scf.iv c0_i32_60 c1_i32_62 k0_t2
  let c1_i32_58 : BitVec 32 := 1#32
  let v553 : BitVec 32 := Scalar.muli arg14 c1_i32_58
  let v554 : BitVec 32 := Scalar.addi c0_i32_59 v553
  let v562 : BitVec 32 := Scalar.muli c2_i32_281 v554
  let c1_i32_282 : BitVec 32 := 1#32
  let v563 : BitVec 32 := Scalar.addi v562 c1_i32_282
  let c32_i32_283 : BitVec 32 := 32#32
  let v564 : BitVec 32 := Scalar.muli v563 c32_i32_283
  let v565 : BitVec 32 := Scalar.addi v1 v564
  let c0_i32_423 : BitVec 32 := 0#32
  let v829 : BitVec 1 := Scalar.cmpi .sgt v565 c0_i32_423
  let v830 : BitVec 32 := Scalar.extui v829
  let c0_i32_424 : BitVec 32 := 0#32
  let v831 : BitVec 1 := Scalar.cmpi .slt v565 c0_i32_424
  let v832 : BitVec 32 := Scalar.extui v831
  let v833 : BitVec 32 := Scalar.subi v830 v832
  let c21_i32_422 : BitVec 32 := 21#32
  let c0_i32_425 : BitVec 32 := 0#32
  let v834 : BitVec 1 := Scalar.cmpi .sgt c21_i32_422 c0_i32_425
  let v835 : BitVec 32 := Scalar.extui v834
  let c0_i32_426 : BitVec 32 := 0#32
  let v836 : BitVec 1 := Scalar.cmpi .slt c21_i32_422 c0_i32_426
  let v837 : BitVec 32 := Scalar.extui v836
  let v838 : BitVec 32 := Scalar.subi v835 v837
  let v839 : BitVec 1 := Scalar.cmpi .ne v833 v838
  let v840 : BitVec 32 := Scalar.remsi v565 c21_i32_422
  let c0_i32_427 : BitVec 32 := 0#32
  let v841 : BitVec 1 := Scalar.cmpi .ne v840 c0_i32_427
  let v842 : BitVec 1 := Scalar.andi v839 v841
  let v828 : BitVec 32 := Scalar.divsi v565 c21_i32_422
  let c1_i32_428 : BitVec 32 := 1#32
  let v843 : BitVec 32 := Scalar.subi v828 c1_i32_428
  let v844 : BitVec 32 := Scalar.select v842 v843 v828
  let c0_i32_443 : BitVec 32 := 0#32
  let v868 : BitVec 1 := Scalar.cmpi .sgt v844 c0_i32_443
  let v869 : BitVec 32 := Scalar.extui v868
  let c0_i32_444 : BitVec 32 := 0#32
  let v870 : BitVec 1 := Scalar.cmpi .slt v844 c0_i32_444
  let v871 : BitVec 32 := Scalar.extui v870
  let v872 : BitVec 32 := Scalar.subi v869 v871
  let c4_i32_442 : BitVec 32 := 4#32
  let c0_i32_445 : BitVec 32 := 0#32
  let v873 : BitVec 1 := Scalar.cmpi .sgt c4_i32_442 c0_i32_445
  let v874 : BitVec 32 := Scalar.extui v873
  let c0_i32_446 : BitVec 32 := 0#32
  let v875 : BitVec 1 := Scalar.cmpi .slt c4_i32_442 c0_i32_446
  let v876 : BitVec 32 := Scalar.extui v875
  let v877 : BitVec 32 := Scalar.subi v874 v876
  let v878 : BitVec 1 := Scalar.cmpi .ne v872 v877
  let v879 : BitVec 32 := Scalar.remsi v844 c4_i32_442
  let c0_i32_447 : BitVec 32 := 0#32
  let v880 : BitVec 1 := Scalar.cmpi .ne v879 c0_i32_447
  let v881 : BitVec 1 := Scalar.andi v878 v880
  let v867 : BitVec 32 := Scalar.divsi v844 c4_i32_442
  let c1_i32_448 : BitVec 32 := 1#32
  let v882 : BitVec 32 := Scalar.subi v867 c1_i32_448
  let v883 : BitVec 32 := Scalar.select v881 v882 v867
  let c0_i32_491 : BitVec 32 := 0#32
  let c21_i32_429 : BitVec 32 := 21#32
  let c0_i32_430 : BitVec 32 := 0#32
  let v845 : BitVec 1 := Scalar.cmpi .eq c21_i32_429 c0_i32_430
  let c1_i32_431 : BitVec 32 := 1#32
  let v846 : BitVec 32 := Scalar.select v845 c1_i32_431 c21_i32_429
  let v847 : BitVec 32 := Scalar.remsi v565 v846
  let c0_i32_433 : BitVec 32 := 0#32
  let v849 : BitVec 1 := Scalar.cmpi .slt v847 c0_i32_433
  let c0_i32_434 : BitVec 32 := 0#32
  let v850 : BitVec 1 := Scalar.cmpi .slt v846 c0_i32_434
  let v851 : BitVec 1 := Scalar.xori v849 v850
  let c0_i32_432 : BitVec 32 := 0#32
  let v848 : BitVec 1 := Scalar.cmpi .ne v847 c0_i32_432
  let v852 : BitVec 1 := Scalar.andi v851 v848
  let v853 : BitVec 32 := Scalar.addi v847 v846
  let v854 : BitVec 32 := Scalar.select v852 v853 v847
  let c4_i32_435 : BitVec 32 := 4#32
  let v855 : BitVec 32 := Scalar.muli v854 c4_i32_435
  let c4_i32_436 : BitVec 32 := 4#32
  let c0_i32_437 : BitVec 32 := 0#32
  let v856 : BitVec 1 := Scalar.cmpi .eq c4_i32_436 c0_i32_437
  let c1_i32_438 : BitVec 32 := 1#32
  let v857 : BitVec 32 := Scalar.select v856 c1_i32_438 c4_i32_436
  let v858 : BitVec 32 := Scalar.remsi v844 v857
  let c0_i32_440 : BitVec 32 := 0#32
  let v860 : BitVec 1 := Scalar.cmpi .slt v858 c0_i32_440
  let c0_i32_441 : BitVec 32 := 0#32
  let v861 : BitVec 1 := Scalar.cmpi .slt v857 c0_i32_441
  let v862 : BitVec 1 := Scalar.xori v860 v861
  let c0_i32_439 : BitVec 32 := 0#32
  let v859 : BitVec 1 := Scalar.cmpi .ne v858 c0_i32_439
  let v863 : BitVec 1 := Scalar.andi v862 v859
  let v864 : BitVec 32 := Scalar.addi v858 v857
  let v865 : BitVec 32 := Scalar.select v863 v864 v858
  let v866 : BitVec 32 := Scalar.addi v855 v865
  let c0_i32_494 : BitVec 32 := 0#32
  ![v883.toNat, 0, v866.toNat, 0]
def k0_off29 (i : grid0.Coords) (k0_t2 : Fin (k0_t2_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_281 : BitVec 32 := 2#32
  let c0_i32_59 : BitVec 32 := 0#32
  let c0_i32_60 : BitVec 32 := 0#32
  let c1_i32_62 : BitVec 32 := 1#32
  let arg14 : BitVec 32 := Scf.iv c0_i32_60 c1_i32_62 k0_t2
  let c1_i32_58 : BitVec 32 := 1#32
  let v553 : BitVec 32 := Scalar.muli arg14 c1_i32_58
  let v554 : BitVec 32 := Scalar.addi c0_i32_59 v553
  let v562 : BitVec 32 := Scalar.muli c2_i32_281 v554
  let c1_i32_282 : BitVec 32 := 1#32
  let v563 : BitVec 32 := Scalar.addi v562 c1_i32_282
  let c32_i32_283 : BitVec 32 := 32#32
  let v564 : BitVec 32 := Scalar.muli v563 c32_i32_283
  let v565 : BitVec 32 := Scalar.addi v1 v564
  let c0_i32_423 : BitVec 32 := 0#32
  let v829 : BitVec 1 := Scalar.cmpi .sgt v565 c0_i32_423
  let v830 : BitVec 32 := Scalar.extui v829
  let c0_i32_424 : BitVec 32 := 0#32
  let v831 : BitVec 1 := Scalar.cmpi .slt v565 c0_i32_424
  let v832 : BitVec 32 := Scalar.extui v831
  let v833 : BitVec 32 := Scalar.subi v830 v832
  let c21_i32_422 : BitVec 32 := 21#32
  let c0_i32_425 : BitVec 32 := 0#32
  let v834 : BitVec 1 := Scalar.cmpi .sgt c21_i32_422 c0_i32_425
  let v835 : BitVec 32 := Scalar.extui v834
  let c0_i32_426 : BitVec 32 := 0#32
  let v836 : BitVec 1 := Scalar.cmpi .slt c21_i32_422 c0_i32_426
  let v837 : BitVec 32 := Scalar.extui v836
  let v838 : BitVec 32 := Scalar.subi v835 v837
  let v839 : BitVec 1 := Scalar.cmpi .ne v833 v838
  let v840 : BitVec 32 := Scalar.remsi v565 c21_i32_422
  let c0_i32_427 : BitVec 32 := 0#32
  let v841 : BitVec 1 := Scalar.cmpi .ne v840 c0_i32_427
  let v842 : BitVec 1 := Scalar.andi v839 v841
  let v828 : BitVec 32 := Scalar.divsi v565 c21_i32_422
  let c1_i32_428 : BitVec 32 := 1#32
  let v843 : BitVec 32 := Scalar.subi v828 c1_i32_428
  let v844 : BitVec 32 := Scalar.select v842 v843 v828
  let c0_i32_450 : BitVec 32 := 0#32
  let v885 : BitVec 1 := Scalar.cmpi .sgt v844 c0_i32_450
  let v886 : BitVec 32 := Scalar.extui v885
  let c0_i32_451 : BitVec 32 := 0#32
  let v887 : BitVec 1 := Scalar.cmpi .slt v844 c0_i32_451
  let v888 : BitVec 32 := Scalar.extui v887
  let v889 : BitVec 32 := Scalar.subi v886 v888
  let c4_i32_449 : BitVec 32 := 4#32
  let c0_i32_452 : BitVec 32 := 0#32
  let v890 : BitVec 1 := Scalar.cmpi .sgt c4_i32_449 c0_i32_452
  let v891 : BitVec 32 := Scalar.extui v890
  let c0_i32_453 : BitVec 32 := 0#32
  let v892 : BitVec 1 := Scalar.cmpi .slt c4_i32_449 c0_i32_453
  let v893 : BitVec 32 := Scalar.extui v892
  let v894 : BitVec 32 := Scalar.subi v891 v893
  let v895 : BitVec 1 := Scalar.cmpi .ne v889 v894
  let v896 : BitVec 32 := Scalar.remsi v844 c4_i32_449
  let c0_i32_454 : BitVec 32 := 0#32
  let v897 : BitVec 1 := Scalar.cmpi .ne v896 c0_i32_454
  let v898 : BitVec 1 := Scalar.andi v895 v897
  let v884 : BitVec 32 := Scalar.divsi v844 c4_i32_449
  let c1_i32_455 : BitVec 32 := 1#32
  let v899 : BitVec 32 := Scalar.subi v884 c1_i32_455
  let v900 : BitVec 32 := Scalar.select v898 v899 v884
  let c1_i32_497 : BitVec 32 := 1#32
  let c21_i32_429 : BitVec 32 := 21#32
  let c0_i32_430 : BitVec 32 := 0#32
  let v845 : BitVec 1 := Scalar.cmpi .eq c21_i32_429 c0_i32_430
  let c1_i32_431 : BitVec 32 := 1#32
  let v846 : BitVec 32 := Scalar.select v845 c1_i32_431 c21_i32_429
  let v847 : BitVec 32 := Scalar.remsi v565 v846
  let c0_i32_433 : BitVec 32 := 0#32
  let v849 : BitVec 1 := Scalar.cmpi .slt v847 c0_i32_433
  let c0_i32_434 : BitVec 32 := 0#32
  let v850 : BitVec 1 := Scalar.cmpi .slt v846 c0_i32_434
  let v851 : BitVec 1 := Scalar.xori v849 v850
  let c0_i32_432 : BitVec 32 := 0#32
  let v848 : BitVec 1 := Scalar.cmpi .ne v847 c0_i32_432
  let v852 : BitVec 1 := Scalar.andi v851 v848
  let v853 : BitVec 32 := Scalar.addi v847 v846
  let v854 : BitVec 32 := Scalar.select v852 v853 v847
  let c4_i32_435 : BitVec 32 := 4#32
  let v855 : BitVec 32 := Scalar.muli v854 c4_i32_435
  let c4_i32_436 : BitVec 32 := 4#32
  let c0_i32_437 : BitVec 32 := 0#32
  let v856 : BitVec 1 := Scalar.cmpi .eq c4_i32_436 c0_i32_437
  let c1_i32_438 : BitVec 32 := 1#32
  let v857 : BitVec 32 := Scalar.select v856 c1_i32_438 c4_i32_436
  let v858 : BitVec 32 := Scalar.remsi v844 v857
  let c0_i32_440 : BitVec 32 := 0#32
  let v860 : BitVec 1 := Scalar.cmpi .slt v858 c0_i32_440
  let c0_i32_441 : BitVec 32 := 0#32
  let v861 : BitVec 1 := Scalar.cmpi .slt v857 c0_i32_441
  let v862 : BitVec 1 := Scalar.xori v860 v861
  let c0_i32_439 : BitVec 32 := 0#32
  let v859 : BitVec 1 := Scalar.cmpi .ne v858 c0_i32_439
  let v863 : BitVec 1 := Scalar.andi v862 v859
  let v864 : BitVec 32 := Scalar.addi v858 v857
  let v865 : BitVec 32 := Scalar.select v863 v864 v858
  let v866 : BitVec 32 := Scalar.addi v855 v865
  let c0_i32_500 : BitVec 32 := 0#32
  ![v900.toNat, 1, v866.toNat, 0]
def k0_off30 (i : grid0.Coords) (k0_t2 : Fin (k0_t2_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_281 : BitVec 32 := 2#32
  let c0_i32_59 : BitVec 32 := 0#32
  let c0_i32_60 : BitVec 32 := 0#32
  let c1_i32_62 : BitVec 32 := 1#32
  let arg14 : BitVec 32 := Scf.iv c0_i32_60 c1_i32_62 k0_t2
  let c1_i32_58 : BitVec 32 := 1#32
  let v553 : BitVec 32 := Scalar.muli arg14 c1_i32_58
  let v554 : BitVec 32 := Scalar.addi c0_i32_59 v553
  let v562 : BitVec 32 := Scalar.muli c2_i32_281 v554
  let c1_i32_282 : BitVec 32 := 1#32
  let v563 : BitVec 32 := Scalar.addi v562 c1_i32_282
  let c32_i32_283 : BitVec 32 := 32#32
  let v564 : BitVec 32 := Scalar.muli v563 c32_i32_283
  let v565 : BitVec 32 := Scalar.addi v1 v564
  let c0_i32_423 : BitVec 32 := 0#32
  let v829 : BitVec 1 := Scalar.cmpi .sgt v565 c0_i32_423
  let v830 : BitVec 32 := Scalar.extui v829
  let c0_i32_424 : BitVec 32 := 0#32
  let v831 : BitVec 1 := Scalar.cmpi .slt v565 c0_i32_424
  let v832 : BitVec 32 := Scalar.extui v831
  let v833 : BitVec 32 := Scalar.subi v830 v832
  let c21_i32_422 : BitVec 32 := 21#32
  let c0_i32_425 : BitVec 32 := 0#32
  let v834 : BitVec 1 := Scalar.cmpi .sgt c21_i32_422 c0_i32_425
  let v835 : BitVec 32 := Scalar.extui v834
  let c0_i32_426 : BitVec 32 := 0#32
  let v836 : BitVec 1 := Scalar.cmpi .slt c21_i32_422 c0_i32_426
  let v837 : BitVec 32 := Scalar.extui v836
  let v838 : BitVec 32 := Scalar.subi v835 v837
  let v839 : BitVec 1 := Scalar.cmpi .ne v833 v838
  let v840 : BitVec 32 := Scalar.remsi v565 c21_i32_422
  let c0_i32_427 : BitVec 32 := 0#32
  let v841 : BitVec 1 := Scalar.cmpi .ne v840 c0_i32_427
  let v842 : BitVec 1 := Scalar.andi v839 v841
  let v828 : BitVec 32 := Scalar.divsi v565 c21_i32_422
  let c1_i32_428 : BitVec 32 := 1#32
  let v843 : BitVec 32 := Scalar.subi v828 c1_i32_428
  let v844 : BitVec 32 := Scalar.select v842 v843 v828
  let c0_i32_457 : BitVec 32 := 0#32
  let v902 : BitVec 1 := Scalar.cmpi .sgt v844 c0_i32_457
  let v903 : BitVec 32 := Scalar.extui v902
  let c0_i32_458 : BitVec 32 := 0#32
  let v904 : BitVec 1 := Scalar.cmpi .slt v844 c0_i32_458
  let v905 : BitVec 32 := Scalar.extui v904
  let v906 : BitVec 32 := Scalar.subi v903 v905
  let c4_i32_456 : BitVec 32 := 4#32
  let c0_i32_459 : BitVec 32 := 0#32
  let v907 : BitVec 1 := Scalar.cmpi .sgt c4_i32_456 c0_i32_459
  let v908 : BitVec 32 := Scalar.extui v907
  let c0_i32_460 : BitVec 32 := 0#32
  let v909 : BitVec 1 := Scalar.cmpi .slt c4_i32_456 c0_i32_460
  let v910 : BitVec 32 := Scalar.extui v909
  let v911 : BitVec 32 := Scalar.subi v908 v910
  let v912 : BitVec 1 := Scalar.cmpi .ne v906 v911
  let v913 : BitVec 32 := Scalar.remsi v844 c4_i32_456
  let c0_i32_461 : BitVec 32 := 0#32
  let v914 : BitVec 1 := Scalar.cmpi .ne v913 c0_i32_461
  let v915 : BitVec 1 := Scalar.andi v912 v914
  let v901 : BitVec 32 := Scalar.divsi v844 c4_i32_456
  let c1_i32_462 : BitVec 32 := 1#32
  let v916 : BitVec 32 := Scalar.subi v901 c1_i32_462
  let v917 : BitVec 32 := Scalar.select v915 v916 v901
  let c2_i32_503 : BitVec 32 := 2#32
  let c21_i32_429 : BitVec 32 := 21#32
  let c0_i32_430 : BitVec 32 := 0#32
  let v845 : BitVec 1 := Scalar.cmpi .eq c21_i32_429 c0_i32_430
  let c1_i32_431 : BitVec 32 := 1#32
  let v846 : BitVec 32 := Scalar.select v845 c1_i32_431 c21_i32_429
  let v847 : BitVec 32 := Scalar.remsi v565 v846
  let c0_i32_433 : BitVec 32 := 0#32
  let v849 : BitVec 1 := Scalar.cmpi .slt v847 c0_i32_433
  let c0_i32_434 : BitVec 32 := 0#32
  let v850 : BitVec 1 := Scalar.cmpi .slt v846 c0_i32_434
  let v851 : BitVec 1 := Scalar.xori v849 v850
  let c0_i32_432 : BitVec 32 := 0#32
  let v848 : BitVec 1 := Scalar.cmpi .ne v847 c0_i32_432
  let v852 : BitVec 1 := Scalar.andi v851 v848
  let v853 : BitVec 32 := Scalar.addi v847 v846
  let v854 : BitVec 32 := Scalar.select v852 v853 v847
  let c4_i32_435 : BitVec 32 := 4#32
  let v855 : BitVec 32 := Scalar.muli v854 c4_i32_435
  let c4_i32_436 : BitVec 32 := 4#32
  let c0_i32_437 : BitVec 32 := 0#32
  let v856 : BitVec 1 := Scalar.cmpi .eq c4_i32_436 c0_i32_437
  let c1_i32_438 : BitVec 32 := 1#32
  let v857 : BitVec 32 := Scalar.select v856 c1_i32_438 c4_i32_436
  let v858 : BitVec 32 := Scalar.remsi v844 v857
  let c0_i32_440 : BitVec 32 := 0#32
  let v860 : BitVec 1 := Scalar.cmpi .slt v858 c0_i32_440
  let c0_i32_441 : BitVec 32 := 0#32
  let v861 : BitVec 1 := Scalar.cmpi .slt v857 c0_i32_441
  let v862 : BitVec 1 := Scalar.xori v860 v861
  let c0_i32_439 : BitVec 32 := 0#32
  let v859 : BitVec 1 := Scalar.cmpi .ne v858 c0_i32_439
  let v863 : BitVec 1 := Scalar.andi v862 v859
  let v864 : BitVec 32 := Scalar.addi v858 v857
  let v865 : BitVec 32 := Scalar.select v863 v864 v858
  let v866 : BitVec 32 := Scalar.addi v855 v865
  let c0_i32_506 : BitVec 32 := 0#32
  ![v917.toNat, 2, v866.toNat, 0]
def k0_off31 (i : grid0.Coords) (k0_t2 : Fin (k0_t2_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_281 : BitVec 32 := 2#32
  let c0_i32_59 : BitVec 32 := 0#32
  let c0_i32_60 : BitVec 32 := 0#32
  let c1_i32_62 : BitVec 32 := 1#32
  let arg14 : BitVec 32 := Scf.iv c0_i32_60 c1_i32_62 k0_t2
  let c1_i32_58 : BitVec 32 := 1#32
  let v553 : BitVec 32 := Scalar.muli arg14 c1_i32_58
  let v554 : BitVec 32 := Scalar.addi c0_i32_59 v553
  let v562 : BitVec 32 := Scalar.muli c2_i32_281 v554
  let c1_i32_282 : BitVec 32 := 1#32
  let v563 : BitVec 32 := Scalar.addi v562 c1_i32_282
  let c32_i32_283 : BitVec 32 := 32#32
  let v564 : BitVec 32 := Scalar.muli v563 c32_i32_283
  let v565 : BitVec 32 := Scalar.addi v1 v564
  let c0_i32_423 : BitVec 32 := 0#32
  let v829 : BitVec 1 := Scalar.cmpi .sgt v565 c0_i32_423
  let v830 : BitVec 32 := Scalar.extui v829
  let c0_i32_424 : BitVec 32 := 0#32
  let v831 : BitVec 1 := Scalar.cmpi .slt v565 c0_i32_424
  let v832 : BitVec 32 := Scalar.extui v831
  let v833 : BitVec 32 := Scalar.subi v830 v832
  let c21_i32_422 : BitVec 32 := 21#32
  let c0_i32_425 : BitVec 32 := 0#32
  let v834 : BitVec 1 := Scalar.cmpi .sgt c21_i32_422 c0_i32_425
  let v835 : BitVec 32 := Scalar.extui v834
  let c0_i32_426 : BitVec 32 := 0#32
  let v836 : BitVec 1 := Scalar.cmpi .slt c21_i32_422 c0_i32_426
  let v837 : BitVec 32 := Scalar.extui v836
  let v838 : BitVec 32 := Scalar.subi v835 v837
  let v839 : BitVec 1 := Scalar.cmpi .ne v833 v838
  let v840 : BitVec 32 := Scalar.remsi v565 c21_i32_422
  let c0_i32_427 : BitVec 32 := 0#32
  let v841 : BitVec 1 := Scalar.cmpi .ne v840 c0_i32_427
  let v842 : BitVec 1 := Scalar.andi v839 v841
  let v828 : BitVec 32 := Scalar.divsi v565 c21_i32_422
  let c1_i32_428 : BitVec 32 := 1#32
  let v843 : BitVec 32 := Scalar.subi v828 c1_i32_428
  let v844 : BitVec 32 := Scalar.select v842 v843 v828
  let c0_i32_464 : BitVec 32 := 0#32
  let v919 : BitVec 1 := Scalar.cmpi .sgt v844 c0_i32_464
  let v920 : BitVec 32 := Scalar.extui v919
  let c0_i32_465 : BitVec 32 := 0#32
  let v921 : BitVec 1 := Scalar.cmpi .slt v844 c0_i32_465
  let v922 : BitVec 32 := Scalar.extui v921
  let v923 : BitVec 32 := Scalar.subi v920 v922
  let c4_i32_463 : BitVec 32 := 4#32
  let c0_i32_466 : BitVec 32 := 0#32
  let v924 : BitVec 1 := Scalar.cmpi .sgt c4_i32_463 c0_i32_466
  let v925 : BitVec 32 := Scalar.extui v924
  let c0_i32_467 : BitVec 32 := 0#32
  let v926 : BitVec 1 := Scalar.cmpi .slt c4_i32_463 c0_i32_467
  let v927 : BitVec 32 := Scalar.extui v926
  let v928 : BitVec 32 := Scalar.subi v925 v927
  let v929 : BitVec 1 := Scalar.cmpi .ne v923 v928
  let v930 : BitVec 32 := Scalar.remsi v844 c4_i32_463
  let c0_i32_468 : BitVec 32 := 0#32
  let v931 : BitVec 1 := Scalar.cmpi .ne v930 c0_i32_468
  let v932 : BitVec 1 := Scalar.andi v929 v931
  let v918 : BitVec 32 := Scalar.divsi v844 c4_i32_463
  let c1_i32_469 : BitVec 32 := 1#32
  let v933 : BitVec 32 := Scalar.subi v918 c1_i32_469
  let v934 : BitVec 32 := Scalar.select v932 v933 v918
  let c3_i32_509 : BitVec 32 := 3#32
  let c21_i32_429 : BitVec 32 := 21#32
  let c0_i32_430 : BitVec 32 := 0#32
  let v845 : BitVec 1 := Scalar.cmpi .eq c21_i32_429 c0_i32_430
  let c1_i32_431 : BitVec 32 := 1#32
  let v846 : BitVec 32 := Scalar.select v845 c1_i32_431 c21_i32_429
  let v847 : BitVec 32 := Scalar.remsi v565 v846
  let c0_i32_433 : BitVec 32 := 0#32
  let v849 : BitVec 1 := Scalar.cmpi .slt v847 c0_i32_433
  let c0_i32_434 : BitVec 32 := 0#32
  let v850 : BitVec 1 := Scalar.cmpi .slt v846 c0_i32_434
  let v851 : BitVec 1 := Scalar.xori v849 v850
  let c0_i32_432 : BitVec 32 := 0#32
  let v848 : BitVec 1 := Scalar.cmpi .ne v847 c0_i32_432
  let v852 : BitVec 1 := Scalar.andi v851 v848
  let v853 : BitVec 32 := Scalar.addi v847 v846
  let v854 : BitVec 32 := Scalar.select v852 v853 v847
  let c4_i32_435 : BitVec 32 := 4#32
  let v855 : BitVec 32 := Scalar.muli v854 c4_i32_435
  let c4_i32_436 : BitVec 32 := 4#32
  let c0_i32_437 : BitVec 32 := 0#32
  let v856 : BitVec 1 := Scalar.cmpi .eq c4_i32_436 c0_i32_437
  let c1_i32_438 : BitVec 32 := 1#32
  let v857 : BitVec 32 := Scalar.select v856 c1_i32_438 c4_i32_436
  let v858 : BitVec 32 := Scalar.remsi v844 v857
  let c0_i32_440 : BitVec 32 := 0#32
  let v860 : BitVec 1 := Scalar.cmpi .slt v858 c0_i32_440
  let c0_i32_441 : BitVec 32 := 0#32
  let v861 : BitVec 1 := Scalar.cmpi .slt v857 c0_i32_441
  let v862 : BitVec 1 := Scalar.xori v860 v861
  let c0_i32_439 : BitVec 32 := 0#32
  let v859 : BitVec 1 := Scalar.cmpi .ne v858 c0_i32_439
  let v863 : BitVec 1 := Scalar.andi v862 v859
  let v864 : BitVec 32 := Scalar.addi v858 v857
  let v865 : BitVec 32 := Scalar.select v863 v864 v858
  let v866 : BitVec 32 := Scalar.addi v855 v865
  let c0_i32_512 : BitVec 32 := 0#32
  ![v934.toNat, 3, v866.toNat, 0]
def k0_off32 (i : grid0.Coords) (k0_t2 : Fin (k0_t2_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_281 : BitVec 32 := 2#32
  let c0_i32_59 : BitVec 32 := 0#32
  let c0_i32_60 : BitVec 32 := 0#32
  let c1_i32_62 : BitVec 32 := 1#32
  let arg14 : BitVec 32 := Scf.iv c0_i32_60 c1_i32_62 k0_t2
  let c1_i32_58 : BitVec 32 := 1#32
  let v553 : BitVec 32 := Scalar.muli arg14 c1_i32_58
  let v554 : BitVec 32 := Scalar.addi c0_i32_59 v553
  let v562 : BitVec 32 := Scalar.muli c2_i32_281 v554
  let c1_i32_282 : BitVec 32 := 1#32
  let v563 : BitVec 32 := Scalar.addi v562 c1_i32_282
  let c32_i32_283 : BitVec 32 := 32#32
  let v564 : BitVec 32 := Scalar.muli v563 c32_i32_283
  let v565 : BitVec 32 := Scalar.addi v1 v564
  let c0_i32_423 : BitVec 32 := 0#32
  let v829 : BitVec 1 := Scalar.cmpi .sgt v565 c0_i32_423
  let v830 : BitVec 32 := Scalar.extui v829
  let c0_i32_424 : BitVec 32 := 0#32
  let v831 : BitVec 1 := Scalar.cmpi .slt v565 c0_i32_424
  let v832 : BitVec 32 := Scalar.extui v831
  let v833 : BitVec 32 := Scalar.subi v830 v832
  let c21_i32_422 : BitVec 32 := 21#32
  let c0_i32_425 : BitVec 32 := 0#32
  let v834 : BitVec 1 := Scalar.cmpi .sgt c21_i32_422 c0_i32_425
  let v835 : BitVec 32 := Scalar.extui v834
  let c0_i32_426 : BitVec 32 := 0#32
  let v836 : BitVec 1 := Scalar.cmpi .slt c21_i32_422 c0_i32_426
  let v837 : BitVec 32 := Scalar.extui v836
  let v838 : BitVec 32 := Scalar.subi v835 v837
  let v839 : BitVec 1 := Scalar.cmpi .ne v833 v838
  let v840 : BitVec 32 := Scalar.remsi v565 c21_i32_422
  let c0_i32_427 : BitVec 32 := 0#32
  let v841 : BitVec 1 := Scalar.cmpi .ne v840 c0_i32_427
  let v842 : BitVec 1 := Scalar.andi v839 v841
  let v828 : BitVec 32 := Scalar.divsi v565 c21_i32_422
  let c1_i32_428 : BitVec 32 := 1#32
  let v843 : BitVec 32 := Scalar.subi v828 c1_i32_428
  let v844 : BitVec 32 := Scalar.select v842 v843 v828
  let c0_i32_471 : BitVec 32 := 0#32
  let v936 : BitVec 1 := Scalar.cmpi .sgt v844 c0_i32_471
  let v937 : BitVec 32 := Scalar.extui v936
  let c0_i32_472 : BitVec 32 := 0#32
  let v938 : BitVec 1 := Scalar.cmpi .slt v844 c0_i32_472
  let v939 : BitVec 32 := Scalar.extui v938
  let v940 : BitVec 32 := Scalar.subi v937 v939
  let c4_i32_470 : BitVec 32 := 4#32
  let c0_i32_473 : BitVec 32 := 0#32
  let v941 : BitVec 1 := Scalar.cmpi .sgt c4_i32_470 c0_i32_473
  let v942 : BitVec 32 := Scalar.extui v941
  let c0_i32_474 : BitVec 32 := 0#32
  let v943 : BitVec 1 := Scalar.cmpi .slt c4_i32_470 c0_i32_474
  let v944 : BitVec 32 := Scalar.extui v943
  let v945 : BitVec 32 := Scalar.subi v942 v944
  let v946 : BitVec 1 := Scalar.cmpi .ne v940 v945
  let v947 : BitVec 32 := Scalar.remsi v844 c4_i32_470
  let c0_i32_475 : BitVec 32 := 0#32
  let v948 : BitVec 1 := Scalar.cmpi .ne v947 c0_i32_475
  let v949 : BitVec 1 := Scalar.andi v946 v948
  let v935 : BitVec 32 := Scalar.divsi v844 c4_i32_470
  let c1_i32_476 : BitVec 32 := 1#32
  let v950 : BitVec 32 := Scalar.subi v935 c1_i32_476
  let v951 : BitVec 32 := Scalar.select v949 v950 v935
  let c4_i32_515 : BitVec 32 := 4#32
  let c21_i32_429 : BitVec 32 := 21#32
  let c0_i32_430 : BitVec 32 := 0#32
  let v845 : BitVec 1 := Scalar.cmpi .eq c21_i32_429 c0_i32_430
  let c1_i32_431 : BitVec 32 := 1#32
  let v846 : BitVec 32 := Scalar.select v845 c1_i32_431 c21_i32_429
  let v847 : BitVec 32 := Scalar.remsi v565 v846
  let c0_i32_433 : BitVec 32 := 0#32
  let v849 : BitVec 1 := Scalar.cmpi .slt v847 c0_i32_433
  let c0_i32_434 : BitVec 32 := 0#32
  let v850 : BitVec 1 := Scalar.cmpi .slt v846 c0_i32_434
  let v851 : BitVec 1 := Scalar.xori v849 v850
  let c0_i32_432 : BitVec 32 := 0#32
  let v848 : BitVec 1 := Scalar.cmpi .ne v847 c0_i32_432
  let v852 : BitVec 1 := Scalar.andi v851 v848
  let v853 : BitVec 32 := Scalar.addi v847 v846
  let v854 : BitVec 32 := Scalar.select v852 v853 v847
  let c4_i32_435 : BitVec 32 := 4#32
  let v855 : BitVec 32 := Scalar.muli v854 c4_i32_435
  let c4_i32_436 : BitVec 32 := 4#32
  let c0_i32_437 : BitVec 32 := 0#32
  let v856 : BitVec 1 := Scalar.cmpi .eq c4_i32_436 c0_i32_437
  let c1_i32_438 : BitVec 32 := 1#32
  let v857 : BitVec 32 := Scalar.select v856 c1_i32_438 c4_i32_436
  let v858 : BitVec 32 := Scalar.remsi v844 v857
  let c0_i32_440 : BitVec 32 := 0#32
  let v860 : BitVec 1 := Scalar.cmpi .slt v858 c0_i32_440
  let c0_i32_441 : BitVec 32 := 0#32
  let v861 : BitVec 1 := Scalar.cmpi .slt v857 c0_i32_441
  let v862 : BitVec 1 := Scalar.xori v860 v861
  let c0_i32_439 : BitVec 32 := 0#32
  let v859 : BitVec 1 := Scalar.cmpi .ne v858 c0_i32_439
  let v863 : BitVec 1 := Scalar.andi v862 v859
  let v864 : BitVec 32 := Scalar.addi v858 v857
  let v865 : BitVec 32 := Scalar.select v863 v864 v858
  let v866 : BitVec 32 := Scalar.addi v855 v865
  let c0_i32_518 : BitVec 32 := 0#32
  ![v951.toNat, 4, v866.toNat, 0]
def k0_off33 (i : grid0.Coords) (k0_t2 : Fin (k0_t2_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_281 : BitVec 32 := 2#32
  let c0_i32_59 : BitVec 32 := 0#32
  let c0_i32_60 : BitVec 32 := 0#32
  let c1_i32_62 : BitVec 32 := 1#32
  let arg14 : BitVec 32 := Scf.iv c0_i32_60 c1_i32_62 k0_t2
  let c1_i32_58 : BitVec 32 := 1#32
  let v553 : BitVec 32 := Scalar.muli arg14 c1_i32_58
  let v554 : BitVec 32 := Scalar.addi c0_i32_59 v553
  let v562 : BitVec 32 := Scalar.muli c2_i32_281 v554
  let c1_i32_282 : BitVec 32 := 1#32
  let v563 : BitVec 32 := Scalar.addi v562 c1_i32_282
  let c32_i32_283 : BitVec 32 := 32#32
  let v564 : BitVec 32 := Scalar.muli v563 c32_i32_283
  let v565 : BitVec 32 := Scalar.addi v1 v564
  let c0_i32_423 : BitVec 32 := 0#32
  let v829 : BitVec 1 := Scalar.cmpi .sgt v565 c0_i32_423
  let v830 : BitVec 32 := Scalar.extui v829
  let c0_i32_424 : BitVec 32 := 0#32
  let v831 : BitVec 1 := Scalar.cmpi .slt v565 c0_i32_424
  let v832 : BitVec 32 := Scalar.extui v831
  let v833 : BitVec 32 := Scalar.subi v830 v832
  let c21_i32_422 : BitVec 32 := 21#32
  let c0_i32_425 : BitVec 32 := 0#32
  let v834 : BitVec 1 := Scalar.cmpi .sgt c21_i32_422 c0_i32_425
  let v835 : BitVec 32 := Scalar.extui v834
  let c0_i32_426 : BitVec 32 := 0#32
  let v836 : BitVec 1 := Scalar.cmpi .slt c21_i32_422 c0_i32_426
  let v837 : BitVec 32 := Scalar.extui v836
  let v838 : BitVec 32 := Scalar.subi v835 v837
  let v839 : BitVec 1 := Scalar.cmpi .ne v833 v838
  let v840 : BitVec 32 := Scalar.remsi v565 c21_i32_422
  let c0_i32_427 : BitVec 32 := 0#32
  let v841 : BitVec 1 := Scalar.cmpi .ne v840 c0_i32_427
  let v842 : BitVec 1 := Scalar.andi v839 v841
  let v828 : BitVec 32 := Scalar.divsi v565 c21_i32_422
  let c1_i32_428 : BitVec 32 := 1#32
  let v843 : BitVec 32 := Scalar.subi v828 c1_i32_428
  let v844 : BitVec 32 := Scalar.select v842 v843 v828
  let c0_i32_478 : BitVec 32 := 0#32
  let v953 : BitVec 1 := Scalar.cmpi .sgt v844 c0_i32_478
  let v954 : BitVec 32 := Scalar.extui v953
  let c0_i32_479 : BitVec 32 := 0#32
  let v955 : BitVec 1 := Scalar.cmpi .slt v844 c0_i32_479
  let v956 : BitVec 32 := Scalar.extui v955
  let v957 : BitVec 32 := Scalar.subi v954 v956
  let c4_i32_477 : BitVec 32 := 4#32
  let c0_i32_480 : BitVec 32 := 0#32
  let v958 : BitVec 1 := Scalar.cmpi .sgt c4_i32_477 c0_i32_480
  let v959 : BitVec 32 := Scalar.extui v958
  let c0_i32_481 : BitVec 32 := 0#32
  let v960 : BitVec 1 := Scalar.cmpi .slt c4_i32_477 c0_i32_481
  let v961 : BitVec 32 := Scalar.extui v960
  let v962 : BitVec 32 := Scalar.subi v959 v961
  let v963 : BitVec 1 := Scalar.cmpi .ne v957 v962
  let v964 : BitVec 32 := Scalar.remsi v844 c4_i32_477
  let c0_i32_482 : BitVec 32 := 0#32
  let v965 : BitVec 1 := Scalar.cmpi .ne v964 c0_i32_482
  let v966 : BitVec 1 := Scalar.andi v963 v965
  let v952 : BitVec 32 := Scalar.divsi v844 c4_i32_477
  let c1_i32_483 : BitVec 32 := 1#32
  let v967 : BitVec 32 := Scalar.subi v952 c1_i32_483
  let v968 : BitVec 32 := Scalar.select v966 v967 v952
  let c5_i32_521 : BitVec 32 := 5#32
  let c21_i32_429 : BitVec 32 := 21#32
  let c0_i32_430 : BitVec 32 := 0#32
  let v845 : BitVec 1 := Scalar.cmpi .eq c21_i32_429 c0_i32_430
  let c1_i32_431 : BitVec 32 := 1#32
  let v846 : BitVec 32 := Scalar.select v845 c1_i32_431 c21_i32_429
  let v847 : BitVec 32 := Scalar.remsi v565 v846
  let c0_i32_433 : BitVec 32 := 0#32
  let v849 : BitVec 1 := Scalar.cmpi .slt v847 c0_i32_433
  let c0_i32_434 : BitVec 32 := 0#32
  let v850 : BitVec 1 := Scalar.cmpi .slt v846 c0_i32_434
  let v851 : BitVec 1 := Scalar.xori v849 v850
  let c0_i32_432 : BitVec 32 := 0#32
  let v848 : BitVec 1 := Scalar.cmpi .ne v847 c0_i32_432
  let v852 : BitVec 1 := Scalar.andi v851 v848
  let v853 : BitVec 32 := Scalar.addi v847 v846
  let v854 : BitVec 32 := Scalar.select v852 v853 v847
  let c4_i32_435 : BitVec 32 := 4#32
  let v855 : BitVec 32 := Scalar.muli v854 c4_i32_435
  let c4_i32_436 : BitVec 32 := 4#32
  let c0_i32_437 : BitVec 32 := 0#32
  let v856 : BitVec 1 := Scalar.cmpi .eq c4_i32_436 c0_i32_437
  let c1_i32_438 : BitVec 32 := 1#32
  let v857 : BitVec 32 := Scalar.select v856 c1_i32_438 c4_i32_436
  let v858 : BitVec 32 := Scalar.remsi v844 v857
  let c0_i32_440 : BitVec 32 := 0#32
  let v860 : BitVec 1 := Scalar.cmpi .slt v858 c0_i32_440
  let c0_i32_441 : BitVec 32 := 0#32
  let v861 : BitVec 1 := Scalar.cmpi .slt v857 c0_i32_441
  let v862 : BitVec 1 := Scalar.xori v860 v861
  let c0_i32_439 : BitVec 32 := 0#32
  let v859 : BitVec 1 := Scalar.cmpi .ne v858 c0_i32_439
  let v863 : BitVec 1 := Scalar.andi v862 v859
  let v864 : BitVec 32 := Scalar.addi v858 v857
  let v865 : BitVec 32 := Scalar.select v863 v864 v858
  let v866 : BitVec 32 := Scalar.addi v855 v865
  let c0_i32_524 : BitVec 32 := 0#32
  ![v968.toNat, 5, v866.toNat, 0]
def k0_off34 (i : grid0.Coords) (k0_t2 : Fin (k0_t2_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_281 : BitVec 32 := 2#32
  let c0_i32_59 : BitVec 32 := 0#32
  let c0_i32_60 : BitVec 32 := 0#32
  let c1_i32_62 : BitVec 32 := 1#32
  let arg14 : BitVec 32 := Scf.iv c0_i32_60 c1_i32_62 k0_t2
  let c1_i32_58 : BitVec 32 := 1#32
  let v553 : BitVec 32 := Scalar.muli arg14 c1_i32_58
  let v554 : BitVec 32 := Scalar.addi c0_i32_59 v553
  let v562 : BitVec 32 := Scalar.muli c2_i32_281 v554
  let c1_i32_282 : BitVec 32 := 1#32
  let v563 : BitVec 32 := Scalar.addi v562 c1_i32_282
  let c32_i32_283 : BitVec 32 := 32#32
  let v564 : BitVec 32 := Scalar.muli v563 c32_i32_283
  let v565 : BitVec 32 := Scalar.addi v1 v564
  let c0_i32_423 : BitVec 32 := 0#32
  let v829 : BitVec 1 := Scalar.cmpi .sgt v565 c0_i32_423
  let v830 : BitVec 32 := Scalar.extui v829
  let c0_i32_424 : BitVec 32 := 0#32
  let v831 : BitVec 1 := Scalar.cmpi .slt v565 c0_i32_424
  let v832 : BitVec 32 := Scalar.extui v831
  let v833 : BitVec 32 := Scalar.subi v830 v832
  let c21_i32_422 : BitVec 32 := 21#32
  let c0_i32_425 : BitVec 32 := 0#32
  let v834 : BitVec 1 := Scalar.cmpi .sgt c21_i32_422 c0_i32_425
  let v835 : BitVec 32 := Scalar.extui v834
  let c0_i32_426 : BitVec 32 := 0#32
  let v836 : BitVec 1 := Scalar.cmpi .slt c21_i32_422 c0_i32_426
  let v837 : BitVec 32 := Scalar.extui v836
  let v838 : BitVec 32 := Scalar.subi v835 v837
  let v839 : BitVec 1 := Scalar.cmpi .ne v833 v838
  let v840 : BitVec 32 := Scalar.remsi v565 c21_i32_422
  let c0_i32_427 : BitVec 32 := 0#32
  let v841 : BitVec 1 := Scalar.cmpi .ne v840 c0_i32_427
  let v842 : BitVec 1 := Scalar.andi v839 v841
  let v828 : BitVec 32 := Scalar.divsi v565 c21_i32_422
  let c1_i32_428 : BitVec 32 := 1#32
  let v843 : BitVec 32 := Scalar.subi v828 c1_i32_428
  let v844 : BitVec 32 := Scalar.select v842 v843 v828
  let c0_i32_485 : BitVec 32 := 0#32
  let v970 : BitVec 1 := Scalar.cmpi .sgt v844 c0_i32_485
  let v971 : BitVec 32 := Scalar.extui v970
  let c0_i32_486 : BitVec 32 := 0#32
  let v972 : BitVec 1 := Scalar.cmpi .slt v844 c0_i32_486
  let v973 : BitVec 32 := Scalar.extui v972
  let v974 : BitVec 32 := Scalar.subi v971 v973
  let c4_i32_484 : BitVec 32 := 4#32
  let c0_i32_487 : BitVec 32 := 0#32
  let v975 : BitVec 1 := Scalar.cmpi .sgt c4_i32_484 c0_i32_487
  let v976 : BitVec 32 := Scalar.extui v975
  let c0_i32_488 : BitVec 32 := 0#32
  let v977 : BitVec 1 := Scalar.cmpi .slt c4_i32_484 c0_i32_488
  let v978 : BitVec 32 := Scalar.extui v977
  let v979 : BitVec 32 := Scalar.subi v976 v978
  let v980 : BitVec 1 := Scalar.cmpi .ne v974 v979
  let v981 : BitVec 32 := Scalar.remsi v844 c4_i32_484
  let c0_i32_489 : BitVec 32 := 0#32
  let v982 : BitVec 1 := Scalar.cmpi .ne v981 c0_i32_489
  let v983 : BitVec 1 := Scalar.andi v980 v982
  let v969 : BitVec 32 := Scalar.divsi v844 c4_i32_484
  let c1_i32_490 : BitVec 32 := 1#32
  let v984 : BitVec 32 := Scalar.subi v969 c1_i32_490
  let v985 : BitVec 32 := Scalar.select v983 v984 v969
  let c6_i32_527 : BitVec 32 := 6#32
  let c21_i32_429 : BitVec 32 := 21#32
  let c0_i32_430 : BitVec 32 := 0#32
  let v845 : BitVec 1 := Scalar.cmpi .eq c21_i32_429 c0_i32_430
  let c1_i32_431 : BitVec 32 := 1#32
  let v846 : BitVec 32 := Scalar.select v845 c1_i32_431 c21_i32_429
  let v847 : BitVec 32 := Scalar.remsi v565 v846
  let c0_i32_433 : BitVec 32 := 0#32
  let v849 : BitVec 1 := Scalar.cmpi .slt v847 c0_i32_433
  let c0_i32_434 : BitVec 32 := 0#32
  let v850 : BitVec 1 := Scalar.cmpi .slt v846 c0_i32_434
  let v851 : BitVec 1 := Scalar.xori v849 v850
  let c0_i32_432 : BitVec 32 := 0#32
  let v848 : BitVec 1 := Scalar.cmpi .ne v847 c0_i32_432
  let v852 : BitVec 1 := Scalar.andi v851 v848
  let v853 : BitVec 32 := Scalar.addi v847 v846
  let v854 : BitVec 32 := Scalar.select v852 v853 v847
  let c4_i32_435 : BitVec 32 := 4#32
  let v855 : BitVec 32 := Scalar.muli v854 c4_i32_435
  let c4_i32_436 : BitVec 32 := 4#32
  let c0_i32_437 : BitVec 32 := 0#32
  let v856 : BitVec 1 := Scalar.cmpi .eq c4_i32_436 c0_i32_437
  let c1_i32_438 : BitVec 32 := 1#32
  let v857 : BitVec 32 := Scalar.select v856 c1_i32_438 c4_i32_436
  let v858 : BitVec 32 := Scalar.remsi v844 v857
  let c0_i32_440 : BitVec 32 := 0#32
  let v860 : BitVec 1 := Scalar.cmpi .slt v858 c0_i32_440
  let c0_i32_441 : BitVec 32 := 0#32
  let v861 : BitVec 1 := Scalar.cmpi .slt v857 c0_i32_441
  let v862 : BitVec 1 := Scalar.xori v860 v861
  let c0_i32_439 : BitVec 32 := 0#32
  let v859 : BitVec 1 := Scalar.cmpi .ne v858 c0_i32_439
  let v863 : BitVec 1 := Scalar.andi v862 v859
  let v864 : BitVec 32 := Scalar.addi v858 v857
  let v865 : BitVec 32 := Scalar.select v863 v864 v858
  let v866 : BitVec 32 := Scalar.addi v855 v865
  let c0_i32_530 : BitVec 32 := 0#32
  ![v985.toNat, 6, v866.toNat, 0]
@[reducible] def k0_t4_loop : Scf.Loop 32 :=
  let c0_i32_305 : BitVec 32 := 0#32
  let c96_i32_306 : BitVec 32 := 96#32
  let v609 : BitVec 32 := Scalar.addi c0_i32_305 c96_i32_306
  let c1_i32_307 : BitVec 32 := 1#32
  ⟨c0_i32_305, v609, c1_i32_307⟩
def k0_off35 (k0_t4 : Fin k0_t4_loop.trips) : Fin 1 → Nat :=
  let c0_i32_422 : BitVec 32 := 0#32
  let c0_i32_305 : BitVec 32 := 0#32
  let c1_i32_307 : BitVec 32 := 1#32
  let arg15 : BitVec 32 := Scf.iv c0_i32_305 c1_i32_307 k0_t4
  let c16_i32 : BitVec 32 := 16#32
  let v828 : BitVec 32 := Scalar.muli arg15 c16_i32
  let v829 : BitVec 32 := Scalar.addi c0_i32_422 v828
  let v830 : Index := Scalar.indexCast v829
  ![v830.toNat]

def k0_chk8 (i : grid0.Coords) (k0_t2 : Fin (k0_t2_loop i).trips) (v833 : IVec S16 32) : Prop :=
  (∀ (k0_h4 : k0_cond4 i k0_t2 = 1#1), ∀ a x, ((![v833] : Fin 1 → IVec S16 32) a x).toNat < S45056.size a)
theorem k0_idx8_inb : ∀ (i : grid0.Coords) (k0_t2 : Fin (k0_t2_loop i).trips) (v833 : IVec S16 32) (k0_hw8 : k0_chk8 i k0_t2 v833), ∀ (k0_h4 : k0_cond4 i k0_t2 = 1#1), ∀ a x, ((![v833] : Fin 1 → IVec S16 32) a x).toNat < S45056.size a := fun i k0_t2 v833 k0_hw8 k0_h4 => k0_hw8 k0_h4
def k0_off36 (k0_t4 : Fin k0_t4_loop.trips) : Fin 1 → Nat :=
  let c0_i32_424 : BitVec 32 := 0#32
  let c0_i32_422 : BitVec 32 := 0#32
  let c0_i32_305 : BitVec 32 := 0#32
  let c1_i32_307 : BitVec 32 := 1#32
  let arg15 : BitVec 32 := Scf.iv c0_i32_305 c1_i32_307 k0_t4
  let c16_i32 : BitVec 32 := 16#32
  let v828 : BitVec 32 := Scalar.muli arg15 c16_i32
  let v829 : BitVec 32 := Scalar.addi c0_i32_422 v828
  let v835 : BitVec 32 := Scalar.addi c0_i32_424 v829
  let v836 : Index := Scalar.indexCast v835
  ![v836.toNat]

def k0_chk9 (i : grid0.Coords) (k0_t2 : Fin (k0_t2_loop i).trips) (v839 : IVec S16 32) : Prop :=
  (∀ (k0_h4 : k0_cond4 i k0_t2 = 1#1), ∀ a x, ((![v839] : Fin 1 → IVec S16 32) a x).toNat < S45056.size a)
theorem k0_idx9_inb : ∀ (i : grid0.Coords) (k0_t2 : Fin (k0_t2_loop i).trips) (v839 : IVec S16 32) (k0_hw9 : k0_chk9 i k0_t2 v839), ∀ (k0_h4 : k0_cond4 i k0_t2 = 1#1), ∀ a x, ((![v839] : Fin 1 → IVec S16 32) a x).toNat < S45056.size a := fun i k0_t2 v839 k0_hw9 k0_h4 => k0_hw9 k0_h4
def k0_off37 (k0_t4 : Fin k0_t4_loop.trips) : Fin 1 → Nat :=
  let c1536_i32_426 : BitVec 32 := 1536#32
  let c0_i32_422 : BitVec 32 := 0#32
  let c0_i32_305 : BitVec 32 := 0#32
  let c1_i32_307 : BitVec 32 := 1#32
  let arg15 : BitVec 32 := Scf.iv c0_i32_305 c1_i32_307 k0_t4
  let c16_i32 : BitVec 32 := 16#32
  let v828 : BitVec 32 := Scalar.muli arg15 c16_i32
  let v829 : BitVec 32 := Scalar.addi c0_i32_422 v828
  let v841 : BitVec 32 := Scalar.addi c1536_i32_426 v829
  let v842 : Index := Scalar.indexCast v841
  ![v842.toNat]

def k0_chk10 (i : grid0.Coords) (k0_t2 : Fin (k0_t2_loop i).trips) (v845 : IVec S16 32) : Prop :=
  (∀ (k0_h4 : k0_cond4 i k0_t2 = 1#1), ∀ a x, ((![v845] : Fin 1 → IVec S16 32) a x).toNat < S45056.size a)
theorem k0_idx10_inb : ∀ (i : grid0.Coords) (k0_t2 : Fin (k0_t2_loop i).trips) (v845 : IVec S16 32) (k0_hw10 : k0_chk10 i k0_t2 v845), ∀ (k0_h4 : k0_cond4 i k0_t2 = 1#1), ∀ a x, ((![v845] : Fin 1 → IVec S16 32) a x).toNat < S45056.size a := fun i k0_t2 v845 k0_hw10 k0_h4 => k0_hw10 k0_h4
def k0_off38 (k0_t4 : Fin k0_t4_loop.trips) : Fin 1 → Nat :=
  let c3072_i32_428 : BitVec 32 := 3072#32
  let c0_i32_422 : BitVec 32 := 0#32
  let c0_i32_305 : BitVec 32 := 0#32
  let c1_i32_307 : BitVec 32 := 1#32
  let arg15 : BitVec 32 := Scf.iv c0_i32_305 c1_i32_307 k0_t4
  let c16_i32 : BitVec 32 := 16#32
  let v828 : BitVec 32 := Scalar.muli arg15 c16_i32
  let v829 : BitVec 32 := Scalar.addi c0_i32_422 v828
  let v847 : BitVec 32 := Scalar.addi c3072_i32_428 v829
  let v848 : Index := Scalar.indexCast v847
  ![v848.toNat]

def k0_chk11 (i : grid0.Coords) (k0_t2 : Fin (k0_t2_loop i).trips) (v851 : IVec S16 32) : Prop :=
  (∀ (k0_h4 : k0_cond4 i k0_t2 = 1#1), ∀ a x, ((![v851] : Fin 1 → IVec S16 32) a x).toNat < S45056.size a)
theorem k0_idx11_inb : ∀ (i : grid0.Coords) (k0_t2 : Fin (k0_t2_loop i).trips) (v851 : IVec S16 32) (k0_hw11 : k0_chk11 i k0_t2 v851), ∀ (k0_h4 : k0_cond4 i k0_t2 = 1#1), ∀ a x, ((![v851] : Fin 1 → IVec S16 32) a x).toNat < S45056.size a := fun i k0_t2 v851 k0_hw11 k0_h4 => k0_hw11 k0_h4
def k0_off39 (k0_t4 : Fin k0_t4_loop.trips) : Fin 1 → Nat :=
  let c4608_i32_430 : BitVec 32 := 4608#32
  let c0_i32_422 : BitVec 32 := 0#32
  let c0_i32_305 : BitVec 32 := 0#32
  let c1_i32_307 : BitVec 32 := 1#32
  let arg15 : BitVec 32 := Scf.iv c0_i32_305 c1_i32_307 k0_t4
  let c16_i32 : BitVec 32 := 16#32
  let v828 : BitVec 32 := Scalar.muli arg15 c16_i32
  let v829 : BitVec 32 := Scalar.addi c0_i32_422 v828
  let v853 : BitVec 32 := Scalar.addi c4608_i32_430 v829
  let v854 : Index := Scalar.indexCast v853
  ![v854.toNat]

def k0_chk12 (i : grid0.Coords) (k0_t2 : Fin (k0_t2_loop i).trips) (v857 : IVec S16 32) : Prop :=
  (∀ (k0_h4 : k0_cond4 i k0_t2 = 1#1), ∀ a x, ((![v857] : Fin 1 → IVec S16 32) a x).toNat < S45056.size a)
theorem k0_idx12_inb : ∀ (i : grid0.Coords) (k0_t2 : Fin (k0_t2_loop i).trips) (v857 : IVec S16 32) (k0_hw12 : k0_chk12 i k0_t2 v857), ∀ (k0_h4 : k0_cond4 i k0_t2 = 1#1), ∀ a x, ((![v857] : Fin 1 → IVec S16 32) a x).toNat < S45056.size a := fun i k0_t2 v857 k0_hw12 k0_h4 => k0_hw12 k0_h4
def k0_off40 (k0_t4 : Fin k0_t4_loop.trips) : Fin 1 → Nat :=
  let c6144_i32_432 : BitVec 32 := 6144#32
  let c0_i32_422 : BitVec 32 := 0#32
  let c0_i32_305 : BitVec 32 := 0#32
  let c1_i32_307 : BitVec 32 := 1#32
  let arg15 : BitVec 32 := Scf.iv c0_i32_305 c1_i32_307 k0_t4
  let c16_i32 : BitVec 32 := 16#32
  let v828 : BitVec 32 := Scalar.muli arg15 c16_i32
  let v829 : BitVec 32 := Scalar.addi c0_i32_422 v828
  let v859 : BitVec 32 := Scalar.addi c6144_i32_432 v829
  let v860 : Index := Scalar.indexCast v859
  ![v860.toNat]

def k0_chk13 (i : grid0.Coords) (k0_t2 : Fin (k0_t2_loop i).trips) (v863 : IVec S16 32) : Prop :=
  (∀ (k0_h4 : k0_cond4 i k0_t2 = 1#1), ∀ a x, ((![v863] : Fin 1 → IVec S16 32) a x).toNat < S45056.size a)
theorem k0_idx13_inb : ∀ (i : grid0.Coords) (k0_t2 : Fin (k0_t2_loop i).trips) (v863 : IVec S16 32) (k0_hw13 : k0_chk13 i k0_t2 v863), ∀ (k0_h4 : k0_cond4 i k0_t2 = 1#1), ∀ a x, ((![v863] : Fin 1 → IVec S16 32) a x).toNat < S45056.size a := fun i k0_t2 v863 k0_hw13 k0_h4 => k0_hw13 k0_h4
def k0_off41 (k0_t4 : Fin k0_t4_loop.trips) : Fin 1 → Nat :=
  let c7680_i32_434 : BitVec 32 := 7680#32
  let c0_i32_422 : BitVec 32 := 0#32
  let c0_i32_305 : BitVec 32 := 0#32
  let c1_i32_307 : BitVec 32 := 1#32
  let arg15 : BitVec 32 := Scf.iv c0_i32_305 c1_i32_307 k0_t4
  let c16_i32 : BitVec 32 := 16#32
  let v828 : BitVec 32 := Scalar.muli arg15 c16_i32
  let v829 : BitVec 32 := Scalar.addi c0_i32_422 v828
  let v865 : BitVec 32 := Scalar.addi c7680_i32_434 v829
  let v866 : Index := Scalar.indexCast v865
  ![v866.toNat]

def k0_chk14 (i : grid0.Coords) (k0_t2 : Fin (k0_t2_loop i).trips) (v869 : IVec S16 32) : Prop :=
  (∀ (k0_h4 : k0_cond4 i k0_t2 = 1#1), ∀ a x, ((![v869] : Fin 1 → IVec S16 32) a x).toNat < S45056.size a)
theorem k0_idx14_inb : ∀ (i : grid0.Coords) (k0_t2 : Fin (k0_t2_loop i).trips) (v869 : IVec S16 32) (k0_hw14 : k0_chk14 i k0_t2 v869), ∀ (k0_h4 : k0_cond4 i k0_t2 = 1#1), ∀ a x, ((![v869] : Fin 1 → IVec S16 32) a x).toNat < S45056.size a := fun i k0_t2 v869 k0_hw14 k0_h4 => k0_hw14 k0_h4
def k0_off42 (k0_t4 : Fin k0_t4_loop.trips) : Fin 1 → Nat :=
  let c9216_i32_436 : BitVec 32 := 9216#32
  let c0_i32_422 : BitVec 32 := 0#32
  let c0_i32_305 : BitVec 32 := 0#32
  let c1_i32_307 : BitVec 32 := 1#32
  let arg15 : BitVec 32 := Scf.iv c0_i32_305 c1_i32_307 k0_t4
  let c16_i32 : BitVec 32 := 16#32
  let v828 : BitVec 32 := Scalar.muli arg15 c16_i32
  let v829 : BitVec 32 := Scalar.addi c0_i32_422 v828
  let v871 : BitVec 32 := Scalar.addi c9216_i32_436 v829
  let v872 : Index := Scalar.indexCast v871
  ![v872.toNat]
def k0_off43 (i : grid0.Coords) (k0_t2 : Fin (k0_t2_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_281 : BitVec 32 := 2#32
  let c0_i32_59 : BitVec 32 := 0#32
  let c0_i32_60 : BitVec 32 := 0#32
  let c1_i32_62 : BitVec 32 := 1#32
  let arg14 : BitVec 32 := Scf.iv c0_i32_60 c1_i32_62 k0_t2
  let c1_i32_58 : BitVec 32 := 1#32
  let v553 : BitVec 32 := Scalar.muli arg14 c1_i32_58
  let v554 : BitVec 32 := Scalar.addi c0_i32_59 v553
  let v562 : BitVec 32 := Scalar.muli c2_i32_281 v554
  let c1_i32_282 : BitVec 32 := 1#32
  let v563 : BitVec 32 := Scalar.addi v562 c1_i32_282
  let c32_i32_283 : BitVec 32 := 32#32
  let v564 : BitVec 32 := Scalar.muli v563 c32_i32_283
  let v565 : BitVec 32 := Scalar.addi v1 v564
  let c0_i32_310 : BitVec 32 := 0#32
  let v611 : BitVec 1 := Scalar.cmpi .sgt v565 c0_i32_310
  let v612 : BitVec 32 := Scalar.extui v611
  let c0_i32_311 : BitVec 32 := 0#32
  let v613 : BitVec 1 := Scalar.cmpi .slt v565 c0_i32_311
  let v614 : BitVec 32 := Scalar.extui v613
  let v615 : BitVec 32 := Scalar.subi v612 v614
  let c21_i32_309 : BitVec 32 := 21#32
  let c0_i32_312 : BitVec 32 := 0#32
  let v616 : BitVec 1 := Scalar.cmpi .sgt c21_i32_309 c0_i32_312
  let v617 : BitVec 32 := Scalar.extui v616
  let c0_i32_313 : BitVec 32 := 0#32
  let v618 : BitVec 1 := Scalar.cmpi .slt c21_i32_309 c0_i32_313
  let v619 : BitVec 32 := Scalar.extui v618
  let v620 : BitVec 32 := Scalar.subi v617 v619
  let v621 : BitVec 1 := Scalar.cmpi .ne v615 v620
  let v622 : BitVec 32 := Scalar.remsi v565 c21_i32_309
  let c0_i32_314 : BitVec 32 := 0#32
  let v623 : BitVec 1 := Scalar.cmpi .ne v622 c0_i32_314
  let v624 : BitVec 1 := Scalar.andi v621 v623
  let v610 : BitVec 32 := Scalar.divsi v565 c21_i32_309
  let c1_i32_315 : BitVec 32 := 1#32
  let v625 : BitVec 32 := Scalar.subi v610 c1_i32_315
  let v626 : BitVec 32 := Scalar.select v624 v625 v610
  let c0_i32_330 : BitVec 32 := 0#32
  let v650 : BitVec 1 := Scalar.cmpi .sgt v626 c0_i32_330
  let v651 : BitVec 32 := Scalar.extui v650
  let c0_i32_331 : BitVec 32 := 0#32
  let v652 : BitVec 1 := Scalar.cmpi .slt v626 c0_i32_331
  let v653 : BitVec 32 := Scalar.extui v652
  let v654 : BitVec 32 := Scalar.subi v651 v653
  let c4_i32_329 : BitVec 32 := 4#32
  let c0_i32_332 : BitVec 32 := 0#32
  let v655 : BitVec 1 := Scalar.cmpi .sgt c4_i32_329 c0_i32_332
  let v656 : BitVec 32 := Scalar.extui v655
  let c0_i32_333 : BitVec 32 := 0#32
  let v657 : BitVec 1 := Scalar.cmpi .slt c4_i32_329 c0_i32_333
  let v658 : BitVec 32 := Scalar.extui v657
  let v659 : BitVec 32 := Scalar.subi v656 v658
  let v660 : BitVec 1 := Scalar.cmpi .ne v654 v659
  let v661 : BitVec 32 := Scalar.remsi v626 c4_i32_329
  let c0_i32_334 : BitVec 32 := 0#32
  let v662 : BitVec 1 := Scalar.cmpi .ne v661 c0_i32_334
  let v663 : BitVec 1 := Scalar.andi v660 v662
  let v649 : BitVec 32 := Scalar.divsi v626 c4_i32_329
  let c1_i32_335 : BitVec 32 := 1#32
  let v664 : BitVec 32 := Scalar.subi v649 c1_i32_335
  let v665 : BitVec 32 := Scalar.select v663 v664 v649
  let c0_i32_378 : BitVec 32 := 0#32
  let c21_i32_316 : BitVec 32 := 21#32
  let c0_i32_317 : BitVec 32 := 0#32
  let v627 : BitVec 1 := Scalar.cmpi .eq c21_i32_316 c0_i32_317
  let c1_i32_318 : BitVec 32 := 1#32
  let v628 : BitVec 32 := Scalar.select v627 c1_i32_318 c21_i32_316
  let v629 : BitVec 32 := Scalar.remsi v565 v628
  let c0_i32_320 : BitVec 32 := 0#32
  let v631 : BitVec 1 := Scalar.cmpi .slt v629 c0_i32_320
  let c0_i32_321 : BitVec 32 := 0#32
  let v632 : BitVec 1 := Scalar.cmpi .slt v628 c0_i32_321
  let v633 : BitVec 1 := Scalar.xori v631 v632
  let c0_i32_319 : BitVec 32 := 0#32
  let v630 : BitVec 1 := Scalar.cmpi .ne v629 c0_i32_319
  let v634 : BitVec 1 := Scalar.andi v633 v630
  let v635 : BitVec 32 := Scalar.addi v629 v628
  let v636 : BitVec 32 := Scalar.select v634 v635 v629
  let c4_i32_322 : BitVec 32 := 4#32
  let v637 : BitVec 32 := Scalar.muli v636 c4_i32_322
  let c4_i32_323 : BitVec 32 := 4#32
  let c0_i32_324 : BitVec 32 := 0#32
  let v638 : BitVec 1 := Scalar.cmpi .eq c4_i32_323 c0_i32_324
  let c1_i32_325 : BitVec 32 := 1#32
  let v639 : BitVec 32 := Scalar.select v638 c1_i32_325 c4_i32_323
  let v640 : BitVec 32 := Scalar.remsi v626 v639
  let c0_i32_327 : BitVec 32 := 0#32
  let v642 : BitVec 1 := Scalar.cmpi .slt v640 c0_i32_327
  let c0_i32_328 : BitVec 32 := 0#32
  let v643 : BitVec 1 := Scalar.cmpi .slt v639 c0_i32_328
  let v644 : BitVec 1 := Scalar.xori v642 v643
  let c0_i32_326 : BitVec 32 := 0#32
  let v641 : BitVec 1 := Scalar.cmpi .ne v640 c0_i32_326
  let v645 : BitVec 1 := Scalar.andi v644 v641
  let v646 : BitVec 32 := Scalar.addi v640 v639
  let v647 : BitVec 32 := Scalar.select v645 v646 v640
  let v648 : BitVec 32 := Scalar.addi v637 v647
  let c0_i32_381 : BitVec 32 := 0#32
  ![v665.toNat, 0, v648.toNat, 0]
def k0_off44 (i : grid0.Coords) (k0_t2 : Fin (k0_t2_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_281 : BitVec 32 := 2#32
  let c0_i32_59 : BitVec 32 := 0#32
  let c0_i32_60 : BitVec 32 := 0#32
  let c1_i32_62 : BitVec 32 := 1#32
  let arg14 : BitVec 32 := Scf.iv c0_i32_60 c1_i32_62 k0_t2
  let c1_i32_58 : BitVec 32 := 1#32
  let v553 : BitVec 32 := Scalar.muli arg14 c1_i32_58
  let v554 : BitVec 32 := Scalar.addi c0_i32_59 v553
  let v562 : BitVec 32 := Scalar.muli c2_i32_281 v554
  let c1_i32_282 : BitVec 32 := 1#32
  let v563 : BitVec 32 := Scalar.addi v562 c1_i32_282
  let c32_i32_283 : BitVec 32 := 32#32
  let v564 : BitVec 32 := Scalar.muli v563 c32_i32_283
  let v565 : BitVec 32 := Scalar.addi v1 v564
  let c0_i32_310 : BitVec 32 := 0#32
  let v611 : BitVec 1 := Scalar.cmpi .sgt v565 c0_i32_310
  let v612 : BitVec 32 := Scalar.extui v611
  let c0_i32_311 : BitVec 32 := 0#32
  let v613 : BitVec 1 := Scalar.cmpi .slt v565 c0_i32_311
  let v614 : BitVec 32 := Scalar.extui v613
  let v615 : BitVec 32 := Scalar.subi v612 v614
  let c21_i32_309 : BitVec 32 := 21#32
  let c0_i32_312 : BitVec 32 := 0#32
  let v616 : BitVec 1 := Scalar.cmpi .sgt c21_i32_309 c0_i32_312
  let v617 : BitVec 32 := Scalar.extui v616
  let c0_i32_313 : BitVec 32 := 0#32
  let v618 : BitVec 1 := Scalar.cmpi .slt c21_i32_309 c0_i32_313
  let v619 : BitVec 32 := Scalar.extui v618
  let v620 : BitVec 32 := Scalar.subi v617 v619
  let v621 : BitVec 1 := Scalar.cmpi .ne v615 v620
  let v622 : BitVec 32 := Scalar.remsi v565 c21_i32_309
  let c0_i32_314 : BitVec 32 := 0#32
  let v623 : BitVec 1 := Scalar.cmpi .ne v622 c0_i32_314
  let v624 : BitVec 1 := Scalar.andi v621 v623
  let v610 : BitVec 32 := Scalar.divsi v565 c21_i32_309
  let c1_i32_315 : BitVec 32 := 1#32
  let v625 : BitVec 32 := Scalar.subi v610 c1_i32_315
  let v626 : BitVec 32 := Scalar.select v624 v625 v610
  let c0_i32_337 : BitVec 32 := 0#32
  let v667 : BitVec 1 := Scalar.cmpi .sgt v626 c0_i32_337
  let v668 : BitVec 32 := Scalar.extui v667
  let c0_i32_338 : BitVec 32 := 0#32
  let v669 : BitVec 1 := Scalar.cmpi .slt v626 c0_i32_338
  let v670 : BitVec 32 := Scalar.extui v669
  let v671 : BitVec 32 := Scalar.subi v668 v670
  let c4_i32_336 : BitVec 32 := 4#32
  let c0_i32_339 : BitVec 32 := 0#32
  let v672 : BitVec 1 := Scalar.cmpi .sgt c4_i32_336 c0_i32_339
  let v673 : BitVec 32 := Scalar.extui v672
  let c0_i32_340 : BitVec 32 := 0#32
  let v674 : BitVec 1 := Scalar.cmpi .slt c4_i32_336 c0_i32_340
  let v675 : BitVec 32 := Scalar.extui v674
  let v676 : BitVec 32 := Scalar.subi v673 v675
  let v677 : BitVec 1 := Scalar.cmpi .ne v671 v676
  let v678 : BitVec 32 := Scalar.remsi v626 c4_i32_336
  let c0_i32_341 : BitVec 32 := 0#32
  let v679 : BitVec 1 := Scalar.cmpi .ne v678 c0_i32_341
  let v680 : BitVec 1 := Scalar.andi v677 v679
  let v666 : BitVec 32 := Scalar.divsi v626 c4_i32_336
  let c1_i32_342 : BitVec 32 := 1#32
  let v681 : BitVec 32 := Scalar.subi v666 c1_i32_342
  let v682 : BitVec 32 := Scalar.select v680 v681 v666
  let c1_i32_384 : BitVec 32 := 1#32
  let c21_i32_316 : BitVec 32 := 21#32
  let c0_i32_317 : BitVec 32 := 0#32
  let v627 : BitVec 1 := Scalar.cmpi .eq c21_i32_316 c0_i32_317
  let c1_i32_318 : BitVec 32 := 1#32
  let v628 : BitVec 32 := Scalar.select v627 c1_i32_318 c21_i32_316
  let v629 : BitVec 32 := Scalar.remsi v565 v628
  let c0_i32_320 : BitVec 32 := 0#32
  let v631 : BitVec 1 := Scalar.cmpi .slt v629 c0_i32_320
  let c0_i32_321 : BitVec 32 := 0#32
  let v632 : BitVec 1 := Scalar.cmpi .slt v628 c0_i32_321
  let v633 : BitVec 1 := Scalar.xori v631 v632
  let c0_i32_319 : BitVec 32 := 0#32
  let v630 : BitVec 1 := Scalar.cmpi .ne v629 c0_i32_319
  let v634 : BitVec 1 := Scalar.andi v633 v630
  let v635 : BitVec 32 := Scalar.addi v629 v628
  let v636 : BitVec 32 := Scalar.select v634 v635 v629
  let c4_i32_322 : BitVec 32 := 4#32
  let v637 : BitVec 32 := Scalar.muli v636 c4_i32_322
  let c4_i32_323 : BitVec 32 := 4#32
  let c0_i32_324 : BitVec 32 := 0#32
  let v638 : BitVec 1 := Scalar.cmpi .eq c4_i32_323 c0_i32_324
  let c1_i32_325 : BitVec 32 := 1#32
  let v639 : BitVec 32 := Scalar.select v638 c1_i32_325 c4_i32_323
  let v640 : BitVec 32 := Scalar.remsi v626 v639
  let c0_i32_327 : BitVec 32 := 0#32
  let v642 : BitVec 1 := Scalar.cmpi .slt v640 c0_i32_327
  let c0_i32_328 : BitVec 32 := 0#32
  let v643 : BitVec 1 := Scalar.cmpi .slt v639 c0_i32_328
  let v644 : BitVec 1 := Scalar.xori v642 v643
  let c0_i32_326 : BitVec 32 := 0#32
  let v641 : BitVec 1 := Scalar.cmpi .ne v640 c0_i32_326
  let v645 : BitVec 1 := Scalar.andi v644 v641
  let v646 : BitVec 32 := Scalar.addi v640 v639
  let v647 : BitVec 32 := Scalar.select v645 v646 v640
  let v648 : BitVec 32 := Scalar.addi v637 v647
  let c0_i32_387 : BitVec 32 := 0#32
  ![v682.toNat, 1, v648.toNat, 0]
def k0_off45 (i : grid0.Coords) (k0_t2 : Fin (k0_t2_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_281 : BitVec 32 := 2#32
  let c0_i32_59 : BitVec 32 := 0#32
  let c0_i32_60 : BitVec 32 := 0#32
  let c1_i32_62 : BitVec 32 := 1#32
  let arg14 : BitVec 32 := Scf.iv c0_i32_60 c1_i32_62 k0_t2
  let c1_i32_58 : BitVec 32 := 1#32
  let v553 : BitVec 32 := Scalar.muli arg14 c1_i32_58
  let v554 : BitVec 32 := Scalar.addi c0_i32_59 v553
  let v562 : BitVec 32 := Scalar.muli c2_i32_281 v554
  let c1_i32_282 : BitVec 32 := 1#32
  let v563 : BitVec 32 := Scalar.addi v562 c1_i32_282
  let c32_i32_283 : BitVec 32 := 32#32
  let v564 : BitVec 32 := Scalar.muli v563 c32_i32_283
  let v565 : BitVec 32 := Scalar.addi v1 v564
  let c0_i32_310 : BitVec 32 := 0#32
  let v611 : BitVec 1 := Scalar.cmpi .sgt v565 c0_i32_310
  let v612 : BitVec 32 := Scalar.extui v611
  let c0_i32_311 : BitVec 32 := 0#32
  let v613 : BitVec 1 := Scalar.cmpi .slt v565 c0_i32_311
  let v614 : BitVec 32 := Scalar.extui v613
  let v615 : BitVec 32 := Scalar.subi v612 v614
  let c21_i32_309 : BitVec 32 := 21#32
  let c0_i32_312 : BitVec 32 := 0#32
  let v616 : BitVec 1 := Scalar.cmpi .sgt c21_i32_309 c0_i32_312
  let v617 : BitVec 32 := Scalar.extui v616
  let c0_i32_313 : BitVec 32 := 0#32
  let v618 : BitVec 1 := Scalar.cmpi .slt c21_i32_309 c0_i32_313
  let v619 : BitVec 32 := Scalar.extui v618
  let v620 : BitVec 32 := Scalar.subi v617 v619
  let v621 : BitVec 1 := Scalar.cmpi .ne v615 v620
  let v622 : BitVec 32 := Scalar.remsi v565 c21_i32_309
  let c0_i32_314 : BitVec 32 := 0#32
  let v623 : BitVec 1 := Scalar.cmpi .ne v622 c0_i32_314
  let v624 : BitVec 1 := Scalar.andi v621 v623
  let v610 : BitVec 32 := Scalar.divsi v565 c21_i32_309
  let c1_i32_315 : BitVec 32 := 1#32
  let v625 : BitVec 32 := Scalar.subi v610 c1_i32_315
  let v626 : BitVec 32 := Scalar.select v624 v625 v610
  let c0_i32_344 : BitVec 32 := 0#32
  let v684 : BitVec 1 := Scalar.cmpi .sgt v626 c0_i32_344
  let v685 : BitVec 32 := Scalar.extui v684
  let c0_i32_345 : BitVec 32 := 0#32
  let v686 : BitVec 1 := Scalar.cmpi .slt v626 c0_i32_345
  let v687 : BitVec 32 := Scalar.extui v686
  let v688 : BitVec 32 := Scalar.subi v685 v687
  let c4_i32_343 : BitVec 32 := 4#32
  let c0_i32_346 : BitVec 32 := 0#32
  let v689 : BitVec 1 := Scalar.cmpi .sgt c4_i32_343 c0_i32_346
  let v690 : BitVec 32 := Scalar.extui v689
  let c0_i32_347 : BitVec 32 := 0#32
  let v691 : BitVec 1 := Scalar.cmpi .slt c4_i32_343 c0_i32_347
  let v692 : BitVec 32 := Scalar.extui v691
  let v693 : BitVec 32 := Scalar.subi v690 v692
  let v694 : BitVec 1 := Scalar.cmpi .ne v688 v693
  let v695 : BitVec 32 := Scalar.remsi v626 c4_i32_343
  let c0_i32_348 : BitVec 32 := 0#32
  let v696 : BitVec 1 := Scalar.cmpi .ne v695 c0_i32_348
  let v697 : BitVec 1 := Scalar.andi v694 v696
  let v683 : BitVec 32 := Scalar.divsi v626 c4_i32_343
  let c1_i32_349 : BitVec 32 := 1#32
  let v698 : BitVec 32 := Scalar.subi v683 c1_i32_349
  let v699 : BitVec 32 := Scalar.select v697 v698 v683
  let c2_i32_390 : BitVec 32 := 2#32
  let c21_i32_316 : BitVec 32 := 21#32
  let c0_i32_317 : BitVec 32 := 0#32
  let v627 : BitVec 1 := Scalar.cmpi .eq c21_i32_316 c0_i32_317
  let c1_i32_318 : BitVec 32 := 1#32
  let v628 : BitVec 32 := Scalar.select v627 c1_i32_318 c21_i32_316
  let v629 : BitVec 32 := Scalar.remsi v565 v628
  let c0_i32_320 : BitVec 32 := 0#32
  let v631 : BitVec 1 := Scalar.cmpi .slt v629 c0_i32_320
  let c0_i32_321 : BitVec 32 := 0#32
  let v632 : BitVec 1 := Scalar.cmpi .slt v628 c0_i32_321
  let v633 : BitVec 1 := Scalar.xori v631 v632
  let c0_i32_319 : BitVec 32 := 0#32
  let v630 : BitVec 1 := Scalar.cmpi .ne v629 c0_i32_319
  let v634 : BitVec 1 := Scalar.andi v633 v630
  let v635 : BitVec 32 := Scalar.addi v629 v628
  let v636 : BitVec 32 := Scalar.select v634 v635 v629
  let c4_i32_322 : BitVec 32 := 4#32
  let v637 : BitVec 32 := Scalar.muli v636 c4_i32_322
  let c4_i32_323 : BitVec 32 := 4#32
  let c0_i32_324 : BitVec 32 := 0#32
  let v638 : BitVec 1 := Scalar.cmpi .eq c4_i32_323 c0_i32_324
  let c1_i32_325 : BitVec 32 := 1#32
  let v639 : BitVec 32 := Scalar.select v638 c1_i32_325 c4_i32_323
  let v640 : BitVec 32 := Scalar.remsi v626 v639
  let c0_i32_327 : BitVec 32 := 0#32
  let v642 : BitVec 1 := Scalar.cmpi .slt v640 c0_i32_327
  let c0_i32_328 : BitVec 32 := 0#32
  let v643 : BitVec 1 := Scalar.cmpi .slt v639 c0_i32_328
  let v644 : BitVec 1 := Scalar.xori v642 v643
  let c0_i32_326 : BitVec 32 := 0#32
  let v641 : BitVec 1 := Scalar.cmpi .ne v640 c0_i32_326
  let v645 : BitVec 1 := Scalar.andi v644 v641
  let v646 : BitVec 32 := Scalar.addi v640 v639
  let v647 : BitVec 32 := Scalar.select v645 v646 v640
  let v648 : BitVec 32 := Scalar.addi v637 v647
  let c0_i32_393 : BitVec 32 := 0#32
  ![v699.toNat, 2, v648.toNat, 0]
def k0_off46 (i : grid0.Coords) (k0_t2 : Fin (k0_t2_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_281 : BitVec 32 := 2#32
  let c0_i32_59 : BitVec 32 := 0#32
  let c0_i32_60 : BitVec 32 := 0#32
  let c1_i32_62 : BitVec 32 := 1#32
  let arg14 : BitVec 32 := Scf.iv c0_i32_60 c1_i32_62 k0_t2
  let c1_i32_58 : BitVec 32 := 1#32
  let v553 : BitVec 32 := Scalar.muli arg14 c1_i32_58
  let v554 : BitVec 32 := Scalar.addi c0_i32_59 v553
  let v562 : BitVec 32 := Scalar.muli c2_i32_281 v554
  let c1_i32_282 : BitVec 32 := 1#32
  let v563 : BitVec 32 := Scalar.addi v562 c1_i32_282
  let c32_i32_283 : BitVec 32 := 32#32
  let v564 : BitVec 32 := Scalar.muli v563 c32_i32_283
  let v565 : BitVec 32 := Scalar.addi v1 v564
  let c0_i32_310 : BitVec 32 := 0#32
  let v611 : BitVec 1 := Scalar.cmpi .sgt v565 c0_i32_310
  let v612 : BitVec 32 := Scalar.extui v611
  let c0_i32_311 : BitVec 32 := 0#32
  let v613 : BitVec 1 := Scalar.cmpi .slt v565 c0_i32_311
  let v614 : BitVec 32 := Scalar.extui v613
  let v615 : BitVec 32 := Scalar.subi v612 v614
  let c21_i32_309 : BitVec 32 := 21#32
  let c0_i32_312 : BitVec 32 := 0#32
  let v616 : BitVec 1 := Scalar.cmpi .sgt c21_i32_309 c0_i32_312
  let v617 : BitVec 32 := Scalar.extui v616
  let c0_i32_313 : BitVec 32 := 0#32
  let v618 : BitVec 1 := Scalar.cmpi .slt c21_i32_309 c0_i32_313
  let v619 : BitVec 32 := Scalar.extui v618
  let v620 : BitVec 32 := Scalar.subi v617 v619
  let v621 : BitVec 1 := Scalar.cmpi .ne v615 v620
  let v622 : BitVec 32 := Scalar.remsi v565 c21_i32_309
  let c0_i32_314 : BitVec 32 := 0#32
  let v623 : BitVec 1 := Scalar.cmpi .ne v622 c0_i32_314
  let v624 : BitVec 1 := Scalar.andi v621 v623
  let v610 : BitVec 32 := Scalar.divsi v565 c21_i32_309
  let c1_i32_315 : BitVec 32 := 1#32
  let v625 : BitVec 32 := Scalar.subi v610 c1_i32_315
  let v626 : BitVec 32 := Scalar.select v624 v625 v610
  let c0_i32_351 : BitVec 32 := 0#32
  let v701 : BitVec 1 := Scalar.cmpi .sgt v626 c0_i32_351
  let v702 : BitVec 32 := Scalar.extui v701
  let c0_i32_352 : BitVec 32 := 0#32
  let v703 : BitVec 1 := Scalar.cmpi .slt v626 c0_i32_352
  let v704 : BitVec 32 := Scalar.extui v703
  let v705 : BitVec 32 := Scalar.subi v702 v704
  let c4_i32_350 : BitVec 32 := 4#32
  let c0_i32_353 : BitVec 32 := 0#32
  let v706 : BitVec 1 := Scalar.cmpi .sgt c4_i32_350 c0_i32_353
  let v707 : BitVec 32 := Scalar.extui v706
  let c0_i32_354 : BitVec 32 := 0#32
  let v708 : BitVec 1 := Scalar.cmpi .slt c4_i32_350 c0_i32_354
  let v709 : BitVec 32 := Scalar.extui v708
  let v710 : BitVec 32 := Scalar.subi v707 v709
  let v711 : BitVec 1 := Scalar.cmpi .ne v705 v710
  let v712 : BitVec 32 := Scalar.remsi v626 c4_i32_350
  let c0_i32_355 : BitVec 32 := 0#32
  let v713 : BitVec 1 := Scalar.cmpi .ne v712 c0_i32_355
  let v714 : BitVec 1 := Scalar.andi v711 v713
  let v700 : BitVec 32 := Scalar.divsi v626 c4_i32_350
  let c1_i32_356 : BitVec 32 := 1#32
  let v715 : BitVec 32 := Scalar.subi v700 c1_i32_356
  let v716 : BitVec 32 := Scalar.select v714 v715 v700
  let c3_i32_396 : BitVec 32 := 3#32
  let c21_i32_316 : BitVec 32 := 21#32
  let c0_i32_317 : BitVec 32 := 0#32
  let v627 : BitVec 1 := Scalar.cmpi .eq c21_i32_316 c0_i32_317
  let c1_i32_318 : BitVec 32 := 1#32
  let v628 : BitVec 32 := Scalar.select v627 c1_i32_318 c21_i32_316
  let v629 : BitVec 32 := Scalar.remsi v565 v628
  let c0_i32_320 : BitVec 32 := 0#32
  let v631 : BitVec 1 := Scalar.cmpi .slt v629 c0_i32_320
  let c0_i32_321 : BitVec 32 := 0#32
  let v632 : BitVec 1 := Scalar.cmpi .slt v628 c0_i32_321
  let v633 : BitVec 1 := Scalar.xori v631 v632
  let c0_i32_319 : BitVec 32 := 0#32
  let v630 : BitVec 1 := Scalar.cmpi .ne v629 c0_i32_319
  let v634 : BitVec 1 := Scalar.andi v633 v630
  let v635 : BitVec 32 := Scalar.addi v629 v628
  let v636 : BitVec 32 := Scalar.select v634 v635 v629
  let c4_i32_322 : BitVec 32 := 4#32
  let v637 : BitVec 32 := Scalar.muli v636 c4_i32_322
  let c4_i32_323 : BitVec 32 := 4#32
  let c0_i32_324 : BitVec 32 := 0#32
  let v638 : BitVec 1 := Scalar.cmpi .eq c4_i32_323 c0_i32_324
  let c1_i32_325 : BitVec 32 := 1#32
  let v639 : BitVec 32 := Scalar.select v638 c1_i32_325 c4_i32_323
  let v640 : BitVec 32 := Scalar.remsi v626 v639
  let c0_i32_327 : BitVec 32 := 0#32
  let v642 : BitVec 1 := Scalar.cmpi .slt v640 c0_i32_327
  let c0_i32_328 : BitVec 32 := 0#32
  let v643 : BitVec 1 := Scalar.cmpi .slt v639 c0_i32_328
  let v644 : BitVec 1 := Scalar.xori v642 v643
  let c0_i32_326 : BitVec 32 := 0#32
  let v641 : BitVec 1 := Scalar.cmpi .ne v640 c0_i32_326
  let v645 : BitVec 1 := Scalar.andi v644 v641
  let v646 : BitVec 32 := Scalar.addi v640 v639
  let v647 : BitVec 32 := Scalar.select v645 v646 v640
  let v648 : BitVec 32 := Scalar.addi v637 v647
  let c0_i32_399 : BitVec 32 := 0#32
  ![v716.toNat, 3, v648.toNat, 0]
def k0_off47 (i : grid0.Coords) (k0_t2 : Fin (k0_t2_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_281 : BitVec 32 := 2#32
  let c0_i32_59 : BitVec 32 := 0#32
  let c0_i32_60 : BitVec 32 := 0#32
  let c1_i32_62 : BitVec 32 := 1#32
  let arg14 : BitVec 32 := Scf.iv c0_i32_60 c1_i32_62 k0_t2
  let c1_i32_58 : BitVec 32 := 1#32
  let v553 : BitVec 32 := Scalar.muli arg14 c1_i32_58
  let v554 : BitVec 32 := Scalar.addi c0_i32_59 v553
  let v562 : BitVec 32 := Scalar.muli c2_i32_281 v554
  let c1_i32_282 : BitVec 32 := 1#32
  let v563 : BitVec 32 := Scalar.addi v562 c1_i32_282
  let c32_i32_283 : BitVec 32 := 32#32
  let v564 : BitVec 32 := Scalar.muli v563 c32_i32_283
  let v565 : BitVec 32 := Scalar.addi v1 v564
  let c0_i32_310 : BitVec 32 := 0#32
  let v611 : BitVec 1 := Scalar.cmpi .sgt v565 c0_i32_310
  let v612 : BitVec 32 := Scalar.extui v611
  let c0_i32_311 : BitVec 32 := 0#32
  let v613 : BitVec 1 := Scalar.cmpi .slt v565 c0_i32_311
  let v614 : BitVec 32 := Scalar.extui v613
  let v615 : BitVec 32 := Scalar.subi v612 v614
  let c21_i32_309 : BitVec 32 := 21#32
  let c0_i32_312 : BitVec 32 := 0#32
  let v616 : BitVec 1 := Scalar.cmpi .sgt c21_i32_309 c0_i32_312
  let v617 : BitVec 32 := Scalar.extui v616
  let c0_i32_313 : BitVec 32 := 0#32
  let v618 : BitVec 1 := Scalar.cmpi .slt c21_i32_309 c0_i32_313
  let v619 : BitVec 32 := Scalar.extui v618
  let v620 : BitVec 32 := Scalar.subi v617 v619
  let v621 : BitVec 1 := Scalar.cmpi .ne v615 v620
  let v622 : BitVec 32 := Scalar.remsi v565 c21_i32_309
  let c0_i32_314 : BitVec 32 := 0#32
  let v623 : BitVec 1 := Scalar.cmpi .ne v622 c0_i32_314
  let v624 : BitVec 1 := Scalar.andi v621 v623
  let v610 : BitVec 32 := Scalar.divsi v565 c21_i32_309
  let c1_i32_315 : BitVec 32 := 1#32
  let v625 : BitVec 32 := Scalar.subi v610 c1_i32_315
  let v626 : BitVec 32 := Scalar.select v624 v625 v610
  let c0_i32_358 : BitVec 32 := 0#32
  let v718 : BitVec 1 := Scalar.cmpi .sgt v626 c0_i32_358
  let v719 : BitVec 32 := Scalar.extui v718
  let c0_i32_359 : BitVec 32 := 0#32
  let v720 : BitVec 1 := Scalar.cmpi .slt v626 c0_i32_359
  let v721 : BitVec 32 := Scalar.extui v720
  let v722 : BitVec 32 := Scalar.subi v719 v721
  let c4_i32_357 : BitVec 32 := 4#32
  let c0_i32_360 : BitVec 32 := 0#32
  let v723 : BitVec 1 := Scalar.cmpi .sgt c4_i32_357 c0_i32_360
  let v724 : BitVec 32 := Scalar.extui v723
  let c0_i32_361 : BitVec 32 := 0#32
  let v725 : BitVec 1 := Scalar.cmpi .slt c4_i32_357 c0_i32_361
  let v726 : BitVec 32 := Scalar.extui v725
  let v727 : BitVec 32 := Scalar.subi v724 v726
  let v728 : BitVec 1 := Scalar.cmpi .ne v722 v727
  let v729 : BitVec 32 := Scalar.remsi v626 c4_i32_357
  let c0_i32_362 : BitVec 32 := 0#32
  let v730 : BitVec 1 := Scalar.cmpi .ne v729 c0_i32_362
  let v731 : BitVec 1 := Scalar.andi v728 v730
  let v717 : BitVec 32 := Scalar.divsi v626 c4_i32_357
  let c1_i32_363 : BitVec 32 := 1#32
  let v732 : BitVec 32 := Scalar.subi v717 c1_i32_363
  let v733 : BitVec 32 := Scalar.select v731 v732 v717
  let c4_i32_402 : BitVec 32 := 4#32
  let c21_i32_316 : BitVec 32 := 21#32
  let c0_i32_317 : BitVec 32 := 0#32
  let v627 : BitVec 1 := Scalar.cmpi .eq c21_i32_316 c0_i32_317
  let c1_i32_318 : BitVec 32 := 1#32
  let v628 : BitVec 32 := Scalar.select v627 c1_i32_318 c21_i32_316
  let v629 : BitVec 32 := Scalar.remsi v565 v628
  let c0_i32_320 : BitVec 32 := 0#32
  let v631 : BitVec 1 := Scalar.cmpi .slt v629 c0_i32_320
  let c0_i32_321 : BitVec 32 := 0#32
  let v632 : BitVec 1 := Scalar.cmpi .slt v628 c0_i32_321
  let v633 : BitVec 1 := Scalar.xori v631 v632
  let c0_i32_319 : BitVec 32 := 0#32
  let v630 : BitVec 1 := Scalar.cmpi .ne v629 c0_i32_319
  let v634 : BitVec 1 := Scalar.andi v633 v630
  let v635 : BitVec 32 := Scalar.addi v629 v628
  let v636 : BitVec 32 := Scalar.select v634 v635 v629
  let c4_i32_322 : BitVec 32 := 4#32
  let v637 : BitVec 32 := Scalar.muli v636 c4_i32_322
  let c4_i32_323 : BitVec 32 := 4#32
  let c0_i32_324 : BitVec 32 := 0#32
  let v638 : BitVec 1 := Scalar.cmpi .eq c4_i32_323 c0_i32_324
  let c1_i32_325 : BitVec 32 := 1#32
  let v639 : BitVec 32 := Scalar.select v638 c1_i32_325 c4_i32_323
  let v640 : BitVec 32 := Scalar.remsi v626 v639
  let c0_i32_327 : BitVec 32 := 0#32
  let v642 : BitVec 1 := Scalar.cmpi .slt v640 c0_i32_327
  let c0_i32_328 : BitVec 32 := 0#32
  let v643 : BitVec 1 := Scalar.cmpi .slt v639 c0_i32_328
  let v644 : BitVec 1 := Scalar.xori v642 v643
  let c0_i32_326 : BitVec 32 := 0#32
  let v641 : BitVec 1 := Scalar.cmpi .ne v640 c0_i32_326
  let v645 : BitVec 1 := Scalar.andi v644 v641
  let v646 : BitVec 32 := Scalar.addi v640 v639
  let v647 : BitVec 32 := Scalar.select v645 v646 v640
  let v648 : BitVec 32 := Scalar.addi v637 v647
  let c0_i32_405 : BitVec 32 := 0#32
  ![v733.toNat, 4, v648.toNat, 0]
def k0_off48 (i : grid0.Coords) (k0_t2 : Fin (k0_t2_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_281 : BitVec 32 := 2#32
  let c0_i32_59 : BitVec 32 := 0#32
  let c0_i32_60 : BitVec 32 := 0#32
  let c1_i32_62 : BitVec 32 := 1#32
  let arg14 : BitVec 32 := Scf.iv c0_i32_60 c1_i32_62 k0_t2
  let c1_i32_58 : BitVec 32 := 1#32
  let v553 : BitVec 32 := Scalar.muli arg14 c1_i32_58
  let v554 : BitVec 32 := Scalar.addi c0_i32_59 v553
  let v562 : BitVec 32 := Scalar.muli c2_i32_281 v554
  let c1_i32_282 : BitVec 32 := 1#32
  let v563 : BitVec 32 := Scalar.addi v562 c1_i32_282
  let c32_i32_283 : BitVec 32 := 32#32
  let v564 : BitVec 32 := Scalar.muli v563 c32_i32_283
  let v565 : BitVec 32 := Scalar.addi v1 v564
  let c0_i32_310 : BitVec 32 := 0#32
  let v611 : BitVec 1 := Scalar.cmpi .sgt v565 c0_i32_310
  let v612 : BitVec 32 := Scalar.extui v611
  let c0_i32_311 : BitVec 32 := 0#32
  let v613 : BitVec 1 := Scalar.cmpi .slt v565 c0_i32_311
  let v614 : BitVec 32 := Scalar.extui v613
  let v615 : BitVec 32 := Scalar.subi v612 v614
  let c21_i32_309 : BitVec 32 := 21#32
  let c0_i32_312 : BitVec 32 := 0#32
  let v616 : BitVec 1 := Scalar.cmpi .sgt c21_i32_309 c0_i32_312
  let v617 : BitVec 32 := Scalar.extui v616
  let c0_i32_313 : BitVec 32 := 0#32
  let v618 : BitVec 1 := Scalar.cmpi .slt c21_i32_309 c0_i32_313
  let v619 : BitVec 32 := Scalar.extui v618
  let v620 : BitVec 32 := Scalar.subi v617 v619
  let v621 : BitVec 1 := Scalar.cmpi .ne v615 v620
  let v622 : BitVec 32 := Scalar.remsi v565 c21_i32_309
  let c0_i32_314 : BitVec 32 := 0#32
  let v623 : BitVec 1 := Scalar.cmpi .ne v622 c0_i32_314
  let v624 : BitVec 1 := Scalar.andi v621 v623
  let v610 : BitVec 32 := Scalar.divsi v565 c21_i32_309
  let c1_i32_315 : BitVec 32 := 1#32
  let v625 : BitVec 32 := Scalar.subi v610 c1_i32_315
  let v626 : BitVec 32 := Scalar.select v624 v625 v610
  let c0_i32_365 : BitVec 32 := 0#32
  let v735 : BitVec 1 := Scalar.cmpi .sgt v626 c0_i32_365
  let v736 : BitVec 32 := Scalar.extui v735
  let c0_i32_366 : BitVec 32 := 0#32
  let v737 : BitVec 1 := Scalar.cmpi .slt v626 c0_i32_366
  let v738 : BitVec 32 := Scalar.extui v737
  let v739 : BitVec 32 := Scalar.subi v736 v738
  let c4_i32_364 : BitVec 32 := 4#32
  let c0_i32_367 : BitVec 32 := 0#32
  let v740 : BitVec 1 := Scalar.cmpi .sgt c4_i32_364 c0_i32_367
  let v741 : BitVec 32 := Scalar.extui v740
  let c0_i32_368 : BitVec 32 := 0#32
  let v742 : BitVec 1 := Scalar.cmpi .slt c4_i32_364 c0_i32_368
  let v743 : BitVec 32 := Scalar.extui v742
  let v744 : BitVec 32 := Scalar.subi v741 v743
  let v745 : BitVec 1 := Scalar.cmpi .ne v739 v744
  let v746 : BitVec 32 := Scalar.remsi v626 c4_i32_364
  let c0_i32_369 : BitVec 32 := 0#32
  let v747 : BitVec 1 := Scalar.cmpi .ne v746 c0_i32_369
  let v748 : BitVec 1 := Scalar.andi v745 v747
  let v734 : BitVec 32 := Scalar.divsi v626 c4_i32_364
  let c1_i32_370 : BitVec 32 := 1#32
  let v749 : BitVec 32 := Scalar.subi v734 c1_i32_370
  let v750 : BitVec 32 := Scalar.select v748 v749 v734
  let c5_i32_408 : BitVec 32 := 5#32
  let c21_i32_316 : BitVec 32 := 21#32
  let c0_i32_317 : BitVec 32 := 0#32
  let v627 : BitVec 1 := Scalar.cmpi .eq c21_i32_316 c0_i32_317
  let c1_i32_318 : BitVec 32 := 1#32
  let v628 : BitVec 32 := Scalar.select v627 c1_i32_318 c21_i32_316
  let v629 : BitVec 32 := Scalar.remsi v565 v628
  let c0_i32_320 : BitVec 32 := 0#32
  let v631 : BitVec 1 := Scalar.cmpi .slt v629 c0_i32_320
  let c0_i32_321 : BitVec 32 := 0#32
  let v632 : BitVec 1 := Scalar.cmpi .slt v628 c0_i32_321
  let v633 : BitVec 1 := Scalar.xori v631 v632
  let c0_i32_319 : BitVec 32 := 0#32
  let v630 : BitVec 1 := Scalar.cmpi .ne v629 c0_i32_319
  let v634 : BitVec 1 := Scalar.andi v633 v630
  let v635 : BitVec 32 := Scalar.addi v629 v628
  let v636 : BitVec 32 := Scalar.select v634 v635 v629
  let c4_i32_322 : BitVec 32 := 4#32
  let v637 : BitVec 32 := Scalar.muli v636 c4_i32_322
  let c4_i32_323 : BitVec 32 := 4#32
  let c0_i32_324 : BitVec 32 := 0#32
  let v638 : BitVec 1 := Scalar.cmpi .eq c4_i32_323 c0_i32_324
  let c1_i32_325 : BitVec 32 := 1#32
  let v639 : BitVec 32 := Scalar.select v638 c1_i32_325 c4_i32_323
  let v640 : BitVec 32 := Scalar.remsi v626 v639
  let c0_i32_327 : BitVec 32 := 0#32
  let v642 : BitVec 1 := Scalar.cmpi .slt v640 c0_i32_327
  let c0_i32_328 : BitVec 32 := 0#32
  let v643 : BitVec 1 := Scalar.cmpi .slt v639 c0_i32_328
  let v644 : BitVec 1 := Scalar.xori v642 v643
  let c0_i32_326 : BitVec 32 := 0#32
  let v641 : BitVec 1 := Scalar.cmpi .ne v640 c0_i32_326
  let v645 : BitVec 1 := Scalar.andi v644 v641
  let v646 : BitVec 32 := Scalar.addi v640 v639
  let v647 : BitVec 32 := Scalar.select v645 v646 v640
  let v648 : BitVec 32 := Scalar.addi v637 v647
  let c0_i32_411 : BitVec 32 := 0#32
  ![v750.toNat, 5, v648.toNat, 0]
def k0_off49 (i : grid0.Coords) (k0_t2 : Fin (k0_t2_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_281 : BitVec 32 := 2#32
  let c0_i32_59 : BitVec 32 := 0#32
  let c0_i32_60 : BitVec 32 := 0#32
  let c1_i32_62 : BitVec 32 := 1#32
  let arg14 : BitVec 32 := Scf.iv c0_i32_60 c1_i32_62 k0_t2
  let c1_i32_58 : BitVec 32 := 1#32
  let v553 : BitVec 32 := Scalar.muli arg14 c1_i32_58
  let v554 : BitVec 32 := Scalar.addi c0_i32_59 v553
  let v562 : BitVec 32 := Scalar.muli c2_i32_281 v554
  let c1_i32_282 : BitVec 32 := 1#32
  let v563 : BitVec 32 := Scalar.addi v562 c1_i32_282
  let c32_i32_283 : BitVec 32 := 32#32
  let v564 : BitVec 32 := Scalar.muli v563 c32_i32_283
  let v565 : BitVec 32 := Scalar.addi v1 v564
  let c0_i32_310 : BitVec 32 := 0#32
  let v611 : BitVec 1 := Scalar.cmpi .sgt v565 c0_i32_310
  let v612 : BitVec 32 := Scalar.extui v611
  let c0_i32_311 : BitVec 32 := 0#32
  let v613 : BitVec 1 := Scalar.cmpi .slt v565 c0_i32_311
  let v614 : BitVec 32 := Scalar.extui v613
  let v615 : BitVec 32 := Scalar.subi v612 v614
  let c21_i32_309 : BitVec 32 := 21#32
  let c0_i32_312 : BitVec 32 := 0#32
  let v616 : BitVec 1 := Scalar.cmpi .sgt c21_i32_309 c0_i32_312
  let v617 : BitVec 32 := Scalar.extui v616
  let c0_i32_313 : BitVec 32 := 0#32
  let v618 : BitVec 1 := Scalar.cmpi .slt c21_i32_309 c0_i32_313
  let v619 : BitVec 32 := Scalar.extui v618
  let v620 : BitVec 32 := Scalar.subi v617 v619
  let v621 : BitVec 1 := Scalar.cmpi .ne v615 v620
  let v622 : BitVec 32 := Scalar.remsi v565 c21_i32_309
  let c0_i32_314 : BitVec 32 := 0#32
  let v623 : BitVec 1 := Scalar.cmpi .ne v622 c0_i32_314
  let v624 : BitVec 1 := Scalar.andi v621 v623
  let v610 : BitVec 32 := Scalar.divsi v565 c21_i32_309
  let c1_i32_315 : BitVec 32 := 1#32
  let v625 : BitVec 32 := Scalar.subi v610 c1_i32_315
  let v626 : BitVec 32 := Scalar.select v624 v625 v610
  let c0_i32_372 : BitVec 32 := 0#32
  let v752 : BitVec 1 := Scalar.cmpi .sgt v626 c0_i32_372
  let v753 : BitVec 32 := Scalar.extui v752
  let c0_i32_373 : BitVec 32 := 0#32
  let v754 : BitVec 1 := Scalar.cmpi .slt v626 c0_i32_373
  let v755 : BitVec 32 := Scalar.extui v754
  let v756 : BitVec 32 := Scalar.subi v753 v755
  let c4_i32_371 : BitVec 32 := 4#32
  let c0_i32_374 : BitVec 32 := 0#32
  let v757 : BitVec 1 := Scalar.cmpi .sgt c4_i32_371 c0_i32_374
  let v758 : BitVec 32 := Scalar.extui v757
  let c0_i32_375 : BitVec 32 := 0#32
  let v759 : BitVec 1 := Scalar.cmpi .slt c4_i32_371 c0_i32_375
  let v760 : BitVec 32 := Scalar.extui v759
  let v761 : BitVec 32 := Scalar.subi v758 v760
  let v762 : BitVec 1 := Scalar.cmpi .ne v756 v761
  let v763 : BitVec 32 := Scalar.remsi v626 c4_i32_371
  let c0_i32_376 : BitVec 32 := 0#32
  let v764 : BitVec 1 := Scalar.cmpi .ne v763 c0_i32_376
  let v765 : BitVec 1 := Scalar.andi v762 v764
  let v751 : BitVec 32 := Scalar.divsi v626 c4_i32_371
  let c1_i32_377 : BitVec 32 := 1#32
  let v766 : BitVec 32 := Scalar.subi v751 c1_i32_377
  let v767 : BitVec 32 := Scalar.select v765 v766 v751
  let c6_i32_414 : BitVec 32 := 6#32
  let c21_i32_316 : BitVec 32 := 21#32
  let c0_i32_317 : BitVec 32 := 0#32
  let v627 : BitVec 1 := Scalar.cmpi .eq c21_i32_316 c0_i32_317
  let c1_i32_318 : BitVec 32 := 1#32
  let v628 : BitVec 32 := Scalar.select v627 c1_i32_318 c21_i32_316
  let v629 : BitVec 32 := Scalar.remsi v565 v628
  let c0_i32_320 : BitVec 32 := 0#32
  let v631 : BitVec 1 := Scalar.cmpi .slt v629 c0_i32_320
  let c0_i32_321 : BitVec 32 := 0#32
  let v632 : BitVec 1 := Scalar.cmpi .slt v628 c0_i32_321
  let v633 : BitVec 1 := Scalar.xori v631 v632
  let c0_i32_319 : BitVec 32 := 0#32
  let v630 : BitVec 1 := Scalar.cmpi .ne v629 c0_i32_319
  let v634 : BitVec 1 := Scalar.andi v633 v630
  let v635 : BitVec 32 := Scalar.addi v629 v628
  let v636 : BitVec 32 := Scalar.select v634 v635 v629
  let c4_i32_322 : BitVec 32 := 4#32
  let v637 : BitVec 32 := Scalar.muli v636 c4_i32_322
  let c4_i32_323 : BitVec 32 := 4#32
  let c0_i32_324 : BitVec 32 := 0#32
  let v638 : BitVec 1 := Scalar.cmpi .eq c4_i32_323 c0_i32_324
  let c1_i32_325 : BitVec 32 := 1#32
  let v639 : BitVec 32 := Scalar.select v638 c1_i32_325 c4_i32_323
  let v640 : BitVec 32 := Scalar.remsi v626 v639
  let c0_i32_327 : BitVec 32 := 0#32
  let v642 : BitVec 1 := Scalar.cmpi .slt v640 c0_i32_327
  let c0_i32_328 : BitVec 32 := 0#32
  let v643 : BitVec 1 := Scalar.cmpi .slt v639 c0_i32_328
  let v644 : BitVec 1 := Scalar.xori v642 v643
  let c0_i32_326 : BitVec 32 := 0#32
  let v641 : BitVec 1 := Scalar.cmpi .ne v640 c0_i32_326
  let v645 : BitVec 1 := Scalar.andi v644 v641
  let v646 : BitVec 32 := Scalar.addi v640 v639
  let v647 : BitVec 32 := Scalar.select v645 v646 v640
  let v648 : BitVec 32 := Scalar.addi v637 v647
  let c0_i32_417 : BitVec 32 := 0#32
  ![v767.toNat, 6, v648.toNat, 0]
def k0_cond6 (i : grid0.Coords) (k0_t2 : Fin (k0_t2_loop i).trips) : BitVec 1 :=
  let c2_i32_281 : BitVec 32 := 2#32
  let c0_i32_59 : BitVec 32 := 0#32
  let c0_i32_60 : BitVec 32 := 0#32
  let c1_i32_62 : BitVec 32 := 1#32
  let arg14 : BitVec 32 := Scf.iv c0_i32_60 c1_i32_62 k0_t2
  let c1_i32_58 : BitVec 32 := 1#32
  let v553 : BitVec 32 := Scalar.muli arg14 c1_i32_58
  let v554 : BitVec 32 := Scalar.addi c0_i32_59 v553
  let v562 : BitVec 32 := Scalar.muli c2_i32_281 v554
  let c1_i32_282 : BitVec 32 := 1#32
  let v563 : BitVec 32 := Scalar.addi v562 c1_i32_282
  let c2_i32_420 : BitVec 32 := 2#32
  let v824 : BitVec 32 := Scalar.addi v563 c2_i32_420
  let c1764_i32 : BitVec 32 := 1764#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v3 : BitVec 32 := Scalar.subi c1764_i32 v1
  let c32_i32 : BitVec 32 := 32#32
  let v4 : BitVec 32 := Scalar.addi v3 c32_i32
  let c1_i32_1 : BitVec 32 := 1#32
  let v5 : BitVec 32 := Scalar.subi v4 c1_i32_1
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c32_i32_2 : BitVec 32 := 32#32
  let c0_i32_5 : BitVec 32 := 0#32
  let v12 : BitVec 1 := Scalar.cmpi .sgt c32_i32_2 c0_i32_5
  let v13 : BitVec 32 := Scalar.extui v12
  let c0_i32_6 : BitVec 32 := 0#32
  let v14 : BitVec 1 := Scalar.cmpi .slt c32_i32_2 c0_i32_6
  let v15 : BitVec 32 := Scalar.extui v14
  let v16 : BitVec 32 := Scalar.subi v13 v15
  let v17 : BitVec 1 := Scalar.cmpi .ne v11 v16
  let v18 : BitVec 32 := Scalar.remsi v5 c32_i32_2
  let c0_i32_7 : BitVec 32 := 0#32
  let v19 : BitVec 1 := Scalar.cmpi .ne v18 c0_i32_7
  let v20 : BitVec 1 := Scalar.andi v17 v19
  let v6 : BitVec 32 := Scalar.divsi v5 c32_i32_2
  let c1_i32_8 : BitVec 32 := 1#32
  let v21 : BitVec 32 := Scalar.subi v6 c1_i32_8
  let v22 : BitVec 32 := Scalar.select v20 v21 v6
  let v825 : BitVec 1 := Scalar.cmpi .slt v824 v22
  let v826 : BitVec 32 := Scalar.extui v825
  let c0_i32_421 : BitVec 32 := 0#32
  let v827 : BitVec 1 := Scalar.cmpi .ne v826 c0_i32_421
  v827

def k0_off50 (i : grid0.Coords) (k0_t2 : Fin (k0_t2_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_281 : BitVec 32 := 2#32
  let c0_i32_59 : BitVec 32 := 0#32
  let c0_i32_60 : BitVec 32 := 0#32
  let c1_i32_62 : BitVec 32 := 1#32
  let arg14 : BitVec 32 := Scf.iv c0_i32_60 c1_i32_62 k0_t2
  let c1_i32_58 : BitVec 32 := 1#32
  let v553 : BitVec 32 := Scalar.muli arg14 c1_i32_58
  let v554 : BitVec 32 := Scalar.addi c0_i32_59 v553
  let v562 : BitVec 32 := Scalar.muli c2_i32_281 v554
  let c1_i32_282 : BitVec 32 := 1#32
  let v563 : BitVec 32 := Scalar.addi v562 c1_i32_282
  let c32_i32_283 : BitVec 32 := 32#32
  let v564 : BitVec 32 := Scalar.muli v563 c32_i32_283
  let v565 : BitVec 32 := Scalar.addi v1 v564
  let c64_i32 : BitVec 32 := 64#32
  let v828 : BitVec 32 := Scalar.addi v565 c64_i32
  let c0_i32_423 : BitVec 32 := 0#32
  let v830 : BitVec 1 := Scalar.cmpi .sgt v828 c0_i32_423
  let v831 : BitVec 32 := Scalar.extui v830
  let c0_i32_424 : BitVec 32 := 0#32
  let v832 : BitVec 1 := Scalar.cmpi .slt v828 c0_i32_424
  let v833 : BitVec 32 := Scalar.extui v832
  let v834 : BitVec 32 := Scalar.subi v831 v833
  let c21_i32_422 : BitVec 32 := 21#32
  let c0_i32_425 : BitVec 32 := 0#32
  let v835 : BitVec 1 := Scalar.cmpi .sgt c21_i32_422 c0_i32_425
  let v836 : BitVec 32 := Scalar.extui v835
  let c0_i32_426 : BitVec 32 := 0#32
  let v837 : BitVec 1 := Scalar.cmpi .slt c21_i32_422 c0_i32_426
  let v838 : BitVec 32 := Scalar.extui v837
  let v839 : BitVec 32 := Scalar.subi v836 v838
  let v840 : BitVec 1 := Scalar.cmpi .ne v834 v839
  let v841 : BitVec 32 := Scalar.remsi v828 c21_i32_422
  let c0_i32_427 : BitVec 32 := 0#32
  let v842 : BitVec 1 := Scalar.cmpi .ne v841 c0_i32_427
  let v843 : BitVec 1 := Scalar.andi v840 v842
  let v829 : BitVec 32 := Scalar.divsi v828 c21_i32_422
  let c1_i32_428 : BitVec 32 := 1#32
  let v844 : BitVec 32 := Scalar.subi v829 c1_i32_428
  let v845 : BitVec 32 := Scalar.select v843 v844 v829
  let c21_i32_429 : BitVec 32 := 21#32
  let c0_i32_430 : BitVec 32 := 0#32
  let v846 : BitVec 1 := Scalar.cmpi .eq c21_i32_429 c0_i32_430
  let c1_i32_431 : BitVec 32 := 1#32
  let v847 : BitVec 32 := Scalar.select v846 c1_i32_431 c21_i32_429
  let v848 : BitVec 32 := Scalar.remsi v828 v847
  let c0_i32_433 : BitVec 32 := 0#32
  let v850 : BitVec 1 := Scalar.cmpi .slt v848 c0_i32_433
  let c0_i32_434 : BitVec 32 := 0#32
  let v851 : BitVec 1 := Scalar.cmpi .slt v847 c0_i32_434
  let v852 : BitVec 1 := Scalar.xori v850 v851
  let c0_i32_432 : BitVec 32 := 0#32
  let v849 : BitVec 1 := Scalar.cmpi .ne v848 c0_i32_432
  let v853 : BitVec 1 := Scalar.andi v852 v849
  let v854 : BitVec 32 := Scalar.addi v848 v847
  let v855 : BitVec 32 := Scalar.select v853 v854 v848
  let c0_i32_437 : BitVec 32 := 0#32
  ![v845.toNat, v855.toNat, 0]
@[reducible] def k0_t5_loop (i : grid0.Coords) : Scf.Loop 32 :=
  let c0_i32_60 : BitVec 32 := 0#32
  let c1764_i32 : BitVec 32 := 1764#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v3 : BitVec 32 := Scalar.subi c1764_i32 v1
  let c32_i32 : BitVec 32 := 32#32
  let v4 : BitVec 32 := Scalar.addi v3 c32_i32
  let c1_i32_1 : BitVec 32 := 1#32
  let v5 : BitVec 32 := Scalar.subi v4 c1_i32_1
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c32_i32_2 : BitVec 32 := 32#32
  let c0_i32_5 : BitVec 32 := 0#32
  let v12 : BitVec 1 := Scalar.cmpi .sgt c32_i32_2 c0_i32_5
  let v13 : BitVec 32 := Scalar.extui v12
  let c0_i32_6 : BitVec 32 := 0#32
  let v14 : BitVec 1 := Scalar.cmpi .slt c32_i32_2 c0_i32_6
  let v15 : BitVec 32 := Scalar.extui v14
  let v16 : BitVec 32 := Scalar.subi v13 v15
  let v17 : BitVec 1 := Scalar.cmpi .ne v11 v16
  let v18 : BitVec 32 := Scalar.remsi v5 c32_i32_2
  let c0_i32_7 : BitVec 32 := 0#32
  let v19 : BitVec 1 := Scalar.cmpi .ne v18 c0_i32_7
  let v20 : BitVec 1 := Scalar.andi v17 v19
  let v6 : BitVec 32 := Scalar.divsi v5 c32_i32_2
  let c1_i32_8 : BitVec 32 := 1#32
  let v21 : BitVec 32 := Scalar.subi v6 c1_i32_8
  let v22 : BitVec 32 := Scalar.select v20 v21 v6
  let c1_i32_46 : BitVec 32 := 1#32
  let v95 : BitVec 32 := Scalar.addi v22 c1_i32_46
  let c0_i32_48 : BitVec 32 := 0#32
  let v97 : BitVec 1 := Scalar.cmpi .sgt v95 c0_i32_48
  let v98 : BitVec 32 := Scalar.extui v97
  let c0_i32_49 : BitVec 32 := 0#32
  let v99 : BitVec 1 := Scalar.cmpi .slt v95 c0_i32_49
  let v100 : BitVec 32 := Scalar.extui v99
  let v101 : BitVec 32 := Scalar.subi v98 v100
  let c2_i32_47 : BitVec 32 := 2#32
  let c0_i32_50 : BitVec 32 := 0#32
  let v102 : BitVec 1 := Scalar.cmpi .sgt c2_i32_47 c0_i32_50
  let v103 : BitVec 32 := Scalar.extui v102
  let c0_i32_51 : BitVec 32 := 0#32
  let v104 : BitVec 1 := Scalar.cmpi .slt c2_i32_47 c0_i32_51
  let v105 : BitVec 32 := Scalar.extui v104
  let v106 : BitVec 32 := Scalar.subi v103 v105
  let v107 : BitVec 1 := Scalar.cmpi .ne v101 v106
  let v108 : BitVec 32 := Scalar.remsi v95 c2_i32_47
  let c0_i32_52 : BitVec 32 := 0#32
  let v109 : BitVec 1 := Scalar.cmpi .ne v108 c0_i32_52
  let v110 : BitVec 1 := Scalar.andi v107 v109
  let v96 : BitVec 32 := Scalar.divsi v95 c2_i32_47
  let c1_i32_53 : BitVec 32 := 1#32
  let v111 : BitVec 32 := Scalar.subi v96 c1_i32_53
  let v112 : BitVec 32 := Scalar.select v110 v111 v96
  let c0_i32_54 : BitVec 32 := 0#32
  let v113 : BitVec 32 := Scalar.subi v112 c0_i32_54
  let c1_i32_55 : BitVec 32 := 1#32
  let c1_i32_56 : BitVec 32 := 1#32
  let v114 : BitVec 32 := Scalar.subi c1_i32_55 c1_i32_56
  let v115 : BitVec 32 := Scalar.addi v113 v114
  let c1_i32_57 : BitVec 32 := 1#32
  let v116 : BitVec 32 := Scalar.divsi v115 c1_i32_57
  let v117 : BitVec 32 := Scalar.subi v116 c0_i32_60
  let c1_i32_61 : BitVec 32 := 1#32
  let v119 : BitVec 32 := Scalar.divsi v117 c1_i32_61
  let v120 : BitVec 32 := Scalar.muli v119 c1_i32_61
  let v121 : BitVec 32 := Scalar.addi c0_i32_60 v120
  let v118 : BitVec 32 := Scalar.addi c0_i32_60 v117
  let c1_i32_63 : BitVec 32 := 1#32
  ⟨v121, v118, c1_i32_63⟩
def k0_cond7 (i : grid0.Coords) (k0_t5 : Fin (k0_t5_loop i).trips) : BitVec 1 :=
  let c2_i32_277 : BitVec 32 := 2#32
  let c0_i32_59 : BitVec 32 := 0#32
  let c0_i32_60 : BitVec 32 := 0#32
  let c1764_i32 : BitVec 32 := 1764#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v3 : BitVec 32 := Scalar.subi c1764_i32 v1
  let c32_i32 : BitVec 32 := 32#32
  let v4 : BitVec 32 := Scalar.addi v3 c32_i32
  let c1_i32_1 : BitVec 32 := 1#32
  let v5 : BitVec 32 := Scalar.subi v4 c1_i32_1
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c32_i32_2 : BitVec 32 := 32#32
  let c0_i32_5 : BitVec 32 := 0#32
  let v12 : BitVec 1 := Scalar.cmpi .sgt c32_i32_2 c0_i32_5
  let v13 : BitVec 32 := Scalar.extui v12
  let c0_i32_6 : BitVec 32 := 0#32
  let v14 : BitVec 1 := Scalar.cmpi .slt c32_i32_2 c0_i32_6
  let v15 : BitVec 32 := Scalar.extui v14
  let v16 : BitVec 32 := Scalar.subi v13 v15
  let v17 : BitVec 1 := Scalar.cmpi .ne v11 v16
  let v18 : BitVec 32 := Scalar.remsi v5 c32_i32_2
  let c0_i32_7 : BitVec 32 := 0#32
  let v19 : BitVec 1 := Scalar.cmpi .ne v18 c0_i32_7
  let v20 : BitVec 1 := Scalar.andi v17 v19
  let v6 : BitVec 32 := Scalar.divsi v5 c32_i32_2
  let c1_i32_8 : BitVec 32 := 1#32
  let v21 : BitVec 32 := Scalar.subi v6 c1_i32_8
  let v22 : BitVec 32 := Scalar.select v20 v21 v6
  let c1_i32_46 : BitVec 32 := 1#32
  let v95 : BitVec 32 := Scalar.addi v22 c1_i32_46
  let c0_i32_48 : BitVec 32 := 0#32
  let v97 : BitVec 1 := Scalar.cmpi .sgt v95 c0_i32_48
  let v98 : BitVec 32 := Scalar.extui v97
  let c0_i32_49 : BitVec 32 := 0#32
  let v99 : BitVec 1 := Scalar.cmpi .slt v95 c0_i32_49
  let v100 : BitVec 32 := Scalar.extui v99
  let v101 : BitVec 32 := Scalar.subi v98 v100
  let c2_i32_47 : BitVec 32 := 2#32
  let c0_i32_50 : BitVec 32 := 0#32
  let v102 : BitVec 1 := Scalar.cmpi .sgt c2_i32_47 c0_i32_50
  let v103 : BitVec 32 := Scalar.extui v102
  let c0_i32_51 : BitVec 32 := 0#32
  let v104 : BitVec 1 := Scalar.cmpi .slt c2_i32_47 c0_i32_51
  let v105 : BitVec 32 := Scalar.extui v104
  let v106 : BitVec 32 := Scalar.subi v103 v105
  let v107 : BitVec 1 := Scalar.cmpi .ne v101 v106
  let v108 : BitVec 32 := Scalar.remsi v95 c2_i32_47
  let c0_i32_52 : BitVec 32 := 0#32
  let v109 : BitVec 1 := Scalar.cmpi .ne v108 c0_i32_52
  let v110 : BitVec 1 := Scalar.andi v107 v109
  let v96 : BitVec 32 := Scalar.divsi v95 c2_i32_47
  let c1_i32_53 : BitVec 32 := 1#32
  let v111 : BitVec 32 := Scalar.subi v96 c1_i32_53
  let v112 : BitVec 32 := Scalar.select v110 v111 v96
  let c0_i32_54 : BitVec 32 := 0#32
  let v113 : BitVec 32 := Scalar.subi v112 c0_i32_54
  let c1_i32_55 : BitVec 32 := 1#32
  let c1_i32_56 : BitVec 32 := 1#32
  let v114 : BitVec 32 := Scalar.subi c1_i32_55 c1_i32_56
  let v115 : BitVec 32 := Scalar.addi v113 v114
  let c1_i32_57 : BitVec 32 := 1#32
  let v116 : BitVec 32 := Scalar.divsi v115 c1_i32_57
  let v117 : BitVec 32 := Scalar.subi v116 c0_i32_60
  let c1_i32_61 : BitVec 32 := 1#32
  let v119 : BitVec 32 := Scalar.divsi v117 c1_i32_61
  let v120 : BitVec 32 := Scalar.muli v119 c1_i32_61
  let v121 : BitVec 32 := Scalar.addi c0_i32_60 v120
  let c1_i32_63 : BitVec 32 := 1#32
  let arg14 : BitVec 32 := Scf.iv v121 c1_i32_63 k0_t5
  let c1_i32_58 : BitVec 32 := 1#32
  let v553 : BitVec 32 := Scalar.muli arg14 c1_i32_58
  let v554 : BitVec 32 := Scalar.addi c0_i32_59 v553
  let v555 : BitVec 32 := Scalar.muli c2_i32_277 v554
  let c0_i32_278 : BitVec 32 := 0#32
  let v556 : BitVec 32 := Scalar.addi v555 c0_i32_278
  let v559 : BitVec 1 := Scalar.cmpi .slt v556 v22
  let v560 : BitVec 32 := Scalar.extui v559
  let c0_i32_280 : BitVec 32 := 0#32
  let v561 : BitVec 1 := Scalar.cmpi .ne v560 c0_i32_280
  v561

def k0_off51 (i : grid0.Coords) (k0_t5 : Fin (k0_t5_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_277 : BitVec 32 := 2#32
  let c0_i32_59 : BitVec 32 := 0#32
  let c0_i32_60 : BitVec 32 := 0#32
  let c1764_i32 : BitVec 32 := 1764#32
  let v3 : BitVec 32 := Scalar.subi c1764_i32 v1
  let c32_i32 : BitVec 32 := 32#32
  let v4 : BitVec 32 := Scalar.addi v3 c32_i32
  let c1_i32_1 : BitVec 32 := 1#32
  let v5 : BitVec 32 := Scalar.subi v4 c1_i32_1
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c32_i32_2 : BitVec 32 := 32#32
  let c0_i32_5 : BitVec 32 := 0#32
  let v12 : BitVec 1 := Scalar.cmpi .sgt c32_i32_2 c0_i32_5
  let v13 : BitVec 32 := Scalar.extui v12
  let c0_i32_6 : BitVec 32 := 0#32
  let v14 : BitVec 1 := Scalar.cmpi .slt c32_i32_2 c0_i32_6
  let v15 : BitVec 32 := Scalar.extui v14
  let v16 : BitVec 32 := Scalar.subi v13 v15
  let v17 : BitVec 1 := Scalar.cmpi .ne v11 v16
  let v18 : BitVec 32 := Scalar.remsi v5 c32_i32_2
  let c0_i32_7 : BitVec 32 := 0#32
  let v19 : BitVec 1 := Scalar.cmpi .ne v18 c0_i32_7
  let v20 : BitVec 1 := Scalar.andi v17 v19
  let v6 : BitVec 32 := Scalar.divsi v5 c32_i32_2
  let c1_i32_8 : BitVec 32 := 1#32
  let v21 : BitVec 32 := Scalar.subi v6 c1_i32_8
  let v22 : BitVec 32 := Scalar.select v20 v21 v6
  let c1_i32_46 : BitVec 32 := 1#32
  let v95 : BitVec 32 := Scalar.addi v22 c1_i32_46
  let c0_i32_48 : BitVec 32 := 0#32
  let v97 : BitVec 1 := Scalar.cmpi .sgt v95 c0_i32_48
  let v98 : BitVec 32 := Scalar.extui v97
  let c0_i32_49 : BitVec 32 := 0#32
  let v99 : BitVec 1 := Scalar.cmpi .slt v95 c0_i32_49
  let v100 : BitVec 32 := Scalar.extui v99
  let v101 : BitVec 32 := Scalar.subi v98 v100
  let c2_i32_47 : BitVec 32 := 2#32
  let c0_i32_50 : BitVec 32 := 0#32
  let v102 : BitVec 1 := Scalar.cmpi .sgt c2_i32_47 c0_i32_50
  let v103 : BitVec 32 := Scalar.extui v102
  let c0_i32_51 : BitVec 32 := 0#32
  let v104 : BitVec 1 := Scalar.cmpi .slt c2_i32_47 c0_i32_51
  let v105 : BitVec 32 := Scalar.extui v104
  let v106 : BitVec 32 := Scalar.subi v103 v105
  let v107 : BitVec 1 := Scalar.cmpi .ne v101 v106
  let v108 : BitVec 32 := Scalar.remsi v95 c2_i32_47
  let c0_i32_52 : BitVec 32 := 0#32
  let v109 : BitVec 1 := Scalar.cmpi .ne v108 c0_i32_52
  let v110 : BitVec 1 := Scalar.andi v107 v109
  let v96 : BitVec 32 := Scalar.divsi v95 c2_i32_47
  let c1_i32_53 : BitVec 32 := 1#32
  let v111 : BitVec 32 := Scalar.subi v96 c1_i32_53
  let v112 : BitVec 32 := Scalar.select v110 v111 v96
  let c0_i32_54 : BitVec 32 := 0#32
  let v113 : BitVec 32 := Scalar.subi v112 c0_i32_54
  let c1_i32_55 : BitVec 32 := 1#32
  let c1_i32_56 : BitVec 32 := 1#32
  let v114 : BitVec 32 := Scalar.subi c1_i32_55 c1_i32_56
  let v115 : BitVec 32 := Scalar.addi v113 v114
  let c1_i32_57 : BitVec 32 := 1#32
  let v116 : BitVec 32 := Scalar.divsi v115 c1_i32_57
  let v117 : BitVec 32 := Scalar.subi v116 c0_i32_60
  let c1_i32_61 : BitVec 32 := 1#32
  let v119 : BitVec 32 := Scalar.divsi v117 c1_i32_61
  let v120 : BitVec 32 := Scalar.muli v119 c1_i32_61
  let v121 : BitVec 32 := Scalar.addi c0_i32_60 v120
  let c1_i32_63 : BitVec 32 := 1#32
  let arg14 : BitVec 32 := Scf.iv v121 c1_i32_63 k0_t5
  let c1_i32_58 : BitVec 32 := 1#32
  let v553 : BitVec 32 := Scalar.muli arg14 c1_i32_58
  let v554 : BitVec 32 := Scalar.addi c0_i32_59 v553
  let v555 : BitVec 32 := Scalar.muli c2_i32_277 v554
  let c0_i32_278 : BitVec 32 := 0#32
  let v556 : BitVec 32 := Scalar.addi v555 c0_i32_278
  let c32_i32_279 : BitVec 32 := 32#32
  let v557 : BitVec 32 := Scalar.muli v556 c32_i32_279
  let v558 : BitVec 32 := Scalar.addi v1 v557
  let c0_i32_286 : BitVec 32 := 0#32
  let v570 : BitVec 1 := Scalar.cmpi .sgt v558 c0_i32_286
  let v571 : BitVec 32 := Scalar.extui v570
  let c0_i32_287 : BitVec 32 := 0#32
  let v572 : BitVec 1 := Scalar.cmpi .slt v558 c0_i32_287
  let v573 : BitVec 32 := Scalar.extui v572
  let v574 : BitVec 32 := Scalar.subi v571 v573
  let c21_i32_285 : BitVec 32 := 21#32
  let c0_i32_288 : BitVec 32 := 0#32
  let v575 : BitVec 1 := Scalar.cmpi .sgt c21_i32_285 c0_i32_288
  let v576 : BitVec 32 := Scalar.extui v575
  let c0_i32_289 : BitVec 32 := 0#32
  let v577 : BitVec 1 := Scalar.cmpi .slt c21_i32_285 c0_i32_289
  let v578 : BitVec 32 := Scalar.extui v577
  let v579 : BitVec 32 := Scalar.subi v576 v578
  let v580 : BitVec 1 := Scalar.cmpi .ne v574 v579
  let v581 : BitVec 32 := Scalar.remsi v558 c21_i32_285
  let c0_i32_290 : BitVec 32 := 0#32
  let v582 : BitVec 1 := Scalar.cmpi .ne v581 c0_i32_290
  let v583 : BitVec 1 := Scalar.andi v580 v582
  let v569 : BitVec 32 := Scalar.divsi v558 c21_i32_285
  let c1_i32_291 : BitVec 32 := 1#32
  let v584 : BitVec 32 := Scalar.subi v569 c1_i32_291
  let v585 : BitVec 32 := Scalar.select v583 v584 v569
  let c21_i32_292 : BitVec 32 := 21#32
  let c0_i32_293 : BitVec 32 := 0#32
  let v586 : BitVec 1 := Scalar.cmpi .eq c21_i32_292 c0_i32_293
  let c1_i32_294 : BitVec 32 := 1#32
  let v587 : BitVec 32 := Scalar.select v586 c1_i32_294 c21_i32_292
  let v588 : BitVec 32 := Scalar.remsi v558 v587
  let c0_i32_296 : BitVec 32 := 0#32
  let v590 : BitVec 1 := Scalar.cmpi .slt v588 c0_i32_296
  let c0_i32_297 : BitVec 32 := 0#32
  let v591 : BitVec 1 := Scalar.cmpi .slt v587 c0_i32_297
  let v592 : BitVec 1 := Scalar.xori v590 v591
  let c0_i32_295 : BitVec 32 := 0#32
  let v589 : BitVec 1 := Scalar.cmpi .ne v588 c0_i32_295
  let v593 : BitVec 1 := Scalar.andi v592 v589
  let v594 : BitVec 32 := Scalar.addi v588 v587
  let v595 : BitVec 32 := Scalar.select v593 v594 v588
  let c0_i32_300 : BitVec 32 := 0#32
  ![v585.toNat, v595.toNat, 0]
def k0_cond8 (i : grid0.Coords) (k0_t5 : Fin (k0_t5_loop i).trips) : BitVec 1 :=
  let c2_i32_277 : BitVec 32 := 2#32
  let c0_i32_59 : BitVec 32 := 0#32
  let c0_i32_60 : BitVec 32 := 0#32
  let c1764_i32 : BitVec 32 := 1764#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v3 : BitVec 32 := Scalar.subi c1764_i32 v1
  let c32_i32 : BitVec 32 := 32#32
  let v4 : BitVec 32 := Scalar.addi v3 c32_i32
  let c1_i32_1 : BitVec 32 := 1#32
  let v5 : BitVec 32 := Scalar.subi v4 c1_i32_1
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c32_i32_2 : BitVec 32 := 32#32
  let c0_i32_5 : BitVec 32 := 0#32
  let v12 : BitVec 1 := Scalar.cmpi .sgt c32_i32_2 c0_i32_5
  let v13 : BitVec 32 := Scalar.extui v12
  let c0_i32_6 : BitVec 32 := 0#32
  let v14 : BitVec 1 := Scalar.cmpi .slt c32_i32_2 c0_i32_6
  let v15 : BitVec 32 := Scalar.extui v14
  let v16 : BitVec 32 := Scalar.subi v13 v15
  let v17 : BitVec 1 := Scalar.cmpi .ne v11 v16
  let v18 : BitVec 32 := Scalar.remsi v5 c32_i32_2
  let c0_i32_7 : BitVec 32 := 0#32
  let v19 : BitVec 1 := Scalar.cmpi .ne v18 c0_i32_7
  let v20 : BitVec 1 := Scalar.andi v17 v19
  let v6 : BitVec 32 := Scalar.divsi v5 c32_i32_2
  let c1_i32_8 : BitVec 32 := 1#32
  let v21 : BitVec 32 := Scalar.subi v6 c1_i32_8
  let v22 : BitVec 32 := Scalar.select v20 v21 v6
  let c1_i32_46 : BitVec 32 := 1#32
  let v95 : BitVec 32 := Scalar.addi v22 c1_i32_46
  let c0_i32_48 : BitVec 32 := 0#32
  let v97 : BitVec 1 := Scalar.cmpi .sgt v95 c0_i32_48
  let v98 : BitVec 32 := Scalar.extui v97
  let c0_i32_49 : BitVec 32 := 0#32
  let v99 : BitVec 1 := Scalar.cmpi .slt v95 c0_i32_49
  let v100 : BitVec 32 := Scalar.extui v99
  let v101 : BitVec 32 := Scalar.subi v98 v100
  let c2_i32_47 : BitVec 32 := 2#32
  let c0_i32_50 : BitVec 32 := 0#32
  let v102 : BitVec 1 := Scalar.cmpi .sgt c2_i32_47 c0_i32_50
  let v103 : BitVec 32 := Scalar.extui v102
  let c0_i32_51 : BitVec 32 := 0#32
  let v104 : BitVec 1 := Scalar.cmpi .slt c2_i32_47 c0_i32_51
  let v105 : BitVec 32 := Scalar.extui v104
  let v106 : BitVec 32 := Scalar.subi v103 v105
  let v107 : BitVec 1 := Scalar.cmpi .ne v101 v106
  let v108 : BitVec 32 := Scalar.remsi v95 c2_i32_47
  let c0_i32_52 : BitVec 32 := 0#32
  let v109 : BitVec 1 := Scalar.cmpi .ne v108 c0_i32_52
  let v110 : BitVec 1 := Scalar.andi v107 v109
  let v96 : BitVec 32 := Scalar.divsi v95 c2_i32_47
  let c1_i32_53 : BitVec 32 := 1#32
  let v111 : BitVec 32 := Scalar.subi v96 c1_i32_53
  let v112 : BitVec 32 := Scalar.select v110 v111 v96
  let c0_i32_54 : BitVec 32 := 0#32
  let v113 : BitVec 32 := Scalar.subi v112 c0_i32_54
  let c1_i32_55 : BitVec 32 := 1#32
  let c1_i32_56 : BitVec 32 := 1#32
  let v114 : BitVec 32 := Scalar.subi c1_i32_55 c1_i32_56
  let v115 : BitVec 32 := Scalar.addi v113 v114
  let c1_i32_57 : BitVec 32 := 1#32
  let v116 : BitVec 32 := Scalar.divsi v115 c1_i32_57
  let v117 : BitVec 32 := Scalar.subi v116 c0_i32_60
  let c1_i32_61 : BitVec 32 := 1#32
  let v119 : BitVec 32 := Scalar.divsi v117 c1_i32_61
  let v120 : BitVec 32 := Scalar.muli v119 c1_i32_61
  let v121 : BitVec 32 := Scalar.addi c0_i32_60 v120
  let c1_i32_63 : BitVec 32 := 1#32
  let arg14 : BitVec 32 := Scf.iv v121 c1_i32_63 k0_t5
  let c1_i32_58 : BitVec 32 := 1#32
  let v553 : BitVec 32 := Scalar.muli arg14 c1_i32_58
  let v554 : BitVec 32 := Scalar.addi c0_i32_59 v553
  let v555 : BitVec 32 := Scalar.muli c2_i32_277 v554
  let c0_i32_278 : BitVec 32 := 0#32
  let v556 : BitVec 32 := Scalar.addi v555 c0_i32_278
  let c2_i32_303 : BitVec 32 := 2#32
  let v604 : BitVec 1 := Scalar.cmpi .sge v556 c2_i32_303
  let v605 : BitVec 32 := Scalar.extui v604
  let c0_i32_304 : BitVec 32 := 0#32
  let v606 : BitVec 1 := Scalar.cmpi .ne v605 c0_i32_304
  v606

def k0_off52 (i : grid0.Coords) (k0_t5 : Fin (k0_t5_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_277 : BitVec 32 := 2#32
  let c0_i32_59 : BitVec 32 := 0#32
  let c0_i32_60 : BitVec 32 := 0#32
  let c1764_i32 : BitVec 32 := 1764#32
  let v3 : BitVec 32 := Scalar.subi c1764_i32 v1
  let c32_i32 : BitVec 32 := 32#32
  let v4 : BitVec 32 := Scalar.addi v3 c32_i32
  let c1_i32_1 : BitVec 32 := 1#32
  let v5 : BitVec 32 := Scalar.subi v4 c1_i32_1
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c32_i32_2 : BitVec 32 := 32#32
  let c0_i32_5 : BitVec 32 := 0#32
  let v12 : BitVec 1 := Scalar.cmpi .sgt c32_i32_2 c0_i32_5
  let v13 : BitVec 32 := Scalar.extui v12
  let c0_i32_6 : BitVec 32 := 0#32
  let v14 : BitVec 1 := Scalar.cmpi .slt c32_i32_2 c0_i32_6
  let v15 : BitVec 32 := Scalar.extui v14
  let v16 : BitVec 32 := Scalar.subi v13 v15
  let v17 : BitVec 1 := Scalar.cmpi .ne v11 v16
  let v18 : BitVec 32 := Scalar.remsi v5 c32_i32_2
  let c0_i32_7 : BitVec 32 := 0#32
  let v19 : BitVec 1 := Scalar.cmpi .ne v18 c0_i32_7
  let v20 : BitVec 1 := Scalar.andi v17 v19
  let v6 : BitVec 32 := Scalar.divsi v5 c32_i32_2
  let c1_i32_8 : BitVec 32 := 1#32
  let v21 : BitVec 32 := Scalar.subi v6 c1_i32_8
  let v22 : BitVec 32 := Scalar.select v20 v21 v6
  let c1_i32_46 : BitVec 32 := 1#32
  let v95 : BitVec 32 := Scalar.addi v22 c1_i32_46
  let c0_i32_48 : BitVec 32 := 0#32
  let v97 : BitVec 1 := Scalar.cmpi .sgt v95 c0_i32_48
  let v98 : BitVec 32 := Scalar.extui v97
  let c0_i32_49 : BitVec 32 := 0#32
  let v99 : BitVec 1 := Scalar.cmpi .slt v95 c0_i32_49
  let v100 : BitVec 32 := Scalar.extui v99
  let v101 : BitVec 32 := Scalar.subi v98 v100
  let c2_i32_47 : BitVec 32 := 2#32
  let c0_i32_50 : BitVec 32 := 0#32
  let v102 : BitVec 1 := Scalar.cmpi .sgt c2_i32_47 c0_i32_50
  let v103 : BitVec 32 := Scalar.extui v102
  let c0_i32_51 : BitVec 32 := 0#32
  let v104 : BitVec 1 := Scalar.cmpi .slt c2_i32_47 c0_i32_51
  let v105 : BitVec 32 := Scalar.extui v104
  let v106 : BitVec 32 := Scalar.subi v103 v105
  let v107 : BitVec 1 := Scalar.cmpi .ne v101 v106
  let v108 : BitVec 32 := Scalar.remsi v95 c2_i32_47
  let c0_i32_52 : BitVec 32 := 0#32
  let v109 : BitVec 1 := Scalar.cmpi .ne v108 c0_i32_52
  let v110 : BitVec 1 := Scalar.andi v107 v109
  let v96 : BitVec 32 := Scalar.divsi v95 c2_i32_47
  let c1_i32_53 : BitVec 32 := 1#32
  let v111 : BitVec 32 := Scalar.subi v96 c1_i32_53
  let v112 : BitVec 32 := Scalar.select v110 v111 v96
  let c0_i32_54 : BitVec 32 := 0#32
  let v113 : BitVec 32 := Scalar.subi v112 c0_i32_54
  let c1_i32_55 : BitVec 32 := 1#32
  let c1_i32_56 : BitVec 32 := 1#32
  let v114 : BitVec 32 := Scalar.subi c1_i32_55 c1_i32_56
  let v115 : BitVec 32 := Scalar.addi v113 v114
  let c1_i32_57 : BitVec 32 := 1#32
  let v116 : BitVec 32 := Scalar.divsi v115 c1_i32_57
  let v117 : BitVec 32 := Scalar.subi v116 c0_i32_60
  let c1_i32_61 : BitVec 32 := 1#32
  let v119 : BitVec 32 := Scalar.divsi v117 c1_i32_61
  let v120 : BitVec 32 := Scalar.muli v119 c1_i32_61
  let v121 : BitVec 32 := Scalar.addi c0_i32_60 v120
  let c1_i32_63 : BitVec 32 := 1#32
  let arg14 : BitVec 32 := Scf.iv v121 c1_i32_63 k0_t5
  let c1_i32_58 : BitVec 32 := 1#32
  let v553 : BitVec 32 := Scalar.muli arg14 c1_i32_58
  let v554 : BitVec 32 := Scalar.addi c0_i32_59 v553
  let v555 : BitVec 32 := Scalar.muli c2_i32_277 v554
  let c0_i32_278 : BitVec 32 := 0#32
  let v556 : BitVec 32 := Scalar.addi v555 c0_i32_278
  let c32_i32_279 : BitVec 32 := 32#32
  let v557 : BitVec 32 := Scalar.muli v556 c32_i32_279
  let v558 : BitVec 32 := Scalar.addi v1 v557
  let c0_i32_423 : BitVec 32 := 0#32
  let v829 : BitVec 1 := Scalar.cmpi .sgt v558 c0_i32_423
  let v830 : BitVec 32 := Scalar.extui v829
  let c0_i32_424 : BitVec 32 := 0#32
  let v831 : BitVec 1 := Scalar.cmpi .slt v558 c0_i32_424
  let v832 : BitVec 32 := Scalar.extui v831
  let v833 : BitVec 32 := Scalar.subi v830 v832
  let c21_i32_422 : BitVec 32 := 21#32
  let c0_i32_425 : BitVec 32 := 0#32
  let v834 : BitVec 1 := Scalar.cmpi .sgt c21_i32_422 c0_i32_425
  let v835 : BitVec 32 := Scalar.extui v834
  let c0_i32_426 : BitVec 32 := 0#32
  let v836 : BitVec 1 := Scalar.cmpi .slt c21_i32_422 c0_i32_426
  let v837 : BitVec 32 := Scalar.extui v836
  let v838 : BitVec 32 := Scalar.subi v835 v837
  let v839 : BitVec 1 := Scalar.cmpi .ne v833 v838
  let v840 : BitVec 32 := Scalar.remsi v558 c21_i32_422
  let c0_i32_427 : BitVec 32 := 0#32
  let v841 : BitVec 1 := Scalar.cmpi .ne v840 c0_i32_427
  let v842 : BitVec 1 := Scalar.andi v839 v841
  let v828 : BitVec 32 := Scalar.divsi v558 c21_i32_422
  let c1_i32_428 : BitVec 32 := 1#32
  let v843 : BitVec 32 := Scalar.subi v828 c1_i32_428
  let v844 : BitVec 32 := Scalar.select v842 v843 v828
  let c0_i32_443 : BitVec 32 := 0#32
  let v868 : BitVec 1 := Scalar.cmpi .sgt v844 c0_i32_443
  let v869 : BitVec 32 := Scalar.extui v868
  let c0_i32_444 : BitVec 32 := 0#32
  let v870 : BitVec 1 := Scalar.cmpi .slt v844 c0_i32_444
  let v871 : BitVec 32 := Scalar.extui v870
  let v872 : BitVec 32 := Scalar.subi v869 v871
  let c4_i32_442 : BitVec 32 := 4#32
  let c0_i32_445 : BitVec 32 := 0#32
  let v873 : BitVec 1 := Scalar.cmpi .sgt c4_i32_442 c0_i32_445
  let v874 : BitVec 32 := Scalar.extui v873
  let c0_i32_446 : BitVec 32 := 0#32
  let v875 : BitVec 1 := Scalar.cmpi .slt c4_i32_442 c0_i32_446
  let v876 : BitVec 32 := Scalar.extui v875
  let v877 : BitVec 32 := Scalar.subi v874 v876
  let v878 : BitVec 1 := Scalar.cmpi .ne v872 v877
  let v879 : BitVec 32 := Scalar.remsi v844 c4_i32_442
  let c0_i32_447 : BitVec 32 := 0#32
  let v880 : BitVec 1 := Scalar.cmpi .ne v879 c0_i32_447
  let v881 : BitVec 1 := Scalar.andi v878 v880
  let v867 : BitVec 32 := Scalar.divsi v844 c4_i32_442
  let c1_i32_448 : BitVec 32 := 1#32
  let v882 : BitVec 32 := Scalar.subi v867 c1_i32_448
  let v883 : BitVec 32 := Scalar.select v881 v882 v867
  let c0_i32_491 : BitVec 32 := 0#32
  let c21_i32_429 : BitVec 32 := 21#32
  let c0_i32_430 : BitVec 32 := 0#32
  let v845 : BitVec 1 := Scalar.cmpi .eq c21_i32_429 c0_i32_430
  let c1_i32_431 : BitVec 32 := 1#32
  let v846 : BitVec 32 := Scalar.select v845 c1_i32_431 c21_i32_429
  let v847 : BitVec 32 := Scalar.remsi v558 v846
  let c0_i32_433 : BitVec 32 := 0#32
  let v849 : BitVec 1 := Scalar.cmpi .slt v847 c0_i32_433
  let c0_i32_434 : BitVec 32 := 0#32
  let v850 : BitVec 1 := Scalar.cmpi .slt v846 c0_i32_434
  let v851 : BitVec 1 := Scalar.xori v849 v850
  let c0_i32_432 : BitVec 32 := 0#32
  let v848 : BitVec 1 := Scalar.cmpi .ne v847 c0_i32_432
  let v852 : BitVec 1 := Scalar.andi v851 v848
  let v853 : BitVec 32 := Scalar.addi v847 v846
  let v854 : BitVec 32 := Scalar.select v852 v853 v847
  let c4_i32_435 : BitVec 32 := 4#32
  let v855 : BitVec 32 := Scalar.muli v854 c4_i32_435
  let c4_i32_436 : BitVec 32 := 4#32
  let c0_i32_437 : BitVec 32 := 0#32
  let v856 : BitVec 1 := Scalar.cmpi .eq c4_i32_436 c0_i32_437
  let c1_i32_438 : BitVec 32 := 1#32
  let v857 : BitVec 32 := Scalar.select v856 c1_i32_438 c4_i32_436
  let v858 : BitVec 32 := Scalar.remsi v844 v857
  let c0_i32_440 : BitVec 32 := 0#32
  let v860 : BitVec 1 := Scalar.cmpi .slt v858 c0_i32_440
  let c0_i32_441 : BitVec 32 := 0#32
  let v861 : BitVec 1 := Scalar.cmpi .slt v857 c0_i32_441
  let v862 : BitVec 1 := Scalar.xori v860 v861
  let c0_i32_439 : BitVec 32 := 0#32
  let v859 : BitVec 1 := Scalar.cmpi .ne v858 c0_i32_439
  let v863 : BitVec 1 := Scalar.andi v862 v859
  let v864 : BitVec 32 := Scalar.addi v858 v857
  let v865 : BitVec 32 := Scalar.select v863 v864 v858
  let v866 : BitVec 32 := Scalar.addi v855 v865
  let c0_i32_494 : BitVec 32 := 0#32
  ![v883.toNat, 0, v866.toNat, 0]
def k0_off53 (i : grid0.Coords) (k0_t5 : Fin (k0_t5_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_277 : BitVec 32 := 2#32
  let c0_i32_59 : BitVec 32 := 0#32
  let c0_i32_60 : BitVec 32 := 0#32
  let c1764_i32 : BitVec 32 := 1764#32
  let v3 : BitVec 32 := Scalar.subi c1764_i32 v1
  let c32_i32 : BitVec 32 := 32#32
  let v4 : BitVec 32 := Scalar.addi v3 c32_i32
  let c1_i32_1 : BitVec 32 := 1#32
  let v5 : BitVec 32 := Scalar.subi v4 c1_i32_1
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c32_i32_2 : BitVec 32 := 32#32
  let c0_i32_5 : BitVec 32 := 0#32
  let v12 : BitVec 1 := Scalar.cmpi .sgt c32_i32_2 c0_i32_5
  let v13 : BitVec 32 := Scalar.extui v12
  let c0_i32_6 : BitVec 32 := 0#32
  let v14 : BitVec 1 := Scalar.cmpi .slt c32_i32_2 c0_i32_6
  let v15 : BitVec 32 := Scalar.extui v14
  let v16 : BitVec 32 := Scalar.subi v13 v15
  let v17 : BitVec 1 := Scalar.cmpi .ne v11 v16
  let v18 : BitVec 32 := Scalar.remsi v5 c32_i32_2
  let c0_i32_7 : BitVec 32 := 0#32
  let v19 : BitVec 1 := Scalar.cmpi .ne v18 c0_i32_7
  let v20 : BitVec 1 := Scalar.andi v17 v19
  let v6 : BitVec 32 := Scalar.divsi v5 c32_i32_2
  let c1_i32_8 : BitVec 32 := 1#32
  let v21 : BitVec 32 := Scalar.subi v6 c1_i32_8
  let v22 : BitVec 32 := Scalar.select v20 v21 v6
  let c1_i32_46 : BitVec 32 := 1#32
  let v95 : BitVec 32 := Scalar.addi v22 c1_i32_46
  let c0_i32_48 : BitVec 32 := 0#32
  let v97 : BitVec 1 := Scalar.cmpi .sgt v95 c0_i32_48
  let v98 : BitVec 32 := Scalar.extui v97
  let c0_i32_49 : BitVec 32 := 0#32
  let v99 : BitVec 1 := Scalar.cmpi .slt v95 c0_i32_49
  let v100 : BitVec 32 := Scalar.extui v99
  let v101 : BitVec 32 := Scalar.subi v98 v100
  let c2_i32_47 : BitVec 32 := 2#32
  let c0_i32_50 : BitVec 32 := 0#32
  let v102 : BitVec 1 := Scalar.cmpi .sgt c2_i32_47 c0_i32_50
  let v103 : BitVec 32 := Scalar.extui v102
  let c0_i32_51 : BitVec 32 := 0#32
  let v104 : BitVec 1 := Scalar.cmpi .slt c2_i32_47 c0_i32_51
  let v105 : BitVec 32 := Scalar.extui v104
  let v106 : BitVec 32 := Scalar.subi v103 v105
  let v107 : BitVec 1 := Scalar.cmpi .ne v101 v106
  let v108 : BitVec 32 := Scalar.remsi v95 c2_i32_47
  let c0_i32_52 : BitVec 32 := 0#32
  let v109 : BitVec 1 := Scalar.cmpi .ne v108 c0_i32_52
  let v110 : BitVec 1 := Scalar.andi v107 v109
  let v96 : BitVec 32 := Scalar.divsi v95 c2_i32_47
  let c1_i32_53 : BitVec 32 := 1#32
  let v111 : BitVec 32 := Scalar.subi v96 c1_i32_53
  let v112 : BitVec 32 := Scalar.select v110 v111 v96
  let c0_i32_54 : BitVec 32 := 0#32
  let v113 : BitVec 32 := Scalar.subi v112 c0_i32_54
  let c1_i32_55 : BitVec 32 := 1#32
  let c1_i32_56 : BitVec 32 := 1#32
  let v114 : BitVec 32 := Scalar.subi c1_i32_55 c1_i32_56
  let v115 : BitVec 32 := Scalar.addi v113 v114
  let c1_i32_57 : BitVec 32 := 1#32
  let v116 : BitVec 32 := Scalar.divsi v115 c1_i32_57
  let v117 : BitVec 32 := Scalar.subi v116 c0_i32_60
  let c1_i32_61 : BitVec 32 := 1#32
  let v119 : BitVec 32 := Scalar.divsi v117 c1_i32_61
  let v120 : BitVec 32 := Scalar.muli v119 c1_i32_61
  let v121 : BitVec 32 := Scalar.addi c0_i32_60 v120
  let c1_i32_63 : BitVec 32 := 1#32
  let arg14 : BitVec 32 := Scf.iv v121 c1_i32_63 k0_t5
  let c1_i32_58 : BitVec 32 := 1#32
  let v553 : BitVec 32 := Scalar.muli arg14 c1_i32_58
  let v554 : BitVec 32 := Scalar.addi c0_i32_59 v553
  let v555 : BitVec 32 := Scalar.muli c2_i32_277 v554
  let c0_i32_278 : BitVec 32 := 0#32
  let v556 : BitVec 32 := Scalar.addi v555 c0_i32_278
  let c32_i32_279 : BitVec 32 := 32#32
  let v557 : BitVec 32 := Scalar.muli v556 c32_i32_279
  let v558 : BitVec 32 := Scalar.addi v1 v557
  let c0_i32_423 : BitVec 32 := 0#32
  let v829 : BitVec 1 := Scalar.cmpi .sgt v558 c0_i32_423
  let v830 : BitVec 32 := Scalar.extui v829
  let c0_i32_424 : BitVec 32 := 0#32
  let v831 : BitVec 1 := Scalar.cmpi .slt v558 c0_i32_424
  let v832 : BitVec 32 := Scalar.extui v831
  let v833 : BitVec 32 := Scalar.subi v830 v832
  let c21_i32_422 : BitVec 32 := 21#32
  let c0_i32_425 : BitVec 32 := 0#32
  let v834 : BitVec 1 := Scalar.cmpi .sgt c21_i32_422 c0_i32_425
  let v835 : BitVec 32 := Scalar.extui v834
  let c0_i32_426 : BitVec 32 := 0#32
  let v836 : BitVec 1 := Scalar.cmpi .slt c21_i32_422 c0_i32_426
  let v837 : BitVec 32 := Scalar.extui v836
  let v838 : BitVec 32 := Scalar.subi v835 v837
  let v839 : BitVec 1 := Scalar.cmpi .ne v833 v838
  let v840 : BitVec 32 := Scalar.remsi v558 c21_i32_422
  let c0_i32_427 : BitVec 32 := 0#32
  let v841 : BitVec 1 := Scalar.cmpi .ne v840 c0_i32_427
  let v842 : BitVec 1 := Scalar.andi v839 v841
  let v828 : BitVec 32 := Scalar.divsi v558 c21_i32_422
  let c1_i32_428 : BitVec 32 := 1#32
  let v843 : BitVec 32 := Scalar.subi v828 c1_i32_428
  let v844 : BitVec 32 := Scalar.select v842 v843 v828
  let c0_i32_450 : BitVec 32 := 0#32
  let v885 : BitVec 1 := Scalar.cmpi .sgt v844 c0_i32_450
  let v886 : BitVec 32 := Scalar.extui v885
  let c0_i32_451 : BitVec 32 := 0#32
  let v887 : BitVec 1 := Scalar.cmpi .slt v844 c0_i32_451
  let v888 : BitVec 32 := Scalar.extui v887
  let v889 : BitVec 32 := Scalar.subi v886 v888
  let c4_i32_449 : BitVec 32 := 4#32
  let c0_i32_452 : BitVec 32 := 0#32
  let v890 : BitVec 1 := Scalar.cmpi .sgt c4_i32_449 c0_i32_452
  let v891 : BitVec 32 := Scalar.extui v890
  let c0_i32_453 : BitVec 32 := 0#32
  let v892 : BitVec 1 := Scalar.cmpi .slt c4_i32_449 c0_i32_453
  let v893 : BitVec 32 := Scalar.extui v892
  let v894 : BitVec 32 := Scalar.subi v891 v893
  let v895 : BitVec 1 := Scalar.cmpi .ne v889 v894
  let v896 : BitVec 32 := Scalar.remsi v844 c4_i32_449
  let c0_i32_454 : BitVec 32 := 0#32
  let v897 : BitVec 1 := Scalar.cmpi .ne v896 c0_i32_454
  let v898 : BitVec 1 := Scalar.andi v895 v897
  let v884 : BitVec 32 := Scalar.divsi v844 c4_i32_449
  let c1_i32_455 : BitVec 32 := 1#32
  let v899 : BitVec 32 := Scalar.subi v884 c1_i32_455
  let v900 : BitVec 32 := Scalar.select v898 v899 v884
  let c1_i32_497 : BitVec 32 := 1#32
  let c21_i32_429 : BitVec 32 := 21#32
  let c0_i32_430 : BitVec 32 := 0#32
  let v845 : BitVec 1 := Scalar.cmpi .eq c21_i32_429 c0_i32_430
  let c1_i32_431 : BitVec 32 := 1#32
  let v846 : BitVec 32 := Scalar.select v845 c1_i32_431 c21_i32_429
  let v847 : BitVec 32 := Scalar.remsi v558 v846
  let c0_i32_433 : BitVec 32 := 0#32
  let v849 : BitVec 1 := Scalar.cmpi .slt v847 c0_i32_433
  let c0_i32_434 : BitVec 32 := 0#32
  let v850 : BitVec 1 := Scalar.cmpi .slt v846 c0_i32_434
  let v851 : BitVec 1 := Scalar.xori v849 v850
  let c0_i32_432 : BitVec 32 := 0#32
  let v848 : BitVec 1 := Scalar.cmpi .ne v847 c0_i32_432
  let v852 : BitVec 1 := Scalar.andi v851 v848
  let v853 : BitVec 32 := Scalar.addi v847 v846
  let v854 : BitVec 32 := Scalar.select v852 v853 v847
  let c4_i32_435 : BitVec 32 := 4#32
  let v855 : BitVec 32 := Scalar.muli v854 c4_i32_435
  let c4_i32_436 : BitVec 32 := 4#32
  let c0_i32_437 : BitVec 32 := 0#32
  let v856 : BitVec 1 := Scalar.cmpi .eq c4_i32_436 c0_i32_437
  let c1_i32_438 : BitVec 32 := 1#32
  let v857 : BitVec 32 := Scalar.select v856 c1_i32_438 c4_i32_436
  let v858 : BitVec 32 := Scalar.remsi v844 v857
  let c0_i32_440 : BitVec 32 := 0#32
  let v860 : BitVec 1 := Scalar.cmpi .slt v858 c0_i32_440
  let c0_i32_441 : BitVec 32 := 0#32
  let v861 : BitVec 1 := Scalar.cmpi .slt v857 c0_i32_441
  let v862 : BitVec 1 := Scalar.xori v860 v861
  let c0_i32_439 : BitVec 32 := 0#32
  let v859 : BitVec 1 := Scalar.cmpi .ne v858 c0_i32_439
  let v863 : BitVec 1 := Scalar.andi v862 v859
  let v864 : BitVec 32 := Scalar.addi v858 v857
  let v865 : BitVec 32 := Scalar.select v863 v864 v858
  let v866 : BitVec 32 := Scalar.addi v855 v865
  let c0_i32_500 : BitVec 32 := 0#32
  ![v900.toNat, 1, v866.toNat, 0]
def k0_off54 (i : grid0.Coords) (k0_t5 : Fin (k0_t5_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_277 : BitVec 32 := 2#32
  let c0_i32_59 : BitVec 32 := 0#32
  let c0_i32_60 : BitVec 32 := 0#32
  let c1764_i32 : BitVec 32 := 1764#32
  let v3 : BitVec 32 := Scalar.subi c1764_i32 v1
  let c32_i32 : BitVec 32 := 32#32
  let v4 : BitVec 32 := Scalar.addi v3 c32_i32
  let c1_i32_1 : BitVec 32 := 1#32
  let v5 : BitVec 32 := Scalar.subi v4 c1_i32_1
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c32_i32_2 : BitVec 32 := 32#32
  let c0_i32_5 : BitVec 32 := 0#32
  let v12 : BitVec 1 := Scalar.cmpi .sgt c32_i32_2 c0_i32_5
  let v13 : BitVec 32 := Scalar.extui v12
  let c0_i32_6 : BitVec 32 := 0#32
  let v14 : BitVec 1 := Scalar.cmpi .slt c32_i32_2 c0_i32_6
  let v15 : BitVec 32 := Scalar.extui v14
  let v16 : BitVec 32 := Scalar.subi v13 v15
  let v17 : BitVec 1 := Scalar.cmpi .ne v11 v16
  let v18 : BitVec 32 := Scalar.remsi v5 c32_i32_2
  let c0_i32_7 : BitVec 32 := 0#32
  let v19 : BitVec 1 := Scalar.cmpi .ne v18 c0_i32_7
  let v20 : BitVec 1 := Scalar.andi v17 v19
  let v6 : BitVec 32 := Scalar.divsi v5 c32_i32_2
  let c1_i32_8 : BitVec 32 := 1#32
  let v21 : BitVec 32 := Scalar.subi v6 c1_i32_8
  let v22 : BitVec 32 := Scalar.select v20 v21 v6
  let c1_i32_46 : BitVec 32 := 1#32
  let v95 : BitVec 32 := Scalar.addi v22 c1_i32_46
  let c0_i32_48 : BitVec 32 := 0#32
  let v97 : BitVec 1 := Scalar.cmpi .sgt v95 c0_i32_48
  let v98 : BitVec 32 := Scalar.extui v97
  let c0_i32_49 : BitVec 32 := 0#32
  let v99 : BitVec 1 := Scalar.cmpi .slt v95 c0_i32_49
  let v100 : BitVec 32 := Scalar.extui v99
  let v101 : BitVec 32 := Scalar.subi v98 v100
  let c2_i32_47 : BitVec 32 := 2#32
  let c0_i32_50 : BitVec 32 := 0#32
  let v102 : BitVec 1 := Scalar.cmpi .sgt c2_i32_47 c0_i32_50
  let v103 : BitVec 32 := Scalar.extui v102
  let c0_i32_51 : BitVec 32 := 0#32
  let v104 : BitVec 1 := Scalar.cmpi .slt c2_i32_47 c0_i32_51
  let v105 : BitVec 32 := Scalar.extui v104
  let v106 : BitVec 32 := Scalar.subi v103 v105
  let v107 : BitVec 1 := Scalar.cmpi .ne v101 v106
  let v108 : BitVec 32 := Scalar.remsi v95 c2_i32_47
  let c0_i32_52 : BitVec 32 := 0#32
  let v109 : BitVec 1 := Scalar.cmpi .ne v108 c0_i32_52
  let v110 : BitVec 1 := Scalar.andi v107 v109
  let v96 : BitVec 32 := Scalar.divsi v95 c2_i32_47
  let c1_i32_53 : BitVec 32 := 1#32
  let v111 : BitVec 32 := Scalar.subi v96 c1_i32_53
  let v112 : BitVec 32 := Scalar.select v110 v111 v96
  let c0_i32_54 : BitVec 32 := 0#32
  let v113 : BitVec 32 := Scalar.subi v112 c0_i32_54
  let c1_i32_55 : BitVec 32 := 1#32
  let c1_i32_56 : BitVec 32 := 1#32
  let v114 : BitVec 32 := Scalar.subi c1_i32_55 c1_i32_56
  let v115 : BitVec 32 := Scalar.addi v113 v114
  let c1_i32_57 : BitVec 32 := 1#32
  let v116 : BitVec 32 := Scalar.divsi v115 c1_i32_57
  let v117 : BitVec 32 := Scalar.subi v116 c0_i32_60
  let c1_i32_61 : BitVec 32 := 1#32
  let v119 : BitVec 32 := Scalar.divsi v117 c1_i32_61
  let v120 : BitVec 32 := Scalar.muli v119 c1_i32_61
  let v121 : BitVec 32 := Scalar.addi c0_i32_60 v120
  let c1_i32_63 : BitVec 32 := 1#32
  let arg14 : BitVec 32 := Scf.iv v121 c1_i32_63 k0_t5
  let c1_i32_58 : BitVec 32 := 1#32
  let v553 : BitVec 32 := Scalar.muli arg14 c1_i32_58
  let v554 : BitVec 32 := Scalar.addi c0_i32_59 v553
  let v555 : BitVec 32 := Scalar.muli c2_i32_277 v554
  let c0_i32_278 : BitVec 32 := 0#32
  let v556 : BitVec 32 := Scalar.addi v555 c0_i32_278
  let c32_i32_279 : BitVec 32 := 32#32
  let v557 : BitVec 32 := Scalar.muli v556 c32_i32_279
  let v558 : BitVec 32 := Scalar.addi v1 v557
  let c0_i32_423 : BitVec 32 := 0#32
  let v829 : BitVec 1 := Scalar.cmpi .sgt v558 c0_i32_423
  let v830 : BitVec 32 := Scalar.extui v829
  let c0_i32_424 : BitVec 32 := 0#32
  let v831 : BitVec 1 := Scalar.cmpi .slt v558 c0_i32_424
  let v832 : BitVec 32 := Scalar.extui v831
  let v833 : BitVec 32 := Scalar.subi v830 v832
  let c21_i32_422 : BitVec 32 := 21#32
  let c0_i32_425 : BitVec 32 := 0#32
  let v834 : BitVec 1 := Scalar.cmpi .sgt c21_i32_422 c0_i32_425
  let v835 : BitVec 32 := Scalar.extui v834
  let c0_i32_426 : BitVec 32 := 0#32
  let v836 : BitVec 1 := Scalar.cmpi .slt c21_i32_422 c0_i32_426
  let v837 : BitVec 32 := Scalar.extui v836
  let v838 : BitVec 32 := Scalar.subi v835 v837
  let v839 : BitVec 1 := Scalar.cmpi .ne v833 v838
  let v840 : BitVec 32 := Scalar.remsi v558 c21_i32_422
  let c0_i32_427 : BitVec 32 := 0#32
  let v841 : BitVec 1 := Scalar.cmpi .ne v840 c0_i32_427
  let v842 : BitVec 1 := Scalar.andi v839 v841
  let v828 : BitVec 32 := Scalar.divsi v558 c21_i32_422
  let c1_i32_428 : BitVec 32 := 1#32
  let v843 : BitVec 32 := Scalar.subi v828 c1_i32_428
  let v844 : BitVec 32 := Scalar.select v842 v843 v828
  let c0_i32_457 : BitVec 32 := 0#32
  let v902 : BitVec 1 := Scalar.cmpi .sgt v844 c0_i32_457
  let v903 : BitVec 32 := Scalar.extui v902
  let c0_i32_458 : BitVec 32 := 0#32
  let v904 : BitVec 1 := Scalar.cmpi .slt v844 c0_i32_458
  let v905 : BitVec 32 := Scalar.extui v904
  let v906 : BitVec 32 := Scalar.subi v903 v905
  let c4_i32_456 : BitVec 32 := 4#32
  let c0_i32_459 : BitVec 32 := 0#32
  let v907 : BitVec 1 := Scalar.cmpi .sgt c4_i32_456 c0_i32_459
  let v908 : BitVec 32 := Scalar.extui v907
  let c0_i32_460 : BitVec 32 := 0#32
  let v909 : BitVec 1 := Scalar.cmpi .slt c4_i32_456 c0_i32_460
  let v910 : BitVec 32 := Scalar.extui v909
  let v911 : BitVec 32 := Scalar.subi v908 v910
  let v912 : BitVec 1 := Scalar.cmpi .ne v906 v911
  let v913 : BitVec 32 := Scalar.remsi v844 c4_i32_456
  let c0_i32_461 : BitVec 32 := 0#32
  let v914 : BitVec 1 := Scalar.cmpi .ne v913 c0_i32_461
  let v915 : BitVec 1 := Scalar.andi v912 v914
  let v901 : BitVec 32 := Scalar.divsi v844 c4_i32_456
  let c1_i32_462 : BitVec 32 := 1#32
  let v916 : BitVec 32 := Scalar.subi v901 c1_i32_462
  let v917 : BitVec 32 := Scalar.select v915 v916 v901
  let c2_i32_503 : BitVec 32 := 2#32
  let c21_i32_429 : BitVec 32 := 21#32
  let c0_i32_430 : BitVec 32 := 0#32
  let v845 : BitVec 1 := Scalar.cmpi .eq c21_i32_429 c0_i32_430
  let c1_i32_431 : BitVec 32 := 1#32
  let v846 : BitVec 32 := Scalar.select v845 c1_i32_431 c21_i32_429
  let v847 : BitVec 32 := Scalar.remsi v558 v846
  let c0_i32_433 : BitVec 32 := 0#32
  let v849 : BitVec 1 := Scalar.cmpi .slt v847 c0_i32_433
  let c0_i32_434 : BitVec 32 := 0#32
  let v850 : BitVec 1 := Scalar.cmpi .slt v846 c0_i32_434
  let v851 : BitVec 1 := Scalar.xori v849 v850
  let c0_i32_432 : BitVec 32 := 0#32
  let v848 : BitVec 1 := Scalar.cmpi .ne v847 c0_i32_432
  let v852 : BitVec 1 := Scalar.andi v851 v848
  let v853 : BitVec 32 := Scalar.addi v847 v846
  let v854 : BitVec 32 := Scalar.select v852 v853 v847
  let c4_i32_435 : BitVec 32 := 4#32
  let v855 : BitVec 32 := Scalar.muli v854 c4_i32_435
  let c4_i32_436 : BitVec 32 := 4#32
  let c0_i32_437 : BitVec 32 := 0#32
  let v856 : BitVec 1 := Scalar.cmpi .eq c4_i32_436 c0_i32_437
  let c1_i32_438 : BitVec 32 := 1#32
  let v857 : BitVec 32 := Scalar.select v856 c1_i32_438 c4_i32_436
  let v858 : BitVec 32 := Scalar.remsi v844 v857
  let c0_i32_440 : BitVec 32 := 0#32
  let v860 : BitVec 1 := Scalar.cmpi .slt v858 c0_i32_440
  let c0_i32_441 : BitVec 32 := 0#32
  let v861 : BitVec 1 := Scalar.cmpi .slt v857 c0_i32_441
  let v862 : BitVec 1 := Scalar.xori v860 v861
  let c0_i32_439 : BitVec 32 := 0#32
  let v859 : BitVec 1 := Scalar.cmpi .ne v858 c0_i32_439
  let v863 : BitVec 1 := Scalar.andi v862 v859
  let v864 : BitVec 32 := Scalar.addi v858 v857
  let v865 : BitVec 32 := Scalar.select v863 v864 v858
  let v866 : BitVec 32 := Scalar.addi v855 v865
  let c0_i32_506 : BitVec 32 := 0#32
  ![v917.toNat, 2, v866.toNat, 0]
def k0_off55 (i : grid0.Coords) (k0_t5 : Fin (k0_t5_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_277 : BitVec 32 := 2#32
  let c0_i32_59 : BitVec 32 := 0#32
  let c0_i32_60 : BitVec 32 := 0#32
  let c1764_i32 : BitVec 32 := 1764#32
  let v3 : BitVec 32 := Scalar.subi c1764_i32 v1
  let c32_i32 : BitVec 32 := 32#32
  let v4 : BitVec 32 := Scalar.addi v3 c32_i32
  let c1_i32_1 : BitVec 32 := 1#32
  let v5 : BitVec 32 := Scalar.subi v4 c1_i32_1
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c32_i32_2 : BitVec 32 := 32#32
  let c0_i32_5 : BitVec 32 := 0#32
  let v12 : BitVec 1 := Scalar.cmpi .sgt c32_i32_2 c0_i32_5
  let v13 : BitVec 32 := Scalar.extui v12
  let c0_i32_6 : BitVec 32 := 0#32
  let v14 : BitVec 1 := Scalar.cmpi .slt c32_i32_2 c0_i32_6
  let v15 : BitVec 32 := Scalar.extui v14
  let v16 : BitVec 32 := Scalar.subi v13 v15
  let v17 : BitVec 1 := Scalar.cmpi .ne v11 v16
  let v18 : BitVec 32 := Scalar.remsi v5 c32_i32_2
  let c0_i32_7 : BitVec 32 := 0#32
  let v19 : BitVec 1 := Scalar.cmpi .ne v18 c0_i32_7
  let v20 : BitVec 1 := Scalar.andi v17 v19
  let v6 : BitVec 32 := Scalar.divsi v5 c32_i32_2
  let c1_i32_8 : BitVec 32 := 1#32
  let v21 : BitVec 32 := Scalar.subi v6 c1_i32_8
  let v22 : BitVec 32 := Scalar.select v20 v21 v6
  let c1_i32_46 : BitVec 32 := 1#32
  let v95 : BitVec 32 := Scalar.addi v22 c1_i32_46
  let c0_i32_48 : BitVec 32 := 0#32
  let v97 : BitVec 1 := Scalar.cmpi .sgt v95 c0_i32_48
  let v98 : BitVec 32 := Scalar.extui v97
  let c0_i32_49 : BitVec 32 := 0#32
  let v99 : BitVec 1 := Scalar.cmpi .slt v95 c0_i32_49
  let v100 : BitVec 32 := Scalar.extui v99
  let v101 : BitVec 32 := Scalar.subi v98 v100
  let c2_i32_47 : BitVec 32 := 2#32
  let c0_i32_50 : BitVec 32 := 0#32
  let v102 : BitVec 1 := Scalar.cmpi .sgt c2_i32_47 c0_i32_50
  let v103 : BitVec 32 := Scalar.extui v102
  let c0_i32_51 : BitVec 32 := 0#32
  let v104 : BitVec 1 := Scalar.cmpi .slt c2_i32_47 c0_i32_51
  let v105 : BitVec 32 := Scalar.extui v104
  let v106 : BitVec 32 := Scalar.subi v103 v105
  let v107 : BitVec 1 := Scalar.cmpi .ne v101 v106
  let v108 : BitVec 32 := Scalar.remsi v95 c2_i32_47
  let c0_i32_52 : BitVec 32 := 0#32
  let v109 : BitVec 1 := Scalar.cmpi .ne v108 c0_i32_52
  let v110 : BitVec 1 := Scalar.andi v107 v109
  let v96 : BitVec 32 := Scalar.divsi v95 c2_i32_47
  let c1_i32_53 : BitVec 32 := 1#32
  let v111 : BitVec 32 := Scalar.subi v96 c1_i32_53
  let v112 : BitVec 32 := Scalar.select v110 v111 v96
  let c0_i32_54 : BitVec 32 := 0#32
  let v113 : BitVec 32 := Scalar.subi v112 c0_i32_54
  let c1_i32_55 : BitVec 32 := 1#32
  let c1_i32_56 : BitVec 32 := 1#32
  let v114 : BitVec 32 := Scalar.subi c1_i32_55 c1_i32_56
  let v115 : BitVec 32 := Scalar.addi v113 v114
  let c1_i32_57 : BitVec 32 := 1#32
  let v116 : BitVec 32 := Scalar.divsi v115 c1_i32_57
  let v117 : BitVec 32 := Scalar.subi v116 c0_i32_60
  let c1_i32_61 : BitVec 32 := 1#32
  let v119 : BitVec 32 := Scalar.divsi v117 c1_i32_61
  let v120 : BitVec 32 := Scalar.muli v119 c1_i32_61
  let v121 : BitVec 32 := Scalar.addi c0_i32_60 v120
  let c1_i32_63 : BitVec 32 := 1#32
  let arg14 : BitVec 32 := Scf.iv v121 c1_i32_63 k0_t5
  let c1_i32_58 : BitVec 32 := 1#32
  let v553 : BitVec 32 := Scalar.muli arg14 c1_i32_58
  let v554 : BitVec 32 := Scalar.addi c0_i32_59 v553
  let v555 : BitVec 32 := Scalar.muli c2_i32_277 v554
  let c0_i32_278 : BitVec 32 := 0#32
  let v556 : BitVec 32 := Scalar.addi v555 c0_i32_278
  let c32_i32_279 : BitVec 32 := 32#32
  let v557 : BitVec 32 := Scalar.muli v556 c32_i32_279
  let v558 : BitVec 32 := Scalar.addi v1 v557
  let c0_i32_423 : BitVec 32 := 0#32
  let v829 : BitVec 1 := Scalar.cmpi .sgt v558 c0_i32_423
  let v830 : BitVec 32 := Scalar.extui v829
  let c0_i32_424 : BitVec 32 := 0#32
  let v831 : BitVec 1 := Scalar.cmpi .slt v558 c0_i32_424
  let v832 : BitVec 32 := Scalar.extui v831
  let v833 : BitVec 32 := Scalar.subi v830 v832
  let c21_i32_422 : BitVec 32 := 21#32
  let c0_i32_425 : BitVec 32 := 0#32
  let v834 : BitVec 1 := Scalar.cmpi .sgt c21_i32_422 c0_i32_425
  let v835 : BitVec 32 := Scalar.extui v834
  let c0_i32_426 : BitVec 32 := 0#32
  let v836 : BitVec 1 := Scalar.cmpi .slt c21_i32_422 c0_i32_426
  let v837 : BitVec 32 := Scalar.extui v836
  let v838 : BitVec 32 := Scalar.subi v835 v837
  let v839 : BitVec 1 := Scalar.cmpi .ne v833 v838
  let v840 : BitVec 32 := Scalar.remsi v558 c21_i32_422
  let c0_i32_427 : BitVec 32 := 0#32
  let v841 : BitVec 1 := Scalar.cmpi .ne v840 c0_i32_427
  let v842 : BitVec 1 := Scalar.andi v839 v841
  let v828 : BitVec 32 := Scalar.divsi v558 c21_i32_422
  let c1_i32_428 : BitVec 32 := 1#32
  let v843 : BitVec 32 := Scalar.subi v828 c1_i32_428
  let v844 : BitVec 32 := Scalar.select v842 v843 v828
  let c0_i32_464 : BitVec 32 := 0#32
  let v919 : BitVec 1 := Scalar.cmpi .sgt v844 c0_i32_464
  let v920 : BitVec 32 := Scalar.extui v919
  let c0_i32_465 : BitVec 32 := 0#32
  let v921 : BitVec 1 := Scalar.cmpi .slt v844 c0_i32_465
  let v922 : BitVec 32 := Scalar.extui v921
  let v923 : BitVec 32 := Scalar.subi v920 v922
  let c4_i32_463 : BitVec 32 := 4#32
  let c0_i32_466 : BitVec 32 := 0#32
  let v924 : BitVec 1 := Scalar.cmpi .sgt c4_i32_463 c0_i32_466
  let v925 : BitVec 32 := Scalar.extui v924
  let c0_i32_467 : BitVec 32 := 0#32
  let v926 : BitVec 1 := Scalar.cmpi .slt c4_i32_463 c0_i32_467
  let v927 : BitVec 32 := Scalar.extui v926
  let v928 : BitVec 32 := Scalar.subi v925 v927
  let v929 : BitVec 1 := Scalar.cmpi .ne v923 v928
  let v930 : BitVec 32 := Scalar.remsi v844 c4_i32_463
  let c0_i32_468 : BitVec 32 := 0#32
  let v931 : BitVec 1 := Scalar.cmpi .ne v930 c0_i32_468
  let v932 : BitVec 1 := Scalar.andi v929 v931
  let v918 : BitVec 32 := Scalar.divsi v844 c4_i32_463
  let c1_i32_469 : BitVec 32 := 1#32
  let v933 : BitVec 32 := Scalar.subi v918 c1_i32_469
  let v934 : BitVec 32 := Scalar.select v932 v933 v918
  let c3_i32_509 : BitVec 32 := 3#32
  let c21_i32_429 : BitVec 32 := 21#32
  let c0_i32_430 : BitVec 32 := 0#32
  let v845 : BitVec 1 := Scalar.cmpi .eq c21_i32_429 c0_i32_430
  let c1_i32_431 : BitVec 32 := 1#32
  let v846 : BitVec 32 := Scalar.select v845 c1_i32_431 c21_i32_429
  let v847 : BitVec 32 := Scalar.remsi v558 v846
  let c0_i32_433 : BitVec 32 := 0#32
  let v849 : BitVec 1 := Scalar.cmpi .slt v847 c0_i32_433
  let c0_i32_434 : BitVec 32 := 0#32
  let v850 : BitVec 1 := Scalar.cmpi .slt v846 c0_i32_434
  let v851 : BitVec 1 := Scalar.xori v849 v850
  let c0_i32_432 : BitVec 32 := 0#32
  let v848 : BitVec 1 := Scalar.cmpi .ne v847 c0_i32_432
  let v852 : BitVec 1 := Scalar.andi v851 v848
  let v853 : BitVec 32 := Scalar.addi v847 v846
  let v854 : BitVec 32 := Scalar.select v852 v853 v847
  let c4_i32_435 : BitVec 32 := 4#32
  let v855 : BitVec 32 := Scalar.muli v854 c4_i32_435
  let c4_i32_436 : BitVec 32 := 4#32
  let c0_i32_437 : BitVec 32 := 0#32
  let v856 : BitVec 1 := Scalar.cmpi .eq c4_i32_436 c0_i32_437
  let c1_i32_438 : BitVec 32 := 1#32
  let v857 : BitVec 32 := Scalar.select v856 c1_i32_438 c4_i32_436
  let v858 : BitVec 32 := Scalar.remsi v844 v857
  let c0_i32_440 : BitVec 32 := 0#32
  let v860 : BitVec 1 := Scalar.cmpi .slt v858 c0_i32_440
  let c0_i32_441 : BitVec 32 := 0#32
  let v861 : BitVec 1 := Scalar.cmpi .slt v857 c0_i32_441
  let v862 : BitVec 1 := Scalar.xori v860 v861
  let c0_i32_439 : BitVec 32 := 0#32
  let v859 : BitVec 1 := Scalar.cmpi .ne v858 c0_i32_439
  let v863 : BitVec 1 := Scalar.andi v862 v859
  let v864 : BitVec 32 := Scalar.addi v858 v857
  let v865 : BitVec 32 := Scalar.select v863 v864 v858
  let v866 : BitVec 32 := Scalar.addi v855 v865
  let c0_i32_512 : BitVec 32 := 0#32
  ![v934.toNat, 3, v866.toNat, 0]
def k0_off56 (i : grid0.Coords) (k0_t5 : Fin (k0_t5_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_277 : BitVec 32 := 2#32
  let c0_i32_59 : BitVec 32 := 0#32
  let c0_i32_60 : BitVec 32 := 0#32
  let c1764_i32 : BitVec 32 := 1764#32
  let v3 : BitVec 32 := Scalar.subi c1764_i32 v1
  let c32_i32 : BitVec 32 := 32#32
  let v4 : BitVec 32 := Scalar.addi v3 c32_i32
  let c1_i32_1 : BitVec 32 := 1#32
  let v5 : BitVec 32 := Scalar.subi v4 c1_i32_1
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c32_i32_2 : BitVec 32 := 32#32
  let c0_i32_5 : BitVec 32 := 0#32
  let v12 : BitVec 1 := Scalar.cmpi .sgt c32_i32_2 c0_i32_5
  let v13 : BitVec 32 := Scalar.extui v12
  let c0_i32_6 : BitVec 32 := 0#32
  let v14 : BitVec 1 := Scalar.cmpi .slt c32_i32_2 c0_i32_6
  let v15 : BitVec 32 := Scalar.extui v14
  let v16 : BitVec 32 := Scalar.subi v13 v15
  let v17 : BitVec 1 := Scalar.cmpi .ne v11 v16
  let v18 : BitVec 32 := Scalar.remsi v5 c32_i32_2
  let c0_i32_7 : BitVec 32 := 0#32
  let v19 : BitVec 1 := Scalar.cmpi .ne v18 c0_i32_7
  let v20 : BitVec 1 := Scalar.andi v17 v19
  let v6 : BitVec 32 := Scalar.divsi v5 c32_i32_2
  let c1_i32_8 : BitVec 32 := 1#32
  let v21 : BitVec 32 := Scalar.subi v6 c1_i32_8
  let v22 : BitVec 32 := Scalar.select v20 v21 v6
  let c1_i32_46 : BitVec 32 := 1#32
  let v95 : BitVec 32 := Scalar.addi v22 c1_i32_46
  let c0_i32_48 : BitVec 32 := 0#32
  let v97 : BitVec 1 := Scalar.cmpi .sgt v95 c0_i32_48
  let v98 : BitVec 32 := Scalar.extui v97
  let c0_i32_49 : BitVec 32 := 0#32
  let v99 : BitVec 1 := Scalar.cmpi .slt v95 c0_i32_49
  let v100 : BitVec 32 := Scalar.extui v99
  let v101 : BitVec 32 := Scalar.subi v98 v100
  let c2_i32_47 : BitVec 32 := 2#32
  let c0_i32_50 : BitVec 32 := 0#32
  let v102 : BitVec 1 := Scalar.cmpi .sgt c2_i32_47 c0_i32_50
  let v103 : BitVec 32 := Scalar.extui v102
  let c0_i32_51 : BitVec 32 := 0#32
  let v104 : BitVec 1 := Scalar.cmpi .slt c2_i32_47 c0_i32_51
  let v105 : BitVec 32 := Scalar.extui v104
  let v106 : BitVec 32 := Scalar.subi v103 v105
  let v107 : BitVec 1 := Scalar.cmpi .ne v101 v106
  let v108 : BitVec 32 := Scalar.remsi v95 c2_i32_47
  let c0_i32_52 : BitVec 32 := 0#32
  let v109 : BitVec 1 := Scalar.cmpi .ne v108 c0_i32_52
  let v110 : BitVec 1 := Scalar.andi v107 v109
  let v96 : BitVec 32 := Scalar.divsi v95 c2_i32_47
  let c1_i32_53 : BitVec 32 := 1#32
  let v111 : BitVec 32 := Scalar.subi v96 c1_i32_53
  let v112 : BitVec 32 := Scalar.select v110 v111 v96
  let c0_i32_54 : BitVec 32 := 0#32
  let v113 : BitVec 32 := Scalar.subi v112 c0_i32_54
  let c1_i32_55 : BitVec 32 := 1#32
  let c1_i32_56 : BitVec 32 := 1#32
  let v114 : BitVec 32 := Scalar.subi c1_i32_55 c1_i32_56
  let v115 : BitVec 32 := Scalar.addi v113 v114
  let c1_i32_57 : BitVec 32 := 1#32
  let v116 : BitVec 32 := Scalar.divsi v115 c1_i32_57
  let v117 : BitVec 32 := Scalar.subi v116 c0_i32_60
  let c1_i32_61 : BitVec 32 := 1#32
  let v119 : BitVec 32 := Scalar.divsi v117 c1_i32_61
  let v120 : BitVec 32 := Scalar.muli v119 c1_i32_61
  let v121 : BitVec 32 := Scalar.addi c0_i32_60 v120
  let c1_i32_63 : BitVec 32 := 1#32
  let arg14 : BitVec 32 := Scf.iv v121 c1_i32_63 k0_t5
  let c1_i32_58 : BitVec 32 := 1#32
  let v553 : BitVec 32 := Scalar.muli arg14 c1_i32_58
  let v554 : BitVec 32 := Scalar.addi c0_i32_59 v553
  let v555 : BitVec 32 := Scalar.muli c2_i32_277 v554
  let c0_i32_278 : BitVec 32 := 0#32
  let v556 : BitVec 32 := Scalar.addi v555 c0_i32_278
  let c32_i32_279 : BitVec 32 := 32#32
  let v557 : BitVec 32 := Scalar.muli v556 c32_i32_279
  let v558 : BitVec 32 := Scalar.addi v1 v557
  let c0_i32_423 : BitVec 32 := 0#32
  let v829 : BitVec 1 := Scalar.cmpi .sgt v558 c0_i32_423
  let v830 : BitVec 32 := Scalar.extui v829
  let c0_i32_424 : BitVec 32 := 0#32
  let v831 : BitVec 1 := Scalar.cmpi .slt v558 c0_i32_424
  let v832 : BitVec 32 := Scalar.extui v831
  let v833 : BitVec 32 := Scalar.subi v830 v832
  let c21_i32_422 : BitVec 32 := 21#32
  let c0_i32_425 : BitVec 32 := 0#32
  let v834 : BitVec 1 := Scalar.cmpi .sgt c21_i32_422 c0_i32_425
  let v835 : BitVec 32 := Scalar.extui v834
  let c0_i32_426 : BitVec 32 := 0#32
  let v836 : BitVec 1 := Scalar.cmpi .slt c21_i32_422 c0_i32_426
  let v837 : BitVec 32 := Scalar.extui v836
  let v838 : BitVec 32 := Scalar.subi v835 v837
  let v839 : BitVec 1 := Scalar.cmpi .ne v833 v838
  let v840 : BitVec 32 := Scalar.remsi v558 c21_i32_422
  let c0_i32_427 : BitVec 32 := 0#32
  let v841 : BitVec 1 := Scalar.cmpi .ne v840 c0_i32_427
  let v842 : BitVec 1 := Scalar.andi v839 v841
  let v828 : BitVec 32 := Scalar.divsi v558 c21_i32_422
  let c1_i32_428 : BitVec 32 := 1#32
  let v843 : BitVec 32 := Scalar.subi v828 c1_i32_428
  let v844 : BitVec 32 := Scalar.select v842 v843 v828
  let c0_i32_471 : BitVec 32 := 0#32
  let v936 : BitVec 1 := Scalar.cmpi .sgt v844 c0_i32_471
  let v937 : BitVec 32 := Scalar.extui v936
  let c0_i32_472 : BitVec 32 := 0#32
  let v938 : BitVec 1 := Scalar.cmpi .slt v844 c0_i32_472
  let v939 : BitVec 32 := Scalar.extui v938
  let v940 : BitVec 32 := Scalar.subi v937 v939
  let c4_i32_470 : BitVec 32 := 4#32
  let c0_i32_473 : BitVec 32 := 0#32
  let v941 : BitVec 1 := Scalar.cmpi .sgt c4_i32_470 c0_i32_473
  let v942 : BitVec 32 := Scalar.extui v941
  let c0_i32_474 : BitVec 32 := 0#32
  let v943 : BitVec 1 := Scalar.cmpi .slt c4_i32_470 c0_i32_474
  let v944 : BitVec 32 := Scalar.extui v943
  let v945 : BitVec 32 := Scalar.subi v942 v944
  let v946 : BitVec 1 := Scalar.cmpi .ne v940 v945
  let v947 : BitVec 32 := Scalar.remsi v844 c4_i32_470
  let c0_i32_475 : BitVec 32 := 0#32
  let v948 : BitVec 1 := Scalar.cmpi .ne v947 c0_i32_475
  let v949 : BitVec 1 := Scalar.andi v946 v948
  let v935 : BitVec 32 := Scalar.divsi v844 c4_i32_470
  let c1_i32_476 : BitVec 32 := 1#32
  let v950 : BitVec 32 := Scalar.subi v935 c1_i32_476
  let v951 : BitVec 32 := Scalar.select v949 v950 v935
  let c4_i32_515 : BitVec 32 := 4#32
  let c21_i32_429 : BitVec 32 := 21#32
  let c0_i32_430 : BitVec 32 := 0#32
  let v845 : BitVec 1 := Scalar.cmpi .eq c21_i32_429 c0_i32_430
  let c1_i32_431 : BitVec 32 := 1#32
  let v846 : BitVec 32 := Scalar.select v845 c1_i32_431 c21_i32_429
  let v847 : BitVec 32 := Scalar.remsi v558 v846
  let c0_i32_433 : BitVec 32 := 0#32
  let v849 : BitVec 1 := Scalar.cmpi .slt v847 c0_i32_433
  let c0_i32_434 : BitVec 32 := 0#32
  let v850 : BitVec 1 := Scalar.cmpi .slt v846 c0_i32_434
  let v851 : BitVec 1 := Scalar.xori v849 v850
  let c0_i32_432 : BitVec 32 := 0#32
  let v848 : BitVec 1 := Scalar.cmpi .ne v847 c0_i32_432
  let v852 : BitVec 1 := Scalar.andi v851 v848
  let v853 : BitVec 32 := Scalar.addi v847 v846
  let v854 : BitVec 32 := Scalar.select v852 v853 v847
  let c4_i32_435 : BitVec 32 := 4#32
  let v855 : BitVec 32 := Scalar.muli v854 c4_i32_435
  let c4_i32_436 : BitVec 32 := 4#32
  let c0_i32_437 : BitVec 32 := 0#32
  let v856 : BitVec 1 := Scalar.cmpi .eq c4_i32_436 c0_i32_437
  let c1_i32_438 : BitVec 32 := 1#32
  let v857 : BitVec 32 := Scalar.select v856 c1_i32_438 c4_i32_436
  let v858 : BitVec 32 := Scalar.remsi v844 v857
  let c0_i32_440 : BitVec 32 := 0#32
  let v860 : BitVec 1 := Scalar.cmpi .slt v858 c0_i32_440
  let c0_i32_441 : BitVec 32 := 0#32
  let v861 : BitVec 1 := Scalar.cmpi .slt v857 c0_i32_441
  let v862 : BitVec 1 := Scalar.xori v860 v861
  let c0_i32_439 : BitVec 32 := 0#32
  let v859 : BitVec 1 := Scalar.cmpi .ne v858 c0_i32_439
  let v863 : BitVec 1 := Scalar.andi v862 v859
  let v864 : BitVec 32 := Scalar.addi v858 v857
  let v865 : BitVec 32 := Scalar.select v863 v864 v858
  let v866 : BitVec 32 := Scalar.addi v855 v865
  let c0_i32_518 : BitVec 32 := 0#32
  ![v951.toNat, 4, v866.toNat, 0]
def k0_off57 (i : grid0.Coords) (k0_t5 : Fin (k0_t5_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_277 : BitVec 32 := 2#32
  let c0_i32_59 : BitVec 32 := 0#32
  let c0_i32_60 : BitVec 32 := 0#32
  let c1764_i32 : BitVec 32 := 1764#32
  let v3 : BitVec 32 := Scalar.subi c1764_i32 v1
  let c32_i32 : BitVec 32 := 32#32
  let v4 : BitVec 32 := Scalar.addi v3 c32_i32
  let c1_i32_1 : BitVec 32 := 1#32
  let v5 : BitVec 32 := Scalar.subi v4 c1_i32_1
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c32_i32_2 : BitVec 32 := 32#32
  let c0_i32_5 : BitVec 32 := 0#32
  let v12 : BitVec 1 := Scalar.cmpi .sgt c32_i32_2 c0_i32_5
  let v13 : BitVec 32 := Scalar.extui v12
  let c0_i32_6 : BitVec 32 := 0#32
  let v14 : BitVec 1 := Scalar.cmpi .slt c32_i32_2 c0_i32_6
  let v15 : BitVec 32 := Scalar.extui v14
  let v16 : BitVec 32 := Scalar.subi v13 v15
  let v17 : BitVec 1 := Scalar.cmpi .ne v11 v16
  let v18 : BitVec 32 := Scalar.remsi v5 c32_i32_2
  let c0_i32_7 : BitVec 32 := 0#32
  let v19 : BitVec 1 := Scalar.cmpi .ne v18 c0_i32_7
  let v20 : BitVec 1 := Scalar.andi v17 v19
  let v6 : BitVec 32 := Scalar.divsi v5 c32_i32_2
  let c1_i32_8 : BitVec 32 := 1#32
  let v21 : BitVec 32 := Scalar.subi v6 c1_i32_8
  let v22 : BitVec 32 := Scalar.select v20 v21 v6
  let c1_i32_46 : BitVec 32 := 1#32
  let v95 : BitVec 32 := Scalar.addi v22 c1_i32_46
  let c0_i32_48 : BitVec 32 := 0#32
  let v97 : BitVec 1 := Scalar.cmpi .sgt v95 c0_i32_48
  let v98 : BitVec 32 := Scalar.extui v97
  let c0_i32_49 : BitVec 32 := 0#32
  let v99 : BitVec 1 := Scalar.cmpi .slt v95 c0_i32_49
  let v100 : BitVec 32 := Scalar.extui v99
  let v101 : BitVec 32 := Scalar.subi v98 v100
  let c2_i32_47 : BitVec 32 := 2#32
  let c0_i32_50 : BitVec 32 := 0#32
  let v102 : BitVec 1 := Scalar.cmpi .sgt c2_i32_47 c0_i32_50
  let v103 : BitVec 32 := Scalar.extui v102
  let c0_i32_51 : BitVec 32 := 0#32
  let v104 : BitVec 1 := Scalar.cmpi .slt c2_i32_47 c0_i32_51
  let v105 : BitVec 32 := Scalar.extui v104
  let v106 : BitVec 32 := Scalar.subi v103 v105
  let v107 : BitVec 1 := Scalar.cmpi .ne v101 v106
  let v108 : BitVec 32 := Scalar.remsi v95 c2_i32_47
  let c0_i32_52 : BitVec 32 := 0#32
  let v109 : BitVec 1 := Scalar.cmpi .ne v108 c0_i32_52
  let v110 : BitVec 1 := Scalar.andi v107 v109
  let v96 : BitVec 32 := Scalar.divsi v95 c2_i32_47
  let c1_i32_53 : BitVec 32 := 1#32
  let v111 : BitVec 32 := Scalar.subi v96 c1_i32_53
  let v112 : BitVec 32 := Scalar.select v110 v111 v96
  let c0_i32_54 : BitVec 32 := 0#32
  let v113 : BitVec 32 := Scalar.subi v112 c0_i32_54
  let c1_i32_55 : BitVec 32 := 1#32
  let c1_i32_56 : BitVec 32 := 1#32
  let v114 : BitVec 32 := Scalar.subi c1_i32_55 c1_i32_56
  let v115 : BitVec 32 := Scalar.addi v113 v114
  let c1_i32_57 : BitVec 32 := 1#32
  let v116 : BitVec 32 := Scalar.divsi v115 c1_i32_57
  let v117 : BitVec 32 := Scalar.subi v116 c0_i32_60
  let c1_i32_61 : BitVec 32 := 1#32
  let v119 : BitVec 32 := Scalar.divsi v117 c1_i32_61
  let v120 : BitVec 32 := Scalar.muli v119 c1_i32_61
  let v121 : BitVec 32 := Scalar.addi c0_i32_60 v120
  let c1_i32_63 : BitVec 32 := 1#32
  let arg14 : BitVec 32 := Scf.iv v121 c1_i32_63 k0_t5
  let c1_i32_58 : BitVec 32 := 1#32
  let v553 : BitVec 32 := Scalar.muli arg14 c1_i32_58
  let v554 : BitVec 32 := Scalar.addi c0_i32_59 v553
  let v555 : BitVec 32 := Scalar.muli c2_i32_277 v554
  let c0_i32_278 : BitVec 32 := 0#32
  let v556 : BitVec 32 := Scalar.addi v555 c0_i32_278
  let c32_i32_279 : BitVec 32 := 32#32
  let v557 : BitVec 32 := Scalar.muli v556 c32_i32_279
  let v558 : BitVec 32 := Scalar.addi v1 v557
  let c0_i32_423 : BitVec 32 := 0#32
  let v829 : BitVec 1 := Scalar.cmpi .sgt v558 c0_i32_423
  let v830 : BitVec 32 := Scalar.extui v829
  let c0_i32_424 : BitVec 32 := 0#32
  let v831 : BitVec 1 := Scalar.cmpi .slt v558 c0_i32_424
  let v832 : BitVec 32 := Scalar.extui v831
  let v833 : BitVec 32 := Scalar.subi v830 v832
  let c21_i32_422 : BitVec 32 := 21#32
  let c0_i32_425 : BitVec 32 := 0#32
  let v834 : BitVec 1 := Scalar.cmpi .sgt c21_i32_422 c0_i32_425
  let v835 : BitVec 32 := Scalar.extui v834
  let c0_i32_426 : BitVec 32 := 0#32
  let v836 : BitVec 1 := Scalar.cmpi .slt c21_i32_422 c0_i32_426
  let v837 : BitVec 32 := Scalar.extui v836
  let v838 : BitVec 32 := Scalar.subi v835 v837
  let v839 : BitVec 1 := Scalar.cmpi .ne v833 v838
  let v840 : BitVec 32 := Scalar.remsi v558 c21_i32_422
  let c0_i32_427 : BitVec 32 := 0#32
  let v841 : BitVec 1 := Scalar.cmpi .ne v840 c0_i32_427
  let v842 : BitVec 1 := Scalar.andi v839 v841
  let v828 : BitVec 32 := Scalar.divsi v558 c21_i32_422
  let c1_i32_428 : BitVec 32 := 1#32
  let v843 : BitVec 32 := Scalar.subi v828 c1_i32_428
  let v844 : BitVec 32 := Scalar.select v842 v843 v828
  let c0_i32_478 : BitVec 32 := 0#32
  let v953 : BitVec 1 := Scalar.cmpi .sgt v844 c0_i32_478
  let v954 : BitVec 32 := Scalar.extui v953
  let c0_i32_479 : BitVec 32 := 0#32
  let v955 : BitVec 1 := Scalar.cmpi .slt v844 c0_i32_479
  let v956 : BitVec 32 := Scalar.extui v955
  let v957 : BitVec 32 := Scalar.subi v954 v956
  let c4_i32_477 : BitVec 32 := 4#32
  let c0_i32_480 : BitVec 32 := 0#32
  let v958 : BitVec 1 := Scalar.cmpi .sgt c4_i32_477 c0_i32_480
  let v959 : BitVec 32 := Scalar.extui v958
  let c0_i32_481 : BitVec 32 := 0#32
  let v960 : BitVec 1 := Scalar.cmpi .slt c4_i32_477 c0_i32_481
  let v961 : BitVec 32 := Scalar.extui v960
  let v962 : BitVec 32 := Scalar.subi v959 v961
  let v963 : BitVec 1 := Scalar.cmpi .ne v957 v962
  let v964 : BitVec 32 := Scalar.remsi v844 c4_i32_477
  let c0_i32_482 : BitVec 32 := 0#32
  let v965 : BitVec 1 := Scalar.cmpi .ne v964 c0_i32_482
  let v966 : BitVec 1 := Scalar.andi v963 v965
  let v952 : BitVec 32 := Scalar.divsi v844 c4_i32_477
  let c1_i32_483 : BitVec 32 := 1#32
  let v967 : BitVec 32 := Scalar.subi v952 c1_i32_483
  let v968 : BitVec 32 := Scalar.select v966 v967 v952
  let c5_i32_521 : BitVec 32 := 5#32
  let c21_i32_429 : BitVec 32 := 21#32
  let c0_i32_430 : BitVec 32 := 0#32
  let v845 : BitVec 1 := Scalar.cmpi .eq c21_i32_429 c0_i32_430
  let c1_i32_431 : BitVec 32 := 1#32
  let v846 : BitVec 32 := Scalar.select v845 c1_i32_431 c21_i32_429
  let v847 : BitVec 32 := Scalar.remsi v558 v846
  let c0_i32_433 : BitVec 32 := 0#32
  let v849 : BitVec 1 := Scalar.cmpi .slt v847 c0_i32_433
  let c0_i32_434 : BitVec 32 := 0#32
  let v850 : BitVec 1 := Scalar.cmpi .slt v846 c0_i32_434
  let v851 : BitVec 1 := Scalar.xori v849 v850
  let c0_i32_432 : BitVec 32 := 0#32
  let v848 : BitVec 1 := Scalar.cmpi .ne v847 c0_i32_432
  let v852 : BitVec 1 := Scalar.andi v851 v848
  let v853 : BitVec 32 := Scalar.addi v847 v846
  let v854 : BitVec 32 := Scalar.select v852 v853 v847
  let c4_i32_435 : BitVec 32 := 4#32
  let v855 : BitVec 32 := Scalar.muli v854 c4_i32_435
  let c4_i32_436 : BitVec 32 := 4#32
  let c0_i32_437 : BitVec 32 := 0#32
  let v856 : BitVec 1 := Scalar.cmpi .eq c4_i32_436 c0_i32_437
  let c1_i32_438 : BitVec 32 := 1#32
  let v857 : BitVec 32 := Scalar.select v856 c1_i32_438 c4_i32_436
  let v858 : BitVec 32 := Scalar.remsi v844 v857
  let c0_i32_440 : BitVec 32 := 0#32
  let v860 : BitVec 1 := Scalar.cmpi .slt v858 c0_i32_440
  let c0_i32_441 : BitVec 32 := 0#32
  let v861 : BitVec 1 := Scalar.cmpi .slt v857 c0_i32_441
  let v862 : BitVec 1 := Scalar.xori v860 v861
  let c0_i32_439 : BitVec 32 := 0#32
  let v859 : BitVec 1 := Scalar.cmpi .ne v858 c0_i32_439
  let v863 : BitVec 1 := Scalar.andi v862 v859
  let v864 : BitVec 32 := Scalar.addi v858 v857
  let v865 : BitVec 32 := Scalar.select v863 v864 v858
  let v866 : BitVec 32 := Scalar.addi v855 v865
  let c0_i32_524 : BitVec 32 := 0#32
  ![v968.toNat, 5, v866.toNat, 0]
def k0_off58 (i : grid0.Coords) (k0_t5 : Fin (k0_t5_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_277 : BitVec 32 := 2#32
  let c0_i32_59 : BitVec 32 := 0#32
  let c0_i32_60 : BitVec 32 := 0#32
  let c1764_i32 : BitVec 32 := 1764#32
  let v3 : BitVec 32 := Scalar.subi c1764_i32 v1
  let c32_i32 : BitVec 32 := 32#32
  let v4 : BitVec 32 := Scalar.addi v3 c32_i32
  let c1_i32_1 : BitVec 32 := 1#32
  let v5 : BitVec 32 := Scalar.subi v4 c1_i32_1
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c32_i32_2 : BitVec 32 := 32#32
  let c0_i32_5 : BitVec 32 := 0#32
  let v12 : BitVec 1 := Scalar.cmpi .sgt c32_i32_2 c0_i32_5
  let v13 : BitVec 32 := Scalar.extui v12
  let c0_i32_6 : BitVec 32 := 0#32
  let v14 : BitVec 1 := Scalar.cmpi .slt c32_i32_2 c0_i32_6
  let v15 : BitVec 32 := Scalar.extui v14
  let v16 : BitVec 32 := Scalar.subi v13 v15
  let v17 : BitVec 1 := Scalar.cmpi .ne v11 v16
  let v18 : BitVec 32 := Scalar.remsi v5 c32_i32_2
  let c0_i32_7 : BitVec 32 := 0#32
  let v19 : BitVec 1 := Scalar.cmpi .ne v18 c0_i32_7
  let v20 : BitVec 1 := Scalar.andi v17 v19
  let v6 : BitVec 32 := Scalar.divsi v5 c32_i32_2
  let c1_i32_8 : BitVec 32 := 1#32
  let v21 : BitVec 32 := Scalar.subi v6 c1_i32_8
  let v22 : BitVec 32 := Scalar.select v20 v21 v6
  let c1_i32_46 : BitVec 32 := 1#32
  let v95 : BitVec 32 := Scalar.addi v22 c1_i32_46
  let c0_i32_48 : BitVec 32 := 0#32
  let v97 : BitVec 1 := Scalar.cmpi .sgt v95 c0_i32_48
  let v98 : BitVec 32 := Scalar.extui v97
  let c0_i32_49 : BitVec 32 := 0#32
  let v99 : BitVec 1 := Scalar.cmpi .slt v95 c0_i32_49
  let v100 : BitVec 32 := Scalar.extui v99
  let v101 : BitVec 32 := Scalar.subi v98 v100
  let c2_i32_47 : BitVec 32 := 2#32
  let c0_i32_50 : BitVec 32 := 0#32
  let v102 : BitVec 1 := Scalar.cmpi .sgt c2_i32_47 c0_i32_50
  let v103 : BitVec 32 := Scalar.extui v102
  let c0_i32_51 : BitVec 32 := 0#32
  let v104 : BitVec 1 := Scalar.cmpi .slt c2_i32_47 c0_i32_51
  let v105 : BitVec 32 := Scalar.extui v104
  let v106 : BitVec 32 := Scalar.subi v103 v105
  let v107 : BitVec 1 := Scalar.cmpi .ne v101 v106
  let v108 : BitVec 32 := Scalar.remsi v95 c2_i32_47
  let c0_i32_52 : BitVec 32 := 0#32
  let v109 : BitVec 1 := Scalar.cmpi .ne v108 c0_i32_52
  let v110 : BitVec 1 := Scalar.andi v107 v109
  let v96 : BitVec 32 := Scalar.divsi v95 c2_i32_47
  let c1_i32_53 : BitVec 32 := 1#32
  let v111 : BitVec 32 := Scalar.subi v96 c1_i32_53
  let v112 : BitVec 32 := Scalar.select v110 v111 v96
  let c0_i32_54 : BitVec 32 := 0#32
  let v113 : BitVec 32 := Scalar.subi v112 c0_i32_54
  let c1_i32_55 : BitVec 32 := 1#32
  let c1_i32_56 : BitVec 32 := 1#32
  let v114 : BitVec 32 := Scalar.subi c1_i32_55 c1_i32_56
  let v115 : BitVec 32 := Scalar.addi v113 v114
  let c1_i32_57 : BitVec 32 := 1#32
  let v116 : BitVec 32 := Scalar.divsi v115 c1_i32_57
  let v117 : BitVec 32 := Scalar.subi v116 c0_i32_60
  let c1_i32_61 : BitVec 32 := 1#32
  let v119 : BitVec 32 := Scalar.divsi v117 c1_i32_61
  let v120 : BitVec 32 := Scalar.muli v119 c1_i32_61
  let v121 : BitVec 32 := Scalar.addi c0_i32_60 v120
  let c1_i32_63 : BitVec 32 := 1#32
  let arg14 : BitVec 32 := Scf.iv v121 c1_i32_63 k0_t5
  let c1_i32_58 : BitVec 32 := 1#32
  let v553 : BitVec 32 := Scalar.muli arg14 c1_i32_58
  let v554 : BitVec 32 := Scalar.addi c0_i32_59 v553
  let v555 : BitVec 32 := Scalar.muli c2_i32_277 v554
  let c0_i32_278 : BitVec 32 := 0#32
  let v556 : BitVec 32 := Scalar.addi v555 c0_i32_278
  let c32_i32_279 : BitVec 32 := 32#32
  let v557 : BitVec 32 := Scalar.muli v556 c32_i32_279
  let v558 : BitVec 32 := Scalar.addi v1 v557
  let c0_i32_423 : BitVec 32 := 0#32
  let v829 : BitVec 1 := Scalar.cmpi .sgt v558 c0_i32_423
  let v830 : BitVec 32 := Scalar.extui v829
  let c0_i32_424 : BitVec 32 := 0#32
  let v831 : BitVec 1 := Scalar.cmpi .slt v558 c0_i32_424
  let v832 : BitVec 32 := Scalar.extui v831
  let v833 : BitVec 32 := Scalar.subi v830 v832
  let c21_i32_422 : BitVec 32 := 21#32
  let c0_i32_425 : BitVec 32 := 0#32
  let v834 : BitVec 1 := Scalar.cmpi .sgt c21_i32_422 c0_i32_425
  let v835 : BitVec 32 := Scalar.extui v834
  let c0_i32_426 : BitVec 32 := 0#32
  let v836 : BitVec 1 := Scalar.cmpi .slt c21_i32_422 c0_i32_426
  let v837 : BitVec 32 := Scalar.extui v836
  let v838 : BitVec 32 := Scalar.subi v835 v837
  let v839 : BitVec 1 := Scalar.cmpi .ne v833 v838
  let v840 : BitVec 32 := Scalar.remsi v558 c21_i32_422
  let c0_i32_427 : BitVec 32 := 0#32
  let v841 : BitVec 1 := Scalar.cmpi .ne v840 c0_i32_427
  let v842 : BitVec 1 := Scalar.andi v839 v841
  let v828 : BitVec 32 := Scalar.divsi v558 c21_i32_422
  let c1_i32_428 : BitVec 32 := 1#32
  let v843 : BitVec 32 := Scalar.subi v828 c1_i32_428
  let v844 : BitVec 32 := Scalar.select v842 v843 v828
  let c0_i32_485 : BitVec 32 := 0#32
  let v970 : BitVec 1 := Scalar.cmpi .sgt v844 c0_i32_485
  let v971 : BitVec 32 := Scalar.extui v970
  let c0_i32_486 : BitVec 32 := 0#32
  let v972 : BitVec 1 := Scalar.cmpi .slt v844 c0_i32_486
  let v973 : BitVec 32 := Scalar.extui v972
  let v974 : BitVec 32 := Scalar.subi v971 v973
  let c4_i32_484 : BitVec 32 := 4#32
  let c0_i32_487 : BitVec 32 := 0#32
  let v975 : BitVec 1 := Scalar.cmpi .sgt c4_i32_484 c0_i32_487
  let v976 : BitVec 32 := Scalar.extui v975
  let c0_i32_488 : BitVec 32 := 0#32
  let v977 : BitVec 1 := Scalar.cmpi .slt c4_i32_484 c0_i32_488
  let v978 : BitVec 32 := Scalar.extui v977
  let v979 : BitVec 32 := Scalar.subi v976 v978
  let v980 : BitVec 1 := Scalar.cmpi .ne v974 v979
  let v981 : BitVec 32 := Scalar.remsi v844 c4_i32_484
  let c0_i32_489 : BitVec 32 := 0#32
  let v982 : BitVec 1 := Scalar.cmpi .ne v981 c0_i32_489
  let v983 : BitVec 1 := Scalar.andi v980 v982
  let v969 : BitVec 32 := Scalar.divsi v844 c4_i32_484
  let c1_i32_490 : BitVec 32 := 1#32
  let v984 : BitVec 32 := Scalar.subi v969 c1_i32_490
  let v985 : BitVec 32 := Scalar.select v983 v984 v969
  let c6_i32_527 : BitVec 32 := 6#32
  let c21_i32_429 : BitVec 32 := 21#32
  let c0_i32_430 : BitVec 32 := 0#32
  let v845 : BitVec 1 := Scalar.cmpi .eq c21_i32_429 c0_i32_430
  let c1_i32_431 : BitVec 32 := 1#32
  let v846 : BitVec 32 := Scalar.select v845 c1_i32_431 c21_i32_429
  let v847 : BitVec 32 := Scalar.remsi v558 v846
  let c0_i32_433 : BitVec 32 := 0#32
  let v849 : BitVec 1 := Scalar.cmpi .slt v847 c0_i32_433
  let c0_i32_434 : BitVec 32 := 0#32
  let v850 : BitVec 1 := Scalar.cmpi .slt v846 c0_i32_434
  let v851 : BitVec 1 := Scalar.xori v849 v850
  let c0_i32_432 : BitVec 32 := 0#32
  let v848 : BitVec 1 := Scalar.cmpi .ne v847 c0_i32_432
  let v852 : BitVec 1 := Scalar.andi v851 v848
  let v853 : BitVec 32 := Scalar.addi v847 v846
  let v854 : BitVec 32 := Scalar.select v852 v853 v847
  let c4_i32_435 : BitVec 32 := 4#32
  let v855 : BitVec 32 := Scalar.muli v854 c4_i32_435
  let c4_i32_436 : BitVec 32 := 4#32
  let c0_i32_437 : BitVec 32 := 0#32
  let v856 : BitVec 1 := Scalar.cmpi .eq c4_i32_436 c0_i32_437
  let c1_i32_438 : BitVec 32 := 1#32
  let v857 : BitVec 32 := Scalar.select v856 c1_i32_438 c4_i32_436
  let v858 : BitVec 32 := Scalar.remsi v844 v857
  let c0_i32_440 : BitVec 32 := 0#32
  let v860 : BitVec 1 := Scalar.cmpi .slt v858 c0_i32_440
  let c0_i32_441 : BitVec 32 := 0#32
  let v861 : BitVec 1 := Scalar.cmpi .slt v857 c0_i32_441
  let v862 : BitVec 1 := Scalar.xori v860 v861
  let c0_i32_439 : BitVec 32 := 0#32
  let v859 : BitVec 1 := Scalar.cmpi .ne v858 c0_i32_439
  let v863 : BitVec 1 := Scalar.andi v862 v859
  let v864 : BitVec 32 := Scalar.addi v858 v857
  let v865 : BitVec 32 := Scalar.select v863 v864 v858
  let v866 : BitVec 32 := Scalar.addi v855 v865
  let c0_i32_530 : BitVec 32 := 0#32
  ![v985.toNat, 6, v866.toNat, 0]
@[reducible] def k0_t6_loop : Scf.Loop 32 :=
  let c0_i32_305 : BitVec 32 := 0#32
  let c96_i32_306 : BitVec 32 := 96#32
  let v609 : BitVec 32 := Scalar.addi c0_i32_305 c96_i32_306
  let c1_i32_307 : BitVec 32 := 1#32
  ⟨c0_i32_305, v609, c1_i32_307⟩
def k0_off59 (k0_t6 : Fin k0_t6_loop.trips) : Fin 1 → Nat :=
  let c0_i32_422 : BitVec 32 := 0#32
  let c0_i32_305 : BitVec 32 := 0#32
  let c1_i32_307 : BitVec 32 := 1#32
  let arg15 : BitVec 32 := Scf.iv c0_i32_305 c1_i32_307 k0_t6
  let c16_i32 : BitVec 32 := 16#32
  let v828 : BitVec 32 := Scalar.muli arg15 c16_i32
  let v829 : BitVec 32 := Scalar.addi c0_i32_422 v828
  let v830 : Index := Scalar.indexCast v829
  ![v830.toNat]

def k0_chk15 (i : grid0.Coords) (k0_t5 : Fin (k0_t5_loop i).trips) (v833 : IVec S16 32) : Prop :=
  (∀ (k0_h7 : k0_cond7 i k0_t5 = 1#1), ∀ a x, ((![v833] : Fin 1 → IVec S16 32) a x).toNat < S45056.size a)
theorem k0_idx15_inb : ∀ (i : grid0.Coords) (k0_t5 : Fin (k0_t5_loop i).trips) (v833 : IVec S16 32) (k0_hw15 : k0_chk15 i k0_t5 v833), ∀ (k0_h7 : k0_cond7 i k0_t5 = 1#1), ∀ a x, ((![v833] : Fin 1 → IVec S16 32) a x).toNat < S45056.size a := fun i k0_t5 v833 k0_hw15 k0_h7 => k0_hw15 k0_h7
def k0_off60 (k0_t6 : Fin k0_t6_loop.trips) : Fin 1 → Nat :=
  let c0_i32_424 : BitVec 32 := 0#32
  let c0_i32_422 : BitVec 32 := 0#32
  let c0_i32_305 : BitVec 32 := 0#32
  let c1_i32_307 : BitVec 32 := 1#32
  let arg15 : BitVec 32 := Scf.iv c0_i32_305 c1_i32_307 k0_t6
  let c16_i32 : BitVec 32 := 16#32
  let v828 : BitVec 32 := Scalar.muli arg15 c16_i32
  let v829 : BitVec 32 := Scalar.addi c0_i32_422 v828
  let v835 : BitVec 32 := Scalar.addi c0_i32_424 v829
  let v836 : Index := Scalar.indexCast v835
  ![v836.toNat]

def k0_chk16 (i : grid0.Coords) (k0_t5 : Fin (k0_t5_loop i).trips) (v839 : IVec S16 32) : Prop :=
  (∀ (k0_h7 : k0_cond7 i k0_t5 = 1#1), ∀ a x, ((![v839] : Fin 1 → IVec S16 32) a x).toNat < S45056.size a)
theorem k0_idx16_inb : ∀ (i : grid0.Coords) (k0_t5 : Fin (k0_t5_loop i).trips) (v839 : IVec S16 32) (k0_hw16 : k0_chk16 i k0_t5 v839), ∀ (k0_h7 : k0_cond7 i k0_t5 = 1#1), ∀ a x, ((![v839] : Fin 1 → IVec S16 32) a x).toNat < S45056.size a := fun i k0_t5 v839 k0_hw16 k0_h7 => k0_hw16 k0_h7
def k0_off61 (k0_t6 : Fin k0_t6_loop.trips) : Fin 1 → Nat :=
  let c1536_i32_426 : BitVec 32 := 1536#32
  let c0_i32_422 : BitVec 32 := 0#32
  let c0_i32_305 : BitVec 32 := 0#32
  let c1_i32_307 : BitVec 32 := 1#32
  let arg15 : BitVec 32 := Scf.iv c0_i32_305 c1_i32_307 k0_t6
  let c16_i32 : BitVec 32 := 16#32
  let v828 : BitVec 32 := Scalar.muli arg15 c16_i32
  let v829 : BitVec 32 := Scalar.addi c0_i32_422 v828
  let v841 : BitVec 32 := Scalar.addi c1536_i32_426 v829
  let v842 : Index := Scalar.indexCast v841
  ![v842.toNat]

def k0_chk17 (i : grid0.Coords) (k0_t5 : Fin (k0_t5_loop i).trips) (v845 : IVec S16 32) : Prop :=
  (∀ (k0_h7 : k0_cond7 i k0_t5 = 1#1), ∀ a x, ((![v845] : Fin 1 → IVec S16 32) a x).toNat < S45056.size a)
theorem k0_idx17_inb : ∀ (i : grid0.Coords) (k0_t5 : Fin (k0_t5_loop i).trips) (v845 : IVec S16 32) (k0_hw17 : k0_chk17 i k0_t5 v845), ∀ (k0_h7 : k0_cond7 i k0_t5 = 1#1), ∀ a x, ((![v845] : Fin 1 → IVec S16 32) a x).toNat < S45056.size a := fun i k0_t5 v845 k0_hw17 k0_h7 => k0_hw17 k0_h7
def k0_off62 (k0_t6 : Fin k0_t6_loop.trips) : Fin 1 → Nat :=
  let c3072_i32_428 : BitVec 32 := 3072#32
  let c0_i32_422 : BitVec 32 := 0#32
  let c0_i32_305 : BitVec 32 := 0#32
  let c1_i32_307 : BitVec 32 := 1#32
  let arg15 : BitVec 32 := Scf.iv c0_i32_305 c1_i32_307 k0_t6
  let c16_i32 : BitVec 32 := 16#32
  let v828 : BitVec 32 := Scalar.muli arg15 c16_i32
  let v829 : BitVec 32 := Scalar.addi c0_i32_422 v828
  let v847 : BitVec 32 := Scalar.addi c3072_i32_428 v829
  let v848 : Index := Scalar.indexCast v847
  ![v848.toNat]

def k0_chk18 (i : grid0.Coords) (k0_t5 : Fin (k0_t5_loop i).trips) (v851 : IVec S16 32) : Prop :=
  (∀ (k0_h7 : k0_cond7 i k0_t5 = 1#1), ∀ a x, ((![v851] : Fin 1 → IVec S16 32) a x).toNat < S45056.size a)
theorem k0_idx18_inb : ∀ (i : grid0.Coords) (k0_t5 : Fin (k0_t5_loop i).trips) (v851 : IVec S16 32) (k0_hw18 : k0_chk18 i k0_t5 v851), ∀ (k0_h7 : k0_cond7 i k0_t5 = 1#1), ∀ a x, ((![v851] : Fin 1 → IVec S16 32) a x).toNat < S45056.size a := fun i k0_t5 v851 k0_hw18 k0_h7 => k0_hw18 k0_h7
def k0_off63 (k0_t6 : Fin k0_t6_loop.trips) : Fin 1 → Nat :=
  let c4608_i32_430 : BitVec 32 := 4608#32
  let c0_i32_422 : BitVec 32 := 0#32
  let c0_i32_305 : BitVec 32 := 0#32
  let c1_i32_307 : BitVec 32 := 1#32
  let arg15 : BitVec 32 := Scf.iv c0_i32_305 c1_i32_307 k0_t6
  let c16_i32 : BitVec 32 := 16#32
  let v828 : BitVec 32 := Scalar.muli arg15 c16_i32
  let v829 : BitVec 32 := Scalar.addi c0_i32_422 v828
  let v853 : BitVec 32 := Scalar.addi c4608_i32_430 v829
  let v854 : Index := Scalar.indexCast v853
  ![v854.toNat]

def k0_chk19 (i : grid0.Coords) (k0_t5 : Fin (k0_t5_loop i).trips) (v857 : IVec S16 32) : Prop :=
  (∀ (k0_h7 : k0_cond7 i k0_t5 = 1#1), ∀ a x, ((![v857] : Fin 1 → IVec S16 32) a x).toNat < S45056.size a)
theorem k0_idx19_inb : ∀ (i : grid0.Coords) (k0_t5 : Fin (k0_t5_loop i).trips) (v857 : IVec S16 32) (k0_hw19 : k0_chk19 i k0_t5 v857), ∀ (k0_h7 : k0_cond7 i k0_t5 = 1#1), ∀ a x, ((![v857] : Fin 1 → IVec S16 32) a x).toNat < S45056.size a := fun i k0_t5 v857 k0_hw19 k0_h7 => k0_hw19 k0_h7
def k0_off64 (k0_t6 : Fin k0_t6_loop.trips) : Fin 1 → Nat :=
  let c6144_i32_432 : BitVec 32 := 6144#32
  let c0_i32_422 : BitVec 32 := 0#32
  let c0_i32_305 : BitVec 32 := 0#32
  let c1_i32_307 : BitVec 32 := 1#32
  let arg15 : BitVec 32 := Scf.iv c0_i32_305 c1_i32_307 k0_t6
  let c16_i32 : BitVec 32 := 16#32
  let v828 : BitVec 32 := Scalar.muli arg15 c16_i32
  let v829 : BitVec 32 := Scalar.addi c0_i32_422 v828
  let v859 : BitVec 32 := Scalar.addi c6144_i32_432 v829
  let v860 : Index := Scalar.indexCast v859
  ![v860.toNat]

def k0_chk20 (i : grid0.Coords) (k0_t5 : Fin (k0_t5_loop i).trips) (v863 : IVec S16 32) : Prop :=
  (∀ (k0_h7 : k0_cond7 i k0_t5 = 1#1), ∀ a x, ((![v863] : Fin 1 → IVec S16 32) a x).toNat < S45056.size a)
theorem k0_idx20_inb : ∀ (i : grid0.Coords) (k0_t5 : Fin (k0_t5_loop i).trips) (v863 : IVec S16 32) (k0_hw20 : k0_chk20 i k0_t5 v863), ∀ (k0_h7 : k0_cond7 i k0_t5 = 1#1), ∀ a x, ((![v863] : Fin 1 → IVec S16 32) a x).toNat < S45056.size a := fun i k0_t5 v863 k0_hw20 k0_h7 => k0_hw20 k0_h7
def k0_off65 (k0_t6 : Fin k0_t6_loop.trips) : Fin 1 → Nat :=
  let c7680_i32_434 : BitVec 32 := 7680#32
  let c0_i32_422 : BitVec 32 := 0#32
  let c0_i32_305 : BitVec 32 := 0#32
  let c1_i32_307 : BitVec 32 := 1#32
  let arg15 : BitVec 32 := Scf.iv c0_i32_305 c1_i32_307 k0_t6
  let c16_i32 : BitVec 32 := 16#32
  let v828 : BitVec 32 := Scalar.muli arg15 c16_i32
  let v829 : BitVec 32 := Scalar.addi c0_i32_422 v828
  let v865 : BitVec 32 := Scalar.addi c7680_i32_434 v829
  let v866 : Index := Scalar.indexCast v865
  ![v866.toNat]

def k0_chk21 (i : grid0.Coords) (k0_t5 : Fin (k0_t5_loop i).trips) (v869 : IVec S16 32) : Prop :=
  (∀ (k0_h7 : k0_cond7 i k0_t5 = 1#1), ∀ a x, ((![v869] : Fin 1 → IVec S16 32) a x).toNat < S45056.size a)
theorem k0_idx21_inb : ∀ (i : grid0.Coords) (k0_t5 : Fin (k0_t5_loop i).trips) (v869 : IVec S16 32) (k0_hw21 : k0_chk21 i k0_t5 v869), ∀ (k0_h7 : k0_cond7 i k0_t5 = 1#1), ∀ a x, ((![v869] : Fin 1 → IVec S16 32) a x).toNat < S45056.size a := fun i k0_t5 v869 k0_hw21 k0_h7 => k0_hw21 k0_h7
def k0_off66 (k0_t6 : Fin k0_t6_loop.trips) : Fin 1 → Nat :=
  let c9216_i32_436 : BitVec 32 := 9216#32
  let c0_i32_422 : BitVec 32 := 0#32
  let c0_i32_305 : BitVec 32 := 0#32
  let c1_i32_307 : BitVec 32 := 1#32
  let arg15 : BitVec 32 := Scf.iv c0_i32_305 c1_i32_307 k0_t6
  let c16_i32 : BitVec 32 := 16#32
  let v828 : BitVec 32 := Scalar.muli arg15 c16_i32
  let v829 : BitVec 32 := Scalar.addi c0_i32_422 v828
  let v871 : BitVec 32 := Scalar.addi c9216_i32_436 v829
  let v872 : Index := Scalar.indexCast v871
  ![v872.toNat]
def k0_off67 (i : grid0.Coords) (k0_t5 : Fin (k0_t5_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_277 : BitVec 32 := 2#32
  let c0_i32_59 : BitVec 32 := 0#32
  let c0_i32_60 : BitVec 32 := 0#32
  let c1764_i32 : BitVec 32 := 1764#32
  let v3 : BitVec 32 := Scalar.subi c1764_i32 v1
  let c32_i32 : BitVec 32 := 32#32
  let v4 : BitVec 32 := Scalar.addi v3 c32_i32
  let c1_i32_1 : BitVec 32 := 1#32
  let v5 : BitVec 32 := Scalar.subi v4 c1_i32_1
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c32_i32_2 : BitVec 32 := 32#32
  let c0_i32_5 : BitVec 32 := 0#32
  let v12 : BitVec 1 := Scalar.cmpi .sgt c32_i32_2 c0_i32_5
  let v13 : BitVec 32 := Scalar.extui v12
  let c0_i32_6 : BitVec 32 := 0#32
  let v14 : BitVec 1 := Scalar.cmpi .slt c32_i32_2 c0_i32_6
  let v15 : BitVec 32 := Scalar.extui v14
  let v16 : BitVec 32 := Scalar.subi v13 v15
  let v17 : BitVec 1 := Scalar.cmpi .ne v11 v16
  let v18 : BitVec 32 := Scalar.remsi v5 c32_i32_2
  let c0_i32_7 : BitVec 32 := 0#32
  let v19 : BitVec 1 := Scalar.cmpi .ne v18 c0_i32_7
  let v20 : BitVec 1 := Scalar.andi v17 v19
  let v6 : BitVec 32 := Scalar.divsi v5 c32_i32_2
  let c1_i32_8 : BitVec 32 := 1#32
  let v21 : BitVec 32 := Scalar.subi v6 c1_i32_8
  let v22 : BitVec 32 := Scalar.select v20 v21 v6
  let c1_i32_46 : BitVec 32 := 1#32
  let v95 : BitVec 32 := Scalar.addi v22 c1_i32_46
  let c0_i32_48 : BitVec 32 := 0#32
  let v97 : BitVec 1 := Scalar.cmpi .sgt v95 c0_i32_48
  let v98 : BitVec 32 := Scalar.extui v97
  let c0_i32_49 : BitVec 32 := 0#32
  let v99 : BitVec 1 := Scalar.cmpi .slt v95 c0_i32_49
  let v100 : BitVec 32 := Scalar.extui v99
  let v101 : BitVec 32 := Scalar.subi v98 v100
  let c2_i32_47 : BitVec 32 := 2#32
  let c0_i32_50 : BitVec 32 := 0#32
  let v102 : BitVec 1 := Scalar.cmpi .sgt c2_i32_47 c0_i32_50
  let v103 : BitVec 32 := Scalar.extui v102
  let c0_i32_51 : BitVec 32 := 0#32
  let v104 : BitVec 1 := Scalar.cmpi .slt c2_i32_47 c0_i32_51
  let v105 : BitVec 32 := Scalar.extui v104
  let v106 : BitVec 32 := Scalar.subi v103 v105
  let v107 : BitVec 1 := Scalar.cmpi .ne v101 v106
  let v108 : BitVec 32 := Scalar.remsi v95 c2_i32_47
  let c0_i32_52 : BitVec 32 := 0#32
  let v109 : BitVec 1 := Scalar.cmpi .ne v108 c0_i32_52
  let v110 : BitVec 1 := Scalar.andi v107 v109
  let v96 : BitVec 32 := Scalar.divsi v95 c2_i32_47
  let c1_i32_53 : BitVec 32 := 1#32
  let v111 : BitVec 32 := Scalar.subi v96 c1_i32_53
  let v112 : BitVec 32 := Scalar.select v110 v111 v96
  let c0_i32_54 : BitVec 32 := 0#32
  let v113 : BitVec 32 := Scalar.subi v112 c0_i32_54
  let c1_i32_55 : BitVec 32 := 1#32
  let c1_i32_56 : BitVec 32 := 1#32
  let v114 : BitVec 32 := Scalar.subi c1_i32_55 c1_i32_56
  let v115 : BitVec 32 := Scalar.addi v113 v114
  let c1_i32_57 : BitVec 32 := 1#32
  let v116 : BitVec 32 := Scalar.divsi v115 c1_i32_57
  let v117 : BitVec 32 := Scalar.subi v116 c0_i32_60
  let c1_i32_61 : BitVec 32 := 1#32
  let v119 : BitVec 32 := Scalar.divsi v117 c1_i32_61
  let v120 : BitVec 32 := Scalar.muli v119 c1_i32_61
  let v121 : BitVec 32 := Scalar.addi c0_i32_60 v120
  let c1_i32_63 : BitVec 32 := 1#32
  let arg14 : BitVec 32 := Scf.iv v121 c1_i32_63 k0_t5
  let c1_i32_58 : BitVec 32 := 1#32
  let v553 : BitVec 32 := Scalar.muli arg14 c1_i32_58
  let v554 : BitVec 32 := Scalar.addi c0_i32_59 v553
  let v555 : BitVec 32 := Scalar.muli c2_i32_277 v554
  let c0_i32_278 : BitVec 32 := 0#32
  let v556 : BitVec 32 := Scalar.addi v555 c0_i32_278
  let c32_i32_279 : BitVec 32 := 32#32
  let v557 : BitVec 32 := Scalar.muli v556 c32_i32_279
  let v558 : BitVec 32 := Scalar.addi v1 v557
  let c0_i32_310 : BitVec 32 := 0#32
  let v611 : BitVec 1 := Scalar.cmpi .sgt v558 c0_i32_310
  let v612 : BitVec 32 := Scalar.extui v611
  let c0_i32_311 : BitVec 32 := 0#32
  let v613 : BitVec 1 := Scalar.cmpi .slt v558 c0_i32_311
  let v614 : BitVec 32 := Scalar.extui v613
  let v615 : BitVec 32 := Scalar.subi v612 v614
  let c21_i32_309 : BitVec 32 := 21#32
  let c0_i32_312 : BitVec 32 := 0#32
  let v616 : BitVec 1 := Scalar.cmpi .sgt c21_i32_309 c0_i32_312
  let v617 : BitVec 32 := Scalar.extui v616
  let c0_i32_313 : BitVec 32 := 0#32
  let v618 : BitVec 1 := Scalar.cmpi .slt c21_i32_309 c0_i32_313
  let v619 : BitVec 32 := Scalar.extui v618
  let v620 : BitVec 32 := Scalar.subi v617 v619
  let v621 : BitVec 1 := Scalar.cmpi .ne v615 v620
  let v622 : BitVec 32 := Scalar.remsi v558 c21_i32_309
  let c0_i32_314 : BitVec 32 := 0#32
  let v623 : BitVec 1 := Scalar.cmpi .ne v622 c0_i32_314
  let v624 : BitVec 1 := Scalar.andi v621 v623
  let v610 : BitVec 32 := Scalar.divsi v558 c21_i32_309
  let c1_i32_315 : BitVec 32 := 1#32
  let v625 : BitVec 32 := Scalar.subi v610 c1_i32_315
  let v626 : BitVec 32 := Scalar.select v624 v625 v610
  let c0_i32_330 : BitVec 32 := 0#32
  let v650 : BitVec 1 := Scalar.cmpi .sgt v626 c0_i32_330
  let v651 : BitVec 32 := Scalar.extui v650
  let c0_i32_331 : BitVec 32 := 0#32
  let v652 : BitVec 1 := Scalar.cmpi .slt v626 c0_i32_331
  let v653 : BitVec 32 := Scalar.extui v652
  let v654 : BitVec 32 := Scalar.subi v651 v653
  let c4_i32_329 : BitVec 32 := 4#32
  let c0_i32_332 : BitVec 32 := 0#32
  let v655 : BitVec 1 := Scalar.cmpi .sgt c4_i32_329 c0_i32_332
  let v656 : BitVec 32 := Scalar.extui v655
  let c0_i32_333 : BitVec 32 := 0#32
  let v657 : BitVec 1 := Scalar.cmpi .slt c4_i32_329 c0_i32_333
  let v658 : BitVec 32 := Scalar.extui v657
  let v659 : BitVec 32 := Scalar.subi v656 v658
  let v660 : BitVec 1 := Scalar.cmpi .ne v654 v659
  let v661 : BitVec 32 := Scalar.remsi v626 c4_i32_329
  let c0_i32_334 : BitVec 32 := 0#32
  let v662 : BitVec 1 := Scalar.cmpi .ne v661 c0_i32_334
  let v663 : BitVec 1 := Scalar.andi v660 v662
  let v649 : BitVec 32 := Scalar.divsi v626 c4_i32_329
  let c1_i32_335 : BitVec 32 := 1#32
  let v664 : BitVec 32 := Scalar.subi v649 c1_i32_335
  let v665 : BitVec 32 := Scalar.select v663 v664 v649
  let c0_i32_378 : BitVec 32 := 0#32
  let c21_i32_316 : BitVec 32 := 21#32
  let c0_i32_317 : BitVec 32 := 0#32
  let v627 : BitVec 1 := Scalar.cmpi .eq c21_i32_316 c0_i32_317
  let c1_i32_318 : BitVec 32 := 1#32
  let v628 : BitVec 32 := Scalar.select v627 c1_i32_318 c21_i32_316
  let v629 : BitVec 32 := Scalar.remsi v558 v628
  let c0_i32_320 : BitVec 32 := 0#32
  let v631 : BitVec 1 := Scalar.cmpi .slt v629 c0_i32_320
  let c0_i32_321 : BitVec 32 := 0#32
  let v632 : BitVec 1 := Scalar.cmpi .slt v628 c0_i32_321
  let v633 : BitVec 1 := Scalar.xori v631 v632
  let c0_i32_319 : BitVec 32 := 0#32
  let v630 : BitVec 1 := Scalar.cmpi .ne v629 c0_i32_319
  let v634 : BitVec 1 := Scalar.andi v633 v630
  let v635 : BitVec 32 := Scalar.addi v629 v628
  let v636 : BitVec 32 := Scalar.select v634 v635 v629
  let c4_i32_322 : BitVec 32 := 4#32
  let v637 : BitVec 32 := Scalar.muli v636 c4_i32_322
  let c4_i32_323 : BitVec 32 := 4#32
  let c0_i32_324 : BitVec 32 := 0#32
  let v638 : BitVec 1 := Scalar.cmpi .eq c4_i32_323 c0_i32_324
  let c1_i32_325 : BitVec 32 := 1#32
  let v639 : BitVec 32 := Scalar.select v638 c1_i32_325 c4_i32_323
  let v640 : BitVec 32 := Scalar.remsi v626 v639
  let c0_i32_327 : BitVec 32 := 0#32
  let v642 : BitVec 1 := Scalar.cmpi .slt v640 c0_i32_327
  let c0_i32_328 : BitVec 32 := 0#32
  let v643 : BitVec 1 := Scalar.cmpi .slt v639 c0_i32_328
  let v644 : BitVec 1 := Scalar.xori v642 v643
  let c0_i32_326 : BitVec 32 := 0#32
  let v641 : BitVec 1 := Scalar.cmpi .ne v640 c0_i32_326
  let v645 : BitVec 1 := Scalar.andi v644 v641
  let v646 : BitVec 32 := Scalar.addi v640 v639
  let v647 : BitVec 32 := Scalar.select v645 v646 v640
  let v648 : BitVec 32 := Scalar.addi v637 v647
  let c0_i32_381 : BitVec 32 := 0#32
  ![v665.toNat, 0, v648.toNat, 0]
def k0_off68 (i : grid0.Coords) (k0_t5 : Fin (k0_t5_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_277 : BitVec 32 := 2#32
  let c0_i32_59 : BitVec 32 := 0#32
  let c0_i32_60 : BitVec 32 := 0#32
  let c1764_i32 : BitVec 32 := 1764#32
  let v3 : BitVec 32 := Scalar.subi c1764_i32 v1
  let c32_i32 : BitVec 32 := 32#32
  let v4 : BitVec 32 := Scalar.addi v3 c32_i32
  let c1_i32_1 : BitVec 32 := 1#32
  let v5 : BitVec 32 := Scalar.subi v4 c1_i32_1
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c32_i32_2 : BitVec 32 := 32#32
  let c0_i32_5 : BitVec 32 := 0#32
  let v12 : BitVec 1 := Scalar.cmpi .sgt c32_i32_2 c0_i32_5
  let v13 : BitVec 32 := Scalar.extui v12
  let c0_i32_6 : BitVec 32 := 0#32
  let v14 : BitVec 1 := Scalar.cmpi .slt c32_i32_2 c0_i32_6
  let v15 : BitVec 32 := Scalar.extui v14
  let v16 : BitVec 32 := Scalar.subi v13 v15
  let v17 : BitVec 1 := Scalar.cmpi .ne v11 v16
  let v18 : BitVec 32 := Scalar.remsi v5 c32_i32_2
  let c0_i32_7 : BitVec 32 := 0#32
  let v19 : BitVec 1 := Scalar.cmpi .ne v18 c0_i32_7
  let v20 : BitVec 1 := Scalar.andi v17 v19
  let v6 : BitVec 32 := Scalar.divsi v5 c32_i32_2
  let c1_i32_8 : BitVec 32 := 1#32
  let v21 : BitVec 32 := Scalar.subi v6 c1_i32_8
  let v22 : BitVec 32 := Scalar.select v20 v21 v6
  let c1_i32_46 : BitVec 32 := 1#32
  let v95 : BitVec 32 := Scalar.addi v22 c1_i32_46
  let c0_i32_48 : BitVec 32 := 0#32
  let v97 : BitVec 1 := Scalar.cmpi .sgt v95 c0_i32_48
  let v98 : BitVec 32 := Scalar.extui v97
  let c0_i32_49 : BitVec 32 := 0#32
  let v99 : BitVec 1 := Scalar.cmpi .slt v95 c0_i32_49
  let v100 : BitVec 32 := Scalar.extui v99
  let v101 : BitVec 32 := Scalar.subi v98 v100
  let c2_i32_47 : BitVec 32 := 2#32
  let c0_i32_50 : BitVec 32 := 0#32
  let v102 : BitVec 1 := Scalar.cmpi .sgt c2_i32_47 c0_i32_50
  let v103 : BitVec 32 := Scalar.extui v102
  let c0_i32_51 : BitVec 32 := 0#32
  let v104 : BitVec 1 := Scalar.cmpi .slt c2_i32_47 c0_i32_51
  let v105 : BitVec 32 := Scalar.extui v104
  let v106 : BitVec 32 := Scalar.subi v103 v105
  let v107 : BitVec 1 := Scalar.cmpi .ne v101 v106
  let v108 : BitVec 32 := Scalar.remsi v95 c2_i32_47
  let c0_i32_52 : BitVec 32 := 0#32
  let v109 : BitVec 1 := Scalar.cmpi .ne v108 c0_i32_52
  let v110 : BitVec 1 := Scalar.andi v107 v109
  let v96 : BitVec 32 := Scalar.divsi v95 c2_i32_47
  let c1_i32_53 : BitVec 32 := 1#32
  let v111 : BitVec 32 := Scalar.subi v96 c1_i32_53
  let v112 : BitVec 32 := Scalar.select v110 v111 v96
  let c0_i32_54 : BitVec 32 := 0#32
  let v113 : BitVec 32 := Scalar.subi v112 c0_i32_54
  let c1_i32_55 : BitVec 32 := 1#32
  let c1_i32_56 : BitVec 32 := 1#32
  let v114 : BitVec 32 := Scalar.subi c1_i32_55 c1_i32_56
  let v115 : BitVec 32 := Scalar.addi v113 v114
  let c1_i32_57 : BitVec 32 := 1#32
  let v116 : BitVec 32 := Scalar.divsi v115 c1_i32_57
  let v117 : BitVec 32 := Scalar.subi v116 c0_i32_60
  let c1_i32_61 : BitVec 32 := 1#32
  let v119 : BitVec 32 := Scalar.divsi v117 c1_i32_61
  let v120 : BitVec 32 := Scalar.muli v119 c1_i32_61
  let v121 : BitVec 32 := Scalar.addi c0_i32_60 v120
  let c1_i32_63 : BitVec 32 := 1#32
  let arg14 : BitVec 32 := Scf.iv v121 c1_i32_63 k0_t5
  let c1_i32_58 : BitVec 32 := 1#32
  let v553 : BitVec 32 := Scalar.muli arg14 c1_i32_58
  let v554 : BitVec 32 := Scalar.addi c0_i32_59 v553
  let v555 : BitVec 32 := Scalar.muli c2_i32_277 v554
  let c0_i32_278 : BitVec 32 := 0#32
  let v556 : BitVec 32 := Scalar.addi v555 c0_i32_278
  let c32_i32_279 : BitVec 32 := 32#32
  let v557 : BitVec 32 := Scalar.muli v556 c32_i32_279
  let v558 : BitVec 32 := Scalar.addi v1 v557
  let c0_i32_310 : BitVec 32 := 0#32
  let v611 : BitVec 1 := Scalar.cmpi .sgt v558 c0_i32_310
  let v612 : BitVec 32 := Scalar.extui v611
  let c0_i32_311 : BitVec 32 := 0#32
  let v613 : BitVec 1 := Scalar.cmpi .slt v558 c0_i32_311
  let v614 : BitVec 32 := Scalar.extui v613
  let v615 : BitVec 32 := Scalar.subi v612 v614
  let c21_i32_309 : BitVec 32 := 21#32
  let c0_i32_312 : BitVec 32 := 0#32
  let v616 : BitVec 1 := Scalar.cmpi .sgt c21_i32_309 c0_i32_312
  let v617 : BitVec 32 := Scalar.extui v616
  let c0_i32_313 : BitVec 32 := 0#32
  let v618 : BitVec 1 := Scalar.cmpi .slt c21_i32_309 c0_i32_313
  let v619 : BitVec 32 := Scalar.extui v618
  let v620 : BitVec 32 := Scalar.subi v617 v619
  let v621 : BitVec 1 := Scalar.cmpi .ne v615 v620
  let v622 : BitVec 32 := Scalar.remsi v558 c21_i32_309
  let c0_i32_314 : BitVec 32 := 0#32
  let v623 : BitVec 1 := Scalar.cmpi .ne v622 c0_i32_314
  let v624 : BitVec 1 := Scalar.andi v621 v623
  let v610 : BitVec 32 := Scalar.divsi v558 c21_i32_309
  let c1_i32_315 : BitVec 32 := 1#32
  let v625 : BitVec 32 := Scalar.subi v610 c1_i32_315
  let v626 : BitVec 32 := Scalar.select v624 v625 v610
  let c0_i32_337 : BitVec 32 := 0#32
  let v667 : BitVec 1 := Scalar.cmpi .sgt v626 c0_i32_337
  let v668 : BitVec 32 := Scalar.extui v667
  let c0_i32_338 : BitVec 32 := 0#32
  let v669 : BitVec 1 := Scalar.cmpi .slt v626 c0_i32_338
  let v670 : BitVec 32 := Scalar.extui v669
  let v671 : BitVec 32 := Scalar.subi v668 v670
  let c4_i32_336 : BitVec 32 := 4#32
  let c0_i32_339 : BitVec 32 := 0#32
  let v672 : BitVec 1 := Scalar.cmpi .sgt c4_i32_336 c0_i32_339
  let v673 : BitVec 32 := Scalar.extui v672
  let c0_i32_340 : BitVec 32 := 0#32
  let v674 : BitVec 1 := Scalar.cmpi .slt c4_i32_336 c0_i32_340
  let v675 : BitVec 32 := Scalar.extui v674
  let v676 : BitVec 32 := Scalar.subi v673 v675
  let v677 : BitVec 1 := Scalar.cmpi .ne v671 v676
  let v678 : BitVec 32 := Scalar.remsi v626 c4_i32_336
  let c0_i32_341 : BitVec 32 := 0#32
  let v679 : BitVec 1 := Scalar.cmpi .ne v678 c0_i32_341
  let v680 : BitVec 1 := Scalar.andi v677 v679
  let v666 : BitVec 32 := Scalar.divsi v626 c4_i32_336
  let c1_i32_342 : BitVec 32 := 1#32
  let v681 : BitVec 32 := Scalar.subi v666 c1_i32_342
  let v682 : BitVec 32 := Scalar.select v680 v681 v666
  let c1_i32_384 : BitVec 32 := 1#32
  let c21_i32_316 : BitVec 32 := 21#32
  let c0_i32_317 : BitVec 32 := 0#32
  let v627 : BitVec 1 := Scalar.cmpi .eq c21_i32_316 c0_i32_317
  let c1_i32_318 : BitVec 32 := 1#32
  let v628 : BitVec 32 := Scalar.select v627 c1_i32_318 c21_i32_316
  let v629 : BitVec 32 := Scalar.remsi v558 v628
  let c0_i32_320 : BitVec 32 := 0#32
  let v631 : BitVec 1 := Scalar.cmpi .slt v629 c0_i32_320
  let c0_i32_321 : BitVec 32 := 0#32
  let v632 : BitVec 1 := Scalar.cmpi .slt v628 c0_i32_321
  let v633 : BitVec 1 := Scalar.xori v631 v632
  let c0_i32_319 : BitVec 32 := 0#32
  let v630 : BitVec 1 := Scalar.cmpi .ne v629 c0_i32_319
  let v634 : BitVec 1 := Scalar.andi v633 v630
  let v635 : BitVec 32 := Scalar.addi v629 v628
  let v636 : BitVec 32 := Scalar.select v634 v635 v629
  let c4_i32_322 : BitVec 32 := 4#32
  let v637 : BitVec 32 := Scalar.muli v636 c4_i32_322
  let c4_i32_323 : BitVec 32 := 4#32
  let c0_i32_324 : BitVec 32 := 0#32
  let v638 : BitVec 1 := Scalar.cmpi .eq c4_i32_323 c0_i32_324
  let c1_i32_325 : BitVec 32 := 1#32
  let v639 : BitVec 32 := Scalar.select v638 c1_i32_325 c4_i32_323
  let v640 : BitVec 32 := Scalar.remsi v626 v639
  let c0_i32_327 : BitVec 32 := 0#32
  let v642 : BitVec 1 := Scalar.cmpi .slt v640 c0_i32_327
  let c0_i32_328 : BitVec 32 := 0#32
  let v643 : BitVec 1 := Scalar.cmpi .slt v639 c0_i32_328
  let v644 : BitVec 1 := Scalar.xori v642 v643
  let c0_i32_326 : BitVec 32 := 0#32
  let v641 : BitVec 1 := Scalar.cmpi .ne v640 c0_i32_326
  let v645 : BitVec 1 := Scalar.andi v644 v641
  let v646 : BitVec 32 := Scalar.addi v640 v639
  let v647 : BitVec 32 := Scalar.select v645 v646 v640
  let v648 : BitVec 32 := Scalar.addi v637 v647
  let c0_i32_387 : BitVec 32 := 0#32
  ![v682.toNat, 1, v648.toNat, 0]
def k0_off69 (i : grid0.Coords) (k0_t5 : Fin (k0_t5_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_277 : BitVec 32 := 2#32
  let c0_i32_59 : BitVec 32 := 0#32
  let c0_i32_60 : BitVec 32 := 0#32
  let c1764_i32 : BitVec 32 := 1764#32
  let v3 : BitVec 32 := Scalar.subi c1764_i32 v1
  let c32_i32 : BitVec 32 := 32#32
  let v4 : BitVec 32 := Scalar.addi v3 c32_i32
  let c1_i32_1 : BitVec 32 := 1#32
  let v5 : BitVec 32 := Scalar.subi v4 c1_i32_1
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c32_i32_2 : BitVec 32 := 32#32
  let c0_i32_5 : BitVec 32 := 0#32
  let v12 : BitVec 1 := Scalar.cmpi .sgt c32_i32_2 c0_i32_5
  let v13 : BitVec 32 := Scalar.extui v12
  let c0_i32_6 : BitVec 32 := 0#32
  let v14 : BitVec 1 := Scalar.cmpi .slt c32_i32_2 c0_i32_6
  let v15 : BitVec 32 := Scalar.extui v14
  let v16 : BitVec 32 := Scalar.subi v13 v15
  let v17 : BitVec 1 := Scalar.cmpi .ne v11 v16
  let v18 : BitVec 32 := Scalar.remsi v5 c32_i32_2
  let c0_i32_7 : BitVec 32 := 0#32
  let v19 : BitVec 1 := Scalar.cmpi .ne v18 c0_i32_7
  let v20 : BitVec 1 := Scalar.andi v17 v19
  let v6 : BitVec 32 := Scalar.divsi v5 c32_i32_2
  let c1_i32_8 : BitVec 32 := 1#32
  let v21 : BitVec 32 := Scalar.subi v6 c1_i32_8
  let v22 : BitVec 32 := Scalar.select v20 v21 v6
  let c1_i32_46 : BitVec 32 := 1#32
  let v95 : BitVec 32 := Scalar.addi v22 c1_i32_46
  let c0_i32_48 : BitVec 32 := 0#32
  let v97 : BitVec 1 := Scalar.cmpi .sgt v95 c0_i32_48
  let v98 : BitVec 32 := Scalar.extui v97
  let c0_i32_49 : BitVec 32 := 0#32
  let v99 : BitVec 1 := Scalar.cmpi .slt v95 c0_i32_49
  let v100 : BitVec 32 := Scalar.extui v99
  let v101 : BitVec 32 := Scalar.subi v98 v100
  let c2_i32_47 : BitVec 32 := 2#32
  let c0_i32_50 : BitVec 32 := 0#32
  let v102 : BitVec 1 := Scalar.cmpi .sgt c2_i32_47 c0_i32_50
  let v103 : BitVec 32 := Scalar.extui v102
  let c0_i32_51 : BitVec 32 := 0#32
  let v104 : BitVec 1 := Scalar.cmpi .slt c2_i32_47 c0_i32_51
  let v105 : BitVec 32 := Scalar.extui v104
  let v106 : BitVec 32 := Scalar.subi v103 v105
  let v107 : BitVec 1 := Scalar.cmpi .ne v101 v106
  let v108 : BitVec 32 := Scalar.remsi v95 c2_i32_47
  let c0_i32_52 : BitVec 32 := 0#32
  let v109 : BitVec 1 := Scalar.cmpi .ne v108 c0_i32_52
  let v110 : BitVec 1 := Scalar.andi v107 v109
  let v96 : BitVec 32 := Scalar.divsi v95 c2_i32_47
  let c1_i32_53 : BitVec 32 := 1#32
  let v111 : BitVec 32 := Scalar.subi v96 c1_i32_53
  let v112 : BitVec 32 := Scalar.select v110 v111 v96
  let c0_i32_54 : BitVec 32 := 0#32
  let v113 : BitVec 32 := Scalar.subi v112 c0_i32_54
  let c1_i32_55 : BitVec 32 := 1#32
  let c1_i32_56 : BitVec 32 := 1#32
  let v114 : BitVec 32 := Scalar.subi c1_i32_55 c1_i32_56
  let v115 : BitVec 32 := Scalar.addi v113 v114
  let c1_i32_57 : BitVec 32 := 1#32
  let v116 : BitVec 32 := Scalar.divsi v115 c1_i32_57
  let v117 : BitVec 32 := Scalar.subi v116 c0_i32_60
  let c1_i32_61 : BitVec 32 := 1#32
  let v119 : BitVec 32 := Scalar.divsi v117 c1_i32_61
  let v120 : BitVec 32 := Scalar.muli v119 c1_i32_61
  let v121 : BitVec 32 := Scalar.addi c0_i32_60 v120
  let c1_i32_63 : BitVec 32 := 1#32
  let arg14 : BitVec 32 := Scf.iv v121 c1_i32_63 k0_t5
  let c1_i32_58 : BitVec 32 := 1#32
  let v553 : BitVec 32 := Scalar.muli arg14 c1_i32_58
  let v554 : BitVec 32 := Scalar.addi c0_i32_59 v553
  let v555 : BitVec 32 := Scalar.muli c2_i32_277 v554
  let c0_i32_278 : BitVec 32 := 0#32
  let v556 : BitVec 32 := Scalar.addi v555 c0_i32_278
  let c32_i32_279 : BitVec 32 := 32#32
  let v557 : BitVec 32 := Scalar.muli v556 c32_i32_279
  let v558 : BitVec 32 := Scalar.addi v1 v557
  let c0_i32_310 : BitVec 32 := 0#32
  let v611 : BitVec 1 := Scalar.cmpi .sgt v558 c0_i32_310
  let v612 : BitVec 32 := Scalar.extui v611
  let c0_i32_311 : BitVec 32 := 0#32
  let v613 : BitVec 1 := Scalar.cmpi .slt v558 c0_i32_311
  let v614 : BitVec 32 := Scalar.extui v613
  let v615 : BitVec 32 := Scalar.subi v612 v614
  let c21_i32_309 : BitVec 32 := 21#32
  let c0_i32_312 : BitVec 32 := 0#32
  let v616 : BitVec 1 := Scalar.cmpi .sgt c21_i32_309 c0_i32_312
  let v617 : BitVec 32 := Scalar.extui v616
  let c0_i32_313 : BitVec 32 := 0#32
  let v618 : BitVec 1 := Scalar.cmpi .slt c21_i32_309 c0_i32_313
  let v619 : BitVec 32 := Scalar.extui v618
  let v620 : BitVec 32 := Scalar.subi v617 v619
  let v621 : BitVec 1 := Scalar.cmpi .ne v615 v620
  let v622 : BitVec 32 := Scalar.remsi v558 c21_i32_309
  let c0_i32_314 : BitVec 32 := 0#32
  let v623 : BitVec 1 := Scalar.cmpi .ne v622 c0_i32_314
  let v624 : BitVec 1 := Scalar.andi v621 v623
  let v610 : BitVec 32 := Scalar.divsi v558 c21_i32_309
  let c1_i32_315 : BitVec 32 := 1#32
  let v625 : BitVec 32 := Scalar.subi v610 c1_i32_315
  let v626 : BitVec 32 := Scalar.select v624 v625 v610
  let c0_i32_344 : BitVec 32 := 0#32
  let v684 : BitVec 1 := Scalar.cmpi .sgt v626 c0_i32_344
  let v685 : BitVec 32 := Scalar.extui v684
  let c0_i32_345 : BitVec 32 := 0#32
  let v686 : BitVec 1 := Scalar.cmpi .slt v626 c0_i32_345
  let v687 : BitVec 32 := Scalar.extui v686
  let v688 : BitVec 32 := Scalar.subi v685 v687
  let c4_i32_343 : BitVec 32 := 4#32
  let c0_i32_346 : BitVec 32 := 0#32
  let v689 : BitVec 1 := Scalar.cmpi .sgt c4_i32_343 c0_i32_346
  let v690 : BitVec 32 := Scalar.extui v689
  let c0_i32_347 : BitVec 32 := 0#32
  let v691 : BitVec 1 := Scalar.cmpi .slt c4_i32_343 c0_i32_347
  let v692 : BitVec 32 := Scalar.extui v691
  let v693 : BitVec 32 := Scalar.subi v690 v692
  let v694 : BitVec 1 := Scalar.cmpi .ne v688 v693
  let v695 : BitVec 32 := Scalar.remsi v626 c4_i32_343
  let c0_i32_348 : BitVec 32 := 0#32
  let v696 : BitVec 1 := Scalar.cmpi .ne v695 c0_i32_348
  let v697 : BitVec 1 := Scalar.andi v694 v696
  let v683 : BitVec 32 := Scalar.divsi v626 c4_i32_343
  let c1_i32_349 : BitVec 32 := 1#32
  let v698 : BitVec 32 := Scalar.subi v683 c1_i32_349
  let v699 : BitVec 32 := Scalar.select v697 v698 v683
  let c2_i32_390 : BitVec 32 := 2#32
  let c21_i32_316 : BitVec 32 := 21#32
  let c0_i32_317 : BitVec 32 := 0#32
  let v627 : BitVec 1 := Scalar.cmpi .eq c21_i32_316 c0_i32_317
  let c1_i32_318 : BitVec 32 := 1#32
  let v628 : BitVec 32 := Scalar.select v627 c1_i32_318 c21_i32_316
  let v629 : BitVec 32 := Scalar.remsi v558 v628
  let c0_i32_320 : BitVec 32 := 0#32
  let v631 : BitVec 1 := Scalar.cmpi .slt v629 c0_i32_320
  let c0_i32_321 : BitVec 32 := 0#32
  let v632 : BitVec 1 := Scalar.cmpi .slt v628 c0_i32_321
  let v633 : BitVec 1 := Scalar.xori v631 v632
  let c0_i32_319 : BitVec 32 := 0#32
  let v630 : BitVec 1 := Scalar.cmpi .ne v629 c0_i32_319
  let v634 : BitVec 1 := Scalar.andi v633 v630
  let v635 : BitVec 32 := Scalar.addi v629 v628
  let v636 : BitVec 32 := Scalar.select v634 v635 v629
  let c4_i32_322 : BitVec 32 := 4#32
  let v637 : BitVec 32 := Scalar.muli v636 c4_i32_322
  let c4_i32_323 : BitVec 32 := 4#32
  let c0_i32_324 : BitVec 32 := 0#32
  let v638 : BitVec 1 := Scalar.cmpi .eq c4_i32_323 c0_i32_324
  let c1_i32_325 : BitVec 32 := 1#32
  let v639 : BitVec 32 := Scalar.select v638 c1_i32_325 c4_i32_323
  let v640 : BitVec 32 := Scalar.remsi v626 v639
  let c0_i32_327 : BitVec 32 := 0#32
  let v642 : BitVec 1 := Scalar.cmpi .slt v640 c0_i32_327
  let c0_i32_328 : BitVec 32 := 0#32
  let v643 : BitVec 1 := Scalar.cmpi .slt v639 c0_i32_328
  let v644 : BitVec 1 := Scalar.xori v642 v643
  let c0_i32_326 : BitVec 32 := 0#32
  let v641 : BitVec 1 := Scalar.cmpi .ne v640 c0_i32_326
  let v645 : BitVec 1 := Scalar.andi v644 v641
  let v646 : BitVec 32 := Scalar.addi v640 v639
  let v647 : BitVec 32 := Scalar.select v645 v646 v640
  let v648 : BitVec 32 := Scalar.addi v637 v647
  let c0_i32_393 : BitVec 32 := 0#32
  ![v699.toNat, 2, v648.toNat, 0]
def k0_off70 (i : grid0.Coords) (k0_t5 : Fin (k0_t5_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_277 : BitVec 32 := 2#32
  let c0_i32_59 : BitVec 32 := 0#32
  let c0_i32_60 : BitVec 32 := 0#32
  let c1764_i32 : BitVec 32 := 1764#32
  let v3 : BitVec 32 := Scalar.subi c1764_i32 v1
  let c32_i32 : BitVec 32 := 32#32
  let v4 : BitVec 32 := Scalar.addi v3 c32_i32
  let c1_i32_1 : BitVec 32 := 1#32
  let v5 : BitVec 32 := Scalar.subi v4 c1_i32_1
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c32_i32_2 : BitVec 32 := 32#32
  let c0_i32_5 : BitVec 32 := 0#32
  let v12 : BitVec 1 := Scalar.cmpi .sgt c32_i32_2 c0_i32_5
  let v13 : BitVec 32 := Scalar.extui v12
  let c0_i32_6 : BitVec 32 := 0#32
  let v14 : BitVec 1 := Scalar.cmpi .slt c32_i32_2 c0_i32_6
  let v15 : BitVec 32 := Scalar.extui v14
  let v16 : BitVec 32 := Scalar.subi v13 v15
  let v17 : BitVec 1 := Scalar.cmpi .ne v11 v16
  let v18 : BitVec 32 := Scalar.remsi v5 c32_i32_2
  let c0_i32_7 : BitVec 32 := 0#32
  let v19 : BitVec 1 := Scalar.cmpi .ne v18 c0_i32_7
  let v20 : BitVec 1 := Scalar.andi v17 v19
  let v6 : BitVec 32 := Scalar.divsi v5 c32_i32_2
  let c1_i32_8 : BitVec 32 := 1#32
  let v21 : BitVec 32 := Scalar.subi v6 c1_i32_8
  let v22 : BitVec 32 := Scalar.select v20 v21 v6
  let c1_i32_46 : BitVec 32 := 1#32
  let v95 : BitVec 32 := Scalar.addi v22 c1_i32_46
  let c0_i32_48 : BitVec 32 := 0#32
  let v97 : BitVec 1 := Scalar.cmpi .sgt v95 c0_i32_48
  let v98 : BitVec 32 := Scalar.extui v97
  let c0_i32_49 : BitVec 32 := 0#32
  let v99 : BitVec 1 := Scalar.cmpi .slt v95 c0_i32_49
  let v100 : BitVec 32 := Scalar.extui v99
  let v101 : BitVec 32 := Scalar.subi v98 v100
  let c2_i32_47 : BitVec 32 := 2#32
  let c0_i32_50 : BitVec 32 := 0#32
  let v102 : BitVec 1 := Scalar.cmpi .sgt c2_i32_47 c0_i32_50
  let v103 : BitVec 32 := Scalar.extui v102
  let c0_i32_51 : BitVec 32 := 0#32
  let v104 : BitVec 1 := Scalar.cmpi .slt c2_i32_47 c0_i32_51
  let v105 : BitVec 32 := Scalar.extui v104
  let v106 : BitVec 32 := Scalar.subi v103 v105
  let v107 : BitVec 1 := Scalar.cmpi .ne v101 v106
  let v108 : BitVec 32 := Scalar.remsi v95 c2_i32_47
  let c0_i32_52 : BitVec 32 := 0#32
  let v109 : BitVec 1 := Scalar.cmpi .ne v108 c0_i32_52
  let v110 : BitVec 1 := Scalar.andi v107 v109
  let v96 : BitVec 32 := Scalar.divsi v95 c2_i32_47
  let c1_i32_53 : BitVec 32 := 1#32
  let v111 : BitVec 32 := Scalar.subi v96 c1_i32_53
  let v112 : BitVec 32 := Scalar.select v110 v111 v96
  let c0_i32_54 : BitVec 32 := 0#32
  let v113 : BitVec 32 := Scalar.subi v112 c0_i32_54
  let c1_i32_55 : BitVec 32 := 1#32
  let c1_i32_56 : BitVec 32 := 1#32
  let v114 : BitVec 32 := Scalar.subi c1_i32_55 c1_i32_56
  let v115 : BitVec 32 := Scalar.addi v113 v114
  let c1_i32_57 : BitVec 32 := 1#32
  let v116 : BitVec 32 := Scalar.divsi v115 c1_i32_57
  let v117 : BitVec 32 := Scalar.subi v116 c0_i32_60
  let c1_i32_61 : BitVec 32 := 1#32
  let v119 : BitVec 32 := Scalar.divsi v117 c1_i32_61
  let v120 : BitVec 32 := Scalar.muli v119 c1_i32_61
  let v121 : BitVec 32 := Scalar.addi c0_i32_60 v120
  let c1_i32_63 : BitVec 32 := 1#32
  let arg14 : BitVec 32 := Scf.iv v121 c1_i32_63 k0_t5
  let c1_i32_58 : BitVec 32 := 1#32
  let v553 : BitVec 32 := Scalar.muli arg14 c1_i32_58
  let v554 : BitVec 32 := Scalar.addi c0_i32_59 v553
  let v555 : BitVec 32 := Scalar.muli c2_i32_277 v554
  let c0_i32_278 : BitVec 32 := 0#32
  let v556 : BitVec 32 := Scalar.addi v555 c0_i32_278
  let c32_i32_279 : BitVec 32 := 32#32
  let v557 : BitVec 32 := Scalar.muli v556 c32_i32_279
  let v558 : BitVec 32 := Scalar.addi v1 v557
  let c0_i32_310 : BitVec 32 := 0#32
  let v611 : BitVec 1 := Scalar.cmpi .sgt v558 c0_i32_310
  let v612 : BitVec 32 := Scalar.extui v611
  let c0_i32_311 : BitVec 32 := 0#32
  let v613 : BitVec 1 := Scalar.cmpi .slt v558 c0_i32_311
  let v614 : BitVec 32 := Scalar.extui v613
  let v615 : BitVec 32 := Scalar.subi v612 v614
  let c21_i32_309 : BitVec 32 := 21#32
  let c0_i32_312 : BitVec 32 := 0#32
  let v616 : BitVec 1 := Scalar.cmpi .sgt c21_i32_309 c0_i32_312
  let v617 : BitVec 32 := Scalar.extui v616
  let c0_i32_313 : BitVec 32 := 0#32
  let v618 : BitVec 1 := Scalar.cmpi .slt c21_i32_309 c0_i32_313
  let v619 : BitVec 32 := Scalar.extui v618
  let v620 : BitVec 32 := Scalar.subi v617 v619
  let v621 : BitVec 1 := Scalar.cmpi .ne v615 v620
  let v622 : BitVec 32 := Scalar.remsi v558 c21_i32_309
  let c0_i32_314 : BitVec 32 := 0#32
  let v623 : BitVec 1 := Scalar.cmpi .ne v622 c0_i32_314
  let v624 : BitVec 1 := Scalar.andi v621 v623
  let v610 : BitVec 32 := Scalar.divsi v558 c21_i32_309
  let c1_i32_315 : BitVec 32 := 1#32
  let v625 : BitVec 32 := Scalar.subi v610 c1_i32_315
  let v626 : BitVec 32 := Scalar.select v624 v625 v610
  let c0_i32_351 : BitVec 32 := 0#32
  let v701 : BitVec 1 := Scalar.cmpi .sgt v626 c0_i32_351
  let v702 : BitVec 32 := Scalar.extui v701
  let c0_i32_352 : BitVec 32 := 0#32
  let v703 : BitVec 1 := Scalar.cmpi .slt v626 c0_i32_352
  let v704 : BitVec 32 := Scalar.extui v703
  let v705 : BitVec 32 := Scalar.subi v702 v704
  let c4_i32_350 : BitVec 32 := 4#32
  let c0_i32_353 : BitVec 32 := 0#32
  let v706 : BitVec 1 := Scalar.cmpi .sgt c4_i32_350 c0_i32_353
  let v707 : BitVec 32 := Scalar.extui v706
  let c0_i32_354 : BitVec 32 := 0#32
  let v708 : BitVec 1 := Scalar.cmpi .slt c4_i32_350 c0_i32_354
  let v709 : BitVec 32 := Scalar.extui v708
  let v710 : BitVec 32 := Scalar.subi v707 v709
  let v711 : BitVec 1 := Scalar.cmpi .ne v705 v710
  let v712 : BitVec 32 := Scalar.remsi v626 c4_i32_350
  let c0_i32_355 : BitVec 32 := 0#32
  let v713 : BitVec 1 := Scalar.cmpi .ne v712 c0_i32_355
  let v714 : BitVec 1 := Scalar.andi v711 v713
  let v700 : BitVec 32 := Scalar.divsi v626 c4_i32_350
  let c1_i32_356 : BitVec 32 := 1#32
  let v715 : BitVec 32 := Scalar.subi v700 c1_i32_356
  let v716 : BitVec 32 := Scalar.select v714 v715 v700
  let c3_i32_396 : BitVec 32 := 3#32
  let c21_i32_316 : BitVec 32 := 21#32
  let c0_i32_317 : BitVec 32 := 0#32
  let v627 : BitVec 1 := Scalar.cmpi .eq c21_i32_316 c0_i32_317
  let c1_i32_318 : BitVec 32 := 1#32
  let v628 : BitVec 32 := Scalar.select v627 c1_i32_318 c21_i32_316
  let v629 : BitVec 32 := Scalar.remsi v558 v628
  let c0_i32_320 : BitVec 32 := 0#32
  let v631 : BitVec 1 := Scalar.cmpi .slt v629 c0_i32_320
  let c0_i32_321 : BitVec 32 := 0#32
  let v632 : BitVec 1 := Scalar.cmpi .slt v628 c0_i32_321
  let v633 : BitVec 1 := Scalar.xori v631 v632
  let c0_i32_319 : BitVec 32 := 0#32
  let v630 : BitVec 1 := Scalar.cmpi .ne v629 c0_i32_319
  let v634 : BitVec 1 := Scalar.andi v633 v630
  let v635 : BitVec 32 := Scalar.addi v629 v628
  let v636 : BitVec 32 := Scalar.select v634 v635 v629
  let c4_i32_322 : BitVec 32 := 4#32
  let v637 : BitVec 32 := Scalar.muli v636 c4_i32_322
  let c4_i32_323 : BitVec 32 := 4#32
  let c0_i32_324 : BitVec 32 := 0#32
  let v638 : BitVec 1 := Scalar.cmpi .eq c4_i32_323 c0_i32_324
  let c1_i32_325 : BitVec 32 := 1#32
  let v639 : BitVec 32 := Scalar.select v638 c1_i32_325 c4_i32_323
  let v640 : BitVec 32 := Scalar.remsi v626 v639
  let c0_i32_327 : BitVec 32 := 0#32
  let v642 : BitVec 1 := Scalar.cmpi .slt v640 c0_i32_327
  let c0_i32_328 : BitVec 32 := 0#32
  let v643 : BitVec 1 := Scalar.cmpi .slt v639 c0_i32_328
  let v644 : BitVec 1 := Scalar.xori v642 v643
  let c0_i32_326 : BitVec 32 := 0#32
  let v641 : BitVec 1 := Scalar.cmpi .ne v640 c0_i32_326
  let v645 : BitVec 1 := Scalar.andi v644 v641
  let v646 : BitVec 32 := Scalar.addi v640 v639
  let v647 : BitVec 32 := Scalar.select v645 v646 v640
  let v648 : BitVec 32 := Scalar.addi v637 v647
  let c0_i32_399 : BitVec 32 := 0#32
  ![v716.toNat, 3, v648.toNat, 0]
def k0_off71 (i : grid0.Coords) (k0_t5 : Fin (k0_t5_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_277 : BitVec 32 := 2#32
  let c0_i32_59 : BitVec 32 := 0#32
  let c0_i32_60 : BitVec 32 := 0#32
  let c1764_i32 : BitVec 32 := 1764#32
  let v3 : BitVec 32 := Scalar.subi c1764_i32 v1
  let c32_i32 : BitVec 32 := 32#32
  let v4 : BitVec 32 := Scalar.addi v3 c32_i32
  let c1_i32_1 : BitVec 32 := 1#32
  let v5 : BitVec 32 := Scalar.subi v4 c1_i32_1
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c32_i32_2 : BitVec 32 := 32#32
  let c0_i32_5 : BitVec 32 := 0#32
  let v12 : BitVec 1 := Scalar.cmpi .sgt c32_i32_2 c0_i32_5
  let v13 : BitVec 32 := Scalar.extui v12
  let c0_i32_6 : BitVec 32 := 0#32
  let v14 : BitVec 1 := Scalar.cmpi .slt c32_i32_2 c0_i32_6
  let v15 : BitVec 32 := Scalar.extui v14
  let v16 : BitVec 32 := Scalar.subi v13 v15
  let v17 : BitVec 1 := Scalar.cmpi .ne v11 v16
  let v18 : BitVec 32 := Scalar.remsi v5 c32_i32_2
  let c0_i32_7 : BitVec 32 := 0#32
  let v19 : BitVec 1 := Scalar.cmpi .ne v18 c0_i32_7
  let v20 : BitVec 1 := Scalar.andi v17 v19
  let v6 : BitVec 32 := Scalar.divsi v5 c32_i32_2
  let c1_i32_8 : BitVec 32 := 1#32
  let v21 : BitVec 32 := Scalar.subi v6 c1_i32_8
  let v22 : BitVec 32 := Scalar.select v20 v21 v6
  let c1_i32_46 : BitVec 32 := 1#32
  let v95 : BitVec 32 := Scalar.addi v22 c1_i32_46
  let c0_i32_48 : BitVec 32 := 0#32
  let v97 : BitVec 1 := Scalar.cmpi .sgt v95 c0_i32_48
  let v98 : BitVec 32 := Scalar.extui v97
  let c0_i32_49 : BitVec 32 := 0#32
  let v99 : BitVec 1 := Scalar.cmpi .slt v95 c0_i32_49
  let v100 : BitVec 32 := Scalar.extui v99
  let v101 : BitVec 32 := Scalar.subi v98 v100
  let c2_i32_47 : BitVec 32 := 2#32
  let c0_i32_50 : BitVec 32 := 0#32
  let v102 : BitVec 1 := Scalar.cmpi .sgt c2_i32_47 c0_i32_50
  let v103 : BitVec 32 := Scalar.extui v102
  let c0_i32_51 : BitVec 32 := 0#32
  let v104 : BitVec 1 := Scalar.cmpi .slt c2_i32_47 c0_i32_51
  let v105 : BitVec 32 := Scalar.extui v104
  let v106 : BitVec 32 := Scalar.subi v103 v105
  let v107 : BitVec 1 := Scalar.cmpi .ne v101 v106
  let v108 : BitVec 32 := Scalar.remsi v95 c2_i32_47
  let c0_i32_52 : BitVec 32 := 0#32
  let v109 : BitVec 1 := Scalar.cmpi .ne v108 c0_i32_52
  let v110 : BitVec 1 := Scalar.andi v107 v109
  let v96 : BitVec 32 := Scalar.divsi v95 c2_i32_47
  let c1_i32_53 : BitVec 32 := 1#32
  let v111 : BitVec 32 := Scalar.subi v96 c1_i32_53
  let v112 : BitVec 32 := Scalar.select v110 v111 v96
  let c0_i32_54 : BitVec 32 := 0#32
  let v113 : BitVec 32 := Scalar.subi v112 c0_i32_54
  let c1_i32_55 : BitVec 32 := 1#32
  let c1_i32_56 : BitVec 32 := 1#32
  let v114 : BitVec 32 := Scalar.subi c1_i32_55 c1_i32_56
  let v115 : BitVec 32 := Scalar.addi v113 v114
  let c1_i32_57 : BitVec 32 := 1#32
  let v116 : BitVec 32 := Scalar.divsi v115 c1_i32_57
  let v117 : BitVec 32 := Scalar.subi v116 c0_i32_60
  let c1_i32_61 : BitVec 32 := 1#32
  let v119 : BitVec 32 := Scalar.divsi v117 c1_i32_61
  let v120 : BitVec 32 := Scalar.muli v119 c1_i32_61
  let v121 : BitVec 32 := Scalar.addi c0_i32_60 v120
  let c1_i32_63 : BitVec 32 := 1#32
  let arg14 : BitVec 32 := Scf.iv v121 c1_i32_63 k0_t5
  let c1_i32_58 : BitVec 32 := 1#32
  let v553 : BitVec 32 := Scalar.muli arg14 c1_i32_58
  let v554 : BitVec 32 := Scalar.addi c0_i32_59 v553
  let v555 : BitVec 32 := Scalar.muli c2_i32_277 v554
  let c0_i32_278 : BitVec 32 := 0#32
  let v556 : BitVec 32 := Scalar.addi v555 c0_i32_278
  let c32_i32_279 : BitVec 32 := 32#32
  let v557 : BitVec 32 := Scalar.muli v556 c32_i32_279
  let v558 : BitVec 32 := Scalar.addi v1 v557
  let c0_i32_310 : BitVec 32 := 0#32
  let v611 : BitVec 1 := Scalar.cmpi .sgt v558 c0_i32_310
  let v612 : BitVec 32 := Scalar.extui v611
  let c0_i32_311 : BitVec 32 := 0#32
  let v613 : BitVec 1 := Scalar.cmpi .slt v558 c0_i32_311
  let v614 : BitVec 32 := Scalar.extui v613
  let v615 : BitVec 32 := Scalar.subi v612 v614
  let c21_i32_309 : BitVec 32 := 21#32
  let c0_i32_312 : BitVec 32 := 0#32
  let v616 : BitVec 1 := Scalar.cmpi .sgt c21_i32_309 c0_i32_312
  let v617 : BitVec 32 := Scalar.extui v616
  let c0_i32_313 : BitVec 32 := 0#32
  let v618 : BitVec 1 := Scalar.cmpi .slt c21_i32_309 c0_i32_313
  let v619 : BitVec 32 := Scalar.extui v618
  let v620 : BitVec 32 := Scalar.subi v617 v619
  let v621 : BitVec 1 := Scalar.cmpi .ne v615 v620
  let v622 : BitVec 32 := Scalar.remsi v558 c21_i32_309
  let c0_i32_314 : BitVec 32 := 0#32
  let v623 : BitVec 1 := Scalar.cmpi .ne v622 c0_i32_314
  let v624 : BitVec 1 := Scalar.andi v621 v623
  let v610 : BitVec 32 := Scalar.divsi v558 c21_i32_309
  let c1_i32_315 : BitVec 32 := 1#32
  let v625 : BitVec 32 := Scalar.subi v610 c1_i32_315
  let v626 : BitVec 32 := Scalar.select v624 v625 v610
  let c0_i32_358 : BitVec 32 := 0#32
  let v718 : BitVec 1 := Scalar.cmpi .sgt v626 c0_i32_358
  let v719 : BitVec 32 := Scalar.extui v718
  let c0_i32_359 : BitVec 32 := 0#32
  let v720 : BitVec 1 := Scalar.cmpi .slt v626 c0_i32_359
  let v721 : BitVec 32 := Scalar.extui v720
  let v722 : BitVec 32 := Scalar.subi v719 v721
  let c4_i32_357 : BitVec 32 := 4#32
  let c0_i32_360 : BitVec 32 := 0#32
  let v723 : BitVec 1 := Scalar.cmpi .sgt c4_i32_357 c0_i32_360
  let v724 : BitVec 32 := Scalar.extui v723
  let c0_i32_361 : BitVec 32 := 0#32
  let v725 : BitVec 1 := Scalar.cmpi .slt c4_i32_357 c0_i32_361
  let v726 : BitVec 32 := Scalar.extui v725
  let v727 : BitVec 32 := Scalar.subi v724 v726
  let v728 : BitVec 1 := Scalar.cmpi .ne v722 v727
  let v729 : BitVec 32 := Scalar.remsi v626 c4_i32_357
  let c0_i32_362 : BitVec 32 := 0#32
  let v730 : BitVec 1 := Scalar.cmpi .ne v729 c0_i32_362
  let v731 : BitVec 1 := Scalar.andi v728 v730
  let v717 : BitVec 32 := Scalar.divsi v626 c4_i32_357
  let c1_i32_363 : BitVec 32 := 1#32
  let v732 : BitVec 32 := Scalar.subi v717 c1_i32_363
  let v733 : BitVec 32 := Scalar.select v731 v732 v717
  let c4_i32_402 : BitVec 32 := 4#32
  let c21_i32_316 : BitVec 32 := 21#32
  let c0_i32_317 : BitVec 32 := 0#32
  let v627 : BitVec 1 := Scalar.cmpi .eq c21_i32_316 c0_i32_317
  let c1_i32_318 : BitVec 32 := 1#32
  let v628 : BitVec 32 := Scalar.select v627 c1_i32_318 c21_i32_316
  let v629 : BitVec 32 := Scalar.remsi v558 v628
  let c0_i32_320 : BitVec 32 := 0#32
  let v631 : BitVec 1 := Scalar.cmpi .slt v629 c0_i32_320
  let c0_i32_321 : BitVec 32 := 0#32
  let v632 : BitVec 1 := Scalar.cmpi .slt v628 c0_i32_321
  let v633 : BitVec 1 := Scalar.xori v631 v632
  let c0_i32_319 : BitVec 32 := 0#32
  let v630 : BitVec 1 := Scalar.cmpi .ne v629 c0_i32_319
  let v634 : BitVec 1 := Scalar.andi v633 v630
  let v635 : BitVec 32 := Scalar.addi v629 v628
  let v636 : BitVec 32 := Scalar.select v634 v635 v629
  let c4_i32_322 : BitVec 32 := 4#32
  let v637 : BitVec 32 := Scalar.muli v636 c4_i32_322
  let c4_i32_323 : BitVec 32 := 4#32
  let c0_i32_324 : BitVec 32 := 0#32
  let v638 : BitVec 1 := Scalar.cmpi .eq c4_i32_323 c0_i32_324
  let c1_i32_325 : BitVec 32 := 1#32
  let v639 : BitVec 32 := Scalar.select v638 c1_i32_325 c4_i32_323
  let v640 : BitVec 32 := Scalar.remsi v626 v639
  let c0_i32_327 : BitVec 32 := 0#32
  let v642 : BitVec 1 := Scalar.cmpi .slt v640 c0_i32_327
  let c0_i32_328 : BitVec 32 := 0#32
  let v643 : BitVec 1 := Scalar.cmpi .slt v639 c0_i32_328
  let v644 : BitVec 1 := Scalar.xori v642 v643
  let c0_i32_326 : BitVec 32 := 0#32
  let v641 : BitVec 1 := Scalar.cmpi .ne v640 c0_i32_326
  let v645 : BitVec 1 := Scalar.andi v644 v641
  let v646 : BitVec 32 := Scalar.addi v640 v639
  let v647 : BitVec 32 := Scalar.select v645 v646 v640
  let v648 : BitVec 32 := Scalar.addi v637 v647
  let c0_i32_405 : BitVec 32 := 0#32
  ![v733.toNat, 4, v648.toNat, 0]
def k0_off72 (i : grid0.Coords) (k0_t5 : Fin (k0_t5_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_277 : BitVec 32 := 2#32
  let c0_i32_59 : BitVec 32 := 0#32
  let c0_i32_60 : BitVec 32 := 0#32
  let c1764_i32 : BitVec 32 := 1764#32
  let v3 : BitVec 32 := Scalar.subi c1764_i32 v1
  let c32_i32 : BitVec 32 := 32#32
  let v4 : BitVec 32 := Scalar.addi v3 c32_i32
  let c1_i32_1 : BitVec 32 := 1#32
  let v5 : BitVec 32 := Scalar.subi v4 c1_i32_1
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c32_i32_2 : BitVec 32 := 32#32
  let c0_i32_5 : BitVec 32 := 0#32
  let v12 : BitVec 1 := Scalar.cmpi .sgt c32_i32_2 c0_i32_5
  let v13 : BitVec 32 := Scalar.extui v12
  let c0_i32_6 : BitVec 32 := 0#32
  let v14 : BitVec 1 := Scalar.cmpi .slt c32_i32_2 c0_i32_6
  let v15 : BitVec 32 := Scalar.extui v14
  let v16 : BitVec 32 := Scalar.subi v13 v15
  let v17 : BitVec 1 := Scalar.cmpi .ne v11 v16
  let v18 : BitVec 32 := Scalar.remsi v5 c32_i32_2
  let c0_i32_7 : BitVec 32 := 0#32
  let v19 : BitVec 1 := Scalar.cmpi .ne v18 c0_i32_7
  let v20 : BitVec 1 := Scalar.andi v17 v19
  let v6 : BitVec 32 := Scalar.divsi v5 c32_i32_2
  let c1_i32_8 : BitVec 32 := 1#32
  let v21 : BitVec 32 := Scalar.subi v6 c1_i32_8
  let v22 : BitVec 32 := Scalar.select v20 v21 v6
  let c1_i32_46 : BitVec 32 := 1#32
  let v95 : BitVec 32 := Scalar.addi v22 c1_i32_46
  let c0_i32_48 : BitVec 32 := 0#32
  let v97 : BitVec 1 := Scalar.cmpi .sgt v95 c0_i32_48
  let v98 : BitVec 32 := Scalar.extui v97
  let c0_i32_49 : BitVec 32 := 0#32
  let v99 : BitVec 1 := Scalar.cmpi .slt v95 c0_i32_49
  let v100 : BitVec 32 := Scalar.extui v99
  let v101 : BitVec 32 := Scalar.subi v98 v100
  let c2_i32_47 : BitVec 32 := 2#32
  let c0_i32_50 : BitVec 32 := 0#32
  let v102 : BitVec 1 := Scalar.cmpi .sgt c2_i32_47 c0_i32_50
  let v103 : BitVec 32 := Scalar.extui v102
  let c0_i32_51 : BitVec 32 := 0#32
  let v104 : BitVec 1 := Scalar.cmpi .slt c2_i32_47 c0_i32_51
  let v105 : BitVec 32 := Scalar.extui v104
  let v106 : BitVec 32 := Scalar.subi v103 v105
  let v107 : BitVec 1 := Scalar.cmpi .ne v101 v106
  let v108 : BitVec 32 := Scalar.remsi v95 c2_i32_47
  let c0_i32_52 : BitVec 32 := 0#32
  let v109 : BitVec 1 := Scalar.cmpi .ne v108 c0_i32_52
  let v110 : BitVec 1 := Scalar.andi v107 v109
  let v96 : BitVec 32 := Scalar.divsi v95 c2_i32_47
  let c1_i32_53 : BitVec 32 := 1#32
  let v111 : BitVec 32 := Scalar.subi v96 c1_i32_53
  let v112 : BitVec 32 := Scalar.select v110 v111 v96
  let c0_i32_54 : BitVec 32 := 0#32
  let v113 : BitVec 32 := Scalar.subi v112 c0_i32_54
  let c1_i32_55 : BitVec 32 := 1#32
  let c1_i32_56 : BitVec 32 := 1#32
  let v114 : BitVec 32 := Scalar.subi c1_i32_55 c1_i32_56
  let v115 : BitVec 32 := Scalar.addi v113 v114
  let c1_i32_57 : BitVec 32 := 1#32
  let v116 : BitVec 32 := Scalar.divsi v115 c1_i32_57
  let v117 : BitVec 32 := Scalar.subi v116 c0_i32_60
  let c1_i32_61 : BitVec 32 := 1#32
  let v119 : BitVec 32 := Scalar.divsi v117 c1_i32_61
  let v120 : BitVec 32 := Scalar.muli v119 c1_i32_61
  let v121 : BitVec 32 := Scalar.addi c0_i32_60 v120
  let c1_i32_63 : BitVec 32 := 1#32
  let arg14 : BitVec 32 := Scf.iv v121 c1_i32_63 k0_t5
  let c1_i32_58 : BitVec 32 := 1#32
  let v553 : BitVec 32 := Scalar.muli arg14 c1_i32_58
  let v554 : BitVec 32 := Scalar.addi c0_i32_59 v553
  let v555 : BitVec 32 := Scalar.muli c2_i32_277 v554
  let c0_i32_278 : BitVec 32 := 0#32
  let v556 : BitVec 32 := Scalar.addi v555 c0_i32_278
  let c32_i32_279 : BitVec 32 := 32#32
  let v557 : BitVec 32 := Scalar.muli v556 c32_i32_279
  let v558 : BitVec 32 := Scalar.addi v1 v557
  let c0_i32_310 : BitVec 32 := 0#32
  let v611 : BitVec 1 := Scalar.cmpi .sgt v558 c0_i32_310
  let v612 : BitVec 32 := Scalar.extui v611
  let c0_i32_311 : BitVec 32 := 0#32
  let v613 : BitVec 1 := Scalar.cmpi .slt v558 c0_i32_311
  let v614 : BitVec 32 := Scalar.extui v613
  let v615 : BitVec 32 := Scalar.subi v612 v614
  let c21_i32_309 : BitVec 32 := 21#32
  let c0_i32_312 : BitVec 32 := 0#32
  let v616 : BitVec 1 := Scalar.cmpi .sgt c21_i32_309 c0_i32_312
  let v617 : BitVec 32 := Scalar.extui v616
  let c0_i32_313 : BitVec 32 := 0#32
  let v618 : BitVec 1 := Scalar.cmpi .slt c21_i32_309 c0_i32_313
  let v619 : BitVec 32 := Scalar.extui v618
  let v620 : BitVec 32 := Scalar.subi v617 v619
  let v621 : BitVec 1 := Scalar.cmpi .ne v615 v620
  let v622 : BitVec 32 := Scalar.remsi v558 c21_i32_309
  let c0_i32_314 : BitVec 32 := 0#32
  let v623 : BitVec 1 := Scalar.cmpi .ne v622 c0_i32_314
  let v624 : BitVec 1 := Scalar.andi v621 v623
  let v610 : BitVec 32 := Scalar.divsi v558 c21_i32_309
  let c1_i32_315 : BitVec 32 := 1#32
  let v625 : BitVec 32 := Scalar.subi v610 c1_i32_315
  let v626 : BitVec 32 := Scalar.select v624 v625 v610
  let c0_i32_365 : BitVec 32 := 0#32
  let v735 : BitVec 1 := Scalar.cmpi .sgt v626 c0_i32_365
  let v736 : BitVec 32 := Scalar.extui v735
  let c0_i32_366 : BitVec 32 := 0#32
  let v737 : BitVec 1 := Scalar.cmpi .slt v626 c0_i32_366
  let v738 : BitVec 32 := Scalar.extui v737
  let v739 : BitVec 32 := Scalar.subi v736 v738
  let c4_i32_364 : BitVec 32 := 4#32
  let c0_i32_367 : BitVec 32 := 0#32
  let v740 : BitVec 1 := Scalar.cmpi .sgt c4_i32_364 c0_i32_367
  let v741 : BitVec 32 := Scalar.extui v740
  let c0_i32_368 : BitVec 32 := 0#32
  let v742 : BitVec 1 := Scalar.cmpi .slt c4_i32_364 c0_i32_368
  let v743 : BitVec 32 := Scalar.extui v742
  let v744 : BitVec 32 := Scalar.subi v741 v743
  let v745 : BitVec 1 := Scalar.cmpi .ne v739 v744
  let v746 : BitVec 32 := Scalar.remsi v626 c4_i32_364
  let c0_i32_369 : BitVec 32 := 0#32
  let v747 : BitVec 1 := Scalar.cmpi .ne v746 c0_i32_369
  let v748 : BitVec 1 := Scalar.andi v745 v747
  let v734 : BitVec 32 := Scalar.divsi v626 c4_i32_364
  let c1_i32_370 : BitVec 32 := 1#32
  let v749 : BitVec 32 := Scalar.subi v734 c1_i32_370
  let v750 : BitVec 32 := Scalar.select v748 v749 v734
  let c5_i32_408 : BitVec 32 := 5#32
  let c21_i32_316 : BitVec 32 := 21#32
  let c0_i32_317 : BitVec 32 := 0#32
  let v627 : BitVec 1 := Scalar.cmpi .eq c21_i32_316 c0_i32_317
  let c1_i32_318 : BitVec 32 := 1#32
  let v628 : BitVec 32 := Scalar.select v627 c1_i32_318 c21_i32_316
  let v629 : BitVec 32 := Scalar.remsi v558 v628
  let c0_i32_320 : BitVec 32 := 0#32
  let v631 : BitVec 1 := Scalar.cmpi .slt v629 c0_i32_320
  let c0_i32_321 : BitVec 32 := 0#32
  let v632 : BitVec 1 := Scalar.cmpi .slt v628 c0_i32_321
  let v633 : BitVec 1 := Scalar.xori v631 v632
  let c0_i32_319 : BitVec 32 := 0#32
  let v630 : BitVec 1 := Scalar.cmpi .ne v629 c0_i32_319
  let v634 : BitVec 1 := Scalar.andi v633 v630
  let v635 : BitVec 32 := Scalar.addi v629 v628
  let v636 : BitVec 32 := Scalar.select v634 v635 v629
  let c4_i32_322 : BitVec 32 := 4#32
  let v637 : BitVec 32 := Scalar.muli v636 c4_i32_322
  let c4_i32_323 : BitVec 32 := 4#32
  let c0_i32_324 : BitVec 32 := 0#32
  let v638 : BitVec 1 := Scalar.cmpi .eq c4_i32_323 c0_i32_324
  let c1_i32_325 : BitVec 32 := 1#32
  let v639 : BitVec 32 := Scalar.select v638 c1_i32_325 c4_i32_323
  let v640 : BitVec 32 := Scalar.remsi v626 v639
  let c0_i32_327 : BitVec 32 := 0#32
  let v642 : BitVec 1 := Scalar.cmpi .slt v640 c0_i32_327
  let c0_i32_328 : BitVec 32 := 0#32
  let v643 : BitVec 1 := Scalar.cmpi .slt v639 c0_i32_328
  let v644 : BitVec 1 := Scalar.xori v642 v643
  let c0_i32_326 : BitVec 32 := 0#32
  let v641 : BitVec 1 := Scalar.cmpi .ne v640 c0_i32_326
  let v645 : BitVec 1 := Scalar.andi v644 v641
  let v646 : BitVec 32 := Scalar.addi v640 v639
  let v647 : BitVec 32 := Scalar.select v645 v646 v640
  let v648 : BitVec 32 := Scalar.addi v637 v647
  let c0_i32_411 : BitVec 32 := 0#32
  ![v750.toNat, 5, v648.toNat, 0]
def k0_off73 (i : grid0.Coords) (k0_t5 : Fin (k0_t5_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_277 : BitVec 32 := 2#32
  let c0_i32_59 : BitVec 32 := 0#32
  let c0_i32_60 : BitVec 32 := 0#32
  let c1764_i32 : BitVec 32 := 1764#32
  let v3 : BitVec 32 := Scalar.subi c1764_i32 v1
  let c32_i32 : BitVec 32 := 32#32
  let v4 : BitVec 32 := Scalar.addi v3 c32_i32
  let c1_i32_1 : BitVec 32 := 1#32
  let v5 : BitVec 32 := Scalar.subi v4 c1_i32_1
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c32_i32_2 : BitVec 32 := 32#32
  let c0_i32_5 : BitVec 32 := 0#32
  let v12 : BitVec 1 := Scalar.cmpi .sgt c32_i32_2 c0_i32_5
  let v13 : BitVec 32 := Scalar.extui v12
  let c0_i32_6 : BitVec 32 := 0#32
  let v14 : BitVec 1 := Scalar.cmpi .slt c32_i32_2 c0_i32_6
  let v15 : BitVec 32 := Scalar.extui v14
  let v16 : BitVec 32 := Scalar.subi v13 v15
  let v17 : BitVec 1 := Scalar.cmpi .ne v11 v16
  let v18 : BitVec 32 := Scalar.remsi v5 c32_i32_2
  let c0_i32_7 : BitVec 32 := 0#32
  let v19 : BitVec 1 := Scalar.cmpi .ne v18 c0_i32_7
  let v20 : BitVec 1 := Scalar.andi v17 v19
  let v6 : BitVec 32 := Scalar.divsi v5 c32_i32_2
  let c1_i32_8 : BitVec 32 := 1#32
  let v21 : BitVec 32 := Scalar.subi v6 c1_i32_8
  let v22 : BitVec 32 := Scalar.select v20 v21 v6
  let c1_i32_46 : BitVec 32 := 1#32
  let v95 : BitVec 32 := Scalar.addi v22 c1_i32_46
  let c0_i32_48 : BitVec 32 := 0#32
  let v97 : BitVec 1 := Scalar.cmpi .sgt v95 c0_i32_48
  let v98 : BitVec 32 := Scalar.extui v97
  let c0_i32_49 : BitVec 32 := 0#32
  let v99 : BitVec 1 := Scalar.cmpi .slt v95 c0_i32_49
  let v100 : BitVec 32 := Scalar.extui v99
  let v101 : BitVec 32 := Scalar.subi v98 v100
  let c2_i32_47 : BitVec 32 := 2#32
  let c0_i32_50 : BitVec 32 := 0#32
  let v102 : BitVec 1 := Scalar.cmpi .sgt c2_i32_47 c0_i32_50
  let v103 : BitVec 32 := Scalar.extui v102
  let c0_i32_51 : BitVec 32 := 0#32
  let v104 : BitVec 1 := Scalar.cmpi .slt c2_i32_47 c0_i32_51
  let v105 : BitVec 32 := Scalar.extui v104
  let v106 : BitVec 32 := Scalar.subi v103 v105
  let v107 : BitVec 1 := Scalar.cmpi .ne v101 v106
  let v108 : BitVec 32 := Scalar.remsi v95 c2_i32_47
  let c0_i32_52 : BitVec 32 := 0#32
  let v109 : BitVec 1 := Scalar.cmpi .ne v108 c0_i32_52
  let v110 : BitVec 1 := Scalar.andi v107 v109
  let v96 : BitVec 32 := Scalar.divsi v95 c2_i32_47
  let c1_i32_53 : BitVec 32 := 1#32
  let v111 : BitVec 32 := Scalar.subi v96 c1_i32_53
  let v112 : BitVec 32 := Scalar.select v110 v111 v96
  let c0_i32_54 : BitVec 32 := 0#32
  let v113 : BitVec 32 := Scalar.subi v112 c0_i32_54
  let c1_i32_55 : BitVec 32 := 1#32
  let c1_i32_56 : BitVec 32 := 1#32
  let v114 : BitVec 32 := Scalar.subi c1_i32_55 c1_i32_56
  let v115 : BitVec 32 := Scalar.addi v113 v114
  let c1_i32_57 : BitVec 32 := 1#32
  let v116 : BitVec 32 := Scalar.divsi v115 c1_i32_57
  let v117 : BitVec 32 := Scalar.subi v116 c0_i32_60
  let c1_i32_61 : BitVec 32 := 1#32
  let v119 : BitVec 32 := Scalar.divsi v117 c1_i32_61
  let v120 : BitVec 32 := Scalar.muli v119 c1_i32_61
  let v121 : BitVec 32 := Scalar.addi c0_i32_60 v120
  let c1_i32_63 : BitVec 32 := 1#32
  let arg14 : BitVec 32 := Scf.iv v121 c1_i32_63 k0_t5
  let c1_i32_58 : BitVec 32 := 1#32
  let v553 : BitVec 32 := Scalar.muli arg14 c1_i32_58
  let v554 : BitVec 32 := Scalar.addi c0_i32_59 v553
  let v555 : BitVec 32 := Scalar.muli c2_i32_277 v554
  let c0_i32_278 : BitVec 32 := 0#32
  let v556 : BitVec 32 := Scalar.addi v555 c0_i32_278
  let c32_i32_279 : BitVec 32 := 32#32
  let v557 : BitVec 32 := Scalar.muli v556 c32_i32_279
  let v558 : BitVec 32 := Scalar.addi v1 v557
  let c0_i32_310 : BitVec 32 := 0#32
  let v611 : BitVec 1 := Scalar.cmpi .sgt v558 c0_i32_310
  let v612 : BitVec 32 := Scalar.extui v611
  let c0_i32_311 : BitVec 32 := 0#32
  let v613 : BitVec 1 := Scalar.cmpi .slt v558 c0_i32_311
  let v614 : BitVec 32 := Scalar.extui v613
  let v615 : BitVec 32 := Scalar.subi v612 v614
  let c21_i32_309 : BitVec 32 := 21#32
  let c0_i32_312 : BitVec 32 := 0#32
  let v616 : BitVec 1 := Scalar.cmpi .sgt c21_i32_309 c0_i32_312
  let v617 : BitVec 32 := Scalar.extui v616
  let c0_i32_313 : BitVec 32 := 0#32
  let v618 : BitVec 1 := Scalar.cmpi .slt c21_i32_309 c0_i32_313
  let v619 : BitVec 32 := Scalar.extui v618
  let v620 : BitVec 32 := Scalar.subi v617 v619
  let v621 : BitVec 1 := Scalar.cmpi .ne v615 v620
  let v622 : BitVec 32 := Scalar.remsi v558 c21_i32_309
  let c0_i32_314 : BitVec 32 := 0#32
  let v623 : BitVec 1 := Scalar.cmpi .ne v622 c0_i32_314
  let v624 : BitVec 1 := Scalar.andi v621 v623
  let v610 : BitVec 32 := Scalar.divsi v558 c21_i32_309
  let c1_i32_315 : BitVec 32 := 1#32
  let v625 : BitVec 32 := Scalar.subi v610 c1_i32_315
  let v626 : BitVec 32 := Scalar.select v624 v625 v610
  let c0_i32_372 : BitVec 32 := 0#32
  let v752 : BitVec 1 := Scalar.cmpi .sgt v626 c0_i32_372
  let v753 : BitVec 32 := Scalar.extui v752
  let c0_i32_373 : BitVec 32 := 0#32
  let v754 : BitVec 1 := Scalar.cmpi .slt v626 c0_i32_373
  let v755 : BitVec 32 := Scalar.extui v754
  let v756 : BitVec 32 := Scalar.subi v753 v755
  let c4_i32_371 : BitVec 32 := 4#32
  let c0_i32_374 : BitVec 32 := 0#32
  let v757 : BitVec 1 := Scalar.cmpi .sgt c4_i32_371 c0_i32_374
  let v758 : BitVec 32 := Scalar.extui v757
  let c0_i32_375 : BitVec 32 := 0#32
  let v759 : BitVec 1 := Scalar.cmpi .slt c4_i32_371 c0_i32_375
  let v760 : BitVec 32 := Scalar.extui v759
  let v761 : BitVec 32 := Scalar.subi v758 v760
  let v762 : BitVec 1 := Scalar.cmpi .ne v756 v761
  let v763 : BitVec 32 := Scalar.remsi v626 c4_i32_371
  let c0_i32_376 : BitVec 32 := 0#32
  let v764 : BitVec 1 := Scalar.cmpi .ne v763 c0_i32_376
  let v765 : BitVec 1 := Scalar.andi v762 v764
  let v751 : BitVec 32 := Scalar.divsi v626 c4_i32_371
  let c1_i32_377 : BitVec 32 := 1#32
  let v766 : BitVec 32 := Scalar.subi v751 c1_i32_377
  let v767 : BitVec 32 := Scalar.select v765 v766 v751
  let c6_i32_414 : BitVec 32 := 6#32
  let c21_i32_316 : BitVec 32 := 21#32
  let c0_i32_317 : BitVec 32 := 0#32
  let v627 : BitVec 1 := Scalar.cmpi .eq c21_i32_316 c0_i32_317
  let c1_i32_318 : BitVec 32 := 1#32
  let v628 : BitVec 32 := Scalar.select v627 c1_i32_318 c21_i32_316
  let v629 : BitVec 32 := Scalar.remsi v558 v628
  let c0_i32_320 : BitVec 32 := 0#32
  let v631 : BitVec 1 := Scalar.cmpi .slt v629 c0_i32_320
  let c0_i32_321 : BitVec 32 := 0#32
  let v632 : BitVec 1 := Scalar.cmpi .slt v628 c0_i32_321
  let v633 : BitVec 1 := Scalar.xori v631 v632
  let c0_i32_319 : BitVec 32 := 0#32
  let v630 : BitVec 1 := Scalar.cmpi .ne v629 c0_i32_319
  let v634 : BitVec 1 := Scalar.andi v633 v630
  let v635 : BitVec 32 := Scalar.addi v629 v628
  let v636 : BitVec 32 := Scalar.select v634 v635 v629
  let c4_i32_322 : BitVec 32 := 4#32
  let v637 : BitVec 32 := Scalar.muli v636 c4_i32_322
  let c4_i32_323 : BitVec 32 := 4#32
  let c0_i32_324 : BitVec 32 := 0#32
  let v638 : BitVec 1 := Scalar.cmpi .eq c4_i32_323 c0_i32_324
  let c1_i32_325 : BitVec 32 := 1#32
  let v639 : BitVec 32 := Scalar.select v638 c1_i32_325 c4_i32_323
  let v640 : BitVec 32 := Scalar.remsi v626 v639
  let c0_i32_327 : BitVec 32 := 0#32
  let v642 : BitVec 1 := Scalar.cmpi .slt v640 c0_i32_327
  let c0_i32_328 : BitVec 32 := 0#32
  let v643 : BitVec 1 := Scalar.cmpi .slt v639 c0_i32_328
  let v644 : BitVec 1 := Scalar.xori v642 v643
  let c0_i32_326 : BitVec 32 := 0#32
  let v641 : BitVec 1 := Scalar.cmpi .ne v640 c0_i32_326
  let v645 : BitVec 1 := Scalar.andi v644 v641
  let v646 : BitVec 32 := Scalar.addi v640 v639
  let v647 : BitVec 32 := Scalar.select v645 v646 v640
  let v648 : BitVec 32 := Scalar.addi v637 v647
  let c0_i32_417 : BitVec 32 := 0#32
  ![v767.toNat, 6, v648.toNat, 0]
def k0_cond9 (i : grid0.Coords) (k0_t5 : Fin (k0_t5_loop i).trips) : BitVec 1 :=
  let c2_i32_277 : BitVec 32 := 2#32
  let c0_i32_59 : BitVec 32 := 0#32
  let c0_i32_60 : BitVec 32 := 0#32
  let c1764_i32 : BitVec 32 := 1764#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v3 : BitVec 32 := Scalar.subi c1764_i32 v1
  let c32_i32 : BitVec 32 := 32#32
  let v4 : BitVec 32 := Scalar.addi v3 c32_i32
  let c1_i32_1 : BitVec 32 := 1#32
  let v5 : BitVec 32 := Scalar.subi v4 c1_i32_1
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c32_i32_2 : BitVec 32 := 32#32
  let c0_i32_5 : BitVec 32 := 0#32
  let v12 : BitVec 1 := Scalar.cmpi .sgt c32_i32_2 c0_i32_5
  let v13 : BitVec 32 := Scalar.extui v12
  let c0_i32_6 : BitVec 32 := 0#32
  let v14 : BitVec 1 := Scalar.cmpi .slt c32_i32_2 c0_i32_6
  let v15 : BitVec 32 := Scalar.extui v14
  let v16 : BitVec 32 := Scalar.subi v13 v15
  let v17 : BitVec 1 := Scalar.cmpi .ne v11 v16
  let v18 : BitVec 32 := Scalar.remsi v5 c32_i32_2
  let c0_i32_7 : BitVec 32 := 0#32
  let v19 : BitVec 1 := Scalar.cmpi .ne v18 c0_i32_7
  let v20 : BitVec 1 := Scalar.andi v17 v19
  let v6 : BitVec 32 := Scalar.divsi v5 c32_i32_2
  let c1_i32_8 : BitVec 32 := 1#32
  let v21 : BitVec 32 := Scalar.subi v6 c1_i32_8
  let v22 : BitVec 32 := Scalar.select v20 v21 v6
  let c1_i32_46 : BitVec 32 := 1#32
  let v95 : BitVec 32 := Scalar.addi v22 c1_i32_46
  let c0_i32_48 : BitVec 32 := 0#32
  let v97 : BitVec 1 := Scalar.cmpi .sgt v95 c0_i32_48
  let v98 : BitVec 32 := Scalar.extui v97
  let c0_i32_49 : BitVec 32 := 0#32
  let v99 : BitVec 1 := Scalar.cmpi .slt v95 c0_i32_49
  let v100 : BitVec 32 := Scalar.extui v99
  let v101 : BitVec 32 := Scalar.subi v98 v100
  let c2_i32_47 : BitVec 32 := 2#32
  let c0_i32_50 : BitVec 32 := 0#32
  let v102 : BitVec 1 := Scalar.cmpi .sgt c2_i32_47 c0_i32_50
  let v103 : BitVec 32 := Scalar.extui v102
  let c0_i32_51 : BitVec 32 := 0#32
  let v104 : BitVec 1 := Scalar.cmpi .slt c2_i32_47 c0_i32_51
  let v105 : BitVec 32 := Scalar.extui v104
  let v106 : BitVec 32 := Scalar.subi v103 v105
  let v107 : BitVec 1 := Scalar.cmpi .ne v101 v106
  let v108 : BitVec 32 := Scalar.remsi v95 c2_i32_47
  let c0_i32_52 : BitVec 32 := 0#32
  let v109 : BitVec 1 := Scalar.cmpi .ne v108 c0_i32_52
  let v110 : BitVec 1 := Scalar.andi v107 v109
  let v96 : BitVec 32 := Scalar.divsi v95 c2_i32_47
  let c1_i32_53 : BitVec 32 := 1#32
  let v111 : BitVec 32 := Scalar.subi v96 c1_i32_53
  let v112 : BitVec 32 := Scalar.select v110 v111 v96
  let c0_i32_54 : BitVec 32 := 0#32
  let v113 : BitVec 32 := Scalar.subi v112 c0_i32_54
  let c1_i32_55 : BitVec 32 := 1#32
  let c1_i32_56 : BitVec 32 := 1#32
  let v114 : BitVec 32 := Scalar.subi c1_i32_55 c1_i32_56
  let v115 : BitVec 32 := Scalar.addi v113 v114
  let c1_i32_57 : BitVec 32 := 1#32
  let v116 : BitVec 32 := Scalar.divsi v115 c1_i32_57
  let v117 : BitVec 32 := Scalar.subi v116 c0_i32_60
  let c1_i32_61 : BitVec 32 := 1#32
  let v119 : BitVec 32 := Scalar.divsi v117 c1_i32_61
  let v120 : BitVec 32 := Scalar.muli v119 c1_i32_61
  let v121 : BitVec 32 := Scalar.addi c0_i32_60 v120
  let c1_i32_63 : BitVec 32 := 1#32
  let arg14 : BitVec 32 := Scf.iv v121 c1_i32_63 k0_t5
  let c1_i32_58 : BitVec 32 := 1#32
  let v553 : BitVec 32 := Scalar.muli arg14 c1_i32_58
  let v554 : BitVec 32 := Scalar.addi c0_i32_59 v553
  let v555 : BitVec 32 := Scalar.muli c2_i32_277 v554
  let c0_i32_278 : BitVec 32 := 0#32
  let v556 : BitVec 32 := Scalar.addi v555 c0_i32_278
  let c2_i32_420 : BitVec 32 := 2#32
  let v824 : BitVec 32 := Scalar.addi v556 c2_i32_420
  let v825 : BitVec 1 := Scalar.cmpi .slt v824 v22
  let v826 : BitVec 32 := Scalar.extui v825
  let c0_i32_421 : BitVec 32 := 0#32
  let v827 : BitVec 1 := Scalar.cmpi .ne v826 c0_i32_421
  v827

def k0_off74 (i : grid0.Coords) (k0_t5 : Fin (k0_t5_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_277 : BitVec 32 := 2#32
  let c0_i32_59 : BitVec 32 := 0#32
  let c0_i32_60 : BitVec 32 := 0#32
  let c1764_i32 : BitVec 32 := 1764#32
  let v3 : BitVec 32 := Scalar.subi c1764_i32 v1
  let c32_i32 : BitVec 32 := 32#32
  let v4 : BitVec 32 := Scalar.addi v3 c32_i32
  let c1_i32_1 : BitVec 32 := 1#32
  let v5 : BitVec 32 := Scalar.subi v4 c1_i32_1
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c32_i32_2 : BitVec 32 := 32#32
  let c0_i32_5 : BitVec 32 := 0#32
  let v12 : BitVec 1 := Scalar.cmpi .sgt c32_i32_2 c0_i32_5
  let v13 : BitVec 32 := Scalar.extui v12
  let c0_i32_6 : BitVec 32 := 0#32
  let v14 : BitVec 1 := Scalar.cmpi .slt c32_i32_2 c0_i32_6
  let v15 : BitVec 32 := Scalar.extui v14
  let v16 : BitVec 32 := Scalar.subi v13 v15
  let v17 : BitVec 1 := Scalar.cmpi .ne v11 v16
  let v18 : BitVec 32 := Scalar.remsi v5 c32_i32_2
  let c0_i32_7 : BitVec 32 := 0#32
  let v19 : BitVec 1 := Scalar.cmpi .ne v18 c0_i32_7
  let v20 : BitVec 1 := Scalar.andi v17 v19
  let v6 : BitVec 32 := Scalar.divsi v5 c32_i32_2
  let c1_i32_8 : BitVec 32 := 1#32
  let v21 : BitVec 32 := Scalar.subi v6 c1_i32_8
  let v22 : BitVec 32 := Scalar.select v20 v21 v6
  let c1_i32_46 : BitVec 32 := 1#32
  let v95 : BitVec 32 := Scalar.addi v22 c1_i32_46
  let c0_i32_48 : BitVec 32 := 0#32
  let v97 : BitVec 1 := Scalar.cmpi .sgt v95 c0_i32_48
  let v98 : BitVec 32 := Scalar.extui v97
  let c0_i32_49 : BitVec 32 := 0#32
  let v99 : BitVec 1 := Scalar.cmpi .slt v95 c0_i32_49
  let v100 : BitVec 32 := Scalar.extui v99
  let v101 : BitVec 32 := Scalar.subi v98 v100
  let c2_i32_47 : BitVec 32 := 2#32
  let c0_i32_50 : BitVec 32 := 0#32
  let v102 : BitVec 1 := Scalar.cmpi .sgt c2_i32_47 c0_i32_50
  let v103 : BitVec 32 := Scalar.extui v102
  let c0_i32_51 : BitVec 32 := 0#32
  let v104 : BitVec 1 := Scalar.cmpi .slt c2_i32_47 c0_i32_51
  let v105 : BitVec 32 := Scalar.extui v104
  let v106 : BitVec 32 := Scalar.subi v103 v105
  let v107 : BitVec 1 := Scalar.cmpi .ne v101 v106
  let v108 : BitVec 32 := Scalar.remsi v95 c2_i32_47
  let c0_i32_52 : BitVec 32 := 0#32
  let v109 : BitVec 1 := Scalar.cmpi .ne v108 c0_i32_52
  let v110 : BitVec 1 := Scalar.andi v107 v109
  let v96 : BitVec 32 := Scalar.divsi v95 c2_i32_47
  let c1_i32_53 : BitVec 32 := 1#32
  let v111 : BitVec 32 := Scalar.subi v96 c1_i32_53
  let v112 : BitVec 32 := Scalar.select v110 v111 v96
  let c0_i32_54 : BitVec 32 := 0#32
  let v113 : BitVec 32 := Scalar.subi v112 c0_i32_54
  let c1_i32_55 : BitVec 32 := 1#32
  let c1_i32_56 : BitVec 32 := 1#32
  let v114 : BitVec 32 := Scalar.subi c1_i32_55 c1_i32_56
  let v115 : BitVec 32 := Scalar.addi v113 v114
  let c1_i32_57 : BitVec 32 := 1#32
  let v116 : BitVec 32 := Scalar.divsi v115 c1_i32_57
  let v117 : BitVec 32 := Scalar.subi v116 c0_i32_60
  let c1_i32_61 : BitVec 32 := 1#32
  let v119 : BitVec 32 := Scalar.divsi v117 c1_i32_61
  let v120 : BitVec 32 := Scalar.muli v119 c1_i32_61
  let v121 : BitVec 32 := Scalar.addi c0_i32_60 v120
  let c1_i32_63 : BitVec 32 := 1#32
  let arg14 : BitVec 32 := Scf.iv v121 c1_i32_63 k0_t5
  let c1_i32_58 : BitVec 32 := 1#32
  let v553 : BitVec 32 := Scalar.muli arg14 c1_i32_58
  let v554 : BitVec 32 := Scalar.addi c0_i32_59 v553
  let v555 : BitVec 32 := Scalar.muli c2_i32_277 v554
  let c0_i32_278 : BitVec 32 := 0#32
  let v556 : BitVec 32 := Scalar.addi v555 c0_i32_278
  let c32_i32_279 : BitVec 32 := 32#32
  let v557 : BitVec 32 := Scalar.muli v556 c32_i32_279
  let v558 : BitVec 32 := Scalar.addi v1 v557
  let c64_i32 : BitVec 32 := 64#32
  let v828 : BitVec 32 := Scalar.addi v558 c64_i32
  let c0_i32_423 : BitVec 32 := 0#32
  let v830 : BitVec 1 := Scalar.cmpi .sgt v828 c0_i32_423
  let v831 : BitVec 32 := Scalar.extui v830
  let c0_i32_424 : BitVec 32 := 0#32
  let v832 : BitVec 1 := Scalar.cmpi .slt v828 c0_i32_424
  let v833 : BitVec 32 := Scalar.extui v832
  let v834 : BitVec 32 := Scalar.subi v831 v833
  let c21_i32_422 : BitVec 32 := 21#32
  let c0_i32_425 : BitVec 32 := 0#32
  let v835 : BitVec 1 := Scalar.cmpi .sgt c21_i32_422 c0_i32_425
  let v836 : BitVec 32 := Scalar.extui v835
  let c0_i32_426 : BitVec 32 := 0#32
  let v837 : BitVec 1 := Scalar.cmpi .slt c21_i32_422 c0_i32_426
  let v838 : BitVec 32 := Scalar.extui v837
  let v839 : BitVec 32 := Scalar.subi v836 v838
  let v840 : BitVec 1 := Scalar.cmpi .ne v834 v839
  let v841 : BitVec 32 := Scalar.remsi v828 c21_i32_422
  let c0_i32_427 : BitVec 32 := 0#32
  let v842 : BitVec 1 := Scalar.cmpi .ne v841 c0_i32_427
  let v843 : BitVec 1 := Scalar.andi v840 v842
  let v829 : BitVec 32 := Scalar.divsi v828 c21_i32_422
  let c1_i32_428 : BitVec 32 := 1#32
  let v844 : BitVec 32 := Scalar.subi v829 c1_i32_428
  let v845 : BitVec 32 := Scalar.select v843 v844 v829
  let c21_i32_429 : BitVec 32 := 21#32
  let c0_i32_430 : BitVec 32 := 0#32
  let v846 : BitVec 1 := Scalar.cmpi .eq c21_i32_429 c0_i32_430
  let c1_i32_431 : BitVec 32 := 1#32
  let v847 : BitVec 32 := Scalar.select v846 c1_i32_431 c21_i32_429
  let v848 : BitVec 32 := Scalar.remsi v828 v847
  let c0_i32_433 : BitVec 32 := 0#32
  let v850 : BitVec 1 := Scalar.cmpi .slt v848 c0_i32_433
  let c0_i32_434 : BitVec 32 := 0#32
  let v851 : BitVec 1 := Scalar.cmpi .slt v847 c0_i32_434
  let v852 : BitVec 1 := Scalar.xori v850 v851
  let c0_i32_432 : BitVec 32 := 0#32
  let v849 : BitVec 1 := Scalar.cmpi .ne v848 c0_i32_432
  let v853 : BitVec 1 := Scalar.andi v852 v849
  let v854 : BitVec 32 := Scalar.addi v848 v847
  let v855 : BitVec 32 := Scalar.select v853 v854 v848
  let c0_i32_437 : BitVec 32 := 0#32
  ![v845.toNat, v855.toNat, 0]
def k0_cond10 (i : grid0.Coords) (k0_t5 : Fin (k0_t5_loop i).trips) : BitVec 1 :=
  let c2_i32_281 : BitVec 32 := 2#32
  let c0_i32_59 : BitVec 32 := 0#32
  let c0_i32_60 : BitVec 32 := 0#32
  let c1764_i32 : BitVec 32 := 1764#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v3 : BitVec 32 := Scalar.subi c1764_i32 v1
  let c32_i32 : BitVec 32 := 32#32
  let v4 : BitVec 32 := Scalar.addi v3 c32_i32
  let c1_i32_1 : BitVec 32 := 1#32
  let v5 : BitVec 32 := Scalar.subi v4 c1_i32_1
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c32_i32_2 : BitVec 32 := 32#32
  let c0_i32_5 : BitVec 32 := 0#32
  let v12 : BitVec 1 := Scalar.cmpi .sgt c32_i32_2 c0_i32_5
  let v13 : BitVec 32 := Scalar.extui v12
  let c0_i32_6 : BitVec 32 := 0#32
  let v14 : BitVec 1 := Scalar.cmpi .slt c32_i32_2 c0_i32_6
  let v15 : BitVec 32 := Scalar.extui v14
  let v16 : BitVec 32 := Scalar.subi v13 v15
  let v17 : BitVec 1 := Scalar.cmpi .ne v11 v16
  let v18 : BitVec 32 := Scalar.remsi v5 c32_i32_2
  let c0_i32_7 : BitVec 32 := 0#32
  let v19 : BitVec 1 := Scalar.cmpi .ne v18 c0_i32_7
  let v20 : BitVec 1 := Scalar.andi v17 v19
  let v6 : BitVec 32 := Scalar.divsi v5 c32_i32_2
  let c1_i32_8 : BitVec 32 := 1#32
  let v21 : BitVec 32 := Scalar.subi v6 c1_i32_8
  let v22 : BitVec 32 := Scalar.select v20 v21 v6
  let c1_i32_46 : BitVec 32 := 1#32
  let v95 : BitVec 32 := Scalar.addi v22 c1_i32_46
  let c0_i32_48 : BitVec 32 := 0#32
  let v97 : BitVec 1 := Scalar.cmpi .sgt v95 c0_i32_48
  let v98 : BitVec 32 := Scalar.extui v97
  let c0_i32_49 : BitVec 32 := 0#32
  let v99 : BitVec 1 := Scalar.cmpi .slt v95 c0_i32_49
  let v100 : BitVec 32 := Scalar.extui v99
  let v101 : BitVec 32 := Scalar.subi v98 v100
  let c2_i32_47 : BitVec 32 := 2#32
  let c0_i32_50 : BitVec 32 := 0#32
  let v102 : BitVec 1 := Scalar.cmpi .sgt c2_i32_47 c0_i32_50
  let v103 : BitVec 32 := Scalar.extui v102
  let c0_i32_51 : BitVec 32 := 0#32
  let v104 : BitVec 1 := Scalar.cmpi .slt c2_i32_47 c0_i32_51
  let v105 : BitVec 32 := Scalar.extui v104
  let v106 : BitVec 32 := Scalar.subi v103 v105
  let v107 : BitVec 1 := Scalar.cmpi .ne v101 v106
  let v108 : BitVec 32 := Scalar.remsi v95 c2_i32_47
  let c0_i32_52 : BitVec 32 := 0#32
  let v109 : BitVec 1 := Scalar.cmpi .ne v108 c0_i32_52
  let v110 : BitVec 1 := Scalar.andi v107 v109
  let v96 : BitVec 32 := Scalar.divsi v95 c2_i32_47
  let c1_i32_53 : BitVec 32 := 1#32
  let v111 : BitVec 32 := Scalar.subi v96 c1_i32_53
  let v112 : BitVec 32 := Scalar.select v110 v111 v96
  let c0_i32_54 : BitVec 32 := 0#32
  let v113 : BitVec 32 := Scalar.subi v112 c0_i32_54
  let c1_i32_55 : BitVec 32 := 1#32
  let c1_i32_56 : BitVec 32 := 1#32
  let v114 : BitVec 32 := Scalar.subi c1_i32_55 c1_i32_56
  let v115 : BitVec 32 := Scalar.addi v113 v114
  let c1_i32_57 : BitVec 32 := 1#32
  let v116 : BitVec 32 := Scalar.divsi v115 c1_i32_57
  let v117 : BitVec 32 := Scalar.subi v116 c0_i32_60
  let c1_i32_61 : BitVec 32 := 1#32
  let v119 : BitVec 32 := Scalar.divsi v117 c1_i32_61
  let v120 : BitVec 32 := Scalar.muli v119 c1_i32_61
  let v121 : BitVec 32 := Scalar.addi c0_i32_60 v120
  let c1_i32_63 : BitVec 32 := 1#32
  let arg14 : BitVec 32 := Scf.iv v121 c1_i32_63 k0_t5
  let c1_i32_58 : BitVec 32 := 1#32
  let v553 : BitVec 32 := Scalar.muli arg14 c1_i32_58
  let v554 : BitVec 32 := Scalar.addi c0_i32_59 v553
  let v562 : BitVec 32 := Scalar.muli c2_i32_281 v554
  let c1_i32_282 : BitVec 32 := 1#32
  let v563 : BitVec 32 := Scalar.addi v562 c1_i32_282
  let v566 : BitVec 1 := Scalar.cmpi .slt v563 v22
  let v567 : BitVec 32 := Scalar.extui v566
  let c0_i32_284 : BitVec 32 := 0#32
  let v568 : BitVec 1 := Scalar.cmpi .ne v567 c0_i32_284
  v568

def k0_off75 (i : grid0.Coords) (k0_t5 : Fin (k0_t5_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_281 : BitVec 32 := 2#32
  let c0_i32_59 : BitVec 32 := 0#32
  let c0_i32_60 : BitVec 32 := 0#32
  let c1764_i32 : BitVec 32 := 1764#32
  let v3 : BitVec 32 := Scalar.subi c1764_i32 v1
  let c32_i32 : BitVec 32 := 32#32
  let v4 : BitVec 32 := Scalar.addi v3 c32_i32
  let c1_i32_1 : BitVec 32 := 1#32
  let v5 : BitVec 32 := Scalar.subi v4 c1_i32_1
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c32_i32_2 : BitVec 32 := 32#32
  let c0_i32_5 : BitVec 32 := 0#32
  let v12 : BitVec 1 := Scalar.cmpi .sgt c32_i32_2 c0_i32_5
  let v13 : BitVec 32 := Scalar.extui v12
  let c0_i32_6 : BitVec 32 := 0#32
  let v14 : BitVec 1 := Scalar.cmpi .slt c32_i32_2 c0_i32_6
  let v15 : BitVec 32 := Scalar.extui v14
  let v16 : BitVec 32 := Scalar.subi v13 v15
  let v17 : BitVec 1 := Scalar.cmpi .ne v11 v16
  let v18 : BitVec 32 := Scalar.remsi v5 c32_i32_2
  let c0_i32_7 : BitVec 32 := 0#32
  let v19 : BitVec 1 := Scalar.cmpi .ne v18 c0_i32_7
  let v20 : BitVec 1 := Scalar.andi v17 v19
  let v6 : BitVec 32 := Scalar.divsi v5 c32_i32_2
  let c1_i32_8 : BitVec 32 := 1#32
  let v21 : BitVec 32 := Scalar.subi v6 c1_i32_8
  let v22 : BitVec 32 := Scalar.select v20 v21 v6
  let c1_i32_46 : BitVec 32 := 1#32
  let v95 : BitVec 32 := Scalar.addi v22 c1_i32_46
  let c0_i32_48 : BitVec 32 := 0#32
  let v97 : BitVec 1 := Scalar.cmpi .sgt v95 c0_i32_48
  let v98 : BitVec 32 := Scalar.extui v97
  let c0_i32_49 : BitVec 32 := 0#32
  let v99 : BitVec 1 := Scalar.cmpi .slt v95 c0_i32_49
  let v100 : BitVec 32 := Scalar.extui v99
  let v101 : BitVec 32 := Scalar.subi v98 v100
  let c2_i32_47 : BitVec 32 := 2#32
  let c0_i32_50 : BitVec 32 := 0#32
  let v102 : BitVec 1 := Scalar.cmpi .sgt c2_i32_47 c0_i32_50
  let v103 : BitVec 32 := Scalar.extui v102
  let c0_i32_51 : BitVec 32 := 0#32
  let v104 : BitVec 1 := Scalar.cmpi .slt c2_i32_47 c0_i32_51
  let v105 : BitVec 32 := Scalar.extui v104
  let v106 : BitVec 32 := Scalar.subi v103 v105
  let v107 : BitVec 1 := Scalar.cmpi .ne v101 v106
  let v108 : BitVec 32 := Scalar.remsi v95 c2_i32_47
  let c0_i32_52 : BitVec 32 := 0#32
  let v109 : BitVec 1 := Scalar.cmpi .ne v108 c0_i32_52
  let v110 : BitVec 1 := Scalar.andi v107 v109
  let v96 : BitVec 32 := Scalar.divsi v95 c2_i32_47
  let c1_i32_53 : BitVec 32 := 1#32
  let v111 : BitVec 32 := Scalar.subi v96 c1_i32_53
  let v112 : BitVec 32 := Scalar.select v110 v111 v96
  let c0_i32_54 : BitVec 32 := 0#32
  let v113 : BitVec 32 := Scalar.subi v112 c0_i32_54
  let c1_i32_55 : BitVec 32 := 1#32
  let c1_i32_56 : BitVec 32 := 1#32
  let v114 : BitVec 32 := Scalar.subi c1_i32_55 c1_i32_56
  let v115 : BitVec 32 := Scalar.addi v113 v114
  let c1_i32_57 : BitVec 32 := 1#32
  let v116 : BitVec 32 := Scalar.divsi v115 c1_i32_57
  let v117 : BitVec 32 := Scalar.subi v116 c0_i32_60
  let c1_i32_61 : BitVec 32 := 1#32
  let v119 : BitVec 32 := Scalar.divsi v117 c1_i32_61
  let v120 : BitVec 32 := Scalar.muli v119 c1_i32_61
  let v121 : BitVec 32 := Scalar.addi c0_i32_60 v120
  let c1_i32_63 : BitVec 32 := 1#32
  let arg14 : BitVec 32 := Scf.iv v121 c1_i32_63 k0_t5
  let c1_i32_58 : BitVec 32 := 1#32
  let v553 : BitVec 32 := Scalar.muli arg14 c1_i32_58
  let v554 : BitVec 32 := Scalar.addi c0_i32_59 v553
  let v562 : BitVec 32 := Scalar.muli c2_i32_281 v554
  let c1_i32_282 : BitVec 32 := 1#32
  let v563 : BitVec 32 := Scalar.addi v562 c1_i32_282
  let c32_i32_283 : BitVec 32 := 32#32
  let v564 : BitVec 32 := Scalar.muli v563 c32_i32_283
  let v565 : BitVec 32 := Scalar.addi v1 v564
  let c0_i32_286 : BitVec 32 := 0#32
  let v570 : BitVec 1 := Scalar.cmpi .sgt v565 c0_i32_286
  let v571 : BitVec 32 := Scalar.extui v570
  let c0_i32_287 : BitVec 32 := 0#32
  let v572 : BitVec 1 := Scalar.cmpi .slt v565 c0_i32_287
  let v573 : BitVec 32 := Scalar.extui v572
  let v574 : BitVec 32 := Scalar.subi v571 v573
  let c21_i32_285 : BitVec 32 := 21#32
  let c0_i32_288 : BitVec 32 := 0#32
  let v575 : BitVec 1 := Scalar.cmpi .sgt c21_i32_285 c0_i32_288
  let v576 : BitVec 32 := Scalar.extui v575
  let c0_i32_289 : BitVec 32 := 0#32
  let v577 : BitVec 1 := Scalar.cmpi .slt c21_i32_285 c0_i32_289
  let v578 : BitVec 32 := Scalar.extui v577
  let v579 : BitVec 32 := Scalar.subi v576 v578
  let v580 : BitVec 1 := Scalar.cmpi .ne v574 v579
  let v581 : BitVec 32 := Scalar.remsi v565 c21_i32_285
  let c0_i32_290 : BitVec 32 := 0#32
  let v582 : BitVec 1 := Scalar.cmpi .ne v581 c0_i32_290
  let v583 : BitVec 1 := Scalar.andi v580 v582
  let v569 : BitVec 32 := Scalar.divsi v565 c21_i32_285
  let c1_i32_291 : BitVec 32 := 1#32
  let v584 : BitVec 32 := Scalar.subi v569 c1_i32_291
  let v585 : BitVec 32 := Scalar.select v583 v584 v569
  let c21_i32_292 : BitVec 32 := 21#32
  let c0_i32_293 : BitVec 32 := 0#32
  let v586 : BitVec 1 := Scalar.cmpi .eq c21_i32_292 c0_i32_293
  let c1_i32_294 : BitVec 32 := 1#32
  let v587 : BitVec 32 := Scalar.select v586 c1_i32_294 c21_i32_292
  let v588 : BitVec 32 := Scalar.remsi v565 v587
  let c0_i32_296 : BitVec 32 := 0#32
  let v590 : BitVec 1 := Scalar.cmpi .slt v588 c0_i32_296
  let c0_i32_297 : BitVec 32 := 0#32
  let v591 : BitVec 1 := Scalar.cmpi .slt v587 c0_i32_297
  let v592 : BitVec 1 := Scalar.xori v590 v591
  let c0_i32_295 : BitVec 32 := 0#32
  let v589 : BitVec 1 := Scalar.cmpi .ne v588 c0_i32_295
  let v593 : BitVec 1 := Scalar.andi v592 v589
  let v594 : BitVec 32 := Scalar.addi v588 v587
  let v595 : BitVec 32 := Scalar.select v593 v594 v588
  let c0_i32_300 : BitVec 32 := 0#32
  ![v585.toNat, v595.toNat, 0]
def k0_cond11 (i : grid0.Coords) (k0_t5 : Fin (k0_t5_loop i).trips) : BitVec 1 :=
  let c2_i32_281 : BitVec 32 := 2#32
  let c0_i32_59 : BitVec 32 := 0#32
  let c0_i32_60 : BitVec 32 := 0#32
  let c1764_i32 : BitVec 32 := 1764#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v3 : BitVec 32 := Scalar.subi c1764_i32 v1
  let c32_i32 : BitVec 32 := 32#32
  let v4 : BitVec 32 := Scalar.addi v3 c32_i32
  let c1_i32_1 : BitVec 32 := 1#32
  let v5 : BitVec 32 := Scalar.subi v4 c1_i32_1
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c32_i32_2 : BitVec 32 := 32#32
  let c0_i32_5 : BitVec 32 := 0#32
  let v12 : BitVec 1 := Scalar.cmpi .sgt c32_i32_2 c0_i32_5
  let v13 : BitVec 32 := Scalar.extui v12
  let c0_i32_6 : BitVec 32 := 0#32
  let v14 : BitVec 1 := Scalar.cmpi .slt c32_i32_2 c0_i32_6
  let v15 : BitVec 32 := Scalar.extui v14
  let v16 : BitVec 32 := Scalar.subi v13 v15
  let v17 : BitVec 1 := Scalar.cmpi .ne v11 v16
  let v18 : BitVec 32 := Scalar.remsi v5 c32_i32_2
  let c0_i32_7 : BitVec 32 := 0#32
  let v19 : BitVec 1 := Scalar.cmpi .ne v18 c0_i32_7
  let v20 : BitVec 1 := Scalar.andi v17 v19
  let v6 : BitVec 32 := Scalar.divsi v5 c32_i32_2
  let c1_i32_8 : BitVec 32 := 1#32
  let v21 : BitVec 32 := Scalar.subi v6 c1_i32_8
  let v22 : BitVec 32 := Scalar.select v20 v21 v6
  let c1_i32_46 : BitVec 32 := 1#32
  let v95 : BitVec 32 := Scalar.addi v22 c1_i32_46
  let c0_i32_48 : BitVec 32 := 0#32
  let v97 : BitVec 1 := Scalar.cmpi .sgt v95 c0_i32_48
  let v98 : BitVec 32 := Scalar.extui v97
  let c0_i32_49 : BitVec 32 := 0#32
  let v99 : BitVec 1 := Scalar.cmpi .slt v95 c0_i32_49
  let v100 : BitVec 32 := Scalar.extui v99
  let v101 : BitVec 32 := Scalar.subi v98 v100
  let c2_i32_47 : BitVec 32 := 2#32
  let c0_i32_50 : BitVec 32 := 0#32
  let v102 : BitVec 1 := Scalar.cmpi .sgt c2_i32_47 c0_i32_50
  let v103 : BitVec 32 := Scalar.extui v102
  let c0_i32_51 : BitVec 32 := 0#32
  let v104 : BitVec 1 := Scalar.cmpi .slt c2_i32_47 c0_i32_51
  let v105 : BitVec 32 := Scalar.extui v104
  let v106 : BitVec 32 := Scalar.subi v103 v105
  let v107 : BitVec 1 := Scalar.cmpi .ne v101 v106
  let v108 : BitVec 32 := Scalar.remsi v95 c2_i32_47
  let c0_i32_52 : BitVec 32 := 0#32
  let v109 : BitVec 1 := Scalar.cmpi .ne v108 c0_i32_52
  let v110 : BitVec 1 := Scalar.andi v107 v109
  let v96 : BitVec 32 := Scalar.divsi v95 c2_i32_47
  let c1_i32_53 : BitVec 32 := 1#32
  let v111 : BitVec 32 := Scalar.subi v96 c1_i32_53
  let v112 : BitVec 32 := Scalar.select v110 v111 v96
  let c0_i32_54 : BitVec 32 := 0#32
  let v113 : BitVec 32 := Scalar.subi v112 c0_i32_54
  let c1_i32_55 : BitVec 32 := 1#32
  let c1_i32_56 : BitVec 32 := 1#32
  let v114 : BitVec 32 := Scalar.subi c1_i32_55 c1_i32_56
  let v115 : BitVec 32 := Scalar.addi v113 v114
  let c1_i32_57 : BitVec 32 := 1#32
  let v116 : BitVec 32 := Scalar.divsi v115 c1_i32_57
  let v117 : BitVec 32 := Scalar.subi v116 c0_i32_60
  let c1_i32_61 : BitVec 32 := 1#32
  let v119 : BitVec 32 := Scalar.divsi v117 c1_i32_61
  let v120 : BitVec 32 := Scalar.muli v119 c1_i32_61
  let v121 : BitVec 32 := Scalar.addi c0_i32_60 v120
  let c1_i32_63 : BitVec 32 := 1#32
  let arg14 : BitVec 32 := Scf.iv v121 c1_i32_63 k0_t5
  let c1_i32_58 : BitVec 32 := 1#32
  let v553 : BitVec 32 := Scalar.muli arg14 c1_i32_58
  let v554 : BitVec 32 := Scalar.addi c0_i32_59 v553
  let v562 : BitVec 32 := Scalar.muli c2_i32_281 v554
  let c1_i32_282 : BitVec 32 := 1#32
  let v563 : BitVec 32 := Scalar.addi v562 c1_i32_282
  let c2_i32_303 : BitVec 32 := 2#32
  let v604 : BitVec 1 := Scalar.cmpi .sge v563 c2_i32_303
  let v605 : BitVec 32 := Scalar.extui v604
  let c0_i32_304 : BitVec 32 := 0#32
  let v606 : BitVec 1 := Scalar.cmpi .ne v605 c0_i32_304
  v606

def k0_off76 (i : grid0.Coords) (k0_t5 : Fin (k0_t5_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_281 : BitVec 32 := 2#32
  let c0_i32_59 : BitVec 32 := 0#32
  let c0_i32_60 : BitVec 32 := 0#32
  let c1764_i32 : BitVec 32 := 1764#32
  let v3 : BitVec 32 := Scalar.subi c1764_i32 v1
  let c32_i32 : BitVec 32 := 32#32
  let v4 : BitVec 32 := Scalar.addi v3 c32_i32
  let c1_i32_1 : BitVec 32 := 1#32
  let v5 : BitVec 32 := Scalar.subi v4 c1_i32_1
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c32_i32_2 : BitVec 32 := 32#32
  let c0_i32_5 : BitVec 32 := 0#32
  let v12 : BitVec 1 := Scalar.cmpi .sgt c32_i32_2 c0_i32_5
  let v13 : BitVec 32 := Scalar.extui v12
  let c0_i32_6 : BitVec 32 := 0#32
  let v14 : BitVec 1 := Scalar.cmpi .slt c32_i32_2 c0_i32_6
  let v15 : BitVec 32 := Scalar.extui v14
  let v16 : BitVec 32 := Scalar.subi v13 v15
  let v17 : BitVec 1 := Scalar.cmpi .ne v11 v16
  let v18 : BitVec 32 := Scalar.remsi v5 c32_i32_2
  let c0_i32_7 : BitVec 32 := 0#32
  let v19 : BitVec 1 := Scalar.cmpi .ne v18 c0_i32_7
  let v20 : BitVec 1 := Scalar.andi v17 v19
  let v6 : BitVec 32 := Scalar.divsi v5 c32_i32_2
  let c1_i32_8 : BitVec 32 := 1#32
  let v21 : BitVec 32 := Scalar.subi v6 c1_i32_8
  let v22 : BitVec 32 := Scalar.select v20 v21 v6
  let c1_i32_46 : BitVec 32 := 1#32
  let v95 : BitVec 32 := Scalar.addi v22 c1_i32_46
  let c0_i32_48 : BitVec 32 := 0#32
  let v97 : BitVec 1 := Scalar.cmpi .sgt v95 c0_i32_48
  let v98 : BitVec 32 := Scalar.extui v97
  let c0_i32_49 : BitVec 32 := 0#32
  let v99 : BitVec 1 := Scalar.cmpi .slt v95 c0_i32_49
  let v100 : BitVec 32 := Scalar.extui v99
  let v101 : BitVec 32 := Scalar.subi v98 v100
  let c2_i32_47 : BitVec 32 := 2#32
  let c0_i32_50 : BitVec 32 := 0#32
  let v102 : BitVec 1 := Scalar.cmpi .sgt c2_i32_47 c0_i32_50
  let v103 : BitVec 32 := Scalar.extui v102
  let c0_i32_51 : BitVec 32 := 0#32
  let v104 : BitVec 1 := Scalar.cmpi .slt c2_i32_47 c0_i32_51
  let v105 : BitVec 32 := Scalar.extui v104
  let v106 : BitVec 32 := Scalar.subi v103 v105
  let v107 : BitVec 1 := Scalar.cmpi .ne v101 v106
  let v108 : BitVec 32 := Scalar.remsi v95 c2_i32_47
  let c0_i32_52 : BitVec 32 := 0#32
  let v109 : BitVec 1 := Scalar.cmpi .ne v108 c0_i32_52
  let v110 : BitVec 1 := Scalar.andi v107 v109
  let v96 : BitVec 32 := Scalar.divsi v95 c2_i32_47
  let c1_i32_53 : BitVec 32 := 1#32
  let v111 : BitVec 32 := Scalar.subi v96 c1_i32_53
  let v112 : BitVec 32 := Scalar.select v110 v111 v96
  let c0_i32_54 : BitVec 32 := 0#32
  let v113 : BitVec 32 := Scalar.subi v112 c0_i32_54
  let c1_i32_55 : BitVec 32 := 1#32
  let c1_i32_56 : BitVec 32 := 1#32
  let v114 : BitVec 32 := Scalar.subi c1_i32_55 c1_i32_56
  let v115 : BitVec 32 := Scalar.addi v113 v114
  let c1_i32_57 : BitVec 32 := 1#32
  let v116 : BitVec 32 := Scalar.divsi v115 c1_i32_57
  let v117 : BitVec 32 := Scalar.subi v116 c0_i32_60
  let c1_i32_61 : BitVec 32 := 1#32
  let v119 : BitVec 32 := Scalar.divsi v117 c1_i32_61
  let v120 : BitVec 32 := Scalar.muli v119 c1_i32_61
  let v121 : BitVec 32 := Scalar.addi c0_i32_60 v120
  let c1_i32_63 : BitVec 32 := 1#32
  let arg14 : BitVec 32 := Scf.iv v121 c1_i32_63 k0_t5
  let c1_i32_58 : BitVec 32 := 1#32
  let v553 : BitVec 32 := Scalar.muli arg14 c1_i32_58
  let v554 : BitVec 32 := Scalar.addi c0_i32_59 v553
  let v562 : BitVec 32 := Scalar.muli c2_i32_281 v554
  let c1_i32_282 : BitVec 32 := 1#32
  let v563 : BitVec 32 := Scalar.addi v562 c1_i32_282
  let c32_i32_283 : BitVec 32 := 32#32
  let v564 : BitVec 32 := Scalar.muli v563 c32_i32_283
  let v565 : BitVec 32 := Scalar.addi v1 v564
  let c0_i32_423 : BitVec 32 := 0#32
  let v829 : BitVec 1 := Scalar.cmpi .sgt v565 c0_i32_423
  let v830 : BitVec 32 := Scalar.extui v829
  let c0_i32_424 : BitVec 32 := 0#32
  let v831 : BitVec 1 := Scalar.cmpi .slt v565 c0_i32_424
  let v832 : BitVec 32 := Scalar.extui v831
  let v833 : BitVec 32 := Scalar.subi v830 v832
  let c21_i32_422 : BitVec 32 := 21#32
  let c0_i32_425 : BitVec 32 := 0#32
  let v834 : BitVec 1 := Scalar.cmpi .sgt c21_i32_422 c0_i32_425
  let v835 : BitVec 32 := Scalar.extui v834
  let c0_i32_426 : BitVec 32 := 0#32
  let v836 : BitVec 1 := Scalar.cmpi .slt c21_i32_422 c0_i32_426
  let v837 : BitVec 32 := Scalar.extui v836
  let v838 : BitVec 32 := Scalar.subi v835 v837
  let v839 : BitVec 1 := Scalar.cmpi .ne v833 v838
  let v840 : BitVec 32 := Scalar.remsi v565 c21_i32_422
  let c0_i32_427 : BitVec 32 := 0#32
  let v841 : BitVec 1 := Scalar.cmpi .ne v840 c0_i32_427
  let v842 : BitVec 1 := Scalar.andi v839 v841
  let v828 : BitVec 32 := Scalar.divsi v565 c21_i32_422
  let c1_i32_428 : BitVec 32 := 1#32
  let v843 : BitVec 32 := Scalar.subi v828 c1_i32_428
  let v844 : BitVec 32 := Scalar.select v842 v843 v828
  let c0_i32_443 : BitVec 32 := 0#32
  let v868 : BitVec 1 := Scalar.cmpi .sgt v844 c0_i32_443
  let v869 : BitVec 32 := Scalar.extui v868
  let c0_i32_444 : BitVec 32 := 0#32
  let v870 : BitVec 1 := Scalar.cmpi .slt v844 c0_i32_444
  let v871 : BitVec 32 := Scalar.extui v870
  let v872 : BitVec 32 := Scalar.subi v869 v871
  let c4_i32_442 : BitVec 32 := 4#32
  let c0_i32_445 : BitVec 32 := 0#32
  let v873 : BitVec 1 := Scalar.cmpi .sgt c4_i32_442 c0_i32_445
  let v874 : BitVec 32 := Scalar.extui v873
  let c0_i32_446 : BitVec 32 := 0#32
  let v875 : BitVec 1 := Scalar.cmpi .slt c4_i32_442 c0_i32_446
  let v876 : BitVec 32 := Scalar.extui v875
  let v877 : BitVec 32 := Scalar.subi v874 v876
  let v878 : BitVec 1 := Scalar.cmpi .ne v872 v877
  let v879 : BitVec 32 := Scalar.remsi v844 c4_i32_442
  let c0_i32_447 : BitVec 32 := 0#32
  let v880 : BitVec 1 := Scalar.cmpi .ne v879 c0_i32_447
  let v881 : BitVec 1 := Scalar.andi v878 v880
  let v867 : BitVec 32 := Scalar.divsi v844 c4_i32_442
  let c1_i32_448 : BitVec 32 := 1#32
  let v882 : BitVec 32 := Scalar.subi v867 c1_i32_448
  let v883 : BitVec 32 := Scalar.select v881 v882 v867
  let c0_i32_491 : BitVec 32 := 0#32
  let c21_i32_429 : BitVec 32 := 21#32
  let c0_i32_430 : BitVec 32 := 0#32
  let v845 : BitVec 1 := Scalar.cmpi .eq c21_i32_429 c0_i32_430
  let c1_i32_431 : BitVec 32 := 1#32
  let v846 : BitVec 32 := Scalar.select v845 c1_i32_431 c21_i32_429
  let v847 : BitVec 32 := Scalar.remsi v565 v846
  let c0_i32_433 : BitVec 32 := 0#32
  let v849 : BitVec 1 := Scalar.cmpi .slt v847 c0_i32_433
  let c0_i32_434 : BitVec 32 := 0#32
  let v850 : BitVec 1 := Scalar.cmpi .slt v846 c0_i32_434
  let v851 : BitVec 1 := Scalar.xori v849 v850
  let c0_i32_432 : BitVec 32 := 0#32
  let v848 : BitVec 1 := Scalar.cmpi .ne v847 c0_i32_432
  let v852 : BitVec 1 := Scalar.andi v851 v848
  let v853 : BitVec 32 := Scalar.addi v847 v846
  let v854 : BitVec 32 := Scalar.select v852 v853 v847
  let c4_i32_435 : BitVec 32 := 4#32
  let v855 : BitVec 32 := Scalar.muli v854 c4_i32_435
  let c4_i32_436 : BitVec 32 := 4#32
  let c0_i32_437 : BitVec 32 := 0#32
  let v856 : BitVec 1 := Scalar.cmpi .eq c4_i32_436 c0_i32_437
  let c1_i32_438 : BitVec 32 := 1#32
  let v857 : BitVec 32 := Scalar.select v856 c1_i32_438 c4_i32_436
  let v858 : BitVec 32 := Scalar.remsi v844 v857
  let c0_i32_440 : BitVec 32 := 0#32
  let v860 : BitVec 1 := Scalar.cmpi .slt v858 c0_i32_440
  let c0_i32_441 : BitVec 32 := 0#32
  let v861 : BitVec 1 := Scalar.cmpi .slt v857 c0_i32_441
  let v862 : BitVec 1 := Scalar.xori v860 v861
  let c0_i32_439 : BitVec 32 := 0#32
  let v859 : BitVec 1 := Scalar.cmpi .ne v858 c0_i32_439
  let v863 : BitVec 1 := Scalar.andi v862 v859
  let v864 : BitVec 32 := Scalar.addi v858 v857
  let v865 : BitVec 32 := Scalar.select v863 v864 v858
  let v866 : BitVec 32 := Scalar.addi v855 v865
  let c0_i32_494 : BitVec 32 := 0#32
  ![v883.toNat, 0, v866.toNat, 0]
def k0_off77 (i : grid0.Coords) (k0_t5 : Fin (k0_t5_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_281 : BitVec 32 := 2#32
  let c0_i32_59 : BitVec 32 := 0#32
  let c0_i32_60 : BitVec 32 := 0#32
  let c1764_i32 : BitVec 32 := 1764#32
  let v3 : BitVec 32 := Scalar.subi c1764_i32 v1
  let c32_i32 : BitVec 32 := 32#32
  let v4 : BitVec 32 := Scalar.addi v3 c32_i32
  let c1_i32_1 : BitVec 32 := 1#32
  let v5 : BitVec 32 := Scalar.subi v4 c1_i32_1
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c32_i32_2 : BitVec 32 := 32#32
  let c0_i32_5 : BitVec 32 := 0#32
  let v12 : BitVec 1 := Scalar.cmpi .sgt c32_i32_2 c0_i32_5
  let v13 : BitVec 32 := Scalar.extui v12
  let c0_i32_6 : BitVec 32 := 0#32
  let v14 : BitVec 1 := Scalar.cmpi .slt c32_i32_2 c0_i32_6
  let v15 : BitVec 32 := Scalar.extui v14
  let v16 : BitVec 32 := Scalar.subi v13 v15
  let v17 : BitVec 1 := Scalar.cmpi .ne v11 v16
  let v18 : BitVec 32 := Scalar.remsi v5 c32_i32_2
  let c0_i32_7 : BitVec 32 := 0#32
  let v19 : BitVec 1 := Scalar.cmpi .ne v18 c0_i32_7
  let v20 : BitVec 1 := Scalar.andi v17 v19
  let v6 : BitVec 32 := Scalar.divsi v5 c32_i32_2
  let c1_i32_8 : BitVec 32 := 1#32
  let v21 : BitVec 32 := Scalar.subi v6 c1_i32_8
  let v22 : BitVec 32 := Scalar.select v20 v21 v6
  let c1_i32_46 : BitVec 32 := 1#32
  let v95 : BitVec 32 := Scalar.addi v22 c1_i32_46
  let c0_i32_48 : BitVec 32 := 0#32
  let v97 : BitVec 1 := Scalar.cmpi .sgt v95 c0_i32_48
  let v98 : BitVec 32 := Scalar.extui v97
  let c0_i32_49 : BitVec 32 := 0#32
  let v99 : BitVec 1 := Scalar.cmpi .slt v95 c0_i32_49
  let v100 : BitVec 32 := Scalar.extui v99
  let v101 : BitVec 32 := Scalar.subi v98 v100
  let c2_i32_47 : BitVec 32 := 2#32
  let c0_i32_50 : BitVec 32 := 0#32
  let v102 : BitVec 1 := Scalar.cmpi .sgt c2_i32_47 c0_i32_50
  let v103 : BitVec 32 := Scalar.extui v102
  let c0_i32_51 : BitVec 32 := 0#32
  let v104 : BitVec 1 := Scalar.cmpi .slt c2_i32_47 c0_i32_51
  let v105 : BitVec 32 := Scalar.extui v104
  let v106 : BitVec 32 := Scalar.subi v103 v105
  let v107 : BitVec 1 := Scalar.cmpi .ne v101 v106
  let v108 : BitVec 32 := Scalar.remsi v95 c2_i32_47
  let c0_i32_52 : BitVec 32 := 0#32
  let v109 : BitVec 1 := Scalar.cmpi .ne v108 c0_i32_52
  let v110 : BitVec 1 := Scalar.andi v107 v109
  let v96 : BitVec 32 := Scalar.divsi v95 c2_i32_47
  let c1_i32_53 : BitVec 32 := 1#32
  let v111 : BitVec 32 := Scalar.subi v96 c1_i32_53
  let v112 : BitVec 32 := Scalar.select v110 v111 v96
  let c0_i32_54 : BitVec 32 := 0#32
  let v113 : BitVec 32 := Scalar.subi v112 c0_i32_54
  let c1_i32_55 : BitVec 32 := 1#32
  let c1_i32_56 : BitVec 32 := 1#32
  let v114 : BitVec 32 := Scalar.subi c1_i32_55 c1_i32_56
  let v115 : BitVec 32 := Scalar.addi v113 v114
  let c1_i32_57 : BitVec 32 := 1#32
  let v116 : BitVec 32 := Scalar.divsi v115 c1_i32_57
  let v117 : BitVec 32 := Scalar.subi v116 c0_i32_60
  let c1_i32_61 : BitVec 32 := 1#32
  let v119 : BitVec 32 := Scalar.divsi v117 c1_i32_61
  let v120 : BitVec 32 := Scalar.muli v119 c1_i32_61
  let v121 : BitVec 32 := Scalar.addi c0_i32_60 v120
  let c1_i32_63 : BitVec 32 := 1#32
  let arg14 : BitVec 32 := Scf.iv v121 c1_i32_63 k0_t5
  let c1_i32_58 : BitVec 32 := 1#32
  let v553 : BitVec 32 := Scalar.muli arg14 c1_i32_58
  let v554 : BitVec 32 := Scalar.addi c0_i32_59 v553
  let v562 : BitVec 32 := Scalar.muli c2_i32_281 v554
  let c1_i32_282 : BitVec 32 := 1#32
  let v563 : BitVec 32 := Scalar.addi v562 c1_i32_282
  let c32_i32_283 : BitVec 32 := 32#32
  let v564 : BitVec 32 := Scalar.muli v563 c32_i32_283
  let v565 : BitVec 32 := Scalar.addi v1 v564
  let c0_i32_423 : BitVec 32 := 0#32
  let v829 : BitVec 1 := Scalar.cmpi .sgt v565 c0_i32_423
  let v830 : BitVec 32 := Scalar.extui v829
  let c0_i32_424 : BitVec 32 := 0#32
  let v831 : BitVec 1 := Scalar.cmpi .slt v565 c0_i32_424
  let v832 : BitVec 32 := Scalar.extui v831
  let v833 : BitVec 32 := Scalar.subi v830 v832
  let c21_i32_422 : BitVec 32 := 21#32
  let c0_i32_425 : BitVec 32 := 0#32
  let v834 : BitVec 1 := Scalar.cmpi .sgt c21_i32_422 c0_i32_425
  let v835 : BitVec 32 := Scalar.extui v834
  let c0_i32_426 : BitVec 32 := 0#32
  let v836 : BitVec 1 := Scalar.cmpi .slt c21_i32_422 c0_i32_426
  let v837 : BitVec 32 := Scalar.extui v836
  let v838 : BitVec 32 := Scalar.subi v835 v837
  let v839 : BitVec 1 := Scalar.cmpi .ne v833 v838
  let v840 : BitVec 32 := Scalar.remsi v565 c21_i32_422
  let c0_i32_427 : BitVec 32 := 0#32
  let v841 : BitVec 1 := Scalar.cmpi .ne v840 c0_i32_427
  let v842 : BitVec 1 := Scalar.andi v839 v841
  let v828 : BitVec 32 := Scalar.divsi v565 c21_i32_422
  let c1_i32_428 : BitVec 32 := 1#32
  let v843 : BitVec 32 := Scalar.subi v828 c1_i32_428
  let v844 : BitVec 32 := Scalar.select v842 v843 v828
  let c0_i32_450 : BitVec 32 := 0#32
  let v885 : BitVec 1 := Scalar.cmpi .sgt v844 c0_i32_450
  let v886 : BitVec 32 := Scalar.extui v885
  let c0_i32_451 : BitVec 32 := 0#32
  let v887 : BitVec 1 := Scalar.cmpi .slt v844 c0_i32_451
  let v888 : BitVec 32 := Scalar.extui v887
  let v889 : BitVec 32 := Scalar.subi v886 v888
  let c4_i32_449 : BitVec 32 := 4#32
  let c0_i32_452 : BitVec 32 := 0#32
  let v890 : BitVec 1 := Scalar.cmpi .sgt c4_i32_449 c0_i32_452
  let v891 : BitVec 32 := Scalar.extui v890
  let c0_i32_453 : BitVec 32 := 0#32
  let v892 : BitVec 1 := Scalar.cmpi .slt c4_i32_449 c0_i32_453
  let v893 : BitVec 32 := Scalar.extui v892
  let v894 : BitVec 32 := Scalar.subi v891 v893
  let v895 : BitVec 1 := Scalar.cmpi .ne v889 v894
  let v896 : BitVec 32 := Scalar.remsi v844 c4_i32_449
  let c0_i32_454 : BitVec 32 := 0#32
  let v897 : BitVec 1 := Scalar.cmpi .ne v896 c0_i32_454
  let v898 : BitVec 1 := Scalar.andi v895 v897
  let v884 : BitVec 32 := Scalar.divsi v844 c4_i32_449
  let c1_i32_455 : BitVec 32 := 1#32
  let v899 : BitVec 32 := Scalar.subi v884 c1_i32_455
  let v900 : BitVec 32 := Scalar.select v898 v899 v884
  let c1_i32_497 : BitVec 32 := 1#32
  let c21_i32_429 : BitVec 32 := 21#32
  let c0_i32_430 : BitVec 32 := 0#32
  let v845 : BitVec 1 := Scalar.cmpi .eq c21_i32_429 c0_i32_430
  let c1_i32_431 : BitVec 32 := 1#32
  let v846 : BitVec 32 := Scalar.select v845 c1_i32_431 c21_i32_429
  let v847 : BitVec 32 := Scalar.remsi v565 v846
  let c0_i32_433 : BitVec 32 := 0#32
  let v849 : BitVec 1 := Scalar.cmpi .slt v847 c0_i32_433
  let c0_i32_434 : BitVec 32 := 0#32
  let v850 : BitVec 1 := Scalar.cmpi .slt v846 c0_i32_434
  let v851 : BitVec 1 := Scalar.xori v849 v850
  let c0_i32_432 : BitVec 32 := 0#32
  let v848 : BitVec 1 := Scalar.cmpi .ne v847 c0_i32_432
  let v852 : BitVec 1 := Scalar.andi v851 v848
  let v853 : BitVec 32 := Scalar.addi v847 v846
  let v854 : BitVec 32 := Scalar.select v852 v853 v847
  let c4_i32_435 : BitVec 32 := 4#32
  let v855 : BitVec 32 := Scalar.muli v854 c4_i32_435
  let c4_i32_436 : BitVec 32 := 4#32
  let c0_i32_437 : BitVec 32 := 0#32
  let v856 : BitVec 1 := Scalar.cmpi .eq c4_i32_436 c0_i32_437
  let c1_i32_438 : BitVec 32 := 1#32
  let v857 : BitVec 32 := Scalar.select v856 c1_i32_438 c4_i32_436
  let v858 : BitVec 32 := Scalar.remsi v844 v857
  let c0_i32_440 : BitVec 32 := 0#32
  let v860 : BitVec 1 := Scalar.cmpi .slt v858 c0_i32_440
  let c0_i32_441 : BitVec 32 := 0#32
  let v861 : BitVec 1 := Scalar.cmpi .slt v857 c0_i32_441
  let v862 : BitVec 1 := Scalar.xori v860 v861
  let c0_i32_439 : BitVec 32 := 0#32
  let v859 : BitVec 1 := Scalar.cmpi .ne v858 c0_i32_439
  let v863 : BitVec 1 := Scalar.andi v862 v859
  let v864 : BitVec 32 := Scalar.addi v858 v857
  let v865 : BitVec 32 := Scalar.select v863 v864 v858
  let v866 : BitVec 32 := Scalar.addi v855 v865
  let c0_i32_500 : BitVec 32 := 0#32
  ![v900.toNat, 1, v866.toNat, 0]
def k0_off78 (i : grid0.Coords) (k0_t5 : Fin (k0_t5_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_281 : BitVec 32 := 2#32
  let c0_i32_59 : BitVec 32 := 0#32
  let c0_i32_60 : BitVec 32 := 0#32
  let c1764_i32 : BitVec 32 := 1764#32
  let v3 : BitVec 32 := Scalar.subi c1764_i32 v1
  let c32_i32 : BitVec 32 := 32#32
  let v4 : BitVec 32 := Scalar.addi v3 c32_i32
  let c1_i32_1 : BitVec 32 := 1#32
  let v5 : BitVec 32 := Scalar.subi v4 c1_i32_1
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c32_i32_2 : BitVec 32 := 32#32
  let c0_i32_5 : BitVec 32 := 0#32
  let v12 : BitVec 1 := Scalar.cmpi .sgt c32_i32_2 c0_i32_5
  let v13 : BitVec 32 := Scalar.extui v12
  let c0_i32_6 : BitVec 32 := 0#32
  let v14 : BitVec 1 := Scalar.cmpi .slt c32_i32_2 c0_i32_6
  let v15 : BitVec 32 := Scalar.extui v14
  let v16 : BitVec 32 := Scalar.subi v13 v15
  let v17 : BitVec 1 := Scalar.cmpi .ne v11 v16
  let v18 : BitVec 32 := Scalar.remsi v5 c32_i32_2
  let c0_i32_7 : BitVec 32 := 0#32
  let v19 : BitVec 1 := Scalar.cmpi .ne v18 c0_i32_7
  let v20 : BitVec 1 := Scalar.andi v17 v19
  let v6 : BitVec 32 := Scalar.divsi v5 c32_i32_2
  let c1_i32_8 : BitVec 32 := 1#32
  let v21 : BitVec 32 := Scalar.subi v6 c1_i32_8
  let v22 : BitVec 32 := Scalar.select v20 v21 v6
  let c1_i32_46 : BitVec 32 := 1#32
  let v95 : BitVec 32 := Scalar.addi v22 c1_i32_46
  let c0_i32_48 : BitVec 32 := 0#32
  let v97 : BitVec 1 := Scalar.cmpi .sgt v95 c0_i32_48
  let v98 : BitVec 32 := Scalar.extui v97
  let c0_i32_49 : BitVec 32 := 0#32
  let v99 : BitVec 1 := Scalar.cmpi .slt v95 c0_i32_49
  let v100 : BitVec 32 := Scalar.extui v99
  let v101 : BitVec 32 := Scalar.subi v98 v100
  let c2_i32_47 : BitVec 32 := 2#32
  let c0_i32_50 : BitVec 32 := 0#32
  let v102 : BitVec 1 := Scalar.cmpi .sgt c2_i32_47 c0_i32_50
  let v103 : BitVec 32 := Scalar.extui v102
  let c0_i32_51 : BitVec 32 := 0#32
  let v104 : BitVec 1 := Scalar.cmpi .slt c2_i32_47 c0_i32_51
  let v105 : BitVec 32 := Scalar.extui v104
  let v106 : BitVec 32 := Scalar.subi v103 v105
  let v107 : BitVec 1 := Scalar.cmpi .ne v101 v106
  let v108 : BitVec 32 := Scalar.remsi v95 c2_i32_47
  let c0_i32_52 : BitVec 32 := 0#32
  let v109 : BitVec 1 := Scalar.cmpi .ne v108 c0_i32_52
  let v110 : BitVec 1 := Scalar.andi v107 v109
  let v96 : BitVec 32 := Scalar.divsi v95 c2_i32_47
  let c1_i32_53 : BitVec 32 := 1#32
  let v111 : BitVec 32 := Scalar.subi v96 c1_i32_53
  let v112 : BitVec 32 := Scalar.select v110 v111 v96
  let c0_i32_54 : BitVec 32 := 0#32
  let v113 : BitVec 32 := Scalar.subi v112 c0_i32_54
  let c1_i32_55 : BitVec 32 := 1#32
  let c1_i32_56 : BitVec 32 := 1#32
  let v114 : BitVec 32 := Scalar.subi c1_i32_55 c1_i32_56
  let v115 : BitVec 32 := Scalar.addi v113 v114
  let c1_i32_57 : BitVec 32 := 1#32
  let v116 : BitVec 32 := Scalar.divsi v115 c1_i32_57
  let v117 : BitVec 32 := Scalar.subi v116 c0_i32_60
  let c1_i32_61 : BitVec 32 := 1#32
  let v119 : BitVec 32 := Scalar.divsi v117 c1_i32_61
  let v120 : BitVec 32 := Scalar.muli v119 c1_i32_61
  let v121 : BitVec 32 := Scalar.addi c0_i32_60 v120
  let c1_i32_63 : BitVec 32 := 1#32
  let arg14 : BitVec 32 := Scf.iv v121 c1_i32_63 k0_t5
  let c1_i32_58 : BitVec 32 := 1#32
  let v553 : BitVec 32 := Scalar.muli arg14 c1_i32_58
  let v554 : BitVec 32 := Scalar.addi c0_i32_59 v553
  let v562 : BitVec 32 := Scalar.muli c2_i32_281 v554
  let c1_i32_282 : BitVec 32 := 1#32
  let v563 : BitVec 32 := Scalar.addi v562 c1_i32_282
  let c32_i32_283 : BitVec 32 := 32#32
  let v564 : BitVec 32 := Scalar.muli v563 c32_i32_283
  let v565 : BitVec 32 := Scalar.addi v1 v564
  let c0_i32_423 : BitVec 32 := 0#32
  let v829 : BitVec 1 := Scalar.cmpi .sgt v565 c0_i32_423
  let v830 : BitVec 32 := Scalar.extui v829
  let c0_i32_424 : BitVec 32 := 0#32
  let v831 : BitVec 1 := Scalar.cmpi .slt v565 c0_i32_424
  let v832 : BitVec 32 := Scalar.extui v831
  let v833 : BitVec 32 := Scalar.subi v830 v832
  let c21_i32_422 : BitVec 32 := 21#32
  let c0_i32_425 : BitVec 32 := 0#32
  let v834 : BitVec 1 := Scalar.cmpi .sgt c21_i32_422 c0_i32_425
  let v835 : BitVec 32 := Scalar.extui v834
  let c0_i32_426 : BitVec 32 := 0#32
  let v836 : BitVec 1 := Scalar.cmpi .slt c21_i32_422 c0_i32_426
  let v837 : BitVec 32 := Scalar.extui v836
  let v838 : BitVec 32 := Scalar.subi v835 v837
  let v839 : BitVec 1 := Scalar.cmpi .ne v833 v838
  let v840 : BitVec 32 := Scalar.remsi v565 c21_i32_422
  let c0_i32_427 : BitVec 32 := 0#32
  let v841 : BitVec 1 := Scalar.cmpi .ne v840 c0_i32_427
  let v842 : BitVec 1 := Scalar.andi v839 v841
  let v828 : BitVec 32 := Scalar.divsi v565 c21_i32_422
  let c1_i32_428 : BitVec 32 := 1#32
  let v843 : BitVec 32 := Scalar.subi v828 c1_i32_428
  let v844 : BitVec 32 := Scalar.select v842 v843 v828
  let c0_i32_457 : BitVec 32 := 0#32
  let v902 : BitVec 1 := Scalar.cmpi .sgt v844 c0_i32_457
  let v903 : BitVec 32 := Scalar.extui v902
  let c0_i32_458 : BitVec 32 := 0#32
  let v904 : BitVec 1 := Scalar.cmpi .slt v844 c0_i32_458
  let v905 : BitVec 32 := Scalar.extui v904
  let v906 : BitVec 32 := Scalar.subi v903 v905
  let c4_i32_456 : BitVec 32 := 4#32
  let c0_i32_459 : BitVec 32 := 0#32
  let v907 : BitVec 1 := Scalar.cmpi .sgt c4_i32_456 c0_i32_459
  let v908 : BitVec 32 := Scalar.extui v907
  let c0_i32_460 : BitVec 32 := 0#32
  let v909 : BitVec 1 := Scalar.cmpi .slt c4_i32_456 c0_i32_460
  let v910 : BitVec 32 := Scalar.extui v909
  let v911 : BitVec 32 := Scalar.subi v908 v910
  let v912 : BitVec 1 := Scalar.cmpi .ne v906 v911
  let v913 : BitVec 32 := Scalar.remsi v844 c4_i32_456
  let c0_i32_461 : BitVec 32 := 0#32
  let v914 : BitVec 1 := Scalar.cmpi .ne v913 c0_i32_461
  let v915 : BitVec 1 := Scalar.andi v912 v914
  let v901 : BitVec 32 := Scalar.divsi v844 c4_i32_456
  let c1_i32_462 : BitVec 32 := 1#32
  let v916 : BitVec 32 := Scalar.subi v901 c1_i32_462
  let v917 : BitVec 32 := Scalar.select v915 v916 v901
  let c2_i32_503 : BitVec 32 := 2#32
  let c21_i32_429 : BitVec 32 := 21#32
  let c0_i32_430 : BitVec 32 := 0#32
  let v845 : BitVec 1 := Scalar.cmpi .eq c21_i32_429 c0_i32_430
  let c1_i32_431 : BitVec 32 := 1#32
  let v846 : BitVec 32 := Scalar.select v845 c1_i32_431 c21_i32_429
  let v847 : BitVec 32 := Scalar.remsi v565 v846
  let c0_i32_433 : BitVec 32 := 0#32
  let v849 : BitVec 1 := Scalar.cmpi .slt v847 c0_i32_433
  let c0_i32_434 : BitVec 32 := 0#32
  let v850 : BitVec 1 := Scalar.cmpi .slt v846 c0_i32_434
  let v851 : BitVec 1 := Scalar.xori v849 v850
  let c0_i32_432 : BitVec 32 := 0#32
  let v848 : BitVec 1 := Scalar.cmpi .ne v847 c0_i32_432
  let v852 : BitVec 1 := Scalar.andi v851 v848
  let v853 : BitVec 32 := Scalar.addi v847 v846
  let v854 : BitVec 32 := Scalar.select v852 v853 v847
  let c4_i32_435 : BitVec 32 := 4#32
  let v855 : BitVec 32 := Scalar.muli v854 c4_i32_435
  let c4_i32_436 : BitVec 32 := 4#32
  let c0_i32_437 : BitVec 32 := 0#32
  let v856 : BitVec 1 := Scalar.cmpi .eq c4_i32_436 c0_i32_437
  let c1_i32_438 : BitVec 32 := 1#32
  let v857 : BitVec 32 := Scalar.select v856 c1_i32_438 c4_i32_436
  let v858 : BitVec 32 := Scalar.remsi v844 v857
  let c0_i32_440 : BitVec 32 := 0#32
  let v860 : BitVec 1 := Scalar.cmpi .slt v858 c0_i32_440
  let c0_i32_441 : BitVec 32 := 0#32
  let v861 : BitVec 1 := Scalar.cmpi .slt v857 c0_i32_441
  let v862 : BitVec 1 := Scalar.xori v860 v861
  let c0_i32_439 : BitVec 32 := 0#32
  let v859 : BitVec 1 := Scalar.cmpi .ne v858 c0_i32_439
  let v863 : BitVec 1 := Scalar.andi v862 v859
  let v864 : BitVec 32 := Scalar.addi v858 v857
  let v865 : BitVec 32 := Scalar.select v863 v864 v858
  let v866 : BitVec 32 := Scalar.addi v855 v865
  let c0_i32_506 : BitVec 32 := 0#32
  ![v917.toNat, 2, v866.toNat, 0]
def k0_off79 (i : grid0.Coords) (k0_t5 : Fin (k0_t5_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_281 : BitVec 32 := 2#32
  let c0_i32_59 : BitVec 32 := 0#32
  let c0_i32_60 : BitVec 32 := 0#32
  let c1764_i32 : BitVec 32 := 1764#32
  let v3 : BitVec 32 := Scalar.subi c1764_i32 v1
  let c32_i32 : BitVec 32 := 32#32
  let v4 : BitVec 32 := Scalar.addi v3 c32_i32
  let c1_i32_1 : BitVec 32 := 1#32
  let v5 : BitVec 32 := Scalar.subi v4 c1_i32_1
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c32_i32_2 : BitVec 32 := 32#32
  let c0_i32_5 : BitVec 32 := 0#32
  let v12 : BitVec 1 := Scalar.cmpi .sgt c32_i32_2 c0_i32_5
  let v13 : BitVec 32 := Scalar.extui v12
  let c0_i32_6 : BitVec 32 := 0#32
  let v14 : BitVec 1 := Scalar.cmpi .slt c32_i32_2 c0_i32_6
  let v15 : BitVec 32 := Scalar.extui v14
  let v16 : BitVec 32 := Scalar.subi v13 v15
  let v17 : BitVec 1 := Scalar.cmpi .ne v11 v16
  let v18 : BitVec 32 := Scalar.remsi v5 c32_i32_2
  let c0_i32_7 : BitVec 32 := 0#32
  let v19 : BitVec 1 := Scalar.cmpi .ne v18 c0_i32_7
  let v20 : BitVec 1 := Scalar.andi v17 v19
  let v6 : BitVec 32 := Scalar.divsi v5 c32_i32_2
  let c1_i32_8 : BitVec 32 := 1#32
  let v21 : BitVec 32 := Scalar.subi v6 c1_i32_8
  let v22 : BitVec 32 := Scalar.select v20 v21 v6
  let c1_i32_46 : BitVec 32 := 1#32
  let v95 : BitVec 32 := Scalar.addi v22 c1_i32_46
  let c0_i32_48 : BitVec 32 := 0#32
  let v97 : BitVec 1 := Scalar.cmpi .sgt v95 c0_i32_48
  let v98 : BitVec 32 := Scalar.extui v97
  let c0_i32_49 : BitVec 32 := 0#32
  let v99 : BitVec 1 := Scalar.cmpi .slt v95 c0_i32_49
  let v100 : BitVec 32 := Scalar.extui v99
  let v101 : BitVec 32 := Scalar.subi v98 v100
  let c2_i32_47 : BitVec 32 := 2#32
  let c0_i32_50 : BitVec 32 := 0#32
  let v102 : BitVec 1 := Scalar.cmpi .sgt c2_i32_47 c0_i32_50
  let v103 : BitVec 32 := Scalar.extui v102
  let c0_i32_51 : BitVec 32 := 0#32
  let v104 : BitVec 1 := Scalar.cmpi .slt c2_i32_47 c0_i32_51
  let v105 : BitVec 32 := Scalar.extui v104
  let v106 : BitVec 32 := Scalar.subi v103 v105
  let v107 : BitVec 1 := Scalar.cmpi .ne v101 v106
  let v108 : BitVec 32 := Scalar.remsi v95 c2_i32_47
  let c0_i32_52 : BitVec 32 := 0#32
  let v109 : BitVec 1 := Scalar.cmpi .ne v108 c0_i32_52
  let v110 : BitVec 1 := Scalar.andi v107 v109
  let v96 : BitVec 32 := Scalar.divsi v95 c2_i32_47
  let c1_i32_53 : BitVec 32 := 1#32
  let v111 : BitVec 32 := Scalar.subi v96 c1_i32_53
  let v112 : BitVec 32 := Scalar.select v110 v111 v96
  let c0_i32_54 : BitVec 32 := 0#32
  let v113 : BitVec 32 := Scalar.subi v112 c0_i32_54
  let c1_i32_55 : BitVec 32 := 1#32
  let c1_i32_56 : BitVec 32 := 1#32
  let v114 : BitVec 32 := Scalar.subi c1_i32_55 c1_i32_56
  let v115 : BitVec 32 := Scalar.addi v113 v114
  let c1_i32_57 : BitVec 32 := 1#32
  let v116 : BitVec 32 := Scalar.divsi v115 c1_i32_57
  let v117 : BitVec 32 := Scalar.subi v116 c0_i32_60
  let c1_i32_61 : BitVec 32 := 1#32
  let v119 : BitVec 32 := Scalar.divsi v117 c1_i32_61
  let v120 : BitVec 32 := Scalar.muli v119 c1_i32_61
  let v121 : BitVec 32 := Scalar.addi c0_i32_60 v120
  let c1_i32_63 : BitVec 32 := 1#32
  let arg14 : BitVec 32 := Scf.iv v121 c1_i32_63 k0_t5
  let c1_i32_58 : BitVec 32 := 1#32
  let v553 : BitVec 32 := Scalar.muli arg14 c1_i32_58
  let v554 : BitVec 32 := Scalar.addi c0_i32_59 v553
  let v562 : BitVec 32 := Scalar.muli c2_i32_281 v554
  let c1_i32_282 : BitVec 32 := 1#32
  let v563 : BitVec 32 := Scalar.addi v562 c1_i32_282
  let c32_i32_283 : BitVec 32 := 32#32
  let v564 : BitVec 32 := Scalar.muli v563 c32_i32_283
  let v565 : BitVec 32 := Scalar.addi v1 v564
  let c0_i32_423 : BitVec 32 := 0#32
  let v829 : BitVec 1 := Scalar.cmpi .sgt v565 c0_i32_423
  let v830 : BitVec 32 := Scalar.extui v829
  let c0_i32_424 : BitVec 32 := 0#32
  let v831 : BitVec 1 := Scalar.cmpi .slt v565 c0_i32_424
  let v832 : BitVec 32 := Scalar.extui v831
  let v833 : BitVec 32 := Scalar.subi v830 v832
  let c21_i32_422 : BitVec 32 := 21#32
  let c0_i32_425 : BitVec 32 := 0#32
  let v834 : BitVec 1 := Scalar.cmpi .sgt c21_i32_422 c0_i32_425
  let v835 : BitVec 32 := Scalar.extui v834
  let c0_i32_426 : BitVec 32 := 0#32
  let v836 : BitVec 1 := Scalar.cmpi .slt c21_i32_422 c0_i32_426
  let v837 : BitVec 32 := Scalar.extui v836
  let v838 : BitVec 32 := Scalar.subi v835 v837
  let v839 : BitVec 1 := Scalar.cmpi .ne v833 v838
  let v840 : BitVec 32 := Scalar.remsi v565 c21_i32_422
  let c0_i32_427 : BitVec 32 := 0#32
  let v841 : BitVec 1 := Scalar.cmpi .ne v840 c0_i32_427
  let v842 : BitVec 1 := Scalar.andi v839 v841
  let v828 : BitVec 32 := Scalar.divsi v565 c21_i32_422
  let c1_i32_428 : BitVec 32 := 1#32
  let v843 : BitVec 32 := Scalar.subi v828 c1_i32_428
  let v844 : BitVec 32 := Scalar.select v842 v843 v828
  let c0_i32_464 : BitVec 32 := 0#32
  let v919 : BitVec 1 := Scalar.cmpi .sgt v844 c0_i32_464
  let v920 : BitVec 32 := Scalar.extui v919
  let c0_i32_465 : BitVec 32 := 0#32
  let v921 : BitVec 1 := Scalar.cmpi .slt v844 c0_i32_465
  let v922 : BitVec 32 := Scalar.extui v921
  let v923 : BitVec 32 := Scalar.subi v920 v922
  let c4_i32_463 : BitVec 32 := 4#32
  let c0_i32_466 : BitVec 32 := 0#32
  let v924 : BitVec 1 := Scalar.cmpi .sgt c4_i32_463 c0_i32_466
  let v925 : BitVec 32 := Scalar.extui v924
  let c0_i32_467 : BitVec 32 := 0#32
  let v926 : BitVec 1 := Scalar.cmpi .slt c4_i32_463 c0_i32_467
  let v927 : BitVec 32 := Scalar.extui v926
  let v928 : BitVec 32 := Scalar.subi v925 v927
  let v929 : BitVec 1 := Scalar.cmpi .ne v923 v928
  let v930 : BitVec 32 := Scalar.remsi v844 c4_i32_463
  let c0_i32_468 : BitVec 32 := 0#32
  let v931 : BitVec 1 := Scalar.cmpi .ne v930 c0_i32_468
  let v932 : BitVec 1 := Scalar.andi v929 v931
  let v918 : BitVec 32 := Scalar.divsi v844 c4_i32_463
  let c1_i32_469 : BitVec 32 := 1#32
  let v933 : BitVec 32 := Scalar.subi v918 c1_i32_469
  let v934 : BitVec 32 := Scalar.select v932 v933 v918
  let c3_i32_509 : BitVec 32 := 3#32
  let c21_i32_429 : BitVec 32 := 21#32
  let c0_i32_430 : BitVec 32 := 0#32
  let v845 : BitVec 1 := Scalar.cmpi .eq c21_i32_429 c0_i32_430
  let c1_i32_431 : BitVec 32 := 1#32
  let v846 : BitVec 32 := Scalar.select v845 c1_i32_431 c21_i32_429
  let v847 : BitVec 32 := Scalar.remsi v565 v846
  let c0_i32_433 : BitVec 32 := 0#32
  let v849 : BitVec 1 := Scalar.cmpi .slt v847 c0_i32_433
  let c0_i32_434 : BitVec 32 := 0#32
  let v850 : BitVec 1 := Scalar.cmpi .slt v846 c0_i32_434
  let v851 : BitVec 1 := Scalar.xori v849 v850
  let c0_i32_432 : BitVec 32 := 0#32
  let v848 : BitVec 1 := Scalar.cmpi .ne v847 c0_i32_432
  let v852 : BitVec 1 := Scalar.andi v851 v848
  let v853 : BitVec 32 := Scalar.addi v847 v846
  let v854 : BitVec 32 := Scalar.select v852 v853 v847
  let c4_i32_435 : BitVec 32 := 4#32
  let v855 : BitVec 32 := Scalar.muli v854 c4_i32_435
  let c4_i32_436 : BitVec 32 := 4#32
  let c0_i32_437 : BitVec 32 := 0#32
  let v856 : BitVec 1 := Scalar.cmpi .eq c4_i32_436 c0_i32_437
  let c1_i32_438 : BitVec 32 := 1#32
  let v857 : BitVec 32 := Scalar.select v856 c1_i32_438 c4_i32_436
  let v858 : BitVec 32 := Scalar.remsi v844 v857
  let c0_i32_440 : BitVec 32 := 0#32
  let v860 : BitVec 1 := Scalar.cmpi .slt v858 c0_i32_440
  let c0_i32_441 : BitVec 32 := 0#32
  let v861 : BitVec 1 := Scalar.cmpi .slt v857 c0_i32_441
  let v862 : BitVec 1 := Scalar.xori v860 v861
  let c0_i32_439 : BitVec 32 := 0#32
  let v859 : BitVec 1 := Scalar.cmpi .ne v858 c0_i32_439
  let v863 : BitVec 1 := Scalar.andi v862 v859
  let v864 : BitVec 32 := Scalar.addi v858 v857
  let v865 : BitVec 32 := Scalar.select v863 v864 v858
  let v866 : BitVec 32 := Scalar.addi v855 v865
  let c0_i32_512 : BitVec 32 := 0#32
  ![v934.toNat, 3, v866.toNat, 0]
def k0_off80 (i : grid0.Coords) (k0_t5 : Fin (k0_t5_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_281 : BitVec 32 := 2#32
  let c0_i32_59 : BitVec 32 := 0#32
  let c0_i32_60 : BitVec 32 := 0#32
  let c1764_i32 : BitVec 32 := 1764#32
  let v3 : BitVec 32 := Scalar.subi c1764_i32 v1
  let c32_i32 : BitVec 32 := 32#32
  let v4 : BitVec 32 := Scalar.addi v3 c32_i32
  let c1_i32_1 : BitVec 32 := 1#32
  let v5 : BitVec 32 := Scalar.subi v4 c1_i32_1
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c32_i32_2 : BitVec 32 := 32#32
  let c0_i32_5 : BitVec 32 := 0#32
  let v12 : BitVec 1 := Scalar.cmpi .sgt c32_i32_2 c0_i32_5
  let v13 : BitVec 32 := Scalar.extui v12
  let c0_i32_6 : BitVec 32 := 0#32
  let v14 : BitVec 1 := Scalar.cmpi .slt c32_i32_2 c0_i32_6
  let v15 : BitVec 32 := Scalar.extui v14
  let v16 : BitVec 32 := Scalar.subi v13 v15
  let v17 : BitVec 1 := Scalar.cmpi .ne v11 v16
  let v18 : BitVec 32 := Scalar.remsi v5 c32_i32_2
  let c0_i32_7 : BitVec 32 := 0#32
  let v19 : BitVec 1 := Scalar.cmpi .ne v18 c0_i32_7
  let v20 : BitVec 1 := Scalar.andi v17 v19
  let v6 : BitVec 32 := Scalar.divsi v5 c32_i32_2
  let c1_i32_8 : BitVec 32 := 1#32
  let v21 : BitVec 32 := Scalar.subi v6 c1_i32_8
  let v22 : BitVec 32 := Scalar.select v20 v21 v6
  let c1_i32_46 : BitVec 32 := 1#32
  let v95 : BitVec 32 := Scalar.addi v22 c1_i32_46
  let c0_i32_48 : BitVec 32 := 0#32
  let v97 : BitVec 1 := Scalar.cmpi .sgt v95 c0_i32_48
  let v98 : BitVec 32 := Scalar.extui v97
  let c0_i32_49 : BitVec 32 := 0#32
  let v99 : BitVec 1 := Scalar.cmpi .slt v95 c0_i32_49
  let v100 : BitVec 32 := Scalar.extui v99
  let v101 : BitVec 32 := Scalar.subi v98 v100
  let c2_i32_47 : BitVec 32 := 2#32
  let c0_i32_50 : BitVec 32 := 0#32
  let v102 : BitVec 1 := Scalar.cmpi .sgt c2_i32_47 c0_i32_50
  let v103 : BitVec 32 := Scalar.extui v102
  let c0_i32_51 : BitVec 32 := 0#32
  let v104 : BitVec 1 := Scalar.cmpi .slt c2_i32_47 c0_i32_51
  let v105 : BitVec 32 := Scalar.extui v104
  let v106 : BitVec 32 := Scalar.subi v103 v105
  let v107 : BitVec 1 := Scalar.cmpi .ne v101 v106
  let v108 : BitVec 32 := Scalar.remsi v95 c2_i32_47
  let c0_i32_52 : BitVec 32 := 0#32
  let v109 : BitVec 1 := Scalar.cmpi .ne v108 c0_i32_52
  let v110 : BitVec 1 := Scalar.andi v107 v109
  let v96 : BitVec 32 := Scalar.divsi v95 c2_i32_47
  let c1_i32_53 : BitVec 32 := 1#32
  let v111 : BitVec 32 := Scalar.subi v96 c1_i32_53
  let v112 : BitVec 32 := Scalar.select v110 v111 v96
  let c0_i32_54 : BitVec 32 := 0#32
  let v113 : BitVec 32 := Scalar.subi v112 c0_i32_54
  let c1_i32_55 : BitVec 32 := 1#32
  let c1_i32_56 : BitVec 32 := 1#32
  let v114 : BitVec 32 := Scalar.subi c1_i32_55 c1_i32_56
  let v115 : BitVec 32 := Scalar.addi v113 v114
  let c1_i32_57 : BitVec 32 := 1#32
  let v116 : BitVec 32 := Scalar.divsi v115 c1_i32_57
  let v117 : BitVec 32 := Scalar.subi v116 c0_i32_60
  let c1_i32_61 : BitVec 32 := 1#32
  let v119 : BitVec 32 := Scalar.divsi v117 c1_i32_61
  let v120 : BitVec 32 := Scalar.muli v119 c1_i32_61
  let v121 : BitVec 32 := Scalar.addi c0_i32_60 v120
  let c1_i32_63 : BitVec 32 := 1#32
  let arg14 : BitVec 32 := Scf.iv v121 c1_i32_63 k0_t5
  let c1_i32_58 : BitVec 32 := 1#32
  let v553 : BitVec 32 := Scalar.muli arg14 c1_i32_58
  let v554 : BitVec 32 := Scalar.addi c0_i32_59 v553
  let v562 : BitVec 32 := Scalar.muli c2_i32_281 v554
  let c1_i32_282 : BitVec 32 := 1#32
  let v563 : BitVec 32 := Scalar.addi v562 c1_i32_282
  let c32_i32_283 : BitVec 32 := 32#32
  let v564 : BitVec 32 := Scalar.muli v563 c32_i32_283
  let v565 : BitVec 32 := Scalar.addi v1 v564
  let c0_i32_423 : BitVec 32 := 0#32
  let v829 : BitVec 1 := Scalar.cmpi .sgt v565 c0_i32_423
  let v830 : BitVec 32 := Scalar.extui v829
  let c0_i32_424 : BitVec 32 := 0#32
  let v831 : BitVec 1 := Scalar.cmpi .slt v565 c0_i32_424
  let v832 : BitVec 32 := Scalar.extui v831
  let v833 : BitVec 32 := Scalar.subi v830 v832
  let c21_i32_422 : BitVec 32 := 21#32
  let c0_i32_425 : BitVec 32 := 0#32
  let v834 : BitVec 1 := Scalar.cmpi .sgt c21_i32_422 c0_i32_425
  let v835 : BitVec 32 := Scalar.extui v834
  let c0_i32_426 : BitVec 32 := 0#32
  let v836 : BitVec 1 := Scalar.cmpi .slt c21_i32_422 c0_i32_426
  let v837 : BitVec 32 := Scalar.extui v836
  let v838 : BitVec 32 := Scalar.subi v835 v837
  let v839 : BitVec 1 := Scalar.cmpi .ne v833 v838
  let v840 : BitVec 32 := Scalar.remsi v565 c21_i32_422
  let c0_i32_427 : BitVec 32 := 0#32
  let v841 : BitVec 1 := Scalar.cmpi .ne v840 c0_i32_427
  let v842 : BitVec 1 := Scalar.andi v839 v841
  let v828 : BitVec 32 := Scalar.divsi v565 c21_i32_422
  let c1_i32_428 : BitVec 32 := 1#32
  let v843 : BitVec 32 := Scalar.subi v828 c1_i32_428
  let v844 : BitVec 32 := Scalar.select v842 v843 v828
  let c0_i32_471 : BitVec 32 := 0#32
  let v936 : BitVec 1 := Scalar.cmpi .sgt v844 c0_i32_471
  let v937 : BitVec 32 := Scalar.extui v936
  let c0_i32_472 : BitVec 32 := 0#32
  let v938 : BitVec 1 := Scalar.cmpi .slt v844 c0_i32_472
  let v939 : BitVec 32 := Scalar.extui v938
  let v940 : BitVec 32 := Scalar.subi v937 v939
  let c4_i32_470 : BitVec 32 := 4#32
  let c0_i32_473 : BitVec 32 := 0#32
  let v941 : BitVec 1 := Scalar.cmpi .sgt c4_i32_470 c0_i32_473
  let v942 : BitVec 32 := Scalar.extui v941
  let c0_i32_474 : BitVec 32 := 0#32
  let v943 : BitVec 1 := Scalar.cmpi .slt c4_i32_470 c0_i32_474
  let v944 : BitVec 32 := Scalar.extui v943
  let v945 : BitVec 32 := Scalar.subi v942 v944
  let v946 : BitVec 1 := Scalar.cmpi .ne v940 v945
  let v947 : BitVec 32 := Scalar.remsi v844 c4_i32_470
  let c0_i32_475 : BitVec 32 := 0#32
  let v948 : BitVec 1 := Scalar.cmpi .ne v947 c0_i32_475
  let v949 : BitVec 1 := Scalar.andi v946 v948
  let v935 : BitVec 32 := Scalar.divsi v844 c4_i32_470
  let c1_i32_476 : BitVec 32 := 1#32
  let v950 : BitVec 32 := Scalar.subi v935 c1_i32_476
  let v951 : BitVec 32 := Scalar.select v949 v950 v935
  let c4_i32_515 : BitVec 32 := 4#32
  let c21_i32_429 : BitVec 32 := 21#32
  let c0_i32_430 : BitVec 32 := 0#32
  let v845 : BitVec 1 := Scalar.cmpi .eq c21_i32_429 c0_i32_430
  let c1_i32_431 : BitVec 32 := 1#32
  let v846 : BitVec 32 := Scalar.select v845 c1_i32_431 c21_i32_429
  let v847 : BitVec 32 := Scalar.remsi v565 v846
  let c0_i32_433 : BitVec 32 := 0#32
  let v849 : BitVec 1 := Scalar.cmpi .slt v847 c0_i32_433
  let c0_i32_434 : BitVec 32 := 0#32
  let v850 : BitVec 1 := Scalar.cmpi .slt v846 c0_i32_434
  let v851 : BitVec 1 := Scalar.xori v849 v850
  let c0_i32_432 : BitVec 32 := 0#32
  let v848 : BitVec 1 := Scalar.cmpi .ne v847 c0_i32_432
  let v852 : BitVec 1 := Scalar.andi v851 v848
  let v853 : BitVec 32 := Scalar.addi v847 v846
  let v854 : BitVec 32 := Scalar.select v852 v853 v847
  let c4_i32_435 : BitVec 32 := 4#32
  let v855 : BitVec 32 := Scalar.muli v854 c4_i32_435
  let c4_i32_436 : BitVec 32 := 4#32
  let c0_i32_437 : BitVec 32 := 0#32
  let v856 : BitVec 1 := Scalar.cmpi .eq c4_i32_436 c0_i32_437
  let c1_i32_438 : BitVec 32 := 1#32
  let v857 : BitVec 32 := Scalar.select v856 c1_i32_438 c4_i32_436
  let v858 : BitVec 32 := Scalar.remsi v844 v857
  let c0_i32_440 : BitVec 32 := 0#32
  let v860 : BitVec 1 := Scalar.cmpi .slt v858 c0_i32_440
  let c0_i32_441 : BitVec 32 := 0#32
  let v861 : BitVec 1 := Scalar.cmpi .slt v857 c0_i32_441
  let v862 : BitVec 1 := Scalar.xori v860 v861
  let c0_i32_439 : BitVec 32 := 0#32
  let v859 : BitVec 1 := Scalar.cmpi .ne v858 c0_i32_439
  let v863 : BitVec 1 := Scalar.andi v862 v859
  let v864 : BitVec 32 := Scalar.addi v858 v857
  let v865 : BitVec 32 := Scalar.select v863 v864 v858
  let v866 : BitVec 32 := Scalar.addi v855 v865
  let c0_i32_518 : BitVec 32 := 0#32
  ![v951.toNat, 4, v866.toNat, 0]
def k0_off81 (i : grid0.Coords) (k0_t5 : Fin (k0_t5_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_281 : BitVec 32 := 2#32
  let c0_i32_59 : BitVec 32 := 0#32
  let c0_i32_60 : BitVec 32 := 0#32
  let c1764_i32 : BitVec 32 := 1764#32
  let v3 : BitVec 32 := Scalar.subi c1764_i32 v1
  let c32_i32 : BitVec 32 := 32#32
  let v4 : BitVec 32 := Scalar.addi v3 c32_i32
  let c1_i32_1 : BitVec 32 := 1#32
  let v5 : BitVec 32 := Scalar.subi v4 c1_i32_1
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c32_i32_2 : BitVec 32 := 32#32
  let c0_i32_5 : BitVec 32 := 0#32
  let v12 : BitVec 1 := Scalar.cmpi .sgt c32_i32_2 c0_i32_5
  let v13 : BitVec 32 := Scalar.extui v12
  let c0_i32_6 : BitVec 32 := 0#32
  let v14 : BitVec 1 := Scalar.cmpi .slt c32_i32_2 c0_i32_6
  let v15 : BitVec 32 := Scalar.extui v14
  let v16 : BitVec 32 := Scalar.subi v13 v15
  let v17 : BitVec 1 := Scalar.cmpi .ne v11 v16
  let v18 : BitVec 32 := Scalar.remsi v5 c32_i32_2
  let c0_i32_7 : BitVec 32 := 0#32
  let v19 : BitVec 1 := Scalar.cmpi .ne v18 c0_i32_7
  let v20 : BitVec 1 := Scalar.andi v17 v19
  let v6 : BitVec 32 := Scalar.divsi v5 c32_i32_2
  let c1_i32_8 : BitVec 32 := 1#32
  let v21 : BitVec 32 := Scalar.subi v6 c1_i32_8
  let v22 : BitVec 32 := Scalar.select v20 v21 v6
  let c1_i32_46 : BitVec 32 := 1#32
  let v95 : BitVec 32 := Scalar.addi v22 c1_i32_46
  let c0_i32_48 : BitVec 32 := 0#32
  let v97 : BitVec 1 := Scalar.cmpi .sgt v95 c0_i32_48
  let v98 : BitVec 32 := Scalar.extui v97
  let c0_i32_49 : BitVec 32 := 0#32
  let v99 : BitVec 1 := Scalar.cmpi .slt v95 c0_i32_49
  let v100 : BitVec 32 := Scalar.extui v99
  let v101 : BitVec 32 := Scalar.subi v98 v100
  let c2_i32_47 : BitVec 32 := 2#32
  let c0_i32_50 : BitVec 32 := 0#32
  let v102 : BitVec 1 := Scalar.cmpi .sgt c2_i32_47 c0_i32_50
  let v103 : BitVec 32 := Scalar.extui v102
  let c0_i32_51 : BitVec 32 := 0#32
  let v104 : BitVec 1 := Scalar.cmpi .slt c2_i32_47 c0_i32_51
  let v105 : BitVec 32 := Scalar.extui v104
  let v106 : BitVec 32 := Scalar.subi v103 v105
  let v107 : BitVec 1 := Scalar.cmpi .ne v101 v106
  let v108 : BitVec 32 := Scalar.remsi v95 c2_i32_47
  let c0_i32_52 : BitVec 32 := 0#32
  let v109 : BitVec 1 := Scalar.cmpi .ne v108 c0_i32_52
  let v110 : BitVec 1 := Scalar.andi v107 v109
  let v96 : BitVec 32 := Scalar.divsi v95 c2_i32_47
  let c1_i32_53 : BitVec 32 := 1#32
  let v111 : BitVec 32 := Scalar.subi v96 c1_i32_53
  let v112 : BitVec 32 := Scalar.select v110 v111 v96
  let c0_i32_54 : BitVec 32 := 0#32
  let v113 : BitVec 32 := Scalar.subi v112 c0_i32_54
  let c1_i32_55 : BitVec 32 := 1#32
  let c1_i32_56 : BitVec 32 := 1#32
  let v114 : BitVec 32 := Scalar.subi c1_i32_55 c1_i32_56
  let v115 : BitVec 32 := Scalar.addi v113 v114
  let c1_i32_57 : BitVec 32 := 1#32
  let v116 : BitVec 32 := Scalar.divsi v115 c1_i32_57
  let v117 : BitVec 32 := Scalar.subi v116 c0_i32_60
  let c1_i32_61 : BitVec 32 := 1#32
  let v119 : BitVec 32 := Scalar.divsi v117 c1_i32_61
  let v120 : BitVec 32 := Scalar.muli v119 c1_i32_61
  let v121 : BitVec 32 := Scalar.addi c0_i32_60 v120
  let c1_i32_63 : BitVec 32 := 1#32
  let arg14 : BitVec 32 := Scf.iv v121 c1_i32_63 k0_t5
  let c1_i32_58 : BitVec 32 := 1#32
  let v553 : BitVec 32 := Scalar.muli arg14 c1_i32_58
  let v554 : BitVec 32 := Scalar.addi c0_i32_59 v553
  let v562 : BitVec 32 := Scalar.muli c2_i32_281 v554
  let c1_i32_282 : BitVec 32 := 1#32
  let v563 : BitVec 32 := Scalar.addi v562 c1_i32_282
  let c32_i32_283 : BitVec 32 := 32#32
  let v564 : BitVec 32 := Scalar.muli v563 c32_i32_283
  let v565 : BitVec 32 := Scalar.addi v1 v564
  let c0_i32_423 : BitVec 32 := 0#32
  let v829 : BitVec 1 := Scalar.cmpi .sgt v565 c0_i32_423
  let v830 : BitVec 32 := Scalar.extui v829
  let c0_i32_424 : BitVec 32 := 0#32
  let v831 : BitVec 1 := Scalar.cmpi .slt v565 c0_i32_424
  let v832 : BitVec 32 := Scalar.extui v831
  let v833 : BitVec 32 := Scalar.subi v830 v832
  let c21_i32_422 : BitVec 32 := 21#32
  let c0_i32_425 : BitVec 32 := 0#32
  let v834 : BitVec 1 := Scalar.cmpi .sgt c21_i32_422 c0_i32_425
  let v835 : BitVec 32 := Scalar.extui v834
  let c0_i32_426 : BitVec 32 := 0#32
  let v836 : BitVec 1 := Scalar.cmpi .slt c21_i32_422 c0_i32_426
  let v837 : BitVec 32 := Scalar.extui v836
  let v838 : BitVec 32 := Scalar.subi v835 v837
  let v839 : BitVec 1 := Scalar.cmpi .ne v833 v838
  let v840 : BitVec 32 := Scalar.remsi v565 c21_i32_422
  let c0_i32_427 : BitVec 32 := 0#32
  let v841 : BitVec 1 := Scalar.cmpi .ne v840 c0_i32_427
  let v842 : BitVec 1 := Scalar.andi v839 v841
  let v828 : BitVec 32 := Scalar.divsi v565 c21_i32_422
  let c1_i32_428 : BitVec 32 := 1#32
  let v843 : BitVec 32 := Scalar.subi v828 c1_i32_428
  let v844 : BitVec 32 := Scalar.select v842 v843 v828
  let c0_i32_478 : BitVec 32 := 0#32
  let v953 : BitVec 1 := Scalar.cmpi .sgt v844 c0_i32_478
  let v954 : BitVec 32 := Scalar.extui v953
  let c0_i32_479 : BitVec 32 := 0#32
  let v955 : BitVec 1 := Scalar.cmpi .slt v844 c0_i32_479
  let v956 : BitVec 32 := Scalar.extui v955
  let v957 : BitVec 32 := Scalar.subi v954 v956
  let c4_i32_477 : BitVec 32 := 4#32
  let c0_i32_480 : BitVec 32 := 0#32
  let v958 : BitVec 1 := Scalar.cmpi .sgt c4_i32_477 c0_i32_480
  let v959 : BitVec 32 := Scalar.extui v958
  let c0_i32_481 : BitVec 32 := 0#32
  let v960 : BitVec 1 := Scalar.cmpi .slt c4_i32_477 c0_i32_481
  let v961 : BitVec 32 := Scalar.extui v960
  let v962 : BitVec 32 := Scalar.subi v959 v961
  let v963 : BitVec 1 := Scalar.cmpi .ne v957 v962
  let v964 : BitVec 32 := Scalar.remsi v844 c4_i32_477
  let c0_i32_482 : BitVec 32 := 0#32
  let v965 : BitVec 1 := Scalar.cmpi .ne v964 c0_i32_482
  let v966 : BitVec 1 := Scalar.andi v963 v965
  let v952 : BitVec 32 := Scalar.divsi v844 c4_i32_477
  let c1_i32_483 : BitVec 32 := 1#32
  let v967 : BitVec 32 := Scalar.subi v952 c1_i32_483
  let v968 : BitVec 32 := Scalar.select v966 v967 v952
  let c5_i32_521 : BitVec 32 := 5#32
  let c21_i32_429 : BitVec 32 := 21#32
  let c0_i32_430 : BitVec 32 := 0#32
  let v845 : BitVec 1 := Scalar.cmpi .eq c21_i32_429 c0_i32_430
  let c1_i32_431 : BitVec 32 := 1#32
  let v846 : BitVec 32 := Scalar.select v845 c1_i32_431 c21_i32_429
  let v847 : BitVec 32 := Scalar.remsi v565 v846
  let c0_i32_433 : BitVec 32 := 0#32
  let v849 : BitVec 1 := Scalar.cmpi .slt v847 c0_i32_433
  let c0_i32_434 : BitVec 32 := 0#32
  let v850 : BitVec 1 := Scalar.cmpi .slt v846 c0_i32_434
  let v851 : BitVec 1 := Scalar.xori v849 v850
  let c0_i32_432 : BitVec 32 := 0#32
  let v848 : BitVec 1 := Scalar.cmpi .ne v847 c0_i32_432
  let v852 : BitVec 1 := Scalar.andi v851 v848
  let v853 : BitVec 32 := Scalar.addi v847 v846
  let v854 : BitVec 32 := Scalar.select v852 v853 v847
  let c4_i32_435 : BitVec 32 := 4#32
  let v855 : BitVec 32 := Scalar.muli v854 c4_i32_435
  let c4_i32_436 : BitVec 32 := 4#32
  let c0_i32_437 : BitVec 32 := 0#32
  let v856 : BitVec 1 := Scalar.cmpi .eq c4_i32_436 c0_i32_437
  let c1_i32_438 : BitVec 32 := 1#32
  let v857 : BitVec 32 := Scalar.select v856 c1_i32_438 c4_i32_436
  let v858 : BitVec 32 := Scalar.remsi v844 v857
  let c0_i32_440 : BitVec 32 := 0#32
  let v860 : BitVec 1 := Scalar.cmpi .slt v858 c0_i32_440
  let c0_i32_441 : BitVec 32 := 0#32
  let v861 : BitVec 1 := Scalar.cmpi .slt v857 c0_i32_441
  let v862 : BitVec 1 := Scalar.xori v860 v861
  let c0_i32_439 : BitVec 32 := 0#32
  let v859 : BitVec 1 := Scalar.cmpi .ne v858 c0_i32_439
  let v863 : BitVec 1 := Scalar.andi v862 v859
  let v864 : BitVec 32 := Scalar.addi v858 v857
  let v865 : BitVec 32 := Scalar.select v863 v864 v858
  let v866 : BitVec 32 := Scalar.addi v855 v865
  let c0_i32_524 : BitVec 32 := 0#32
  ![v968.toNat, 5, v866.toNat, 0]
def k0_off82 (i : grid0.Coords) (k0_t5 : Fin (k0_t5_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_281 : BitVec 32 := 2#32
  let c0_i32_59 : BitVec 32 := 0#32
  let c0_i32_60 : BitVec 32 := 0#32
  let c1764_i32 : BitVec 32 := 1764#32
  let v3 : BitVec 32 := Scalar.subi c1764_i32 v1
  let c32_i32 : BitVec 32 := 32#32
  let v4 : BitVec 32 := Scalar.addi v3 c32_i32
  let c1_i32_1 : BitVec 32 := 1#32
  let v5 : BitVec 32 := Scalar.subi v4 c1_i32_1
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c32_i32_2 : BitVec 32 := 32#32
  let c0_i32_5 : BitVec 32 := 0#32
  let v12 : BitVec 1 := Scalar.cmpi .sgt c32_i32_2 c0_i32_5
  let v13 : BitVec 32 := Scalar.extui v12
  let c0_i32_6 : BitVec 32 := 0#32
  let v14 : BitVec 1 := Scalar.cmpi .slt c32_i32_2 c0_i32_6
  let v15 : BitVec 32 := Scalar.extui v14
  let v16 : BitVec 32 := Scalar.subi v13 v15
  let v17 : BitVec 1 := Scalar.cmpi .ne v11 v16
  let v18 : BitVec 32 := Scalar.remsi v5 c32_i32_2
  let c0_i32_7 : BitVec 32 := 0#32
  let v19 : BitVec 1 := Scalar.cmpi .ne v18 c0_i32_7
  let v20 : BitVec 1 := Scalar.andi v17 v19
  let v6 : BitVec 32 := Scalar.divsi v5 c32_i32_2
  let c1_i32_8 : BitVec 32 := 1#32
  let v21 : BitVec 32 := Scalar.subi v6 c1_i32_8
  let v22 : BitVec 32 := Scalar.select v20 v21 v6
  let c1_i32_46 : BitVec 32 := 1#32
  let v95 : BitVec 32 := Scalar.addi v22 c1_i32_46
  let c0_i32_48 : BitVec 32 := 0#32
  let v97 : BitVec 1 := Scalar.cmpi .sgt v95 c0_i32_48
  let v98 : BitVec 32 := Scalar.extui v97
  let c0_i32_49 : BitVec 32 := 0#32
  let v99 : BitVec 1 := Scalar.cmpi .slt v95 c0_i32_49
  let v100 : BitVec 32 := Scalar.extui v99
  let v101 : BitVec 32 := Scalar.subi v98 v100
  let c2_i32_47 : BitVec 32 := 2#32
  let c0_i32_50 : BitVec 32 := 0#32
  let v102 : BitVec 1 := Scalar.cmpi .sgt c2_i32_47 c0_i32_50
  let v103 : BitVec 32 := Scalar.extui v102
  let c0_i32_51 : BitVec 32 := 0#32
  let v104 : BitVec 1 := Scalar.cmpi .slt c2_i32_47 c0_i32_51
  let v105 : BitVec 32 := Scalar.extui v104
  let v106 : BitVec 32 := Scalar.subi v103 v105
  let v107 : BitVec 1 := Scalar.cmpi .ne v101 v106
  let v108 : BitVec 32 := Scalar.remsi v95 c2_i32_47
  let c0_i32_52 : BitVec 32 := 0#32
  let v109 : BitVec 1 := Scalar.cmpi .ne v108 c0_i32_52
  let v110 : BitVec 1 := Scalar.andi v107 v109
  let v96 : BitVec 32 := Scalar.divsi v95 c2_i32_47
  let c1_i32_53 : BitVec 32 := 1#32
  let v111 : BitVec 32 := Scalar.subi v96 c1_i32_53
  let v112 : BitVec 32 := Scalar.select v110 v111 v96
  let c0_i32_54 : BitVec 32 := 0#32
  let v113 : BitVec 32 := Scalar.subi v112 c0_i32_54
  let c1_i32_55 : BitVec 32 := 1#32
  let c1_i32_56 : BitVec 32 := 1#32
  let v114 : BitVec 32 := Scalar.subi c1_i32_55 c1_i32_56
  let v115 : BitVec 32 := Scalar.addi v113 v114
  let c1_i32_57 : BitVec 32 := 1#32
  let v116 : BitVec 32 := Scalar.divsi v115 c1_i32_57
  let v117 : BitVec 32 := Scalar.subi v116 c0_i32_60
  let c1_i32_61 : BitVec 32 := 1#32
  let v119 : BitVec 32 := Scalar.divsi v117 c1_i32_61
  let v120 : BitVec 32 := Scalar.muli v119 c1_i32_61
  let v121 : BitVec 32 := Scalar.addi c0_i32_60 v120
  let c1_i32_63 : BitVec 32 := 1#32
  let arg14 : BitVec 32 := Scf.iv v121 c1_i32_63 k0_t5
  let c1_i32_58 : BitVec 32 := 1#32
  let v553 : BitVec 32 := Scalar.muli arg14 c1_i32_58
  let v554 : BitVec 32 := Scalar.addi c0_i32_59 v553
  let v562 : BitVec 32 := Scalar.muli c2_i32_281 v554
  let c1_i32_282 : BitVec 32 := 1#32
  let v563 : BitVec 32 := Scalar.addi v562 c1_i32_282
  let c32_i32_283 : BitVec 32 := 32#32
  let v564 : BitVec 32 := Scalar.muli v563 c32_i32_283
  let v565 : BitVec 32 := Scalar.addi v1 v564
  let c0_i32_423 : BitVec 32 := 0#32
  let v829 : BitVec 1 := Scalar.cmpi .sgt v565 c0_i32_423
  let v830 : BitVec 32 := Scalar.extui v829
  let c0_i32_424 : BitVec 32 := 0#32
  let v831 : BitVec 1 := Scalar.cmpi .slt v565 c0_i32_424
  let v832 : BitVec 32 := Scalar.extui v831
  let v833 : BitVec 32 := Scalar.subi v830 v832
  let c21_i32_422 : BitVec 32 := 21#32
  let c0_i32_425 : BitVec 32 := 0#32
  let v834 : BitVec 1 := Scalar.cmpi .sgt c21_i32_422 c0_i32_425
  let v835 : BitVec 32 := Scalar.extui v834
  let c0_i32_426 : BitVec 32 := 0#32
  let v836 : BitVec 1 := Scalar.cmpi .slt c21_i32_422 c0_i32_426
  let v837 : BitVec 32 := Scalar.extui v836
  let v838 : BitVec 32 := Scalar.subi v835 v837
  let v839 : BitVec 1 := Scalar.cmpi .ne v833 v838
  let v840 : BitVec 32 := Scalar.remsi v565 c21_i32_422
  let c0_i32_427 : BitVec 32 := 0#32
  let v841 : BitVec 1 := Scalar.cmpi .ne v840 c0_i32_427
  let v842 : BitVec 1 := Scalar.andi v839 v841
  let v828 : BitVec 32 := Scalar.divsi v565 c21_i32_422
  let c1_i32_428 : BitVec 32 := 1#32
  let v843 : BitVec 32 := Scalar.subi v828 c1_i32_428
  let v844 : BitVec 32 := Scalar.select v842 v843 v828
  let c0_i32_485 : BitVec 32 := 0#32
  let v970 : BitVec 1 := Scalar.cmpi .sgt v844 c0_i32_485
  let v971 : BitVec 32 := Scalar.extui v970
  let c0_i32_486 : BitVec 32 := 0#32
  let v972 : BitVec 1 := Scalar.cmpi .slt v844 c0_i32_486
  let v973 : BitVec 32 := Scalar.extui v972
  let v974 : BitVec 32 := Scalar.subi v971 v973
  let c4_i32_484 : BitVec 32 := 4#32
  let c0_i32_487 : BitVec 32 := 0#32
  let v975 : BitVec 1 := Scalar.cmpi .sgt c4_i32_484 c0_i32_487
  let v976 : BitVec 32 := Scalar.extui v975
  let c0_i32_488 : BitVec 32 := 0#32
  let v977 : BitVec 1 := Scalar.cmpi .slt c4_i32_484 c0_i32_488
  let v978 : BitVec 32 := Scalar.extui v977
  let v979 : BitVec 32 := Scalar.subi v976 v978
  let v980 : BitVec 1 := Scalar.cmpi .ne v974 v979
  let v981 : BitVec 32 := Scalar.remsi v844 c4_i32_484
  let c0_i32_489 : BitVec 32 := 0#32
  let v982 : BitVec 1 := Scalar.cmpi .ne v981 c0_i32_489
  let v983 : BitVec 1 := Scalar.andi v980 v982
  let v969 : BitVec 32 := Scalar.divsi v844 c4_i32_484
  let c1_i32_490 : BitVec 32 := 1#32
  let v984 : BitVec 32 := Scalar.subi v969 c1_i32_490
  let v985 : BitVec 32 := Scalar.select v983 v984 v969
  let c6_i32_527 : BitVec 32 := 6#32
  let c21_i32_429 : BitVec 32 := 21#32
  let c0_i32_430 : BitVec 32 := 0#32
  let v845 : BitVec 1 := Scalar.cmpi .eq c21_i32_429 c0_i32_430
  let c1_i32_431 : BitVec 32 := 1#32
  let v846 : BitVec 32 := Scalar.select v845 c1_i32_431 c21_i32_429
  let v847 : BitVec 32 := Scalar.remsi v565 v846
  let c0_i32_433 : BitVec 32 := 0#32
  let v849 : BitVec 1 := Scalar.cmpi .slt v847 c0_i32_433
  let c0_i32_434 : BitVec 32 := 0#32
  let v850 : BitVec 1 := Scalar.cmpi .slt v846 c0_i32_434
  let v851 : BitVec 1 := Scalar.xori v849 v850
  let c0_i32_432 : BitVec 32 := 0#32
  let v848 : BitVec 1 := Scalar.cmpi .ne v847 c0_i32_432
  let v852 : BitVec 1 := Scalar.andi v851 v848
  let v853 : BitVec 32 := Scalar.addi v847 v846
  let v854 : BitVec 32 := Scalar.select v852 v853 v847
  let c4_i32_435 : BitVec 32 := 4#32
  let v855 : BitVec 32 := Scalar.muli v854 c4_i32_435
  let c4_i32_436 : BitVec 32 := 4#32
  let c0_i32_437 : BitVec 32 := 0#32
  let v856 : BitVec 1 := Scalar.cmpi .eq c4_i32_436 c0_i32_437
  let c1_i32_438 : BitVec 32 := 1#32
  let v857 : BitVec 32 := Scalar.select v856 c1_i32_438 c4_i32_436
  let v858 : BitVec 32 := Scalar.remsi v844 v857
  let c0_i32_440 : BitVec 32 := 0#32
  let v860 : BitVec 1 := Scalar.cmpi .slt v858 c0_i32_440
  let c0_i32_441 : BitVec 32 := 0#32
  let v861 : BitVec 1 := Scalar.cmpi .slt v857 c0_i32_441
  let v862 : BitVec 1 := Scalar.xori v860 v861
  let c0_i32_439 : BitVec 32 := 0#32
  let v859 : BitVec 1 := Scalar.cmpi .ne v858 c0_i32_439
  let v863 : BitVec 1 := Scalar.andi v862 v859
  let v864 : BitVec 32 := Scalar.addi v858 v857
  let v865 : BitVec 32 := Scalar.select v863 v864 v858
  let v866 : BitVec 32 := Scalar.addi v855 v865
  let c0_i32_530 : BitVec 32 := 0#32
  ![v985.toNat, 6, v866.toNat, 0]
@[reducible] def k0_t7_loop : Scf.Loop 32 :=
  let c0_i32_305 : BitVec 32 := 0#32
  let c96_i32_306 : BitVec 32 := 96#32
  let v609 : BitVec 32 := Scalar.addi c0_i32_305 c96_i32_306
  let c1_i32_307 : BitVec 32 := 1#32
  ⟨c0_i32_305, v609, c1_i32_307⟩
def k0_off83 (k0_t7 : Fin k0_t7_loop.trips) : Fin 1 → Nat :=
  let c0_i32_422 : BitVec 32 := 0#32
  let c0_i32_305 : BitVec 32 := 0#32
  let c1_i32_307 : BitVec 32 := 1#32
  let arg15 : BitVec 32 := Scf.iv c0_i32_305 c1_i32_307 k0_t7
  let c16_i32 : BitVec 32 := 16#32
  let v828 : BitVec 32 := Scalar.muli arg15 c16_i32
  let v829 : BitVec 32 := Scalar.addi c0_i32_422 v828
  let v830 : Index := Scalar.indexCast v829
  ![v830.toNat]

def k0_chk22 (i : grid0.Coords) (k0_t5 : Fin (k0_t5_loop i).trips) (v833 : IVec S16 32) : Prop :=
  (∀ (k0_h10 : k0_cond10 i k0_t5 = 1#1), ∀ a x, ((![v833] : Fin 1 → IVec S16 32) a x).toNat < S45056.size a)
theorem k0_idx22_inb : ∀ (i : grid0.Coords) (k0_t5 : Fin (k0_t5_loop i).trips) (v833 : IVec S16 32) (k0_hw22 : k0_chk22 i k0_t5 v833), ∀ (k0_h10 : k0_cond10 i k0_t5 = 1#1), ∀ a x, ((![v833] : Fin 1 → IVec S16 32) a x).toNat < S45056.size a := fun i k0_t5 v833 k0_hw22 k0_h10 => k0_hw22 k0_h10
def k0_off84 (k0_t7 : Fin k0_t7_loop.trips) : Fin 1 → Nat :=
  let c0_i32_424 : BitVec 32 := 0#32
  let c0_i32_422 : BitVec 32 := 0#32
  let c0_i32_305 : BitVec 32 := 0#32
  let c1_i32_307 : BitVec 32 := 1#32
  let arg15 : BitVec 32 := Scf.iv c0_i32_305 c1_i32_307 k0_t7
  let c16_i32 : BitVec 32 := 16#32
  let v828 : BitVec 32 := Scalar.muli arg15 c16_i32
  let v829 : BitVec 32 := Scalar.addi c0_i32_422 v828
  let v835 : BitVec 32 := Scalar.addi c0_i32_424 v829
  let v836 : Index := Scalar.indexCast v835
  ![v836.toNat]

def k0_chk23 (i : grid0.Coords) (k0_t5 : Fin (k0_t5_loop i).trips) (v839 : IVec S16 32) : Prop :=
  (∀ (k0_h10 : k0_cond10 i k0_t5 = 1#1), ∀ a x, ((![v839] : Fin 1 → IVec S16 32) a x).toNat < S45056.size a)
theorem k0_idx23_inb : ∀ (i : grid0.Coords) (k0_t5 : Fin (k0_t5_loop i).trips) (v839 : IVec S16 32) (k0_hw23 : k0_chk23 i k0_t5 v839), ∀ (k0_h10 : k0_cond10 i k0_t5 = 1#1), ∀ a x, ((![v839] : Fin 1 → IVec S16 32) a x).toNat < S45056.size a := fun i k0_t5 v839 k0_hw23 k0_h10 => k0_hw23 k0_h10
def k0_off85 (k0_t7 : Fin k0_t7_loop.trips) : Fin 1 → Nat :=
  let c1536_i32_426 : BitVec 32 := 1536#32
  let c0_i32_422 : BitVec 32 := 0#32
  let c0_i32_305 : BitVec 32 := 0#32
  let c1_i32_307 : BitVec 32 := 1#32
  let arg15 : BitVec 32 := Scf.iv c0_i32_305 c1_i32_307 k0_t7
  let c16_i32 : BitVec 32 := 16#32
  let v828 : BitVec 32 := Scalar.muli arg15 c16_i32
  let v829 : BitVec 32 := Scalar.addi c0_i32_422 v828
  let v841 : BitVec 32 := Scalar.addi c1536_i32_426 v829
  let v842 : Index := Scalar.indexCast v841
  ![v842.toNat]

def k0_chk24 (i : grid0.Coords) (k0_t5 : Fin (k0_t5_loop i).trips) (v845 : IVec S16 32) : Prop :=
  (∀ (k0_h10 : k0_cond10 i k0_t5 = 1#1), ∀ a x, ((![v845] : Fin 1 → IVec S16 32) a x).toNat < S45056.size a)
theorem k0_idx24_inb : ∀ (i : grid0.Coords) (k0_t5 : Fin (k0_t5_loop i).trips) (v845 : IVec S16 32) (k0_hw24 : k0_chk24 i k0_t5 v845), ∀ (k0_h10 : k0_cond10 i k0_t5 = 1#1), ∀ a x, ((![v845] : Fin 1 → IVec S16 32) a x).toNat < S45056.size a := fun i k0_t5 v845 k0_hw24 k0_h10 => k0_hw24 k0_h10
def k0_off86 (k0_t7 : Fin k0_t7_loop.trips) : Fin 1 → Nat :=
  let c3072_i32_428 : BitVec 32 := 3072#32
  let c0_i32_422 : BitVec 32 := 0#32
  let c0_i32_305 : BitVec 32 := 0#32
  let c1_i32_307 : BitVec 32 := 1#32
  let arg15 : BitVec 32 := Scf.iv c0_i32_305 c1_i32_307 k0_t7
  let c16_i32 : BitVec 32 := 16#32
  let v828 : BitVec 32 := Scalar.muli arg15 c16_i32
  let v829 : BitVec 32 := Scalar.addi c0_i32_422 v828
  let v847 : BitVec 32 := Scalar.addi c3072_i32_428 v829
  let v848 : Index := Scalar.indexCast v847
  ![v848.toNat]

def k0_chk25 (i : grid0.Coords) (k0_t5 : Fin (k0_t5_loop i).trips) (v851 : IVec S16 32) : Prop :=
  (∀ (k0_h10 : k0_cond10 i k0_t5 = 1#1), ∀ a x, ((![v851] : Fin 1 → IVec S16 32) a x).toNat < S45056.size a)
theorem k0_idx25_inb : ∀ (i : grid0.Coords) (k0_t5 : Fin (k0_t5_loop i).trips) (v851 : IVec S16 32) (k0_hw25 : k0_chk25 i k0_t5 v851), ∀ (k0_h10 : k0_cond10 i k0_t5 = 1#1), ∀ a x, ((![v851] : Fin 1 → IVec S16 32) a x).toNat < S45056.size a := fun i k0_t5 v851 k0_hw25 k0_h10 => k0_hw25 k0_h10
def k0_off87 (k0_t7 : Fin k0_t7_loop.trips) : Fin 1 → Nat :=
  let c4608_i32_430 : BitVec 32 := 4608#32
  let c0_i32_422 : BitVec 32 := 0#32
  let c0_i32_305 : BitVec 32 := 0#32
  let c1_i32_307 : BitVec 32 := 1#32
  let arg15 : BitVec 32 := Scf.iv c0_i32_305 c1_i32_307 k0_t7
  let c16_i32 : BitVec 32 := 16#32
  let v828 : BitVec 32 := Scalar.muli arg15 c16_i32
  let v829 : BitVec 32 := Scalar.addi c0_i32_422 v828
  let v853 : BitVec 32 := Scalar.addi c4608_i32_430 v829
  let v854 : Index := Scalar.indexCast v853
  ![v854.toNat]

def k0_chk26 (i : grid0.Coords) (k0_t5 : Fin (k0_t5_loop i).trips) (v857 : IVec S16 32) : Prop :=
  (∀ (k0_h10 : k0_cond10 i k0_t5 = 1#1), ∀ a x, ((![v857] : Fin 1 → IVec S16 32) a x).toNat < S45056.size a)
theorem k0_idx26_inb : ∀ (i : grid0.Coords) (k0_t5 : Fin (k0_t5_loop i).trips) (v857 : IVec S16 32) (k0_hw26 : k0_chk26 i k0_t5 v857), ∀ (k0_h10 : k0_cond10 i k0_t5 = 1#1), ∀ a x, ((![v857] : Fin 1 → IVec S16 32) a x).toNat < S45056.size a := fun i k0_t5 v857 k0_hw26 k0_h10 => k0_hw26 k0_h10
def k0_off88 (k0_t7 : Fin k0_t7_loop.trips) : Fin 1 → Nat :=
  let c6144_i32_432 : BitVec 32 := 6144#32
  let c0_i32_422 : BitVec 32 := 0#32
  let c0_i32_305 : BitVec 32 := 0#32
  let c1_i32_307 : BitVec 32 := 1#32
  let arg15 : BitVec 32 := Scf.iv c0_i32_305 c1_i32_307 k0_t7
  let c16_i32 : BitVec 32 := 16#32
  let v828 : BitVec 32 := Scalar.muli arg15 c16_i32
  let v829 : BitVec 32 := Scalar.addi c0_i32_422 v828
  let v859 : BitVec 32 := Scalar.addi c6144_i32_432 v829
  let v860 : Index := Scalar.indexCast v859
  ![v860.toNat]

def k0_chk27 (i : grid0.Coords) (k0_t5 : Fin (k0_t5_loop i).trips) (v863 : IVec S16 32) : Prop :=
  (∀ (k0_h10 : k0_cond10 i k0_t5 = 1#1), ∀ a x, ((![v863] : Fin 1 → IVec S16 32) a x).toNat < S45056.size a)
theorem k0_idx27_inb : ∀ (i : grid0.Coords) (k0_t5 : Fin (k0_t5_loop i).trips) (v863 : IVec S16 32) (k0_hw27 : k0_chk27 i k0_t5 v863), ∀ (k0_h10 : k0_cond10 i k0_t5 = 1#1), ∀ a x, ((![v863] : Fin 1 → IVec S16 32) a x).toNat < S45056.size a := fun i k0_t5 v863 k0_hw27 k0_h10 => k0_hw27 k0_h10
def k0_off89 (k0_t7 : Fin k0_t7_loop.trips) : Fin 1 → Nat :=
  let c7680_i32_434 : BitVec 32 := 7680#32
  let c0_i32_422 : BitVec 32 := 0#32
  let c0_i32_305 : BitVec 32 := 0#32
  let c1_i32_307 : BitVec 32 := 1#32
  let arg15 : BitVec 32 := Scf.iv c0_i32_305 c1_i32_307 k0_t7
  let c16_i32 : BitVec 32 := 16#32
  let v828 : BitVec 32 := Scalar.muli arg15 c16_i32
  let v829 : BitVec 32 := Scalar.addi c0_i32_422 v828
  let v865 : BitVec 32 := Scalar.addi c7680_i32_434 v829
  let v866 : Index := Scalar.indexCast v865
  ![v866.toNat]

def k0_chk28 (i : grid0.Coords) (k0_t5 : Fin (k0_t5_loop i).trips) (v869 : IVec S16 32) : Prop :=
  (∀ (k0_h10 : k0_cond10 i k0_t5 = 1#1), ∀ a x, ((![v869] : Fin 1 → IVec S16 32) a x).toNat < S45056.size a)
theorem k0_idx28_inb : ∀ (i : grid0.Coords) (k0_t5 : Fin (k0_t5_loop i).trips) (v869 : IVec S16 32) (k0_hw28 : k0_chk28 i k0_t5 v869), ∀ (k0_h10 : k0_cond10 i k0_t5 = 1#1), ∀ a x, ((![v869] : Fin 1 → IVec S16 32) a x).toNat < S45056.size a := fun i k0_t5 v869 k0_hw28 k0_h10 => k0_hw28 k0_h10
def k0_off90 (k0_t7 : Fin k0_t7_loop.trips) : Fin 1 → Nat :=
  let c9216_i32_436 : BitVec 32 := 9216#32
  let c0_i32_422 : BitVec 32 := 0#32
  let c0_i32_305 : BitVec 32 := 0#32
  let c1_i32_307 : BitVec 32 := 1#32
  let arg15 : BitVec 32 := Scf.iv c0_i32_305 c1_i32_307 k0_t7
  let c16_i32 : BitVec 32 := 16#32
  let v828 : BitVec 32 := Scalar.muli arg15 c16_i32
  let v829 : BitVec 32 := Scalar.addi c0_i32_422 v828
  let v871 : BitVec 32 := Scalar.addi c9216_i32_436 v829
  let v872 : Index := Scalar.indexCast v871
  ![v872.toNat]
def k0_off91 (i : grid0.Coords) (k0_t5 : Fin (k0_t5_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_281 : BitVec 32 := 2#32
  let c0_i32_59 : BitVec 32 := 0#32
  let c0_i32_60 : BitVec 32 := 0#32
  let c1764_i32 : BitVec 32 := 1764#32
  let v3 : BitVec 32 := Scalar.subi c1764_i32 v1
  let c32_i32 : BitVec 32 := 32#32
  let v4 : BitVec 32 := Scalar.addi v3 c32_i32
  let c1_i32_1 : BitVec 32 := 1#32
  let v5 : BitVec 32 := Scalar.subi v4 c1_i32_1
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c32_i32_2 : BitVec 32 := 32#32
  let c0_i32_5 : BitVec 32 := 0#32
  let v12 : BitVec 1 := Scalar.cmpi .sgt c32_i32_2 c0_i32_5
  let v13 : BitVec 32 := Scalar.extui v12
  let c0_i32_6 : BitVec 32 := 0#32
  let v14 : BitVec 1 := Scalar.cmpi .slt c32_i32_2 c0_i32_6
  let v15 : BitVec 32 := Scalar.extui v14
  let v16 : BitVec 32 := Scalar.subi v13 v15
  let v17 : BitVec 1 := Scalar.cmpi .ne v11 v16
  let v18 : BitVec 32 := Scalar.remsi v5 c32_i32_2
  let c0_i32_7 : BitVec 32 := 0#32
  let v19 : BitVec 1 := Scalar.cmpi .ne v18 c0_i32_7
  let v20 : BitVec 1 := Scalar.andi v17 v19
  let v6 : BitVec 32 := Scalar.divsi v5 c32_i32_2
  let c1_i32_8 : BitVec 32 := 1#32
  let v21 : BitVec 32 := Scalar.subi v6 c1_i32_8
  let v22 : BitVec 32 := Scalar.select v20 v21 v6
  let c1_i32_46 : BitVec 32 := 1#32
  let v95 : BitVec 32 := Scalar.addi v22 c1_i32_46
  let c0_i32_48 : BitVec 32 := 0#32
  let v97 : BitVec 1 := Scalar.cmpi .sgt v95 c0_i32_48
  let v98 : BitVec 32 := Scalar.extui v97
  let c0_i32_49 : BitVec 32 := 0#32
  let v99 : BitVec 1 := Scalar.cmpi .slt v95 c0_i32_49
  let v100 : BitVec 32 := Scalar.extui v99
  let v101 : BitVec 32 := Scalar.subi v98 v100
  let c2_i32_47 : BitVec 32 := 2#32
  let c0_i32_50 : BitVec 32 := 0#32
  let v102 : BitVec 1 := Scalar.cmpi .sgt c2_i32_47 c0_i32_50
  let v103 : BitVec 32 := Scalar.extui v102
  let c0_i32_51 : BitVec 32 := 0#32
  let v104 : BitVec 1 := Scalar.cmpi .slt c2_i32_47 c0_i32_51
  let v105 : BitVec 32 := Scalar.extui v104
  let v106 : BitVec 32 := Scalar.subi v103 v105
  let v107 : BitVec 1 := Scalar.cmpi .ne v101 v106
  let v108 : BitVec 32 := Scalar.remsi v95 c2_i32_47
  let c0_i32_52 : BitVec 32 := 0#32
  let v109 : BitVec 1 := Scalar.cmpi .ne v108 c0_i32_52
  let v110 : BitVec 1 := Scalar.andi v107 v109
  let v96 : BitVec 32 := Scalar.divsi v95 c2_i32_47
  let c1_i32_53 : BitVec 32 := 1#32
  let v111 : BitVec 32 := Scalar.subi v96 c1_i32_53
  let v112 : BitVec 32 := Scalar.select v110 v111 v96
  let c0_i32_54 : BitVec 32 := 0#32
  let v113 : BitVec 32 := Scalar.subi v112 c0_i32_54
  let c1_i32_55 : BitVec 32 := 1#32
  let c1_i32_56 : BitVec 32 := 1#32
  let v114 : BitVec 32 := Scalar.subi c1_i32_55 c1_i32_56
  let v115 : BitVec 32 := Scalar.addi v113 v114
  let c1_i32_57 : BitVec 32 := 1#32
  let v116 : BitVec 32 := Scalar.divsi v115 c1_i32_57
  let v117 : BitVec 32 := Scalar.subi v116 c0_i32_60
  let c1_i32_61 : BitVec 32 := 1#32
  let v119 : BitVec 32 := Scalar.divsi v117 c1_i32_61
  let v120 : BitVec 32 := Scalar.muli v119 c1_i32_61
  let v121 : BitVec 32 := Scalar.addi c0_i32_60 v120
  let c1_i32_63 : BitVec 32 := 1#32
  let arg14 : BitVec 32 := Scf.iv v121 c1_i32_63 k0_t5
  let c1_i32_58 : BitVec 32 := 1#32
  let v553 : BitVec 32 := Scalar.muli arg14 c1_i32_58
  let v554 : BitVec 32 := Scalar.addi c0_i32_59 v553
  let v562 : BitVec 32 := Scalar.muli c2_i32_281 v554
  let c1_i32_282 : BitVec 32 := 1#32
  let v563 : BitVec 32 := Scalar.addi v562 c1_i32_282
  let c32_i32_283 : BitVec 32 := 32#32
  let v564 : BitVec 32 := Scalar.muli v563 c32_i32_283
  let v565 : BitVec 32 := Scalar.addi v1 v564
  let c0_i32_310 : BitVec 32 := 0#32
  let v611 : BitVec 1 := Scalar.cmpi .sgt v565 c0_i32_310
  let v612 : BitVec 32 := Scalar.extui v611
  let c0_i32_311 : BitVec 32 := 0#32
  let v613 : BitVec 1 := Scalar.cmpi .slt v565 c0_i32_311
  let v614 : BitVec 32 := Scalar.extui v613
  let v615 : BitVec 32 := Scalar.subi v612 v614
  let c21_i32_309 : BitVec 32 := 21#32
  let c0_i32_312 : BitVec 32 := 0#32
  let v616 : BitVec 1 := Scalar.cmpi .sgt c21_i32_309 c0_i32_312
  let v617 : BitVec 32 := Scalar.extui v616
  let c0_i32_313 : BitVec 32 := 0#32
  let v618 : BitVec 1 := Scalar.cmpi .slt c21_i32_309 c0_i32_313
  let v619 : BitVec 32 := Scalar.extui v618
  let v620 : BitVec 32 := Scalar.subi v617 v619
  let v621 : BitVec 1 := Scalar.cmpi .ne v615 v620
  let v622 : BitVec 32 := Scalar.remsi v565 c21_i32_309
  let c0_i32_314 : BitVec 32 := 0#32
  let v623 : BitVec 1 := Scalar.cmpi .ne v622 c0_i32_314
  let v624 : BitVec 1 := Scalar.andi v621 v623
  let v610 : BitVec 32 := Scalar.divsi v565 c21_i32_309
  let c1_i32_315 : BitVec 32 := 1#32
  let v625 : BitVec 32 := Scalar.subi v610 c1_i32_315
  let v626 : BitVec 32 := Scalar.select v624 v625 v610
  let c0_i32_330 : BitVec 32 := 0#32
  let v650 : BitVec 1 := Scalar.cmpi .sgt v626 c0_i32_330
  let v651 : BitVec 32 := Scalar.extui v650
  let c0_i32_331 : BitVec 32 := 0#32
  let v652 : BitVec 1 := Scalar.cmpi .slt v626 c0_i32_331
  let v653 : BitVec 32 := Scalar.extui v652
  let v654 : BitVec 32 := Scalar.subi v651 v653
  let c4_i32_329 : BitVec 32 := 4#32
  let c0_i32_332 : BitVec 32 := 0#32
  let v655 : BitVec 1 := Scalar.cmpi .sgt c4_i32_329 c0_i32_332
  let v656 : BitVec 32 := Scalar.extui v655
  let c0_i32_333 : BitVec 32 := 0#32
  let v657 : BitVec 1 := Scalar.cmpi .slt c4_i32_329 c0_i32_333
  let v658 : BitVec 32 := Scalar.extui v657
  let v659 : BitVec 32 := Scalar.subi v656 v658
  let v660 : BitVec 1 := Scalar.cmpi .ne v654 v659
  let v661 : BitVec 32 := Scalar.remsi v626 c4_i32_329
  let c0_i32_334 : BitVec 32 := 0#32
  let v662 : BitVec 1 := Scalar.cmpi .ne v661 c0_i32_334
  let v663 : BitVec 1 := Scalar.andi v660 v662
  let v649 : BitVec 32 := Scalar.divsi v626 c4_i32_329
  let c1_i32_335 : BitVec 32 := 1#32
  let v664 : BitVec 32 := Scalar.subi v649 c1_i32_335
  let v665 : BitVec 32 := Scalar.select v663 v664 v649
  let c0_i32_378 : BitVec 32 := 0#32
  let c21_i32_316 : BitVec 32 := 21#32
  let c0_i32_317 : BitVec 32 := 0#32
  let v627 : BitVec 1 := Scalar.cmpi .eq c21_i32_316 c0_i32_317
  let c1_i32_318 : BitVec 32 := 1#32
  let v628 : BitVec 32 := Scalar.select v627 c1_i32_318 c21_i32_316
  let v629 : BitVec 32 := Scalar.remsi v565 v628
  let c0_i32_320 : BitVec 32 := 0#32
  let v631 : BitVec 1 := Scalar.cmpi .slt v629 c0_i32_320
  let c0_i32_321 : BitVec 32 := 0#32
  let v632 : BitVec 1 := Scalar.cmpi .slt v628 c0_i32_321
  let v633 : BitVec 1 := Scalar.xori v631 v632
  let c0_i32_319 : BitVec 32 := 0#32
  let v630 : BitVec 1 := Scalar.cmpi .ne v629 c0_i32_319
  let v634 : BitVec 1 := Scalar.andi v633 v630
  let v635 : BitVec 32 := Scalar.addi v629 v628
  let v636 : BitVec 32 := Scalar.select v634 v635 v629
  let c4_i32_322 : BitVec 32 := 4#32
  let v637 : BitVec 32 := Scalar.muli v636 c4_i32_322
  let c4_i32_323 : BitVec 32 := 4#32
  let c0_i32_324 : BitVec 32 := 0#32
  let v638 : BitVec 1 := Scalar.cmpi .eq c4_i32_323 c0_i32_324
  let c1_i32_325 : BitVec 32 := 1#32
  let v639 : BitVec 32 := Scalar.select v638 c1_i32_325 c4_i32_323
  let v640 : BitVec 32 := Scalar.remsi v626 v639
  let c0_i32_327 : BitVec 32 := 0#32
  let v642 : BitVec 1 := Scalar.cmpi .slt v640 c0_i32_327
  let c0_i32_328 : BitVec 32 := 0#32
  let v643 : BitVec 1 := Scalar.cmpi .slt v639 c0_i32_328
  let v644 : BitVec 1 := Scalar.xori v642 v643
  let c0_i32_326 : BitVec 32 := 0#32
  let v641 : BitVec 1 := Scalar.cmpi .ne v640 c0_i32_326
  let v645 : BitVec 1 := Scalar.andi v644 v641
  let v646 : BitVec 32 := Scalar.addi v640 v639
  let v647 : BitVec 32 := Scalar.select v645 v646 v640
  let v648 : BitVec 32 := Scalar.addi v637 v647
  let c0_i32_381 : BitVec 32 := 0#32
  ![v665.toNat, 0, v648.toNat, 0]
def k0_off92 (i : grid0.Coords) (k0_t5 : Fin (k0_t5_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_281 : BitVec 32 := 2#32
  let c0_i32_59 : BitVec 32 := 0#32
  let c0_i32_60 : BitVec 32 := 0#32
  let c1764_i32 : BitVec 32 := 1764#32
  let v3 : BitVec 32 := Scalar.subi c1764_i32 v1
  let c32_i32 : BitVec 32 := 32#32
  let v4 : BitVec 32 := Scalar.addi v3 c32_i32
  let c1_i32_1 : BitVec 32 := 1#32
  let v5 : BitVec 32 := Scalar.subi v4 c1_i32_1
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c32_i32_2 : BitVec 32 := 32#32
  let c0_i32_5 : BitVec 32 := 0#32
  let v12 : BitVec 1 := Scalar.cmpi .sgt c32_i32_2 c0_i32_5
  let v13 : BitVec 32 := Scalar.extui v12
  let c0_i32_6 : BitVec 32 := 0#32
  let v14 : BitVec 1 := Scalar.cmpi .slt c32_i32_2 c0_i32_6
  let v15 : BitVec 32 := Scalar.extui v14
  let v16 : BitVec 32 := Scalar.subi v13 v15
  let v17 : BitVec 1 := Scalar.cmpi .ne v11 v16
  let v18 : BitVec 32 := Scalar.remsi v5 c32_i32_2
  let c0_i32_7 : BitVec 32 := 0#32
  let v19 : BitVec 1 := Scalar.cmpi .ne v18 c0_i32_7
  let v20 : BitVec 1 := Scalar.andi v17 v19
  let v6 : BitVec 32 := Scalar.divsi v5 c32_i32_2
  let c1_i32_8 : BitVec 32 := 1#32
  let v21 : BitVec 32 := Scalar.subi v6 c1_i32_8
  let v22 : BitVec 32 := Scalar.select v20 v21 v6
  let c1_i32_46 : BitVec 32 := 1#32
  let v95 : BitVec 32 := Scalar.addi v22 c1_i32_46
  let c0_i32_48 : BitVec 32 := 0#32
  let v97 : BitVec 1 := Scalar.cmpi .sgt v95 c0_i32_48
  let v98 : BitVec 32 := Scalar.extui v97
  let c0_i32_49 : BitVec 32 := 0#32
  let v99 : BitVec 1 := Scalar.cmpi .slt v95 c0_i32_49
  let v100 : BitVec 32 := Scalar.extui v99
  let v101 : BitVec 32 := Scalar.subi v98 v100
  let c2_i32_47 : BitVec 32 := 2#32
  let c0_i32_50 : BitVec 32 := 0#32
  let v102 : BitVec 1 := Scalar.cmpi .sgt c2_i32_47 c0_i32_50
  let v103 : BitVec 32 := Scalar.extui v102
  let c0_i32_51 : BitVec 32 := 0#32
  let v104 : BitVec 1 := Scalar.cmpi .slt c2_i32_47 c0_i32_51
  let v105 : BitVec 32 := Scalar.extui v104
  let v106 : BitVec 32 := Scalar.subi v103 v105
  let v107 : BitVec 1 := Scalar.cmpi .ne v101 v106
  let v108 : BitVec 32 := Scalar.remsi v95 c2_i32_47
  let c0_i32_52 : BitVec 32 := 0#32
  let v109 : BitVec 1 := Scalar.cmpi .ne v108 c0_i32_52
  let v110 : BitVec 1 := Scalar.andi v107 v109
  let v96 : BitVec 32 := Scalar.divsi v95 c2_i32_47
  let c1_i32_53 : BitVec 32 := 1#32
  let v111 : BitVec 32 := Scalar.subi v96 c1_i32_53
  let v112 : BitVec 32 := Scalar.select v110 v111 v96
  let c0_i32_54 : BitVec 32 := 0#32
  let v113 : BitVec 32 := Scalar.subi v112 c0_i32_54
  let c1_i32_55 : BitVec 32 := 1#32
  let c1_i32_56 : BitVec 32 := 1#32
  let v114 : BitVec 32 := Scalar.subi c1_i32_55 c1_i32_56
  let v115 : BitVec 32 := Scalar.addi v113 v114
  let c1_i32_57 : BitVec 32 := 1#32
  let v116 : BitVec 32 := Scalar.divsi v115 c1_i32_57
  let v117 : BitVec 32 := Scalar.subi v116 c0_i32_60
  let c1_i32_61 : BitVec 32 := 1#32
  let v119 : BitVec 32 := Scalar.divsi v117 c1_i32_61
  let v120 : BitVec 32 := Scalar.muli v119 c1_i32_61
  let v121 : BitVec 32 := Scalar.addi c0_i32_60 v120
  let c1_i32_63 : BitVec 32 := 1#32
  let arg14 : BitVec 32 := Scf.iv v121 c1_i32_63 k0_t5
  let c1_i32_58 : BitVec 32 := 1#32
  let v553 : BitVec 32 := Scalar.muli arg14 c1_i32_58
  let v554 : BitVec 32 := Scalar.addi c0_i32_59 v553
  let v562 : BitVec 32 := Scalar.muli c2_i32_281 v554
  let c1_i32_282 : BitVec 32 := 1#32
  let v563 : BitVec 32 := Scalar.addi v562 c1_i32_282
  let c32_i32_283 : BitVec 32 := 32#32
  let v564 : BitVec 32 := Scalar.muli v563 c32_i32_283
  let v565 : BitVec 32 := Scalar.addi v1 v564
  let c0_i32_310 : BitVec 32 := 0#32
  let v611 : BitVec 1 := Scalar.cmpi .sgt v565 c0_i32_310
  let v612 : BitVec 32 := Scalar.extui v611
  let c0_i32_311 : BitVec 32 := 0#32
  let v613 : BitVec 1 := Scalar.cmpi .slt v565 c0_i32_311
  let v614 : BitVec 32 := Scalar.extui v613
  let v615 : BitVec 32 := Scalar.subi v612 v614
  let c21_i32_309 : BitVec 32 := 21#32
  let c0_i32_312 : BitVec 32 := 0#32
  let v616 : BitVec 1 := Scalar.cmpi .sgt c21_i32_309 c0_i32_312
  let v617 : BitVec 32 := Scalar.extui v616
  let c0_i32_313 : BitVec 32 := 0#32
  let v618 : BitVec 1 := Scalar.cmpi .slt c21_i32_309 c0_i32_313
  let v619 : BitVec 32 := Scalar.extui v618
  let v620 : BitVec 32 := Scalar.subi v617 v619
  let v621 : BitVec 1 := Scalar.cmpi .ne v615 v620
  let v622 : BitVec 32 := Scalar.remsi v565 c21_i32_309
  let c0_i32_314 : BitVec 32 := 0#32
  let v623 : BitVec 1 := Scalar.cmpi .ne v622 c0_i32_314
  let v624 : BitVec 1 := Scalar.andi v621 v623
  let v610 : BitVec 32 := Scalar.divsi v565 c21_i32_309
  let c1_i32_315 : BitVec 32 := 1#32
  let v625 : BitVec 32 := Scalar.subi v610 c1_i32_315
  let v626 : BitVec 32 := Scalar.select v624 v625 v610
  let c0_i32_337 : BitVec 32 := 0#32
  let v667 : BitVec 1 := Scalar.cmpi .sgt v626 c0_i32_337
  let v668 : BitVec 32 := Scalar.extui v667
  let c0_i32_338 : BitVec 32 := 0#32
  let v669 : BitVec 1 := Scalar.cmpi .slt v626 c0_i32_338
  let v670 : BitVec 32 := Scalar.extui v669
  let v671 : BitVec 32 := Scalar.subi v668 v670
  let c4_i32_336 : BitVec 32 := 4#32
  let c0_i32_339 : BitVec 32 := 0#32
  let v672 : BitVec 1 := Scalar.cmpi .sgt c4_i32_336 c0_i32_339
  let v673 : BitVec 32 := Scalar.extui v672
  let c0_i32_340 : BitVec 32 := 0#32
  let v674 : BitVec 1 := Scalar.cmpi .slt c4_i32_336 c0_i32_340
  let v675 : BitVec 32 := Scalar.extui v674
  let v676 : BitVec 32 := Scalar.subi v673 v675
  let v677 : BitVec 1 := Scalar.cmpi .ne v671 v676
  let v678 : BitVec 32 := Scalar.remsi v626 c4_i32_336
  let c0_i32_341 : BitVec 32 := 0#32
  let v679 : BitVec 1 := Scalar.cmpi .ne v678 c0_i32_341
  let v680 : BitVec 1 := Scalar.andi v677 v679
  let v666 : BitVec 32 := Scalar.divsi v626 c4_i32_336
  let c1_i32_342 : BitVec 32 := 1#32
  let v681 : BitVec 32 := Scalar.subi v666 c1_i32_342
  let v682 : BitVec 32 := Scalar.select v680 v681 v666
  let c1_i32_384 : BitVec 32 := 1#32
  let c21_i32_316 : BitVec 32 := 21#32
  let c0_i32_317 : BitVec 32 := 0#32
  let v627 : BitVec 1 := Scalar.cmpi .eq c21_i32_316 c0_i32_317
  let c1_i32_318 : BitVec 32 := 1#32
  let v628 : BitVec 32 := Scalar.select v627 c1_i32_318 c21_i32_316
  let v629 : BitVec 32 := Scalar.remsi v565 v628
  let c0_i32_320 : BitVec 32 := 0#32
  let v631 : BitVec 1 := Scalar.cmpi .slt v629 c0_i32_320
  let c0_i32_321 : BitVec 32 := 0#32
  let v632 : BitVec 1 := Scalar.cmpi .slt v628 c0_i32_321
  let v633 : BitVec 1 := Scalar.xori v631 v632
  let c0_i32_319 : BitVec 32 := 0#32
  let v630 : BitVec 1 := Scalar.cmpi .ne v629 c0_i32_319
  let v634 : BitVec 1 := Scalar.andi v633 v630
  let v635 : BitVec 32 := Scalar.addi v629 v628
  let v636 : BitVec 32 := Scalar.select v634 v635 v629
  let c4_i32_322 : BitVec 32 := 4#32
  let v637 : BitVec 32 := Scalar.muli v636 c4_i32_322
  let c4_i32_323 : BitVec 32 := 4#32
  let c0_i32_324 : BitVec 32 := 0#32
  let v638 : BitVec 1 := Scalar.cmpi .eq c4_i32_323 c0_i32_324
  let c1_i32_325 : BitVec 32 := 1#32
  let v639 : BitVec 32 := Scalar.select v638 c1_i32_325 c4_i32_323
  let v640 : BitVec 32 := Scalar.remsi v626 v639
  let c0_i32_327 : BitVec 32 := 0#32
  let v642 : BitVec 1 := Scalar.cmpi .slt v640 c0_i32_327
  let c0_i32_328 : BitVec 32 := 0#32
  let v643 : BitVec 1 := Scalar.cmpi .slt v639 c0_i32_328
  let v644 : BitVec 1 := Scalar.xori v642 v643
  let c0_i32_326 : BitVec 32 := 0#32
  let v641 : BitVec 1 := Scalar.cmpi .ne v640 c0_i32_326
  let v645 : BitVec 1 := Scalar.andi v644 v641
  let v646 : BitVec 32 := Scalar.addi v640 v639
  let v647 : BitVec 32 := Scalar.select v645 v646 v640
  let v648 : BitVec 32 := Scalar.addi v637 v647
  let c0_i32_387 : BitVec 32 := 0#32
  ![v682.toNat, 1, v648.toNat, 0]
def k0_off93 (i : grid0.Coords) (k0_t5 : Fin (k0_t5_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_281 : BitVec 32 := 2#32
  let c0_i32_59 : BitVec 32 := 0#32
  let c0_i32_60 : BitVec 32 := 0#32
  let c1764_i32 : BitVec 32 := 1764#32
  let v3 : BitVec 32 := Scalar.subi c1764_i32 v1
  let c32_i32 : BitVec 32 := 32#32
  let v4 : BitVec 32 := Scalar.addi v3 c32_i32
  let c1_i32_1 : BitVec 32 := 1#32
  let v5 : BitVec 32 := Scalar.subi v4 c1_i32_1
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c32_i32_2 : BitVec 32 := 32#32
  let c0_i32_5 : BitVec 32 := 0#32
  let v12 : BitVec 1 := Scalar.cmpi .sgt c32_i32_2 c0_i32_5
  let v13 : BitVec 32 := Scalar.extui v12
  let c0_i32_6 : BitVec 32 := 0#32
  let v14 : BitVec 1 := Scalar.cmpi .slt c32_i32_2 c0_i32_6
  let v15 : BitVec 32 := Scalar.extui v14
  let v16 : BitVec 32 := Scalar.subi v13 v15
  let v17 : BitVec 1 := Scalar.cmpi .ne v11 v16
  let v18 : BitVec 32 := Scalar.remsi v5 c32_i32_2
  let c0_i32_7 : BitVec 32 := 0#32
  let v19 : BitVec 1 := Scalar.cmpi .ne v18 c0_i32_7
  let v20 : BitVec 1 := Scalar.andi v17 v19
  let v6 : BitVec 32 := Scalar.divsi v5 c32_i32_2
  let c1_i32_8 : BitVec 32 := 1#32
  let v21 : BitVec 32 := Scalar.subi v6 c1_i32_8
  let v22 : BitVec 32 := Scalar.select v20 v21 v6
  let c1_i32_46 : BitVec 32 := 1#32
  let v95 : BitVec 32 := Scalar.addi v22 c1_i32_46
  let c0_i32_48 : BitVec 32 := 0#32
  let v97 : BitVec 1 := Scalar.cmpi .sgt v95 c0_i32_48
  let v98 : BitVec 32 := Scalar.extui v97
  let c0_i32_49 : BitVec 32 := 0#32
  let v99 : BitVec 1 := Scalar.cmpi .slt v95 c0_i32_49
  let v100 : BitVec 32 := Scalar.extui v99
  let v101 : BitVec 32 := Scalar.subi v98 v100
  let c2_i32_47 : BitVec 32 := 2#32
  let c0_i32_50 : BitVec 32 := 0#32
  let v102 : BitVec 1 := Scalar.cmpi .sgt c2_i32_47 c0_i32_50
  let v103 : BitVec 32 := Scalar.extui v102
  let c0_i32_51 : BitVec 32 := 0#32
  let v104 : BitVec 1 := Scalar.cmpi .slt c2_i32_47 c0_i32_51
  let v105 : BitVec 32 := Scalar.extui v104
  let v106 : BitVec 32 := Scalar.subi v103 v105
  let v107 : BitVec 1 := Scalar.cmpi .ne v101 v106
  let v108 : BitVec 32 := Scalar.remsi v95 c2_i32_47
  let c0_i32_52 : BitVec 32 := 0#32
  let v109 : BitVec 1 := Scalar.cmpi .ne v108 c0_i32_52
  let v110 : BitVec 1 := Scalar.andi v107 v109
  let v96 : BitVec 32 := Scalar.divsi v95 c2_i32_47
  let c1_i32_53 : BitVec 32 := 1#32
  let v111 : BitVec 32 := Scalar.subi v96 c1_i32_53
  let v112 : BitVec 32 := Scalar.select v110 v111 v96
  let c0_i32_54 : BitVec 32 := 0#32
  let v113 : BitVec 32 := Scalar.subi v112 c0_i32_54
  let c1_i32_55 : BitVec 32 := 1#32
  let c1_i32_56 : BitVec 32 := 1#32
  let v114 : BitVec 32 := Scalar.subi c1_i32_55 c1_i32_56
  let v115 : BitVec 32 := Scalar.addi v113 v114
  let c1_i32_57 : BitVec 32 := 1#32
  let v116 : BitVec 32 := Scalar.divsi v115 c1_i32_57
  let v117 : BitVec 32 := Scalar.subi v116 c0_i32_60
  let c1_i32_61 : BitVec 32 := 1#32
  let v119 : BitVec 32 := Scalar.divsi v117 c1_i32_61
  let v120 : BitVec 32 := Scalar.muli v119 c1_i32_61
  let v121 : BitVec 32 := Scalar.addi c0_i32_60 v120
  let c1_i32_63 : BitVec 32 := 1#32
  let arg14 : BitVec 32 := Scf.iv v121 c1_i32_63 k0_t5
  let c1_i32_58 : BitVec 32 := 1#32
  let v553 : BitVec 32 := Scalar.muli arg14 c1_i32_58
  let v554 : BitVec 32 := Scalar.addi c0_i32_59 v553
  let v562 : BitVec 32 := Scalar.muli c2_i32_281 v554
  let c1_i32_282 : BitVec 32 := 1#32
  let v563 : BitVec 32 := Scalar.addi v562 c1_i32_282
  let c32_i32_283 : BitVec 32 := 32#32
  let v564 : BitVec 32 := Scalar.muli v563 c32_i32_283
  let v565 : BitVec 32 := Scalar.addi v1 v564
  let c0_i32_310 : BitVec 32 := 0#32
  let v611 : BitVec 1 := Scalar.cmpi .sgt v565 c0_i32_310
  let v612 : BitVec 32 := Scalar.extui v611
  let c0_i32_311 : BitVec 32 := 0#32
  let v613 : BitVec 1 := Scalar.cmpi .slt v565 c0_i32_311
  let v614 : BitVec 32 := Scalar.extui v613
  let v615 : BitVec 32 := Scalar.subi v612 v614
  let c21_i32_309 : BitVec 32 := 21#32
  let c0_i32_312 : BitVec 32 := 0#32
  let v616 : BitVec 1 := Scalar.cmpi .sgt c21_i32_309 c0_i32_312
  let v617 : BitVec 32 := Scalar.extui v616
  let c0_i32_313 : BitVec 32 := 0#32
  let v618 : BitVec 1 := Scalar.cmpi .slt c21_i32_309 c0_i32_313
  let v619 : BitVec 32 := Scalar.extui v618
  let v620 : BitVec 32 := Scalar.subi v617 v619
  let v621 : BitVec 1 := Scalar.cmpi .ne v615 v620
  let v622 : BitVec 32 := Scalar.remsi v565 c21_i32_309
  let c0_i32_314 : BitVec 32 := 0#32
  let v623 : BitVec 1 := Scalar.cmpi .ne v622 c0_i32_314
  let v624 : BitVec 1 := Scalar.andi v621 v623
  let v610 : BitVec 32 := Scalar.divsi v565 c21_i32_309
  let c1_i32_315 : BitVec 32 := 1#32
  let v625 : BitVec 32 := Scalar.subi v610 c1_i32_315
  let v626 : BitVec 32 := Scalar.select v624 v625 v610
  let c0_i32_344 : BitVec 32 := 0#32
  let v684 : BitVec 1 := Scalar.cmpi .sgt v626 c0_i32_344
  let v685 : BitVec 32 := Scalar.extui v684
  let c0_i32_345 : BitVec 32 := 0#32
  let v686 : BitVec 1 := Scalar.cmpi .slt v626 c0_i32_345
  let v687 : BitVec 32 := Scalar.extui v686
  let v688 : BitVec 32 := Scalar.subi v685 v687
  let c4_i32_343 : BitVec 32 := 4#32
  let c0_i32_346 : BitVec 32 := 0#32
  let v689 : BitVec 1 := Scalar.cmpi .sgt c4_i32_343 c0_i32_346
  let v690 : BitVec 32 := Scalar.extui v689
  let c0_i32_347 : BitVec 32 := 0#32
  let v691 : BitVec 1 := Scalar.cmpi .slt c4_i32_343 c0_i32_347
  let v692 : BitVec 32 := Scalar.extui v691
  let v693 : BitVec 32 := Scalar.subi v690 v692
  let v694 : BitVec 1 := Scalar.cmpi .ne v688 v693
  let v695 : BitVec 32 := Scalar.remsi v626 c4_i32_343
  let c0_i32_348 : BitVec 32 := 0#32
  let v696 : BitVec 1 := Scalar.cmpi .ne v695 c0_i32_348
  let v697 : BitVec 1 := Scalar.andi v694 v696
  let v683 : BitVec 32 := Scalar.divsi v626 c4_i32_343
  let c1_i32_349 : BitVec 32 := 1#32
  let v698 : BitVec 32 := Scalar.subi v683 c1_i32_349
  let v699 : BitVec 32 := Scalar.select v697 v698 v683
  let c2_i32_390 : BitVec 32 := 2#32
  let c21_i32_316 : BitVec 32 := 21#32
  let c0_i32_317 : BitVec 32 := 0#32
  let v627 : BitVec 1 := Scalar.cmpi .eq c21_i32_316 c0_i32_317
  let c1_i32_318 : BitVec 32 := 1#32
  let v628 : BitVec 32 := Scalar.select v627 c1_i32_318 c21_i32_316
  let v629 : BitVec 32 := Scalar.remsi v565 v628
  let c0_i32_320 : BitVec 32 := 0#32
  let v631 : BitVec 1 := Scalar.cmpi .slt v629 c0_i32_320
  let c0_i32_321 : BitVec 32 := 0#32
  let v632 : BitVec 1 := Scalar.cmpi .slt v628 c0_i32_321
  let v633 : BitVec 1 := Scalar.xori v631 v632
  let c0_i32_319 : BitVec 32 := 0#32
  let v630 : BitVec 1 := Scalar.cmpi .ne v629 c0_i32_319
  let v634 : BitVec 1 := Scalar.andi v633 v630
  let v635 : BitVec 32 := Scalar.addi v629 v628
  let v636 : BitVec 32 := Scalar.select v634 v635 v629
  let c4_i32_322 : BitVec 32 := 4#32
  let v637 : BitVec 32 := Scalar.muli v636 c4_i32_322
  let c4_i32_323 : BitVec 32 := 4#32
  let c0_i32_324 : BitVec 32 := 0#32
  let v638 : BitVec 1 := Scalar.cmpi .eq c4_i32_323 c0_i32_324
  let c1_i32_325 : BitVec 32 := 1#32
  let v639 : BitVec 32 := Scalar.select v638 c1_i32_325 c4_i32_323
  let v640 : BitVec 32 := Scalar.remsi v626 v639
  let c0_i32_327 : BitVec 32 := 0#32
  let v642 : BitVec 1 := Scalar.cmpi .slt v640 c0_i32_327
  let c0_i32_328 : BitVec 32 := 0#32
  let v643 : BitVec 1 := Scalar.cmpi .slt v639 c0_i32_328
  let v644 : BitVec 1 := Scalar.xori v642 v643
  let c0_i32_326 : BitVec 32 := 0#32
  let v641 : BitVec 1 := Scalar.cmpi .ne v640 c0_i32_326
  let v645 : BitVec 1 := Scalar.andi v644 v641
  let v646 : BitVec 32 := Scalar.addi v640 v639
  let v647 : BitVec 32 := Scalar.select v645 v646 v640
  let v648 : BitVec 32 := Scalar.addi v637 v647
  let c0_i32_393 : BitVec 32 := 0#32
  ![v699.toNat, 2, v648.toNat, 0]
def k0_off94 (i : grid0.Coords) (k0_t5 : Fin (k0_t5_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_281 : BitVec 32 := 2#32
  let c0_i32_59 : BitVec 32 := 0#32
  let c0_i32_60 : BitVec 32 := 0#32
  let c1764_i32 : BitVec 32 := 1764#32
  let v3 : BitVec 32 := Scalar.subi c1764_i32 v1
  let c32_i32 : BitVec 32 := 32#32
  let v4 : BitVec 32 := Scalar.addi v3 c32_i32
  let c1_i32_1 : BitVec 32 := 1#32
  let v5 : BitVec 32 := Scalar.subi v4 c1_i32_1
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c32_i32_2 : BitVec 32 := 32#32
  let c0_i32_5 : BitVec 32 := 0#32
  let v12 : BitVec 1 := Scalar.cmpi .sgt c32_i32_2 c0_i32_5
  let v13 : BitVec 32 := Scalar.extui v12
  let c0_i32_6 : BitVec 32 := 0#32
  let v14 : BitVec 1 := Scalar.cmpi .slt c32_i32_2 c0_i32_6
  let v15 : BitVec 32 := Scalar.extui v14
  let v16 : BitVec 32 := Scalar.subi v13 v15
  let v17 : BitVec 1 := Scalar.cmpi .ne v11 v16
  let v18 : BitVec 32 := Scalar.remsi v5 c32_i32_2
  let c0_i32_7 : BitVec 32 := 0#32
  let v19 : BitVec 1 := Scalar.cmpi .ne v18 c0_i32_7
  let v20 : BitVec 1 := Scalar.andi v17 v19
  let v6 : BitVec 32 := Scalar.divsi v5 c32_i32_2
  let c1_i32_8 : BitVec 32 := 1#32
  let v21 : BitVec 32 := Scalar.subi v6 c1_i32_8
  let v22 : BitVec 32 := Scalar.select v20 v21 v6
  let c1_i32_46 : BitVec 32 := 1#32
  let v95 : BitVec 32 := Scalar.addi v22 c1_i32_46
  let c0_i32_48 : BitVec 32 := 0#32
  let v97 : BitVec 1 := Scalar.cmpi .sgt v95 c0_i32_48
  let v98 : BitVec 32 := Scalar.extui v97
  let c0_i32_49 : BitVec 32 := 0#32
  let v99 : BitVec 1 := Scalar.cmpi .slt v95 c0_i32_49
  let v100 : BitVec 32 := Scalar.extui v99
  let v101 : BitVec 32 := Scalar.subi v98 v100
  let c2_i32_47 : BitVec 32 := 2#32
  let c0_i32_50 : BitVec 32 := 0#32
  let v102 : BitVec 1 := Scalar.cmpi .sgt c2_i32_47 c0_i32_50
  let v103 : BitVec 32 := Scalar.extui v102
  let c0_i32_51 : BitVec 32 := 0#32
  let v104 : BitVec 1 := Scalar.cmpi .slt c2_i32_47 c0_i32_51
  let v105 : BitVec 32 := Scalar.extui v104
  let v106 : BitVec 32 := Scalar.subi v103 v105
  let v107 : BitVec 1 := Scalar.cmpi .ne v101 v106
  let v108 : BitVec 32 := Scalar.remsi v95 c2_i32_47
  let c0_i32_52 : BitVec 32 := 0#32
  let v109 : BitVec 1 := Scalar.cmpi .ne v108 c0_i32_52
  let v110 : BitVec 1 := Scalar.andi v107 v109
  let v96 : BitVec 32 := Scalar.divsi v95 c2_i32_47
  let c1_i32_53 : BitVec 32 := 1#32
  let v111 : BitVec 32 := Scalar.subi v96 c1_i32_53
  let v112 : BitVec 32 := Scalar.select v110 v111 v96
  let c0_i32_54 : BitVec 32 := 0#32
  let v113 : BitVec 32 := Scalar.subi v112 c0_i32_54
  let c1_i32_55 : BitVec 32 := 1#32
  let c1_i32_56 : BitVec 32 := 1#32
  let v114 : BitVec 32 := Scalar.subi c1_i32_55 c1_i32_56
  let v115 : BitVec 32 := Scalar.addi v113 v114
  let c1_i32_57 : BitVec 32 := 1#32
  let v116 : BitVec 32 := Scalar.divsi v115 c1_i32_57
  let v117 : BitVec 32 := Scalar.subi v116 c0_i32_60
  let c1_i32_61 : BitVec 32 := 1#32
  let v119 : BitVec 32 := Scalar.divsi v117 c1_i32_61
  let v120 : BitVec 32 := Scalar.muli v119 c1_i32_61
  let v121 : BitVec 32 := Scalar.addi c0_i32_60 v120
  let c1_i32_63 : BitVec 32 := 1#32
  let arg14 : BitVec 32 := Scf.iv v121 c1_i32_63 k0_t5
  let c1_i32_58 : BitVec 32 := 1#32
  let v553 : BitVec 32 := Scalar.muli arg14 c1_i32_58
  let v554 : BitVec 32 := Scalar.addi c0_i32_59 v553
  let v562 : BitVec 32 := Scalar.muli c2_i32_281 v554
  let c1_i32_282 : BitVec 32 := 1#32
  let v563 : BitVec 32 := Scalar.addi v562 c1_i32_282
  let c32_i32_283 : BitVec 32 := 32#32
  let v564 : BitVec 32 := Scalar.muli v563 c32_i32_283
  let v565 : BitVec 32 := Scalar.addi v1 v564
  let c0_i32_310 : BitVec 32 := 0#32
  let v611 : BitVec 1 := Scalar.cmpi .sgt v565 c0_i32_310
  let v612 : BitVec 32 := Scalar.extui v611
  let c0_i32_311 : BitVec 32 := 0#32
  let v613 : BitVec 1 := Scalar.cmpi .slt v565 c0_i32_311
  let v614 : BitVec 32 := Scalar.extui v613
  let v615 : BitVec 32 := Scalar.subi v612 v614
  let c21_i32_309 : BitVec 32 := 21#32
  let c0_i32_312 : BitVec 32 := 0#32
  let v616 : BitVec 1 := Scalar.cmpi .sgt c21_i32_309 c0_i32_312
  let v617 : BitVec 32 := Scalar.extui v616
  let c0_i32_313 : BitVec 32 := 0#32
  let v618 : BitVec 1 := Scalar.cmpi .slt c21_i32_309 c0_i32_313
  let v619 : BitVec 32 := Scalar.extui v618
  let v620 : BitVec 32 := Scalar.subi v617 v619
  let v621 : BitVec 1 := Scalar.cmpi .ne v615 v620
  let v622 : BitVec 32 := Scalar.remsi v565 c21_i32_309
  let c0_i32_314 : BitVec 32 := 0#32
  let v623 : BitVec 1 := Scalar.cmpi .ne v622 c0_i32_314
  let v624 : BitVec 1 := Scalar.andi v621 v623
  let v610 : BitVec 32 := Scalar.divsi v565 c21_i32_309
  let c1_i32_315 : BitVec 32 := 1#32
  let v625 : BitVec 32 := Scalar.subi v610 c1_i32_315
  let v626 : BitVec 32 := Scalar.select v624 v625 v610
  let c0_i32_351 : BitVec 32 := 0#32
  let v701 : BitVec 1 := Scalar.cmpi .sgt v626 c0_i32_351
  let v702 : BitVec 32 := Scalar.extui v701
  let c0_i32_352 : BitVec 32 := 0#32
  let v703 : BitVec 1 := Scalar.cmpi .slt v626 c0_i32_352
  let v704 : BitVec 32 := Scalar.extui v703
  let v705 : BitVec 32 := Scalar.subi v702 v704
  let c4_i32_350 : BitVec 32 := 4#32
  let c0_i32_353 : BitVec 32 := 0#32
  let v706 : BitVec 1 := Scalar.cmpi .sgt c4_i32_350 c0_i32_353
  let v707 : BitVec 32 := Scalar.extui v706
  let c0_i32_354 : BitVec 32 := 0#32
  let v708 : BitVec 1 := Scalar.cmpi .slt c4_i32_350 c0_i32_354
  let v709 : BitVec 32 := Scalar.extui v708
  let v710 : BitVec 32 := Scalar.subi v707 v709
  let v711 : BitVec 1 := Scalar.cmpi .ne v705 v710
  let v712 : BitVec 32 := Scalar.remsi v626 c4_i32_350
  let c0_i32_355 : BitVec 32 := 0#32
  let v713 : BitVec 1 := Scalar.cmpi .ne v712 c0_i32_355
  let v714 : BitVec 1 := Scalar.andi v711 v713
  let v700 : BitVec 32 := Scalar.divsi v626 c4_i32_350
  let c1_i32_356 : BitVec 32 := 1#32
  let v715 : BitVec 32 := Scalar.subi v700 c1_i32_356
  let v716 : BitVec 32 := Scalar.select v714 v715 v700
  let c3_i32_396 : BitVec 32 := 3#32
  let c21_i32_316 : BitVec 32 := 21#32
  let c0_i32_317 : BitVec 32 := 0#32
  let v627 : BitVec 1 := Scalar.cmpi .eq c21_i32_316 c0_i32_317
  let c1_i32_318 : BitVec 32 := 1#32
  let v628 : BitVec 32 := Scalar.select v627 c1_i32_318 c21_i32_316
  let v629 : BitVec 32 := Scalar.remsi v565 v628
  let c0_i32_320 : BitVec 32 := 0#32
  let v631 : BitVec 1 := Scalar.cmpi .slt v629 c0_i32_320
  let c0_i32_321 : BitVec 32 := 0#32
  let v632 : BitVec 1 := Scalar.cmpi .slt v628 c0_i32_321
  let v633 : BitVec 1 := Scalar.xori v631 v632
  let c0_i32_319 : BitVec 32 := 0#32
  let v630 : BitVec 1 := Scalar.cmpi .ne v629 c0_i32_319
  let v634 : BitVec 1 := Scalar.andi v633 v630
  let v635 : BitVec 32 := Scalar.addi v629 v628
  let v636 : BitVec 32 := Scalar.select v634 v635 v629
  let c4_i32_322 : BitVec 32 := 4#32
  let v637 : BitVec 32 := Scalar.muli v636 c4_i32_322
  let c4_i32_323 : BitVec 32 := 4#32
  let c0_i32_324 : BitVec 32 := 0#32
  let v638 : BitVec 1 := Scalar.cmpi .eq c4_i32_323 c0_i32_324
  let c1_i32_325 : BitVec 32 := 1#32
  let v639 : BitVec 32 := Scalar.select v638 c1_i32_325 c4_i32_323
  let v640 : BitVec 32 := Scalar.remsi v626 v639
  let c0_i32_327 : BitVec 32 := 0#32
  let v642 : BitVec 1 := Scalar.cmpi .slt v640 c0_i32_327
  let c0_i32_328 : BitVec 32 := 0#32
  let v643 : BitVec 1 := Scalar.cmpi .slt v639 c0_i32_328
  let v644 : BitVec 1 := Scalar.xori v642 v643
  let c0_i32_326 : BitVec 32 := 0#32
  let v641 : BitVec 1 := Scalar.cmpi .ne v640 c0_i32_326
  let v645 : BitVec 1 := Scalar.andi v644 v641
  let v646 : BitVec 32 := Scalar.addi v640 v639
  let v647 : BitVec 32 := Scalar.select v645 v646 v640
  let v648 : BitVec 32 := Scalar.addi v637 v647
  let c0_i32_399 : BitVec 32 := 0#32
  ![v716.toNat, 3, v648.toNat, 0]
def k0_off95 (i : grid0.Coords) (k0_t5 : Fin (k0_t5_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_281 : BitVec 32 := 2#32
  let c0_i32_59 : BitVec 32 := 0#32
  let c0_i32_60 : BitVec 32 := 0#32
  let c1764_i32 : BitVec 32 := 1764#32
  let v3 : BitVec 32 := Scalar.subi c1764_i32 v1
  let c32_i32 : BitVec 32 := 32#32
  let v4 : BitVec 32 := Scalar.addi v3 c32_i32
  let c1_i32_1 : BitVec 32 := 1#32
  let v5 : BitVec 32 := Scalar.subi v4 c1_i32_1
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c32_i32_2 : BitVec 32 := 32#32
  let c0_i32_5 : BitVec 32 := 0#32
  let v12 : BitVec 1 := Scalar.cmpi .sgt c32_i32_2 c0_i32_5
  let v13 : BitVec 32 := Scalar.extui v12
  let c0_i32_6 : BitVec 32 := 0#32
  let v14 : BitVec 1 := Scalar.cmpi .slt c32_i32_2 c0_i32_6
  let v15 : BitVec 32 := Scalar.extui v14
  let v16 : BitVec 32 := Scalar.subi v13 v15
  let v17 : BitVec 1 := Scalar.cmpi .ne v11 v16
  let v18 : BitVec 32 := Scalar.remsi v5 c32_i32_2
  let c0_i32_7 : BitVec 32 := 0#32
  let v19 : BitVec 1 := Scalar.cmpi .ne v18 c0_i32_7
  let v20 : BitVec 1 := Scalar.andi v17 v19
  let v6 : BitVec 32 := Scalar.divsi v5 c32_i32_2
  let c1_i32_8 : BitVec 32 := 1#32
  let v21 : BitVec 32 := Scalar.subi v6 c1_i32_8
  let v22 : BitVec 32 := Scalar.select v20 v21 v6
  let c1_i32_46 : BitVec 32 := 1#32
  let v95 : BitVec 32 := Scalar.addi v22 c1_i32_46
  let c0_i32_48 : BitVec 32 := 0#32
  let v97 : BitVec 1 := Scalar.cmpi .sgt v95 c0_i32_48
  let v98 : BitVec 32 := Scalar.extui v97
  let c0_i32_49 : BitVec 32 := 0#32
  let v99 : BitVec 1 := Scalar.cmpi .slt v95 c0_i32_49
  let v100 : BitVec 32 := Scalar.extui v99
  let v101 : BitVec 32 := Scalar.subi v98 v100
  let c2_i32_47 : BitVec 32 := 2#32
  let c0_i32_50 : BitVec 32 := 0#32
  let v102 : BitVec 1 := Scalar.cmpi .sgt c2_i32_47 c0_i32_50
  let v103 : BitVec 32 := Scalar.extui v102
  let c0_i32_51 : BitVec 32 := 0#32
  let v104 : BitVec 1 := Scalar.cmpi .slt c2_i32_47 c0_i32_51
  let v105 : BitVec 32 := Scalar.extui v104
  let v106 : BitVec 32 := Scalar.subi v103 v105
  let v107 : BitVec 1 := Scalar.cmpi .ne v101 v106
  let v108 : BitVec 32 := Scalar.remsi v95 c2_i32_47
  let c0_i32_52 : BitVec 32 := 0#32
  let v109 : BitVec 1 := Scalar.cmpi .ne v108 c0_i32_52
  let v110 : BitVec 1 := Scalar.andi v107 v109
  let v96 : BitVec 32 := Scalar.divsi v95 c2_i32_47
  let c1_i32_53 : BitVec 32 := 1#32
  let v111 : BitVec 32 := Scalar.subi v96 c1_i32_53
  let v112 : BitVec 32 := Scalar.select v110 v111 v96
  let c0_i32_54 : BitVec 32 := 0#32
  let v113 : BitVec 32 := Scalar.subi v112 c0_i32_54
  let c1_i32_55 : BitVec 32 := 1#32
  let c1_i32_56 : BitVec 32 := 1#32
  let v114 : BitVec 32 := Scalar.subi c1_i32_55 c1_i32_56
  let v115 : BitVec 32 := Scalar.addi v113 v114
  let c1_i32_57 : BitVec 32 := 1#32
  let v116 : BitVec 32 := Scalar.divsi v115 c1_i32_57
  let v117 : BitVec 32 := Scalar.subi v116 c0_i32_60
  let c1_i32_61 : BitVec 32 := 1#32
  let v119 : BitVec 32 := Scalar.divsi v117 c1_i32_61
  let v120 : BitVec 32 := Scalar.muli v119 c1_i32_61
  let v121 : BitVec 32 := Scalar.addi c0_i32_60 v120
  let c1_i32_63 : BitVec 32 := 1#32
  let arg14 : BitVec 32 := Scf.iv v121 c1_i32_63 k0_t5
  let c1_i32_58 : BitVec 32 := 1#32
  let v553 : BitVec 32 := Scalar.muli arg14 c1_i32_58
  let v554 : BitVec 32 := Scalar.addi c0_i32_59 v553
  let v562 : BitVec 32 := Scalar.muli c2_i32_281 v554
  let c1_i32_282 : BitVec 32 := 1#32
  let v563 : BitVec 32 := Scalar.addi v562 c1_i32_282
  let c32_i32_283 : BitVec 32 := 32#32
  let v564 : BitVec 32 := Scalar.muli v563 c32_i32_283
  let v565 : BitVec 32 := Scalar.addi v1 v564
  let c0_i32_310 : BitVec 32 := 0#32
  let v611 : BitVec 1 := Scalar.cmpi .sgt v565 c0_i32_310
  let v612 : BitVec 32 := Scalar.extui v611
  let c0_i32_311 : BitVec 32 := 0#32
  let v613 : BitVec 1 := Scalar.cmpi .slt v565 c0_i32_311
  let v614 : BitVec 32 := Scalar.extui v613
  let v615 : BitVec 32 := Scalar.subi v612 v614
  let c21_i32_309 : BitVec 32 := 21#32
  let c0_i32_312 : BitVec 32 := 0#32
  let v616 : BitVec 1 := Scalar.cmpi .sgt c21_i32_309 c0_i32_312
  let v617 : BitVec 32 := Scalar.extui v616
  let c0_i32_313 : BitVec 32 := 0#32
  let v618 : BitVec 1 := Scalar.cmpi .slt c21_i32_309 c0_i32_313
  let v619 : BitVec 32 := Scalar.extui v618
  let v620 : BitVec 32 := Scalar.subi v617 v619
  let v621 : BitVec 1 := Scalar.cmpi .ne v615 v620
  let v622 : BitVec 32 := Scalar.remsi v565 c21_i32_309
  let c0_i32_314 : BitVec 32 := 0#32
  let v623 : BitVec 1 := Scalar.cmpi .ne v622 c0_i32_314
  let v624 : BitVec 1 := Scalar.andi v621 v623
  let v610 : BitVec 32 := Scalar.divsi v565 c21_i32_309
  let c1_i32_315 : BitVec 32 := 1#32
  let v625 : BitVec 32 := Scalar.subi v610 c1_i32_315
  let v626 : BitVec 32 := Scalar.select v624 v625 v610
  let c0_i32_358 : BitVec 32 := 0#32
  let v718 : BitVec 1 := Scalar.cmpi .sgt v626 c0_i32_358
  let v719 : BitVec 32 := Scalar.extui v718
  let c0_i32_359 : BitVec 32 := 0#32
  let v720 : BitVec 1 := Scalar.cmpi .slt v626 c0_i32_359
  let v721 : BitVec 32 := Scalar.extui v720
  let v722 : BitVec 32 := Scalar.subi v719 v721
  let c4_i32_357 : BitVec 32 := 4#32
  let c0_i32_360 : BitVec 32 := 0#32
  let v723 : BitVec 1 := Scalar.cmpi .sgt c4_i32_357 c0_i32_360
  let v724 : BitVec 32 := Scalar.extui v723
  let c0_i32_361 : BitVec 32 := 0#32
  let v725 : BitVec 1 := Scalar.cmpi .slt c4_i32_357 c0_i32_361
  let v726 : BitVec 32 := Scalar.extui v725
  let v727 : BitVec 32 := Scalar.subi v724 v726
  let v728 : BitVec 1 := Scalar.cmpi .ne v722 v727
  let v729 : BitVec 32 := Scalar.remsi v626 c4_i32_357
  let c0_i32_362 : BitVec 32 := 0#32
  let v730 : BitVec 1 := Scalar.cmpi .ne v729 c0_i32_362
  let v731 : BitVec 1 := Scalar.andi v728 v730
  let v717 : BitVec 32 := Scalar.divsi v626 c4_i32_357
  let c1_i32_363 : BitVec 32 := 1#32
  let v732 : BitVec 32 := Scalar.subi v717 c1_i32_363
  let v733 : BitVec 32 := Scalar.select v731 v732 v717
  let c4_i32_402 : BitVec 32 := 4#32
  let c21_i32_316 : BitVec 32 := 21#32
  let c0_i32_317 : BitVec 32 := 0#32
  let v627 : BitVec 1 := Scalar.cmpi .eq c21_i32_316 c0_i32_317
  let c1_i32_318 : BitVec 32 := 1#32
  let v628 : BitVec 32 := Scalar.select v627 c1_i32_318 c21_i32_316
  let v629 : BitVec 32 := Scalar.remsi v565 v628
  let c0_i32_320 : BitVec 32 := 0#32
  let v631 : BitVec 1 := Scalar.cmpi .slt v629 c0_i32_320
  let c0_i32_321 : BitVec 32 := 0#32
  let v632 : BitVec 1 := Scalar.cmpi .slt v628 c0_i32_321
  let v633 : BitVec 1 := Scalar.xori v631 v632
  let c0_i32_319 : BitVec 32 := 0#32
  let v630 : BitVec 1 := Scalar.cmpi .ne v629 c0_i32_319
  let v634 : BitVec 1 := Scalar.andi v633 v630
  let v635 : BitVec 32 := Scalar.addi v629 v628
  let v636 : BitVec 32 := Scalar.select v634 v635 v629
  let c4_i32_322 : BitVec 32 := 4#32
  let v637 : BitVec 32 := Scalar.muli v636 c4_i32_322
  let c4_i32_323 : BitVec 32 := 4#32
  let c0_i32_324 : BitVec 32 := 0#32
  let v638 : BitVec 1 := Scalar.cmpi .eq c4_i32_323 c0_i32_324
  let c1_i32_325 : BitVec 32 := 1#32
  let v639 : BitVec 32 := Scalar.select v638 c1_i32_325 c4_i32_323
  let v640 : BitVec 32 := Scalar.remsi v626 v639
  let c0_i32_327 : BitVec 32 := 0#32
  let v642 : BitVec 1 := Scalar.cmpi .slt v640 c0_i32_327
  let c0_i32_328 : BitVec 32 := 0#32
  let v643 : BitVec 1 := Scalar.cmpi .slt v639 c0_i32_328
  let v644 : BitVec 1 := Scalar.xori v642 v643
  let c0_i32_326 : BitVec 32 := 0#32
  let v641 : BitVec 1 := Scalar.cmpi .ne v640 c0_i32_326
  let v645 : BitVec 1 := Scalar.andi v644 v641
  let v646 : BitVec 32 := Scalar.addi v640 v639
  let v647 : BitVec 32 := Scalar.select v645 v646 v640
  let v648 : BitVec 32 := Scalar.addi v637 v647
  let c0_i32_405 : BitVec 32 := 0#32
  ![v733.toNat, 4, v648.toNat, 0]
def k0_off96 (i : grid0.Coords) (k0_t5 : Fin (k0_t5_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_281 : BitVec 32 := 2#32
  let c0_i32_59 : BitVec 32 := 0#32
  let c0_i32_60 : BitVec 32 := 0#32
  let c1764_i32 : BitVec 32 := 1764#32
  let v3 : BitVec 32 := Scalar.subi c1764_i32 v1
  let c32_i32 : BitVec 32 := 32#32
  let v4 : BitVec 32 := Scalar.addi v3 c32_i32
  let c1_i32_1 : BitVec 32 := 1#32
  let v5 : BitVec 32 := Scalar.subi v4 c1_i32_1
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c32_i32_2 : BitVec 32 := 32#32
  let c0_i32_5 : BitVec 32 := 0#32
  let v12 : BitVec 1 := Scalar.cmpi .sgt c32_i32_2 c0_i32_5
  let v13 : BitVec 32 := Scalar.extui v12
  let c0_i32_6 : BitVec 32 := 0#32
  let v14 : BitVec 1 := Scalar.cmpi .slt c32_i32_2 c0_i32_6
  let v15 : BitVec 32 := Scalar.extui v14
  let v16 : BitVec 32 := Scalar.subi v13 v15
  let v17 : BitVec 1 := Scalar.cmpi .ne v11 v16
  let v18 : BitVec 32 := Scalar.remsi v5 c32_i32_2
  let c0_i32_7 : BitVec 32 := 0#32
  let v19 : BitVec 1 := Scalar.cmpi .ne v18 c0_i32_7
  let v20 : BitVec 1 := Scalar.andi v17 v19
  let v6 : BitVec 32 := Scalar.divsi v5 c32_i32_2
  let c1_i32_8 : BitVec 32 := 1#32
  let v21 : BitVec 32 := Scalar.subi v6 c1_i32_8
  let v22 : BitVec 32 := Scalar.select v20 v21 v6
  let c1_i32_46 : BitVec 32 := 1#32
  let v95 : BitVec 32 := Scalar.addi v22 c1_i32_46
  let c0_i32_48 : BitVec 32 := 0#32
  let v97 : BitVec 1 := Scalar.cmpi .sgt v95 c0_i32_48
  let v98 : BitVec 32 := Scalar.extui v97
  let c0_i32_49 : BitVec 32 := 0#32
  let v99 : BitVec 1 := Scalar.cmpi .slt v95 c0_i32_49
  let v100 : BitVec 32 := Scalar.extui v99
  let v101 : BitVec 32 := Scalar.subi v98 v100
  let c2_i32_47 : BitVec 32 := 2#32
  let c0_i32_50 : BitVec 32 := 0#32
  let v102 : BitVec 1 := Scalar.cmpi .sgt c2_i32_47 c0_i32_50
  let v103 : BitVec 32 := Scalar.extui v102
  let c0_i32_51 : BitVec 32 := 0#32
  let v104 : BitVec 1 := Scalar.cmpi .slt c2_i32_47 c0_i32_51
  let v105 : BitVec 32 := Scalar.extui v104
  let v106 : BitVec 32 := Scalar.subi v103 v105
  let v107 : BitVec 1 := Scalar.cmpi .ne v101 v106
  let v108 : BitVec 32 := Scalar.remsi v95 c2_i32_47
  let c0_i32_52 : BitVec 32 := 0#32
  let v109 : BitVec 1 := Scalar.cmpi .ne v108 c0_i32_52
  let v110 : BitVec 1 := Scalar.andi v107 v109
  let v96 : BitVec 32 := Scalar.divsi v95 c2_i32_47
  let c1_i32_53 : BitVec 32 := 1#32
  let v111 : BitVec 32 := Scalar.subi v96 c1_i32_53
  let v112 : BitVec 32 := Scalar.select v110 v111 v96
  let c0_i32_54 : BitVec 32 := 0#32
  let v113 : BitVec 32 := Scalar.subi v112 c0_i32_54
  let c1_i32_55 : BitVec 32 := 1#32
  let c1_i32_56 : BitVec 32 := 1#32
  let v114 : BitVec 32 := Scalar.subi c1_i32_55 c1_i32_56
  let v115 : BitVec 32 := Scalar.addi v113 v114
  let c1_i32_57 : BitVec 32 := 1#32
  let v116 : BitVec 32 := Scalar.divsi v115 c1_i32_57
  let v117 : BitVec 32 := Scalar.subi v116 c0_i32_60
  let c1_i32_61 : BitVec 32 := 1#32
  let v119 : BitVec 32 := Scalar.divsi v117 c1_i32_61
  let v120 : BitVec 32 := Scalar.muli v119 c1_i32_61
  let v121 : BitVec 32 := Scalar.addi c0_i32_60 v120
  let c1_i32_63 : BitVec 32 := 1#32
  let arg14 : BitVec 32 := Scf.iv v121 c1_i32_63 k0_t5
  let c1_i32_58 : BitVec 32 := 1#32
  let v553 : BitVec 32 := Scalar.muli arg14 c1_i32_58
  let v554 : BitVec 32 := Scalar.addi c0_i32_59 v553
  let v562 : BitVec 32 := Scalar.muli c2_i32_281 v554
  let c1_i32_282 : BitVec 32 := 1#32
  let v563 : BitVec 32 := Scalar.addi v562 c1_i32_282
  let c32_i32_283 : BitVec 32 := 32#32
  let v564 : BitVec 32 := Scalar.muli v563 c32_i32_283
  let v565 : BitVec 32 := Scalar.addi v1 v564
  let c0_i32_310 : BitVec 32 := 0#32
  let v611 : BitVec 1 := Scalar.cmpi .sgt v565 c0_i32_310
  let v612 : BitVec 32 := Scalar.extui v611
  let c0_i32_311 : BitVec 32 := 0#32
  let v613 : BitVec 1 := Scalar.cmpi .slt v565 c0_i32_311
  let v614 : BitVec 32 := Scalar.extui v613
  let v615 : BitVec 32 := Scalar.subi v612 v614
  let c21_i32_309 : BitVec 32 := 21#32
  let c0_i32_312 : BitVec 32 := 0#32
  let v616 : BitVec 1 := Scalar.cmpi .sgt c21_i32_309 c0_i32_312
  let v617 : BitVec 32 := Scalar.extui v616
  let c0_i32_313 : BitVec 32 := 0#32
  let v618 : BitVec 1 := Scalar.cmpi .slt c21_i32_309 c0_i32_313
  let v619 : BitVec 32 := Scalar.extui v618
  let v620 : BitVec 32 := Scalar.subi v617 v619
  let v621 : BitVec 1 := Scalar.cmpi .ne v615 v620
  let v622 : BitVec 32 := Scalar.remsi v565 c21_i32_309
  let c0_i32_314 : BitVec 32 := 0#32
  let v623 : BitVec 1 := Scalar.cmpi .ne v622 c0_i32_314
  let v624 : BitVec 1 := Scalar.andi v621 v623
  let v610 : BitVec 32 := Scalar.divsi v565 c21_i32_309
  let c1_i32_315 : BitVec 32 := 1#32
  let v625 : BitVec 32 := Scalar.subi v610 c1_i32_315
  let v626 : BitVec 32 := Scalar.select v624 v625 v610
  let c0_i32_365 : BitVec 32 := 0#32
  let v735 : BitVec 1 := Scalar.cmpi .sgt v626 c0_i32_365
  let v736 : BitVec 32 := Scalar.extui v735
  let c0_i32_366 : BitVec 32 := 0#32
  let v737 : BitVec 1 := Scalar.cmpi .slt v626 c0_i32_366
  let v738 : BitVec 32 := Scalar.extui v737
  let v739 : BitVec 32 := Scalar.subi v736 v738
  let c4_i32_364 : BitVec 32 := 4#32
  let c0_i32_367 : BitVec 32 := 0#32
  let v740 : BitVec 1 := Scalar.cmpi .sgt c4_i32_364 c0_i32_367
  let v741 : BitVec 32 := Scalar.extui v740
  let c0_i32_368 : BitVec 32 := 0#32
  let v742 : BitVec 1 := Scalar.cmpi .slt c4_i32_364 c0_i32_368
  let v743 : BitVec 32 := Scalar.extui v742
  let v744 : BitVec 32 := Scalar.subi v741 v743
  let v745 : BitVec 1 := Scalar.cmpi .ne v739 v744
  let v746 : BitVec 32 := Scalar.remsi v626 c4_i32_364
  let c0_i32_369 : BitVec 32 := 0#32
  let v747 : BitVec 1 := Scalar.cmpi .ne v746 c0_i32_369
  let v748 : BitVec 1 := Scalar.andi v745 v747
  let v734 : BitVec 32 := Scalar.divsi v626 c4_i32_364
  let c1_i32_370 : BitVec 32 := 1#32
  let v749 : BitVec 32 := Scalar.subi v734 c1_i32_370
  let v750 : BitVec 32 := Scalar.select v748 v749 v734
  let c5_i32_408 : BitVec 32 := 5#32
  let c21_i32_316 : BitVec 32 := 21#32
  let c0_i32_317 : BitVec 32 := 0#32
  let v627 : BitVec 1 := Scalar.cmpi .eq c21_i32_316 c0_i32_317
  let c1_i32_318 : BitVec 32 := 1#32
  let v628 : BitVec 32 := Scalar.select v627 c1_i32_318 c21_i32_316
  let v629 : BitVec 32 := Scalar.remsi v565 v628
  let c0_i32_320 : BitVec 32 := 0#32
  let v631 : BitVec 1 := Scalar.cmpi .slt v629 c0_i32_320
  let c0_i32_321 : BitVec 32 := 0#32
  let v632 : BitVec 1 := Scalar.cmpi .slt v628 c0_i32_321
  let v633 : BitVec 1 := Scalar.xori v631 v632
  let c0_i32_319 : BitVec 32 := 0#32
  let v630 : BitVec 1 := Scalar.cmpi .ne v629 c0_i32_319
  let v634 : BitVec 1 := Scalar.andi v633 v630
  let v635 : BitVec 32 := Scalar.addi v629 v628
  let v636 : BitVec 32 := Scalar.select v634 v635 v629
  let c4_i32_322 : BitVec 32 := 4#32
  let v637 : BitVec 32 := Scalar.muli v636 c4_i32_322
  let c4_i32_323 : BitVec 32 := 4#32
  let c0_i32_324 : BitVec 32 := 0#32
  let v638 : BitVec 1 := Scalar.cmpi .eq c4_i32_323 c0_i32_324
  let c1_i32_325 : BitVec 32 := 1#32
  let v639 : BitVec 32 := Scalar.select v638 c1_i32_325 c4_i32_323
  let v640 : BitVec 32 := Scalar.remsi v626 v639
  let c0_i32_327 : BitVec 32 := 0#32
  let v642 : BitVec 1 := Scalar.cmpi .slt v640 c0_i32_327
  let c0_i32_328 : BitVec 32 := 0#32
  let v643 : BitVec 1 := Scalar.cmpi .slt v639 c0_i32_328
  let v644 : BitVec 1 := Scalar.xori v642 v643
  let c0_i32_326 : BitVec 32 := 0#32
  let v641 : BitVec 1 := Scalar.cmpi .ne v640 c0_i32_326
  let v645 : BitVec 1 := Scalar.andi v644 v641
  let v646 : BitVec 32 := Scalar.addi v640 v639
  let v647 : BitVec 32 := Scalar.select v645 v646 v640
  let v648 : BitVec 32 := Scalar.addi v637 v647
  let c0_i32_411 : BitVec 32 := 0#32
  ![v750.toNat, 5, v648.toNat, 0]
def k0_off97 (i : grid0.Coords) (k0_t5 : Fin (k0_t5_loop i).trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_281 : BitVec 32 := 2#32
  let c0_i32_59 : BitVec 32 := 0#32
  let c0_i32_60 : BitVec 32 := 0#32
  let c1764_i32 : BitVec 32 := 1764#32
  let v3 : BitVec 32 := Scalar.subi c1764_i32 v1
  let c32_i32 : BitVec 32 := 32#32
  let v4 : BitVec 32 := Scalar.addi v3 c32_i32
  let c1_i32_1 : BitVec 32 := 1#32
  let v5 : BitVec 32 := Scalar.subi v4 c1_i32_1
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c32_i32_2 : BitVec 32 := 32#32
  let c0_i32_5 : BitVec 32 := 0#32
  let v12 : BitVec 1 := Scalar.cmpi .sgt c32_i32_2 c0_i32_5
  let v13 : BitVec 32 := Scalar.extui v12
  let c0_i32_6 : BitVec 32 := 0#32
  let v14 : BitVec 1 := Scalar.cmpi .slt c32_i32_2 c0_i32_6
  let v15 : BitVec 32 := Scalar.extui v14
  let v16 : BitVec 32 := Scalar.subi v13 v15
  let v17 : BitVec 1 := Scalar.cmpi .ne v11 v16
  let v18 : BitVec 32 := Scalar.remsi v5 c32_i32_2
  let c0_i32_7 : BitVec 32 := 0#32
  let v19 : BitVec 1 := Scalar.cmpi .ne v18 c0_i32_7
  let v20 : BitVec 1 := Scalar.andi v17 v19
  let v6 : BitVec 32 := Scalar.divsi v5 c32_i32_2
  let c1_i32_8 : BitVec 32 := 1#32
  let v21 : BitVec 32 := Scalar.subi v6 c1_i32_8
  let v22 : BitVec 32 := Scalar.select v20 v21 v6
  let c1_i32_46 : BitVec 32 := 1#32
  let v95 : BitVec 32 := Scalar.addi v22 c1_i32_46
  let c0_i32_48 : BitVec 32 := 0#32
  let v97 : BitVec 1 := Scalar.cmpi .sgt v95 c0_i32_48
  let v98 : BitVec 32 := Scalar.extui v97
  let c0_i32_49 : BitVec 32 := 0#32
  let v99 : BitVec 1 := Scalar.cmpi .slt v95 c0_i32_49
  let v100 : BitVec 32 := Scalar.extui v99
  let v101 : BitVec 32 := Scalar.subi v98 v100
  let c2_i32_47 : BitVec 32 := 2#32
  let c0_i32_50 : BitVec 32 := 0#32
  let v102 : BitVec 1 := Scalar.cmpi .sgt c2_i32_47 c0_i32_50
  let v103 : BitVec 32 := Scalar.extui v102
  let c0_i32_51 : BitVec 32 := 0#32
  let v104 : BitVec 1 := Scalar.cmpi .slt c2_i32_47 c0_i32_51
  let v105 : BitVec 32 := Scalar.extui v104
  let v106 : BitVec 32 := Scalar.subi v103 v105
  let v107 : BitVec 1 := Scalar.cmpi .ne v101 v106
  let v108 : BitVec 32 := Scalar.remsi v95 c2_i32_47
  let c0_i32_52 : BitVec 32 := 0#32
  let v109 : BitVec 1 := Scalar.cmpi .ne v108 c0_i32_52
  let v110 : BitVec 1 := Scalar.andi v107 v109
  let v96 : BitVec 32 := Scalar.divsi v95 c2_i32_47
  let c1_i32_53 : BitVec 32 := 1#32
  let v111 : BitVec 32 := Scalar.subi v96 c1_i32_53
  let v112 : BitVec 32 := Scalar.select v110 v111 v96
  let c0_i32_54 : BitVec 32 := 0#32
  let v113 : BitVec 32 := Scalar.subi v112 c0_i32_54
  let c1_i32_55 : BitVec 32 := 1#32
  let c1_i32_56 : BitVec 32 := 1#32
  let v114 : BitVec 32 := Scalar.subi c1_i32_55 c1_i32_56
  let v115 : BitVec 32 := Scalar.addi v113 v114
  let c1_i32_57 : BitVec 32 := 1#32
  let v116 : BitVec 32 := Scalar.divsi v115 c1_i32_57
  let v117 : BitVec 32 := Scalar.subi v116 c0_i32_60
  let c1_i32_61 : BitVec 32 := 1#32
  let v119 : BitVec 32 := Scalar.divsi v117 c1_i32_61
  let v120 : BitVec 32 := Scalar.muli v119 c1_i32_61
  let v121 : BitVec 32 := Scalar.addi c0_i32_60 v120
  let c1_i32_63 : BitVec 32 := 1#32
  let arg14 : BitVec 32 := Scf.iv v121 c1_i32_63 k0_t5
  let c1_i32_58 : BitVec 32 := 1#32
  let v553 : BitVec 32 := Scalar.muli arg14 c1_i32_58
  let v554 : BitVec 32 := Scalar.addi c0_i32_59 v553
  let v562 : BitVec 32 := Scalar.muli c2_i32_281 v554
  let c1_i32_282 : BitVec 32 := 1#32
  let v563 : BitVec 32 := Scalar.addi v562 c1_i32_282
  let c32_i32_283 : BitVec 32 := 32#32
  let v564 : BitVec 32 := Scalar.muli v563 c32_i32_283
  let v565 : BitVec 32 := Scalar.addi v1 v564
  let c0_i32_310 : BitVec 32 := 0#32
  let v611 : BitVec 1 := Scalar.cmpi .sgt v565 c0_i32_310
  let v612 : BitVec 32 := Scalar.extui v611
  let c0_i32_311 : BitVec 32 := 0#32
  let v613 : BitVec 1 := Scalar.cmpi .slt v565 c0_i32_311
  let v614 : BitVec 32 := Scalar.extui v613
  let v615 : BitVec 32 := Scalar.subi v612 v614
  let c21_i32_309 : BitVec 32 := 21#32
  let c0_i32_312 : BitVec 32 := 0#32
  let v616 : BitVec 1 := Scalar.cmpi .sgt c21_i32_309 c0_i32_312
  let v617 : BitVec 32 := Scalar.extui v616
  let c0_i32_313 : BitVec 32 := 0#32
  let v618 : BitVec 1 := Scalar.cmpi .slt c21_i32_309 c0_i32_313
  let v619 : BitVec 32 := Scalar.extui v618
  let v620 : BitVec 32 := Scalar.subi v617 v619
  let v621 : BitVec 1 := Scalar.cmpi .ne v615 v620
  let v622 : BitVec 32 := Scalar.remsi v565 c21_i32_309
  let c0_i32_314 : BitVec 32 := 0#32
  let v623 : BitVec 1 := Scalar.cmpi .ne v622 c0_i32_314
  let v624 : BitVec 1 := Scalar.andi v621 v623
  let v610 : BitVec 32 := Scalar.divsi v565 c21_i32_309
  let c1_i32_315 : BitVec 32 := 1#32
  let v625 : BitVec 32 := Scalar.subi v610 c1_i32_315
  let v626 : BitVec 32 := Scalar.select v624 v625 v610
  let c0_i32_372 : BitVec 32 := 0#32
  let v752 : BitVec 1 := Scalar.cmpi .sgt v626 c0_i32_372
  let v753 : BitVec 32 := Scalar.extui v752
  let c0_i32_373 : BitVec 32 := 0#32
  let v754 : BitVec 1 := Scalar.cmpi .slt v626 c0_i32_373
  let v755 : BitVec 32 := Scalar.extui v754
  let v756 : BitVec 32 := Scalar.subi v753 v755
  let c4_i32_371 : BitVec 32 := 4#32
  let c0_i32_374 : BitVec 32 := 0#32
  let v757 : BitVec 1 := Scalar.cmpi .sgt c4_i32_371 c0_i32_374
  let v758 : BitVec 32 := Scalar.extui v757
  let c0_i32_375 : BitVec 32 := 0#32
  let v759 : BitVec 1 := Scalar.cmpi .slt c4_i32_371 c0_i32_375
  let v760 : BitVec 32 := Scalar.extui v759
  let v761 : BitVec 32 := Scalar.subi v758 v760
  let v762 : BitVec 1 := Scalar.cmpi .ne v756 v761
  let v763 : BitVec 32 := Scalar.remsi v626 c4_i32_371
  let c0_i32_376 : BitVec 32 := 0#32
  let v764 : BitVec 1 := Scalar.cmpi .ne v763 c0_i32_376
  let v765 : BitVec 1 := Scalar.andi v762 v764
  let v751 : BitVec 32 := Scalar.divsi v626 c4_i32_371
  let c1_i32_377 : BitVec 32 := 1#32
  let v766 : BitVec 32 := Scalar.subi v751 c1_i32_377
  let v767 : BitVec 32 := Scalar.select v765 v766 v751
  let c6_i32_414 : BitVec 32 := 6#32
  let c21_i32_316 : BitVec 32 := 21#32
  let c0_i32_317 : BitVec 32 := 0#32
  let v627 : BitVec 1 := Scalar.cmpi .eq c21_i32_316 c0_i32_317
  let c1_i32_318 : BitVec 32 := 1#32
  let v628 : BitVec 32 := Scalar.select v627 c1_i32_318 c21_i32_316
  let v629 : BitVec 32 := Scalar.remsi v565 v628
  let c0_i32_320 : BitVec 32 := 0#32
  let v631 : BitVec 1 := Scalar.cmpi .slt v629 c0_i32_320
  let c0_i32_321 : BitVec 32 := 0#32
  let v632 : BitVec 1 := Scalar.cmpi .slt v628 c0_i32_321
  let v633 : BitVec 1 := Scalar.xori v631 v632
  let c0_i32_319 : BitVec 32 := 0#32
  let v630 : BitVec 1 := Scalar.cmpi .ne v629 c0_i32_319
  let v634 : BitVec 1 := Scalar.andi v633 v630
  let v635 : BitVec 32 := Scalar.addi v629 v628
  let v636 : BitVec 32 := Scalar.select v634 v635 v629
  let c4_i32_322 : BitVec 32 := 4#32
  let v637 : BitVec 32 := Scalar.muli v636 c4_i32_322
  let c4_i32_323 : BitVec 32 := 4#32
  let c0_i32_324 : BitVec 32 := 0#32
  let v638 : BitVec 1 := Scalar.cmpi .eq c4_i32_323 c0_i32_324
  let c1_i32_325 : BitVec 32 := 1#32
  let v639 : BitVec 32 := Scalar.select v638 c1_i32_325 c4_i32_323
  let v640 : BitVec 32 := Scalar.remsi v626 v639
  let c0_i32_327 : BitVec 32 := 0#32
  let v642 : BitVec 1 := Scalar.cmpi .slt v640 c0_i32_327
  let c0_i32_328 : BitVec 32 := 0#32
  let v643 : BitVec 1 := Scalar.cmpi .slt v639 c0_i32_328
  let v644 : BitVec 1 := Scalar.xori v642 v643
  let c0_i32_326 : BitVec 32 := 0#32
  let v641 : BitVec 1 := Scalar.cmpi .ne v640 c0_i32_326
  let v645 : BitVec 1 := Scalar.andi v644 v641
  let v646 : BitVec 32 := Scalar.addi v640 v639
  let v647 : BitVec 32 := Scalar.select v645 v646 v640
  let v648 : BitVec 32 := Scalar.addi v637 v647
  let c0_i32_417 : BitVec 32 := 0#32
  ![v767.toNat, 6, v648.toNat, 0]
def k0_cond12 (i : grid0.Coords) (k0_t5 : Fin (k0_t5_loop i).trips) : BitVec 1 :=
  let c2_i32_281 : BitVec 32 := 2#32
  let c0_i32_59 : BitVec 32 := 0#32
  let c0_i32_60 : BitVec 32 := 0#32
  let c1764_i32 : BitVec 32 := 1764#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v3 : BitVec 32 := Scalar.subi c1764_i32 v1
  let c32_i32 : BitVec 32 := 32#32
  let v4 : BitVec 32 := Scalar.addi v3 c32_i32
  let c1_i32_1 : BitVec 32 := 1#32
  let v5 : BitVec 32 := Scalar.subi v4 c1_i32_1
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c32_i32_2 : BitVec 32 := 32#32
  let c0_i32_5 : BitVec 32 := 0#32
  let v12 : BitVec 1 := Scalar.cmpi .sgt c32_i32_2 c0_i32_5
  let v13 : BitVec 32 := Scalar.extui v12
  let c0_i32_6 : BitVec 32 := 0#32
  let v14 : BitVec 1 := Scalar.cmpi .slt c32_i32_2 c0_i32_6
  let v15 : BitVec 32 := Scalar.extui v14
  let v16 : BitVec 32 := Scalar.subi v13 v15
  let v17 : BitVec 1 := Scalar.cmpi .ne v11 v16
  let v18 : BitVec 32 := Scalar.remsi v5 c32_i32_2
  let c0_i32_7 : BitVec 32 := 0#32
  let v19 : BitVec 1 := Scalar.cmpi .ne v18 c0_i32_7
  let v20 : BitVec 1 := Scalar.andi v17 v19
  let v6 : BitVec 32 := Scalar.divsi v5 c32_i32_2
  let c1_i32_8 : BitVec 32 := 1#32
  let v21 : BitVec 32 := Scalar.subi v6 c1_i32_8
  let v22 : BitVec 32 := Scalar.select v20 v21 v6
  let c1_i32_46 : BitVec 32 := 1#32
  let v95 : BitVec 32 := Scalar.addi v22 c1_i32_46
  let c0_i32_48 : BitVec 32 := 0#32
  let v97 : BitVec 1 := Scalar.cmpi .sgt v95 c0_i32_48
  let v98 : BitVec 32 := Scalar.extui v97
  let c0_i32_49 : BitVec 32 := 0#32
  let v99 : BitVec 1 := Scalar.cmpi .slt v95 c0_i32_49
  let v100 : BitVec 32 := Scalar.extui v99
  let v101 : BitVec 32 := Scalar.subi v98 v100
  let c2_i32_47 : BitVec 32 := 2#32
  let c0_i32_50 : BitVec 32 := 0#32
  let v102 : BitVec 1 := Scalar.cmpi .sgt c2_i32_47 c0_i32_50
  let v103 : BitVec 32 := Scalar.extui v102
  let c0_i32_51 : BitVec 32 := 0#32
  let v104 : BitVec 1 := Scalar.cmpi .slt c2_i32_47 c0_i32_51
  let v105 : BitVec 32 := Scalar.extui v104
  let v106 : BitVec 32 := Scalar.subi v103 v105
  let v107 : BitVec 1 := Scalar.cmpi .ne v101 v106
  let v108 : BitVec 32 := Scalar.remsi v95 c2_i32_47
  let c0_i32_52 : BitVec 32 := 0#32
  let v109 : BitVec 1 := Scalar.cmpi .ne v108 c0_i32_52
  let v110 : BitVec 1 := Scalar.andi v107 v109
  let v96 : BitVec 32 := Scalar.divsi v95 c2_i32_47
  let c1_i32_53 : BitVec 32 := 1#32
  let v111 : BitVec 32 := Scalar.subi v96 c1_i32_53
  let v112 : BitVec 32 := Scalar.select v110 v111 v96
  let c0_i32_54 : BitVec 32 := 0#32
  let v113 : BitVec 32 := Scalar.subi v112 c0_i32_54
  let c1_i32_55 : BitVec 32 := 1#32
  let c1_i32_56 : BitVec 32 := 1#32
  let v114 : BitVec 32 := Scalar.subi c1_i32_55 c1_i32_56
  let v115 : BitVec 32 := Scalar.addi v113 v114
  let c1_i32_57 : BitVec 32 := 1#32
  let v116 : BitVec 32 := Scalar.divsi v115 c1_i32_57
  let v117 : BitVec 32 := Scalar.subi v116 c0_i32_60
  let c1_i32_61 : BitVec 32 := 1#32
  let v119 : BitVec 32 := Scalar.divsi v117 c1_i32_61
  let v120 : BitVec 32 := Scalar.muli v119 c1_i32_61
  let v121 : BitVec 32 := Scalar.addi c0_i32_60 v120
  let c1_i32_63 : BitVec 32 := 1#32
  let arg14 : BitVec 32 := Scf.iv v121 c1_i32_63 k0_t5
  let c1_i32_58 : BitVec 32 := 1#32
  let v553 : BitVec 32 := Scalar.muli arg14 c1_i32_58
  let v554 : BitVec 32 := Scalar.addi c0_i32_59 v553
  let v562 : BitVec 32 := Scalar.muli c2_i32_281 v554
  let c1_i32_282 : BitVec 32 := 1#32
  let v563 : BitVec 32 := Scalar.addi v562 c1_i32_282
  let c2_i32_420 : BitVec 32 := 2#32
  let v824 : BitVec 32 := Scalar.addi v563 c2_i32_420
  let v825 : BitVec 1 := Scalar.cmpi .slt v824 v22
  let v826 : BitVec 32 := Scalar.extui v825
  let c0_i32_421 : BitVec 32 := 0#32
  let v827 : BitVec 1 := Scalar.cmpi .ne v826 c0_i32_421
  v827

def k0_off98 (i : grid0.Coords) (k0_t5 : Fin (k0_t5_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_281 : BitVec 32 := 2#32
  let c0_i32_59 : BitVec 32 := 0#32
  let c0_i32_60 : BitVec 32 := 0#32
  let c1764_i32 : BitVec 32 := 1764#32
  let v3 : BitVec 32 := Scalar.subi c1764_i32 v1
  let c32_i32 : BitVec 32 := 32#32
  let v4 : BitVec 32 := Scalar.addi v3 c32_i32
  let c1_i32_1 : BitVec 32 := 1#32
  let v5 : BitVec 32 := Scalar.subi v4 c1_i32_1
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c32_i32_2 : BitVec 32 := 32#32
  let c0_i32_5 : BitVec 32 := 0#32
  let v12 : BitVec 1 := Scalar.cmpi .sgt c32_i32_2 c0_i32_5
  let v13 : BitVec 32 := Scalar.extui v12
  let c0_i32_6 : BitVec 32 := 0#32
  let v14 : BitVec 1 := Scalar.cmpi .slt c32_i32_2 c0_i32_6
  let v15 : BitVec 32 := Scalar.extui v14
  let v16 : BitVec 32 := Scalar.subi v13 v15
  let v17 : BitVec 1 := Scalar.cmpi .ne v11 v16
  let v18 : BitVec 32 := Scalar.remsi v5 c32_i32_2
  let c0_i32_7 : BitVec 32 := 0#32
  let v19 : BitVec 1 := Scalar.cmpi .ne v18 c0_i32_7
  let v20 : BitVec 1 := Scalar.andi v17 v19
  let v6 : BitVec 32 := Scalar.divsi v5 c32_i32_2
  let c1_i32_8 : BitVec 32 := 1#32
  let v21 : BitVec 32 := Scalar.subi v6 c1_i32_8
  let v22 : BitVec 32 := Scalar.select v20 v21 v6
  let c1_i32_46 : BitVec 32 := 1#32
  let v95 : BitVec 32 := Scalar.addi v22 c1_i32_46
  let c0_i32_48 : BitVec 32 := 0#32
  let v97 : BitVec 1 := Scalar.cmpi .sgt v95 c0_i32_48
  let v98 : BitVec 32 := Scalar.extui v97
  let c0_i32_49 : BitVec 32 := 0#32
  let v99 : BitVec 1 := Scalar.cmpi .slt v95 c0_i32_49
  let v100 : BitVec 32 := Scalar.extui v99
  let v101 : BitVec 32 := Scalar.subi v98 v100
  let c2_i32_47 : BitVec 32 := 2#32
  let c0_i32_50 : BitVec 32 := 0#32
  let v102 : BitVec 1 := Scalar.cmpi .sgt c2_i32_47 c0_i32_50
  let v103 : BitVec 32 := Scalar.extui v102
  let c0_i32_51 : BitVec 32 := 0#32
  let v104 : BitVec 1 := Scalar.cmpi .slt c2_i32_47 c0_i32_51
  let v105 : BitVec 32 := Scalar.extui v104
  let v106 : BitVec 32 := Scalar.subi v103 v105
  let v107 : BitVec 1 := Scalar.cmpi .ne v101 v106
  let v108 : BitVec 32 := Scalar.remsi v95 c2_i32_47
  let c0_i32_52 : BitVec 32 := 0#32
  let v109 : BitVec 1 := Scalar.cmpi .ne v108 c0_i32_52
  let v110 : BitVec 1 := Scalar.andi v107 v109
  let v96 : BitVec 32 := Scalar.divsi v95 c2_i32_47
  let c1_i32_53 : BitVec 32 := 1#32
  let v111 : BitVec 32 := Scalar.subi v96 c1_i32_53
  let v112 : BitVec 32 := Scalar.select v110 v111 v96
  let c0_i32_54 : BitVec 32 := 0#32
  let v113 : BitVec 32 := Scalar.subi v112 c0_i32_54
  let c1_i32_55 : BitVec 32 := 1#32
  let c1_i32_56 : BitVec 32 := 1#32
  let v114 : BitVec 32 := Scalar.subi c1_i32_55 c1_i32_56
  let v115 : BitVec 32 := Scalar.addi v113 v114
  let c1_i32_57 : BitVec 32 := 1#32
  let v116 : BitVec 32 := Scalar.divsi v115 c1_i32_57
  let v117 : BitVec 32 := Scalar.subi v116 c0_i32_60
  let c1_i32_61 : BitVec 32 := 1#32
  let v119 : BitVec 32 := Scalar.divsi v117 c1_i32_61
  let v120 : BitVec 32 := Scalar.muli v119 c1_i32_61
  let v121 : BitVec 32 := Scalar.addi c0_i32_60 v120
  let c1_i32_63 : BitVec 32 := 1#32
  let arg14 : BitVec 32 := Scf.iv v121 c1_i32_63 k0_t5
  let c1_i32_58 : BitVec 32 := 1#32
  let v553 : BitVec 32 := Scalar.muli arg14 c1_i32_58
  let v554 : BitVec 32 := Scalar.addi c0_i32_59 v553
  let v562 : BitVec 32 := Scalar.muli c2_i32_281 v554
  let c1_i32_282 : BitVec 32 := 1#32
  let v563 : BitVec 32 := Scalar.addi v562 c1_i32_282
  let c32_i32_283 : BitVec 32 := 32#32
  let v564 : BitVec 32 := Scalar.muli v563 c32_i32_283
  let v565 : BitVec 32 := Scalar.addi v1 v564
  let c64_i32 : BitVec 32 := 64#32
  let v828 : BitVec 32 := Scalar.addi v565 c64_i32
  let c0_i32_423 : BitVec 32 := 0#32
  let v830 : BitVec 1 := Scalar.cmpi .sgt v828 c0_i32_423
  let v831 : BitVec 32 := Scalar.extui v830
  let c0_i32_424 : BitVec 32 := 0#32
  let v832 : BitVec 1 := Scalar.cmpi .slt v828 c0_i32_424
  let v833 : BitVec 32 := Scalar.extui v832
  let v834 : BitVec 32 := Scalar.subi v831 v833
  let c21_i32_422 : BitVec 32 := 21#32
  let c0_i32_425 : BitVec 32 := 0#32
  let v835 : BitVec 1 := Scalar.cmpi .sgt c21_i32_422 c0_i32_425
  let v836 : BitVec 32 := Scalar.extui v835
  let c0_i32_426 : BitVec 32 := 0#32
  let v837 : BitVec 1 := Scalar.cmpi .slt c21_i32_422 c0_i32_426
  let v838 : BitVec 32 := Scalar.extui v837
  let v839 : BitVec 32 := Scalar.subi v836 v838
  let v840 : BitVec 1 := Scalar.cmpi .ne v834 v839
  let v841 : BitVec 32 := Scalar.remsi v828 c21_i32_422
  let c0_i32_427 : BitVec 32 := 0#32
  let v842 : BitVec 1 := Scalar.cmpi .ne v841 c0_i32_427
  let v843 : BitVec 1 := Scalar.andi v840 v842
  let v829 : BitVec 32 := Scalar.divsi v828 c21_i32_422
  let c1_i32_428 : BitVec 32 := 1#32
  let v844 : BitVec 32 := Scalar.subi v829 c1_i32_428
  let v845 : BitVec 32 := Scalar.select v843 v844 v829
  let c21_i32_429 : BitVec 32 := 21#32
  let c0_i32_430 : BitVec 32 := 0#32
  let v846 : BitVec 1 := Scalar.cmpi .eq c21_i32_429 c0_i32_430
  let c1_i32_431 : BitVec 32 := 1#32
  let v847 : BitVec 32 := Scalar.select v846 c1_i32_431 c21_i32_429
  let v848 : BitVec 32 := Scalar.remsi v828 v847
  let c0_i32_433 : BitVec 32 := 0#32
  let v850 : BitVec 1 := Scalar.cmpi .slt v848 c0_i32_433
  let c0_i32_434 : BitVec 32 := 0#32
  let v851 : BitVec 1 := Scalar.cmpi .slt v847 c0_i32_434
  let v852 : BitVec 1 := Scalar.xori v850 v851
  let c0_i32_432 : BitVec 32 := 0#32
  let v849 : BitVec 1 := Scalar.cmpi .ne v848 c0_i32_432
  let v853 : BitVec 1 := Scalar.andi v852 v849
  let v854 : BitVec 32 := Scalar.addi v848 v847
  let v855 : BitVec 32 := Scalar.select v853 v854 v848
  let c0_i32_437 : BitVec 32 := 0#32
  ![v845.toNat, v855.toNat, 0]
def k0_off99 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_65 : BitVec 32 := 0#32
  let v123 : BitVec 1 := Scalar.cmpi .sgt v1 c0_i32_65
  let v124 : BitVec 32 := Scalar.extui v123
  let c0_i32_66 : BitVec 32 := 0#32
  let v125 : BitVec 1 := Scalar.cmpi .slt v1 c0_i32_66
  let v126 : BitVec 32 := Scalar.extui v125
  let v127 : BitVec 32 := Scalar.subi v124 v126
  let c21_i32_64 : BitVec 32 := 21#32
  let c0_i32_67 : BitVec 32 := 0#32
  let v128 : BitVec 1 := Scalar.cmpi .sgt c21_i32_64 c0_i32_67
  let v129 : BitVec 32 := Scalar.extui v128
  let c0_i32_68 : BitVec 32 := 0#32
  let v130 : BitVec 1 := Scalar.cmpi .slt c21_i32_64 c0_i32_68
  let v131 : BitVec 32 := Scalar.extui v130
  let v132 : BitVec 32 := Scalar.subi v129 v131
  let v133 : BitVec 1 := Scalar.cmpi .ne v127 v132
  let v134 : BitVec 32 := Scalar.remsi v1 c21_i32_64
  let c0_i32_69 : BitVec 32 := 0#32
  let v135 : BitVec 1 := Scalar.cmpi .ne v134 c0_i32_69
  let v136 : BitVec 1 := Scalar.andi v133 v135
  let v122 : BitVec 32 := Scalar.divsi v1 c21_i32_64
  let c1_i32_70 : BitVec 32 := 1#32
  let v137 : BitVec 32 := Scalar.subi v122 c1_i32_70
  let v138 : BitVec 32 := Scalar.select v136 v137 v122
  let c0_i32_84 : BitVec 32 := 0#32
  let v162 : BitVec 1 := Scalar.cmpi .sgt v138 c0_i32_84
  let v163 : BitVec 32 := Scalar.extui v162
  let c0_i32_85 : BitVec 32 := 0#32
  let v164 : BitVec 1 := Scalar.cmpi .slt v138 c0_i32_85
  let v165 : BitVec 32 := Scalar.extui v164
  let v166 : BitVec 32 := Scalar.subi v163 v165
  let c4_i32_83 : BitVec 32 := 4#32
  let c0_i32_86 : BitVec 32 := 0#32
  let v167 : BitVec 1 := Scalar.cmpi .sgt c4_i32_83 c0_i32_86
  let v168 : BitVec 32 := Scalar.extui v167
  let c0_i32_87 : BitVec 32 := 0#32
  let v169 : BitVec 1 := Scalar.cmpi .slt c4_i32_83 c0_i32_87
  let v170 : BitVec 32 := Scalar.extui v169
  let v171 : BitVec 32 := Scalar.subi v168 v170
  let v172 : BitVec 1 := Scalar.cmpi .ne v166 v171
  let v173 : BitVec 32 := Scalar.remsi v138 c4_i32_83
  let c0_i32_88 : BitVec 32 := 0#32
  let v174 : BitVec 1 := Scalar.cmpi .ne v173 c0_i32_88
  let v175 : BitVec 1 := Scalar.andi v172 v174
  let v161 : BitVec 32 := Scalar.divsi v138 c4_i32_83
  let c1_i32_89 : BitVec 32 := 1#32
  let v176 : BitVec 32 := Scalar.subi v161 c1_i32_89
  let v177 : BitVec 32 := Scalar.select v175 v176 v161
  let c0_i32_132 : BitVec 32 := 0#32
  let c21_i32_71 : BitVec 32 := 21#32
  let c0_i32_72 : BitVec 32 := 0#32
  let v139 : BitVec 1 := Scalar.cmpi .eq c21_i32_71 c0_i32_72
  let c1_i32_73 : BitVec 32 := 1#32
  let v140 : BitVec 32 := Scalar.select v139 c1_i32_73 c21_i32_71
  let v141 : BitVec 32 := Scalar.remsi v1 v140
  let c0_i32_75 : BitVec 32 := 0#32
  let v143 : BitVec 1 := Scalar.cmpi .slt v141 c0_i32_75
  let c0_i32_76 : BitVec 32 := 0#32
  let v144 : BitVec 1 := Scalar.cmpi .slt v140 c0_i32_76
  let v145 : BitVec 1 := Scalar.xori v143 v144
  let c0_i32_74 : BitVec 32 := 0#32
  let v142 : BitVec 1 := Scalar.cmpi .ne v141 c0_i32_74
  let v146 : BitVec 1 := Scalar.andi v145 v142
  let v147 : BitVec 32 := Scalar.addi v141 v140
  let v148 : BitVec 32 := Scalar.select v146 v147 v141
  let c4_i32 : BitVec 32 := 4#32
  let v149 : BitVec 32 := Scalar.muli v148 c4_i32
  let c4_i32_77 : BitVec 32 := 4#32
  let c0_i32_78 : BitVec 32 := 0#32
  let v150 : BitVec 1 := Scalar.cmpi .eq c4_i32_77 c0_i32_78
  let c1_i32_79 : BitVec 32 := 1#32
  let v151 : BitVec 32 := Scalar.select v150 c1_i32_79 c4_i32_77
  let v152 : BitVec 32 := Scalar.remsi v138 v151
  let c0_i32_81 : BitVec 32 := 0#32
  let v154 : BitVec 1 := Scalar.cmpi .slt v152 c0_i32_81
  let c0_i32_82 : BitVec 32 := 0#32
  let v155 : BitVec 1 := Scalar.cmpi .slt v151 c0_i32_82
  let v156 : BitVec 1 := Scalar.xori v154 v155
  let c0_i32_80 : BitVec 32 := 0#32
  let v153 : BitVec 1 := Scalar.cmpi .ne v152 c0_i32_80
  let v157 : BitVec 1 := Scalar.andi v156 v153
  let v158 : BitVec 32 := Scalar.addi v152 v151
  let v159 : BitVec 32 := Scalar.select v157 v158 v152
  let v160 : BitVec 32 := Scalar.addi v149 v159
  let c0_i32_135 : BitVec 32 := 0#32
  ![v177.toNat, 0, v160.toNat, 0]
def k0_off100 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_65 : BitVec 32 := 0#32
  let v123 : BitVec 1 := Scalar.cmpi .sgt v1 c0_i32_65
  let v124 : BitVec 32 := Scalar.extui v123
  let c0_i32_66 : BitVec 32 := 0#32
  let v125 : BitVec 1 := Scalar.cmpi .slt v1 c0_i32_66
  let v126 : BitVec 32 := Scalar.extui v125
  let v127 : BitVec 32 := Scalar.subi v124 v126
  let c21_i32_64 : BitVec 32 := 21#32
  let c0_i32_67 : BitVec 32 := 0#32
  let v128 : BitVec 1 := Scalar.cmpi .sgt c21_i32_64 c0_i32_67
  let v129 : BitVec 32 := Scalar.extui v128
  let c0_i32_68 : BitVec 32 := 0#32
  let v130 : BitVec 1 := Scalar.cmpi .slt c21_i32_64 c0_i32_68
  let v131 : BitVec 32 := Scalar.extui v130
  let v132 : BitVec 32 := Scalar.subi v129 v131
  let v133 : BitVec 1 := Scalar.cmpi .ne v127 v132
  let v134 : BitVec 32 := Scalar.remsi v1 c21_i32_64
  let c0_i32_69 : BitVec 32 := 0#32
  let v135 : BitVec 1 := Scalar.cmpi .ne v134 c0_i32_69
  let v136 : BitVec 1 := Scalar.andi v133 v135
  let v122 : BitVec 32 := Scalar.divsi v1 c21_i32_64
  let c1_i32_70 : BitVec 32 := 1#32
  let v137 : BitVec 32 := Scalar.subi v122 c1_i32_70
  let v138 : BitVec 32 := Scalar.select v136 v137 v122
  let c0_i32_91 : BitVec 32 := 0#32
  let v179 : BitVec 1 := Scalar.cmpi .sgt v138 c0_i32_91
  let v180 : BitVec 32 := Scalar.extui v179
  let c0_i32_92 : BitVec 32 := 0#32
  let v181 : BitVec 1 := Scalar.cmpi .slt v138 c0_i32_92
  let v182 : BitVec 32 := Scalar.extui v181
  let v183 : BitVec 32 := Scalar.subi v180 v182
  let c4_i32_90 : BitVec 32 := 4#32
  let c0_i32_93 : BitVec 32 := 0#32
  let v184 : BitVec 1 := Scalar.cmpi .sgt c4_i32_90 c0_i32_93
  let v185 : BitVec 32 := Scalar.extui v184
  let c0_i32_94 : BitVec 32 := 0#32
  let v186 : BitVec 1 := Scalar.cmpi .slt c4_i32_90 c0_i32_94
  let v187 : BitVec 32 := Scalar.extui v186
  let v188 : BitVec 32 := Scalar.subi v185 v187
  let v189 : BitVec 1 := Scalar.cmpi .ne v183 v188
  let v190 : BitVec 32 := Scalar.remsi v138 c4_i32_90
  let c0_i32_95 : BitVec 32 := 0#32
  let v191 : BitVec 1 := Scalar.cmpi .ne v190 c0_i32_95
  let v192 : BitVec 1 := Scalar.andi v189 v191
  let v178 : BitVec 32 := Scalar.divsi v138 c4_i32_90
  let c1_i32_96 : BitVec 32 := 1#32
  let v193 : BitVec 32 := Scalar.subi v178 c1_i32_96
  let v194 : BitVec 32 := Scalar.select v192 v193 v178
  let c1_i32_138 : BitVec 32 := 1#32
  let c21_i32_71 : BitVec 32 := 21#32
  let c0_i32_72 : BitVec 32 := 0#32
  let v139 : BitVec 1 := Scalar.cmpi .eq c21_i32_71 c0_i32_72
  let c1_i32_73 : BitVec 32 := 1#32
  let v140 : BitVec 32 := Scalar.select v139 c1_i32_73 c21_i32_71
  let v141 : BitVec 32 := Scalar.remsi v1 v140
  let c0_i32_75 : BitVec 32 := 0#32
  let v143 : BitVec 1 := Scalar.cmpi .slt v141 c0_i32_75
  let c0_i32_76 : BitVec 32 := 0#32
  let v144 : BitVec 1 := Scalar.cmpi .slt v140 c0_i32_76
  let v145 : BitVec 1 := Scalar.xori v143 v144
  let c0_i32_74 : BitVec 32 := 0#32
  let v142 : BitVec 1 := Scalar.cmpi .ne v141 c0_i32_74
  let v146 : BitVec 1 := Scalar.andi v145 v142
  let v147 : BitVec 32 := Scalar.addi v141 v140
  let v148 : BitVec 32 := Scalar.select v146 v147 v141
  let c4_i32 : BitVec 32 := 4#32
  let v149 : BitVec 32 := Scalar.muli v148 c4_i32
  let c4_i32_77 : BitVec 32 := 4#32
  let c0_i32_78 : BitVec 32 := 0#32
  let v150 : BitVec 1 := Scalar.cmpi .eq c4_i32_77 c0_i32_78
  let c1_i32_79 : BitVec 32 := 1#32
  let v151 : BitVec 32 := Scalar.select v150 c1_i32_79 c4_i32_77
  let v152 : BitVec 32 := Scalar.remsi v138 v151
  let c0_i32_81 : BitVec 32 := 0#32
  let v154 : BitVec 1 := Scalar.cmpi .slt v152 c0_i32_81
  let c0_i32_82 : BitVec 32 := 0#32
  let v155 : BitVec 1 := Scalar.cmpi .slt v151 c0_i32_82
  let v156 : BitVec 1 := Scalar.xori v154 v155
  let c0_i32_80 : BitVec 32 := 0#32
  let v153 : BitVec 1 := Scalar.cmpi .ne v152 c0_i32_80
  let v157 : BitVec 1 := Scalar.andi v156 v153
  let v158 : BitVec 32 := Scalar.addi v152 v151
  let v159 : BitVec 32 := Scalar.select v157 v158 v152
  let v160 : BitVec 32 := Scalar.addi v149 v159
  let c0_i32_140 : BitVec 32 := 0#32
  ![v194.toNat, 1, v160.toNat, 0]
def k0_off101 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_65 : BitVec 32 := 0#32
  let v123 : BitVec 1 := Scalar.cmpi .sgt v1 c0_i32_65
  let v124 : BitVec 32 := Scalar.extui v123
  let c0_i32_66 : BitVec 32 := 0#32
  let v125 : BitVec 1 := Scalar.cmpi .slt v1 c0_i32_66
  let v126 : BitVec 32 := Scalar.extui v125
  let v127 : BitVec 32 := Scalar.subi v124 v126
  let c21_i32_64 : BitVec 32 := 21#32
  let c0_i32_67 : BitVec 32 := 0#32
  let v128 : BitVec 1 := Scalar.cmpi .sgt c21_i32_64 c0_i32_67
  let v129 : BitVec 32 := Scalar.extui v128
  let c0_i32_68 : BitVec 32 := 0#32
  let v130 : BitVec 1 := Scalar.cmpi .slt c21_i32_64 c0_i32_68
  let v131 : BitVec 32 := Scalar.extui v130
  let v132 : BitVec 32 := Scalar.subi v129 v131
  let v133 : BitVec 1 := Scalar.cmpi .ne v127 v132
  let v134 : BitVec 32 := Scalar.remsi v1 c21_i32_64
  let c0_i32_69 : BitVec 32 := 0#32
  let v135 : BitVec 1 := Scalar.cmpi .ne v134 c0_i32_69
  let v136 : BitVec 1 := Scalar.andi v133 v135
  let v122 : BitVec 32 := Scalar.divsi v1 c21_i32_64
  let c1_i32_70 : BitVec 32 := 1#32
  let v137 : BitVec 32 := Scalar.subi v122 c1_i32_70
  let v138 : BitVec 32 := Scalar.select v136 v137 v122
  let c0_i32_98 : BitVec 32 := 0#32
  let v196 : BitVec 1 := Scalar.cmpi .sgt v138 c0_i32_98
  let v197 : BitVec 32 := Scalar.extui v196
  let c0_i32_99 : BitVec 32 := 0#32
  let v198 : BitVec 1 := Scalar.cmpi .slt v138 c0_i32_99
  let v199 : BitVec 32 := Scalar.extui v198
  let v200 : BitVec 32 := Scalar.subi v197 v199
  let c4_i32_97 : BitVec 32 := 4#32
  let c0_i32_100 : BitVec 32 := 0#32
  let v201 : BitVec 1 := Scalar.cmpi .sgt c4_i32_97 c0_i32_100
  let v202 : BitVec 32 := Scalar.extui v201
  let c0_i32_101 : BitVec 32 := 0#32
  let v203 : BitVec 1 := Scalar.cmpi .slt c4_i32_97 c0_i32_101
  let v204 : BitVec 32 := Scalar.extui v203
  let v205 : BitVec 32 := Scalar.subi v202 v204
  let v206 : BitVec 1 := Scalar.cmpi .ne v200 v205
  let v207 : BitVec 32 := Scalar.remsi v138 c4_i32_97
  let c0_i32_102 : BitVec 32 := 0#32
  let v208 : BitVec 1 := Scalar.cmpi .ne v207 c0_i32_102
  let v209 : BitVec 1 := Scalar.andi v206 v208
  let v195 : BitVec 32 := Scalar.divsi v138 c4_i32_97
  let c1_i32_103 : BitVec 32 := 1#32
  let v210 : BitVec 32 := Scalar.subi v195 c1_i32_103
  let v211 : BitVec 32 := Scalar.select v209 v210 v195
  let c2_i32_143 : BitVec 32 := 2#32
  let c21_i32_71 : BitVec 32 := 21#32
  let c0_i32_72 : BitVec 32 := 0#32
  let v139 : BitVec 1 := Scalar.cmpi .eq c21_i32_71 c0_i32_72
  let c1_i32_73 : BitVec 32 := 1#32
  let v140 : BitVec 32 := Scalar.select v139 c1_i32_73 c21_i32_71
  let v141 : BitVec 32 := Scalar.remsi v1 v140
  let c0_i32_75 : BitVec 32 := 0#32
  let v143 : BitVec 1 := Scalar.cmpi .slt v141 c0_i32_75
  let c0_i32_76 : BitVec 32 := 0#32
  let v144 : BitVec 1 := Scalar.cmpi .slt v140 c0_i32_76
  let v145 : BitVec 1 := Scalar.xori v143 v144
  let c0_i32_74 : BitVec 32 := 0#32
  let v142 : BitVec 1 := Scalar.cmpi .ne v141 c0_i32_74
  let v146 : BitVec 1 := Scalar.andi v145 v142
  let v147 : BitVec 32 := Scalar.addi v141 v140
  let v148 : BitVec 32 := Scalar.select v146 v147 v141
  let c4_i32 : BitVec 32 := 4#32
  let v149 : BitVec 32 := Scalar.muli v148 c4_i32
  let c4_i32_77 : BitVec 32 := 4#32
  let c0_i32_78 : BitVec 32 := 0#32
  let v150 : BitVec 1 := Scalar.cmpi .eq c4_i32_77 c0_i32_78
  let c1_i32_79 : BitVec 32 := 1#32
  let v151 : BitVec 32 := Scalar.select v150 c1_i32_79 c4_i32_77
  let v152 : BitVec 32 := Scalar.remsi v138 v151
  let c0_i32_81 : BitVec 32 := 0#32
  let v154 : BitVec 1 := Scalar.cmpi .slt v152 c0_i32_81
  let c0_i32_82 : BitVec 32 := 0#32
  let v155 : BitVec 1 := Scalar.cmpi .slt v151 c0_i32_82
  let v156 : BitVec 1 := Scalar.xori v154 v155
  let c0_i32_80 : BitVec 32 := 0#32
  let v153 : BitVec 1 := Scalar.cmpi .ne v152 c0_i32_80
  let v157 : BitVec 1 := Scalar.andi v156 v153
  let v158 : BitVec 32 := Scalar.addi v152 v151
  let v159 : BitVec 32 := Scalar.select v157 v158 v152
  let v160 : BitVec 32 := Scalar.addi v149 v159
  let c0_i32_145 : BitVec 32 := 0#32
  ![v211.toNat, 2, v160.toNat, 0]
def k0_off102 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_65 : BitVec 32 := 0#32
  let v123 : BitVec 1 := Scalar.cmpi .sgt v1 c0_i32_65
  let v124 : BitVec 32 := Scalar.extui v123
  let c0_i32_66 : BitVec 32 := 0#32
  let v125 : BitVec 1 := Scalar.cmpi .slt v1 c0_i32_66
  let v126 : BitVec 32 := Scalar.extui v125
  let v127 : BitVec 32 := Scalar.subi v124 v126
  let c21_i32_64 : BitVec 32 := 21#32
  let c0_i32_67 : BitVec 32 := 0#32
  let v128 : BitVec 1 := Scalar.cmpi .sgt c21_i32_64 c0_i32_67
  let v129 : BitVec 32 := Scalar.extui v128
  let c0_i32_68 : BitVec 32 := 0#32
  let v130 : BitVec 1 := Scalar.cmpi .slt c21_i32_64 c0_i32_68
  let v131 : BitVec 32 := Scalar.extui v130
  let v132 : BitVec 32 := Scalar.subi v129 v131
  let v133 : BitVec 1 := Scalar.cmpi .ne v127 v132
  let v134 : BitVec 32 := Scalar.remsi v1 c21_i32_64
  let c0_i32_69 : BitVec 32 := 0#32
  let v135 : BitVec 1 := Scalar.cmpi .ne v134 c0_i32_69
  let v136 : BitVec 1 := Scalar.andi v133 v135
  let v122 : BitVec 32 := Scalar.divsi v1 c21_i32_64
  let c1_i32_70 : BitVec 32 := 1#32
  let v137 : BitVec 32 := Scalar.subi v122 c1_i32_70
  let v138 : BitVec 32 := Scalar.select v136 v137 v122
  let c0_i32_105 : BitVec 32 := 0#32
  let v213 : BitVec 1 := Scalar.cmpi .sgt v138 c0_i32_105
  let v214 : BitVec 32 := Scalar.extui v213
  let c0_i32_106 : BitVec 32 := 0#32
  let v215 : BitVec 1 := Scalar.cmpi .slt v138 c0_i32_106
  let v216 : BitVec 32 := Scalar.extui v215
  let v217 : BitVec 32 := Scalar.subi v214 v216
  let c4_i32_104 : BitVec 32 := 4#32
  let c0_i32_107 : BitVec 32 := 0#32
  let v218 : BitVec 1 := Scalar.cmpi .sgt c4_i32_104 c0_i32_107
  let v219 : BitVec 32 := Scalar.extui v218
  let c0_i32_108 : BitVec 32 := 0#32
  let v220 : BitVec 1 := Scalar.cmpi .slt c4_i32_104 c0_i32_108
  let v221 : BitVec 32 := Scalar.extui v220
  let v222 : BitVec 32 := Scalar.subi v219 v221
  let v223 : BitVec 1 := Scalar.cmpi .ne v217 v222
  let v224 : BitVec 32 := Scalar.remsi v138 c4_i32_104
  let c0_i32_109 : BitVec 32 := 0#32
  let v225 : BitVec 1 := Scalar.cmpi .ne v224 c0_i32_109
  let v226 : BitVec 1 := Scalar.andi v223 v225
  let v212 : BitVec 32 := Scalar.divsi v138 c4_i32_104
  let c1_i32_110 : BitVec 32 := 1#32
  let v227 : BitVec 32 := Scalar.subi v212 c1_i32_110
  let v228 : BitVec 32 := Scalar.select v226 v227 v212
  let c3_i32 : BitVec 32 := 3#32
  let c21_i32_71 : BitVec 32 := 21#32
  let c0_i32_72 : BitVec 32 := 0#32
  let v139 : BitVec 1 := Scalar.cmpi .eq c21_i32_71 c0_i32_72
  let c1_i32_73 : BitVec 32 := 1#32
  let v140 : BitVec 32 := Scalar.select v139 c1_i32_73 c21_i32_71
  let v141 : BitVec 32 := Scalar.remsi v1 v140
  let c0_i32_75 : BitVec 32 := 0#32
  let v143 : BitVec 1 := Scalar.cmpi .slt v141 c0_i32_75
  let c0_i32_76 : BitVec 32 := 0#32
  let v144 : BitVec 1 := Scalar.cmpi .slt v140 c0_i32_76
  let v145 : BitVec 1 := Scalar.xori v143 v144
  let c0_i32_74 : BitVec 32 := 0#32
  let v142 : BitVec 1 := Scalar.cmpi .ne v141 c0_i32_74
  let v146 : BitVec 1 := Scalar.andi v145 v142
  let v147 : BitVec 32 := Scalar.addi v141 v140
  let v148 : BitVec 32 := Scalar.select v146 v147 v141
  let c4_i32 : BitVec 32 := 4#32
  let v149 : BitVec 32 := Scalar.muli v148 c4_i32
  let c4_i32_77 : BitVec 32 := 4#32
  let c0_i32_78 : BitVec 32 := 0#32
  let v150 : BitVec 1 := Scalar.cmpi .eq c4_i32_77 c0_i32_78
  let c1_i32_79 : BitVec 32 := 1#32
  let v151 : BitVec 32 := Scalar.select v150 c1_i32_79 c4_i32_77
  let v152 : BitVec 32 := Scalar.remsi v138 v151
  let c0_i32_81 : BitVec 32 := 0#32
  let v154 : BitVec 1 := Scalar.cmpi .slt v152 c0_i32_81
  let c0_i32_82 : BitVec 32 := 0#32
  let v155 : BitVec 1 := Scalar.cmpi .slt v151 c0_i32_82
  let v156 : BitVec 1 := Scalar.xori v154 v155
  let c0_i32_80 : BitVec 32 := 0#32
  let v153 : BitVec 1 := Scalar.cmpi .ne v152 c0_i32_80
  let v157 : BitVec 1 := Scalar.andi v156 v153
  let v158 : BitVec 32 := Scalar.addi v152 v151
  let v159 : BitVec 32 := Scalar.select v157 v158 v152
  let v160 : BitVec 32 := Scalar.addi v149 v159
  let c0_i32_149 : BitVec 32 := 0#32
  ![v228.toNat, 3, v160.toNat, 0]
def k0_off103 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_65 : BitVec 32 := 0#32
  let v123 : BitVec 1 := Scalar.cmpi .sgt v1 c0_i32_65
  let v124 : BitVec 32 := Scalar.extui v123
  let c0_i32_66 : BitVec 32 := 0#32
  let v125 : BitVec 1 := Scalar.cmpi .slt v1 c0_i32_66
  let v126 : BitVec 32 := Scalar.extui v125
  let v127 : BitVec 32 := Scalar.subi v124 v126
  let c21_i32_64 : BitVec 32 := 21#32
  let c0_i32_67 : BitVec 32 := 0#32
  let v128 : BitVec 1 := Scalar.cmpi .sgt c21_i32_64 c0_i32_67
  let v129 : BitVec 32 := Scalar.extui v128
  let c0_i32_68 : BitVec 32 := 0#32
  let v130 : BitVec 1 := Scalar.cmpi .slt c21_i32_64 c0_i32_68
  let v131 : BitVec 32 := Scalar.extui v130
  let v132 : BitVec 32 := Scalar.subi v129 v131
  let v133 : BitVec 1 := Scalar.cmpi .ne v127 v132
  let v134 : BitVec 32 := Scalar.remsi v1 c21_i32_64
  let c0_i32_69 : BitVec 32 := 0#32
  let v135 : BitVec 1 := Scalar.cmpi .ne v134 c0_i32_69
  let v136 : BitVec 1 := Scalar.andi v133 v135
  let v122 : BitVec 32 := Scalar.divsi v1 c21_i32_64
  let c1_i32_70 : BitVec 32 := 1#32
  let v137 : BitVec 32 := Scalar.subi v122 c1_i32_70
  let v138 : BitVec 32 := Scalar.select v136 v137 v122
  let c0_i32_112 : BitVec 32 := 0#32
  let v230 : BitVec 1 := Scalar.cmpi .sgt v138 c0_i32_112
  let v231 : BitVec 32 := Scalar.extui v230
  let c0_i32_113 : BitVec 32 := 0#32
  let v232 : BitVec 1 := Scalar.cmpi .slt v138 c0_i32_113
  let v233 : BitVec 32 := Scalar.extui v232
  let v234 : BitVec 32 := Scalar.subi v231 v233
  let c4_i32_111 : BitVec 32 := 4#32
  let c0_i32_114 : BitVec 32 := 0#32
  let v235 : BitVec 1 := Scalar.cmpi .sgt c4_i32_111 c0_i32_114
  let v236 : BitVec 32 := Scalar.extui v235
  let c0_i32_115 : BitVec 32 := 0#32
  let v237 : BitVec 1 := Scalar.cmpi .slt c4_i32_111 c0_i32_115
  let v238 : BitVec 32 := Scalar.extui v237
  let v239 : BitVec 32 := Scalar.subi v236 v238
  let v240 : BitVec 1 := Scalar.cmpi .ne v234 v239
  let v241 : BitVec 32 := Scalar.remsi v138 c4_i32_111
  let c0_i32_116 : BitVec 32 := 0#32
  let v242 : BitVec 1 := Scalar.cmpi .ne v241 c0_i32_116
  let v243 : BitVec 1 := Scalar.andi v240 v242
  let v229 : BitVec 32 := Scalar.divsi v138 c4_i32_111
  let c1_i32_117 : BitVec 32 := 1#32
  let v244 : BitVec 32 := Scalar.subi v229 c1_i32_117
  let v245 : BitVec 32 := Scalar.select v243 v244 v229
  let c4_i32_152 : BitVec 32 := 4#32
  let c21_i32_71 : BitVec 32 := 21#32
  let c0_i32_72 : BitVec 32 := 0#32
  let v139 : BitVec 1 := Scalar.cmpi .eq c21_i32_71 c0_i32_72
  let c1_i32_73 : BitVec 32 := 1#32
  let v140 : BitVec 32 := Scalar.select v139 c1_i32_73 c21_i32_71
  let v141 : BitVec 32 := Scalar.remsi v1 v140
  let c0_i32_75 : BitVec 32 := 0#32
  let v143 : BitVec 1 := Scalar.cmpi .slt v141 c0_i32_75
  let c0_i32_76 : BitVec 32 := 0#32
  let v144 : BitVec 1 := Scalar.cmpi .slt v140 c0_i32_76
  let v145 : BitVec 1 := Scalar.xori v143 v144
  let c0_i32_74 : BitVec 32 := 0#32
  let v142 : BitVec 1 := Scalar.cmpi .ne v141 c0_i32_74
  let v146 : BitVec 1 := Scalar.andi v145 v142
  let v147 : BitVec 32 := Scalar.addi v141 v140
  let v148 : BitVec 32 := Scalar.select v146 v147 v141
  let c4_i32 : BitVec 32 := 4#32
  let v149 : BitVec 32 := Scalar.muli v148 c4_i32
  let c4_i32_77 : BitVec 32 := 4#32
  let c0_i32_78 : BitVec 32 := 0#32
  let v150 : BitVec 1 := Scalar.cmpi .eq c4_i32_77 c0_i32_78
  let c1_i32_79 : BitVec 32 := 1#32
  let v151 : BitVec 32 := Scalar.select v150 c1_i32_79 c4_i32_77
  let v152 : BitVec 32 := Scalar.remsi v138 v151
  let c0_i32_81 : BitVec 32 := 0#32
  let v154 : BitVec 1 := Scalar.cmpi .slt v152 c0_i32_81
  let c0_i32_82 : BitVec 32 := 0#32
  let v155 : BitVec 1 := Scalar.cmpi .slt v151 c0_i32_82
  let v156 : BitVec 1 := Scalar.xori v154 v155
  let c0_i32_80 : BitVec 32 := 0#32
  let v153 : BitVec 1 := Scalar.cmpi .ne v152 c0_i32_80
  let v157 : BitVec 1 := Scalar.andi v156 v153
  let v158 : BitVec 32 := Scalar.addi v152 v151
  let v159 : BitVec 32 := Scalar.select v157 v158 v152
  let v160 : BitVec 32 := Scalar.addi v149 v159
  let c0_i32_154 : BitVec 32 := 0#32
  ![v245.toNat, 4, v160.toNat, 0]
def k0_off104 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_65 : BitVec 32 := 0#32
  let v123 : BitVec 1 := Scalar.cmpi .sgt v1 c0_i32_65
  let v124 : BitVec 32 := Scalar.extui v123
  let c0_i32_66 : BitVec 32 := 0#32
  let v125 : BitVec 1 := Scalar.cmpi .slt v1 c0_i32_66
  let v126 : BitVec 32 := Scalar.extui v125
  let v127 : BitVec 32 := Scalar.subi v124 v126
  let c21_i32_64 : BitVec 32 := 21#32
  let c0_i32_67 : BitVec 32 := 0#32
  let v128 : BitVec 1 := Scalar.cmpi .sgt c21_i32_64 c0_i32_67
  let v129 : BitVec 32 := Scalar.extui v128
  let c0_i32_68 : BitVec 32 := 0#32
  let v130 : BitVec 1 := Scalar.cmpi .slt c21_i32_64 c0_i32_68
  let v131 : BitVec 32 := Scalar.extui v130
  let v132 : BitVec 32 := Scalar.subi v129 v131
  let v133 : BitVec 1 := Scalar.cmpi .ne v127 v132
  let v134 : BitVec 32 := Scalar.remsi v1 c21_i32_64
  let c0_i32_69 : BitVec 32 := 0#32
  let v135 : BitVec 1 := Scalar.cmpi .ne v134 c0_i32_69
  let v136 : BitVec 1 := Scalar.andi v133 v135
  let v122 : BitVec 32 := Scalar.divsi v1 c21_i32_64
  let c1_i32_70 : BitVec 32 := 1#32
  let v137 : BitVec 32 := Scalar.subi v122 c1_i32_70
  let v138 : BitVec 32 := Scalar.select v136 v137 v122
  let c0_i32_119 : BitVec 32 := 0#32
  let v247 : BitVec 1 := Scalar.cmpi .sgt v138 c0_i32_119
  let v248 : BitVec 32 := Scalar.extui v247
  let c0_i32_120 : BitVec 32 := 0#32
  let v249 : BitVec 1 := Scalar.cmpi .slt v138 c0_i32_120
  let v250 : BitVec 32 := Scalar.extui v249
  let v251 : BitVec 32 := Scalar.subi v248 v250
  let c4_i32_118 : BitVec 32 := 4#32
  let c0_i32_121 : BitVec 32 := 0#32
  let v252 : BitVec 1 := Scalar.cmpi .sgt c4_i32_118 c0_i32_121
  let v253 : BitVec 32 := Scalar.extui v252
  let c0_i32_122 : BitVec 32 := 0#32
  let v254 : BitVec 1 := Scalar.cmpi .slt c4_i32_118 c0_i32_122
  let v255 : BitVec 32 := Scalar.extui v254
  let v256 : BitVec 32 := Scalar.subi v253 v255
  let v257 : BitVec 1 := Scalar.cmpi .ne v251 v256
  let v258 : BitVec 32 := Scalar.remsi v138 c4_i32_118
  let c0_i32_123 : BitVec 32 := 0#32
  let v259 : BitVec 1 := Scalar.cmpi .ne v258 c0_i32_123
  let v260 : BitVec 1 := Scalar.andi v257 v259
  let v246 : BitVec 32 := Scalar.divsi v138 c4_i32_118
  let c1_i32_124 : BitVec 32 := 1#32
  let v261 : BitVec 32 := Scalar.subi v246 c1_i32_124
  let v262 : BitVec 32 := Scalar.select v260 v261 v246
  let c5_i32 : BitVec 32 := 5#32
  let c21_i32_71 : BitVec 32 := 21#32
  let c0_i32_72 : BitVec 32 := 0#32
  let v139 : BitVec 1 := Scalar.cmpi .eq c21_i32_71 c0_i32_72
  let c1_i32_73 : BitVec 32 := 1#32
  let v140 : BitVec 32 := Scalar.select v139 c1_i32_73 c21_i32_71
  let v141 : BitVec 32 := Scalar.remsi v1 v140
  let c0_i32_75 : BitVec 32 := 0#32
  let v143 : BitVec 1 := Scalar.cmpi .slt v141 c0_i32_75
  let c0_i32_76 : BitVec 32 := 0#32
  let v144 : BitVec 1 := Scalar.cmpi .slt v140 c0_i32_76
  let v145 : BitVec 1 := Scalar.xori v143 v144
  let c0_i32_74 : BitVec 32 := 0#32
  let v142 : BitVec 1 := Scalar.cmpi .ne v141 c0_i32_74
  let v146 : BitVec 1 := Scalar.andi v145 v142
  let v147 : BitVec 32 := Scalar.addi v141 v140
  let v148 : BitVec 32 := Scalar.select v146 v147 v141
  let c4_i32 : BitVec 32 := 4#32
  let v149 : BitVec 32 := Scalar.muli v148 c4_i32
  let c4_i32_77 : BitVec 32 := 4#32
  let c0_i32_78 : BitVec 32 := 0#32
  let v150 : BitVec 1 := Scalar.cmpi .eq c4_i32_77 c0_i32_78
  let c1_i32_79 : BitVec 32 := 1#32
  let v151 : BitVec 32 := Scalar.select v150 c1_i32_79 c4_i32_77
  let v152 : BitVec 32 := Scalar.remsi v138 v151
  let c0_i32_81 : BitVec 32 := 0#32
  let v154 : BitVec 1 := Scalar.cmpi .slt v152 c0_i32_81
  let c0_i32_82 : BitVec 32 := 0#32
  let v155 : BitVec 1 := Scalar.cmpi .slt v151 c0_i32_82
  let v156 : BitVec 1 := Scalar.xori v154 v155
  let c0_i32_80 : BitVec 32 := 0#32
  let v153 : BitVec 1 := Scalar.cmpi .ne v152 c0_i32_80
  let v157 : BitVec 1 := Scalar.andi v156 v153
  let v158 : BitVec 32 := Scalar.addi v152 v151
  let v159 : BitVec 32 := Scalar.select v157 v158 v152
  let v160 : BitVec 32 := Scalar.addi v149 v159
  let c0_i32_158 : BitVec 32 := 0#32
  ![v262.toNat, 5, v160.toNat, 0]
def k0_off105 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_65 : BitVec 32 := 0#32
  let v123 : BitVec 1 := Scalar.cmpi .sgt v1 c0_i32_65
  let v124 : BitVec 32 := Scalar.extui v123
  let c0_i32_66 : BitVec 32 := 0#32
  let v125 : BitVec 1 := Scalar.cmpi .slt v1 c0_i32_66
  let v126 : BitVec 32 := Scalar.extui v125
  let v127 : BitVec 32 := Scalar.subi v124 v126
  let c21_i32_64 : BitVec 32 := 21#32
  let c0_i32_67 : BitVec 32 := 0#32
  let v128 : BitVec 1 := Scalar.cmpi .sgt c21_i32_64 c0_i32_67
  let v129 : BitVec 32 := Scalar.extui v128
  let c0_i32_68 : BitVec 32 := 0#32
  let v130 : BitVec 1 := Scalar.cmpi .slt c21_i32_64 c0_i32_68
  let v131 : BitVec 32 := Scalar.extui v130
  let v132 : BitVec 32 := Scalar.subi v129 v131
  let v133 : BitVec 1 := Scalar.cmpi .ne v127 v132
  let v134 : BitVec 32 := Scalar.remsi v1 c21_i32_64
  let c0_i32_69 : BitVec 32 := 0#32
  let v135 : BitVec 1 := Scalar.cmpi .ne v134 c0_i32_69
  let v136 : BitVec 1 := Scalar.andi v133 v135
  let v122 : BitVec 32 := Scalar.divsi v1 c21_i32_64
  let c1_i32_70 : BitVec 32 := 1#32
  let v137 : BitVec 32 := Scalar.subi v122 c1_i32_70
  let v138 : BitVec 32 := Scalar.select v136 v137 v122
  let c0_i32_126 : BitVec 32 := 0#32
  let v264 : BitVec 1 := Scalar.cmpi .sgt v138 c0_i32_126
  let v265 : BitVec 32 := Scalar.extui v264
  let c0_i32_127 : BitVec 32 := 0#32
  let v266 : BitVec 1 := Scalar.cmpi .slt v138 c0_i32_127
  let v267 : BitVec 32 := Scalar.extui v266
  let v268 : BitVec 32 := Scalar.subi v265 v267
  let c4_i32_125 : BitVec 32 := 4#32
  let c0_i32_128 : BitVec 32 := 0#32
  let v269 : BitVec 1 := Scalar.cmpi .sgt c4_i32_125 c0_i32_128
  let v270 : BitVec 32 := Scalar.extui v269
  let c0_i32_129 : BitVec 32 := 0#32
  let v271 : BitVec 1 := Scalar.cmpi .slt c4_i32_125 c0_i32_129
  let v272 : BitVec 32 := Scalar.extui v271
  let v273 : BitVec 32 := Scalar.subi v270 v272
  let v274 : BitVec 1 := Scalar.cmpi .ne v268 v273
  let v275 : BitVec 32 := Scalar.remsi v138 c4_i32_125
  let c0_i32_130 : BitVec 32 := 0#32
  let v276 : BitVec 1 := Scalar.cmpi .ne v275 c0_i32_130
  let v277 : BitVec 1 := Scalar.andi v274 v276
  let v263 : BitVec 32 := Scalar.divsi v138 c4_i32_125
  let c1_i32_131 : BitVec 32 := 1#32
  let v278 : BitVec 32 := Scalar.subi v263 c1_i32_131
  let v279 : BitVec 32 := Scalar.select v277 v278 v263
  let c6_i32 : BitVec 32 := 6#32
  let c21_i32_71 : BitVec 32 := 21#32
  let c0_i32_72 : BitVec 32 := 0#32
  let v139 : BitVec 1 := Scalar.cmpi .eq c21_i32_71 c0_i32_72
  let c1_i32_73 : BitVec 32 := 1#32
  let v140 : BitVec 32 := Scalar.select v139 c1_i32_73 c21_i32_71
  let v141 : BitVec 32 := Scalar.remsi v1 v140
  let c0_i32_75 : BitVec 32 := 0#32
  let v143 : BitVec 1 := Scalar.cmpi .slt v141 c0_i32_75
  let c0_i32_76 : BitVec 32 := 0#32
  let v144 : BitVec 1 := Scalar.cmpi .slt v140 c0_i32_76
  let v145 : BitVec 1 := Scalar.xori v143 v144
  let c0_i32_74 : BitVec 32 := 0#32
  let v142 : BitVec 1 := Scalar.cmpi .ne v141 c0_i32_74
  let v146 : BitVec 1 := Scalar.andi v145 v142
  let v147 : BitVec 32 := Scalar.addi v141 v140
  let v148 : BitVec 32 := Scalar.select v146 v147 v141
  let c4_i32 : BitVec 32 := 4#32
  let v149 : BitVec 32 := Scalar.muli v148 c4_i32
  let c4_i32_77 : BitVec 32 := 4#32
  let c0_i32_78 : BitVec 32 := 0#32
  let v150 : BitVec 1 := Scalar.cmpi .eq c4_i32_77 c0_i32_78
  let c1_i32_79 : BitVec 32 := 1#32
  let v151 : BitVec 32 := Scalar.select v150 c1_i32_79 c4_i32_77
  let v152 : BitVec 32 := Scalar.remsi v138 v151
  let c0_i32_81 : BitVec 32 := 0#32
  let v154 : BitVec 1 := Scalar.cmpi .slt v152 c0_i32_81
  let c0_i32_82 : BitVec 32 := 0#32
  let v155 : BitVec 1 := Scalar.cmpi .slt v151 c0_i32_82
  let v156 : BitVec 1 := Scalar.xori v154 v155
  let c0_i32_80 : BitVec 32 := 0#32
  let v153 : BitVec 1 := Scalar.cmpi .ne v152 c0_i32_80
  let v157 : BitVec 1 := Scalar.andi v156 v153
  let v158 : BitVec 32 := Scalar.addi v152 v151
  let v159 : BitVec 32 := Scalar.select v157 v158 v152
  let v160 : BitVec 32 := Scalar.addi v149 v159
  let c0_i32_162 : BitVec 32 := 0#32
  ![v279.toNat, 6, v160.toNat, 0]
def k0_cond13 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v550 : BitVec 1 := Scalar.cmpi .eq v1 c31_i32
  let v551 : BitVec 32 := Scalar.extui v550
  let c0_i32_276 : BitVec 32 := 0#32
  let v552 : BitVec 1 := Scalar.cmpi .ne v551 c0_i32_276
  v552

@[reducible] def k0_t8_loop : Scf.Loop 32 :=
  let c0_i32_277 : BitVec 32 := 0#32
  let c96_i32_278 : BitVec 32 := 96#32
  let v555 : BitVec 32 := Scalar.addi c0_i32_277 c96_i32_278
  let c1_i32_279 : BitVec 32 := 1#32
  ⟨c0_i32_277, v555, c1_i32_279⟩
def k0_off106 (k0_t8 : Fin k0_t8_loop.trips) : Fin 1 → Nat :=
  let c0_i32_288 : BitVec 32 := 0#32
  let c0_i32_277 : BitVec 32 := 0#32
  let c1_i32_279 : BitVec 32 := 1#32
  let arg14 : BitVec 32 := Scf.iv c0_i32_277 c1_i32_279 k0_t8
  let c16_i32 : BitVec 32 := 16#32
  let v556 : BitVec 32 := Scalar.muli arg14 c16_i32
  let v557 : BitVec 32 := Scalar.addi c0_i32_288 v556
  let v558 : Index := Scalar.indexCast v557
  ![v558.toNat]

def k0_chk29 (i : grid0.Coords) (v561 : IVec S16 32) : Prop :=
  (∀ (k0_h13 : k0_cond13 i = 1#1), ∀ a x, ((![v561] : Fin 1 → IVec S16 32) a x).toNat < S45056.size a)
theorem k0_idx29_inb : ∀ (i : grid0.Coords) (v561 : IVec S16 32) (k0_hw29 : k0_chk29 i v561), ∀ (k0_h13 : k0_cond13 i = 1#1), ∀ a x, ((![v561] : Fin 1 → IVec S16 32) a x).toNat < S45056.size a := fun i v561 k0_hw29 k0_h13 => k0_hw29 k0_h13
def k0_off107 (k0_t8 : Fin k0_t8_loop.trips) : Fin 1 → Nat :=
  let c0_i32_290 : BitVec 32 := 0#32
  let c0_i32_288 : BitVec 32 := 0#32
  let c0_i32_277 : BitVec 32 := 0#32
  let c1_i32_279 : BitVec 32 := 1#32
  let arg14 : BitVec 32 := Scf.iv c0_i32_277 c1_i32_279 k0_t8
  let c16_i32 : BitVec 32 := 16#32
  let v556 : BitVec 32 := Scalar.muli arg14 c16_i32
  let v557 : BitVec 32 := Scalar.addi c0_i32_288 v556
  let v563 : BitVec 32 := Scalar.addi c0_i32_290 v557
  let v564 : Index := Scalar.indexCast v563
  ![v564.toNat]

def k0_chk30 (i : grid0.Coords) (v567 : IVec S16 32) : Prop :=
  (∀ (k0_h13 : k0_cond13 i = 1#1), ∀ a x, ((![v567] : Fin 1 → IVec S16 32) a x).toNat < S45056.size a)
theorem k0_idx30_inb : ∀ (i : grid0.Coords) (v567 : IVec S16 32) (k0_hw30 : k0_chk30 i v567), ∀ (k0_h13 : k0_cond13 i = 1#1), ∀ a x, ((![v567] : Fin 1 → IVec S16 32) a x).toNat < S45056.size a := fun i v567 k0_hw30 k0_h13 => k0_hw30 k0_h13
def k0_off108 (k0_t8 : Fin k0_t8_loop.trips) : Fin 1 → Nat :=
  let c1536_i32_292 : BitVec 32 := 1536#32
  let c0_i32_288 : BitVec 32 := 0#32
  let c0_i32_277 : BitVec 32 := 0#32
  let c1_i32_279 : BitVec 32 := 1#32
  let arg14 : BitVec 32 := Scf.iv c0_i32_277 c1_i32_279 k0_t8
  let c16_i32 : BitVec 32 := 16#32
  let v556 : BitVec 32 := Scalar.muli arg14 c16_i32
  let v557 : BitVec 32 := Scalar.addi c0_i32_288 v556
  let v569 : BitVec 32 := Scalar.addi c1536_i32_292 v557
  let v570 : Index := Scalar.indexCast v569
  ![v570.toNat]

def k0_chk31 (i : grid0.Coords) (v573 : IVec S16 32) : Prop :=
  (∀ (k0_h13 : k0_cond13 i = 1#1), ∀ a x, ((![v573] : Fin 1 → IVec S16 32) a x).toNat < S45056.size a)
theorem k0_idx31_inb : ∀ (i : grid0.Coords) (v573 : IVec S16 32) (k0_hw31 : k0_chk31 i v573), ∀ (k0_h13 : k0_cond13 i = 1#1), ∀ a x, ((![v573] : Fin 1 → IVec S16 32) a x).toNat < S45056.size a := fun i v573 k0_hw31 k0_h13 => k0_hw31 k0_h13
def k0_off109 (k0_t8 : Fin k0_t8_loop.trips) : Fin 1 → Nat :=
  let c3072_i32_294 : BitVec 32 := 3072#32
  let c0_i32_288 : BitVec 32 := 0#32
  let c0_i32_277 : BitVec 32 := 0#32
  let c1_i32_279 : BitVec 32 := 1#32
  let arg14 : BitVec 32 := Scf.iv c0_i32_277 c1_i32_279 k0_t8
  let c16_i32 : BitVec 32 := 16#32
  let v556 : BitVec 32 := Scalar.muli arg14 c16_i32
  let v557 : BitVec 32 := Scalar.addi c0_i32_288 v556
  let v575 : BitVec 32 := Scalar.addi c3072_i32_294 v557
  let v576 : Index := Scalar.indexCast v575
  ![v576.toNat]

def k0_chk32 (i : grid0.Coords) (v579 : IVec S16 32) : Prop :=
  (∀ (k0_h13 : k0_cond13 i = 1#1), ∀ a x, ((![v579] : Fin 1 → IVec S16 32) a x).toNat < S45056.size a)
theorem k0_idx32_inb : ∀ (i : grid0.Coords) (v579 : IVec S16 32) (k0_hw32 : k0_chk32 i v579), ∀ (k0_h13 : k0_cond13 i = 1#1), ∀ a x, ((![v579] : Fin 1 → IVec S16 32) a x).toNat < S45056.size a := fun i v579 k0_hw32 k0_h13 => k0_hw32 k0_h13
def k0_off110 (k0_t8 : Fin k0_t8_loop.trips) : Fin 1 → Nat :=
  let c4608_i32_296 : BitVec 32 := 4608#32
  let c0_i32_288 : BitVec 32 := 0#32
  let c0_i32_277 : BitVec 32 := 0#32
  let c1_i32_279 : BitVec 32 := 1#32
  let arg14 : BitVec 32 := Scf.iv c0_i32_277 c1_i32_279 k0_t8
  let c16_i32 : BitVec 32 := 16#32
  let v556 : BitVec 32 := Scalar.muli arg14 c16_i32
  let v557 : BitVec 32 := Scalar.addi c0_i32_288 v556
  let v581 : BitVec 32 := Scalar.addi c4608_i32_296 v557
  let v582 : Index := Scalar.indexCast v581
  ![v582.toNat]

def k0_chk33 (i : grid0.Coords) (v585 : IVec S16 32) : Prop :=
  (∀ (k0_h13 : k0_cond13 i = 1#1), ∀ a x, ((![v585] : Fin 1 → IVec S16 32) a x).toNat < S45056.size a)
theorem k0_idx33_inb : ∀ (i : grid0.Coords) (v585 : IVec S16 32) (k0_hw33 : k0_chk33 i v585), ∀ (k0_h13 : k0_cond13 i = 1#1), ∀ a x, ((![v585] : Fin 1 → IVec S16 32) a x).toNat < S45056.size a := fun i v585 k0_hw33 k0_h13 => k0_hw33 k0_h13
def k0_off111 (k0_t8 : Fin k0_t8_loop.trips) : Fin 1 → Nat :=
  let c6144_i32_298 : BitVec 32 := 6144#32
  let c0_i32_288 : BitVec 32 := 0#32
  let c0_i32_277 : BitVec 32 := 0#32
  let c1_i32_279 : BitVec 32 := 1#32
  let arg14 : BitVec 32 := Scf.iv c0_i32_277 c1_i32_279 k0_t8
  let c16_i32 : BitVec 32 := 16#32
  let v556 : BitVec 32 := Scalar.muli arg14 c16_i32
  let v557 : BitVec 32 := Scalar.addi c0_i32_288 v556
  let v587 : BitVec 32 := Scalar.addi c6144_i32_298 v557
  let v588 : Index := Scalar.indexCast v587
  ![v588.toNat]

def k0_chk34 (i : grid0.Coords) (v591 : IVec S16 32) : Prop :=
  (∀ (k0_h13 : k0_cond13 i = 1#1), ∀ a x, ((![v591] : Fin 1 → IVec S16 32) a x).toNat < S45056.size a)
theorem k0_idx34_inb : ∀ (i : grid0.Coords) (v591 : IVec S16 32) (k0_hw34 : k0_chk34 i v591), ∀ (k0_h13 : k0_cond13 i = 1#1), ∀ a x, ((![v591] : Fin 1 → IVec S16 32) a x).toNat < S45056.size a := fun i v591 k0_hw34 k0_h13 => k0_hw34 k0_h13
def k0_off112 (k0_t8 : Fin k0_t8_loop.trips) : Fin 1 → Nat :=
  let c7680_i32_300 : BitVec 32 := 7680#32
  let c0_i32_288 : BitVec 32 := 0#32
  let c0_i32_277 : BitVec 32 := 0#32
  let c1_i32_279 : BitVec 32 := 1#32
  let arg14 : BitVec 32 := Scf.iv c0_i32_277 c1_i32_279 k0_t8
  let c16_i32 : BitVec 32 := 16#32
  let v556 : BitVec 32 := Scalar.muli arg14 c16_i32
  let v557 : BitVec 32 := Scalar.addi c0_i32_288 v556
  let v593 : BitVec 32 := Scalar.addi c7680_i32_300 v557
  let v594 : Index := Scalar.indexCast v593
  ![v594.toNat]

def k0_chk35 (i : grid0.Coords) (v597 : IVec S16 32) : Prop :=
  (∀ (k0_h13 : k0_cond13 i = 1#1), ∀ a x, ((![v597] : Fin 1 → IVec S16 32) a x).toNat < S45056.size a)
theorem k0_idx35_inb : ∀ (i : grid0.Coords) (v597 : IVec S16 32) (k0_hw35 : k0_chk35 i v597), ∀ (k0_h13 : k0_cond13 i = 1#1), ∀ a x, ((![v597] : Fin 1 → IVec S16 32) a x).toNat < S45056.size a := fun i v597 k0_hw35 k0_h13 => k0_hw35 k0_h13
def k0_off113 (k0_t8 : Fin k0_t8_loop.trips) : Fin 1 → Nat :=
  let c9216_i32_302 : BitVec 32 := 9216#32
  let c0_i32_288 : BitVec 32 := 0#32
  let c0_i32_277 : BitVec 32 := 0#32
  let c1_i32_279 : BitVec 32 := 1#32
  let arg14 : BitVec 32 := Scf.iv c0_i32_277 c1_i32_279 k0_t8
  let c16_i32 : BitVec 32 := 16#32
  let v556 : BitVec 32 := Scalar.muli arg14 c16_i32
  let v557 : BitVec 32 := Scalar.addi c0_i32_288 v556
  let v599 : BitVec 32 := Scalar.addi c9216_i32_302 v557
  let v600 : Index := Scalar.indexCast v599
  ![v600.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== GatherRef.lean ====
abbrev S84x21x45000 : Shape := ⟨3, ![84, 21, 45000]⟩
abbrev S45000 : Shape := ⟨1, ![45000]⟩
abbrev S1536 : Shape := ⟨1, ![1536]⟩
abbrev S1536x1 : Shape := ⟨2, ![1536, 1]⟩
abbrev S_ : Shape := ⟨0, ![]⟩
abbrev S7 : Shape := ⟨1, ![7]⟩
abbrev S1x7 : Shape := ⟨2, ![1, 7]⟩
abbrev S1536x7 : Shape := ⟨2, ![1536, 7]⟩
abbrev S1536x7x1 : Shape := ⟨3, ![1536, 7, 1]⟩
abbrev S84x21x1536x7 : Shape := ⟨4, ![84, 21, 1536, 7]⟩
abbrev S21x4x21x1536x7 : Shape := ⟨5, ![21, 4, 21, 1536, 7]⟩
abbrev S21x7x21x4x1536 : Shape := ⟨5, ![21, 7, 21, 4, 1536]⟩
abbrev S21x7x84x1536 : Shape := ⟨4, ![21, 7, 84, 1536]⟩
abbrev S7x1536 : Shape := ⟨2, ![7, 1536]⟩
abbrev S8x1536 : Shape := ⟨2, ![8, 1536]⟩

abbrev nBuf : Space → Nat
  | .hbm => 59
  | .vmem => 0
  | .smem => 0
  | _ => 0

abbrev bufTy : (tb : Table) → Fin (tcTables nBuf tb) → BufTy
  | .hbm, ⟨0, _⟩ => ⟨S84x21x45000, .i32⟩
  | .hbm, ⟨1, _⟩ => ⟨S45000, .i32⟩
  | .hbm, ⟨2, _⟩ => ⟨S1536, .i32⟩
  | .hbm, ⟨3, _⟩ => ⟨S1536x1, .i32⟩
  | .hbm, ⟨4, _⟩ => ⟨S_, .i32⟩
  | .hbm, ⟨5, _⟩ => ⟨S1536x1, .i32⟩
  | .hbm, ⟨6, _⟩ => ⟨S1536x1, .i32⟩
  | .hbm, ⟨7, _⟩ => ⟨S7, .i32⟩
  | .hbm, ⟨8, _⟩ => ⟨S1x7, .i32⟩
  | .hbm, ⟨9, _⟩ => ⟨S1536x7, .i32⟩
  | .hbm, ⟨10, _⟩ => ⟨S1536x7, .i32⟩
  | .hbm, ⟨11, _⟩ => ⟨S1536x7, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S1536x7, .i32⟩
  | .hbm, ⟨19, _⟩ => ⟨S1536x7, .i32⟩
  | .hbm, ⟨20, _⟩ => ⟨S_, .i32⟩
  | .hbm, ⟨21, _⟩ => ⟨S1536x7, .i32⟩
  | .hbm, ⟨22, _⟩ => ⟨S1536x7, .i1⟩
  | .hbm, ⟨23, _⟩ => ⟨S_, .i32⟩
  | .hbm, ⟨24, _⟩ => ⟨S1536x7, .i32⟩
  | .hbm, ⟨25, _⟩ => ⟨S1536x7, .i1⟩
  | .hbm, ⟨26, _⟩ => ⟨S_, .i32⟩
  | .hbm, ⟨27, _⟩ => ⟨S_, .i1⟩
  | .hbm, ⟨28, _⟩ => ⟨S1536x7, .i1⟩
  | .hbm, ⟨29, _⟩ => ⟨S1536x7, .i1⟩
  | .hbm, ⟨30, _⟩ => ⟨S1536x7, .i1⟩
  | .hbm, ⟨31, _⟩ => ⟨S1536x7, .i32⟩
  | .hbm, ⟨32, _⟩ => ⟨S1536x7, .i32⟩
  | .hbm, ⟨33, _⟩ => ⟨S1536x7, .i32⟩
  | .hbm, ⟨34, _⟩ => ⟨S_, .i32⟩
  | .hbm, ⟨35, _⟩ => ⟨S1536x7, .i32⟩
  | .hbm, ⟨36, _⟩ => ⟨S1536x7, .i1⟩
  | .hbm, ⟨37, _⟩ => ⟨S_, .i32⟩
  | .hbm, ⟨38, _⟩ => ⟨S1536x7, .i32⟩
  | .hbm, ⟨39, _⟩ => ⟨S1536x7, .i32⟩
  | .hbm, ⟨40, _⟩ => ⟨S1536x7, .i32⟩
  | .hbm, ⟨41, _⟩ => ⟨S1536x7x1, .i32⟩
  | .hbm, ⟨42, _⟩ => ⟨S84x21x1536x7, .i32⟩
  | .hbm, ⟨43, _⟩ => ⟨S21x4x21x1536x7, .i32⟩
  | .hbm, ⟨44, _⟩ => ⟨S21x7x21x4x1536, .i32⟩
  | .hbm, ⟨45, _⟩ => ⟨S21x7x84x1536, .i32⟩
  | .hbm, ⟨46, _⟩ => ⟨S_, .i32⟩
  | .hbm, ⟨47, _⟩ => ⟨S1536x7, .i32⟩
  | .hbm, ⟨48, _⟩ => ⟨S1536x7, .i1⟩
  | .hbm, ⟨49, _⟩ => ⟨S_, .i32⟩
  | .hbm, ⟨50, _⟩ => ⟨S1536x7, .i32⟩
  | .hbm, ⟨51, _⟩ => ⟨S1536x7, .i32⟩
  | .hbm, ⟨52, _⟩ => ⟨S1536x7, .i32⟩
  | .hbm, ⟨53, _⟩ => ⟨S1536x7x1, .i32⟩
  | .hbm, ⟨54, _⟩ => ⟨S1536x7, .i32⟩
  | .hbm, ⟨55, _⟩ => ⟨S7x1536, .i32⟩
  | .hbm, ⟨56, _⟩ => ⟨S_, .i32⟩
  | .hbm, ⟨57, _⟩ => ⟨S_, .i32⟩
  | .hbm, ⟨58, _⟩ => ⟨S8x1536, .i32⟩
  | _, _ => ⟨S84x21x45000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_1 : Ref sig .tc := ⟨.hbm, 20, rfl⟩
abbrev main_call0_v5 : Ref sig .tc := ⟨.hbm, 21, rfl⟩
abbrev main_call0_v6 : Ref sig .tc := ⟨.hbm, 22, rfl⟩
abbrev main_call0_c_2 : Ref sig .tc := ⟨.hbm, 23, rfl⟩
abbrev main_call0_v7 : Ref sig .tc := ⟨.hbm, 24, rfl⟩
abbrev main_call0_v8 : Ref sig .tc := ⟨.hbm, 25, rfl⟩
abbrev main_call0_c_3 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_v8 : Ref sig .tc := ⟨.hbm, 33, rfl⟩
abbrev main_c_1 : Ref sig .tc := ⟨.hbm, 34, rfl⟩
abbrev main_v9 : Ref sig .tc := ⟨.hbm, 35, rfl⟩
abbrev main_v10 : Ref sig .tc := ⟨.hbm, 36, rfl⟩
abbrev main_c_2 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_c_3 : Ref sig .tc := ⟨.hbm, 46, rfl⟩
abbrev main_v19 : Ref sig .tc := ⟨.hbm, 47, rfl⟩
abbrev main_v20 : Ref sig .tc := ⟨.hbm, 48, rfl⟩
abbrev main_c_4 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_c_5 : Ref sig .tc := ⟨.hbm, 56, rfl⟩
abbrev main_call1_v0 : Ref sig .tc := ⟨.hbm, 57, rfl⟩
abbrev main_v27 : Ref sig .tc := ⟨.hbm, 58, rfl⟩

abbrev nD : Nat := 1
abbrev τ : Topo := Topo.v7x

variable {F : FTy → Type} [FloatOps F]
-- ==== Proof.KernelRuns.lean ====
/- What every point of the kernel's grid shares: the two branch conditions of the body in closed form, where an output
   window is idle, the staging buffers as the pipeline passes them, and the kernel's five scratch buffers. -/
module

public import proofs.«01_k».proof.Proof.Gen.Kernel.Frame
public import proofs.«01_k».proof.Proof.Gen.Kernel.Loops

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 21 = 0 :=
  (fun t => by
    have ht : t.val < 21 := Nat.lt_of_lt_of_eq t.isLt N_0
    have e0 : (grid0.coords t 0).val = t.val / 1 % 21 := Pipeline.Grid.coords_val t 0 (by decide) rfl
    simp only [cond0_0, e0]
    word_cmp
   : ∀ t : Fin grid0.N, cond0_0 (grid0.coords t) ↔ t.val % 21 = 0)

/-- The condition of the body's `scf.if` 1 (`k0_h2`), from the grid coordinates (the skeleton's scalar
    chain substituted). -/
abbrev cond0_1 (i : grid0.Coords) : Prop := k0_cond2 i = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- At the points of case A the printed configuration (`Cfg.idle`) calls output 5 idle: the case stores nothing into it. -/
theorem idleAt0_5_A : ∀ t : Fin cfg0.N, cond0_0 (grid0.coords t) → ¬cond0_1 (grid0.coords t) → cfg0.idle 5 (grid0.coords t) = true := by decide +kernel
/-- At the points of case A the pipeline does not write output 5's block back. -/
theorem noFlush0_5_A : ∀ t : Fin cfg0.N, cond0_0 (grid0.coords t) → ¬cond0_1 (grid0.coords t) → (cfg0.win 5).flush t = false := by decide +kernel
/-- At the points of case B the printed configuration (`Cfg.idle`) calls output 5 live: the case stores into it. -/
theorem liveAt0_5_B : ∀ t : Fin cfg0.N, ¬cond0_0 (grid0.coords t) → cond0_1 (grid0.coords t) → cfg0.idle 5 (grid0.coords t) = false := by decide +kernel
/-- At the points of case A the printed configuration (`Cfg.idle`) calls output 6 idle: the case stores nothing into it. -/
theorem idleAt0_6_A : ∀ t : Fin cfg0.N, cond0_0 (grid0.coords t) → ¬cond0_1 (grid0.coords t) → cfg0.idle 6 (grid0.coords t) = true := by decide +kernel
/-- At the points of case A the pipeline does not write output 6's block back. -/
theorem noFlush0_6_A : ∀ t : Fin cfg0.N, cond0_0 (grid0.coords t) → ¬cond0_1 (grid0.coords t) → (cfg0.win 6).flush t = false := by decide +kernel
/-- At the points of case B the printed configuration (`Cfg.idle`) calls output 6 live: the case stores into it. -/
theorem liveAt0_6_B : ∀ t : Fin cfg0.N, ¬cond0_0 (grid0.coords t) → cond0_1 (grid0.coords t) → cfg0.idle 6 (grid0.coords t) = false := by decide +kernel

/-! ## The kernel body on any staging memrefs: a subtype the run finds -/

/-- One staging buffer of output window 5, through which its contents are stated (`View.read_writes_of_cover`: the
    choice does not matter). -/
abbrev VO0_5 : View sig .tc .vmem S1x20x96x1536 .bf16 := (Memref.whole cc0_stg5_0 : Memref sig .tc .vmem S1x20x96x1536 .bf16).view
/-- One staging buffer of output window 6, through which its contents are stated (`View.read_writes_of_cover`: the
    choice does not matter). -/
abbrev VO0_6 : View sig .tc .vmem S1x20x96x1536 .bf16 := (Memref.whole cc0_stg6_0 : Memref sig .tc .vmem S1x20x96x1536 .bf16).view
/-- Each window's current staging memref at point `t`, spelled as the pipeline passes it (`bodyAt0`), and its wholeness. -/
abbrev ms0_0 (t : Fin cfg0.N) : Memref sig .tc .vmem S1x7x84x1536 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x1536 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x96x256 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S96x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S96x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x20x96x1536 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x20x96x1536 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S2x2688x1536 .bf16 := Memref.whole cc0_scratch0
abbrev scM0_1 : Memref sig .tc .vmem S8x1536 .i32 := Memref.whole cc0_scratch1
abbrev scM0_2 : Memref sig .tc .vmem S2x96x256 .bf16 := Memref.whole cc0_scratch2
abbrev scM0_3 : Memref sig .tc .vmem S96x128 .f32 := Memref.whole cc0_scratch3
abbrev scM0_4 : Memref sig .tc .vmem S96x128 .f32 := Memref.whole cc0_scratch4
/-- The scratch `arg10` the kernel carries between points, as a view: what it holds is stated through it. -/
abbrev VS0_2 : View sig .tc .vmem S2x96x256 .bf16 := scM0_2.view
/-- The scratch `arg11` the kernel carries between points, as a view: what it holds is stated through it. -/
abbrev VS0_3 : View sig .tc .vmem S96x128 .f32 := scM0_3.view
/-- The scratch `arg12` the kernel carries between points, as a view: what it holds is stated through it. -/
abbrev VS0_4 : View sig .tc .vmem S96x128 .f32 := scM0_4.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Hand

end
-- ==== Proof.KernelRunA.lean ====
module

public import proofs.«01_k».proof.Proof.KernelRuns

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- THE FIRST POINT, run: on whole buffers — the inputs' at their contents, the outputs' and the pixel scratch at known
    contents, the other scratch at anything — the body runs to its end with the inputs and the outputs as they were, the
    pixel scratch with the pieces `L8` written over what it held, and each of the other scratch buffers with its pieces.
    The pieces are what the run finds. -/
def runA (c : Dev nD) (i : grid0.Coords) (arg1 : Memref sig .tc .vmem S1x7x84x1536 .i32) (harg1 : arg1.IsWhole) (arg2 : Memref sig .tc .vmem S8x1536 .i32) (harg2 : arg2.IsWhole) (arg3 : Memref sig .tc .vmem S2x96x256 .fp8e4m3) (harg3 : arg3.IsWhole) (arg4 : Memref sig .tc .vmem S96x1 .f32) (harg4 : arg4.IsWhole) (arg5 : Memref sig .tc .vmem S96x1 .f32) (harg5 : arg5.IsWhole) (arg6 : Memref sig .tc .vmem S1x20x96x1536 .bf16) (harg6 : arg6.IsWhole) (arg7 : Memref sig .tc .vmem S1x20x96x1536 .bf16) (harg7 : arg7.IsWhole) (arg8 : Memref sig .tc .vmem S2x2688x1536 .bf16) (harg8 : arg8.IsWhole) (arg9 : Memref sig .tc .vmem S8x1536 .i32) (harg9 : arg9.IsWhole) (arg10 : Memref sig .tc .vmem S2x96x256 .bf16) (harg10 : arg10.IsWhole) (arg11 : Memref sig .tc .vmem S96x128 .f32) (harg11 : arg11.IsWhole) (arg12 : Memref sig .tc .vmem S96x128 .f32) (harg12 : arg12.IsWhole) (hc0 : cond0_0 i) (hc1 : ¬cond0_1 i)
    (x1 : Vec F S1x7x84x1536 .i32) (x2 : Vec F S8x1536 .i32) (x3 : Vec F S2x96x256 .fp8e4m3) (x4 : Vec F S96x1 .f32) (x5 : Vec F S96x1 .f32) :
    Σ' (L9 : List (View.Piece (Elt F) S8x1536 .i32)), Σ' (L10 : List (View.Piece (Elt F) S2x96x256 .bf16)), Σ' (L11 : List (View.Piece (Elt F) S96x128 .f32)), Σ' (L12 : List (View.Piece (Elt F) S96x128 .f32)), { L8 : List (View.Piece (Elt F) S2x2688x1536 .bf16) //
      ∀ (x6 : Vec F S1x20x96x1536 .bf16) (x7 : Vec F S1x20x96x1536 .bf16) (x8 : Vec F S2x2688x1536 .bf16) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (arg8.view.loc (c : Thread nD τ) ↦[arg8.view.set]{fullShare} arg8.view.writes (Elt F) (harg8.unread x8) L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12)) -∗ K ⟨⟩))
          ⊢ wp frame (wpE (defs₀ (F := F)) Variants.none c none) E (cc0_conv1 i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, fun x6 x7 x8 E K => ?run⟩
  case run =>
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec_parts (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexact H8
    isplitl [H9]; · iexists _; iexact H9
    isplitl [H10]; · iexists _; iexact H10
    isplitl [H11]; · iexists _; iexact H11
    iexists _; iexact H12

end Cert.Kernel.Hand

end
-- ==== Proof.KernelRunB.lean ====
module

public import proofs.«01_k».proof.Proof.KernelRuns

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- A POINT AFTER THE FIRST, run: on whole buffers — the inputs' at their contents, the outputs' at anything, the scratch
    at known contents — the body runs to its end with the inputs and the four small scratch buffers as they were, the pixel
    scratch with the pieces `L8` written over what it held, and each output with its pieces. The pieces are what the run
    finds. -/
def runB (c : Dev nD) (i : grid0.Coords) (arg1 : Memref sig .tc .vmem S1x7x84x1536 .i32) (harg1 : arg1.IsWhole) (arg2 : Memref sig .tc .vmem S8x1536 .i32) (harg2 : arg2.IsWhole) (arg3 : Memref sig .tc .vmem S2x96x256 .fp8e4m3) (harg3 : arg3.IsWhole) (arg4 : Memref sig .tc .vmem S96x1 .f32) (harg4 : arg4.IsWhole) (arg5 : Memref sig .tc .vmem S96x1 .f32) (harg5 : arg5.IsWhole) (arg6 : Memref sig .tc .vmem S1x20x96x1536 .bf16) (harg6 : arg6.IsWhole) (arg7 : Memref sig .tc .vmem S1x20x96x1536 .bf16) (harg7 : arg7.IsWhole) (arg8 : Memref sig .tc .vmem S2x2688x1536 .bf16) (harg8 : arg8.IsWhole) (arg9 : Memref sig .tc .vmem S8x1536 .i32) (harg9 : arg9.IsWhole) (arg10 : Memref sig .tc .vmem S2x96x256 .bf16) (harg10 : arg10.IsWhole) (arg11 : Memref sig .tc .vmem S96x128 .f32) (harg11 : arg11.IsWhole) (arg12 : Memref sig .tc .vmem S96x128 .f32) (harg12 : arg12.IsWhole) (hc0 : ¬cond0_0 i) (hc1 : cond0_1 i)
    (x1 : Vec F S1x7x84x1536 .i32) (x2 : Vec F S8x1536 .i32) (x3 : Vec F S2x96x256 .fp8e4m3) (x4 : Vec F S96x1 .f32) (x5 : Vec F S96x1 .f32) (x8 : Vec F S2x2688x1536 .bf16) (x9 : Vec F S8x1536 .i32) (x10 : Vec F S2x96x256 .bf16) (x11 : Vec F S96x128 .f32) (x12 : Vec F S96x128 .f32) :
    Σ' (L6 : List (View.Piece (Elt F) S1x20x96x1536 .bf16)), Σ' (L7 : List (View.Piece (Elt F) S1x20x96x1536 .bf16)), { L8 : List (View.Piece (Elt F) S2x2688x1536 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (arg8.view.loc (c : Thread nD τ) ↦[arg8.view.set]{fullShare} arg8.view.writes (Elt F) (harg8.unread x8) L8) ∗ owns (c : Thread nD τ) arg9 fullShare x9 ∗ owns (c : Thread nD τ) arg10 fullShare x10 ∗ owns (c : Thread nD τ) arg11 fullShare x11 ∗ owns (c : Thread nD τ) arg12 fullShare x12) -∗ K ⟨⟩))
          ⊢ wp frame (wpE (defs₀ (F := F)) Variants.none c none) E (cc0_conv1 i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, ⟨%f10, %hf10, H10⟩, ⟨%f11, %hf11, H11⟩, ⟨%f12, %hf12, H12⟩, Hk⟩
    obtain rfl := harg1.eq_unread hf1; obtain rfl := harg2.eq_unread hf2; obtain rfl := harg3.eq_unread hf3; obtain rfl := harg4.eq_unread hf4; obtain rfl := harg5.eq_unread hf5; obtain rfl := harg8.eq_unread hf8; obtain rfl := harg9.eq_unread hf9; obtain rfl := harg10.eq_unread hf10; obtain rfl := harg11.eq_unread hf11; obtain rfl := harg12.eq_unread hf12
    sl_exec_parts (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    iexists _; isplitr; · ipureintro; exact harg12.read_unread _
    iexact H12

end Cert.Kernel.Hand

end
-- ==== Proof.KernelPieces.lean ====
/- The 168 pieces which one grid point stores into the pixel scratch, as one list over (pair of columns, stack, frame,
   column of the pair): the runs of both cases store exactly these. -/
module

public import proofs.«01_k».proof.Proof.KernelRunA
public import proofs.«01_k».proof.Proof.KernelRunB

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Eight rows of words of gathered frame `j`: the two columns of pair `p`. -/
abbrev rd8 (arg1 : Memref sig .tc .vmem S1x7x84x1536 .i32) (harg1 : arg1.IsWhole) (x1 : Vec F S1x7x84x1536 .i32)
    (j : Fin 7) (p : Fin 10) : Vec F S1x1x8x1536 .i32 :=
  View.readAt (Elt F) arg1.view (Rect.unit (s := S1x7x84x1536) ![0, j.val, 8 * p.val, 0] ![1, 1, 8, 1536] (by
    revert j p; decide)).toLoadRect (harg1.unread x1)

/-- The last four rows of words of gathered frame `j`: the last column. -/
abbrev rd4 (arg1 : Memref sig .tc .vmem S1x7x84x1536 .i32) (harg1 : arg1.IsWhole) (x1 : Vec F S1x7x84x1536 .i32)
    (j : Fin 7) : Vec F S1x1x4x1536 .i32 :=
  View.readAt (Elt F) arg1.view (Rect.unit (s := S1x7x84x1536) ![0, j.val, 80, 0] ![1, 1, 4, 1536] (by
    revert j; decide)).toLoadRect (harg1.unread x1)

/-- The bytes of eight rows of words as bf16 values, after the mask of the stack's frame `k` (the newest frame, 3, has none). -/
def px8 (v : Vec F S1x1x8x1536 .i32) (mk : Vec F S1x1536 .i32) (k : Fin 4) : FVec F S32x1536 .bf16 :=
  uitofp .bf16 (bitcast S32x1536 8 (if k.val < 3 then andi (shapeCast S8x1536 v shapeCasts_S1x1x8x1536_S8x1536) (broadcastTo S8x1536 mk broadcasts_S1x1536_S8x1536)
    else shapeCast S8x1536 v shapeCasts_S1x1x8x1536_S8x1536) bitcasts_S8x1536_w32_S32x1536_w8)

/-- The bytes of four rows of words as bf16 values, after the mask of the stack's frame `k`. -/
def px4 (v : Vec F S1x1x4x1536 .i32) (mk : Vec F S1x1536 .i32) (k : Fin 4) : FVec F S16x1536 .bf16 :=
  uitofp .bf16 (bitcast S16x1536 8 (if k.val < 3 then andi (shapeCast S4x1536 v shapeCasts_S1x1x4x1536_S4x1536) (broadcastTo S4x1536 mk broadcasts_S1x1536_S4x1536)
    else shapeCast S4x1536 v shapeCasts_S1x1x4x1536_S4x1536) bitcasts_S4x1536_w32_S16x1536_w8)

/-- The piece of pair `p`, stack `st`, frame `k`, column `h` of the pair: sixteen rows of the pixel scratch. -/
def piece8 (i : grid0.Coords) (rd : Fin 7 → Fin 10 → Vec F S1x1x8x1536 .i32) (mk : Fin 7 → Vec F S1x1536 .i32)
    (p : Fin 10) (st : Fin 2) (k : Fin 4) (h : Fin 2) : View.Piece (Elt F) S2x2688x1536 .bf16 :=
  let j : Fin 7 := ⟨3 * st.val + k.val, by omega⟩
  let w : FVec F S1x16x1536 .bf16 := shapeCast S1x16x1536 (match h with
    | 0 => extractStridedSlice S16x1536 ![0, 0] (px8 (rd j p) (mk j) k) slices_S32x1536_o0_0_S16x1536
    | 1 => extractStridedSlice S16x1536 ![16, 0] (px8 (rd j p) (mk j) k) slices_S32x1536_o16_0_S16x1536) shapeCasts_S16x1536_S1x16x1536
  let r : Fin 21 := ⟨2 * p.val + h.val, by omega⟩
  match st with
  | 0 => ⟨Rect.unit (k0_off1 i (BitVec.ofNat 32 (128 * r.val)) (BitVec.ofNat 32 (16 * k.val))) ![1, 16, 1536] (k0_off1_inb i r k), w⟩
  | 1 => ⟨Rect.unit (k0_off2 i (BitVec.ofNat 32 (128 * r.val)) (BitVec.ofNat 32 (16 * k.val))) ![1, 16, 1536] (k0_off2_inb i r k), w⟩

/-- The piece of the last column, stack `st`, frame `k`. -/
def piece4 (i : grid0.Coords) (rd : Fin 7 → Vec F S1x1x4x1536 .i32) (mk : Fin 7 → Vec F S1x1536 .i32)
    (st : Fin 2) (k : Fin 4) : View.Piece (Elt F) S2x2688x1536 .bf16 :=
  let j : Fin 7 := ⟨3 * st.val + k.val, by omega⟩
  let w : FVec F S1x16x1536 .bf16 := shapeCast S1x16x1536 (px4 (rd j) (mk j) k) shapeCasts_S16x1536_S1x16x1536
  match st with
  | 0 => ⟨Rect.unit (k0_off1 i (BitVec.ofNat 32 (128 * (20 : Fin 21).val)) (BitVec.ofNat 32 (16 * k.val))) ![1, 16, 1536] (k0_off1_inb i 20 k), w⟩
  | 1 => ⟨Rect.unit (k0_off2 i (BitVec.ofNat 32 (128 * (20 : Fin 21).val)) (BitVec.ofNat 32 (16 * k.val))) ![1, 16, 1536] (k0_off2_inb i 20 k), w⟩

/-- All the pieces of a point, last store first. -/
def pieces (i : grid0.Coords) (rd : Fin 7 → Fin 10 → Vec F S1x1x8x1536 .i32) (rd' : Fin 7 → Vec F S1x1x4x1536 .i32)
    (mk : Fin 7 → Vec F S1x1536 .i32) : List (View.Piece (Elt F) S2x2688x1536 .bf16) :=
  (([1, 0] : List (Fin 2)).flatMap fun st => ([3, 2, 1, 0] : List (Fin 4)).map fun k => piece4 i rd' mk st k)
  ++ ([9, 8, 7, 6, 5, 4, 3, 2, 1, 0] : List (Fin 10)).flatMap fun p => ([1, 0] : List (Fin 2)).flatMap fun st =>
      ([3, 2, 1, 0] : List (Fin 4)).flatMap fun k => ([1, 0] : List (Fin 2)).map fun h => piece8 i rd mk p st k h

/-- Row `j` of the mask scratch, as a load finds it. -/
abbrev rdm (arg9 : Memref sig .tc .vmem S8x1536 .i32) (harg9 : arg9.IsWhole) (x9 : Vec F S8x1536 .i32) (j : Fin 7) : Vec F S1x1536 .i32 :=
  View.readAt (Elt F) arg9.view (Rect.unit (s := S8x1536) ![j.val, 0] ![1, 1536] (by revert j; decide)).toLoadRect (harg9.unread x9)

/-- Row `j` of the mask scratch, as a load finds it after the stores `L` which cover it. -/
abbrev rdmA (arg9 : Memref sig .tc .vmem S8x1536 .i32) (L : List (View.Piece (Elt F) S8x1536 .i32)) (j : Fin 7) : Vec F S1x1536 .i32 :=
  arg9.view.readCov L (Rect.unit (s := S8x1536) ![j.val, 0] ![1, 1536] (by revert j; decide)).toLoadRect

/-- A point after the first stores exactly these pieces. -/
theorem runB_pieces (c : Dev nD) (i : grid0.Coords) (arg1 : Memref sig .tc .vmem S1x7x84x1536 .i32) (harg1 : arg1.IsWhole) (arg2 : Memref sig .tc .vmem S8x1536 .i32) (harg2 : arg2.IsWhole) (arg3 : Memref sig .tc .vmem S2x96x256 .fp8e4m3) (harg3 : arg3.IsWhole) (arg4 : Memref sig .tc .vmem S96x1 .f32) (harg4 : arg4.IsWhole) (arg5 : Memref sig .tc .vmem S96x1 .f32) (harg5 : arg5.IsWhole) (arg6 : Memref sig .tc .vmem S1x20x96x1536 .bf16) (harg6 : arg6.IsWhole) (arg7 : Memref sig .tc .vmem S1x20x96x1536 .bf16) (harg7 : arg7.IsWhole) (arg8 : Memref sig .tc .vmem S2x2688x1536 .bf16) (harg8 : arg8.IsWhole) (arg9 : Memref sig .tc .vmem S8x1536 .i32) (harg9 : arg9.IsWhole) (arg10 : Memref sig .tc .vmem S2x96x256 .bf16) (harg10 : arg10.IsWhole) (arg11 : Memref sig .tc .vmem S96x128 .f32) (harg11 : arg11.IsWhole) (arg12 : Memref sig .tc .vmem S96x128 .f32) (harg12 : arg12.IsWhole) (hc0 : ¬cond0_0 i) (hc1 : cond0_1 i)
    (x1 : Vec F S1x7x84x1536 .i32) (x2 : Vec F S8x1536 .i32) (x3 : Vec F S2x96x256 .fp8e4m3) (x4 : Vec F S96x1 .f32) (x5 : Vec F S96x1 .f32) (x8 : Vec F S2x2688x1536 .bf16) (x9 : Vec F S8x1536 .i32) (x10 : Vec F S2x96x256 .bf16) (x11 : Vec F S96x128 .f32) (x12 : Vec F S96x128 .f32) :
    (runB c i arg1 harg1 arg2 harg2 arg3 harg3 arg4 harg4 arg5 harg5 arg6 harg6 arg7 harg7 arg8 harg8 arg9 harg9 arg10 harg10 arg11 harg11 arg12 harg12 hc0 hc1 x1 x2 x3 x4 x5 x8 x9 x10 x11 x12).2.2.1
      = pieces i (rd8 arg1 harg1 x1) (rd4 arg1 harg1 x1) (rdm arg9 harg9 x9) := rfl

/-- The first point stores exactly these pieces. -/
theorem runA_pieces (c : Dev nD) (i : grid0.Coords) (arg1 : Memref sig .tc .vmem S1x7x84x1536 .i32) (harg1 : arg1.IsWhole) (arg2 : Memref sig .tc .vmem S8x1536 .i32) (harg2 : arg2.IsWhole) (arg3 : Memref sig .tc .vmem S2x96x256 .fp8e4m3) (harg3 : arg3.IsWhole) (arg4 : Memref sig .tc .vmem S96x1 .f32) (harg4 : arg4.IsWhole) (arg5 : Memref sig .tc .vmem S96x1 .f32) (harg5 : arg5.IsWhole) (arg6 : Memref sig .tc .vmem S1x20x96x1536 .bf16) (harg6 : arg6.IsWhole) (arg7 : Memref sig .tc .vmem S1x20x96x1536 .bf16) (harg7 : arg7.IsWhole) (arg8 : Memref sig .tc .vmem S2x2688x1536 .bf16) (harg8 : arg8.IsWhole) (arg9 : Memref sig .tc .vmem S8x1536 .i32) (harg9 : arg9.IsWhole) (arg10 : Memref sig .tc .vmem S2x96x256 .bf16) (harg10 : arg10.IsWhole) (arg11 : Memref sig .tc .vmem S96x128 .f32) (harg11 : arg11.IsWhole) (arg12 : Memref sig .tc .vmem S96x128 .f32) (harg12 : arg12.IsWhole) (hc0 : cond0_0 i) (hc1 : ¬cond0_1 i)
    (x1 : Vec F S1x7x84x1536 .i32) (x2 : Vec F S8x1536 .i32) (x3 : Vec F S2x96x256 .fp8e4m3) (x4 : Vec F S96x1 .f32) (x5 : Vec F S96x1 .f32) :
    (runA c i arg1 harg1 arg2 harg2 arg3 harg3 arg4 harg4 arg5 harg5 arg6 harg6 arg7 harg7 arg8 harg8 arg9 harg9 arg10 harg10 arg11 harg11 arg12 harg12 hc0 hc1 x1 x2 x3 x4 x5).2.2.2.2.1
      = pieces i (rd8 arg1 harg1 x1) (rd4 arg1 harg1 x1) (rdmA arg9 (runA c i arg1 harg1 arg2 harg2 arg3 harg3 arg4 harg4 arg5 harg5 arg6 harg6 arg7 harg7 arg8 harg8 arg9 harg9 arg10 harg10 arg11 harg11 arg12 harg12 hc0 hc1 x1 x2 x3 x4 x5).1) := rfl

end Cert.Kernel.Hand

end
-- ==== Proof.KernelCover.lean ====
/- Where the 168 pieces of a grid point lie: each pixel row of the point's slot (rows 64·slot … of every 128) in one of
   them, no row of the other slot in any. -/
module

public import proofs.«01_k».proof.Proof.KernelPieces

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The stores into stack 0 start at row `128·r + 64·slot + 16·k`. -/
theorem off1_eq (i : grid0.Coords) (r : Fin 21) (k : Fin 4) :
    k0_off1 i (BitVec.ofNat 32 (128 * r.val)) (BitVec.ofNat 32 (16 * k.val)) = ![0, 128 * r.val + 64 * ((i 0).val % 2) + 16 * k.val, 0] := by
  have h : ∀ (n : Fin 21) (r : Fin 21) (k : Fin 4),
      (Scalar.indexCast (Scalar.addi (Scalar.addi (BitVec.ofNat 32 (128 * r.val)) (Scalar.muli (Scalar.remsi (BitVec.ofNat 32 n.val) 2#32) 64#32))
        (BitVec.ofNat 32 (16 * k.val)))).toNat = 128 * r.val + 64 * (n.val % 2) + 16 * k.val := by decide +kernel
  unfold k0_off1; dsimp only
  exact congrArg (fun x : ℕ => (![0, x, 0] : Fin 3 → ℕ)) (h (i 0) r k)

/-- The stores into stack 1 start at the same rows. -/
theorem off2_eq (i : grid0.Coords) (r : Fin 21) (k : Fin 4) :
    k0_off2 i (BitVec.ofNat 32 (128 * r.val)) (BitVec.ofNat 32 (16 * k.val)) = ![1, 128 * r.val + 64 * ((i 0).val % 2) + 16 * k.val, 0] := by
  have h : ∀ (n : Fin 21) (r : Fin 21) (k : Fin 4),
      (Scalar.indexCast (Scalar.addi (Scalar.addi (BitVec.ofNat 32 (128 * r.val)) (Scalar.muli (Scalar.remsi (BitVec.ofNat 32 n.val) 2#32) 64#32))
        (BitVec.ofNat 32 (16 * k.val)))).toNat = 128 * r.val + 64 * (n.val % 2) + 16 * k.val := by decide +kernel
  unfold k0_off2; dsimp only
  exact congrArg (fun x : ℕ => (![1, x, 0] : Fin 3 → ℕ)) (h (i 0) r k)

/-- A rectangle of sixteen rows of one stack, all the batch: membership by stack and row. -/
theorem mem_rows (off : Fin 3 → ℕ) (inb) (st : Fin 2) (o : ℕ) (h : off = ![st.val, o, 0]) (y : S2x2688x1536.Idx) :
    y ∈ (Rect.unit (s := S2x2688x1536) off ![1, 16, 1536] inb).set ↔ (y 0).val = st.val ∧ o ≤ (y 1).val ∧ (y 1).val < o + 16 := by
  subst h
  rw [Rect.mem_set_unit, Fin.forall_fin_succ, Fin.forall_fin_succ, Fin.forall_fin_one]
  have h2 : (y 2).val < 1536 := (y 2).isLt
  constructor
  · rintro ⟨⟨a, b⟩, ⟨c, d⟩, -⟩
    change st.val ≤ (y 0).val at a
    change (y 0).val < st.val + 1 at b
    exact ⟨by omega, c, d⟩
  · rintro ⟨a, b, c⟩
    exact ⟨⟨a.ge, show (y 0).val < st.val + 1 by omega⟩, ⟨b, c⟩, Nat.zero_le _, show (y 2).val < 0 + 1536 by omega⟩

theorem mem_piece8 (i : grid0.Coords) (rd : Fin 7 → Fin 10 → Vec F S1x1x8x1536 .i32) (mk : Fin 7 → Vec F S1x1536 .i32)
    (p : Fin 10) (st : Fin 2) (k : Fin 4) (h : Fin 2) (y : S2x2688x1536.Idx) :
    y ∈ (piece8 i rd mk p st k h).1.set ↔ (y 0).val = st.val
      ∧ 128 * (2 * p.val + h.val) + 64 * ((i 0).val % 2) + 16 * k.val ≤ (y 1).val
      ∧ (y 1).val < 128 * (2 * p.val + h.val) + 64 * ((i 0).val % 2) + 16 * k.val + 16 := by
  match st with
  | 0 => exact mem_rows _ (k0_off1_inb i ⟨2 * p.val + h.val, by omega⟩ k) 0 _ (off1_eq i ⟨2 * p.val + h.val, by omega⟩ k) y
  | 1 => exact mem_rows _ (k0_off2_inb i ⟨2 * p.val + h.val, by omega⟩ k) 1 _ (off2_eq i ⟨2 * p.val + h.val, by omega⟩ k) y

theorem mem_piece4 (i : grid0.Coords) (rd : Fin 7 → Vec F S1x1x4x1536 .i32) (mk : Fin 7 → Vec F S1x1536 .i32)
    (st : Fin 2) (k : Fin 4) (y : S2x2688x1536.Idx) :
    y ∈ (piece4 i rd mk st k).1.set ↔ (y 0).val = st.val
      ∧ 128 * 20 + 64 * ((i 0).val % 2) + 16 * k.val ≤ (y 1).val ∧ (y 1).val < 128 * 20 + 64 * ((i 0).val % 2) + 16 * k.val + 16 := by
  match st with
  | 0 => exact mem_rows _ (k0_off1_inb i 20 k) 0 _ (off1_eq i 20 k) y
  | 1 => exact mem_rows _ (k0_off2_inb i 20 k) 1 _ (off2_eq i 20 k) y

/-- What the list of pieces contains. -/
theorem mem_pieces (i : grid0.Coords) (rd : Fin 7 → Fin 10 → Vec F S1x1x8x1536 .i32) (rd' : Fin 7 → Vec F S1x1x4x1536 .i32)
    (mk : Fin 7 → Vec F S1x1536 .i32) (pc : View.Piece (Elt F) S2x2688x1536 .bf16) :
    pc ∈ pieces i rd rd' mk ↔ (∃ st k, pc = piece4 i rd' mk st k) ∨ ∃ p st k h, pc = piece8 i rd mk p st k h := by
  have e2 : ∀ st : Fin 2, st ∈ ([1, 0] : List (Fin 2)) := by decide
  have e4 : ∀ st : Fin 4, st ∈ ([3, 2, 1, 0] : List (Fin 4)) := by decide
  have e10 : ∀ st : Fin 10, st ∈ ([9, 8, 7, 6, 5, 4, 3, 2, 1, 0] : List (Fin 10)) := by decide
  unfold pieces
  simp only [List.mem_append, List.mem_flatMap, List.mem_map]
  constructor
  · rintro (⟨st, -, k, -, rfl⟩ | ⟨p, -, st, -, k, -, h, -, rfl⟩)
    · exact .inl ⟨st, k, rfl⟩
    · exact .inr ⟨p, st, k, h, rfl⟩
  · rintro (⟨st, k, rfl⟩ | ⟨p, st, k, h, rfl⟩)
    · exact .inl ⟨st, e2 _, k, e4 _, rfl⟩
    · exact .inr ⟨p, e10 _, st, e2 _, k, e4 _, h, e2 _, rfl⟩

/-- The slot a row of the pixel scratch belongs to. -/
def slot (y : S2x2688x1536.Idx) : ℕ := (y 1).val / 64 % 2

/-- A row of the point's slot lies in one of its pieces. -/
theorem covered (i : grid0.Coords) (rd : Fin 7 → Fin 10 → Vec F S1x1x8x1536 .i32) (rd' : Fin 7 → Vec F S1x1x4x1536 .i32)
    (mk : Fin 7 → Vec F S1x1536 .i32) (y : S2x2688x1536.Idx) (h : slot y = (i 0).val % 2) : ∃ pc ∈ pieces i rd rd' mk, y ∈ pc.1.set := by
  unfold slot at h
  have h0 : (y 0).val < 2 := (y 0).isLt
  have h1 : (y 1).val < 2688 := (y 1).isLt
  by_cases h20 : (y 1).val / 128 = 20
  · refine ⟨piece4 i rd' mk ⟨(y 0).val, h0⟩ ⟨(y 1).val % 64 / 16, by omega⟩, (mem_pieces ..).mpr (.inl ⟨_, _, rfl⟩), (mem_piece4 ..).mpr ⟨rfl, ?_, ?_⟩⟩
    · dsimp only; omega
    · dsimp only; omega
  · refine ⟨piece8 i rd mk ⟨(y 1).val / 256, by omega⟩ ⟨(y 0).val, h0⟩ ⟨(y 1).val % 64 / 16, by omega⟩ ⟨(y 1).val / 128 % 2, by omega⟩,
      (mem_pieces ..).mpr (.inr ⟨_, _, _, _, rfl⟩), (mem_piece8 ..).mpr ⟨rfl, ?_, ?_⟩⟩
    · dsimp only; omega
    · dsimp only; omega

/-- A row of the other slot lies in none. -/
theorem uncovered (i : grid0.Coords) (rd : Fin 7 → Fin 10 → Vec F S1x1x8x1536 .i32) (rd' : Fin 7 → Vec F S1x1x4x1536 .i32)
    (mk : Fin 7 → Vec F S1x1536 .i32) (y : S2x2688x1536.Idx) (h : slot y ≠ (i 0).val % 2) : ∀ pc ∈ pieces i rd rd' mk, y ∉ pc.1.set := by
  unfold slot at h
  intro pc hpc hy
  rcases (mem_pieces ..).mp hpc with ⟨st, k, rfl⟩ | ⟨p, st, k, h', rfl⟩
  · obtain ⟨-, a, b⟩ := (mem_piece4 ..).mp hy; omega
  · obtain ⟨-, a, b⟩ := (mem_piece8 ..).mp hy; omega

/-- The pieces use a mask only in rows 0 … 5. -/
theorem pieces_congr (i : grid0.Coords) (rd : Fin 7 → Fin 10 → Vec F S1x1x8x1536 .i32) (rd' : Fin 7 → Vec F S1x1x4x1536 .i32)
    (mk mk' : Fin 7 → Vec F S1x1536 .i32) (h : ∀ j : Fin 7, j.val < 6 → mk j = mk' j) : pieces i rd rd' mk = pieces i rd rd' mk' := by
  have e8 : ∀ (v : Vec F S1x1x8x1536 .i32) (st : Fin 2) (k : Fin 4), px8 v (mk ⟨3 * st.val + k.val, by omega⟩) k = px8 v (mk' ⟨3 * st.val + k.val, by omega⟩) k := by
    intro v st k
    by_cases hk : k.val < 3
    · rw [h _ (show 3 * st.val + k.val < 6 by omega)]
    · unfold px8; rw [if_neg hk, if_neg hk]
  have e4 : ∀ (v : Vec F S1x1x4x1536 .i32) (st : Fin 2) (k : Fin 4), px4 v (mk ⟨3 * st.val + k.val, by omega⟩) k = px4 v (mk' ⟨3 * st.val + k.val, by omega⟩) k := by
    intro v st k
    by_cases hk : k.val < 3
    · rw [h _ (show 3 * st.val + k.val < 6 by omega)]
    · unfold px4; rw [if_neg hk, if_neg hk]
  have p8 : ∀ p st k h, piece8 i rd mk p st k h = piece8 i rd mk' p st k h := by
    intro p st k h; unfold piece8; simp only [e8]
  have p4 : ∀ st k, piece4 i rd' mk st k = piece4 i rd' mk' st k := by
    intro st k; unfold piece4; simp only [e4]
  unfold pieces
  simp only [p8, p4]

end Cert.Kernel.Hand

end
-- ==== Proof.KernelState.lean ====
/- What the scratch buffers and the outputs hold after each grid point, named: the masks, the weights, the scale and the
   bias from the first point on, the pixels of each slot from the latest point of that slot. -/
module

public import proofs.«01_k».proof.Proof.KernelCover
public import Idealize.ShloMosaic.Lib.WholeRead

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ (UR sig nD τ) ℕ

/-- The first grid point. -/
def p0 : Fin cfg0.N := ⟨0, by rw [show cfg0.N = 21 from N_0]; omega⟩

/-- The point before (the first has none: itself). -/
def prev (t : Fin cfg0.N) : Fin cfg0.N := ⟨t.val - 1, lt_of_le_of_lt (Nat.sub_le _ _) t.isLt⟩

/-- The run of the first point, at its buffers. -/
abbrev run0 (c : Dev nD) := runA c (grid0.coords p0) (ms0_0 p0) (hs0_0 p0) (ms0_1 p0) (hs0_1 p0) (ms0_2 p0) (hs0_2 p0) (ms0_3 p0) (hs0_3 p0) (ms0_4 p0) (hs0_4 p0) (ms0_5 p0) (hs0_5 p0) (ms0_6 p0) (hs0_6 p0) scM0_0 (Memref.isWhole_whole _) scM0_1 (Memref.isWhole_whole _) scM0_2 (Memref.isWhole_whole _) scM0_3 (Memref.isWhole_whole _) scM0_4 (Memref.isWhole_whole _) ((hcond0_0 p0).mpr (Nat.zero_mod 21)) (fun h => Nat.not_succ_le_zero 0 ((hcond0_1 p0).mp h)) (iblk m c 0 p0) (iblk m c 1 p0) (iblk m c 2 p0) (iblk m c 3 p0) (iblk m c 4 p0)

/-- The mask scratch from the first point on (rows 0 … 5 are what it stored). -/
def msk (c : Dev nD) : Vec F S8x1536 .i32 := scM0_1.view.read (Elt F) (scM0_1.view.writes (Elt F) scM0_1.view.junk (run0 m c).1)
/-- The weights in bf16, from the first point on. -/
def wts (c : Dev nD) : Vec F S2x96x256 .bf16 := VS0_2.read (Elt F) (VS0_2.writes (Elt F) VS0_2.junk (run0 m c).2.1)
/-- The scale spread over 128 lanes, from the first point on. -/
def scl (c : Dev nD) : Vec F S96x128 .f32 := VS0_3.read (Elt F) (VS0_3.writes (Elt F) VS0_3.junk (run0 m c).2.2.1)
/-- The bias spread over 128 lanes, from the first point on. -/
def bia (c : Dev nD) : Vec F S96x128 .f32 := VS0_4.read (Elt F) (VS0_4.writes (Elt F) VS0_4.junk (run0 m c).2.2.2.1)

theorem cover_wts (c : Dev nD) (y : S2x96x256.Idx) : ∃ pc ∈ (run0 m c).2.1, y ∈ pc.1.set :=
  View.cover_of_tiledL (run0 m c).2.1 S2x96x256.size (by sl_kernel_rfl) y
theorem cover_scl (c : Dev nD) (y : S96x128.Idx) : ∃ pc ∈ (run0 m c).2.2.1, y ∈ pc.1.set :=
  View.cover_of_tiledL (run0 m c).2.2.1 S96x128.size (by sl_kernel_rfl) y
theorem cover_bia (c : Dev nD) (y : S96x128.Idx) : ∃ pc ∈ (run0 m c).2.2.2.1, y ∈ pc.1.set :=
  View.cover_of_tiledL (run0 m c).2.2.2.1 S96x128.size (by sl_kernel_rfl) y

/-- The first point stores the mask rows 0 … 5, one by one. -/
theorem cover_msk (c : Dev nD) (y : S8x1536.Idx) (hy : (y 0).val < 6) : ∃ pc ∈ (run0 m c).1, y ∈ pc.1.set := by
  have h1 : (y 1).val < 1536 := (y 1).isLt
  have key : ∀ (r : ℕ) (inb), (y 0).val = r → y ∈ (Rect.unit (s := S8x1536) ![r, 0] ![1, 1536] inb).set := by
    intro r inb e
    rw [Rect.mem_set_unit, Fin.forall_fin_two]
    exact ⟨⟨e.ge, show (y 0).val < r + 1 by omega⟩, Nat.zero_le _, show (y 1).val < 0 + 1536 by omega⟩
  rw [show (run0 m c).1 = [_, _, _, _, _, _] from rfl]
  have h6 : (y 0).val = 5 ∨ (y 0).val = 2 ∨ (y 0).val = 4 ∨ (y 0).val = 1 ∨ (y 0).val = 3 ∨ (y 0).val = 0 := by omega
  rcases h6 with h | h | h | h | h | h
  · refine ⟨_, List.mem_cons_self, ?_⟩; exact key 5 inb_S8x1536_S1x1536_5_0 h
  · refine ⟨_, List.mem_cons_of_mem _ List.mem_cons_self, ?_⟩; exact key 2 inb_S8x1536_S1x1536_2_0 h
  · refine ⟨_, List.mem_cons_of_mem _ (List.mem_cons_of_mem _ List.mem_cons_self), ?_⟩; exact key 4 inb_S8x1536_S1x1536_4_0 h
  · refine ⟨_, List.mem_cons_of_mem _ (List.mem_cons_of_mem _ (List.mem_cons_of_mem _ List.mem_cons_self)), ?_⟩; exact key 1 inb_S8x1536_S1x1536_1_0 h
  · refine ⟨_, List.mem_cons_of_mem _ (List.mem_cons_of_mem _ (List.mem_cons_of_mem _ (List.mem_cons_of_mem _ List.mem_cons_self))), ?_⟩; exact key 3 inb_S8x1536_S1x1536_3_0 h
  · refine ⟨_, List.mem_cons_of_mem _ (List.mem_cons_of_mem _ (List.mem_cons_of_mem _ (List.mem_cons_of_mem _ (List.mem_cons_of_mem _ List.mem_cons_self)))), ?_⟩; exact key 0 inb_S8x1536_S1x1536_0_0 h

/-- Row `j` of the masks, as a load finds it. -/
abbrev mk (c : Dev nD) (j : Fin 7) : Vec F S1x1536 .i32 := rdm scM0_1 (Memref.isWhole_whole _) (msk m c) j

/-- The pieces point `t` stores into the pixel scratch. -/
def pcs (c : Dev nD) (t : Fin cfg0.N) : List (View.Piece (Elt F) S2x2688x1536 .bf16) :=
  pieces (grid0.coords t) (rd8 (ms0_0 t) (hs0_0 t) (iblk m c 0 t)) (rd4 (ms0_0 t) (hs0_0 t) (iblk m c 0 t)) (mk m c)

/-- Those pieces as contents: what point `t` leaves in the rows of its slot. -/
def PX (c : Dev nD) (t : Fin cfg0.N) : Vec F S2x2688x1536 .bf16 :=
  scM0_0.view.read (Elt F) (scM0_0.view.writes (Elt F) scM0_0.view.junk (pcs m c t))

/-- The pixel scratch after point `t` (not the first): its slot from `t`, the other slot from the point before. -/
def XX (c : Dev nD) (t : Fin cfg0.N) : Vec F S2x2688x1536 .bf16 := fun y => if slot y = t.val % 2 then PX m c t y else PX m c (prev t) y

theorem coords_val (t : Fin cfg0.N) : ((grid0.coords t) 0).val = t.val :=
  (by decide +kernel : ∀ t : Fin grid0.N, ((grid0.coords t) 0).val = t.val) t

/-- After the pieces of point `t`, a row of its slot reads as `PX`, whatever was there. -/
theorem read_pcs (c : Dev nD) (t : Fin cfg0.N) (f : scM0_0.view.ty.Contents (Elt F)) (y : S2x2688x1536.Idx) (h : slot y = t.val % 2) :
    scM0_0.view.read (Elt F) (scM0_0.view.writes (Elt F) f (pcs m c t)) y = PX m c t y :=
  View.read_writes_apply_eq _ _ _ _ y _ (covered _ _ _ _ y (h.trans (by rw [coords_val])))

/-- A row of the other slot reads as before. -/
theorem read_pcs_other (c : Dev nD) (t : Fin cfg0.N) (f : scM0_0.view.ty.Contents (Elt F)) (y : S2x2688x1536.Idx) (h : slot y ≠ t.val % 2) :
    scM0_0.view.read (Elt F) (scM0_0.view.writes (Elt F) f (pcs m c t)) y = scM0_0.view.read (Elt F) f y :=
  View.read_writes_apply_of_forall_not_mem _ _ y _ (uncovered _ _ _ _ y (by rw [coords_val]; exact h))

/-- The first point stores the pieces `pcs`. -/
theorem run0_pcs (c : Dev nD) : (run0 m c).2.2.2.2.1 = pcs m c p0 := by
  refine (runA_pieces c _ _ _ _ _ _ _ _ _ _ _ _ _ _ _ _ _ _ _ _ _ _ _ _ _ _ _ _ _ _ _ _).trans ?_
  unfold pcs
  refine congrArg (pieces _ _ _) (funext fun j => ?_)
  show View.readAt (Elt F) _ _ _ = View.readAt (Elt F) _ _ _
  rw [show ((Memref.isWhole_whole _ : scM0_1.IsWhole).unread (msk m c)) = scM0_1.view.writes (Elt F) scM0_1.view.junk (run0 m c).1 from
    ((Memref.isWhole_whole _ : scM0_1.IsWhole).eq_unread rfl).symm]

/-- A later point stores the pieces `pcs`, once the mask scratch agrees with `msk` in the rows it reads. -/
theorem runB_pcs (c : Dev nD) (t : Fin cfg0.N) (h : 1 ≤ t.val) (x8 : Vec F S2x2688x1536 .bf16) (x9 : Vec F S8x1536 .i32)
    (h9 : ∀ y, (y 0).val < 6 → x9 y = msk m c y) : (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h' => absurd ((hcond0_0 t).mp h') (by have := lt_of_lt_of_eq t.isLt (show cfg0.N = 21 from N_0); omega)) ((hcond0_1 t).mpr h) (iblk m c 0 t) (iblk m c 1 t) (iblk m c 2 t) (iblk m c 3 t) (iblk m c 4 t) x8 x9 (wts m c) (scl m c) (bia m c)).2.2.1 = pcs m c t := by
  refine (runB_pieces c _ _ _ _ _ _ _ _ _ _ _ _ _ _ _ _ _ _ _ _ _ _ _ _ _ _ _ _ _ _ _ _ _ _ _ _ _).trans ?_
  unfold pcs
  refine pieces_congr _ _ _ _ _ fun j hj => funext fun x => ?_
  refine (Memref.IsWhole.readAt_unread _ _ _ _).trans ((h9 _ ?_).trans (Memref.IsWhole.readAt_unread _ _ _ _).symm)
  have hx : (x 0).val < 1 := (x 0).isLt
  show j.val + 1 * (x 0).val < 6
  omega

/-- The pieces of both outputs at a later point: the loop over the twenty columns, on the pixel scratch at `X`. -/
def loopL (c : Dev nD) (t : Fin cfg0.N) (h : 1 ≤ t.val) (X : scM0_0.view.ty.Contents (Elt F)) :
    List (View.Piece (Elt F) S1x20x96x1536 .bf16) × List (View.Piece (Elt F) S1x20x96x1536 .bf16) :=
  pb_k0_t1 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_1 t).mpr h)
    (View.readAt (Elt F) scM0_2.view (Rect.unit (s := S2x96x256) (k0_off3 (grid0.coords t)) S1x96x256.size (k0_off3_inb (grid0.coords t) ((hcond0_1 t).mpr h))).toLoadRect ((Memref.isWhole_whole _ : scM0_2.IsWhole).unread (wts m c)))
    (View.readAt (Elt F) scM0_3.view (Rect.unit (s := S96x128) ![0, 0] S96x128.size inb_S96x128_S96x128_0_0).toLoadRect ((Memref.isWhole_whole _ : scM0_3.IsWhole).unread (scl m c)))
    (View.readAt (Elt F) scM0_4.view (Rect.unit (s := S96x128) ![0, 0] S96x128.size inb_S96x128_S96x128_0_0).toLoadRect ((Memref.isWhole_whole _ : scM0_4.IsWhole).unread (bia m c)))
    X k0_t1_loop.trips

/-- The same, on the pixel scratch as the point leaves it. -/
def outL (c : Dev nD) (t : Fin cfg0.N) (h : 1 ≤ t.val) : List (View.Piece (Elt F) S1x20x96x1536 .bf16) × List (View.Piece (Elt F) S1x20x96x1536 .bf16) :=
  loopL m c t h ((Memref.isWhole_whole _ : scM0_0.IsWhole).unread (XX m c t))

/-- The pixel scratch a later point leaves, once it held the other slot of the point before. -/
theorem writes_pcs (c : Dev nD) (t : Fin cfg0.N) (h : 1 ≤ t.val) (x8 : Vec F S2x2688x1536 .bf16) (h8 : ∀ y, slot y = (t.val - 1) % 2 → x8 y = PX m c (prev t) y) :
    scM0_0.view.writes (Elt F) ((Memref.isWhole_whole _ : scM0_0.IsWhole).unread x8) (pcs m c t) = (Memref.isWhole_whole _ : scM0_0.IsWhole).unread (XX m c t) := by
  refine (Memref.isWhole_whole _ : scM0_0.IsWhole).eq_unread (funext fun y => ?_)
  unfold XX
  split
  · exact read_pcs m c t _ y (by assumption)
  · rename_i hs
    refine (read_pcs_other m c t _ y hs).trans ((congrFun ((Memref.isWhole_whole _ : scM0_0.IsWhole).read_unread x8) y).trans (h8 y ?_))
    have : slot y < 2 := Nat.mod_lt _ (by omega)
    omega

/-- A later point's run finds the loop's pieces for the first output, -/
theorem runB_loop1 (c : Dev nD) (t : Fin cfg0.N) (h : 1 ≤ t.val) (x8 : Vec F S2x2688x1536 .bf16) (x9 : Vec F S8x1536 .i32) :
    (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h' => absurd ((hcond0_0 t).mp h') (by have := lt_of_lt_of_eq t.isLt (show cfg0.N = 21 from N_0); omega)) ((hcond0_1 t).mpr h) (iblk m c 0 t) (iblk m c 1 t) (iblk m c 2 t) (iblk m c 3 t) (iblk m c 4 t) x8 x9 (wts m c) (scl m c) (bia m c)).1 = (loopL m c t h (scM0_0.view.writes (Elt F) ((Memref.isWhole_whole _ : scM0_0.IsWhole).unread x8) (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h' => absurd ((hcond0_0 t).mp h') (by have := lt_of_lt_of_eq t.isLt (show cfg0.N = 21 from N_0); omega)) ((hcond0_1 t).mpr h) (iblk m c 0 t) (iblk m c 1 t) (iblk m c 2 t) (iblk m c 3 t) (iblk m c 4 t) x8 x9 (wts m c) (scl m c) (bia m c)).2.2.1)).1 := rfl

/-- and for the second. -/
theorem runB_loop2 (c : Dev nD) (t : Fin cfg0.N) (h : 1 ≤ t.val) (x8 : Vec F S2x2688x1536 .bf16) (x9 : Vec F S8x1536 .i32) :
    (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h' => absurd ((hcond0_0 t).mp h') (by have := lt_of_lt_of_eq t.isLt (show cfg0.N = 21 from N_0); omega)) ((hcond0_1 t).mpr h) (iblk m c 0 t) (iblk m c 1 t) (iblk m c 2 t) (iblk m c 3 t) (iblk m c 4 t) x8 x9 (wts m c) (scl m c) (bia m c)).2.1 = (loopL m c t h (scM0_0.view.writes (Elt F) ((Memref.isWhole_whole _ : scM0_0.IsWhole).unread x8) (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h' => absurd ((hcond0_0 t).mp h') (by have := lt_of_lt_of_eq t.isLt (show cfg0.N = 21 from N_0); omega)) ((hcond0_1 t).mpr h) (iblk m c 0 t) (iblk m c 1 t) (iblk m c 2 t) (iblk m c 3 t) (iblk m c 4 t) x8 x9 (wts m c) (scl m c) (bia m c)).2.2.1)).2 := rfl

/-- A later point's runs find exactly those pieces for the outputs. -/
theorem runB_out (c : Dev nD) (t : Fin cfg0.N) (h : 1 ≤ t.val) (x8 : Vec F S2x2688x1536 .bf16) (x9 : Vec F S8x1536 .i32)
    (h8 : ∀ y, slot y = (t.val - 1) % 2 → x8 y = PX m c (prev t) y) (h9 : ∀ y, (y 0).val < 6 → x9 y = msk m c y) :
    (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h' => absurd ((hcond0_0 t).mp h') (by have := lt_of_lt_of_eq t.isLt (show cfg0.N = 21 from N_0); omega)) ((hcond0_1 t).mpr h) (iblk m c 0 t) (iblk m c 1 t) (iblk m c 2 t) (iblk m c 3 t) (iblk m c 4 t) x8 x9 (wts m c) (scl m c) (bia m c)).1 = (outL m c t h).1 ∧ (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h' => absurd ((hcond0_0 t).mp h') (by have := lt_of_lt_of_eq t.isLt (show cfg0.N = 21 from N_0); omega)) ((hcond0_1 t).mpr h) (iblk m c 0 t) (iblk m c 1 t) (iblk m c 2 t) (iblk m c 3 t) (iblk m c 4 t) x8 x9 (wts m c) (scl m c) (bia m c)).2.1 = (outL m c t h).2 := by
  have e1 := runB_loop1 m c t h x8 x9
  have e2 := runB_loop2 m c t h x8 x9
  rw [runB_pcs m c t h x8 x9 h9, writes_pcs m c t h x8 h8] at e1 e2
  exact ⟨e1, e2⟩

/-- The twenty columns fill each output's block. -/
theorem cover_out5 (c : Dev nD) (t : Fin cfg0.N) (h : 1 ≤ t.val) (y : S1x20x96x1536.Idx) : ∃ pc ∈ (outL m c t h).1, y ∈ pc.1.set :=
  View.cover_of_tiledL (outL m c t h).1 ![1, 1, 96, 1536] (by sl_kernel_rfl) y
theorem cover_out6 (c : Dev nD) (t : Fin cfg0.N) (h : 1 ≤ t.val) (y : S1x20x96x1536.Idx) : ∃ pc ∈ (outL m c t h).2, y ∈ pc.1.set :=
  View.cover_of_tiledL (outL m c t h).2 ![1, 1, 96, 1536] (by sl_kernel_rfl) y

/-- What a point leaves in the first output's block (the first point leaves nothing). -/
def out5 (c : Dev nD) (t : Fin cfg0.N) : Vec F S1x20x96x1536 .bf16 :=
  if h : 1 ≤ t.val then VO0_5.read (Elt F) (VO0_5.writes (Elt F) VO0_5.junk (outL m c t h).1) else VO0_5.read (Elt F) VO0_5.junk
/-- What a point leaves in the second output's block. -/
def out6 (c : Dev nD) (t : Fin cfg0.N) : Vec F S1x20x96x1536 .bf16 :=
  if h : 1 ≤ t.val then VO0_6.read (Elt F) (VO0_6.writes (Elt F) VO0_6.junk (outL m c t h).2) else VO0_6.read (Elt F) VO0_6.junk

end Cert.Kernel.Hand

end
-- ==== Proof.KernelFrame.lean ====
/- The frame: the invariant between grid points, the body's triple at every point, the run of the whole program, and the
   claim's statement. -/
module

public import proofs.«01_k».proof.Proof.KernelState
public import Idealize.ShloMosaic.Lib.Claim

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ (UR sig nD τ) ℕ

/-- What holds between grid points: before the first, every scratch buffer is held at anything; after point `n` the rows
    of `n`'s slot of the pixel scratch are what the point stored, the mask rows, the weights, the scale and the bias what
    the first point stored. -/
def PhiS (c : Dev nD) : (n : ℕ) → n ≤ cfg0.N → sProp 𝕄
  | 0, _ => Pipeline.ΦA spec0 c
  | n + 1, hn => iprop(iprop((∃ d, owns (c : Thread nD τ) scM0_0 fullShare d ∗ ⌜∀ y, slot y = n % 2 → d y = PX m c ⟨n, hn⟩ y⌝) ∗ (∃ d, owns (c : Thread nD τ) scM0_1 fullShare d ∗ ⌜∀ y, (y 0).val < 6 → d y = msk m c y⌝) ∗ owns (c : Thread nD τ) scM0_2 fullShare (wts m c) ∗ owns (c : Thread nD τ) scM0_3 fullShare (scl m c) ∗ owns (c : Thread nD τ) scM0_4 fullShare (bia m c)) ∗ (∃ r, prngReg c r))

theorem PhiS_zero (c : Dev nD) (n : ℕ) (h : n ≤ cfg0.N) (hz : n = 0) : PhiS m c n h = Pipeline.ΦA spec0 c := by
  subst hz; rfl

/-- After point `n`. -/
theorem PhiS_succ (c : Dev nD) (n : ℕ) (hn : n < cfg0.N) :
    PhiS m c (n + 1) hn = iprop(iprop((∃ d, owns (c : Thread nD τ) scM0_0 fullShare d ∗ ⌜∀ y, slot y = n % 2 → d y = PX m c ⟨n, hn⟩ y⌝) ∗ (∃ d, owns (c : Thread nD τ) scM0_1 fullShare d ∗ ⌜∀ y, (y 0).val < 6 → d y = msk m c y⌝) ∗ owns (c : Thread nD τ) scM0_2 fullShare (wts m c) ∗ owns (c : Thread nD τ) scM0_3 fullShare (scl m c) ∗ owns (c : Thread nD τ) scM0_4 fullShare (bia m c)) ∗ (∃ r, prngReg c r)) := rfl

/-- Before a point that is not the first. -/
theorem PhiS_pos (c : Dev nD) (t : Fin cfg0.N) (h : t.val ≤ cfg0.N) (hz : 1 ≤ t.val) :
    PhiS m c t.val h = iprop(iprop((∃ d, owns (c : Thread nD τ) scM0_0 fullShare d ∗ ⌜∀ y, slot y = (t.val - 1) % 2 → d y = PX m c (prev t) y⌝) ∗ (∃ d, owns (c : Thread nD τ) scM0_1 fullShare d ∗ ⌜∀ y, (y 0).val < 6 → d y = msk m c y⌝) ∗ owns (c : Thread nD τ) scM0_2 fullShare (wts m c) ∗ owns (c : Thread nD τ) scM0_3 fullShare (scl m c) ∗ owns (c : Thread nD τ) scM0_4 fullShare (bia m c)) ∗ (∃ r, prngReg c r)) := by
  obtain ⟨n, hn⟩ := t
  cases n with
  | zero => exact absurd hz (by simp)
  | succ n => rfl

/-- The proof data of the pipeline on core `c`: the arrays as the region finds them; after the body at point `t` each
    input's buffer at its block and the outputs' at `out5`, `out6`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 m c t
    | ⟨6, _⟩ => out6 m c t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out5 m c t := by dsimp only [dats]
theorem after0_6 (c : Dev nD) (t : Fin cfg0.N) : (dats m 0 c).after 6 t = out6 m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 9600000 in
/-- The body at any point: the inputs' memrefs hold their blocks, the closed forms say which case the point is in, the
    case's run applies to the invariant, and what it leaves is the invariant of the next point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 21 := lt_of_lt_of_eq t.isLt (show cfg0.N = 21 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  by_cases h1 : 1 ≤ t.val
  · have h0 : ¬ t.val % 21 = 0 := by omega
    rw [show (dats m 0 c).leavesExact 5 t = owns (c : Thread nD τ) (ms0_5 t) fullShare ((dats m 0 c).after 5 t) from by
      unfold Dat.leavesExact; rw [liveAt0_5_B t (fun h => h0 ((hcond0_0 t).mp h)) ((hcond0_1 t).mpr h1)], after0_5]
    rw [show (dats m 0 c).leavesExact 6 t = owns (c : Thread nD τ) (ms0_6 t) fullShare ((dats m 0 c).after 6 t) from by
      unfold Dat.leavesExact; rw [liveAt0_6_B t (fun h => h0 ((hcond0_0 t).mp h)) ((hcond0_1 t).mpr h1)], after0_6]
    rw [PhiS_castSucc m c t, PhiS_pos m c t _ h1]
    iintro ⟨⟨⟨⟨%x8, HS0, %h8⟩, ⟨%x9, HS1, %h9⟩, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
    iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h' => absurd ((hcond0_0 t).mp h') (by have := lt_of_lt_of_eq t.isLt (show cfg0.N = 21 from N_0); omega)) ((hcond0_1 t).mpr h1) (iblk m c 0 t) (iblk m c 1 t) (iblk m c 2 t) (iblk m c 3 t) (iblk m c 4 t) x8 x9 (wts m c) (scl m c) (bia m c)).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [HS3]; · iexact HS3
    isplitl [HS4]; · iexact HS4
    iintro ⟨H0, H1, H2, H3, H4, ⟨%e5, H5⟩, ⟨%e6, H6⟩, HS0, HS1, HS2, HS3, HS4⟩
    isplitl [HS0 HS1 HS2 HS3 HS4 Hg]
    · isplitl [HS0 HS1 HS2 HS3 HS4]
      · isplitl [HS0]
        · iexists _; isplitl [HS0]
          · unfold owns; iexists _; isplitr
            swap; · iexact HS0
            ipureintro; rfl
          ipureintro; intro y hy
          rw [runB_pcs m c t h1 x8 x9 h9]
          exact read_pcs m c t _ y hy
        isplitl [HS1]
        · iexists _; isplitl [HS1]; · iexact HS1
          ipureintro; exact h9
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro
      rw [(runB_out m c t h1 x8 x9 h8 h9).1]; unfold out5; rw [dif_pos h1]
      exact View.read_writes_of_cover _ _ _ _ _ (cover_out5 m c t h1)
    unfold owns; iexists _; isplitr
    swap; · iexact H6
    ipureintro
    rw [(runB_out m c t h1 x8 x9 h8 h9).2]; unfold out6; rw [dif_pos h1]
    exact View.read_writes_of_cover _ _ _ _ _ (cover_out6 m c t h1)
  · obtain rfl : t = p0 := Fin.ext (by show t.val = 0; omega)
    rw [Dat.leavesExact_idle (dats m 0 c) 5 p0 (idleAt0_5_A p0 ((hcond0_0 p0).mpr rfl) (fun h => h1 ((hcond0_1 p0).mp h))) (noFlush0_5_A p0 ((hcond0_0 p0).mpr rfl) (fun h => h1 ((hcond0_1 p0).mp h)))]
    rw [Dat.leavesExact_idle (dats m 0 c) 6 p0 (idleAt0_6_A p0 ((hcond0_0 p0).mpr rfl) (fun h => h1 ((hcond0_1 p0).mp h))) (noFlush0_6_A p0 ((hcond0_0 p0).mpr rfl) (fun h => h1 ((hcond0_1 p0).mp h)))]
    rw [PhiS_castSucc m c p0, PhiS_zero m c p0.val _ rfl, PhiA0_eq]
    iintro ⟨⟨⟨⟨%x8, HS0⟩, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
    iapply ((run0 m c).2.2.2.2.2 _ _ x8 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, HS0, ⟨%es1, HS1⟩, ⟨%es2, HS2⟩, ⟨%es3, HS3⟩, ⟨%es4, HS4⟩⟩
    isplitl [HS0 HS1 HS2 HS3 HS4 Hg]
    · isplitl [HS0 HS1 HS2 HS3 HS4]
      · isplitl [HS0]
        · iexists _; isplitl [HS0]
          · unfold owns; iexists _; isplitr
            swap; · iexact HS0
            ipureintro; rfl
          ipureintro; intro y hy
          rw [run0_pcs m c]
          exact read_pcs m c p0 _ y hy
        isplitl [HS1]
        · iexists _; isplitl [HS1]
          · unfold owns; iexists _; isplitr
            swap; · iexact HS1
            ipureintro; rfl
          ipureintro; intro y hy
          exact View.read_writes_apply_eq _ _ _ _ y _ (cover_msk m c y hy)
        isplitl [HS2]
        · unfold owns; iexists _; isplitr
          swap; · iexact HS2
          ipureintro; exact View.read_writes_of_cover _ _ _ _ _ (cover_wts m c)
        isplitl [HS3]
        · unfold owns; iexists _; isplitr
          swap; · iexact HS3
          ipureintro; exact View.read_writes_of_cover _ _ _ _ _ (cover_scl m c)
        unfold owns; iexists _; isplitr
        swap; · iexact HS4
        ipureintro; exact View.read_writes_of_cover _ _ _ _ _ (cover_bia m c)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the scratch's contents are forgotten. -/
theorem Phi_out (c : Dev nD) (t : Fin cfg0.N) : PhiS m c (t.val + 1) t.isLt ⊢ Pipeline.ΦA spec0 c := by
  rw [PhiS_succ, PhiA0_eq]
  iintro ⟨⟨⟨%x8, HS0, %h8⟩, ⟨%x9, HS1, %h9⟩, HS2, HS3, HS4⟩, Hg⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexists _; iexact HS4
  iexact Hg

/-- The same after the last point. -/
theorem hout (c : Dev nD) : (dats m 0 c).Φ (Fin.last cfg0.N) ⊢ Pipeline.ΦA spec0 c :=
  Phi_out m c ⟨20, by rw [show cfg0.N = 21 from N_0]; omega⟩

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_Kernel`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Hand

end
-- ==== Proof.KernelIdealRuns.lean ====
/- What every point of the kernel's grid shares: the two branch conditions of the body in closed form, where an output
   window is idle, the staging buffers as the pipeline passes them, and the kernel's five scratch buffers. -/
module

public import proofs.«01_k».proof.Proof.Gen.KernelIdeal.Frame
public import proofs.«01_k».proof.Proof.Gen.KernelIdeal.Loops

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 21 = 0 :=
  (fun t => by
    have ht : t.val < 21 := Nat.lt_of_lt_of_eq t.isLt N_0
    have e0 : (grid0.coords t 0).val = t.val / 1 % 21 := Pipeline.Grid.coords_val t 0 (by decide) rfl
    simp only [cond0_0, e0]
    word_cmp
   : ∀ t : Fin grid0.N, cond0_0 (grid0.coords t) ↔ t.val % 21 = 0)

/-- The condition of the body's `scf.if` 1 (`k0_h2`), from the grid coordinates (the skeleton's scalar
    chain substituted). -/
abbrev cond0_1 (i : grid0.Coords) : Prop := k0_cond2 i = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- At the points of case A the printed configuration (`Cfg.idle`) calls output 5 idle: the case stores nothing into it. -/
theorem idleAt0_5_A : ∀ t : Fin cfg0.N, cond0_0 (grid0.coords t) → ¬cond0_1 (grid0.coords t) → cfg0.idle 5 (grid0.coords t) = true := by decide +kernel
/-- At the points of case A the pipeline does not write output 5's block back. -/
theorem noFlush0_5_A : ∀ t : Fin cfg0.N, cond0_0 (grid0.coords t) → ¬cond0_1 (grid0.coords t) → (cfg0.win 5).flush t = false := by decide +kernel
/-- At the points of case B the printed configuration (`Cfg.idle`) calls output 5 live: the case stores into it. -/
theorem liveAt0_5_B : ∀ t : Fin cfg0.N, ¬cond0_0 (grid0.coords t) → cond0_1 (grid0.coords t) → cfg0.idle 5 (grid0.coords t) = false := by decide +kernel
/-- At the points of case A the printed configuration (`Cfg.idle`) calls output 6 idle: the case stores nothing into it. -/
theorem idleAt0_6_A : ∀ t : Fin cfg0.N, cond0_0 (grid0.coords t) → ¬cond0_1 (grid0.coords t) → cfg0.idle 6 (grid0.coords t) = true := by decide +kernel
/-- At the points of case A the pipeline does not write output 6's block back. -/
theorem noFlush0_6_A : ∀ t : Fin cfg0.N, cond0_0 (grid0.coords t) → ¬cond0_1 (grid0.coords t) → (cfg0.win 6).flush t = false := by decide +kernel
/-- At the points of case B the printed configuration (`Cfg.idle`) calls output 6 live: the case stores into it. -/
theorem liveAt0_6_B : ∀ t : Fin cfg0.N, ¬cond0_0 (grid0.coords t) → cond0_1 (grid0.coords t) → cfg0.idle 6 (grid0.coords t) = false := by decide +kernel

/-! ## The kernel body on any staging memrefs: a subtype the run finds -/

/-- One staging buffer of output window 5, through which its contents are stated (`View.read_writes_of_cover`: the
    choice does not matter). -/
abbrev VO0_5 : View sig .tc .vmem S1x20x96x1536 .bf16 := (Memref.whole cc0_stg5_0 : Memref sig .tc .vmem S1x20x96x1536 .bf16).view
/-- One staging buffer of output window 6, through which its contents are stated (`View.read_writes_of_cover`: the
    choice does not matter). -/
abbrev VO0_6 : View sig .tc .vmem S1x20x96x1536 .bf16 := (Memref.whole cc0_stg6_0 : Memref sig .tc .vmem S1x20x96x1536 .bf16).view
/-- Each window's current staging memref at point `t`, spelled as the pipeline passes it (`bodyAt0`), and its wholeness. -/
abbrev ms0_0 (t : Fin cfg0.N) : Memref sig .tc .vmem S1x7x84x1536 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x1536 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x96x256 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S96x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S96x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x20x96x1536 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x20x96x1536 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S2x2688x1536 .bf16 := Memref.whole cc0_scratch0
abbrev scM0_1 : Memref sig .tc .vmem S8x1536 .i32 := Memref.whole cc0_scratch1
abbrev scM0_2 : Memref sig .tc .vmem S2x96x256 .bf16 := Memref.whole cc0_scratch2
abbrev scM0_3 : Memref sig .tc .vmem S96x128 .f32 := Memref.whole cc0_scratch3
abbrev scM0_4 : Memref sig .tc .vmem S96x128 .f32 := Memref.whole cc0_scratch4
/-- The scratch `arg10` the kernel carries between points, as a view: what it holds is stated through it. -/
abbrev VS0_2 : View sig .tc .vmem S2x96x256 .bf16 := scM0_2.view
/-- The scratch `arg11` the kernel carries between points, as a view: what it holds is stated through it. -/
abbrev VS0_3 : View sig .tc .vmem S96x128 .f32 := scM0_3.view
/-- The scratch `arg12` the kernel carries between points, as a view: what it holds is stated through it. -/
abbrev VS0_4 : View sig .tc .vmem S96x128 .f32 := scM0_4.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Hand

end
-- ==== Proof.KernelIdealRunA.lean ====
module

public import proofs.«01_k».proof.Proof.KernelIdealRuns

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- THE FIRST POINT, run: on whole buffers — the inputs' at their contents, the outputs' and the pixel scratch at known
    contents, the other scratch at anything — the body runs to its end with the inputs and the outputs as they were, the
    pixel scratch with the pieces `L8` written over what it held, and each of the other scratch buffers with its pieces.
    The pieces are what the run finds. -/
def runA (c : Dev nD) (i : grid0.Coords) (arg1 : Memref sig .tc .vmem S1x7x84x1536 .i32) (harg1 : arg1.IsWhole) (arg2 : Memref sig .tc .vmem S8x1536 .i32) (harg2 : arg2.IsWhole) (arg3 : Memref sig .tc .vmem S2x96x256 .fp8e4m3) (harg3 : arg3.IsWhole) (arg4 : Memref sig .tc .vmem S96x1 .f32) (harg4 : arg4.IsWhole) (arg5 : Memref sig .tc .vmem S96x1 .f32) (harg5 : arg5.IsWhole) (arg6 : Memref sig .tc .vmem S1x20x96x1536 .bf16) (harg6 : arg6.IsWhole) (arg7 : Memref sig .tc .vmem S1x20x96x1536 .bf16) (harg7 : arg7.IsWhole) (arg8 : Memref sig .tc .vmem S2x2688x1536 .bf16) (harg8 : arg8.IsWhole) (arg9 : Memref sig .tc .vmem S8x1536 .i32) (harg9 : arg9.IsWhole) (arg10 : Memref sig .tc .vmem S2x96x256 .bf16) (harg10 : arg10.IsWhole) (arg11 : Memref sig .tc .vmem S96x128 .f32) (harg11 : arg11.IsWhole) (arg12 : Memref sig .tc .vmem S96x128 .f32) (harg12 : arg12.IsWhole) (hc0 : cond0_0 i) (hc1 : ¬cond0_1 i)
    (x1 : Vec F S1x7x84x1536 .i32) (x2 : Vec F S8x1536 .i32) (x3 : Vec F S2x96x256 .fp8e4m3) (x4 : Vec F S96x1 .f32) (x5 : Vec F S96x1 .f32) :
    Σ' (L9 : List (View.Piece (Elt F) S8x1536 .i32)), Σ' (L10 : List (View.Piece (Elt F) S2x96x256 .bf16)), Σ' (L11 : List (View.Piece (Elt F) S96x128 .f32)), Σ' (L12 : List (View.Piece (Elt F) S96x128 .f32)), { L8 : List (View.Piece (Elt F) S2x2688x1536 .bf16) //
      ∀ (x6 : Vec F S1x20x96x1536 .bf16) (x7 : Vec F S1x20x96x1536 .bf16) (x8 : Vec F S2x2688x1536 .bf16) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (arg8.view.loc (c : Thread nD τ) ↦[arg8.view.set]{fullShare} arg8.view.writes (Elt F) (harg8.unread x8) L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12)) -∗ K ⟨⟩))
          ⊢ wp frame (wpE (defs₀ (F := F)) Variants.none c none) E (cc0_conv1 i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, fun x6 x7 x8 E K => ?run⟩
  case run =>
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec_parts (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexact H8
    isplitl [H9]; · iexists _; iexact H9
    isplitl [H10]; · iexists _; iexact H10
    isplitl [H11]; · iexists _; iexact H11
    iexists _; iexact H12

end Cert.KernelIdeal.Hand

end
-- ==== Proof.KernelIdealRunB.lean ====
module

public import proofs.«01_k».proof.Proof.KernelIdealRuns

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- A POINT AFTER THE FIRST, run: on whole buffers — the inputs' at their contents, the outputs' at anything, the scratch
    at known contents — the body runs to its end with the inputs and the four small scratch buffers as they were, the pixel
    scratch with the pieces `L8` written over what it held, and each output with its pieces. The pieces are what the run
    finds. -/
def runB (c : Dev nD) (i : grid0.Coords) (arg1 : Memref sig .tc .vmem S1x7x84x1536 .i32) (harg1 : arg1.IsWhole) (arg2 : Memref sig .tc .vmem S8x1536 .i32) (harg2 : arg2.IsWhole) (arg3 : Memref sig .tc .vmem S2x96x256 .fp8e4m3) (harg3 : arg3.IsWhole) (arg4 : Memref sig .tc .vmem S96x1 .f32) (harg4 : arg4.IsWhole) (arg5 : Memref sig .tc .vmem S96x1 .f32) (harg5 : arg5.IsWhole) (arg6 : Memref sig .tc .vmem S1x20x96x1536 .bf16) (harg6 : arg6.IsWhole) (arg7 : Memref sig .tc .vmem S1x20x96x1536 .bf16) (harg7 : arg7.IsWhole) (arg8 : Memref sig .tc .vmem S2x2688x1536 .bf16) (harg8 : arg8.IsWhole) (arg9 : Memref sig .tc .vmem S8x1536 .i32) (harg9 : arg9.IsWhole) (arg10 : Memref sig .tc .vmem S2x96x256 .bf16) (harg10 : arg10.IsWhole) (arg11 : Memref sig .tc .vmem S96x128 .f32) (harg11 : arg11.IsWhole) (arg12 : Memref sig .tc .vmem S96x128 .f32) (harg12 : arg12.IsWhole) (hc0 : ¬cond0_0 i) (hc1 : cond0_1 i)
    (x1 : Vec F S1x7x84x1536 .i32) (x2 : Vec F S8x1536 .i32) (x3 : Vec F S2x96x256 .fp8e4m3) (x4 : Vec F S96x1 .f32) (x5 : Vec F S96x1 .f32) (x8 : Vec F S2x2688x1536 .bf16) (x9 : Vec F S8x1536 .i32) (x10 : Vec F S2x96x256 .bf16) (x11 : Vec F S96x128 .f32) (x12 : Vec F S96x128 .f32) :
    Σ' (L6 : List (View.Piece (Elt F) S1x20x96x1536 .bf16)), Σ' (L7 : List (View.Piece (Elt F) S1x20x96x1536 .bf16)), { L8 : List (View.Piece (Elt F) S2x2688x1536 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (arg8.view.loc (c : Thread nD τ) ↦[arg8.view.set]{fullShare} arg8.view.writes (Elt F) (harg8.unread x8) L8) ∗ owns (c : Thread nD τ) arg9 fullShare x9 ∗ owns (c : Thread nD τ) arg10 fullShare x10 ∗ owns (c : Thread nD τ) arg11 fullShare x11 ∗ owns (c : Thread nD τ) arg12 fullShare x12) -∗ K ⟨⟩))
          ⊢ wp frame (wpE (defs₀ (F := F)) Variants.none c none) E (cc0_conv1 i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, ⟨%f10, %hf10, H10⟩, ⟨%f11, %hf11, H11⟩, ⟨%f12, %hf12, H12⟩, Hk⟩
    obtain rfl := harg1.eq_unread hf1; obtain rfl := harg2.eq_unread hf2; obtain rfl := harg3.eq_unread hf3; obtain rfl := harg4.eq_unread hf4; obtain rfl := harg5.eq_unread hf5; obtain rfl := harg8.eq_unread hf8; obtain rfl := harg9.eq_unread hf9; obtain rfl := harg10.eq_unread hf10; obtain rfl := harg11.eq_unread hf11; obtain rfl := harg12.eq_unread hf12
    sl_exec_parts (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    iexists _; isplitr; · ipureintro; exact harg12.read_unread _
    iexact H12

end Cert.KernelIdeal.Hand

end
-- ==== Proof.KernelIdealPieces.lean ====
/- The 168 pieces which one grid point stores into the pixel scratch, as one list over (pair of columns, stack, frame,
   column of the pair): the runs of both cases store exactly these. -/
module

public import proofs.«01_k».proof.Proof.KernelIdealRunA
public import proofs.«01_k».proof.Proof.KernelIdealRunB

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Eight rows of words of gathered frame `j`: the two columns of pair `p`. -/
abbrev rd8 (arg1 : Memref sig .tc .vmem S1x7x84x1536 .i32) (harg1 : arg1.IsWhole) (x1 : Vec F S1x7x84x1536 .i32)
    (j : Fin 7) (p : Fin 10) : Vec F S1x1x8x1536 .i32 :=
  View.readAt (Elt F) arg1.view (Rect.unit (s := S1x7x84x1536) ![0, j.val, 8 * p.val, 0] ![1, 1, 8, 1536] (by
    revert j p; decide)).toLoadRect (harg1.unread x1)

/-- The last four rows of words of gathered frame `j`: the last column. -/
abbrev rd4 (arg1 : Memref sig .tc .vmem S1x7x84x1536 .i32) (harg1 : arg1.IsWhole) (x1 : Vec F S1x7x84x1536 .i32)
    (j : Fin 7) : Vec F S1x1x4x1536 .i32 :=
  View.readAt (Elt F) arg1.view (Rect.unit (s := S1x7x84x1536) ![0, j.val, 80, 0] ![1, 1, 4, 1536] (by
    revert j; decide)).toLoadRect (harg1.unread x1)

/-- The bytes of eight rows of words as bf16 values, after the mask of the stack's frame `k` (the newest frame, 3, has none). -/
def px8 (v : Vec F S1x1x8x1536 .i32) (mk : Vec F S1x1536 .i32) (k : Fin 4) : FVec F S32x1536 .bf16 :=
  uitofp .bf16 (bitcast S32x1536 8 (if k.val < 3 then andi (shapeCast S8x1536 v shapeCasts_S1x1x8x1536_S8x1536) (broadcastTo S8x1536 mk broadcasts_S1x1536_S8x1536)
    else shapeCast S8x1536 v shapeCasts_S1x1x8x1536_S8x1536) bitcasts_S8x1536_w32_S32x1536_w8)

/-- The bytes of four rows of words as bf16 values, after the mask of the stack's frame `k`. -/
def px4 (v : Vec F S1x1x4x1536 .i32) (mk : Vec F S1x1536 .i32) (k : Fin 4) : FVec F S16x1536 .bf16 :=
  uitofp .bf16 (bitcast S16x1536 8 (if k.val < 3 then andi (shapeCast S4x1536 v shapeCasts_S1x1x4x1536_S4x1536) (broadcastTo S4x1536 mk broadcasts_S1x1536_S4x1536)
    else shapeCast S4x1536 v shapeCasts_S1x1x4x1536_S4x1536) bitcasts_S4x1536_w32_S16x1536_w8)

/-- The piece of pair `p`, stack `st`, frame `k`, column `h` of the pair: sixteen rows of the pixel scratch. -/
def piece8 (i : grid0.Coords) (rd : Fin 7 → Fin 10 → Vec F S1x1x8x1536 .i32) (mk : Fin 7 → Vec F S1x1536 .i32)
    (p : Fin 10) (st : Fin 2) (k : Fin 4) (h : Fin 2) : View.Piece (Elt F) S2x2688x1536 .bf16 :=
  let j : Fin 7 := ⟨3 * st.val + k.val, by omega⟩
  let w : FVec F S1x16x1536 .bf16 := shapeCast S1x16x1536 (match h with
    | 0 => extractStridedSlice S16x1536 ![0, 0] (px8 (rd j p) (mk j) k) slices_S32x1536_o0_0_S16x1536
    | 1 => extractStridedSlice S16x1536 ![16, 0] (px8 (rd j p) (mk j) k) slices_S32x1536_o16_0_S16x1536) shapeCasts_S16x1536_S1x16x1536
  let r : Fin 21 := ⟨2 * p.val + h.val, by omega⟩
  match st with
  | 0 => ⟨Rect.unit (k0_off1 i (BitVec.ofNat 32 (128 * r.val)) (BitVec.ofNat 32 (16 * k.val))) ![1, 16, 1536] (k0_off1_inb i r k), w⟩
  | 1 => ⟨Rect.unit (k0_off2 i (BitVec.ofNat 32 (128 * r.val)) (BitVec.ofNat 32 (16 * k.val))) ![1, 16, 1536] (k0_off2_inb i r k), w⟩

/-- The piece of the last column, stack `st`, frame `k`. -/
def piece4 (i : grid0.Coords) (rd : Fin 7 → Vec F S1x1x4x1536 .i32) (mk : Fin 7 → Vec F S1x1536 .i32)
    (st : Fin 2) (k : Fin 4) : View.Piece (Elt F) S2x2688x1536 .bf16 :=
  let j : Fin 7 := ⟨3 * st.val + k.val, by omega⟩
  let w : FVec F S1x16x1536 .bf16 := shapeCast S1x16x1536 (px4 (rd j) (mk j) k) shapeCasts_S16x1536_S1x16x1536
  match st with
  | 0 => ⟨Rect.unit (k0_off1 i (BitVec.ofNat 32 (128 * (20 : Fin 21).val)) (BitVec.ofNat 32 (16 * k.val))) ![1, 16, 1536] (k0_off1_inb i 20 k), w⟩
  | 1 => ⟨Rect.unit (k0_off2 i (BitVec.ofNat 32 (128 * (20 : Fin 21).val)) (BitVec.ofNat 32 (16 * k.val))) ![1, 16, 1536] (k0_off2_inb i 20 k), w⟩

/-- All the pieces of a point, last store first. -/
def pieces (i : grid0.Coords) (rd : Fin 7 → Fin 10 → Vec F S1x1x8x1536 .i32) (rd' : Fin 7 → Vec F S1x1x4x1536 .i32)
    (mk : Fin 7 → Vec F S1x1536 .i32) : List (View.Piece (Elt F) S2x2688x1536 .bf16) :=
  (([1, 0] : List (Fin 2)).flatMap fun st => ([3, 2, 1, 0] : List (Fin 4)).map fun k => piece4 i rd' mk st k)
  ++ ([9, 8, 7, 6, 5, 4, 3, 2, 1, 0] : List (Fin 10)).flatMap fun p => ([1, 0] : List (Fin 2)).flatMap fun st =>
      ([3, 2, 1, 0] : List (Fin 4)).flatMap fun k => ([1, 0] : List (Fin 2)).map fun h => piece8 i rd mk p st k h

/-- Row `j` of the mask scratch, as a load finds it. -/
abbrev rdm (arg9 : Memref sig .tc .vmem S8x1536 .i32) (harg9 : arg9.IsWhole) (x9 : Vec F S8x1536 .i32) (j : Fin 7) : Vec F S1x1536 .i32 :=
  View.readAt (Elt F) arg9.view (Rect.unit (s := S8x1536) ![j.val, 0] ![1, 1536] (by revert j; decide)).toLoadRect (harg9.unread x9)

/-- Row `j` of the mask scratch, as a load finds it after the stores `L` which cover it. -/
abbrev rdmA (arg9 : Memref sig .tc .vmem S8x1536 .i32) (L : List (View.Piece (Elt F) S8x1536 .i32)) (j : Fin 7) : Vec F S1x1536 .i32 :=
  arg9.view.readCov L (Rect.unit (s := S8x1536) ![j.val, 0] ![1, 1536] (by revert j; decide)).toLoadRect

/-- A point after the first stores exactly these pieces. -/
theorem runB_pieces (c : Dev nD) (i : grid0.Coords) (arg1 : Memref sig .tc .vmem S1x7x84x1536 .i32) (harg1 : arg1.IsWhole) (arg2 : Memref sig .tc .vmem S8x1536 .i32) (harg2 : arg2.IsWhole) (arg3 : Memref sig .tc .vmem S2x96x256 .fp8e4m3) (harg3 : arg3.IsWhole) (arg4 : Memref sig .tc .vmem S96x1 .f32) (harg4 : arg4.IsWhole) (arg5 : Memref sig .tc .vmem S96x1 .f32) (harg5 : arg5.IsWhole) (arg6 : Memref sig .tc .vmem S1x20x96x1536 .bf16) (harg6 : arg6.IsWhole) (arg7 : Memref sig .tc .vmem S1x20x96x1536 .bf16) (harg7 : arg7.IsWhole) (arg8 : Memref sig .tc .vmem S2x2688x1536 .bf16) (harg8 : arg8.IsWhole) (arg9 : Memref sig .tc .vmem S8x1536 .i32) (harg9 : arg9.IsWhole) (arg10 : Memref sig .tc .vmem S2x96x256 .bf16) (harg10 : arg10.IsWhole) (arg11 : Memref sig .tc .vmem S96x128 .f32) (harg11 : arg11.IsWhole) (arg12 : Memref sig .tc .vmem S96x128 .f32) (harg12 : arg12.IsWhole) (hc0 : ¬cond0_0 i) (hc1 : cond0_1 i)
    (x1 : Vec F S1x7x84x1536 .i32) (x2 : Vec F S8x1536 .i32) (x3 : Vec F S2x96x256 .fp8e4m3) (x4 : Vec F S96x1 .f32) (x5 : Vec F S96x1 .f32) (x8 : Vec F S2x2688x1536 .bf16) (x9 : Vec F S8x1536 .i32) (x10 : Vec F S2x96x256 .bf16) (x11 : Vec F S96x128 .f32) (x12 : Vec F S96x128 .f32) :
    (runB c i arg1 harg1 arg2 harg2 arg3 harg3 arg4 harg4 arg5 harg5 arg6 harg6 arg7 harg7 arg8 harg8 arg9 harg9 arg10 harg10 arg11 harg11 arg12 harg12 hc0 hc1 x1 x2 x3 x4 x5 x8 x9 x10 x11 x12).2.2.1
      = pieces i (rd8 arg1 harg1 x1) (rd4 arg1 harg1 x1) (rdm arg9 harg9 x9) := rfl

/-- The first point stores exactly these pieces. -/
theorem runA_pieces (c : Dev nD) (i : grid0.Coords) (arg1 : Memref sig .tc .vmem S1x7x84x1536 .i32) (harg1 : arg1.IsWhole) (arg2 : Memref sig .tc .vmem S8x1536 .i32) (harg2 : arg2.IsWhole) (arg3 : Memref sig .tc .vmem S2x96x256 .fp8e4m3) (harg3 : arg3.IsWhole) (arg4 : Memref sig .tc .vmem S96x1 .f32) (harg4 : arg4.IsWhole) (arg5 : Memref sig .tc .vmem S96x1 .f32) (harg5 : arg5.IsWhole) (arg6 : Memref sig .tc .vmem S1x20x96x1536 .bf16) (harg6 : arg6.IsWhole) (arg7 : Memref sig .tc .vmem S1x20x96x1536 .bf16) (harg7 : arg7.IsWhole) (arg8 : Memref sig .tc .vmem S2x2688x1536 .bf16) (harg8 : arg8.IsWhole) (arg9 : Memref sig .tc .vmem S8x1536 .i32) (harg9 : arg9.IsWhole) (arg10 : Memref sig .tc .vmem S2x96x256 .bf16) (harg10 : arg10.IsWhole) (arg11 : Memref sig .tc .vmem S96x128 .f32) (harg11 : arg11.IsWhole) (arg12 : Memref sig .tc .vmem S96x128 .f32) (harg12 : arg12.IsWhole) (hc0 : cond0_0 i) (hc1 : ¬cond0_1 i)
    (x1 : Vec F S1x7x84x1536 .i32) (x2 : Vec F S8x1536 .i32) (x3 : Vec F S2x96x256 .fp8e4m3) (x4 : Vec F S96x1 .f32) (x5 : Vec F S96x1 .f32) :
    (runA c i arg1 harg1 arg2 harg2 arg3 harg3 arg4 harg4 arg5 harg5 arg6 harg6 arg7 harg7 arg8 harg8 arg9 harg9 arg10 harg10 arg11 harg11 arg12 harg12 hc0 hc1 x1 x2 x3 x4 x5).2.2.2.2.1
      = pieces i (rd8 arg1 harg1 x1) (rd4 arg1 harg1 x1) (rdmA arg9 (runA c i arg1 harg1 arg2 harg2 arg3 harg3 arg4 harg4 arg5 harg5 arg6 harg6 arg7 harg7 arg8 harg8 arg9 harg9 arg10 harg10 arg11 harg11 arg12 harg12 hc0 hc1 x1 x2 x3 x4 x5).1) := rfl

end Cert.KernelIdeal.Hand

end
-- ==== Proof.KernelIdealCover.lean ====
/- Where the 168 pieces of a grid point lie: each pixel row of the point's slot (rows 64·slot … of every 128) in one of
   them, no row of the other slot in any. -/
module

public import proofs.«01_k».proof.Proof.KernelIdealPieces

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The stores into stack 0 start at row `128·r + 64·slot + 16·k`. -/
theorem off1_eq (i : grid0.Coords) (r : Fin 21) (k : Fin 4) :
    k0_off1 i (BitVec.ofNat 32 (128 * r.val)) (BitVec.ofNat 32 (16 * k.val)) = ![0, 128 * r.val + 64 * ((i 0).val % 2) + 16 * k.val, 0] := by
  have h : ∀ (n : Fin 21) (r : Fin 21) (k : Fin 4),
      (Scalar.indexCast (Scalar.addi (Scalar.addi (BitVec.ofNat 32 (128 * r.val)) (Scalar.muli (Scalar.remsi (BitVec.ofNat 32 n.val) 2#32) 64#32))
        (BitVec.ofNat 32 (16 * k.val)))).toNat = 128 * r.val + 64 * (n.val % 2) + 16 * k.val := by decide +kernel
  unfold k0_off1; dsimp only
  exact congrArg (fun x : ℕ => (![0, x, 0] : Fin 3 → ℕ)) (h (i 0) r k)

/-- The stores into stack 1 start at the same rows. -/
theorem off2_eq (i : grid0.Coords) (r : Fin 21) (k : Fin 4) :
    k0_off2 i (BitVec.ofNat 32 (128 * r.val)) (BitVec.ofNat 32 (16 * k.val)) = ![1, 128 * r.val + 64 * ((i 0).val % 2) + 16 * k.val, 0] := by
  have h : ∀ (n : Fin 21) (r : Fin 21) (k : Fin 4),
      (Scalar.indexCast (Scalar.addi (Scalar.addi (BitVec.ofNat 32 (128 * r.val)) (Scalar.muli (Scalar.remsi (BitVec.ofNat 32 n.val) 2#32) 64#32))
        (BitVec.ofNat 32 (16 * k.val)))).toNat = 128 * r.val + 64 * (n.val % 2) + 16 * k.val := by decide +kernel
  unfold k0_off2; dsimp only
  exact congrArg (fun x : ℕ => (![1, x, 0] : Fin 3 → ℕ)) (h (i 0) r k)

/-- A rectangle of sixteen rows of one stack, all the batch: membership by stack and row. -/
theorem mem_rows (off : Fin 3 → ℕ) (inb) (st : Fin 2) (o : ℕ) (h : off = ![st.val, o, 0]) (y : S2x2688x1536.Idx) :
    y ∈ (Rect.unit (s := S2x2688x1536) off ![1, 16, 1536] inb).set ↔ (y 0).val = st.val ∧ o ≤ (y 1).val ∧ (y 1).val < o + 16 := by
  subst h
  rw [Rect.mem_set_unit, Fin.forall_fin_succ, Fin.forall_fin_succ, Fin.forall_fin_one]
  have h2 : (y 2).val < 1536 := (y 2).isLt
  constructor
  · rintro ⟨⟨a, b⟩, ⟨c, d⟩, -⟩
    change st.val ≤ (y 0).val at a
    change (y 0).val < st.val + 1 at b
    exact ⟨by omega, c, d⟩
  · rintro ⟨a, b, c⟩
    exact ⟨⟨a.ge, show (y 0).val < st.val + 1 by omega⟩, ⟨b, c⟩, Nat.zero_le _, show (y 2).val < 0 + 1536 by omega⟩

theorem mem_piece8 (i : grid0.Coords) (rd : Fin 7 → Fin 10 → Vec F S1x1x8x1536 .i32) (mk : Fin 7 → Vec F S1x1536 .i32)
    (p : Fin 10) (st : Fin 2) (k : Fin 4) (h : Fin 2) (y : S2x2688x1536.Idx) :
    y ∈ (piece8 i rd mk p st k h).1.set ↔ (y 0).val = st.val
      ∧ 128 * (2 * p.val + h.val) + 64 * ((i 0).val % 2) + 16 * k.val ≤ (y 1).val
      ∧ (y 1).val < 128 * (2 * p.val + h.val) + 64 * ((i 0).val % 2) + 16 * k.val + 16 := by
  match st with
  | 0 => exact mem_rows _ (k0_off1_inb i ⟨2 * p.val + h.val, by omega⟩ k) 0 _ (off1_eq i ⟨2 * p.val + h.val, by omega⟩ k) y
  | 1 => exact mem_rows _ (k0_off2_inb i ⟨2 * p.val + h.val, by omega⟩ k) 1 _ (off2_eq i ⟨2 * p.val + h.val, by omega⟩ k) y

theorem mem_piece4 (i : grid0.Coords) (rd : Fin 7 → Vec F S1x1x4x1536 .i32) (mk : Fin 7 → Vec F S1x1536 .i32)
    (st : Fin 2) (k : Fin 4) (y : S2x2688x1536.Idx) :
    y ∈ (piece4 i rd mk st k).1.set ↔ (y 0).val = st.val
      ∧ 128 * 20 + 64 * ((i 0).val % 2) + 16 * k.val ≤ (y 1).val ∧ (y 1).val < 128 * 20 + 64 * ((i 0).val % 2) + 16 * k.val + 16 := by
  match st with
  | 0 => exact mem_rows _ (k0_off1_inb i 20 k) 0 _ (off1_eq i 20 k) y
  | 1 => exact mem_rows _ (k0_off2_inb i 20 k) 1 _ (off2_eq i 20 k) y

/-- What the list of pieces contains. -/
theorem mem_pieces (i : grid0.Coords) (rd : Fin 7 → Fin 10 → Vec F S1x1x8x1536 .i32) (rd' : Fin 7 → Vec F S1x1x4x1536 .i32)
    (mk : Fin 7 → Vec F S1x1536 .i32) (pc : View.Piece (Elt F) S2x2688x1536 .bf16) :
    pc ∈ pieces i rd rd' mk ↔ (∃ st k, pc = piece4 i rd' mk st k) ∨ ∃ p st k h, pc = piece8 i rd mk p st k h := by
  have e2 : ∀ st : Fin 2, st ∈ ([1, 0] : List (Fin 2)) := by decide
  have e4 : ∀ st : Fin 4, st ∈ ([3, 2, 1, 0] : List (Fin 4)) := by decide
  have e10 : ∀ st : Fin 10, st ∈ ([9, 8, 7, 6, 5, 4, 3, 2, 1, 0] : List (Fin 10)) := by decide
  unfold pieces
  simp only [List.mem_append, List.mem_flatMap, List.mem_map]
  constructor
  · rintro (⟨st, -, k, -, rfl⟩ | ⟨p, -, st, -, k, -, h, -, rfl⟩)
    · exact .inl ⟨st, k, rfl⟩
    · exact .inr ⟨p, st, k, h, rfl⟩
  · rintro (⟨st, k, rfl⟩ | ⟨p, st, k, h, rfl⟩)
    · exact .inl ⟨st, e2 _, k, e4 _, rfl⟩
    · exact .inr ⟨p, e10 _, st, e2 _, k, e4 _, h, e2 _, rfl⟩

/-- The slot a row of the pixel scratch belongs to. -/
def slot (y : S2x2688x1536.Idx) : ℕ := (y 1).val / 64 % 2

/-- A row of the point's slot lies in one of its pieces. -/
theorem covered (i : grid0.Coords) (rd : Fin 7 → Fin 10 → Vec F S1x1x8x1536 .i32) (rd' : Fin 7 → Vec F S1x1x4x1536 .i32)
    (mk : Fin 7 → Vec F S1x1536 .i32) (y : S2x2688x1536.Idx) (h : slot y = (i 0).val % 2) : ∃ pc ∈ pieces i rd rd' mk, y ∈ pc.1.set := by
  unfold slot at h
  have h0 : (y 0).val < 2 := (y 0).isLt
  have h1 : (y 1).val < 2688 := (y 1).isLt
  by_cases h20 : (y 1).val / 128 = 20
  · refine ⟨piece4 i rd' mk ⟨(y 0).val, h0⟩ ⟨(y 1).val % 64 / 16, by omega⟩, (mem_pieces ..).mpr (.inl ⟨_, _, rfl⟩), (mem_piece4 ..).mpr ⟨rfl, ?_, ?_⟩⟩
    · dsimp only; omega
    · dsimp only; omega
  · refine ⟨piece8 i rd mk ⟨(y 1).val / 256, by omega⟩ ⟨(y 0).val, h0⟩ ⟨(y 1).val % 64 / 16, by omega⟩ ⟨(y 1).val / 128 % 2, by omega⟩,
      (mem_pieces ..).mpr (.inr ⟨_, _, _, _, rfl⟩), (mem_piece8 ..).mpr ⟨rfl, ?_, ?_⟩⟩
    · dsimp only; omega
    · dsimp only; omega

/-- A row of the other slot lies in none. -/
theorem uncovered (i : grid0.Coords) (rd : Fin 7 → Fin 10 → Vec F S1x1x8x1536 .i32) (rd' : Fin 7 → Vec F S1x1x4x1536 .i32)
    (mk : Fin 7 → Vec F S1x1536 .i32) (y : S2x2688x1536.Idx) (h : slot y ≠ (i 0).val % 2) : ∀ pc ∈ pieces i rd rd' mk, y ∉ pc.1.set := by
  unfold slot at h
  intro pc hpc hy
  rcases (mem_pieces ..).mp hpc with ⟨st, k, rfl⟩ | ⟨p, st, k, h', rfl⟩
  · obtain ⟨-, a, b⟩ := (mem_piece4 ..).mp hy; omega
  · obtain ⟨-, a, b⟩ := (mem_piece8 ..).mp hy; omega

/-- The pieces use a mask only in rows 0 … 5. -/
theorem pieces_congr (i : grid0.Coords) (rd : Fin 7 → Fin 10 → Vec F S1x1x8x1536 .i32) (rd' : Fin 7 → Vec F S1x1x4x1536 .i32)
    (mk mk' : Fin 7 → Vec F S1x1536 .i32) (h : ∀ j : Fin 7, j.val < 6 → mk j = mk' j) : pieces i rd rd' mk = pieces i rd rd' mk' := by
  have e8 : ∀ (v : Vec F S1x1x8x1536 .i32) (st : Fin 2) (k : Fin 4), px8 v (mk ⟨3 * st.val + k.val, by omega⟩) k = px8 v (mk' ⟨3 * st.val + k.val, by omega⟩) k := by
    intro v st k
    by_cases hk : k.val < 3
    · rw [h _ (show 3 * st.val + k.val < 6 by omega)]
    · unfold px8; rw [if_neg hk, if_neg hk]
  have e4 : ∀ (v : Vec F S1x1x4x1536 .i32) (st : Fin 2) (k : Fin 4), px4 v (mk ⟨3 * st.val + k.val, by omega⟩) k = px4 v (mk' ⟨3 * st.val + k.val, by omega⟩) k := by
    intro v st k
    by_cases hk : k.val < 3
    · rw [h _ (show 3 * st.val + k.val < 6 by omega)]
    · unfold px4; rw [if_neg hk, if_neg hk]
  have p8 : ∀ p st k h, piece8 i rd mk p st k h = piece8 i rd mk' p st k h := by
    intro p st k h; unfold piece8; simp only [e8]
  have p4 : ∀ st k, piece4 i rd' mk st k = piece4 i rd' mk' st k := by
    intro st k; unfold piece4; simp only [e4]
  unfold pieces
  simp only [p8, p4]

end Cert.KernelIdeal.Hand

end
-- ==== Proof.KernelIdealState.lean ====
/- What the scratch buffers and the outputs hold after each grid point, named: the masks, the weights, the scale and the
   bias from the first point on, the pixels of each slot from the latest point of that slot. -/
module

public import proofs.«01_k».proof.Proof.KernelIdealCover
public import Idealize.ShloMosaic.Lib.WholeRead

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ (UR sig nD τ) ℕ

/-- The first grid point. -/
def p0 : Fin cfg0.N := ⟨0, by rw [show cfg0.N = 21 from N_0]; omega⟩

/-- The point before (the first has none: itself). -/
def prev (t : Fin cfg0.N) : Fin cfg0.N := ⟨t.val - 1, lt_of_le_of_lt (Nat.sub_le _ _) t.isLt⟩

/-- The run of the first point, at its buffers. -/
abbrev run0 (c : Dev nD) := runA c (grid0.coords p0) (ms0_0 p0) (hs0_0 p0) (ms0_1 p0) (hs0_1 p0) (ms0_2 p0) (hs0_2 p0) (ms0_3 p0) (hs0_3 p0) (ms0_4 p0) (hs0_4 p0) (ms0_5 p0) (hs0_5 p0) (ms0_6 p0) (hs0_6 p0) scM0_0 (Memref.isWhole_whole _) scM0_1 (Memref.isWhole_whole _) scM0_2 (Memref.isWhole_whole _) scM0_3 (Memref.isWhole_whole _) scM0_4 (Memref.isWhole_whole _) ((hcond0_0 p0).mpr (Nat.zero_mod 21)) (fun h => Nat.not_succ_le_zero 0 ((hcond0_1 p0).mp h)) (iblk m c 0 p0) (iblk m c 1 p0) (iblk m c 2 p0) (iblk m c 3 p0) (iblk m c 4 p0)

/-- The mask scratch from the first point on (rows 0 … 5 are what it stored). -/
def msk (c : Dev nD) : Vec F S8x1536 .i32 := scM0_1.view.read (Elt F) (scM0_1.view.writes (Elt F) scM0_1.view.junk (run0 m c).1)
/-- The weights in bf16, from the first point on. -/
def wts (c : Dev nD) : Vec F S2x96x256 .bf16 := VS0_2.read (Elt F) (VS0_2.writes (Elt F) VS0_2.junk (run0 m c).2.1)
/-- The scale spread over 128 lanes, from the first point on. -/
def scl (c : Dev nD) : Vec F S96x128 .f32 := VS0_3.read (Elt F) (VS0_3.writes (Elt F) VS0_3.junk (run0 m c).2.2.1)
/-- The bias spread over 128 lanes, from the first point on. -/
def bia (c : Dev nD) : Vec F S96x128 .f32 := VS0_4.read (Elt F) (VS0_4.writes (Elt F) VS0_4.junk (run0 m c).2.2.2.1)

theorem cover_wts (c : Dev nD) (y : S2x96x256.Idx) : ∃ pc ∈ (run0 m c).2.1, y ∈ pc.1.set :=
  View.cover_of_tiledL (run0 m c).2.1 S2x96x256.size (by sl_kernel_rfl) y
theorem cover_scl (c : Dev nD) (y : S96x128.Idx) : ∃ pc ∈ (run0 m c).2.2.1, y ∈ pc.1.set :=
  View.cover_of_tiledL (run0 m c).2.2.1 S96x128.size (by sl_kernel_rfl) y
theorem cover_bia (c : Dev nD) (y : S96x128.Idx) : ∃ pc ∈ (run0 m c).2.2.2.1, y ∈ pc.1.set :=
  View.cover_of_tiledL (run0 m c).2.2.2.1 S96x128.size (by sl_kernel_rfl) y

/-- The first point stores the mask rows 0 … 5, one by one. -/
theorem cover_msk (c : Dev nD) (y : S8x1536.Idx) (hy : (y 0).val < 6) : ∃ pc ∈ (run0 m c).1, y ∈ pc.1.set := by
  have h1 : (y 1).val < 1536 := (y 1).isLt
  have key : ∀ (r : ℕ) (inb), (y 0).val = r → y ∈ (Rect.unit (s := S8x1536) ![r, 0] ![1, 1536] inb).set := by
    intro r inb e
    rw [Rect.mem_set_unit, Fin.forall_fin_two]
    exact ⟨⟨e.ge, show (y 0).val < r + 1 by omega⟩, Nat.zero_le _, show (y 1).val < 0 + 1536 by omega⟩
  rw [show (run0 m c).1 = [_, _, _, _, _, _] from rfl]
  have h6 : (y 0).val = 5 ∨ (y 0).val = 2 ∨ (y 0).val = 4 ∨ (y 0).val = 1 ∨ (y 0).val = 3 ∨ (y 0).val = 0 := by omega
  rcases h6 with h | h | h | h | h | h
  · refine ⟨_, List.mem_cons_self, ?_⟩; exact key 5 inb_S8x1536_S1x1536_5_0 h
  · refine ⟨_, List.mem_cons_of_mem _ List.mem_cons_self, ?_⟩; exact key 2 inb_S8x1536_S1x1536_2_0 h
  · refine ⟨_, List.mem_cons_of_mem _ (List.mem_cons_of_mem _ List.mem_cons_self), ?_⟩; exact key 4 inb_S8x1536_S1x1536_4_0 h
  · refine ⟨_, List.mem_cons_of_mem _ (List.mem_cons_of_mem _ (List.mem_cons_of_mem _ List.mem_cons_self)), ?_⟩; exact key 1 inb_S8x1536_S1x1536_1_0 h
  · refine ⟨_, List.mem_cons_of_mem _ (List.mem_cons_of_mem _ (List.mem_cons_of_mem _ (List.mem_cons_of_mem _ List.mem_cons_self))), ?_⟩; exact key 3 inb_S8x1536_S1x1536_3_0 h
  · refine ⟨_, List.mem_cons_of_mem _ (List.mem_cons_of_mem _ (List.mem_cons_of_mem _ (List.mem_cons_of_mem _ (List.mem_cons_of_mem _ List.mem_cons_self)))), ?_⟩; exact key 0 inb_S8x1536_S1x1536_0_0 h

/-- Row `j` of the masks, as a load finds it. -/
abbrev mk (c : Dev nD) (j : Fin 7) : Vec F S1x1536 .i32 := rdm scM0_1 (Memref.isWhole_whole _) (msk m c) j

/-- The pieces point `t` stores into the pixel scratch. -/
def pcs (c : Dev nD) (t : Fin cfg0.N) : List (View.Piece (Elt F) S2x2688x1536 .bf16) :=
  pieces (grid0.coords t) (rd8 (ms0_0 t) (hs0_0 t) (iblk m c 0 t)) (rd4 (ms0_0 t) (hs0_0 t) (iblk m c 0 t)) (mk m c)

/-- Those pieces as contents: what point `t` leaves in the rows of its slot. -/
def PX (c : Dev nD) (t : Fin cfg0.N) : Vec F S2x2688x1536 .bf16 :=
  scM0_0.view.read (Elt F) (scM0_0.view.writes (Elt F) scM0_0.view.junk (pcs m c t))

/-- The pixel scratch after point `t` (not the first): its slot from `t`, the other slot from the point before. -/
def XX (c : Dev nD) (t : Fin cfg0.N) : Vec F S2x2688x1536 .bf16 := fun y => if slot y = t.val % 2 then PX m c t y else PX m c (prev t) y

theorem coords_val (t : Fin cfg0.N) : ((grid0.coords t) 0).val = t.val :=
  (by decide +kernel : ∀ t : Fin grid0.N, ((grid0.coords t) 0).val = t.val) t

/-- After the pieces of point `t`, a row of its slot reads as `PX`, whatever was there. -/
theorem read_pcs (c : Dev nD) (t : Fin cfg0.N) (f : scM0_0.view.ty.Contents (Elt F)) (y : S2x2688x1536.Idx) (h : slot y = t.val % 2) :
    scM0_0.view.read (Elt F) (scM0_0.view.writes (Elt F) f (pcs m c t)) y = PX m c t y :=
  View.read_writes_apply_eq _ _ _ _ y _ (covered _ _ _ _ y (h.trans (by rw [coords_val])))

/-- A row of the other slot reads as before. -/
theorem read_pcs_other (c : Dev nD) (t : Fin cfg0.N) (f : scM0_0.view.ty.Contents (Elt F)) (y : S2x2688x1536.Idx) (h : slot y ≠ t.val % 2) :
    scM0_0.view.read (Elt F) (scM0_0.view.writes (Elt F) f (pcs m c t)) y = scM0_0.view.read (Elt F) f y :=
  View.read_writes_apply_of_forall_not_mem _ _ y _ (uncovered _ _ _ _ y (by rw [coords_val]; exact h))

/-- The first point stores the pieces `pcs`. -/
theorem run0_pcs (c : Dev nD) : (run0 m c).2.2.2.2.1 = pcs m c p0 := by
  refine (runA_pieces c _ _ _ _ _ _ _ _ _ _ _ _ _ _ _ _ _ _ _ _ _ _ _ _ _ _ _ _ _ _ _ _).trans ?_
  unfold pcs
  refine congrArg (pieces _ _ _) (funext fun j => ?_)
  show View.readAt (Elt F) _ _ _ = View.readAt (Elt F) _ _ _
  rw [show ((Memref.isWhole_whole _ : scM0_1.IsWhole).unread (msk m c)) = scM0_1.view.writes (Elt F) scM0_1.view.junk (run0 m c).1 from
    ((Memref.isWhole_whole _ : scM0_1.IsWhole).eq_unread rfl).symm]

/-- A later point stores the pieces `pcs`, once the mask scratch agrees with `msk` in the rows it reads. -/
theorem runB_pcs (c : Dev nD) (t : Fin cfg0.N) (h : 1 ≤ t.val) (x8 : Vec F S2x2688x1536 .bf16) (x9 : Vec F S8x1536 .i32)
    (h9 : ∀ y, (y 0).val < 6 → x9 y = msk m c y) : (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h' => absurd ((hcond0_0 t).mp h') (by have := lt_of_lt_of_eq t.isLt (show cfg0.N = 21 from N_0); omega)) ((hcond0_1 t).mpr h) (iblk m c 0 t) (iblk m c 1 t) (iblk m c 2 t) (iblk m c 3 t) (iblk m c 4 t) x8 x9 (wts m c) (scl m c) (bia m c)).2.2.1 = pcs m c t := by
  refine (runB_pieces c _ _ _ _ _ _ _ _ _ _ _ _ _ _ _ _ _ _ _ _ _ _ _ _ _ _ _ _ _ _ _ _ _ _ _ _ _).trans ?_
  unfold pcs
  refine pieces_congr _ _ _ _ _ fun j hj => funext fun x => ?_
  refine (Memref.IsWhole.readAt_unread _ _ _ _).trans ((h9 _ ?_).trans (Memref.IsWhole.readAt_unread _ _ _ _).symm)
  have hx : (x 0).val < 1 := (x 0).isLt
  show j.val + 1 * (x 0).val < 6
  omega

/-- The pieces of both outputs at a later point: the loop over the twenty columns, on the pixel scratch at `X`. -/
def loopL (c : Dev nD) (t : Fin cfg0.N) (h : 1 ≤ t.val) (X : scM0_0.view.ty.Contents (Elt F)) :
    List (View.Piece (Elt F) S1x20x96x1536 .bf16) × List (View.Piece (Elt F) S1x20x96x1536 .bf16) :=
  pb_k0_t1 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_1 t).mpr h)
    (View.readAt (Elt F) scM0_2.view (Rect.unit (s := S2x96x256) (k0_off3 (grid0.coords t)) S1x96x256.size (k0_off3_inb (grid0.coords t) ((hcond0_1 t).mpr h))).toLoadRect ((Memref.isWhole_whole _ : scM0_2.IsWhole).unread (wts m c)))
    (View.readAt (Elt F) scM0_3.view (Rect.unit (s := S96x128) ![0, 0] S96x128.size inb_S96x128_S96x128_0_0).toLoadRect ((Memref.isWhole_whole _ : scM0_3.IsWhole).unread (scl m c)))
    (View.readAt (Elt F) scM0_4.view (Rect.unit (s := S96x128) ![0, 0] S96x128.size inb_S96x128_S96x128_0_0).toLoadRect ((Memref.isWhole_whole _ : scM0_4.IsWhole).unread (bia m c)))
    X k0_t1_loop.trips

/-- The same, on the pixel scratch as the point leaves it. -/
def outL (c : Dev nD) (t : Fin cfg0.N) (h : 1 ≤ t.val) : List (View.Piece (Elt F) S1x20x96x1536 .bf16) × List (View.Piece (Elt F) S1x20x96x1536 .bf16) :=
  loopL m c t h ((Memref.isWhole_whole _ : scM0_0.IsWhole).unread (XX m c t))

/-- The pixel scratch a later point leaves, once it held the other slot of the point before. -/
theorem writes_pcs (c : Dev nD) (t : Fin cfg0.N) (h : 1 ≤ t.val) (x8 : Vec F S2x2688x1536 .bf16) (h8 : ∀ y, slot y = (t.val - 1) % 2 → x8 y = PX m c (prev t) y) :
    scM0_0.view.writes (Elt F) ((Memref.isWhole_whole _ : scM0_0.IsWhole).unread x8) (pcs m c t) = (Memref.isWhole_whole _ : scM0_0.IsWhole).unread (XX m c t) := by
  refine (Memref.isWhole_whole _ : scM0_0.IsWhole).eq_unread (funext fun y => ?_)
  unfold XX
  split
  · exact read_pcs m c t _ y (by assumption)
  · rename_i hs
    refine (read_pcs_other m c t _ y hs).trans ((congrFun ((Memref.isWhole_whole _ : scM0_0.IsWhole).read_unread x8) y).trans (h8 y ?_))
    have : slot y < 2 := Nat.mod_lt _ (by omega)
    omega

/-- A later point's run finds the loop's pieces for the first output, -/
theorem runB_loop1 (c : Dev nD) (t : Fin cfg0.N) (h : 1 ≤ t.val) (x8 : Vec F S2x2688x1536 .bf16) (x9 : Vec F S8x1536 .i32) :
    (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h' => absurd ((hcond0_0 t).mp h') (by have := lt_of_lt_of_eq t.isLt (show cfg0.N = 21 from N_0); omega)) ((hcond0_1 t).mpr h) (iblk m c 0 t) (iblk m c 1 t) (iblk m c 2 t) (iblk m c 3 t) (iblk m c 4 t) x8 x9 (wts m c) (scl m c) (bia m c)).1 = (loopL m c t h (scM0_0.view.writes (Elt F) ((Memref.isWhole_whole _ : scM0_0.IsWhole).unread x8) (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h' => absurd ((hcond0_0 t).mp h') (by have := lt_of_lt_of_eq t.isLt (show cfg0.N = 21 from N_0); omega)) ((hcond0_1 t).mpr h) (iblk m c 0 t) (iblk m c 1 t) (iblk m c 2 t) (iblk m c 3 t) (iblk m c 4 t) x8 x9 (wts m c) (scl m c) (bia m c)).2.2.1)).1 := rfl

/-- and for the second. -/
theorem runB_loop2 (c : Dev nD) (t : Fin cfg0.N) (h : 1 ≤ t.val) (x8 : Vec F S2x2688x1536 .bf16) (x9 : Vec F S8x1536 .i32) :
    (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h' => absurd ((hcond0_0 t).mp h') (by have := lt_of_lt_of_eq t.isLt (show cfg0.N = 21 from N_0); omega)) ((hcond0_1 t).mpr h) (iblk m c 0 t) (iblk m c 1 t) (iblk m c 2 t) (iblk m c 3 t) (iblk m c 4 t) x8 x9 (wts m c) (scl m c) (bia m c)).2.1 = (loopL m c t h (scM0_0.view.writes (Elt F) ((Memref.isWhole_whole _ : scM0_0.IsWhole).unread x8) (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h' => absurd ((hcond0_0 t).mp h') (by have := lt_of_lt_of_eq t.isLt (show cfg0.N = 21 from N_0); omega)) ((hcond0_1 t).mpr h) (iblk m c 0 t) (iblk m c 1 t) (iblk m c 2 t) (iblk m c 3 t) (iblk m c 4 t) x8 x9 (wts m c) (scl m c) (bia m c)).2.2.1)).2 := rfl

/-- A later point's runs find exactly those pieces for the outputs. -/
theorem runB_out (c : Dev nD) (t : Fin cfg0.N) (h : 1 ≤ t.val) (x8 : Vec F S2x2688x1536 .bf16) (x9 : Vec F S8x1536 .i32)
    (h8 : ∀ y, slot y = (t.val - 1) % 2 → x8 y = PX m c (prev t) y) (h9 : ∀ y, (y 0).val < 6 → x9 y = msk m c y) :
    (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h' => absurd ((hcond0_0 t).mp h') (by have := lt_of_lt_of_eq t.isLt (show cfg0.N = 21 from N_0); omega)) ((hcond0_1 t).mpr h) (iblk m c 0 t) (iblk m c 1 t) (iblk m c 2 t) (iblk m c 3 t) (iblk m c 4 t) x8 x9 (wts m c) (scl m c) (bia m c)).1 = (outL m c t h).1 ∧ (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h' => absurd ((hcond0_0 t).mp h') (by have := lt_of_lt_of_eq t.isLt (show cfg0.N = 21 from N_0); omega)) ((hcond0_1 t).mpr h) (iblk m c 0 t) (iblk m c 1 t) (iblk m c 2 t) (iblk m c 3 t) (iblk m c 4 t) x8 x9 (wts m c) (scl m c) (bia m c)).2.1 = (outL m c t h).2 := by
  have e1 := runB_loop1 m c t h x8 x9
  have e2 := runB_loop2 m c t h x8 x9
  rw [runB_pcs m c t h x8 x9 h9, writes_pcs m c t h x8 h8] at e1 e2
  exact ⟨e1, e2⟩

/-- The twenty columns fill each output's block. -/
theorem cover_out5 (c : Dev nD) (t : Fin cfg0.N) (h : 1 ≤ t.val) (y : S1x20x96x1536.Idx) : ∃ pc ∈ (outL m c t h).1, y ∈ pc.1.set :=
  View.cover_of_tiledL (outL m c t h).1 ![1, 1, 96, 1536] (by sl_kernel_rfl) y
theorem cover_out6 (c : Dev nD) (t : Fin cfg0.N) (h : 1 ≤ t.val) (y : S1x20x96x1536.Idx) : ∃ pc ∈ (outL m c t h).2, y ∈ pc.1.set :=
  View.cover_of_tiledL (outL m c t h).2 ![1, 1, 96, 1536] (by sl_kernel_rfl) y

/-- What a point leaves in the first output's block (the first point leaves nothing). -/
def out5 (c : Dev nD) (t : Fin cfg0.N) : Vec F S1x20x96x1536 .bf16 :=
  if h : 1 ≤ t.val then VO0_5.read (Elt F) (VO0_5.writes (Elt F) VO0_5.junk (outL m c t h).1) else VO0_5.read (Elt F) VO0_5.junk
/-- What a point leaves in the second output's block. -/
def out6 (c : Dev nD) (t : Fin cfg0.N) : Vec F S1x20x96x1536 .bf16 :=
  if h : 1 ≤ t.val then VO0_6.read (Elt F) (VO0_6.writes (Elt F) VO0_6.junk (outL m c t h).2) else VO0_6.read (Elt F) VO0_6.junk

end Cert.KernelIdeal.Hand

end
-- ==== Proof.KernelIdealFrame.lean ====
/- The frame: the invariant between grid points, the body's triple at every point, the run of the whole program, and the
   claim's statement. -/
module

public import proofs.«01_k».proof.Proof.KernelIdealState
public import Idealize.ShloMosaic.Lib.Claim

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ (UR sig nD τ) ℕ

/-- What holds between grid points: before the first, every scratch buffer is held at anything; after point `n` the rows
    of `n`'s slot of the pixel scratch are what the point stored, the mask rows, the weights, the scale and the bias what
    the first point stored. -/
def PhiS (c : Dev nD) : (n : ℕ) → n ≤ cfg0.N → sProp 𝕄
  | 0, _ => Pipeline.ΦA spec0 c
  | n + 1, hn => iprop(iprop((∃ d, owns (c : Thread nD τ) scM0_0 fullShare d ∗ ⌜∀ y, slot y = n % 2 → d y = PX m c ⟨n, hn⟩ y⌝) ∗ (∃ d, owns (c : Thread nD τ) scM0_1 fullShare d ∗ ⌜∀ y, (y 0).val < 6 → d y = msk m c y⌝) ∗ owns (c : Thread nD τ) scM0_2 fullShare (wts m c) ∗ owns (c : Thread nD τ) scM0_3 fullShare (scl m c) ∗ owns (c : Thread nD τ) scM0_4 fullShare (bia m c)) ∗ (∃ r, prngReg c r))

theorem PhiS_zero (c : Dev nD) (n : ℕ) (h : n ≤ cfg0.N) (hz : n = 0) : PhiS m c n h = Pipeline.ΦA spec0 c := by
  subst hz; rfl

/-- After point `n`. -/
theorem PhiS_succ (c : Dev nD) (n : ℕ) (hn : n < cfg0.N) :
    PhiS m c (n + 1) hn = iprop(iprop((∃ d, owns (c : Thread nD τ) scM0_0 fullShare d ∗ ⌜∀ y, slot y = n % 2 → d y = PX m c ⟨n, hn⟩ y⌝) ∗ (∃ d, owns (c : Thread nD τ) scM0_1 fullShare d ∗ ⌜∀ y, (y 0).val < 6 → d y = msk m c y⌝) ∗ owns (c : Thread nD τ) scM0_2 fullShare (wts m c) ∗ owns (c : Thread nD τ) scM0_3 fullShare (scl m c) ∗ owns (c : Thread nD τ) scM0_4 fullShare (bia m c)) ∗ (∃ r, prngReg c r)) := rfl

/-- Before a point that is not the first. -/
theorem PhiS_pos (c : Dev nD) (t : Fin cfg0.N) (h : t.val ≤ cfg0.N) (hz : 1 ≤ t.val) :
    PhiS m c t.val h = iprop(iprop((∃ d, owns (c : Thread nD τ) scM0_0 fullShare d ∗ ⌜∀ y, slot y = (t.val - 1) % 2 → d y = PX m c (prev t) y⌝) ∗ (∃ d, owns (c : Thread nD τ) scM0_1 fullShare d ∗ ⌜∀ y, (y 0).val < 6 → d y = msk m c y⌝) ∗ owns (c : Thread nD τ) scM0_2 fullShare (wts m c) ∗ owns (c : Thread nD τ) scM0_3 fullShare (scl m c) ∗ owns (c : Thread nD τ) scM0_4 fullShare (bia m c)) ∗ (∃ r, prngReg c r)) := by
  obtain ⟨n, hn⟩ := t
  cases n with
  | zero => exact absurd hz (by simp)
  | succ n => rfl

/-- The proof data of the pipeline on core `c`: the arrays as the region finds them; after the body at point `t` each
    input's buffer at its block and the outputs' at `out5`, `out6`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 m c t
    | ⟨6, _⟩ => out6 m c t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out5 m c t := by dsimp only [dats]
theorem after0_6 (c : Dev nD) (t : Fin cfg0.N) : (dats m 0 c).after 6 t = out6 m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 9600000 in
/-- The body at any point: the inputs' memrefs hold their blocks, the closed forms say which case the point is in, the
    case's run applies to the invariant, and what it leaves is the invariant of the next point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 21 := lt_of_lt_of_eq t.isLt (show cfg0.N = 21 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  by_cases h1 : 1 ≤ t.val
  · have h0 : ¬ t.val % 21 = 0 := by omega
    rw [show (dats m 0 c).leavesExact 5 t = owns (c : Thread nD τ) (ms0_5 t) fullShare ((dats m 0 c).after 5 t) from by
      unfold Dat.leavesExact; rw [liveAt0_5_B t (fun h => h0 ((hcond0_0 t).mp h)) ((hcond0_1 t).mpr h1)], after0_5]
    rw [show (dats m 0 c).leavesExact 6 t = owns (c : Thread nD τ) (ms0_6 t) fullShare ((dats m 0 c).after 6 t) from by
      unfold Dat.leavesExact; rw [liveAt0_6_B t (fun h => h0 ((hcond0_0 t).mp h)) ((hcond0_1 t).mpr h1)], after0_6]
    rw [PhiS_castSucc m c t, PhiS_pos m c t _ h1]
    iintro ⟨⟨⟨⟨%x8, HS0, %h8⟩, ⟨%x9, HS1, %h9⟩, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
    iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h' => absurd ((hcond0_0 t).mp h') (by have := lt_of_lt_of_eq t.isLt (show cfg0.N = 21 from N_0); omega)) ((hcond0_1 t).mpr h1) (iblk m c 0 t) (iblk m c 1 t) (iblk m c 2 t) (iblk m c 3 t) (iblk m c 4 t) x8 x9 (wts m c) (scl m c) (bia m c)).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [HS3]; · iexact HS3
    isplitl [HS4]; · iexact HS4
    iintro ⟨H0, H1, H2, H3, H4, ⟨%e5, H5⟩, ⟨%e6, H6⟩, HS0, HS1, HS2, HS3, HS4⟩
    isplitl [HS0 HS1 HS2 HS3 HS4 Hg]
    · isplitl [HS0 HS1 HS2 HS3 HS4]
      · isplitl [HS0]
        · iexists _; isplitl [HS0]
          · unfold owns; iexists _; isplitr
            swap; · iexact HS0
            ipureintro; rfl
          ipureintro; intro y hy
          rw [runB_pcs m c t h1 x8 x9 h9]
          exact read_pcs m c t _ y hy
        isplitl [HS1]
        · iexists _; isplitl [HS1]; · iexact HS1
          ipureintro; exact h9
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro
      rw [(runB_out m c t h1 x8 x9 h8 h9).1]; unfold out5; rw [dif_pos h1]
      exact View.read_writes_of_cover _ _ _ _ _ (cover_out5 m c t h1)
    unfold owns; iexists _; isplitr
    swap; · iexact H6
    ipureintro
    rw [(runB_out m c t h1 x8 x9 h8 h9).2]; unfold out6; rw [dif_pos h1]
    exact View.read_writes_of_cover _ _ _ _ _ (cover_out6 m c t h1)
  · obtain rfl : t = p0 := Fin.ext (by show t.val = 0; omega)
    rw [Dat.leavesExact_idle (dats m 0 c) 5 p0 (idleAt0_5_A p0 ((hcond0_0 p0).mpr rfl) (fun h => h1 ((hcond0_1 p0).mp h))) (noFlush0_5_A p0 ((hcond0_0 p0).mpr rfl) (fun h => h1 ((hcond0_1 p0).mp h)))]
    rw [Dat.leavesExact_idle (dats m 0 c) 6 p0 (idleAt0_6_A p0 ((hcond0_0 p0).mpr rfl) (fun h => h1 ((hcond0_1 p0).mp h))) (noFlush0_6_A p0 ((hcond0_0 p0).mpr rfl) (fun h => h1 ((hcond0_1 p0).mp h)))]
    rw [PhiS_castSucc m c p0, PhiS_zero m c p0.val _ rfl, PhiA0_eq]
    iintro ⟨⟨⟨⟨%x8, HS0⟩, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
    iapply ((run0 m c).2.2.2.2.2 _ _ x8 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, HS0, ⟨%es1, HS1⟩, ⟨%es2, HS2⟩, ⟨%es3, HS3⟩, ⟨%es4, HS4⟩⟩
    isplitl [HS0 HS1 HS2 HS3 HS4 Hg]
    · isplitl [HS0 HS1 HS2 HS3 HS4]
      · isplitl [HS0]
        · iexists _; isplitl [HS0]
          · unfold owns; iexists _; isplitr
            swap; · iexact HS0
            ipureintro; rfl
          ipureintro; intro y hy
          rw [run0_pcs m c]
          exact read_pcs m c p0 _ y hy
        isplitl [HS1]
        · iexists _; isplitl [HS1]
          · unfold owns; iexists _; isplitr
            swap; · iexact HS1
            ipureintro; rfl
          ipureintro; intro y hy
          exact View.read_writes_apply_eq _ _ _ _ y _ (cover_msk m c y hy)
        isplitl [HS2]
        · unfold owns; iexists _; isplitr
          swap; · iexact HS2
          ipureintro; exact View.read_writes_of_cover _ _ _ _ _ (cover_wts m c)
        isplitl [HS3]
        · unfold owns; iexists _; isplitr
          swap; · iexact HS3
          ipureintro; exact View.read_writes_of_cover _ _ _ _ _ (cover_scl m c)
        unfold owns; iexists _; isplitr
        swap; · iexact HS4
        ipureintro; exact View.read_writes_of_cover _ _ _ _ _ (cover_bia m c)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the scratch's contents are forgotten. -/
theorem Phi_out (c : Dev nD) (t : Fin cfg0.N) : PhiS m c (t.val + 1) t.isLt ⊢ Pipeline.ΦA spec0 c := by
  rw [PhiS_succ, PhiA0_eq]
  iintro ⟨⟨⟨%x8, HS0, %h8⟩, ⟨%x9, HS1, %h9⟩, HS2, HS3, HS4⟩, Hg⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexists _; iexact HS4
  iexact Hg

/-- The same after the last point. -/
theorem hout (c : Dev nD) : (dats m 0 c).Φ (Fin.last cfg0.N) ⊢ Pipeline.ΦA spec0 c :=
  Phi_out m c ⟨20, by rw [show cfg0.N = 21 from N_0]; omega⟩

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_KernelIdeal`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Hand

end
-- ==== Proof.Spec.lean ====
/- The mathematics of the problem, on plain coordinates: the pixel of a masked stack, one feature of the convolution, and
   the order in which the sum over a window may be taken. -/
module

public import Idealize.ShloMosaic.PureOps.Ideal.Laws

@[expose] public section

noncomputable section

namespace Cert.Spec

/-- Byte `l` of a word, the lowest first. -/
def byteOf (w : BitVec 32) (l : ℕ) : ℕ := w.toNat / 2 ^ (8 * l) % 256

/-- The sum of the flags of the frames after frame `k` of stack `st`; frame `k` of stack `st` is gathered frame `3 * st + k`. -/
def later (fl : Fin 8 → Fin 1536 → BitVec 32) (st : Fin 2) (k : Fin 4) (b : Fin 1536) : BitVec 32 :=
  (if k.val < 1 then fl ⟨3 * st.val + 1, by omega⟩ b else 0) + (if k.val < 2 then fl ⟨3 * st.val + 2, by omega⟩ b else 0)
    + (if k.val < 3 then fl ⟨3 * st.val + 3, by omega⟩ b else 0)

/-- Pixel `(y, x)` of frame `k` of stack `st` of batch entry `b`: zero where a later frame starts an episode. Word
    `4 * (x / 4) + y % 4` of block row `y / 4` holds the four pixels of its column, one per byte. -/
def px (g : Fin 21 → Fin 7 → Fin 84 → Fin 1536 → BitVec 32) (fl : Fin 8 → Fin 1536 → BitVec 32)
    (st : Fin 2) (y x : Fin 84) (k : Fin 4) (b : Fin 1536) : EReal :=
  if later fl st k b = 0 then
    (((byteOf (g ⟨y.val / 4, by omega⟩ ⟨3 * st.val + k.val, by omega⟩ ⟨x.val / 4 * 4 + y.val % 4, by omega⟩ b) (x.val % 4) : ℕ) : ℝ) : EReal)
  else 0

/-- One feature: the window at `(4 y, 4 x)` against the weights of channel `c`, scaled, shifted and cut at zero. -/
def feature (g : Fin 21 → Fin 7 → Fin 84 → Fin 1536 → BitVec 32) (fl : Fin 8 → Fin 1536 → BitVec 32)
    (w : Fin 8 → Fin 8 → Fin 4 → Fin 96 → EReal) (sc bi : Fin 96 → EReal)
    (st : Fin 2) (y x : Fin 20) (c : Fin 96) (b : Fin 1536) : EReal :=
  max ((∑ i : Fin 8, ∑ j : Fin 8, ∑ k : Fin 4,
    w i j k c * px g fl st ⟨4 * y.val + i.val, by omega⟩ ⟨4 * x.val + j.val, by omega⟩ k b) * sc c + bi c) 0

/-- The place of row `i`, column `j`, frame `k` of a window among 256, when the blocks of four rows are stored in order
    (`p = 0`) or swapped (`p = 1`). -/
def place (p : Fin 2) : Fin 8 × Fin 8 × Fin 4 ≃ Fin 256 where
  toFun q := ⟨q.2.1.val / 4 * 128 + (q.1.val / 4 + p.val) % 2 * 64 + q.2.2.val * 16 + q.1.val % 4 * 4 + q.2.1.val % 4, by omega⟩
  invFun n := (⟨(n.val / 64 % 2 + p.val) % 2 * 4 + n.val / 4 % 4, by omega⟩, ⟨n.val / 128 * 4 + n.val % 4, by omega⟩, ⟨n.val / 16 % 4, by omega⟩)
  left_inv q := by
    obtain ⟨i, j, k⟩ := q
    revert p i j k; decide +kernel
  right_inv n := by refine Fin.ext ?_; dsimp only; omega

/-- The sum over a window in the stored order. -/
theorem sum_place (p : Fin 2) (f : Fin 256 → EReal) :
    ∑ n : Fin 256, f n = ∑ i : Fin 8, ∑ j : Fin 8, ∑ k : Fin 4, f (place p (i, j, k)) := by
  rw [← Fintype.sum_equiv (place p) (fun q => f (place p q)) f fun _ => rfl]
  simp only [Fintype.sum_prod_type]

end Cert.Spec

end
-- ==== Proof.KernelIdealScratch.lean ====
/- What the scratch buffers filled at the first point hold, over the extended reals: the weights in the stored order, the
   scale and the bias per channel, and one mask row per older frame of each stack. -/
module

public import proofs.«01_k».proof.Proof.KernelIdealFrame
public import proofs.«01_k».proof.Proof.Spec
public import Idealize.ShloMosaic.Lib.Pointwise
public import Idealize.ShloMosaic.Lib.Pipeline.ValueKit
public import Idealize.ShloMosaic.Lib.StableHlo.RunRead
public import Idealize.ShloMosaic.Lib.WholeRead

@[expose] public section

set_option maxRecDepth 65536

noncomputable section

namespace Cert.KernelIdeal.Hand

open Idealize.ShloMosaic Idealize.ShloMosaic.TcCoe Idealize.SL.Sem Cert.KernelIdeal Cert.KernelIdeal.Gen
open Idealize.ShloMosaic.Pipeline (Dat)

section Host

variable {F : FTy → Type} [FloatOps F]

/-- The host's two arrangements of the weights. -/
def arranged (w : FVec F S8x8x4x96 .fp8e4m3) : FVec F S2x96x256 .fp8e4m3 :=
  let t : FVec F S96x2x2x4x4x4 .fp8e4m3 := transpose S96x2x2x4x4x4 [5, 2, 0, 4, 1, 3] (shapeCast S2x4x2x4x4x96 w shapeCasts_S8x8x4x96_S2x4x2x4x4x96) transposes_S2x4x2x4x4x96_S96x2x2x4x4x4_5_2_0_4_1_3
  shapeCast S2x96x256 (concatenate S2x96x2x2x4x4x4 0
    [⟨S1x96x2x2x4x4x4, broadcastInDim S1x96x2x2x4x4x4 ![1, 2, 3, 4, 5, 6] bcast_S96x2x2x4x4x4_S1x96x2x2x4x4x4_1_2_3_4_5_6 t⟩,
     ⟨S1x96x2x2x4x4x4, broadcastInDim S1x96x2x2x4x4x4 ![1, 2, 3, 4, 5, 6] bcast_S96x2x2x4x4x4_S1x96x2x2x4x4x4_1_2_3_4_5_6 (Host.reverse [2] t)⟩]
    concatenates_S1x96x2x2x4x4x4_S1x96x2x2x4x4x4_S2x96x2x2x4x4x4_d0) shapeCasts_S2x96x2x2x4x4x4_S2x96x256

variable (m : (ℓ : Loc nD τ sig) → Buf (Elt F) ℓ)

theorem V_v6 (c : Dev nD) : V m c main_v6 = arranged (m ((c : Thread nD τ).loc main_arg2)) := by
  unfold V hostOps0
  after_reads_simp
  rfl
theorem V_v7 (c : Dev nD) : V m c main_v7 = shapeCast S96x1 (m ((c : Thread nD τ).loc main_arg3) : FVec F S96 .f32) shapeCasts_S96_S96x1 := by
  unfold V hostOps0
  after_reads_simp
  rfl
theorem V_v8 (c : Dev nD) : V m c main_v8 = shapeCast S96x1 (m ((c : Thread nD τ).loc main_arg4) : FVec F S96 .f32) shapeCasts_S96_S96x1 := by
  unfold V hostOps0
  after_reads_simp
  rfl

theorem arranged_apply0 (w : FVec F S8x8x4x96 .fp8e4m3) (ch : Fin 96) (n : Fin 256) :
    arranged w (ix3 0 ch n) = w (ix4 ⟨n.val / 64 % 2 * 4 + n.val / 4 % 4, by omega⟩ ⟨n.val / 128 * 4 + n.val % 4, by omega⟩ ⟨n.val / 16 % 4, by omega⟩ ch) := by
  pointwise [arranged]

theorem arranged_apply1 (w : FVec F S8x8x4x96 .fp8e4m3) (ch : Fin 96) (n : Fin 256) :
    arranged w (ix3 1 ch n) = w (ix4 ⟨(1 - n.val / 64 % 2) * 4 + n.val / 4 % 4, by omega⟩ ⟨n.val / 128 * 4 + n.val % 4, by omega⟩ ⟨n.val / 16 % 4, by omega⟩ ch) := by
  pointwise [arranged]
  refine congrArg w (funext fun a => Fin.ext ?_)
  match a with
  | ⟨0, _⟩ => show (2 - (n.val / 64 % 2 + 1)) * 4 + n.val / 4 % 4 = (1 - n.val / 64 % 2) * 4 + n.val / 4 % 4; omega
  | ⟨1, _⟩ => rfl
  | ⟨2, _⟩ => rfl
  | ⟨3, _⟩ => rfl

/-- What lies at place `n` of each arrangement. -/
theorem arranged_symm (w : FVec F S8x8x4x96 .fp8e4m3) (p : Fin 2) (ch : Fin 96) (n : Fin 256) :
    arranged w (ix3 p ch n) = w (ix4 ((Spec.place p).symm n).1 ((Spec.place p).symm n).2.1 ((Spec.place p).symm n).2.2 ch) := by
  match p with
  | 0 =>
    refine (arranged_apply0 w ch n).trans (congrArg w (funext fun a => Fin.ext ?_))
    match a with
    | ⟨0, _⟩ => show n.val / 64 % 2 * 4 + n.val / 4 % 4 = (n.val / 64 % 2 + 0) % 2 * 4 + n.val / 4 % 4; omega
    | ⟨1, _⟩ => rfl
    | ⟨2, _⟩ => rfl
    | ⟨3, _⟩ => rfl
  | 1 =>
    refine (arranged_apply1 w ch n).trans (congrArg w (funext fun a => Fin.ext ?_))
    match a with
    | ⟨0, _⟩ => show (1 - n.val / 64 % 2) * 4 + n.val / 4 % 4 = (n.val / 64 % 2 + 1) % 2 * 4 + n.val / 4 % 4; omega
    | ⟨1, _⟩ => rfl
    | ⟨2, _⟩ => rfl
    | ⟨3, _⟩ => rfl

/-- The weights of window row `i`, column `j`, frame `k` lie at `place`. -/
theorem arranged_place (w : FVec F S8x8x4x96 .fp8e4m3) (p : Fin 2) (ch : Fin 96) (i : Fin 8) (j : Fin 8) (k : Fin 4) :
    arranged w (ix3 p ch (Spec.place p (i, j, k))) = w (ix4 i j k ch) := by
  rw [arranged_symm, Equiv.symm_apply_apply]

end Host

variable (m : (ℓ : Loc nD τ sig) → Buf (Elt Ideal) ℓ)

/-- Where the input windows' blocks lie. -/
theorem idx0 : ∀ t : Fin grid0.N, win0_0.index t = ![t.val, 0, 0, 0] ∧ win0_1.index t = ![0, 0] ∧ win0_2.index t = ![0, 0, 0]
    ∧ win0_3.index t = ![0, 0] ∧ win0_4.index t = ![0, 0] := by decide +kernel

/-- A point's block of words. -/
theorem iblk0_apply (c : Dev nD) (t : Fin cfg0.N) (ht : t.val < 21) (j : Fin 7) (r : Fin 84) (b : Fin 1536) :
    iblk m c 0 t (ix4 0 j r b) = m ((c : Thread nD τ).loc main_arg0) (ix4 ⟨t.val, ht⟩ j r b) := by
  rw [← V_main_arg0 m c]
  blk_ext [iblk, idx0 t]
theorem iblk1_apply (c : Dev nD) (t : Fin cfg0.N) (j : Fin 8) (b : Fin 1536) :
    iblk m c 1 t (ix2 j b) = m ((c : Thread nD τ).loc main_arg1) (ix2 j b) := by
  rw [← V_main_arg1 m c]
  blk_ext [iblk, idx0 t]
theorem iblk2_apply (c : Dev nD) (t : Fin cfg0.N) (y : S2x96x256.Idx) :
    iblk m c 2 t y = arranged (F := Ideal) (m ((c : Thread nD τ).loc main_arg2)) y := by
  rw [← V_v6 m c]
  blk_ext [iblk, idx0 t]
theorem iblk3_apply (c : Dev nD) (t : Fin cfg0.N) (ch : Fin 96) :
    iblk m c 3 t (ix2 ch 0) = m ((c : Thread nD τ).loc main_arg3) (ix1 ch) := by
  have e : iblk m c 3 t (ix2 ch 0) = V m c main_v7 (ix2 ch 0) := by blk_ext [iblk, idx0 t]
  rw [e, V_v7]; pointwise
theorem iblk4_apply (c : Dev nD) (t : Fin cfg0.N) (ch : Fin 96) :
    iblk m c 4 t (ix2 ch 0) = m ((c : Thread nD τ).loc main_arg4) (ix1 ch) := by
  have e : iblk m c 4 t (ix2 ch 0) = V m c main_v8 (ix2 ch 0) := by blk_ext [iblk, idx0 t]
  rw [e, V_v8]; pointwise

theorem pay14_apply (v : FVec Ideal S2x96x256 .fp8e4m3) (x : S2x96x256.Idx) : k0_pay14 (F := Ideal) v x = v x := by
  have e : ∀ (p : Fin 2) (a : Fin 96) (b : Fin 256), k0_pay14 (F := Ideal) v (ix3 p a b) = v (ix3 p a b) := fun p a b => by pointwise [k0_pay14]
  rw [eq_ix3 x]
  exact e (x 0) (x 1) (x 2)

/-- The weights the first point loads. -/
abbrev ld_wts (c : Dev nD) : FVec Ideal S2x96x256 .fp8e4m3 :=
  View.readAt (Elt Ideal) (ms0_2 p0).view (Rect.unit (s := S2x96x256) ![0, 0, 0] S2x96x256.size inb_S2x96x256_S2x96x256_0_0_0).toLoadRect ((hs0_2 p0).unread (iblk m c 2 p0))

theorem emb_zero3 (inb) (x : S2x96x256.Idx) : (Rect.unit (s := S2x96x256) ![0, 0, 0] S2x96x256.size inb).emb x = x := by
  funext a; refine Fin.ext ?_
  match a with
  | ⟨0, _⟩ => show 0 + 1 * (x 0).val = (x 0).val; omega
  | ⟨1, _⟩ => show 0 + 1 * (x 1).val = (x 1).val; omega
  | ⟨2, _⟩ => show 0 + 1 * (x 2).val = (x 2).val; omega

theorem run0_wts (c : Dev nD) : (run0 m c).2.1
    = ([⟨Rect.unit (s := S2x96x256) ![0, 0, 0] S2x96x256.size inb_S2x96x256_S2x96x256_0_0_0, k0_pay14 (F := Ideal) (ld_wts m c)⟩] : List (View.Piece (Elt Ideal) S2x96x256 .bf16)) := rfl

theorem wts_of (c : Dev nD) (A : S2x96x256.Idx → EReal) (h : ∀ y, iblk m c 2 p0 y = A y) (y : S2x96x256.Idx) : wts m c y = A y := by
  unfold wts
  refine View.read_writes_apply_of_pieces _ _ A _ ?_ y (cover_wts m c y)
  have e : ∀ x : S2x96x256.Idx, k0_pay14 (F := Ideal) (ld_wts m c) x = A x := by
    intro x
    refine (pay14_apply _ x).trans ?_
    refine (Memref.IsWhole.readAt_unread (hs0_2 p0) (iblk m c 2 p0) _ _).trans ?_
    exact (congrArg (iblk m c 2 p0) (emb_zero3 _ x)).trans (h x)
  rw [run0_wts]
  intro pc hp x
  rw [List.mem_singleton] at hp
  subst hp
  exact (e x).trans (congrArg A (emb_zero3 inb_S2x96x256_S2x96x256_0_0_0 x).symm)

/-- The weights scratch. -/
theorem wts_apply (c : Dev nD) (y : S2x96x256.Idx) : wts m c y = arranged (F := Ideal) (m ((c : Thread nD τ).loc main_arg2)) y :=
  wts_of m c _ (iblk2_apply m c p0) y

theorem pay15_apply (v : FVec Ideal S96x1 .f32) (x : S96x128.Idx) : k0_pay15 (F := Ideal) v x = v (ix2 (x 0) 0) := by
  have e : ∀ (a : Fin 96) (b : Fin 128), k0_pay15 (F := Ideal) v (ix2 a b) = v (ix2 a 0) := fun a b => by pointwise [k0_pay15]
  exact (congrArg (k0_pay15 (F := Ideal) v) (eq_ix2 x)).trans (e (x 0) (x 1))

/-- The column the first point loads. -/
abbrev ld_scl (c : Dev nD) : FVec Ideal S96x1 .f32 :=
  View.readAt (Elt Ideal) (ms0_3 p0).view (Rect.unit (s := S96x1) ![0, 0] S96x1.size inb_S96x1_S96x1_0_0).toLoadRect ((hs0_3 p0).unread (iblk m c 3 p0))

theorem run0_scl (c : Dev nD) : (run0 m c).2.2.1
    = ([⟨Rect.unit (s := S96x128) ![0, 0] S96x128.size inb_S96x128_S96x128_0_0, k0_pay15 (F := Ideal) (ld_scl m c)⟩] : List (View.Piece (Elt Ideal) S96x128 .f32)) := rfl

theorem scl_of (c : Dev nD) (A : Fin 96 → EReal) (h : ∀ ch, iblk m c 3 p0 (ix2 ch 0) = A ch) (y : S96x128.Idx) : scl m c y = A (y 0) := by
  unfold scl
  refine View.read_writes_apply_of_pieces _ _ (fun y => A (y 0)) _ ?_ y (cover_scl m c y)
  have e : ∀ x : S96x128.Idx, k0_pay15 (F := Ideal) (ld_scl m c) x = A (x 0) := by
    intro x
    refine (pay15_apply _ x).trans ?_
    refine (Memref.IsWhole.readAt_unread (hs0_3 p0) (iblk m c 3 p0) _ _).trans ?_
    refine (congrArg (iblk m c 3 p0) ?_).trans (h (x 0))
    funext a; refine Fin.ext ?_
    match a with
    | ⟨0, _⟩ => show 0 + 1 * (x 0).val = (x 0).val; omega
    | ⟨1, _⟩ => rfl
  rw [run0_scl]
  intro pc hp x
  rw [List.mem_singleton] at hp
  subst hp
  refine (e x).trans (congrArg A (Fin.ext ?_))
  show (x 0).val = 0 + 1 * (x 0).val; omega

/-- The scale scratch. -/
theorem scl_apply (c : Dev nD) (ch : Fin 96) (l : Fin 128) : scl m c (ix2 ch l) = m ((c : Thread nD τ).loc main_arg3) (ix1 ch) :=
  scl_of m c (fun ch => m ((c : Thread nD τ).loc main_arg3) (ix1 ch)) (iblk3_apply m c p0) (ix2 ch l)

theorem pay16_apply (v : FVec Ideal S96x1 .f32) (x : S96x128.Idx) : k0_pay16 (F := Ideal) v x = v (ix2 (x 0) 0) := by
  have e : ∀ (a : Fin 96) (b : Fin 128), k0_pay16 (F := Ideal) v (ix2 a b) = v (ix2 a 0) := fun a b => by pointwise [k0_pay16]
  exact (congrArg (k0_pay16 (F := Ideal) v) (eq_ix2 x)).trans (e (x 0) (x 1))

/-- The column the first point loads. -/
abbrev ld_bia (c : Dev nD) : FVec Ideal S96x1 .f32 :=
  View.readAt (Elt Ideal) (ms0_4 p0).view (Rect.unit (s := S96x1) ![0, 0] S96x1.size inb_S96x1_S96x1_0_0).toLoadRect ((hs0_4 p0).unread (iblk m c 4 p0))

theorem run0_bia (c : Dev nD) : (run0 m c).2.2.2.1
    = ([⟨Rect.unit (s := S96x128) ![0, 0] S96x128.size inb_S96x128_S96x128_0_0, k0_pay16 (F := Ideal) (ld_bia m c)⟩] : List (View.Piece (Elt Ideal) S96x128 .f32)) := rfl

theorem bia_of (c : Dev nD) (A : Fin 96 → EReal) (h : ∀ ch, iblk m c 4 p0 (ix2 ch 0) = A ch) (y : S96x128.Idx) : bia m c y = A (y 0) := by
  unfold bia
  refine View.read_writes_apply_of_pieces _ _ (fun y => A (y 0)) _ ?_ y (cover_bia m c y)
  have e : ∀ x : S96x128.Idx, k0_pay16 (F := Ideal) (ld_bia m c) x = A (x 0) := by
    intro x
    refine (pay16_apply _ x).trans ?_
    refine (Memref.IsWhole.readAt_unread (hs0_4 p0) (iblk m c 4 p0) _ _).trans ?_
    refine (congrArg (iblk m c 4 p0) ?_).trans (h (x 0))
    funext a; refine Fin.ext ?_
    match a with
    | ⟨0, _⟩ => show 0 + 1 * (x 0).val = (x 0).val; omega
    | ⟨1, _⟩ => rfl
  rw [run0_bia]
  intro pc hp x
  rw [List.mem_singleton] at hp
  subst hp
  refine (e x).trans (congrArg A (Fin.ext ?_))
  show (x 0).val = 0 + 1 * (x 0).val; omega

/-- The bias scratch. -/
theorem bia_apply (c : Dev nD) (ch : Fin 96) (l : Fin 128) : bia m c (ix2 ch l) = m ((c : Thread nD τ).loc main_arg4) (ix1 ch) :=
  bia_of m c (fun ch => m ((c : Thread nD τ).loc main_arg4) (ix1 ch)) (iblk4_apply m c p0) (ix2 ch l)

/-- All ones where a sum of flags is zero, else zero. -/
def ones (s : BitVec 32) : BitVec 32 := if s = 0 then 4294967295#32 else 0#32

/-- The same, as the kernel selects it. -/
theorem select_ones (s : BitVec 32) : Scalar.select (IntOp.cmpi .eq s 0#32) 4294967295#32 0#32 = ones s := by
  unfold ones
  by_cases h : s = 0
  · rw [if_pos h, h]; rfl
  · rw [if_neg h]
    have : IntOp.cmpi .eq s 0#32 = 0#1 := by
      show BitVec.ofBool (s == 0#32) = 0#1
      rw [show (s == 0#32) = false from beq_eq_false_iff_ne.mpr h]
      rfl
    rw [this]
    rfl

/-- A row of sums of flags as a row of masks. -/
def mrow (s : IVec S1x1536 32) : IVec S1x1536 32 :=
  select (cmpi .eq s (broadcast S1x1536 0#32)) (broadcast S1x1536 4294967295#32) (broadcast S1x1536 0#32)

theorem mrow_apply (s : IVec S1x1536 32) (b : Fin 1536) : shapeCast S1x1536 (mrow s) shapeCasts_S1x1536_S1x1536 (ix2 0 b) = ones (s (ix2 0 b)) := by
  rw [← select_ones]
  pointwise [mrow]

/-- Row `j` of the flags, as the first point loads it. -/
def frow (c : Dev nD) (j : Fin 7) : IVec S1x1536 32 :=
  View.readAt (Elt Ideal) (ms0_1 p0).view (Rect.unit (s := S8x1536) ![j.val, 0] S1x1536.size (by revert j; decide)).toLoadRect ((hs0_1 p0).unread (iblk m c 1 p0))

/-- A flag. -/
abbrev flag (c : Dev nD) (j : Fin 8) (b : Fin 1536) : BitVec 32 := m ((c : Thread nD τ).loc main_arg1) (ix2 j b)

theorem frow_apply (c : Dev nD) (j : Fin 7) (b : Fin 1536) : frow m c j (ix2 0 b) = flag m c ⟨j.val, by omega⟩ b := by
  unfold frow
  refine (Memref.IsWhole.readAt_unread _ _ _ _).trans ((congrArg (iblk m c 1 p0) ?_).trans (iblk1_apply m c p0 ⟨j.val, by omega⟩ b))
  funext a; refine Fin.ext ?_
  match a with
  | ⟨0, _⟩ => show j.val + 1 * 0 = j.val; omega
  | ⟨1, _⟩ => show 0 + 1 * b.val = b.val; omega

/-- The mask of row `j` of the scratch. -/
def maskAt (c : Dev nD) (j : ℕ) (b : Fin 1536) : BitVec 32 :=
  match j with
  | 0 => ones (flag m c 1 b + flag m c 2 b + flag m c 3 b)
  | 1 => ones (flag m c 2 b + flag m c 3 b)
  | 2 => ones (flag m c 3 b)
  | 3 => ones (flag m c 4 b + flag m c 5 b + flag m c 6 b)
  | 4 => ones (flag m c 5 b + flag m c 6 b)
  | 5 => ones (flag m c 6 b)
  | _ => 0#32

theorem maskAt_eq (c : Dev nD) (st : Fin 2) (k : Fin 3) (b : Fin 1536) :
    maskAt m c (3 * st.val + k.val) b = ones (Spec.later (flag m c) st ⟨k.val, by omega⟩ b) := by
  match st, k with
  | 0, 0 => rfl
  | 1, 0 => rfl
  | 0, 1 => show ones (flag m c 2 b + flag m c 3 b) = ones (0#32 + flag m c 2 b + flag m c 3 b); rw [BitVec.zero_add]
  | 1, 1 => show ones (flag m c 5 b + flag m c 6 b) = ones (0#32 + flag m c 5 b + flag m c 6 b); rw [BitVec.zero_add]
  | 0, 2 => show ones (flag m c 3 b) = ones (0#32 + 0#32 + flag m c 3 b); rw [BitVec.zero_add, BitVec.zero_add]
  | 1, 2 => show ones (flag m c 6 b) = ones (0#32 + 0#32 + flag m c 6 b); rw [BitVec.zero_add, BitVec.zero_add]

/-- The six stores into the mask scratch. -/
def mskL (c : Dev nD) : List (View.Piece (Elt Ideal) S8x1536 .i32) :=
  [⟨Rect.unit (s := S8x1536) ![5, 0] S1x1536.size inb_S8x1536_S1x1536_5_0, shapeCast S1x1536 (mrow (frow m c 6)) shapeCasts_S1x1536_S1x1536⟩,
   ⟨Rect.unit (s := S8x1536) ![2, 0] S1x1536.size inb_S8x1536_S1x1536_2_0, shapeCast S1x1536 (mrow (frow m c 3)) shapeCasts_S1x1536_S1x1536⟩,
   ⟨Rect.unit (s := S8x1536) ![4, 0] S1x1536.size inb_S8x1536_S1x1536_4_0, shapeCast S1x1536 (mrow (addi (frow m c 5) (frow m c 6))) shapeCasts_S1x1536_S1x1536⟩,
   ⟨Rect.unit (s := S8x1536) ![1, 0] S1x1536.size inb_S8x1536_S1x1536_1_0, shapeCast S1x1536 (mrow (addi (frow m c 2) (frow m c 3))) shapeCasts_S1x1536_S1x1536⟩,
   ⟨Rect.unit (s := S8x1536) ![3, 0] S1x1536.size inb_S8x1536_S1x1536_3_0, shapeCast S1x1536 (mrow (addi (addi (frow m c 4) (frow m c 5)) (frow m c 6))) shapeCasts_S1x1536_S1x1536⟩,
   ⟨Rect.unit (s := S8x1536) ![0, 0] S1x1536.size inb_S8x1536_S1x1536_0_0, shapeCast S1x1536 (mrow (addi (addi (frow m c 1) (frow m c 2)) (frow m c 3))) shapeCasts_S1x1536_S1x1536⟩]

theorem run0_msk (c : Dev nD) : (run0 m c).1 = mskL m c := rfl

/-- The mask scratch: all ones where no later frame starts an episode, else zero. -/
theorem msk_apply (c : Dev nD) (y : S8x1536.Idx) (hy : (y 0).val < 6) : msk m c y = maskAt m c (y 0).val (y 1) := by
  unfold msk
  refine View.read_writes_apply_of_pieces _ _ (fun y => maskAt m c (y 0).val (y 1)) _ ?_ y (cover_msk m c y hy)
  rw [run0_msk]
  have key : ∀ (r : ℕ) (inb) (s : IVec S1x1536 32), (∀ b, maskAt m c r b = ones (s (ix2 0 b))) →
      ∀ x : (Rect.unit (s := S8x1536) ![r, 0] S1x1536.size inb).shape.Idx, shapeCast S1x1536 (mrow s) shapeCasts_S1x1536_S1x1536 x
        = maskAt m c ((Rect.unit (s := S8x1536) ![r, 0] S1x1536.size inb).emb x 0).val ((Rect.unit (s := S8x1536) ![r, 0] S1x1536.size inb).emb x 1) := by
    intro r inb s hs x
    have h0 : (x 0).val < 1 := (x 0).isLt
    have h1 : (x 1).val < 1536 := (x 1).isLt
    have hx : (x : S1x1536.Idx) = ix2 0 (x 1) := by
      funext a; refine Fin.ext ?_
      match a with
      | ⟨0, _⟩ => show (x 0).val = 0; omega
      | ⟨1, _⟩ => rfl
    refine (congrArg _ hx).trans ((mrow_apply s (x 1)).trans ((hs (x 1)).symm.trans ?_))
    refine congrArg₂ (maskAt m c) ?_ (Fin.ext ?_)
    · show r = r + 1 * (x 0).val; omega
    · show (x 1).val = 0 + 1 * (x 1).val; omega
  unfold mskL
  intro pc hp
  simp only [List.mem_cons, List.not_mem_nil, or_false] at hp
  rcases hp with rfl | rfl | rfl | rfl | rfl | rfl
  · exact key 5 inb_S8x1536_S1x1536_5_0 _ fun b => by rw [frow_apply]; rfl
  · exact key 2 inb_S8x1536_S1x1536_2_0 _ fun b => by rw [frow_apply]; rfl
  · exact key 4 inb_S8x1536_S1x1536_4_0 _ fun b => by show _ = ones (frow m c 5 (ix2 0 b) + frow m c 6 (ix2 0 b)); rw [frow_apply, frow_apply]; rfl
  · exact key 1 inb_S8x1536_S1x1536_1_0 _ fun b => by show _ = ones (frow m c 2 (ix2 0 b) + frow m c 3 (ix2 0 b)); rw [frow_apply, frow_apply]; rfl
  · exact key 3 inb_S8x1536_S1x1536_3_0 _ fun b => by show _ = ones (frow m c 4 (ix2 0 b) + frow m c 5 (ix2 0 b) + frow m c 6 (ix2 0 b)); rw [frow_apply, frow_apply, frow_apply]; rfl
  · exact key 0 inb_S8x1536_S1x1536_0_0 _ fun b => by show _ = ones (frow m c 1 (ix2 0 b) + frow m c 2 (ix2 0 b) + frow m c 3 (ix2 0 b)); rw [frow_apply, frow_apply, frow_apply]; rfl

/-- A mask row as a load finds it. -/
theorem mk_apply (c : Dev nD) (st : Fin 2) (k : Fin 3) (b : Fin 1536) :
    mk m c ⟨3 * st.val + k.val, by omega⟩ (ix2 0 b) = ones (Spec.later (flag m c) st ⟨k.val, by omega⟩ b) := by
  refine (Memref.IsWhole.readAt_unread _ _ _ _).trans ((msk_apply m c _ (by show 3 * st.val + k.val + 1 * 0 < 6; omega)).trans ?_)
  rw [← maskAt_eq]
  refine congrArg₂ (maskAt m c) ?_ (Fin.ext ?_)
  · show 3 * st.val + k.val + 1 * 0 = 3 * st.val + k.val; omega
  · show 0 + 1 * b.val = b.val; omega

end Cert.KernelIdeal.Hand

end
-- ==== Proof.KernelIdealPix.lean ====
/- What the pixel scratch holds, over the extended reals: the pixels of the masked stacks. -/
module

public import proofs.«01_k».proof.Proof.KernelIdealScratch
public import Idealize.ShloMosaic.Lib.BitcastPair

@[expose] public section

set_option maxRecDepth 65536

noncomputable section

namespace Cert.KernelIdeal.Hand

open Idealize.ShloMosaic Idealize.ShloMosaic.TcCoe Idealize.SL.Sem Cert.KernelIdeal Cert.KernelIdeal.Gen
open Idealize.ShloMosaic.Pipeline (Dat)

/-- Eight bits of a word, from its bit `8 * l` on, are its byte `l`. -/
theorem toNat_of_bits (v : BitVec 8) (w : BitVec 32) (l : ℕ) (h : ∀ i < 8, v.getLsbD i = w.getLsbD (8 * l + i)) :
    v.toNat = Spec.byteOf w l := by
  have e : v = BitVec.extractLsb' (8 * l) 8 w := by
    refine BitVec.eq_of_getLsbD_eq fun i hi => ?_
    rw [h i hi, BitVec.getLsbD_extractLsb']
    simp [hi]
  rw [e, BitVec.extractLsb'_toNat, Nat.shiftRight_eq_div_pow]
  rfl

/-- The bytes of eight rows of words: row `q` is byte `q % 4` of the word in row `q / 4`. -/
theorem bitcast8 (x : IVec S8x1536 32) (q : Fin 32) (b : Fin 1536) :
    (bitcast S32x1536 8 x bitcasts_S8x1536_w32_S32x1536_w8 (ix2 q b)).toNat = Spec.byteOf (x (ix2 ⟨q.val / 4, by omega⟩ b)) (q.val % 4) := by
  refine toNat_of_bits _ _ _ fun i hi => ?_
  refine (bitcast_getLsbD x bitcasts_S8x1536_w32_S32x1536_w8 (ix2 q b) i hi (by decide)).trans ?_
  have hr : (S32x1536.row (ix2 q b) * 8 + i) / 32 = q.val / 4 := by show (q.val * 8 + i) / 32 = q.val / 4; omega
  have hm : (S32x1536.row (ix2 q b) * 8 + i) % 32 = 8 * (q.val % 4) + i := by show (q.val * 8 + i) % 32 = _; omega
  rw [hm]
  refine congrArg (fun z => (x z).getLsbD _) ?_
  funext a; refine Fin.ext ?_
  match a with
  | ⟨0, _⟩ => exact hr
  | ⟨1, _⟩ => rfl

/-- The bytes of four rows of words. -/
theorem bitcast4 (x : IVec S4x1536 32) (q : Fin 16) (b : Fin 1536) :
    (bitcast S16x1536 8 x bitcasts_S4x1536_w32_S16x1536_w8 (ix2 q b)).toNat = Spec.byteOf (x (ix2 ⟨q.val / 4, by omega⟩ b)) (q.val % 4) := by
  refine toNat_of_bits _ _ _ fun i hi => ?_
  refine (bitcast_getLsbD x bitcasts_S4x1536_w32_S16x1536_w8 (ix2 q b) i hi (by decide)).trans ?_
  have hr : (S16x1536.row (ix2 q b) * 8 + i) / 32 = q.val / 4 := by show (q.val * 8 + i) / 32 = q.val / 4; omega
  have hm : (S16x1536.row (ix2 q b) * 8 + i) % 32 = 8 * (q.val % 4) + i := by show (q.val * 8 + i) % 32 = _; omega
  rw [hm]
  refine congrArg (fun z => (x z).getLsbD _) ?_
  funext a; refine Fin.ext ?_
  match a with
  | ⟨0, _⟩ => exact hr
  | ⟨1, _⟩ => rfl

/-- A natural number as a value. -/
abbrev val (n : ℕ) : EReal := ((n : ℝ) : EReal)

/-- A masked word's byte. -/
theorem byteOf_mask (w s : BitVec 32) (l : ℕ) : val (Spec.byteOf (w &&& ones s) l) = if s = 0 then val (Spec.byteOf w l) else 0 := by
  unfold ones
  split
  · rw [show (4294967295#32 : BitVec 32) = BitVec.allOnes 32 from rfl, BitVec.and_allOnes]
  · rw [BitVec.and_zero]
    have : Spec.byteOf 0#32 l = 0 := by show 0 / 2 ^ (8 * l) % 256 = 0; rw [Nat.zero_div]
    rw [this]; simp

/-- Row `q` of column `r` of frame `k` of stack `st`: a byte of the words `W` of the frames, kept where the sum `L` of flags is zero. -/
def pix (W : Fin 7 → Fin 84 → Fin 1536 → BitVec 32) (L : Fin 2 → Fin 4 → Fin 1536 → BitVec 32)
    (st : Fin 2) (r : Fin 21) (k : Fin 4) (q : Fin 16) (b : Fin 1536) : EReal :=
  if L st k b = 0 then val (Spec.byteOf (W ⟨3 * st.val + k.val, by omega⟩ ⟨4 * r.val + q.val / 4, by omega⟩ b) (q.val % 4)) else 0

/-- The word of which the pixels take the bytes. -/
def word (v : BitVec 32) (mk : BitVec 32) (k : Fin 4) : BitVec 32 := if k.val < 3 then v &&& mk else v

theorem px8_apply (v : IVec S1x1x8x1536 32) (mk : IVec S1x1536 32) (k : Fin 4) (q : Fin 32) (b : Fin 1536) :
    px8 (F := Ideal) v mk k (ix2 q b) = val (Spec.byteOf (word (v (ix4 0 0 ⟨q.val / 4, by omega⟩ b)) (mk (ix2 0 b)) k) (q.val % 4)) := by
  have e : (if k.val < 3 then andi (shapeCast S8x1536 v shapeCasts_S1x1x8x1536_S8x1536) (broadcastTo S8x1536 mk broadcasts_S1x1536_S8x1536)
      else shapeCast S8x1536 v shapeCasts_S1x1x8x1536_S8x1536) (ix2 ⟨q.val / 4, by omega⟩ b) = word (v (ix4 0 0 ⟨q.val / 4, by omega⟩ b)) (mk (ix2 0 b)) k := by
    unfold word
    split
    · pointwise; rfl
    · pointwise
  rw [← e, ← bitcast8]
  rfl

theorem px4_apply (v : IVec S1x1x4x1536 32) (mk : IVec S1x1536 32) (k : Fin 4) (q : Fin 16) (b : Fin 1536) :
    px4 (F := Ideal) v mk k (ix2 q b) = val (Spec.byteOf (word (v (ix4 0 0 ⟨q.val / 4, by omega⟩ b)) (mk (ix2 0 b)) k) (q.val % 4)) := by
  have e : (if k.val < 3 then andi (shapeCast S4x1536 v shapeCasts_S1x1x4x1536_S4x1536) (broadcastTo S4x1536 mk broadcasts_S1x1536_S4x1536)
      else shapeCast S4x1536 v shapeCasts_S1x1x4x1536_S4x1536) (ix2 ⟨q.val / 4, by omega⟩ b) = word (v (ix4 0 0 ⟨q.val / 4, by omega⟩ b)) (mk (ix2 0 b)) k := by
    unfold word
    split
    · pointwise; rfl
    · pointwise
  rw [← e, ← bitcast4]
  rfl

section Pieces

variable (i : grid0.Coords) (rd : Fin 7 → Fin 10 → IVec S1x1x8x1536 32) (rd' : Fin 7 → IVec S1x1x4x1536 32) (mk : Fin 7 → IVec S1x1536 32)
  (W : Fin 7 → Fin 84 → Fin 1536 → BitVec 32) (L : Fin 2 → Fin 4 → Fin 1536 → BitVec 32)

/-- The mask of each older frame is `ones` of its sum, and the newest frame's sum is zero. -/
def Masks : Prop := (∀ (st : Fin 2) (k : Fin 3) (b : Fin 1536), mk ⟨3 * st.val + k.val, by omega⟩ (ix2 0 b) = ones (L st ⟨k.val, by omega⟩ b))
  ∧ ∀ (st : Fin 2) (b : Fin 1536), L st 3 b = 0

variable {mk L}

theorem word_val (hm : Masks mk L) (w : BitVec 32) (st : Fin 2) (k : Fin 4) (b : Fin 1536) (l : ℕ) :
    val (Spec.byteOf (word w (mk ⟨3 * st.val + k.val, by omega⟩ (ix2 0 b)) k) l) = if L st k b = 0 then val (Spec.byteOf w l) else 0 := by
  unfold word
  by_cases hk : k.val < 3
  · rw [if_pos hk, hm.1 st ⟨k.val, hk⟩ b, byteOf_mask]
  · rw [if_neg hk, show k = 3 from Fin.ext (by show k.val = 3; omega), if_pos (hm.2 st b)]

variable {rd rd' W}

/-- What a pair's piece holds. -/
theorem piece8_val (hm : Masks mk L) (hrd : ∀ j p (r : Fin 8) b, rd j p (ix4 0 0 r b) = W j ⟨8 * p.val + r.val, by omega⟩ b)
    (p : Fin 10) (st : Fin 2) (k : Fin 4) (h : Fin 2) (q : Fin 16) (b : Fin 1536) :
    shapeCast S1x16x1536 (match h with
    | 0 => extractStridedSlice S16x1536 ![0, 0] (px8 (F := Ideal) (rd ⟨3 * st.val + k.val, by omega⟩ p) (mk ⟨3 * st.val + k.val, by omega⟩) k) slices_S32x1536_o0_0_S16x1536
    | 1 => extractStridedSlice S16x1536 ![16, 0] (px8 (F := Ideal) (rd ⟨3 * st.val + k.val, by omega⟩ p) (mk ⟨3 * st.val + k.val, by omega⟩) k) slices_S32x1536_o16_0_S16x1536) shapeCasts_S16x1536_S1x16x1536 (ix3 0 q b)
      = pix W L st ⟨2 * p.val + h.val, by omega⟩ k q b := by
  unfold pix
  rw [← word_val hm]
  match h with
  | 0 =>
    have e : shapeCast S1x16x1536 (extractStridedSlice S16x1536 ![0, 0] (px8 (F := Ideal) (rd ⟨3 * st.val + k.val, by omega⟩ p) (mk ⟨3 * st.val + k.val, by omega⟩) k) slices_S32x1536_o0_0_S16x1536) shapeCasts_S16x1536_S1x16x1536 (ix3 0 q b)
        = px8 (F := Ideal) (rd ⟨3 * st.val + k.val, by omega⟩ p) (mk ⟨3 * st.val + k.val, by omega⟩) k (ix2 ⟨q.val, by omega⟩ b) := by pointwise
    refine e.trans ((px8_apply _ _ _ _ _).trans ?_)
    rw [hrd]
    refine congrArg (fun z : Fin 84 => val (Spec.byteOf (word (W _ z b) _ k) (q.val % 4))) (Fin.ext ?_)
    show 8 * p.val + q.val / 4 = 4 * (2 * p.val + 0) + q.val / 4; omega
  | 1 =>
    have e : shapeCast S1x16x1536 (extractStridedSlice S16x1536 ![16, 0] (px8 (F := Ideal) (rd ⟨3 * st.val + k.val, by omega⟩ p) (mk ⟨3 * st.val + k.val, by omega⟩) k) slices_S32x1536_o16_0_S16x1536) shapeCasts_S16x1536_S1x16x1536 (ix3 0 q b)
        = px8 (F := Ideal) (rd ⟨3 * st.val + k.val, by omega⟩ p) (mk ⟨3 * st.val + k.val, by omega⟩) k (ix2 ⟨16 + q.val, by omega⟩ b) := by pointwise
    refine e.trans ((px8_apply _ _ _ _ _).trans ?_)
    rw [hrd]
    refine congrArg₂ (fun (z : Fin 84) (l : ℕ) => val (Spec.byteOf (word (W _ z b) _ k) l)) (Fin.ext ?_) ?_
    · show 8 * p.val + (16 + q.val) / 4 = 4 * (2 * p.val + 1) + q.val / 4; omega
    · show (16 + q.val) % 4 = q.val % 4; omega

/-- What the last column's piece holds. -/
theorem piece4_val (hm : Masks mk L) (hrd : ∀ j (r : Fin 4) b, rd' j (ix4 0 0 r b) = W j ⟨80 + r.val, by omega⟩ b)
    (st : Fin 2) (k : Fin 4) (q : Fin 16) (b : Fin 1536) :
    shapeCast S1x16x1536 (px4 (F := Ideal) (rd' ⟨3 * st.val + k.val, by omega⟩) (mk ⟨3 * st.val + k.val, by omega⟩) k) shapeCasts_S16x1536_S1x16x1536 (ix3 0 q b)
      = pix W L st 20 k q b := by
  unfold pix
  rw [← word_val hm]
  have e : shapeCast S1x16x1536 (px4 (F := Ideal) (rd' ⟨3 * st.val + k.val, by omega⟩) (mk ⟨3 * st.val + k.val, by omega⟩) k) shapeCasts_S16x1536_S1x16x1536 (ix3 0 q b)
      = px4 (F := Ideal) (rd' ⟨3 * st.val + k.val, by omega⟩) (mk ⟨3 * st.val + k.val, by omega⟩) k (ix2 q b) := by pointwise
  refine e.trans ((px4_apply _ _ _ _ _).trans ?_)
  rw [hrd]
  rfl

/-- The pixel scratch by stack, row and batch entry. -/
def pixAt (W : Fin 7 → Fin 84 → Fin 1536 → BitVec 32) (L : Fin 2 → Fin 4 → Fin 1536 → BitVec 32) (y : S2x2688x1536.Idx) : EReal :=
  pix W L (y 0) ⟨(y 1).val / 128, by have : (y 1).val < 2688 := (y 1).isLt; omega⟩ ⟨(y 1).val % 64 / 16, by omega⟩ ⟨(y 1).val % 16, by omega⟩ (y 2)

/-- A piece of sixteen rows agrees with `pixAt`. -/
theorem rows_val (off : Fin 3 → ℕ) (inb) (st : Fin 2) (r : Fin 21) (k : Fin 4) (n : ℕ) (h : off = ![st.val, 128 * r.val + 64 * (n % 2) + 16 * k.val, 0])
    (w : S1x16x1536.Idx → EReal) (hw : ∀ (q : Fin 16) (b : Fin 1536), w (ix3 0 q b) = pix W L st r k q b)
    (x : (Rect.unit (s := S2x2688x1536) off ![1, 16, 1536] inb).shape.Idx) :
    w x = pixAt W L ((Rect.unit (s := S2x2688x1536) off ![1, 16, 1536] inb).emb x) := by
  subst h
  have h0 : (x 0).val < 1 := (x 0).isLt
  have h1 : (x 1).val < 16 := (x 1).isLt
  have hx : (x : S1x16x1536.Idx) = ix3 0 (x 1) (x 2) := by
    funext a; refine Fin.ext ?_
    match a with
    | ⟨0, _⟩ => show (x 0).val = 0; omega
    | ⟨1, _⟩ => rfl
    | ⟨2, _⟩ => rfl
  refine (congrArg w hx).trans ((hw (x 1) (x 2)).trans ?_)
  unfold pixAt
  have e0 : (Rect.unit (s := S2x2688x1536) ![st.val, 128 * r.val + 64 * (n % 2) + 16 * k.val, 0] ![1, 16, 1536] inb).emb x 0 = st :=
    Fin.ext (by show st.val + 1 * (x 0).val = st.val; omega)
  have e1 : ((Rect.unit (s := S2x2688x1536) ![st.val, 128 * r.val + 64 * (n % 2) + 16 * k.val, 0] ![1, 16, 1536] inb).emb x 1).val
      = 128 * r.val + 64 * (n % 2) + 16 * k.val + (x 1).val := by
    show 128 * r.val + 64 * (n % 2) + 16 * k.val + 1 * (x 1).val = _; omega
  have e2 : (Rect.unit (s := S2x2688x1536) ![st.val, 128 * r.val + 64 * (n % 2) + 16 * k.val, 0] ![1, 16, 1536] inb).emb x 2 = x 2 :=
    Fin.ext (by show 0 + 1 * (x 2).val = (x 2).val; omega)
  rw [e0, e2]
  congr 1
  · exact Fin.ext (by show r.val = _ / 128; rw [e1]; omega)
  · exact Fin.ext (by show k.val = _ % 64 / 16; rw [e1]; omega)
  · exact Fin.ext (by show (x 1).val = _ % 16; rw [e1]; omega)

/-- Every piece of a point agrees with `pixAt`. -/
theorem pieces_val (hm : Masks mk L) (hrd : ∀ j p (r : Fin 8) b, rd j p (ix4 0 0 r b) = W j ⟨8 * p.val + r.val, by omega⟩ b)
    (hrd' : ∀ j (r : Fin 4) b, rd' j (ix4 0 0 r b) = W j ⟨80 + r.val, by omega⟩ b) :
    ∀ pc ∈ pieces (F := Ideal) i rd rd' mk, ∀ x : pc.1.shape.Idx, pc.2 x = pixAt W L (pc.1.emb x) := by
  intro pc hpc
  rcases (mem_pieces ..).mp hpc with ⟨st, k, rfl⟩ | ⟨p, st, k, h, rfl⟩
  · have v := piece4_val hm hrd' st k
    match st with
    | 0 => exact rows_val _ (k0_off1_inb i 20 k) 0 20 k (i 0).val (off1_eq i 20 k) _ v
    | 1 => exact rows_val _ (k0_off2_inb i 20 k) 1 20 k (i 0).val (off2_eq i 20 k) _ v
  · have v := piece8_val hm hrd p st k h
    match st with
    | 0 => exact rows_val _ (k0_off1_inb i ⟨2 * p.val + h.val, by omega⟩ k) 0 ⟨2 * p.val + h.val, by omega⟩ k (i 0).val (off1_eq i ⟨2 * p.val + h.val, by omega⟩ k) _ v
    | 1 => exact rows_val _ (k0_off2_inb i ⟨2 * p.val + h.val, by omega⟩ k) 1 ⟨2 * p.val + h.val, by omega⟩ k (i 0).val (off2_eq i ⟨2 * p.val + h.val, by omega⟩ k) _ v

end Pieces

variable (m : (ℓ : Loc nD τ sig) → Buf (Elt Ideal) ℓ)

/-- A word of the gathered frames. -/
abbrev gword (c : Dev nD) (a : Fin 21) (j : Fin 7) (r : Fin 84) (b : Fin 1536) : BitVec 32 := m ((c : Thread nD τ).loc main_arg0) (ix4 a j r b)

theorem masks (c : Dev nD) : Masks (mk m c) (Spec.later (flag m c)) :=
  ⟨mk_apply m c, fun st b => by show 0#32 + 0#32 + 0#32 = 0#32; rfl⟩

theorem rd8_apply (c : Dev nD) (t : Fin cfg0.N) (ht : t.val < 21) (j : Fin 7) (p : Fin 10) (r : Fin 8) (b : Fin 1536) :
    rd8 (ms0_0 t) (hs0_0 t) (iblk m c 0 t) j p (ix4 0 0 r b) = gword m c ⟨t.val, ht⟩ j ⟨8 * p.val + r.val, by omega⟩ b := by
  refine (Memref.IsWhole.readAt_unread (hs0_0 t) (iblk m c 0 t) _ _).trans ?_
  refine (congrArg (iblk m c 0 t) ?_).trans (iblk0_apply m c t ht j ⟨8 * p.val + r.val, by omega⟩ b)
  funext a; refine Fin.ext ?_
  match a with
  | ⟨0, _⟩ => rfl
  | ⟨1, _⟩ => show j.val + 1 * 0 = j.val; omega
  | ⟨2, _⟩ => show 8 * p.val + 1 * r.val = 8 * p.val + r.val; omega
  | ⟨3, _⟩ => show 0 + 1 * b.val = b.val; omega

theorem rd4_apply (c : Dev nD) (t : Fin cfg0.N) (ht : t.val < 21) (j : Fin 7) (r : Fin 4) (b : Fin 1536) :
    rd4 (ms0_0 t) (hs0_0 t) (iblk m c 0 t) j (ix4 0 0 r b) = gword m c ⟨t.val, ht⟩ j ⟨80 + r.val, by omega⟩ b := by
  refine (Memref.IsWhole.readAt_unread (hs0_0 t) (iblk m c 0 t) _ _).trans ?_
  refine (congrArg (iblk m c 0 t) ?_).trans (iblk0_apply m c t ht j ⟨80 + r.val, by omega⟩ b)
  funext a; refine Fin.ext ?_
  match a with
  | ⟨0, _⟩ => rfl
  | ⟨1, _⟩ => show j.val + 1 * 0 = j.val; omega
  | ⟨2, _⟩ => show 80 + 1 * r.val = 80 + r.val; omega
  | ⟨3, _⟩ => show 0 + 1 * b.val = b.val; omega

/-- The rows of a point's slot hold the pixels of its block of rows. -/
theorem PX_apply (c : Dev nD) (t : Fin cfg0.N) (ht : t.val < 21) (y : S2x2688x1536.Idx) (h : slot y = t.val % 2) :
    PX m c t y = pixAt (gword m c ⟨t.val, ht⟩) (Spec.later (flag m c)) y := by
  unfold PX
  refine View.read_writes_apply_of_pieces _ _ _ _ ?_ y (covered _ _ _ _ y (h.trans (by rw [coords_val])))
  exact pieces_val _ (masks m c) (rd8_apply m c t ht) (rd4_apply m c t ht)

/-- Row `n` of the window at column `ox`, of a stack's pixels. -/
theorem pixAt_px (c : Dev nD) (a : Fin 21) (st : Fin 2) (row : Fin 2688) (b : Fin 1536) :
    pixAt (gword m c a) (Spec.later (flag m c)) (ix3 st row b)
      = Spec.px (gword m c) (flag m c) st ⟨4 * a.val + row.val % 16 / 4, by omega⟩ ⟨4 * (row.val / 128) + row.val % 4, by omega⟩ ⟨row.val % 64 / 16, by omega⟩ b := by
  unfold pixAt pix Spec.px
  refine if_congr Iff.rfl ?_ rfl
  have e1 : (⟨(4 * a.val + row.val % 16 / 4) / 4, by omega⟩ : Fin 21) = a := Fin.ext (by show (4 * a.val + row.val % 16 / 4) / 4 = a.val; omega)
  have e2 : (⟨(4 * (row.val / 128) + row.val % 4) / 4 * 4 + (4 * a.val + row.val % 16 / 4) % 4, by omega⟩ : Fin 84) = ⟨4 * (row.val / 128) + row.val % 16 / 4, by omega⟩ :=
    Fin.ext (by show (4 * (row.val / 128) + row.val % 4) / 4 * 4 + (4 * a.val + row.val % 16 / 4) % 4 = 4 * (row.val / 128) + row.val % 16 / 4; omega)
  have e3 : (4 * (row.val / 128) + row.val % 4) % 4 = row.val % 16 % 4 := by omega
  show val (Spec.byteOf (gword m c a _ ⟨4 * (row.val / 128) + row.val % 16 / 4, _⟩ b) (row.val % 16 % 4)) = val (Spec.byteOf (gword m c ⟨(4 * a.val + row.val % 16 / 4) / 4, _⟩ _ ⟨(4 * (row.val / 128) + row.val % 4) / 4 * 4 + (4 * a.val + row.val % 16 / 4) % 4, _⟩ b) ((4 * (row.val / 128) + row.val % 4) % 4))
  rw [e1, e2, e3]
  rfl

end Cert.KernelIdeal.Hand

end
-- ==== Proof.KernelIdealTrip.lean ====
/- What a point after the first leaves in the outputs' blocks, over the extended reals: one row of features. -/
module

public import proofs.«01_k».proof.Proof.KernelIdealPix

@[expose] public section

set_option maxRecDepth 65536

noncomputable section

namespace Cert.KernelIdeal.Hand

open Idealize.ShloMosaic Idealize.ShloMosaic.TcCoe Idealize.SL.Sem Cert.KernelIdeal Cert.KernelIdeal.Gen
open Idealize.ShloMosaic.Pipeline (Dat)

/-- A column of scales or biases, repeated over the batch. -/
theorem pay3_apply (v : FVec Ideal S96x128 .f32) (c : Fin 96) (b : Fin 1536) : k0_pay3 (F := Ideal) v (ix2 c b) = v (ix2 c ⟨b.val % 128, by omega⟩) := by
  refine concatenate_replicate_apply (t := S96x1536) (s₁ := S96x128) 1 12 v
    concatenates_S96x128_S96x128_S96x128_S96x128_S96x128_S96x128_S96x128_S96x128_S96x128_S96x128_S96x128_S96x128_S96x1536_d1 rfl (ix2 c b) (ix2 c ⟨b.val % 128, by omega⟩) rfl fun a ha => ?_
  match a with
  | ⟨0, _⟩ => rfl
  | ⟨1, _⟩ => exact absurd rfl ha

theorem pay4_apply (v : FVec Ideal S96x128 .f32) (c : Fin 96) (b : Fin 1536) : k0_pay4 (F := Ideal) v (ix2 c b) = v (ix2 c ⟨b.val % 128, by omega⟩) :=
  pay3_apply v c b

/-- One column of the first output: the weights against a window's rows, scaled, shifted and cut at zero. -/
theorem pay5_apply (w : FVec Ideal S1x96x256 .bf16) (sc bi : FVec Ideal S96x128 .f32) (x : FVec Ideal S1x256x1536 .bf16) (c : Fin 96) (b : Fin 1536) :
    k0_pay5 (F := Ideal) w sc bi x (ix4 0 0 c b)
      = max ((∑ n : Fin 256, w (ix3 0 c n) * x (ix3 0 n b)) * sc (ix2 c ⟨b.val % 128, by omega⟩) + bi (ix2 c ⟨b.val % 128, by omega⟩)) (0 : EReal) := by
  rw [← pay3_apply sc, ← pay4_apply bi]
  pointwise [k0_pay5, k0_pay2]

/-- The same of the second output. -/
theorem pay6_apply (w : FVec Ideal S1x96x256 .bf16) (sc bi : FVec Ideal S96x128 .f32) (x : FVec Ideal S1x256x1536 .bf16) (c : Fin 96) (b : Fin 1536) :
    k0_pay6 (F := Ideal) w sc bi x (ix4 0 0 c b)
      = max ((∑ n : Fin 256, w (ix3 0 c n) * x (ix3 0 n b)) * sc (ix2 c ⟨b.val % 128, by omega⟩) + bi (ix2 c ⟨b.val % 128, by omega⟩)) (0 : EReal) :=
  pay5_apply w sc bi x c b

/-- Where the loads and stores of the loop over the columns lie. -/
theorem off4_eq : ∀ k : Fin k0_t1_loop.trips, k0_off4 k = ![0, 128 * k.val, 0] := by decide +kernel
theorem off6_eq : ∀ k : Fin k0_t1_loop.trips, k0_off6 k = ![1, 128 * k.val, 0] := by decide +kernel
theorem off5_eq : ∀ k : Fin k0_t1_loop.trips, k0_off5 k = ![0, k.val, 0, 0] := by decide +kernel
theorem off3_eq : ∀ t : Fin grid0.N, k0_off3 (grid0.coords t) = ![(t.val + 1) % 2, 0, 0] := by decide +kernel

variable (m : (ℓ : Loc nD τ sig) → Buf (Elt Ideal) ℓ)

/-- The weights, the scale and the bias as a point loads them. -/
abbrev wl (c : Dev nD) (t : Fin cfg0.N) (h : 1 ≤ t.val) : FVec Ideal S1x96x256 .bf16 :=
  View.readAt (Elt Ideal) scM0_2.view (Rect.unit (s := S2x96x256) (k0_off3 (grid0.coords t)) S1x96x256.size (k0_off3_inb (grid0.coords t) ((hcond0_1 t).mpr h))).toLoadRect ((Memref.isWhole_whole _ : scM0_2.IsWhole).unread (wts m c))
abbrev sl (c : Dev nD) : FVec Ideal S96x128 .f32 :=
  View.readAt (Elt Ideal) scM0_3.view (Rect.unit (s := S96x128) ![0, 0] S96x128.size inb_S96x128_S96x128_0_0).toLoadRect ((Memref.isWhole_whole _ : scM0_3.IsWhole).unread (scl m c))
abbrev bl (c : Dev nD) : FVec Ideal S96x128 .f32 :=
  View.readAt (Elt Ideal) scM0_4.view (Rect.unit (s := S96x128) ![0, 0] S96x128.size inb_S96x128_S96x128_0_0).toLoadRect ((Memref.isWhole_whole _ : scM0_4.IsWhole).unread (bia m c))

/-- The pieces of the columns before `k`. -/
abbrev before (c : Dev nD) (t : Fin cfg0.N) (h : 1 ≤ t.val) (X : scM0_0.view.ty.Contents (Elt Ideal)) (k : ℕ) :
    List (View.Piece (Elt Ideal) S1x20x96x1536 .bf16) × List (View.Piece (Elt Ideal) S1x20x96x1536 .bf16) :=
  pb_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_1 t).mpr h) (wl m c t h) (sl m c) (bl m c) X k

/-- The pieces of column `k`. -/
abbrev column (c : Dev nD) (t : Fin cfg0.N) (h : 1 ≤ t.val) (X : scM0_0.view.ty.Contents (Elt Ideal)) (k : Fin k0_t1_loop.trips) :
    List (View.Piece (Elt Ideal) S1x20x96x1536 .bf16) × List (View.Piece (Elt Ideal) S1x20x96x1536 .bf16) :=
  tripL_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_1 t).mpr h) (wl m c t h) (sl m c) (bl m c) X k

theorem outL_eq (c : Dev nD) (t : Fin cfg0.N) (h : 1 ≤ t.val) :
    outL m c t h = before m c t h ((Memref.isWhole_whole _ : scM0_0.IsWhole).unread (XX m c t)) k0_t1_loop.trips := rfl

theorem before_succ (c : Dev nD) (t : Fin cfg0.N) (h : 1 ≤ t.val) (X : scM0_0.view.ty.Contents (Elt Ideal)) (k : Fin k0_t1_loop.trips) :
    before m c t h X (k.val + 1) = ((column m c t h X k).1 ++ (before m c t h X k.val).1, (column m c t h X k).2 ++ (before m c t h X k.val).2) :=
  pb_k0_t1_succ (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_1 t).mpr h) (wl m c t h) (sl m c) (bl m c) X k

/-- A window's rows of the first stack, and of the second. -/
abbrev xl0 (t : Fin cfg0.N) (h : 1 ≤ t.val) (X : scM0_0.view.ty.Contents (Elt Ideal)) (k : Fin k0_t1_loop.trips) : FVec Ideal S1x256x1536 .bf16 :=
  View.readAt (Elt Ideal) scM0_0.view (Rect.unit (s := S2x2688x1536) (k0_off4 k) S1x256x1536.size (k0_off4_inb (grid0.coords t) k ((hcond0_1 t).mpr h))).toLoadRect X
abbrev xl1 (t : Fin cfg0.N) (h : 1 ≤ t.val) (X : scM0_0.view.ty.Contents (Elt Ideal)) (k : Fin k0_t1_loop.trips) : FVec Ideal S1x256x1536 .bf16 :=
  View.readAt (Elt Ideal) scM0_0.view (Rect.unit (s := S2x2688x1536) (k0_off6 k) S1x256x1536.size (k0_off6_inb (grid0.coords t) k ((hcond0_1 t).mpr h))).toLoadRect X

theorem column_1 (c : Dev nD) (t : Fin cfg0.N) (h : 1 ≤ t.val) (X : scM0_0.view.ty.Contents (Elt Ideal)) (k : Fin k0_t1_loop.trips) :
    (column m c t h X k).1 = ([⟨Rect.unit (s := S1x20x96x1536) (k0_off5 k) S1x1x96x1536.size (k0_off5_inb (grid0.coords t) k ((hcond0_1 t).mpr h)),
      k0_pay5 (F := Ideal) (wl m c t h) (sl m c) (bl m c) (xl0 t h X k)⟩] : List (View.Piece (Elt Ideal) S1x20x96x1536 .bf16)) := by
  unfold column tripL_k0_t1 trip_k0_t1
  rfl

theorem column_2 (c : Dev nD) (t : Fin cfg0.N) (h : 1 ≤ t.val) (X : scM0_0.view.ty.Contents (Elt Ideal)) (k : Fin k0_t1_loop.trips) :
    (column m c t h X k).2 = ([⟨Rect.unit (s := S1x20x96x1536) (k0_off5 k) S1x1x96x1536.size (k0_off5_inb (grid0.coords t) k ((hcond0_1 t).mpr h)),
      k0_pay6 (F := Ideal) (wl m c t h) (sl m c) (bl m c) (xl1 t h X k)⟩] : List (View.Piece (Elt Ideal) S1x20x96x1536 .bf16)) := by
  unfold column tripL_k0_t1 trip_k0_t1
  rfl

/-- The channel's scale and bias, and its weights in the point's order. -/
theorem sl_apply (c : Dev nD) (ch : Fin 96) (l : Fin 128) : sl m c (ix2 ch l) = m ((c : Thread nD τ).loc main_arg3) (ix1 ch) := by
  refine (Memref.IsWhole.readAt_unread _ (scl m c) _ _).trans ((congrArg (scl m c) ?_).trans (scl_apply m c ch l))
  funext a; refine Fin.ext ?_
  match a with
  | ⟨0, _⟩ => show 0 + 1 * ch.val = ch.val; omega
  | ⟨1, _⟩ => show 0 + 1 * l.val = l.val; omega
theorem bl_apply (c : Dev nD) (ch : Fin 96) (l : Fin 128) : bl m c (ix2 ch l) = m ((c : Thread nD τ).loc main_arg4) (ix1 ch) := by
  refine (Memref.IsWhole.readAt_unread _ (bia m c) _ _).trans ((congrArg (bia m c) ?_).trans (bia_apply m c ch l))
  funext a; refine Fin.ext ?_
  match a with
  | ⟨0, _⟩ => show 0 + 1 * ch.val = ch.val; omega
  | ⟨1, _⟩ => show 0 + 1 * l.val = l.val; omega

/-- A rectangle's index, by its coordinates. -/
theorem unit_idx3 (n0 n1 n2 : ℕ) (off : Fin 3 → ℕ) (o0 o1 : ℕ) (h : off = ![o0, o1, 0]) (a1 a2 : ℕ) (inb) (i : Fin a1) (j : Fin a2)
    (h0 : o0 < n0) (h1 : o1 + i.val < n1) (h2 : j.val < n2) :
    (Rect.unit (s := ⟨3, ![n0, n1, n2]⟩) off ![1, a1, a2] inb).emb (ix3 0 i j) = ix3 ⟨o0, h0⟩ ⟨o1 + i.val, h1⟩ ⟨j.val, h2⟩ := by
  subst h
  funext a; refine Fin.ext ?_
  match a with
  | ⟨0, _⟩ => show o0 + 1 * 0 = o0; omega
  | ⟨1, _⟩ => show o1 + 1 * i.val = o1 + i.val; omega
  | ⟨2, _⟩ => show 0 + 1 * j.val = j.val; omega

theorem wl_apply (c : Dev nD) (t : Fin cfg0.N) (h : 1 ≤ t.val) (ch : Fin 96) (n : Fin 256) :
    wl m c t h (ix3 0 ch n) = arranged (F := Ideal) (m ((c : Thread nD τ).loc main_arg2)) (ix3 ⟨(t.val + 1) % 2, by omega⟩ ch n) := by
  rw [← wts_apply]
  refine (Memref.IsWhole.readAt_unread _ (wts m c) _ _).trans (congrArg (wts m c) ?_)
  refine (unit_idx3 2 96 256 _ _ 0 (off3_eq t) 96 256 _ ch n (by omega) (by omega) n.isLt).trans ?_
  exact congrArg (fun z => ix3 _ z n) (Fin.ext (Nat.zero_add _))

theorem xl0_apply (c : Dev nD) (t : Fin cfg0.N) (h : 1 ≤ t.val) (k : Fin k0_t1_loop.trips) (hk : k.val < 20) (n : Fin 256) (b : Fin 1536) :
    xl0 t h ((Memref.isWhole_whole _ : scM0_0.IsWhole).unread (XX m c t)) k (ix3 0 n b) = XX m c t (ix3 0 ⟨128 * k.val + n.val, by omega⟩ b) :=
  (Memref.IsWhole.readAt_unread _ (XX m c t) _ _).trans (congrArg (XX m c t)
    (unit_idx3 2 2688 1536 _ 0 _ (off4_eq k) 256 1536 _ n b (by omega) (by omega) b.isLt))
theorem xl1_apply (c : Dev nD) (t : Fin cfg0.N) (h : 1 ≤ t.val) (k : Fin k0_t1_loop.trips) (hk : k.val < 20) (n : Fin 256) (b : Fin 1536) :
    xl1 t h ((Memref.isWhole_whole _ : scM0_0.IsWhole).unread (XX m c t)) k (ix3 0 n b) = XX m c t (ix3 1 ⟨128 * k.val + n.val, by omega⟩ b) :=
  (Memref.IsWhole.readAt_unread _ (XX m c t) _ _).trans (congrArg (XX m c t)
    (unit_idx3 2 2688 1536 _ 1 _ (off6_eq k) 256 1536 _ n b (by omega) (by omega) b.isLt))

/-- The pixel scratch at a window's place: the window of output row `t - 1` starts at pixel row `4 (t - 1)`. -/
theorem XX_place (c : Dev nD) (t : Fin cfg0.N) (ht : t.val < 21) (h : 1 ≤ t.val) (st : Fin 2) (ox : Fin 20) (i : Fin 8) (j : Fin 8) (k : Fin 4) (b : Fin 1536) :
    XX m c t (ix3 st ⟨128 * ox.val + (Spec.place ⟨(t.val + 1) % 2, by omega⟩ (i, j, k)).val, by omega⟩ b)
      = Spec.px (gword m c) (flag m c) st ⟨4 * (t.val - 1) + i.val, by omega⟩ ⟨4 * ox.val + j.val, by omega⟩ k b := by
  have hp : (Spec.place ⟨(t.val + 1) % 2, by omega⟩ (i, j, k)).val
      = j.val / 4 * 128 + (i.val / 4 + (t.val + 1) % 2) % 2 * 64 + k.val * 16 + i.val % 4 * 4 + j.val % 4 := rfl
  obtain ⟨s, hs⟩ : ∃ s, s = (i.val / 4 + (t.val + 1) % 2) % 2 := ⟨_, rfl⟩
  have hs2 : s < 2 := by omega
  rw [← hs] at hp
  have hrow : ∀ (row : Fin 2688), row.val = 128 * ox.val + (j.val / 4 * 128 + s * 64 + k.val * 16 + i.val % 4 * 4 + j.val % 4) →
      XX m c t (ix3 st row b) = Spec.px (gword m c) (flag m c) st ⟨4 * (t.val - 1) + i.val, by omega⟩ ⟨4 * ox.val + j.val, by omega⟩ k b := by
    intro row hr
    have hslot : slot (ix3 st row b) = s := by
      have hq : row.val = (2 * ox.val + 2 * (j.val / 4) + s) * 64 + (k.val * 16 + i.val % 4 * 4 + j.val % 4) := by omega
      have h64 : k.val * 16 + i.val % 4 * 4 + j.val % 4 < 64 := by omega
      generalize k.val * 16 + i.val % 4 * 4 + j.val % 4 = z at hq h64
      generalize j.val / 4 = a at hq
      show row.val / 64 % 2 = s
      clear hr
      omega
    have hx : (⟨4 * (row.val / 128) + row.val % 4, by omega⟩ : Fin 84) = ⟨4 * ox.val + j.val, by omega⟩ := Fin.ext (by show 4 * (row.val / 128) + row.val % 4 = 4 * ox.val + j.val; omega)
    have hk : (⟨row.val % 64 / 16, by omega⟩ : Fin 4) = k := Fin.ext (by show row.val % 64 / 16 = k.val; omega)
    unfold XX
    by_cases hi : 4 ≤ i.val
    · have e : slot (ix3 st row b) = t.val % 2 := by rw [hslot]; omega
      rw [if_pos e, PX_apply m c t ht _ e, pixAt_px, hx, hk]
      exact congrArg (fun z : Fin 84 => Spec.px (gword m c) (flag m c) st z _ k b) (Fin.ext (by show 4 * t.val + row.val % 16 / 4 = 4 * (t.val - 1) + i.val; omega))
    · have e : ¬ slot (ix3 st row b) = t.val % 2 := by rw [hslot]; omega
      have e' : slot (ix3 st row b) = (prev t).val % 2 := by rw [hslot]; show s = (t.val - 1) % 2; omega
      rw [if_neg e, PX_apply m c (prev t) (by show t.val - 1 < 21; omega) _ e', pixAt_px, hx, hk]
      exact congrArg (fun z : Fin 84 => Spec.px (gword m c) (flag m c) st z _ k b) (Fin.ext (by show 4 * (t.val - 1) + row.val % 16 / 4 = 4 * (t.val - 1) + i.val; omega))
  exact hrow _ (by show 128 * ox.val + (Spec.place ⟨(t.val + 1) % 2, by omega⟩ (i, j, k)).val = _; rw [hp])

/-- A feature, from the arguments. -/
abbrev featureAt (c : Dev nD) (st : Fin 2) (y x : Fin 20) (ch : Fin 96) (b : Fin 1536) : EReal :=
  Spec.feature (gword m c) (flag m c) (fun i j k c' => m ((c : Thread nD τ).loc main_arg2) (ix4 i j k c'))
    (fun c' => m ((c : Thread nD τ).loc main_arg3) (ix1 c')) (fun c' => m ((c : Thread nD τ).loc main_arg4) (ix1 c')) st y x ch b

/-- A window against the weights in the stored order is a feature. -/
theorem window_eq (c : Dev nD) (t : Fin cfg0.N) (ht : t.val < 21) (h : 1 ≤ t.val) (st : Fin 2) (ox : Fin 20) (ch : Fin 96) (b : Fin 1536)
    (x : Fin 256 → EReal) (hx : ∀ n : Fin 256, x n = XX m c t (ix3 st ⟨128 * ox.val + n.val, by omega⟩ b)) (l : Fin 128) :
    max ((∑ n : Fin 256, wl m c t h (ix3 0 ch n) * x n) * sl m c (ix2 ch l) + bl m c (ix2 ch l)) (0 : EReal)
      = featureAt m c st ⟨t.val - 1, by omega⟩ ox ch b := by
  unfold featureAt Spec.feature
  rw [sl_apply, bl_apply, Spec.sum_place ⟨(t.val + 1) % 2, by omega⟩]
  refine congrArg (fun z => max (z * _ + _) (0 : EReal)) ?_
  refine Finset.sum_congr rfl fun i _ => Finset.sum_congr rfl fun j _ => Finset.sum_congr rfl fun k _ => ?_
  rw [wl_apply, arranged_place, hx, XX_place m c t ht h]

/-- The block of a point, by its coordinates. -/
abbrev blockAt (c : Dev nD) (t : Fin cfg0.N) (ht : t.val < 21) (h : 1 ≤ t.val) (st : Fin 2) (y : S1x20x96x1536.Idx) : EReal :=
  featureAt m c st ⟨t.val - 1, by omega⟩ (y 1) (y 2) (y 3)

/-- The piece of a column agrees with the block. -/
theorem column_val (c : Dev nD) (t : Fin cfg0.N) (ht : t.val < 21) (h : 1 ≤ t.val) (st : Fin 2) (ox : Fin 20) (off : Fin 4 → ℕ) (inb)
    (ho : off = ![0, ox.val, 0, 0]) (w : S1x1x96x1536.Idx → EReal)
    (hw : ∀ (ch : Fin 96) (b : Fin 1536), w (ix4 0 0 ch b) = featureAt m c st ⟨t.val - 1, by omega⟩ ox ch b)
    (x : (Rect.unit (s := S1x20x96x1536) off S1x1x96x1536.size inb).shape.Idx) :
    w x = blockAt m c t ht h st ((Rect.unit (s := S1x20x96x1536) off S1x1x96x1536.size inb).emb x) := by
  subst ho
  have h0 : (x 0).val < 1 := (x 0).isLt
  have h1 : (x 1).val < 1 := (x 1).isLt
  have hx : (x : S1x1x96x1536.Idx) = ix4 0 0 (x 2) (x 3) := by
    funext a; refine Fin.ext ?_
    match a with
    | ⟨0, _⟩ => show (x 0).val = 0; omega
    | ⟨1, _⟩ => show (x 1).val = 0; omega
    | ⟨2, _⟩ => rfl
    | ⟨3, _⟩ => rfl
  refine (congrArg w hx).trans ((hw (x 2) (x 3)).trans ?_)
  have e1 : (Rect.unit (s := S1x20x96x1536) ![0, ox.val, 0, 0] S1x1x96x1536.size inb).emb x 1 = ox := Fin.ext (by show ox.val + 1 * (x 1).val = ox.val; omega)
  have e2 : (Rect.unit (s := S1x20x96x1536) ![0, ox.val, 0, 0] S1x1x96x1536.size inb).emb x 2 = x 2 := Fin.ext (by show 0 + 1 * (x 2).val = (x 2).val; omega)
  have e3 : (Rect.unit (s := S1x20x96x1536) ![0, ox.val, 0, 0] S1x1x96x1536.size inb).emb x 3 = x 3 := Fin.ext (by show 0 + 1 * (x 3).val = (x 3).val; omega)
  unfold blockAt
  rw [e1, e2, e3]

/-- Every piece of the columns before `n` agrees with the block of its output. -/
theorem before_val (c : Dev nD) (t : Fin cfg0.N) (ht : t.val < 21) (h : 1 ≤ t.val) (n : ℕ) (hn : n ≤ k0_t1_loop.trips) :
    (∀ pc ∈ (before m c t h ((Memref.isWhole_whole _ : scM0_0.IsWhole).unread (XX m c t)) n).1, ∀ x : pc.1.shape.Idx, pc.2 x = blockAt m c t ht h 0 (pc.1.emb x))
    ∧ ∀ pc ∈ (before m c t h ((Memref.isWhole_whole _ : scM0_0.IsWhole).unread (XX m c t)) n).2, ∀ x : pc.1.shape.Idx, pc.2 x = blockAt m c t ht h 1 (pc.1.emb x) := by
  induction n with
  | zero => exact ⟨fun pc hpc => absurd hpc List.not_mem_nil, fun pc hpc => absurd hpc List.not_mem_nil⟩
  | succ n ih =>
    have ih := ih (Nat.le_of_succ_le hn)
    have hk : n < 20 := hn
    rw [before_succ m c t h _ ⟨n, hn⟩, column_1, column_2]
    constructor
    · intro pc hpc
      rcases List.mem_append.mp hpc with hp | hp
      · rw [List.mem_singleton] at hp
        subst hp
        refine column_val m c t ht h 0 ⟨n, hk⟩ _ (k0_off5_inb (grid0.coords t) ⟨n, hn⟩ ((hcond0_1 t).mpr h)) (off5_eq ⟨n, hn⟩) _ fun ch b => ?_
        refine (pay5_apply _ _ _ _ ch b).trans (window_eq m c t ht h 0 ⟨n, hk⟩ ch b _ (fun q => ?_) _)
        exact xl0_apply m c t h ⟨n, hn⟩ hk q b
      · exact ih.1 pc hp
    · intro pc hpc
      rcases List.mem_append.mp hpc with hp | hp
      · rw [List.mem_singleton] at hp
        subst hp
        refine column_val m c t ht h 1 ⟨n, hk⟩ _ (k0_off5_inb (grid0.coords t) ⟨n, hn⟩ ((hcond0_1 t).mpr h)) (off5_eq ⟨n, hn⟩) _ fun ch b => ?_
        refine (pay6_apply _ _ _ _ ch b).trans (window_eq m c t ht h 1 ⟨n, hk⟩ ch b _ (fun q => ?_) _)
        exact xl1_apply m c t h ⟨n, hn⟩ hk q b
      · exact ih.2 pc hp

/-- What a point after the first leaves in the first output's block: output row `t - 1` of the first stack. -/
theorem out5_apply (c : Dev nD) (t : Fin cfg0.N) (ht : t.val < 21) (h : 1 ≤ t.val) (y : S1x20x96x1536.Idx) : out5 m c t y = blockAt m c t ht h 0 y := by
  unfold out5
  rw [dif_pos h]
  refine View.read_writes_apply_of_pieces _ _ _ _ ?_ y (cover_out5 m c t h y)
  rw [outL_eq]
  exact (before_val m c t ht h _ le_rfl).1

/-- And in the second output's block: the same row of the second stack. -/
theorem out6_apply (c : Dev nD) (t : Fin cfg0.N) (ht : t.val < 21) (h : 1 ≤ t.val) (y : S1x20x96x1536.Idx) : out6 m c t y = blockAt m c t ht h 1 y := by
  unfold out6
  rw [dif_pos h]
  refine View.read_writes_apply_of_pieces _ _ _ _ ?_ y (cover_out6 m c t h y)
  rw [outL_eq]
  exact (before_val m c t ht h _ le_rfl).2

end Cert.KernelIdeal.Hand

end
-- ==== Proof.KernelIdealResult.lean ====
/- The kernel's run over the extended reals: its two results are the features of the two stacks. -/
module

public import proofs.«01_k».proof.Proof.KernelIdealTrip

@[expose] public section

set_option maxRecDepth 65536

noncomputable section

namespace Cert.KernelIdeal.Hand

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (ρ : Dev nD → PrngReg)

/-- Where the outputs' blocks lie, and when they are written back: never at the first point. -/
theorem idx5 : ∀ t : Fin grid0.N, win0_5.index t = ![t.val - 1, 0, 0, 0] ∧ win0_6.index t = ![t.val - 1, 0, 0, 0] := by decide +kernel
theorem flush5 : ∀ t : Fin cfg0.N, (cfg0.win 5).flush t = true → 1 ≤ t.val := by decide +kernel
theorem flush6 : ∀ t : Fin cfg0.N, (cfg0.win 6).flush t = true → 1 ≤ t.val := by decide +kernel

/-- The features the kernel computes from the arguments. -/
abbrev features (c : Dev nD) (st : Fin 2) : S20x20x96x1536.Idx → EReal := fun i => featureAt m c st (i 0) (i 1) (i 2) (i 3)

/-- A block of the features is what its point leaves. -/
theorem block_eq (c : Dev nD) (t : Fin cfg0.N) (ht : t.val < 21) (h : 1 ≤ t.val) (st : Fin 2) (y : S1x20x96x1536.Idx) (z : S20x20x96x1536.Idx)
    (h0 : (z 0).val = t.val - 1) (h1 : z 1 = y 1) (h2 : z 2 = y 2) (h3 : z 3 = y 3) : blockAt m c t ht h st y = features m c st z := by
  unfold blockAt features
  rw [h1, h2, h3]
  exact congrArg (fun a => featureAt m c st a (y 1) (y 2) (y 3)) (Fin.ext h0.symm)

/-- The first result holds the current stack's features. -/
theorem arr_5 (c : Dev nD) : (dats m 0 c).arrAt 5 cfg0.N = features m c 0 := by
  refine (dats m 0 c).arrAt_eq_of_covers 5 _ (by decide +kernel) fun t hf y => ?_
  have h := flush5 t hf
  have ht : t.val < 21 := lt_of_lt_of_eq t.isLt N_0
  blk_simp
  rw [after0_5]
  frame_out
  have y0 : (y 0).val < 1 := (y 0).isLt
  refine (out5_apply m c t ht h y).trans (block_eq m c t ht h 0 y _ ?_ ?_ ?_ ?_)
  · blk_simp [idx5 t]
  · refine Fin.ext ?_
    blk_simp [idx5 t]
  · refine Fin.ext ?_
    blk_simp [idx5 t]
  · refine Fin.ext ?_
    blk_simp [idx5 t]

/-- The second result holds the next stack's features. -/
theorem arr_6 (c : Dev nD) : (dats m 0 c).arrAt 6 cfg0.N = features m c 1 := by
  refine (dats m 0 c).arrAt_eq_of_covers 6 _ (by decide +kernel) fun t hf y => ?_
  have h := flush6 t hf
  have ht : t.val < 21 := lt_of_lt_of_eq t.isLt N_0
  blk_simp
  rw [after0_6]
  frame_out
  have y0 : (y 0).val < 1 := (y 0).isLt
  refine (out6_apply m c t ht h y).trans (block_eq m c t ht h 1 y _ ?_ ?_ ?_ ?_)
  · blk_simp [idx5 t]
  · refine Fin.ext ?_
    blk_simp [idx5 t]
  · refine Fin.ext ?_
    blk_simp [idx5 t]
  · refine Fin.ext ?_
    blk_simp [idx5 t]

/-- Every run of the kernel ends with the current stack's features in its first result, the next stack's in its second,
    and the five argument arrays unchanged. -/
theorem run : θ_run defs (onTc (τ := τ) (main (F := Ideal))) ⟨m, fun _ => 0, ρ⟩ (fun r => ∀ c : Dev nD,
      r.2.mem ((c.tc : Thread nD τ).loc main_v9_0) = features m c 0
      ∧ r.2.mem ((c.tc : Thread nD τ).loc main_v9_1) = features m c 1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 5).trans (arr_5 m c), ((h.1 c).1 6).trans (arr_6 m c), h.2 c⟩)
    (θ_run_and (run_main m ρ) (unchanged m ρ))

end Cert.KernelIdeal.Hand

end
-- ==== Proof.RefRun.lean ====
/- What the reference's host lines leave in its two results, as a composition of named stages: the unpacked pixels, the
   keep mask, the masked stack, the window rows, the convolution of one stack. -/
module

public import proofs.«01_k».proof.Defs
public import proofs.«01_k».proof.Proof.Gen.ReferenceIdeal.Frame
public import Idealize.ShloMosaic.Lib.StableHlo.RunRead

@[expose] public section

noncomputable section

namespace Cert.ReferenceIdeal.Hand

open Idealize.ShloMosaic Idealize.ShloMosaic.TcCoe Idealize.SL.Sem Cert.ReferenceIdeal Cert.ReferenceIdeal.Gen

variable {F : FTy → Type} [FloatOps F]

/-- The four bytes of every word of the packed frames, lowest first, along a last axis of length 4. -/
def bytes (g : IVec S21x7x84x1536 32) : IVec S21x7x84x1536x4 32 :=
  andi (Host.shrsi
      (broadcastInDim S21x7x84x1536x4 ![0, 1, 2, 3, 4] bcast_S21x7x84x1536x1_S21x7x84x1536x4_0_1_2_3_4
        (broadcastInDim S21x7x84x1536x1 ![0, 1, 2, 3] bcast_S21x7x84x1536_S21x7x84x1536x1_0_1_2_3 g))
      (broadcastInDim S21x7x84x1536x4 ![0, 1, 2, 3, 4] bcast_S1x1x1x1x4_S21x7x84x1536x4_0_1_2_3_4
        (broadcastInDim S1x1x1x1x4 ![4] bcast_S4_S1x1x1x1x4_4
          (muli (broadcastInDim S4 ![] bcast_S_S4 (constantI S_ 32 8#32)) (iotaInDim S4 32 0)))))
    (broadcastInDim S21x7x84x1536x4 ![] bcast_S_S21x7x84x1536x4 (constantI S_ 32 255#32))

/-- The pixels at (row, column, frame, batch). -/
def pix (g : IVec S21x7x84x1536 32) : IVec S84x84x7x1536 32 :=
  shapeCast S84x84x7x1536
    (transpose S21x4x21x4x7x1536 [0, 3, 2, 5, 1, 4]
      (shapeCast S21x7x21x4x1536x4 (bytes g) shapeCasts_S21x7x84x1536x4_S21x7x21x4x1536x4)
      transposes_S21x7x21x4x1536x4_S21x4x21x4x7x1536_0_3_2_5_1_4)
    shapeCasts_S21x4x21x4x7x1536_S84x84x7x1536

/-- The running sums of the flags down the frames of one stack. -/
def cumFlags (f : IVec S4x1536 32) : IVec S4x1536 32 :=
  Host.reduceWindow IntOp.addi ![4, 1] ![1, 1] ![3, 0] ![0, 0] f (broadcastInDim S_ ![] bcast_S_S_ (constantI S_ 32 0#32))
    reduceWindows_S4x1536_S4x1536_w4s1p3_0_w1s1p0_0 h_S_

/-- The sum of the flags of one stack. -/
def sumFlags (f : IVec S4x1536 32) : IVec S1536 32 :=
  Host.reduce IntOp.addi f (constantI S_ 32 0#32) reducesTo_S4x1536_S1536_d0 h_S_

/-- The mask of one stack: set where no later frame of the stack starts an episode. -/
def keep (f : IVec S4x1536 32) : IVec S4x1536 1 :=
  cmpi .eq
    (subi (broadcastInDim S4x1536 ![0, 1] bcast_S1x1536_S4x1536_0_1 (broadcastInDim S1x1536 ![1] bcast_S1536_S1x1536_1 (sumFlags f)))
      (cumFlags f))
    (broadcastInDim S4x1536 ![] bcast_S_S4x1536 (constantI S_ 32 0#32))

/-- A stack of pixels with the masked frames zeroed, as floats. -/
def masked (k : IVec S4x1536 1) (p : IVec S84x84x4x1536 32) : FVec F S84x84x4x1536 .bf16 :=
  sitofp .bf16 (select (broadcastInDim S84x84x4x1536 ![2, 3] bcast_S4x1536_S84x84x4x1536_2_3 k) p
    (broadcastInDim S84x84x4x1536 ![] bcast_S_S84x84x4x1536 (constantI S_ 32 0#32)))

/-- The first row of window `y` plus `i`. -/
def rows : IVec S20x8 32 :=
  addi
    (broadcastInDim S20x8 ![0, 1] bcast_S20x1_S20x8_0_1
      (muli (broadcastInDim S20x1 ![] bcast_S_S20x1 (constantI S_ 32 4#32))
        (broadcastInDim S20x1 ![0] bcast_S20_S20x1_0 (iotaInDim S20 32 0))))
    (broadcastInDim S20x8 ![0, 1] bcast_S1x8_S20x8_0_1 (broadcastInDim S1x8 ![1] bcast_S8_S1x8_1 (iotaInDim S8 32 0)))

/-- The rows as start indices, a negative one counted from the end. -/
def starts : IVec S20x8x1 32 :=
  broadcastInDim S20x8x1 ![0, 1] bcast_S20x8_S20x8x1_0_1
    (select (cmpi .slt rows (broadcastInDim S20x8 ![] bcast_S_S20x8 (constantI S_ 32 0#32)))
      (addi rows (broadcastInDim S20x8 ![] bcast_S_S20x8 (constantI S_ 32 84#32))) rows)

/-- The windows of a stack: at (window row, row, window column, column, frame, batch). -/
def patches (s : FVec F S84x84x4x1536 .bf16) : FVec F S20x8x20x8x4x1536 .bf16 :=
  Host.gather gather_S20x8x84x4x1536_S20x8x1_S20x8x20x8x4x1536_0145_2_n_n_2_2_208141536
    (Host.gather gather_S84x84x4x1536_S20x8x1_S20x8x84x4x1536_234_0_n_n_0_2_18441536 s starts) starts

/-- A vector over the channels, at every (window row, window column, channel, batch). -/
def chan (v : FVec F S96 .f32) : FVec F S20x20x96x1536 .f32 :=
  broadcastInDim S20x20x96x1536 ![0, 1, 2, 3] bcast_S1x1x96x1_S20x20x96x1536_0_1_2_3
    (broadcastInDim S1x1x96x1 ![2, 3] bcast_S96x1_S1x1x96x1_2_3 (broadcastInDim S96x1 ![0] bcast_S96_S96x1_0 v))

/-- The convolution of the windows with the weights. -/
def conv (p : FVec F S20x8x20x8x4x1536 .bf16) (w : FVec F S8x8x4x96 .bf16) : FVec F S20x20x96x1536 .f32 :=
  transpose S20x20x96x1536 [1, 2, 0, 3]
    (Host.dotGeneral dot_S8x8x4x96_S20x8x20x8x4x1536_S96x20x20x1536_012_134_3_025_n_n none w p : FVec F S96x20x20x1536 .f32)
    transposes_S96x20x20x1536_S20x20x96x1536_1_2_0_3

/-- The features of one stack. -/
def feat (s : FVec F S84x84x4x1536 .bf16) (w : FVec F S8x8x4x96 .bf16) (sc bi : FVec F S96 .f32) : FVec F S20x20x96x1536 .bf16 :=
  truncf .bf16
    (maximumf (addf (mulf (conv (patches s) w) (chan sc)) (chan bi))
      (broadcastInDim S20x20x96x1536 ![] bcast_S_S20x20x96x1536 (constant S_ .f32 0x00000000#32)))
    bitsLt_bf16_f32

/-- The first stack: frames and flags 0 … 3. -/
def stack0 (g : IVec S21x7x84x1536 32) (fl : IVec S8x1536 32) : FVec F S84x84x4x1536 .bf16 :=
  masked (keep (extractStridedSlice S4x1536 ![0, 0] fl slices_S8x1536_S4x1536_0_0))
    (extractStridedSlice S84x84x4x1536 ![0, 0, 0, 0] (pix g) slices_S84x84x7x1536_S84x84x4x1536_0_0_0_0)

/-- The second stack: frames and flags 3 … 6. -/
def stack1 (g : IVec S21x7x84x1536 32) (fl : IVec S8x1536 32) : FVec F S84x84x4x1536 .bf16 :=
  masked (keep (extractStridedSlice S4x1536 ![3, 0] fl slices_S8x1536_S4x1536_3_0))
    (extractStridedSlice S84x84x4x1536 ![0, 0, 3, 0] (pix g) slices_S84x84x7x1536_S84x84x4x1536_0_0_3_0)

/-- The host lines after the cast of the weights. -/
abbrev tail : List (HloOp τ sig (Elt F)) :=
  [hostOps1, hostOps1_1, hostOps1_2, hostOps1_3, hostOps1_4, hostOps1_5, hostOps1_6, hostOps1_7, hostOps1_8].flatten

set_option maxRecDepth 65536 in
set_option maxHeartbeats 4000000 in
/-- The first result, from the contents before the lines. -/
theorem tail_v71 (W : Valuation τ sig (Elt F)) : StableHlo.after tail W (Proc.devRef .tc main_v71)
    = feat (stack0 (W (Proc.devRef .tc main_arg0)) (W (Proc.devRef .tc main_arg1))) (W (Proc.devRef .tc main_v0))
        (W (Proc.devRef .tc main_arg3)) (W (Proc.devRef .tc main_arg4)) := by
  unfold tail hostOps1 hostOps1_1 hostOps1_2 hostOps1_3 hostOps1_4 hostOps1_5 hostOps1_6 hostOps1_7 hostOps1_8
  simp only [List.flatten_cons, List.flatten_nil, List.append_nil, List.cons_append, List.nil_append]
  after_reads_simp
  rfl

set_option maxRecDepth 65536 in
set_option maxHeartbeats 4000000 in
/-- The second result, from the contents before the lines. -/
theorem tail_v98 (W : Valuation τ sig (Elt F)) : StableHlo.after tail W (Proc.devRef .tc main_v98)
    = feat (stack1 (W (Proc.devRef .tc main_arg0)) (W (Proc.devRef .tc main_arg1))) (W (Proc.devRef .tc main_v0))
        (W (Proc.devRef .tc main_arg3)) (W (Proc.devRef .tc main_arg4)) := by
  unfold tail hostOps1 hostOps1_1 hostOps1_2 hostOps1_3 hostOps1_4 hostOps1_5 hostOps1_6 hostOps1_7 hostOps1_8
  simp only [List.flatten_cons, List.flatten_nil, List.append_nil, List.cons_append, List.nil_append]
  after_reads_simp
  rfl

end Cert.ReferenceIdeal.Hand

end
-- ==== Proof.RefValue.lean ====
/- What the reference's stages hold at an index, over the extended reals: each of its results is the feature of the problem. -/
module

public import proofs.«01_k».proof.Proof.RefRun
public import proofs.«01_k».proof.Proof.Spec
public import Idealize.ShloMosaic.Lib.Pointwise

@[expose] public section

set_option maxRecDepth 65536

noncomputable section

namespace Cert.ReferenceIdeal.Hand

open Idealize.ShloMosaic Idealize.ShloMosaic.TcCoe Idealize.SL.Sem Cert.ReferenceIdeal Cert.ReferenceIdeal.Gen

/-- The start index of window row `y`, row `i` is `4 y + i`. -/
theorem starts_val (y : Fin 20) (i : Fin 8) (z : Fin 1) : (starts (ix3 y i z)).toInt.toNat = 4 * y.val + i.val := by
  have : ∀ (y : Fin 20) (i : Fin 8), (let r := IntOp.addi (IntOp.muli 4#32 (BitVec.ofNat 32 y.val)) (BitVec.ofNat 32 i.val);
    Scalar.select (IntOp.cmpi .slt r 0#32) (IntOp.addi r 84#32) r).toInt.toNat = 4 * y.val + i.val := by decide +kernel
  refine Eq.trans ?_ (this y i)
  pointwise [starts, rows]

section Gathers

variable {F : FTy → Type} [FloatOps F]

/-- The rows gather's dimension numbers. -/
abbrev d₁ := gather_S84x84x4x1536_S20x8x1_S20x8x84x4x1536_234_0_n_n_0_2_18441536
/-- The columns gather's dimension numbers. -/
abbrev d₂ := gather_S20x8x84x4x1536_S20x8x1_S20x8x20x8x4x1536_0145_2_n_n_2_2_208141536

/-- The rows gather: row `4 y + i`. -/
theorem gather_rows (s : FVec F S84x84x4x1536 .bf16) (y : Fin 20) (i : Fin 8) (x : Fin 84) (k : Fin 4) (b : Fin 1536) :
    Host.gather d₁ s starts (ix5 y i x k b) = s (ix4 ⟨4 * y.val + i.val, by omega⟩ x k b) := by
  unfold Host.gather
  congr 1
  funext a
  refine Fin.ext ?_
  show d₁.start (ix5 y i x k b) starts a + d₁.batchCoord (ix5 y i x k b) a + d₁.offCoord (ix5 y i x k b) a = _
  rw [GatherDims.batchCoord_eq_zero _ _ _ List.not_mem_nil, Nat.add_zero]
  have hs : d₁.start (ix5 y i x k b) starts (0 : Fin 4) = 4 * y.val + i.val := by
    unfold GatherDims.start
    rw [dif_pos (show (0 : Fin 4) ∈ d₁.startIndexMap from List.mem_singleton.mpr rfl)]
    have hsi : d₁.siIdx (ix5 y i x k b) ⟨List.idxOf (0 : Fin 4) d₁.startIndexMap,
        List.idxOf_lt_length_iff.2 (List.mem_singleton.mpr rfl)⟩ = ix3 y i 0 := by
      funext b; refine Fin.ext ?_
      match b with
      | ⟨0, _⟩ => rfl
      | ⟨1, _⟩ => rfl
      | ⟨2, _⟩ => rfl
    rw [hsi, starts_val]
    exact Nat.min_eq_left (by show 4 * y.val + i.val ≤ 83; omega)
  have hz : ∀ a : Fin 4, a ≠ 0 → d₁.start (ix5 y i x k b) starts a = 0 := fun a ha => by
    unfold GatherDims.start
    rw [dif_neg (show a ∉ d₁.startIndexMap from fun h => ha (List.mem_singleton.mp h))]
  match a with
  | ⟨0, _⟩ =>
    show d₁.start (ix5 y i x k b) starts (0 : Fin 4) + d₁.offCoord (ix5 y i x k b) (0 : Fin 4) = _
    rw [hs, GatherDims.offCoord_eq_zero _ _ _ (fun h => ((GatherDims.mem_sKept _ _).mp h).1 (List.mem_singleton.mpr rfl))]
    rfl
  | ⟨1, _⟩ => exact (congrArg (· + _) (hz ⟨1, by decide⟩ (by decide))).trans (Nat.zero_add _)
  | ⟨2, _⟩ => exact (congrArg (· + _) (hz ⟨2, by decide⟩ (by decide))).trans (Nat.zero_add _)
  | ⟨3, _⟩ => exact (congrArg (· + _) (hz ⟨3, by decide⟩ (by decide))).trans (Nat.zero_add _)

/-- The columns gather: column `4 x + j`. -/
theorem gather_cols (s : FVec F S20x8x84x4x1536 .bf16) (y : Fin 20) (i : Fin 8) (x : Fin 20) (j : Fin 8) (k : Fin 4) (b : Fin 1536) :
    Host.gather d₂ s starts (ix6 y i x j k b) = s (ix5 y i ⟨4 * x.val + j.val, by omega⟩ k b) := by
  unfold Host.gather
  congr 1
  funext a
  refine Fin.ext ?_
  show d₂.start (ix6 y i x j k b) starts a + d₂.batchCoord (ix6 y i x j k b) a + d₂.offCoord (ix6 y i x j k b) a = _
  rw [GatherDims.batchCoord_eq_zero _ _ _ List.not_mem_nil, Nat.add_zero]
  have hs : d₂.start (ix6 y i x j k b) starts (2 : Fin 5) = 4 * x.val + j.val := by
    unfold GatherDims.start
    rw [dif_pos (show (2 : Fin 5) ∈ d₂.startIndexMap from List.mem_singleton.mpr rfl)]
    have hsi : d₂.siIdx (ix6 y i x j k b) ⟨List.idxOf (2 : Fin 5) d₂.startIndexMap,
        List.idxOf_lt_length_iff.2 (List.mem_singleton.mpr rfl)⟩ = ix3 x j 0 := by
      funext b; refine Fin.ext ?_
      match b with
      | ⟨0, _⟩ => rfl
      | ⟨1, _⟩ => rfl
      | ⟨2, _⟩ => rfl
    rw [hsi, starts_val]
    exact Nat.min_eq_left (by show 4 * x.val + j.val ≤ 83; omega)
  have hz : ∀ a : Fin 5, a ≠ 2 → d₂.start (ix6 y i x j k b) starts a = 0 := fun a ha => by
    unfold GatherDims.start
    rw [dif_neg (show a ∉ d₂.startIndexMap from fun h => ha (List.mem_singleton.mp h))]
  match a with
  | ⟨0, _⟩ => exact (congrArg (· + _) (hz ⟨0, by decide⟩ (by decide))).trans (Nat.zero_add _)
  | ⟨1, _⟩ => exact (congrArg (· + _) (hz ⟨1, by decide⟩ (by decide))).trans (Nat.zero_add _)
  | ⟨2, _⟩ =>
    show d₂.start (ix6 y i x j k b) starts (2 : Fin 5) + d₂.offCoord (ix6 y i x j k b) (2 : Fin 5) = _
    rw [hs, GatherDims.offCoord_eq_zero _ _ _ (fun h => ((GatherDims.mem_sKept _ _).mp h).1 (List.mem_singleton.mpr rfl))]
    rfl
  | ⟨3, _⟩ => exact (congrArg (· + _) (hz ⟨3, by decide⟩ (by decide))).trans (Nat.zero_add _)
  | ⟨4, _⟩ => exact (congrArg (· + _) (hz ⟨4, by decide⟩ (by decide))).trans (Nat.zero_add _)

/-- The windows of a stack: window `(y, x)` starts at pixel `(4 y, 4 x)`. -/
theorem patches_apply (s : FVec F S84x84x4x1536 .bf16) (y : Fin 20) (i : Fin 8) (x : Fin 20) (j : Fin 8) (k : Fin 4) (b : Fin 1536) :
    patches s (ix6 y i x j k b) = s (ix4 ⟨4 * y.val + i.val, by omega⟩ ⟨4 * x.val + j.val, by omega⟩ k b) :=
  (gather_cols _ y i x j k b).trans (gather_rows s y i _ k b)

end Gathers

/-- The product's dimension numbers. -/
abbrev dConv := dot_S8x8x4x96_S20x8x20x8x4x1536_S96x20x20x1536_012_134_3_025_n_n

/-- A contraction index of the product, from its three coordinates. -/
def ck (i : Fin 8) (j : Fin 8) (k : Fin 4) : dConv.contr.Idx :=
  fun p => match p with | ⟨0, _⟩ => i | ⟨1, _⟩ => j | ⟨2, _⟩ => k

/-- Contraction indices are the triples of coordinates. -/
def ckEquiv : Fin 8 × Fin 8 × Fin 4 ≃ dConv.contr.Idx where
  toFun q := ck q.1 q.2.1 q.2.2
  invFun z := (z ⟨0, by decide⟩, z ⟨1, by decide⟩, z ⟨2, by decide⟩)
  left_inv _ := rfl
  right_inv z := by
    funext p
    match p with
    | ⟨0, _⟩ => rfl
    | ⟨1, _⟩ => rfl
    | ⟨2, _⟩ => rfl

/-- The product, at an index: a sum over the window's rows, columns and frames. -/
theorem product_apply (w : S8x8x4x96.Idx → EReal) (p : S20x8x20x8x4x1536.Idx → EReal) (c : Fin 96) (y x : Fin 20) (b : Fin 1536) :
    Ideal.matmul dConv w p (fun _ => 0) (ix4 c y x b)
      = ∑ i : Fin 8, ∑ j : Fin 8, ∑ k : Fin 4, w (ix4 i j k c) * p (ix6 y i x j k b) := by
  have e : Ideal.matmul dConv w p (fun _ => 0) (ix4 c y x b)
      = 0 + ∑ z : dConv.contr.Idx, w (dConv.lhsIdx (ix4 c y x b) z) * p (dConv.rhsIdx (ix4 c y x b) z) := rfl
  rw [e, zero_add, ← Fintype.sum_equiv ckEquiv (fun q => w (ix4 q.1 q.2.1 q.2.2 c) * p (ix6 y q.1 x q.2.1 q.2.2 b)) _ fun q => ?_]
  · simp only [Fintype.sum_prod_type]
  · obtain ⟨i, j, k⟩ := q
    congr 2
    · funext a
      match a with
      | ⟨0, _⟩ => rfl
      | ⟨1, _⟩ => rfl
      | ⟨2, _⟩ => rfl
      | ⟨3, _⟩ => rfl
    · funext a
      match a with
      | ⟨0, _⟩ => rfl
      | ⟨1, _⟩ => rfl
      | ⟨2, _⟩ => rfl
      | ⟨3, _⟩ => rfl
      | ⟨4, _⟩ => rfl
      | ⟨5, _⟩ => rfl

/-- The sum of a stack's flags. -/
theorem sumFlags_apply (f : IVec S4x1536 32) (b : Fin 1536) :
    sumFlags f (ix1 b) = f (ix2 0 b) + f (ix2 1 b) + f (ix2 2 b) + f (ix2 3 b) := by
  pointwise [sumFlags]
  show f (ix2 0 b) + (f (ix2 1 b) + (f (ix2 2 b) + (f (ix2 3 b) + 0#32))) = _
  rw [BitVec.add_zero, BitVec.add_assoc, BitVec.add_assoc]

/-- The positions of the running sum's window. -/
abbrev SW : Shape := ⟨2, ![4, 1]⟩

/-- One position `q` of a window at result index `j`: an element, or padding. -/
def winTerm {α : Type} {s t : Shape} (window strides lo hi : Fin s.rank → Nat) (x : s.Idx → α) (v : α)
    (h : s.ReduceWindows window strides lo hi t) (j : t.Idx) (q : (⟨s.rank, window⟩ : Shape).Idx) : α :=
  let p : Fin s.rank → Nat := fun a => (j (a.cast h.1.symm)).val * strides a + (q a).val
  if hin : ∀ a, lo a ≤ p a ∧ p a - lo a < s.size a then x (fun a => ⟨p a - lo a, (hin a).2⟩) else v

/-- A window's fold, over its positions in order. -/
theorem reduceWindow_apply {α : Type} {s t u : Shape} (f : α → α → α) (window strides lo hi : Fin s.rank → Nat) (x : s.Idx → α)
    (init : u.Idx → α) (h : s.ReduceWindows window strides lo hi t) (hu : 0 < u.numel) (j : t.Idx) :
    Host.reduceWindow f window strides lo hi x init h hu j
      = ((List.finRange (⟨s.rank, window⟩ : Shape).numel).map (⟨s.rank, window⟩ : Shape).rowMajor.symm).foldl
          (fun r q => f r (winTerm window strides lo hi x (init (Shape.Idx.first hu)) h j q)) (init (Shape.Idx.first hu)) := by
  rw [List.foldl_map]
  unfold Host.reduceWindow
  refine congrArg (fun F => List.foldl F _ _) (funext fun r => funext fun n => congrArg (f r) ?_)
  unfold winTerm
  congr

/-- One position of the running sum's window: a flag, or padding. -/
theorem winTerm_eq (f : IVec S4x1536 32) (k : Fin 4) (b : Fin 1536) (n : Fin 4) :
    winTerm ![4, 1] ![1, 1] ![3, 0] ![0, 0] f 0#32 reduceWindows_S4x1536_S4x1536_w4s1p3_0_w1s1p0_0 (ix2 k b) (ix2 n 0)
      = if h : 3 ≤ k.val + n.val then f (ix2 ⟨k.val + n.val - 3, by omega⟩ b) else 0 := by
  unfold winTerm
  by_cases h : 3 ≤ k.val + n.val
  · rw [dif_pos h, dif_pos]
    · congr 1
      funext a
      match a with
      | ⟨0, _⟩ => exact Fin.ext (by show k.val * 1 + n.val - 3 = k.val + n.val - 3; omega)
      | ⟨1, _⟩ => exact Fin.ext (by show b.val * 1 + 0 - 0 = b.val; omega)
    · intro a
      match a with
      | ⟨0, _⟩ => show 3 ≤ k.val * 1 + n.val ∧ k.val * 1 + n.val - 3 < 4; omega
      | ⟨1, _⟩ => show 0 ≤ b.val * 1 + 0 ∧ b.val * 1 + 0 - 0 < 1536; omega
  · rw [dif_neg h, dif_neg]
    · rfl
    · intro hh
      have : 3 ≤ k.val * 1 + n.val := (hh 0).1
      omega

/-- The positions in order. -/
theorem window_pos : (List.finRange SW.numel).map SW.rowMajor.symm = [ix2 0 0, ix2 1 0, ix2 2 0, ix2 3 0] := by
  decide +kernel

/-- The running sum of a stack's flags. -/
theorem cumFlags_apply (f : IVec S4x1536 32) (k : Fin 4) (b : Fin 1536) :
    cumFlags f (ix2 k b) = f (ix2 0 b) + (if 1 ≤ k.val then f (ix2 1 b) else 0) + (if 2 ≤ k.val then f (ix2 2 b) else 0)
      + (if 3 ≤ k.val then f (ix2 3 b) else 0) := by
  let T : SW.Idx → BitVec 32 := winTerm ![4, 1] ![1, 1] ![3, 0] ![0, 0] f 0#32 reduceWindows_S4x1536_S4x1536_w4s1p3_0_w1s1p0_0 (ix2 k b)
  have e : cumFlags f (ix2 k b) = ((List.finRange SW.numel).map SW.rowMajor.symm).foldl (fun r q => IntOp.addi r (T q)) 0#32 :=
    reduceWindow_apply (s := S4x1536) (t := S4x1536) IntOp.addi ![4, 1] ![1, 1] ![3, 0] ![0, 0] f _ reduceWindows_S4x1536_S4x1536_w4s1p3_0_w1s1p0_0 h_S_ (ix2 k b)
  rw [e, window_pos]
  show 0#32 + T (ix2 0 0) + T (ix2 1 0) + T (ix2 2 0) + T (ix2 3 0) = _
  simp only [T, winTerm_eq]
  fin_cases k <;> simp

/-- The mask of a stack: no later frame's flag, in sum. -/
theorem keep_apply (fl : IVec S8x1536 32) (st : Fin 2) (k : Fin 4) (b : Fin 1536) (f : IVec S4x1536 32)
    (hf : ∀ j : Fin 4, f (ix2 j b) = fl (ix2 ⟨3 * st.val + j.val, by omega⟩ b)) :
    keep f (ix2 k b) = IntOp.cmpi .eq (Spec.later (fun j b => fl (ix2 j b)) st k b) 0#32 := by
  have e : keep f (ix2 k b) = IntOp.cmpi .eq (IntOp.subi (sumFlags f (ix1 b)) (cumFlags f (ix2 k b))) 0#32 := by
    pointwise [keep]
  rw [e, sumFlags_apply, cumFlags_apply]
  congr 1
  simp only [hf, Spec.later]
  show _ - _ = _
  generalize fl _ = a0, fl _ = a1, fl _ = a2, fl _ = a3
  fin_cases k <;> simp <;> grind

/-- A byte of a word, shifted down and cut out, as a number. -/
theorem byte_toInt (w : BitVec 32) (l : ℕ) (hl : l < 4) :
    (IntOp.andi (IntOp.shrsi ArithUnit.host w (IntOp.muli 8#32 (BitVec.ofNat 32 l))) 255#32).toInt = (Spec.byteOf w l : ℕ) := by
  have e : IntOp.andi (IntOp.shrsi ArithUnit.host w (IntOp.muli 8#32 (BitVec.ofNat 32 l))) 255#32
      = (w >>> (8 * l)) &&& 255#32 := by
    have : l = 0 ∨ l = 1 ∨ l = 2 ∨ l = 3 := by omega
    rcases this with rfl | rfl | rfl | rfl
    all_goals
      refine BitVec.eq_of_getLsbD_eq fun i hi => ?_
      interval_cases i <;> simp [IntOp.andi, IntOp.shrsi, IntOp.muli, BitVec.getLsbD_sshiftRight, BitVec.getElem_sshiftRight]
  have hn : ((w >>> (8 * l)) &&& 255#32).toNat = Spec.byteOf w l := by
    rw [BitVec.toNat_and, BitVec.toNat_ushiftRight, Nat.shiftRight_eq_div_pow]
    exact Nat.and_two_pow_sub_one_eq_mod _ 8
  have hlt : Spec.byteOf w l < 256 := Nat.mod_lt _ (by decide)
  rw [e, BitVec.toInt_eq_toNat_of_lt (by rw [hn]; omega), hn]

/-- A masked pixel of the reference. -/
theorem pixel_eq (fl : IVec S8x1536 32) (st : Fin 2) (k : Fin 4) (b : Fin 1536) (m : BitVec 1)
    (hm : m = IntOp.cmpi .eq (Spec.later (fun j b => fl (ix2 j b)) st k b) 0#32) (w : BitVec 32) (l : ℕ) (hl : l < 4) :
    FloatOps.sitofp (F := Ideal) .bf16 (Scalar.select m (IntOp.andi (IntOp.shrsi ArithUnit.host w (IntOp.muli 8#32 (BitVec.ofNat 32 l))) 255#32) 0#32)
      = if Spec.later (fun j b => fl (ix2 j b)) st k b = 0 then (((Spec.byteOf w l : ℕ) : ℝ) : EReal) else (0 : EReal) := by
  subst hm
  by_cases h : Spec.later (fun j b => fl (ix2 j b)) st k b = 0
  · rw [if_pos h, h]
    show (((_ : BitVec 32).toInt : ℝ) : EReal) = _
    rw [show Scalar.select (IntOp.cmpi .eq (0 : BitVec 32) 0#32) (IntOp.andi (IntOp.shrsi ArithUnit.host w (IntOp.muli 8#32 (BitVec.ofNat 32 l))) 255#32) 0#32
      = IntOp.andi (IntOp.shrsi ArithUnit.host w (IntOp.muli 8#32 (BitVec.ofNat 32 l))) 255#32 from rfl, byte_toInt w l hl]
    simp
  · rw [if_neg h]
    have : IntOp.cmpi .eq (Spec.later (fun j b => fl (ix2 j b)) st k b) 0#32 = 0#1 := by
      show BitVec.ofBool (Spec.later (fun j b => fl (ix2 j b)) st k b == 0#32) = 0#1
      rw [show (Spec.later (fun j b => fl (ix2 j b)) st k b == 0#32) = false from beq_eq_false_iff_ne.mpr h]
      rfl
    rw [this]
    show (((0#32 : BitVec 32).toInt : ℝ) : EReal) = _
    simp

/-- A pixel of the first stack. -/
theorem stack0_apply (g : IVec S21x7x84x1536 32) (fl : IVec S8x1536 32) (y x : Fin 84) (k : Fin 4) (b : Fin 1536) :
    stack0 (F := Ideal) g fl (ix4 y x k b) = Spec.px (fun a j r b => g (ix4 a j r b)) (fun j b => fl (ix2 j b)) 0 y x k b := by
  pointwise [stack0, masked, pix, bytes]
  rw [pixel_eq fl 0 k b _ (keep_apply fl 0 k b _ fun j => ?_) _ _ (Nat.mod_lt _ (by decide))]
  · have : (⟨3 * (0 : Fin 2).val + k.val, by omega⟩ : Fin 7) = ⟨k.val, by omega⟩ := Fin.ext (by show 3 * 0 + k.val = k.val; omega)
    exact if_congr Iff.rfl (congrArg (fun a : Fin 7 => (((Spec.byteOf (g (ix4 ⟨y.val / 4, by omega⟩ a
      ⟨x.val / 4 * 4 + y.val % 4, by omega⟩ b)) (x.val % 4) : ℕ) : ℝ) : EReal)) this.symm) rfl
  · have : (⟨3 * (0 : Fin 2).val + j.val, by omega⟩ : Fin 8) = ⟨j.val, by omega⟩ := Fin.ext (by show 3 * 0 + j.val = j.val; omega)
    rw [this]
    pointwise

/-- A pixel of the second stack. -/
theorem stack1_apply (g : IVec S21x7x84x1536 32) (fl : IVec S8x1536 32) (y x : Fin 84) (k : Fin 4) (b : Fin 1536) :
    stack1 (F := Ideal) g fl (ix4 y x k b) = Spec.px (fun a j r b => g (ix4 a j r b)) (fun j b => fl (ix2 j b)) 1 y x k b := by
  pointwise [stack1, masked, pix, bytes]
  rw [pixel_eq fl 1 k b _ (keep_apply fl 1 k b _ fun j => ?_) _ _ (Nat.mod_lt _ (by decide))]
  · rfl
  · pointwise

/-- A feature of the reference, from the pixels of its stack. -/
theorem feat_apply (s : FVec Ideal S84x84x4x1536 .bf16) (w : FVec Ideal S8x8x4x96 .bf16) (sc bi : FVec Ideal S96 .f32)
    (g : Fin 21 → Fin 7 → Fin 84 → Fin 1536 → BitVec 32) (fl : Fin 8 → Fin 1536 → BitVec 32) (st : Fin 2)
    (hs : ∀ y x k b, s (ix4 y x k b) = Spec.px g fl st y x k b) (y x : Fin 20) (c : Fin 96) (b : Fin 1536) :
    feat s w sc bi (ix4 y x c b) = Spec.feature g fl (fun i j k c => w (ix4 i j k c)) (fun c => sc (ix1 c)) (fun c => bi (ix1 c)) st y x c b := by
  pointwise [feat, conv, chan]
  rw [product_apply]
  simp only [patches_apply, hs]
  rfl

end Cert.ReferenceIdeal.Hand

end
-- ==== Proof.RefResult.lean ====
/- The reference's run over the extended reals: its two results are the features of the two stacks. -/
module

public import proofs.«01_k».proof.Proof.RefValue
public import Idealize.ShloMosaic.Lib.Pipeline.ValueKit

@[expose] public section

set_option maxRecDepth 65536

noncomputable section

namespace Cert.ReferenceIdeal.Hand

open Idealize.ShloMosaic Idealize.ShloMosaic.TcCoe Idealize.SL.Sem Cert.ReferenceIdeal Cert.ReferenceIdeal.Gen
open Idealize.ShloMosaic.Pipeline (Dat)

variable (m : (ℓ : Loc nD τ sig) → Buf (Elt Ideal) ℓ) (ρ : Dev nD → PrngReg)

/-- Both windows of the region are whole arrays. -/
theorem idx : ∀ t : Fin grid0.N, win0_0.index t = ![0, 0, 0, 0] ∧ win0_1.index t = ![0, 0, 0, 0] := by decide +kernel

/-- The region's result: the weights, cast exactly. -/
theorem arr_v0 (c : Dev nD) : (dats m 0 c).arrAt 1 cfg0.N = fun i => m ((c : Thread nD τ).loc main_arg2) i := by
  refine (dats m 0 c).arrAt_eq_of_covers 1 _ (by decide +kernel) fun t hf y => ?_
  blk_simp
  rw [after0_1]
  frame_out
  have e : k0_pay1 (F := Ideal) (iblk m c 0 t) y = iblk m c 0 t y := by pointwise [k0_pay1]
  refine e.trans ?_
  blk_ext [iblk, V, idx t]

/-- The features the reference computes from the arguments. -/
abbrev features (c : Dev nD) (st : Fin 2) : S20x20x96x1536.Idx → EReal := fun i =>
  Spec.feature (fun a j r b => m ((c : Thread nD τ).loc main_arg0) (ix4 a j r b)) (fun j b => m ((c : Thread nD τ).loc main_arg1) (ix2 j b))
    (fun i j k c' => m ((c : Thread nD τ).loc main_arg2) (ix4 i j k c')) (fun c' => m ((c : Thread nD τ).loc main_arg3) (ix1 c'))
    (fun c' => m ((c : Thread nD τ).loc main_arg4) (ix1 c')) st (i 0) (i 1) (i 2) (i 3)

theorem feat_eq (g : IVec S21x7x84x1536 32) (fl : IVec S8x1536 32) (w : FVec Ideal S8x8x4x96 .bf16) (sc bi : FVec Ideal S96 .f32)
    (s : FVec Ideal S84x84x4x1536 .bf16) (st : Fin 2)
    (hs : ∀ y x k b, s (ix4 y x k b) = Spec.px (fun a j r b => g (ix4 a j r b)) (fun j b => fl (ix2 j b)) st y x k b) :
    feat s w sc bi = fun i => Spec.feature (fun a j r b => g (ix4 a j r b)) (fun j b => fl (ix2 j b)) (fun i j k c => w (ix4 i j k c))
      (fun c => sc (ix1 c)) (fun c => bi (ix1 c)) st (i 0) (i 1) (i 2) (i 3) := by
  funext i
  conv_lhs => rw [eq_ix4 i]
  exact feat_apply s w sc bi _ _ st hs _ _ _ _

/-- The contents the host lines start from. -/
abbrev W0 (c : Dev nD) : Valuation τ sig (Elt Ideal) :=
  Pipeline.withArrays (cfgs 0).spec c (V0 m c) fun w => (dats m 0 c).arrAt w cfg0.N

theorem W0_arg0 (c : Dev nD) : W0 m c (Proc.devRef .tc main_arg0) = m ((c : Thread nD τ).loc main_arg0) :=
  Pipeline.withArrays_of_ne _ c _ _ main_arg0 (by exact (by decide : ∀ w, Pipeline.arrRef spec0 w ≠ main_arg0))
theorem W0_arg1 (c : Dev nD) : W0 m c (Proc.devRef .tc main_arg1) = m ((c : Thread nD τ).loc main_arg1) :=
  Pipeline.withArrays_of_ne _ c _ _ main_arg1 (by exact (by decide : ∀ w, Pipeline.arrRef spec0 w ≠ main_arg1))
theorem W0_arg3 (c : Dev nD) : W0 m c (Proc.devRef .tc main_arg3) = m ((c : Thread nD τ).loc main_arg3) :=
  Pipeline.withArrays_of_ne _ c _ _ main_arg3 (by exact (by decide : ∀ w, Pipeline.arrRef spec0 w ≠ main_arg3))
theorem W0_arg4 (c : Dev nD) : W0 m c (Proc.devRef .tc main_arg4) = m ((c : Thread nD τ).loc main_arg4) :=
  Pipeline.withArrays_of_ne _ c _ _ main_arg4 (by exact (by decide : ∀ w, Pipeline.arrRef spec0 w ≠ main_arg4))
theorem W0_v0 (c : Dev nD) : W0 m c (Proc.devRef .tc main_v0) = fun i => m ((c : Thread nD τ).loc main_arg2) i :=
  (Pipeline.withArrays_arr spec0 (by exact (by decide : Function.Injective (Pipeline.arrRef spec0))) c (V0 m c) _ 1).trans (arr_v0 m c)

theorem v71_eq (c : Dev nD) : StableHlo.after tail (W0 m c) (Proc.devRef .tc main_v71) = features m c 0 := by
  rw [tail_v71, W0_arg0, W0_arg1, W0_arg3, W0_arg4, W0_v0]
  exact feat_eq _ _ _ _ _ _ 0 (stack0_apply _ _)

theorem v98_eq (c : Dev nD) : StableHlo.after tail (W0 m c) (Proc.devRef .tc main_v98) = features m c 1 := by
  rw [tail_v98, W0_arg0, W0_arg1, W0_arg3, W0_arg4, W0_v0]
  exact feat_eq _ _ _ _ _ _ 1 (stack1_apply _ _)

/-- Every run of the reference ends with the features in its results and its arguments unchanged. -/
theorem run : θ_run defs (onTc (τ := τ) (main (F := Ideal))) ⟨m, fun _ => 0, ρ⟩ (fun r => ∀ c : Dev nD,
      r.2.mem ((c.tc : Thread nD τ).loc main_v71) = features m c 0
      ∧ r.2.mem ((c.tc : Thread nD τ).loc main_v98) = features m c 1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h.1 c).2 main_v71 (Pipeline.mem_restRefs_of main_v71 (by decide) (by decide))).trans (v71_eq m c),
     ((h.1 c).2 main_v98 (Pipeline.mem_restRefs_of main_v98 (by decide) (by decide))).trans (v98_eq m c), h.2 c⟩)
    (θ_run_and (run_main m ρ) (unchanged m ρ))

end Cert.ReferenceIdeal.Hand

end
-- ==== Proof.RingOffsets.lean ====
/-
  The ring gather's offsets and conditions, read off the printed kernel: task `(c, s)` is worker `w = 2 s + c`; round `t` of the main loop
  handles units `w + 64 t` (first buffer) and `w + 64 t + 32` (second buffer), a unit `u < 1764` being row `(u / 21, u % 21)` of the words.
-/
module

public import proofs.«01_k».proof.Proof.Gen.Gather

@[expose] public section

namespace Cert.Proof.Ring

open Cert.Gather Cert.Gather.Gen
open Idealize.ShloMosaic

/-- The worker of a task. -/
def wid (L : grid0.Coords) : ℕ := 2 * (L 1).val + (L 0).val

/-- The coordinates of a task, from its core and subcore. -/
def co (c : Fin 2) (s : Fin 16) : grid0.Coords := fun a => match a with
  | 0 => c
  | 1 => s

theorem co_eta (L : grid0.Coords) : co (L 0) (L 1) = L := by
  funext a
  match a with
  | 0 => rfl
  | 1 => rfl

/-- Where unit `u` lies in the words, and where its piece `j` lies in the gathered array. -/
def inOff (u : ℕ) : Fin 3 → ℕ := ![u / 21, u % 21, 0]
def outOff (u j : ℕ) : Fin 4 → ℕ := ![u / 21 / 4, j, 4 * (u % 21) + u / 21 % 4, 0]

theorem trips2_co : ∀ (c : Fin 2) (s : Fin 16), (k0_t2_loop (co c s)).trips = 28 := by decide +kernel
theorem trips5_co : ∀ (c : Fin 2) (s : Fin 16), (k0_t5_loop (co c s)).trips = 0 := by decide +kernel
theorem off2_co : ∀ (c : Fin 2) (s : Fin 16), k0_off2 (co c s) 0#32 = inOff (wid (co c s)) ∧ k0_off2 (co c s) 32#32 = inOff (wid (co c s) + 32) := by decide +kernel
theorem cond_co : ∀ (c : Fin 2) (s : Fin 16) (t : Fin (k0_t2_loop (co c s)).trips),
    k0_cond1 (co c s) t = 1#1
    ∧ (k0_cond2 (co c s) t = 1#1 ↔ 0 < t.val)
    ∧ (k0_cond3 (co c s) t = 1#1 ↔ wid (co c s) + 64 * (t.val + 1) < 1764)
    ∧ (k0_cond4 (co c s) t = 1#1 ↔ wid (co c s) + 64 * t.val + 32 < 1764)
    ∧ (k0_cond5 (co c s) t = 1#1 ↔ 0 < t.val)
    ∧ (k0_cond6 (co c s) t = 1#1 ↔ wid (co c s) + 64 * (t.val + 1) + 32 < 1764) := by decide +kernel
theorem cond13_co : ∀ (c : Fin 2) (s : Fin 16), (k0_cond13 (co c s) = 1#1 ↔ wid (co c s) = 31) := by decide +kernel
theorem out0_co : ∀ (c : Fin 2) (s : Fin 16) (t : Fin (k0_t2_loop (co c s)).trips),
    k0_off19 (co c s) t = outOff (wid (co c s) + 64 * t.val) 0
    ∧ k0_off20 (co c s) t = outOff (wid (co c s) + 64 * t.val) 1
    ∧ k0_off21 (co c s) t = outOff (wid (co c s) + 64 * t.val) 2
    ∧ k0_off22 (co c s) t = outOff (wid (co c s) + 64 * t.val) 3
    ∧ k0_off23 (co c s) t = outOff (wid (co c s) + 64 * t.val) 4
    ∧ k0_off24 (co c s) t = outOff (wid (co c s) + 64 * t.val) 5
    ∧ k0_off25 (co c s) t = outOff (wid (co c s) + 64 * t.val) 6
    ∧ k0_off26 (co c s) t = inOff (wid (co c s) + 64 * (t.val + 1)) := by decide +kernel
theorem out1_co : ∀ (c : Fin 2) (s : Fin 16) (t : Fin (k0_t2_loop (co c s)).trips),
    k0_off43 (co c s) t = outOff (wid (co c s) + 64 * t.val + 32) 0
    ∧ k0_off44 (co c s) t = outOff (wid (co c s) + 64 * t.val + 32) 1
    ∧ k0_off45 (co c s) t = outOff (wid (co c s) + 64 * t.val + 32) 2
    ∧ k0_off46 (co c s) t = outOff (wid (co c s) + 64 * t.val + 32) 3
    ∧ k0_off47 (co c s) t = outOff (wid (co c s) + 64 * t.val + 32) 4
    ∧ k0_off48 (co c s) t = outOff (wid (co c s) + 64 * t.val + 32) 5
    ∧ k0_off49 (co c s) t = outOff (wid (co c s) + 64 * t.val + 32) 6
    ∧ k0_off50 (co c s) t = inOff (wid (co c s) + 64 * (t.val + 1) + 32) := by decide +kernel

end Cert.Proof.Ring
-- ==== Proof.RingDefs.lean ====
/-
  The ring gather: the program as the SparseCore launch theorem sees it, the arrays and scratch buffers by name, and what each of them is to
  hold, as plain functions of the launch memory.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.Gather
public import proofs.«01_k».proof.Proof.Gen.Gather.Skeleton
public import proofs.«01_k».proof.Proof.RingOffsets

@[expose] public section

noncomputable section

namespace Cert.Proof.Ring

open Cert.Gather Cert.Gather.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters
abbrev EH : Emb UH (MT nD τ sig (HIx 1) (Elt F) ℕ UU ℕ) := embL

/-! ## The threads and the arrays -/

abbrev cV (L : grid0.Coords) : Fin τ.nSC := (L 0).castLE hcore0
abbrev jV (L : grid0.Coords) : Fin τ.nSub := (L 1).castLE hsub0
/-- The thread of task `L` on device `d`. -/
abbrev VT (d : Dev nD) (L : grid0.Coords) : Thread nD τ := V d (cV L) (jV L)

/-- The words, the episode starts, the indices, the gathered words and the gathered flags, as locations of device `d`. -/
abbrev wLoc (d : Dev nD) : Loc nD τ sig := (SparseCore.T d).loc main_arg0
abbrev sLoc (d : Dev nD) : Loc nD τ sig := (SparseCore.T d).loc main_arg1
abbrev iLoc (d : Dev nD) : Loc nD τ sig := (SparseCore.T d).loc main_arg2
abbrev gLoc (d : Dev nD) : Loc nD τ sig := (SparseCore.T d).loc main_v0_0
abbrev fLoc (d : Dev nD) : Loc nD τ sig := (SparseCore.T d).loc main_v0_1

abbrev wV : Memref sig .scVector .hbm S84x21x45000 .i32 := Memref.whole main_arg0_scv
abbrev sV : Memref sig .scVector .hbm S45000 .i32 := Memref.whole main_arg1_scv
abbrev iV : Memref sig .scVector .hbm S1536 .i32 := Memref.whole main_arg2_scv
abbrev gV : Memref sig .scVector .hbm S21x7x84x1536 .i32 := Memref.whole main_v0_0_scv
abbrev fV : Memref sig .scVector .hbm S8x1536 .i32 := Memref.whole main_v0_1_scv
abbrev rowV0 : Memref sig .scVector .vmem S45056 .i32 := Memref.whole cc0_scratch0
abbrev rowV1 : Memref sig .scVector .vmem S45056 .i32 := Memref.whole cc0_scratch1
abbrev posV : Memref sig .scVector .vmem S1536 .i32 := Memref.whole cc0_scratch2
abbrev obV0 : Memref sig .scVector .vmem S10752 .i32 := Memref.whole cc0_scratch3
abbrev obV1 : Memref sig .scVector .vmem S10752 .i32 := Memref.whole cc0_scratch4

/-! ## What the buffers are to hold -/

/-- The three coordinates of a word, each wrapped into its extent. -/
def ix3 (a b n : ℕ) : S84x21x45000.Idx := fun k => match k with
  | 0 => ⟨a % 84, Nat.mod_lt _ (by decide)⟩
  | 1 => ⟨b % 21, Nat.mod_lt _ (by decide)⟩
  | 2 => ⟨n % 45000, Nat.mod_lt _ (by decide)⟩
def ix1 (n : ℕ) : S45000.Idx := fun k => match k with
  | 0 => ⟨n % 45000, Nat.mod_lt _ (by decide)⟩
def ixb (n : ℕ) : S1536.Idx := fun k => match k with
  | 0 => ⟨n % 1536, Nat.mod_lt _ (by decide)⟩

/-- Unit `u`'s ring of words, and the ring of episode starts: word `n` wrapped around the ring. -/
def wordRing (W : S84x21x45000.Idx → BitVec 32) (u n : ℕ) : BitVec 32 := W (ix3 (u / 21) u n)
def flagRing (E : S45000.Idx → BitVec 32) (n : ℕ) : BitVec 32 := E (ix1 n)

/-- The position in the ring a gather starts from: three before the index, wrapped. -/
def start (x : BitVec 32) : ℕ := if x.toNat < 3 then x.toNat + 44997 else x.toNat - 3
/-- The same as the kernel computes it. -/
def startW (x : BitVec 32) : BitVec 32 := bif (x - 3#32).slt 0#32 then x - 3#32 + 45000#32 else x - 3#32

theorem startW_toNat {x : BitVec 32} (h : x.toNat < 45000) : (startW x).toNat = start x := by
  unfold startW start
  have hs : (x - 3#32).slt 0#32 = decide (x.toNat < 3) := by
    rw [BitVec.slt_eq_decide]
    rw [BitVec.toInt_eq_toNat_cond, BitVec.toNat_sub]
    simp only [decide_eq_decide]
    simp
    split <;> omega
  rw [hs]
  by_cases h3 : x.toNat < 3
  · simp only [h3, decide_true, cond_true, if_true, BitVec.toNat_add, BitVec.toNat_sub]
    simp
    omega
  · simp only [h3, decide_false, cond_false, if_false, BitVec.toNat_sub]
    simp
    omega

theorem start_lt {x : BitVec 32} (h : x.toNat < 45000) : start x < 45000 := by unfold start; split <;> omega

/-- A row buffer holding ring `r`: the ring's 45000 words and its first sixteen again. -/
def RowHolds (r : ℕ → BitVec 32) (f : S45056.Idx → BitVec 32) : Prop :=
  (∀ n, r (n % 45000) = r n) ∧ ∀ n : S45056.Idx, (n 0).val < 45016 → f n = r (n 0).val
/-- The start positions, adjusted for the first `t` groups of sixteen lanes, still indices from there on. -/
def PosHolds (X : S1536.Idx → BitVec 32) (t : ℕ) (f : S1536.Idx → BitVec 32) : Prop :=
  ∀ b : S1536.Idx, f b = if (b 0).val < 16 * t then startW (X b) else X b
/-- Word `n = 1536 j + b` of what one unit's gather leaves: the ring's word `j` after the start of lane `b`. -/
def gathered (r : ℕ → BitVec 32) (X : S1536.Idx → BitVec 32) (n : S10752.Idx) : BitVec 32 := r (start (X (ixb (n 0).val)) + (n 0).val / 1536)
/-- The gather done for the first `t` groups of sixteen lanes, and for the first `j` steps of the next. -/
def ObHolds (r : ℕ → BitVec 32) (X : S1536.Idx → BitVec 32) (t j : ℕ) (f : S10752.Idx → BitVec 32) : Prop :=
  ∀ n : S10752.Idx, (n 0).val % 1536 < 16 * t ∨ ((n 0).val % 1536 < 16 * (t + 1) ∧ (n 0).val / 1536 < j) → f n = gathered r X n

/-- The unit whose words are row `(y, ·, r, ·)` of the gathered array. -/
def unitOf (y r : ℕ) : ℕ := (4 * y + r % 4) * 21 + r / 4
/-- The gathered words, and the gathered flags (rows 0 to 6; row 7 is left as it was). -/
def gathG (W : S84x21x45000.Idx → BitVec 32) (X : S1536.Idx → BitVec 32) (i : S21x7x84x1536.Idx) : BitVec 32 :=
  wordRing W (unitOf (i 0).val (i 2).val) (start (X (ixb (i 3).val)) + (i 1).val)
def gathF (E : S45000.Idx → BitVec 32) (X : S1536.Idx → BitVec 32) (f : S8x1536.Idx → BitVec 32) (i : S8x1536.Idx) : BitVec 32 :=
  if (i 0).val < 7 then flagRing E (start (X (ixb (i 1).val)) + (i 0).val) else f i

theorem wordRing_mod (W : S84x21x45000.Idx → BitVec 32) (u n : ℕ) : wordRing W u (n % 45000) = wordRing W u n := by
  unfold wordRing ix3; congr 1; funext k
  match k with
  | 0 => rfl
  | 1 => rfl
  | 2 => exact Fin.ext (Nat.mod_mod _ _)
theorem flagRing_mod (E : S45000.Idx → BitVec 32) (n : ℕ) : flagRing E (n % 45000) = flagRing E n := by
  unfold flagRing ix1; congr 1; funext k
  match k with
  | 0 => exact Fin.ext (Nat.mod_mod _ _)

/-- Every index lies in the ring. -/
def InRing (X : S1536.Idx → BitVec 32) : Prop := ∀ b, (X b).toNat < 45000

end Cert.Proof.Ring

end
-- ==== Proof.RingSteps.lean ====
/-
  The ring gather's inner loops: the start positions adjusted in place, and one unit's gather out of its row buffer.
-/
module

public import proofs.«01_k».proof.Proof.RingDefs

@[expose] public section

noncomputable section

namespace Cert.Proof.Ring

open Cert.Gather Cert.Gather.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Buffers held at what they hold -/

section
variable (d : Dev nD) (L : grid0.Coords)

/-- The start positions: adjusted for the first `t` groups. -/
def PosAt (pos : Memref sig .scVector .vmem S1536 .i32) (X : S1536.Idx → BitVec 32) (t : ℕ) : sProp 𝕄 :=
  iprop(∃ f : Buf (Elt F) (pos.view.loc (VT d L)), (pos.view.loc (VT d L) ↦[Finset.univ]{fullShare} f) ∗ ⌜PosHolds X t (pos.view.read (Elt F) f)⌝)
/-- A row buffer holding a ring. -/
def RowAt (row : Memref sig .scVector .vmem S45056 .i32) (r : ℕ → BitVec 32) : sProp 𝕄 :=
  iprop(∃ f : Buf (Elt F) (row.view.loc (VT d L)), (row.view.loc (VT d L) ↦[Finset.univ]{fullShare} f) ∗ ⌜RowHolds r (row.view.read (Elt F) f)⌝)
/-- An output buffer with the gather done for `t` groups and `j` steps. -/
def ObAt (ob : Memref sig .scVector .vmem S10752 .i32) (r : ℕ → BitVec 32) (X : S1536.Idx → BitVec 32) (t j : ℕ) : sProp 𝕄 :=
  iprop(∃ f : Buf (Elt F) (ob.view.loc (VT d L)), (ob.view.loc (VT d L) ↦[Finset.univ]{fullShare} f) ∗ ⌜ObHolds r X t j (ob.view.read (Elt F) f)⌝)
end

/-! ## One lane group's one step -/

/-- Lane `n` of sixteen. -/
def lane16 (n : ℕ) (h : n < 16) : S16.Idx := fun k => match k with
  | 0 => ⟨n, h⟩

theorem unit16_emb {d : Fin 1 → ℕ} (o : ℕ) (inb : ∀ a, (![o] : Fin 1 → ℕ) a + S16.size a ≤ (⟨1, d⟩ : Shape).size a) (x : S16.Idx) :
    ((Rect.unit (s := ⟨1, d⟩) ![o] S16.size inb).emb x 0).val = o + (x 0).val := by
  rw [Rect.emb_apply]; show o + 1 * _ = _; rw [Nat.one_mul]

/-- Sixteen lanes written at `o`: what a word reads afterwards. -/
theorem read_store16 {d : Fin 1 → ℕ} {sp : Space} (m : Memref sig .scVector sp ⟨1, d⟩ .i32) (o : ℕ) {off : Fin 1 → ℕ} (hoff : off = ![o])
    (inb : ∀ a, off a + S16.size a ≤ (⟨1, d⟩ : Shape).size a) (f : m.view.ty.Contents (Elt F)) (w : (Rect.unit (s := ⟨1, d⟩) off S16.size inb).shape.Idx → Elt F .i32) (n : (⟨1, d⟩ : Shape).Idx) :
    m.view.read (Elt F) ((m.access (Rect.unit (s := ⟨1, d⟩) off S16.size inb)).write (Elt F) f w Finset.univ) n
      = if h : o ≤ (n 0).val ∧ (n 0).val < o + 16 then w (lane16 ((n 0).val - o) (by omega)) else m.view.read (Elt F) f n := by
  subst hoff
  split_ifs with h
  · have hn : n = (Rect.unit (s := ⟨1, d⟩) ![o] S16.size inb).emb (lane16 ((n 0).val - o) (by omega)) := by
      funext a; match a with
      | 0 => exact Fin.ext (by rw [unit16_emb]; show _ = o + ((n 0).val - o); omega)
    conv_lhs => rw [hn]
    exact View.read_slice_write_emb (v := m.view) (Rect.unit (s := ⟨1, d⟩) ![o] S16.size inb) f w (M := Finset.univ) (x := lane16 ((n 0).val - o) (by omega)) (Finset.mem_univ _)
  · refine View.read_slice_write_of_not_mem _ f w _ fun hm => h ?_
    obtain ⟨x, -, rfl⟩ := Finset.mem_map.mp hm
    have := (x 0).isLt
    rw [unit16_emb]; exact ⟨Nat.le_add_right _ _, Nat.add_lt_add_left this o⟩

/-- Reading the whole rectangle of a memref is reading the memref. -/
theorem read_whole_rect {κ : Kind} {sp : Space} {s : Shape} {e : EltTy} (m : Memref sig κ sp s e) (f : m.view.ty.Contents (Elt F)) (x : s.Idx) :
    (m.access (.whole s)).read (Elt F) f x = m.view.read (Elt F) f x := by
  show m.view.read (Elt F) f ((Rect.whole s).emb x) = _
  congr 1; funext a; exact Fin.ext (by rw [Rect.emb_apply]; show 0 + 1 * _ = _; omega)

/-- Sixteen lanes read at `o`. -/
theorem readAt16 {d : Fin 1 → ℕ} {sp : Space} (m : Memref sig .scVector sp ⟨1, d⟩ .i32) (o : ℕ) {off : Fin 1 → ℕ} (hoff : off = ![o])
    (inb : ∀ a, off a + S16.size a ≤ (⟨1, d⟩ : Shape).size a) (f : m.view.ty.Contents (Elt F)) (x : S16.Idx) (n : (⟨1, d⟩ : Shape).Idx) (hn : (n 0).val = o + (x 0).val) :
    m.view.readAt (Elt F) (Rect.unit (s := ⟨1, d⟩) off S16.size inb).toLoadRect f x = m.view.read (Elt F) f n := by
  subst hoff
  show m.view.read (Elt F) f ((Rect.unit (s := ⟨1, d⟩) ![o] S16.size inb).emb x) = _
  congr 1; funext a; match a with
  | 0 => exact Fin.ext (by rw [unit16_emb]; exact hn.symm)

variable [FloatOps F]

section Tile
variable (d : Dev nD) (L : grid0.Coords) {X : S1536.Idx → BitVec 32} (hX : InRing X) {r : ℕ → BitVec 32}
  {row : Memref sig .scVector .vmem S45056 .i32} {ob : Memref sig .scVector .vmem S10752 .i32}

include hX in
theorem step_index {t j : ℕ} (ht : t < 96) (hj : j < 7) {v : IVec S16 32} (hv : ∀ x : S16.Idx, v x = startW (X (ixb (16 * t + (x 0).val))) + BitVec.ofNat 32 j) (x : S16.Idx) :
    (v x).toNat = start (X (ixb (16 * t + (x 0).val))) + j := by
  rw [hv, BitVec.toNat_add, startW_toNat (hX _), BitVec.toNat_ofNat]
  have := start_lt (hX (ixb (16 * t + (x 0).val)))
  omega

include hX in
/-- One step of one lane group: the check, the indexed load, the load and the store. -/
theorem wp_gatherStep {t j : ℕ} (ht : t < 96) (hj : j < 7) {v : IVec S16 32} (hv : ∀ x : S16.Idx, v x = startW (X (ixb (16 * t + (x 0).val))) + BitVec.ofNat 32 j)
    {C : Prop} {dec : Decidable C} (hC : (∀ a x, ((![v] : Fin 1 → IVec S16 32) a x).toNat < S45056.size a) → C)
    {hidx : PLift C → ∀ a x, ((![v] : Fin 1 → IVec S16 32) a x).toNat < S45056.size a} {hl : row.view.Loads}
    {off : Fin 1 → ℕ} (hoff : off = ![16 * t + 1536 * j]) {inb : ∀ a, off a + S16.size a ≤ S10752.size a}
    {hl' : ob.view.LoadsAt (Rect.unit (s := S10752) off S16.size inb).toLoadRect}
    {hx : (ob.access (Rect.unit (s := S10752) off S16.size inb)).Stores Finset.univ} {hm} {α : Type}
    {k : PUnit → Prog (TpuEff nD τ sig (Elt F) Λ₀ (VT d L).2) α} {Q : α → sProp 𝕄} :
    iprop(RowAt (F := F) d L row r ∗ ObAt (F := F) d L ob r X t j)
      ⊢ iprop((iprop(RowAt (F := F) d L row r ∗ ObAt (F := F) d L ob r X t (j + 1)) -∗ wp frame (wpE (defs₀ (F := F)) 𝒱₀ (VT d L) none) Set.univ (k ⟨⟩) Q)
        -∗ wp frame (wpE (defs₀ (F := F)) 𝒱₀ (VT d L) none) Set.univ
          (.op (TpuEff.assume C dec) fun h => SparseCore.vectorLoadIdx row ![v] (hidx h) hl >>= fun w =>
            .op (.load ob (Rect.unit (s := S10752) off S16.size inb).toLoadRect hl') fun _ =>
            .op (.store ob (Rect.unit (s := S10752) off S16.size inb) w Finset.univ hx hm) k) Q) := by
  have hin : ∀ a x, ((![v] : Fin 1 → IVec S16 32) a x).toNat < S45056.size a := fun a x => by
    match a with
    | 0 =>
      show (v x).toNat < 45056
      rw [step_index hX ht hj hv]
      have := start_lt (hX (ixb (16 * t + (x 0).val))); omega
  unfold RowAt ObAt
  iintro ⟨⟨%f, Hr, %hf⟩, ⟨%g, Ho, %hg⟩⟩ HK
  rw [wp_assume_of _ _ _ _ (hC hin)]
  iapply (SparseCore.wp_vectorLoadIdx 𝒱₀ (VT d L) none Set.univ (base := row) (S := Finset.univ) (q := fullShare) (f := f) (Finset.subset_univ _)) $$ Hr; iintro Hr
  iapply (wp_load 𝒱₀ (VT d L) none Set.univ (m := ob) (S := Finset.univ) (f := g) (Finset.subset_univ _)) $$ Ho; iintro Ho
  iapply (wp_store 𝒱₀ (VT d L) none Set.univ (m := ob) (r := Rect.unit (s := S10752) off S16.size inb) (S := Finset.univ) (f := g) (Finset.subset_univ _)) $$ Ho; iintro Ho
  iapply HK
  isplitl [Hr]
  · iexists f; isplitl; · iexact Hr
    ipureintro; exact hf
  · iexists _; isplitl; · iexact Ho
    ipureintro
    intro n hn
    rw [read_store16 ob (16 * t + 1536 * j) hoff]
    have hn7 : (n 0).val < 10752 := (n 0).isLt
    split_ifs with h
    · show (row.access (.whole S45056)).read (Elt F) f _ = _
      have hs := step_index hX ht hj hv (lane16 ((n 0).val - (16 * t + 1536 * j)) (by omega))
      have hlt := start_lt (hX (ixb (16 * t + ((n 0).val - (16 * t + 1536 * j)))))
      rw [read_whole_rect]
      refine (hf.2 (idxAt _ _ _) ?_).trans ?_
      · show (v _).toNat < 45016
        rw [hs]; show start (X (ixb (16 * t + ((n 0).val - (16 * t + 1536 * j))))) + j < 45016
        omega
      · show r (v _).toNat = _
        rw [hs]; unfold gathered
        have h1 : (n 0).val / 1536 = j := by omega
        have h2 : ixb (16 * t + ((n 0).val - (16 * t + 1536 * j))) = ixb (n 0).val := by
          funext k; match k with
          | 0 => exact Fin.ext (by show _ % 1536 = _ % 1536; omega)
        show r (start (X (ixb (16 * t + ((n 0).val - (16 * t + 1536 * j))))) + j) = _
        rw [h1, h2]
    · refine hg n ?_
      omega

end Tile

end Cert.Proof.Ring

end
-- ==== Proof.RingLoops.lean ====
/-
  The ring gather's inner loops: the start positions adjusted in place, and one unit's gather out of its row buffer.
-/

module

public import proofs.«01_k».proof.Proof.RingSteps

@[expose] public section

noncomputable section

namespace Cert.Proof.Ring

open Cert.Gather Cert.Gather.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile
variable (d : Dev nD) (L : grid0.Coords) {X : S1536.Idx → BitVec 32} (hX : InRing X) {r : ℕ → BitVec 32}
variable (arg2 : Memref sig .scVector .hbm S84x21x45000 .i32) (harg2 : arg2.IsWhole) (arg3 : Memref sig .scVector .hbm S45000 .i32) (harg3 : arg3.IsWhole) (arg4 : Memref sig .scVector .hbm S1536 .i32) (harg4 : arg4.IsWhole) (arg5 : Memref sig .scVector .hbm S21x7x84x1536 .i32) (harg5 : arg5.IsWhole) (arg6 : Memref sig .scVector .hbm S8x1536 .i32) (harg6 : arg6.IsWhole) (arg7 : Memref sig .scVector .vmem S45056 .i32) (harg7 : arg7.IsWhole) (arg8 : Memref sig .scVector .vmem S45056 .i32) (harg8 : arg8.IsWhole) (arg9 : Memref sig .scVector .vmem S1536 .i32) (harg9 : arg9.IsWhole) (arg10 : Memref sig .scVector .vmem S10752 .i32) (harg10 : arg10.IsWhole) (arg11 : Memref sig .scVector .vmem S10752 .i32) (harg11 : arg11.IsWhole) (arg12 : DmaSems sig S2) (arg13 : DmaSems sig S2) (v553_r0 : DmaSems sig S_) (v556_r1 : DmaSems sig S_) (v556_r2 : DmaSems sig S_) (v556_r3 : DmaSems sig S_) (v556_r4 : DmaSems sig S_) (v556_r5 : DmaSems sig S_) (v556_r6 : DmaSems sig S_) (v556_r7 : DmaSems sig S_) (v556_r8 : DmaSems sig S_)

theorem trips_t1 : k0_t1_loop.trips = 96 := by decide +kernel
theorem trips_t3 : k0_t3_loop.trips = 96 := by decide +kernel
theorem trips_t4 : k0_t4_loop.trips = 96 := by decide +kernel
theorem trips_t8 : k0_t8_loop.trips = 96 := by decide +kernel

omit [FloatOps F] in
include hX in
/-- Sixteen adjusted start positions plus a step, as the indexed load takes them. -/
theorem loaded_pos {f : arg9.view.ty.Contents (Elt F)} (hf : PosHolds X 96 (arg9.view.read (Elt F) f)) {t : ℕ} (ht : t < 96) {off : Fin 1 → ℕ} (hoff : off = ![16 * t])
    (inb : ∀ a, off a + S16.size a ≤ S1536.size a) (x : S16.Idx) :
    arg9.view.readAt (Elt F) (Rect.unit (s := S1536) off S16.size inb).toLoadRect f x = startW (X (ixb (16 * t + (x 0).val))) := by
  have hx : (x 0).val < 16 := (x 0).isLt
  have h := readAt16 arg9 (16 * t) hoff inb f x (ixb (16 * t + (x 0).val)) (by show _ % 1536 = _; omega)
  rw [h, hf, if_pos]
  show (16 * t + (x 0).val) % 1536 < 16 * 96; omega

theorem ObHolds.next {X : S1536.Idx → BitVec 32} {r : ℕ → BitVec 32} {t : ℕ} {f : S10752.Idx → BitVec 32} (h : ObHolds r X t 7 f) : ObHolds r X (t + 1) 0 f := fun n hn => h n (by
  have : (n 0).val < 10752 := (n 0).isLt
  omega)

include hX in
set_option maxHeartbeats 2000000 in
/-- One lane group of the gather out of the first row buffer. -/
theorem t3_trip (k0_t2 : Fin (k0_t2_loop L).trips) (v558 : BitVec 32) (k0_h1 : k0_cond1 L k0_t2 = 1#1) (k : Fin k0_t3_loop.trips) (u : Unit) :
    iprop(PosAt (F := F) d L arg9 X 96 ∗ RowAt (F := F) d L arg7 r ∗ ObAt (F := F) d L arg10 r X k.val 0)
      ⊢ wp frame (wpE (defs₀ (F := F)) 𝒱₀ (VT d L) none) Set.univ
        (k0_t3_body L arg2 harg2 arg3 harg3 arg4 harg4 arg5 harg5 arg6 harg6 arg7 harg7 arg8 harg8 arg9 harg9 arg10 harg10 arg11 harg11 arg12 arg13 v553_r0 v556_r1 v556_r2 v556_r3 v556_r4 v556_r5 v556_r6 v556_r7 v556_r8 k0_t2 v558 k0_h1 k u)
        fun _ => iprop(PosAt (F := F) d L arg9 X 96 ∗ RowAt (F := F) d L arg7 r ∗ ObAt (F := F) d L arg10 r X (k.val + 1) 0) := by
  have hk : k.val < 96 := trips_t3 ▸ k.isLt
  unfold k0_t3_body
  simp only [k0_part6_eq_skeleton]; unfold k0_part6_skel
  simp only [Prog.lift, Prog.bind_op, Prog.bind_ret, Prog.pure_eq_ret, Prog.bind_assoc]
  iintro ⟨HP, Hr, Ho⟩
  unfold PosAt
  icases HP with ⟨%f, Hp, %hf⟩
  have hv := loaded_pos hX arg9 hf hk (k0_off11_eq k) (k0_off11_inb L k0_t2 k k0_h1)
  iapply (wp_load 𝒱₀ (VT d L) none Set.univ (m := arg9) (S := Finset.univ) (f := f) (Finset.subset_univ _)) $$ Hp; iintro Hp
  iapply (wp_gatherStep d L hX (r := r) (row := arg7) (ob := arg10) (t := k.val) (j := 0) hk (by decide) (fun x => by rw [← hv x]; rfl) (fun h _ => h) (k0_off12_eq k)) $$ [Hr Ho]
  · isplitl [Hr] <;> iassumption
  iintro ⟨Hr, Ho⟩
  iapply (wp_gatherStep d L hX (r := r) (row := arg7) (ob := arg10) (t := k.val) (j := 1) hk (by decide) (fun x => by rw [← hv x]; rfl) (fun h _ => h) (k0_off13_eq k)) $$ [Hr Ho]
  · isplitl [Hr] <;> iassumption
  iintro ⟨Hr, Ho⟩
  iapply (wp_gatherStep d L hX (r := r) (row := arg7) (ob := arg10) (t := k.val) (j := 2) hk (by decide) (fun x => by rw [← hv x]; rfl) (fun h _ => h) (k0_off14_eq k)) $$ [Hr Ho]
  · isplitl [Hr] <;> iassumption
  iintro ⟨Hr, Ho⟩
  iapply (wp_gatherStep d L hX (r := r) (row := arg7) (ob := arg10) (t := k.val) (j := 3) hk (by decide) (fun x => by rw [← hv x]; rfl) (fun h _ => h) (k0_off15_eq k)) $$ [Hr Ho]
  · isplitl [Hr] <;> iassumption
  iintro ⟨Hr, Ho⟩
  iapply (wp_gatherStep d L hX (r := r) (row := arg7) (ob := arg10) (t := k.val) (j := 4) hk (by decide) (fun x => by rw [← hv x]; rfl) (fun h _ => h) (k0_off16_eq k)) $$ [Hr Ho]
  · isplitl [Hr] <;> iassumption
  iintro ⟨Hr, Ho⟩
  iapply (wp_gatherStep d L hX (r := r) (row := arg7) (ob := arg10) (t := k.val) (j := 5) hk (by decide) (fun x => by rw [← hv x]; rfl) (fun h _ => h) (k0_off17_eq k)) $$ [Hr Ho]
  · isplitl [Hr] <;> iassumption
  iintro ⟨Hr, Ho⟩
  iapply (wp_gatherStep d L hX (r := r) (row := arg7) (ob := arg10) (t := k.val) (j := 6) hk (by decide) (fun x => by rw [← hv x]; rfl) (fun h _ => h) (k0_off18_eq k)) $$ [Hr Ho]
  · isplitl [Hr] <;> iassumption
  iintro ⟨Hr, Ho⟩
  sl_step
  isplitl [Hp]
  · iexists f; isplitl; · iexact Hp
    ipureintro; exact hf
  isplitl [Hr]; · iexact Hr
  unfold ObAt
  icases Ho with ⟨%g, Ho, %hg⟩
  iexists g; isplitl; · iexact Ho
  ipureintro; exact hg.next

include hX in
set_option maxHeartbeats 2000000 in
/-- One lane group of the gather out of the second row buffer. -/
theorem t4_trip (k0_t2 : Fin (k0_t2_loop L).trips) (v565 : BitVec 32) (k0_h4 : k0_cond4 L k0_t2 = 1#1) (k : Fin k0_t4_loop.trips) (u : Unit) :
    iprop(PosAt (F := F) d L arg9 X 96 ∗ RowAt (F := F) d L arg8 r ∗ ObAt (F := F) d L arg11 r X k.val 0)
      ⊢ wp frame (wpE (defs₀ (F := F)) 𝒱₀ (VT d L) none) Set.univ
        (k0_t4_body L arg2 harg2 arg3 harg3 arg4 harg4 arg5 harg5 arg6 harg6 arg7 harg7 arg8 harg8 arg9 harg9 arg10 harg10 arg11 harg11 arg12 arg13 v553_r0 v556_r1 v556_r2 v556_r3 v556_r4 v556_r5 v556_r6 v556_r7 v556_r8 k0_t2 v565 k0_h4 k u)
        fun _ => iprop(PosAt (F := F) d L arg9 X 96 ∗ RowAt (F := F) d L arg8 r ∗ ObAt (F := F) d L arg11 r X (k.val + 1) 0) := by
  have hk : k.val < 96 := trips_t4 ▸ k.isLt
  unfold k0_t4_body
  simp only [k0_part18_eq_skeleton]; unfold k0_part18_skel
  simp only [Prog.lift, Prog.bind_op, Prog.bind_ret, Prog.pure_eq_ret, Prog.bind_assoc]
  iintro ⟨HP, Hr, Ho⟩
  unfold PosAt
  icases HP with ⟨%f, Hp, %hf⟩
  have hv := loaded_pos hX arg9 hf hk (k0_off35_eq k) (k0_off35_inb L k0_t2 k k0_h4)
  iapply (wp_load 𝒱₀ (VT d L) none Set.univ (m := arg9) (S := Finset.univ) (f := f) (Finset.subset_univ _)) $$ Hp; iintro Hp
  iapply (wp_gatherStep d L hX (r := r) (row := arg8) (ob := arg11) (t := k.val) (j := 0) hk (by decide) (fun x => by rw [← hv x]; rfl) (fun h _ => h) (k0_off36_eq k)) $$ [Hr Ho]
  · isplitl [Hr] <;> iassumption
  iintro ⟨Hr, Ho⟩
  iapply (wp_gatherStep d L hX (r := r) (row := arg8) (ob := arg11) (t := k.val) (j := 1) hk (by decide) (fun x => by rw [← hv x]; rfl) (fun h _ => h) (k0_off37_eq k)) $$ [Hr Ho]
  · isplitl [Hr] <;> iassumption
  iintro ⟨Hr, Ho⟩
  iapply (wp_gatherStep d L hX (r := r) (row := arg8) (ob := arg11) (t := k.val) (j := 2) hk (by decide) (fun x => by rw [← hv x]; rfl) (fun h _ => h) (k0_off38_eq k)) $$ [Hr Ho]
  · isplitl [Hr] <;> iassumption
  iintro ⟨Hr, Ho⟩
  iapply (wp_gatherStep d L hX (r := r) (row := arg8) (ob := arg11) (t := k.val) (j := 3) hk (by decide) (fun x => by rw [← hv x]; rfl) (fun h _ => h) (k0_off39_eq k)) $$ [Hr Ho]
  · isplitl [Hr] <;> iassumption
  iintro ⟨Hr, Ho⟩
  iapply (wp_gatherStep d L hX (r := r) (row := arg8) (ob := arg11) (t := k.val) (j := 4) hk (by decide) (fun x => by rw [← hv x]; rfl) (fun h _ => h) (k0_off40_eq k)) $$ [Hr Ho]
  · isplitl [Hr] <;> iassumption
  iintro ⟨Hr, Ho⟩
  iapply (wp_gatherStep d L hX (r := r) (row := arg8) (ob := arg11) (t := k.val) (j := 5) hk (by decide) (fun x => by rw [← hv x]; rfl) (fun h _ => h) (k0_off41_eq k)) $$ [Hr Ho]
  · isplitl [Hr] <;> iassumption
  iintro ⟨Hr, Ho⟩
  iapply (wp_gatherStep d L hX (r := r) (row := arg8) (ob := arg11) (t := k.val) (j := 6) hk (by decide) (fun x => by rw [← hv x]; rfl) (fun h _ => h) (k0_off42_eq k)) $$ [Hr Ho]
  · isplitl [Hr] <;> iassumption
  iintro ⟨Hr, Ho⟩
  sl_step
  isplitl [Hp]
  · iexists f; isplitl; · iexact Hp
    ipureintro; exact hf
  isplitl [Hr]; · iexact Hr
  unfold ObAt
  icases Ho with ⟨%g, Ho, %hg⟩
  iexists g; isplitl; · iexact Ho
  ipureintro; exact hg.next

include hX in
set_option maxHeartbeats 2000000 in
/-- One lane group of the gather of the episode starts. -/
theorem t8_trip (k0_h13 : k0_cond13 L = 1#1) (k : Fin k0_t8_loop.trips) (u : Unit) :
    iprop(PosAt (F := F) d L arg9 X 96 ∗ RowAt (F := F) d L arg7 r ∗ ObAt (F := F) d L arg10 r X k.val 0)
      ⊢ wp frame (wpE (defs₀ (F := F)) 𝒱₀ (VT d L) none) Set.univ
        (k0_t8_body L arg2 harg2 arg3 harg3 arg4 harg4 arg5 harg5 arg6 harg6 arg7 harg7 arg8 harg8 arg9 harg9 arg10 harg10 arg11 harg11 arg12 arg13 v553_r0 v556_r1 v556_r2 v556_r3 v556_r4 v556_r5 v556_r6 v556_r7 v556_r8 k0_h13 k u)
        fun _ => iprop(PosAt (F := F) d L arg9 X 96 ∗ RowAt (F := F) d L arg7 r ∗ ObAt (F := F) d L arg10 r X (k.val + 1) 0) := by
  have hk : k.val < 96 := trips_t8 ▸ k.isLt
  unfold k0_t8_body
  simp only [k0_part49_eq_skeleton]; unfold k0_part49_skel
  simp only [Prog.lift, Prog.bind_op, Prog.bind_ret, Prog.pure_eq_ret, Prog.bind_assoc]
  iintro ⟨HP, Hr, Ho⟩
  unfold PosAt
  icases HP with ⟨%f, Hp, %hf⟩
  have hv := loaded_pos hX arg9 hf hk (k0_off106_eq k) (k0_off106_inb L k k0_h13)
  iapply (wp_load 𝒱₀ (VT d L) none Set.univ (m := arg9) (S := Finset.univ) (f := f) (Finset.subset_univ _)) $$ Hp; iintro Hp
  iapply (wp_gatherStep d L hX (r := r) (row := arg7) (ob := arg10) (t := k.val) (j := 0) hk (by decide) (fun x => by rw [← hv x]; rfl) (fun h _ => h) (k0_off107_eq k)) $$ [Hr Ho]
  · isplitl [Hr] <;> iassumption
  iintro ⟨Hr, Ho⟩
  iapply (wp_gatherStep d L hX (r := r) (row := arg7) (ob := arg10) (t := k.val) (j := 1) hk (by decide) (fun x => by rw [← hv x]; rfl) (fun h _ => h) (k0_off108_eq k)) $$ [Hr Ho]
  · isplitl [Hr] <;> iassumption
  iintro ⟨Hr, Ho⟩
  iapply (wp_gatherStep d L hX (r := r) (row := arg7) (ob := arg10) (t := k.val) (j := 2) hk (by decide) (fun x => by rw [← hv x]; rfl) (fun h _ => h) (k0_off109_eq k)) $$ [Hr Ho]
  · isplitl [Hr] <;> iassumption
  iintro ⟨Hr, Ho⟩
  iapply (wp_gatherStep d L hX (r := r) (row := arg7) (ob := arg10) (t := k.val) (j := 3) hk (by decide) (fun x => by rw [← hv x]; rfl) (fun h _ => h) (k0_off110_eq k)) $$ [Hr Ho]
  · isplitl [Hr] <;> iassumption
  iintro ⟨Hr, Ho⟩
  iapply (wp_gatherStep d L hX (r := r) (row := arg7) (ob := arg10) (t := k.val) (j := 4) hk (by decide) (fun x => by rw [← hv x]; rfl) (fun h _ => h) (k0_off111_eq k)) $$ [Hr Ho]
  · isplitl [Hr] <;> iassumption
  iintro ⟨Hr, Ho⟩
  iapply (wp_gatherStep d L hX (r := r) (row := arg7) (ob := arg10) (t := k.val) (j := 5) hk (by decide) (fun x => by rw [← hv x]; rfl) (fun h _ => h) (k0_off112_eq k)) $$ [Hr Ho]
  · isplitl [Hr] <;> iassumption
  iintro ⟨Hr, Ho⟩
  iapply (wp_gatherStep d L hX (r := r) (row := arg7) (ob := arg10) (t := k.val) (j := 6) hk (by decide) (fun x => by rw [← hv x]; rfl) (fun h _ => h) (k0_off113_eq k)) $$ [Hr Ho]
  · isplitl [Hr] <;> iassumption
  iintro ⟨Hr, Ho⟩
  sl_step
  isplitl [Hp]
  · iexists f; isplitl; · iexact Hp
    ipureintro; exact hf
  isplitl [Hr]; · iexact Hr
  unfold ObAt
  icases Ho with ⟨%g, Ho, %hg⟩
  iexists g; isplitl; · iexact Ho
  ipureintro; exact hg.next

omit [FloatOps F] in
/-- The start position as the kernel computes it, at one lane. -/
theorem pay36_apply (v : Vec F S16 .i32) (x : S16.Idx) : k0_pay36 v x = startW (v x) := by
  unfold startW
  show Scalar.select (BitVec.ofBool ((v x - 3#32).slt 0#32)) (v x - 3#32 + 45000#32) (v x - 3#32) = _
  cases (v x - 3#32).slt 0#32 <;> rfl

/-- One group of sixteen start positions adjusted in place. -/
theorem t1_trip (k : Fin k0_t1_loop.trips) (u : Unit) :
    PosAt (F := F) d L arg9 X k.val
      ⊢ wp frame (wpE (defs₀ (F := F)) 𝒱₀ (VT d L) none) Set.univ (k0_t1_body L arg2 harg2 arg3 harg3 arg4 harg4 arg5 harg5 arg6 harg6 arg7 harg7 arg8 harg8 arg9 harg9 arg10 harg10 arg11 harg11 arg12 arg13 v553_r0 v556_r1 v556_r2 v556_r3 v556_r4 v556_r5 v556_r6 v556_r7 v556_r8 k u)
        fun _ => PosAt (F := F) d L arg9 X (k.val + 1) := by
  have hk : k.val < 96 := trips_t1 ▸ k.isLt
  unfold k0_t1_body
  simp only [Prog.lift, Prog.bind_op, Prog.bind_ret, Prog.pure_eq_ret, Prog.bind_assoc]
  unfold PosAt
  iintro ⟨%f, Hp, %hf⟩
  iapply (wp_load 𝒱₀ (VT d L) none Set.univ (m := arg9) (S := Finset.univ) (f := f) (Finset.subset_univ _)) $$ Hp; iintro Hp
  iapply (wp_load 𝒱₀ (VT d L) none Set.univ (m := arg9) (S := Finset.univ) (f := f) (Finset.subset_univ _)) $$ Hp; iintro Hp
  iapply (wp_store 𝒱₀ (VT d L) none Set.univ (m := arg9) (r := Rect.unit (s := S1536) (k0_off1 k) S16.size (k0_off1_inb k)) (S := Finset.univ) (f := f) (Finset.subset_univ _)) $$ Hp; iintro Hp
  sl_step
  iexists _; isplitl; · iexact Hp
  ipureintro
  intro b
  have hb : (b 0).val < 1536 := (b 0).isLt
  rw [read_store16 arg9 (16 * k.val) (k0_off1_eq k)]
  by_cases h : 16 * k.val ≤ (b 0).val ∧ (b 0).val < 16 * k.val + 16
  · rw [dif_pos h, if_pos (by omega)]
    have hr := readAt16 arg9 (16 * k.val) (k0_off1_eq k) (k0_off1_inb k) f (lane16 ((b 0).val - 16 * k.val) (by omega)) b (by show _ = 16 * k.val + ((b 0).val - 16 * k.val); omega)
    rw [hf b, if_neg (by omega)] at hr
    rw [← hr]
    exact pay36_apply _ _
  · rw [dif_neg h, hf b]
    split_ifs <;> first | rfl | omega

end Tile

end Cert.Proof.Ring

end
-- ==== Proof.RingViews.lean ====
/-
  The ring gather's transfers: which elements each slice names, and what a word written through it is.
-/
module

public import proofs.«01_k».proof.Proof.RingLoops

@[expose] public section

noncomputable section

namespace Cert.Proof.Ring

open Cert.Gather Cert.Gather.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The slices -/

/-- Unit `u`'s words, piece `j` of unit `u`'s gathered words. -/
def wset (u : ℕ) : Finset S84x21x45000.Idx := Finset.univ.filter fun i => (i 0).val = u / 21 ∧ (i 1).val = u % 21
def piece (u j : ℕ) : Finset S21x7x84x1536.Idx := Finset.univ.filter fun i => (i 0).val = u / 21 / 4 ∧ (i 1).val = j ∧ (i 2).val = 4 * (u % 21) + u / 21 % 4
def frow (j : ℕ) : Finset S8x1536.Idx := Finset.univ.filter fun i => (i 0).val = j

abbrev wSlice (off : Fin 3 → ℕ) (inb : ∀ a, off a + S1x1x45000.size a ≤ S84x21x45000.size a) : Memref sig .scVector .hbm S45000 .i32 :=
  (wV.slice (Rect.unit (s := S84x21x45000) off S1x1x45000.size inb) (fun _ => rfl)).squeeze S45000 squeezes_S1x1x45000_S45000
abbrev gSlice (off : Fin 4 → ℕ) (inb : ∀ a, off a + S1x1x1x1536.size a ≤ S21x7x84x1536.size a) : Memref sig .scVector .hbm S1536 .i32 :=
  (gV.slice (Rect.unit (s := S21x7x84x1536) off S1x1x1x1536.size inb) (fun _ => rfl)).squeeze S1536 squeezes_S1x1x1x1536_S1536
abbrev fSlice (off : Fin 2 → ℕ) (inb : ∀ a, off a + S1x1536.size a ≤ S8x1536.size a) : Memref sig .scVector .hbm S1536 .i32 :=
  (fV.slice (Rect.unit (s := S8x1536) off S1x1536.size inb) (fun _ => rfl)).squeeze S1536 squeezes_S1x1536_S1536
abbrev chunk (ob : Memref sig .scVector .vmem S10752 .i32) (o : ℕ) (inb : ∀ a, (![o] : Fin 1 → ℕ) a + S1536.size a ≤ S10752.size a) : Memref sig .scVector .vmem S1536 .i32 :=
  ob.slice (Rect.unit (s := S10752) ![o] S1536.size inb) (fun _ => rfl)
abbrev ring (row : Memref sig .scVector .vmem S45056 .i32) : Memref sig .scVector .vmem S45000 .i32 :=
  row.slice (Rect.unit (s := S45056) ![0] S45000.size inb_S45056_S45000_0) (fun _ => rfl)

theorem wSlice_emb {u : ℕ} {off : Fin 3 → ℕ} (hoff : off = inOff u) (inb) (x : S45000.Idx) :
    (wSlice off inb).view.emb x = ix3 (u / 21) u (x 0).val := by
  subst hoff
  have h0 : u / 21 + 1 ≤ 84 := inb 0
  have hx : (x 0).val < 45000 := (x 0).isLt
  show (Rect.unit (s := S84x21x45000) (inOff u) S1x1x45000.size inb).emb (Shape.reshapeEquiv (squeezes_S1x1x45000_S45000).numel_eq x) = _
  rw [show Shape.reshapeEquiv (squeezes_S1x1x45000_S45000).numel_eq x = (fun k => match k with | 0 => ⟨0, Nat.one_pos⟩ | 1 => ⟨0, Nat.one_pos⟩ | 2 => x 0) from
    Shape.reshapeEquiv_eq_of_rowMajor _ (by
      rw [Shape.rowMajor_val_three, Shape.rowMajor_val_one]; show (0 * _ + 0) * _ + (x 0).val = _; omega)]
  funext a; apply Fin.ext; rw [Rect.emb_apply]
  match a with
  | 0 => show u / 21 + 1 * 0 = (u / 21) % 84; omega
  | 1 => show u % 21 + 1 * 0 = u % 21; omega
  | 2 => show 0 + 1 * (x 0).val = (x 0).val % 45000; omega

theorem gSlice_emb {u j : ℕ} {off : Fin 4 → ℕ} (hoff : off = outOff u j) (inb) (x : S1536.Idx) :
    ((gSlice off inb).view.emb x 0).val = u / 21 / 4 ∧ ((gSlice off inb).view.emb x 1).val = j
      ∧ ((gSlice off inb).view.emb x 2).val = 4 * (u % 21) + u / 21 % 4 ∧ ((gSlice off inb).view.emb x 3).val = (x 0).val := by
  subst hoff
  have he : (gSlice (outOff u j) inb).view.emb x = (Rect.unit (s := S21x7x84x1536) (outOff u j) S1x1x1x1536.size inb).emb
      (fun k => match k with | 0 => ⟨0, Nat.one_pos⟩ | 1 => ⟨0, Nat.one_pos⟩ | 2 => ⟨0, Nat.one_pos⟩ | 3 => x 0) := by
    show (Rect.unit (s := S21x7x84x1536) (outOff u j) S1x1x1x1536.size inb).emb (Shape.reshapeEquiv (squeezes_S1x1x1x1536_S1536).numel_eq x) = _
    congr 1
    exact Shape.reshapeEquiv_eq_of_rowMajor _ (by
      rw [Shape.rowMajor_val_four, Shape.rowMajor_val_one]; show ((0 * _ + 0) * _ + 0) * _ + (x 0).val = _; omega)
  rw [he]
  simp only [Rect.emb_apply]
  refine ⟨?_, ?_, ?_, ?_⟩
  · show u / 21 / 4 + 1 * 0 = _; omega
  · show j + 1 * 0 = _; omega
  · show 4 * (u % 21) + u / 21 % 4 + 1 * 0 = _; omega
  · show 0 + 1 * (x 0).val = _; omega

theorem fSlice_emb {j : ℕ} (inb) (x : S1536.Idx) : ((fSlice ![j, 0] inb).view.emb x 0).val = j ∧ ((fSlice ![j, 0] inb).view.emb x 1).val = (x 0).val := by
  have he : (fSlice ![j, 0] inb).view.emb x = (Rect.unit (s := S8x1536) ![j, 0] S1x1536.size inb).emb
      (fun k => match k with | 0 => ⟨0, Nat.one_pos⟩ | 1 => x 0) := by
    show (Rect.unit (s := S8x1536) ![j, 0] S1x1536.size inb).emb (Shape.reshapeEquiv (squeezes_S1x1536_S1536).numel_eq x) = _
    congr 1
    exact Shape.reshapeEquiv_eq_of_rowMajor _ (by
      rw [Shape.rowMajor_val_two, Shape.rowMajor_val_one]; show 0 * _ + (x 0).val = _; omega)
  rw [he]
  simp only [Rect.emb_apply]
  refine ⟨?_, ?_⟩
  · show j + 1 * 0 = _; omega
  · show 0 + 1 * (x 0).val = _; omega

theorem wSlice_set {u : ℕ} (hu : u < 1764) {off : Fin 3 → ℕ} (hoff : off = inOff u) (inb) : (wSlice off inb).view.set = wset u := by
  ext i
  show i ∈ Finset.univ.map _ ↔ _
  rw [Finset.mem_map]
  constructor
  · rintro ⟨x, -, rfl⟩
    rw [wSlice_emb hoff]
    exact Finset.mem_filter.mpr ⟨Finset.mem_univ _, (by show (u / 21) % 84 = _; omega), rfl⟩
  · intro hi
    obtain ⟨-, h0, h1⟩ := Finset.mem_filter.mp hi
    refine ⟨fun k => match k with | 0 => i 2, Finset.mem_univ _, ?_⟩
    rw [wSlice_emb hoff]
    have h2 : (i 2).val < 45000 := (i 2).isLt
    funext a; apply Fin.ext
    match a with
    | 0 => show (u / 21) % 84 = _; omega
    | 1 => show u % 21 = _; omega
    | 2 => show (i 2).val % 45000 = _; omega

theorem gSlice_set {u j : ℕ} {off : Fin 4 → ℕ} (hoff : off = outOff u j) (inb) : (gSlice off inb).view.set = piece u j := by
  ext i
  show i ∈ Finset.univ.map _ ↔ _
  rw [Finset.mem_map]
  constructor
  · rintro ⟨x, -, rfl⟩
    obtain ⟨h0, h1, h2, -⟩ := gSlice_emb hoff inb x
    exact Finset.mem_filter.mpr ⟨Finset.mem_univ _, h0, h1, h2⟩
  · intro hi
    obtain ⟨-, h0, h1, h2⟩ := Finset.mem_filter.mp hi
    refine ⟨fun k => match k with | 0 => i 3, Finset.mem_univ _, ?_⟩
    obtain ⟨e0, e1, e2, e3⟩ := gSlice_emb hoff inb (fun k => match k with | 0 => i 3)
    funext a; apply Fin.ext
    match a with
    | 0 => exact e0.trans h0.symm
    | 1 => exact e1.trans h1.symm
    | 2 => exact e2.trans h2.symm
    | 3 => exact e3

/-- Word `n` of a chunk, and of a row buffer. -/
def lane1536 (n : ℕ) (h : n < 1536) : S1536.Idx := fun k => match k with
  | 0 => ⟨n, h⟩
def rowIx (n : ℕ) (h : n < 45056) : S45056.Idx := fun k => match k with
  | 0 => ⟨n, h⟩

theorem inb_chunk {j : ℕ} (hj : j < 7) : ∀ a, (![1536 * j] : Fin 1 → ℕ) a + S1536.size a ≤ S10752.size a := fun a => by
  match a with
  | 0 => show 1536 * j + 1536 ≤ 10752; omega
/-- Chunk `j` of an output buffer: its elements. -/
def chunkSet (ob : Memref sig .scVector .vmem S10752 .i32) (j : Fin 7) : Finset ob.view.ty.Idx := (chunk ob (1536 * j.val) (inb_chunk j.isLt)).view.set

theorem chunk_emb (ob : Memref sig .scVector .vmem S10752 .i32) (o : ℕ) (inb) (x : S1536.Idx) : ∃ n : S10752.Idx, (chunk ob o inb).view.emb x = ob.view.emb n ∧ (n 0).val = o + (x 0).val :=
  ⟨(Rect.unit (s := S10752) ![o] S1536.size inb).emb x, rfl, by rw [Rect.emb_apply]; show o + 1 * (x 0).val = _; omega⟩

theorem chunks_disjoint (ob : Memref sig .scVector .vmem S10752 .i32) :
    ∀ i ∈ (Finset.univ : Finset (Fin 7)), ∀ j ∈ (Finset.univ : Finset (Fin 7)), i ≠ j → Disjoint (chunkSet ob i) (chunkSet ob j) := by
  intro i _ j _ hij
  rw [Finset.disjoint_left]
  intro a ha hb
  obtain ⟨x, -, hx⟩ := Finset.mem_map.mp ha
  obtain ⟨y, -, hy⟩ := Finset.mem_map.mp hb
  obtain ⟨n, hn, hn0⟩ := chunk_emb ob _ (inb_chunk i.isLt) x
  obtain ⟨n', hn', hn0'⟩ := chunk_emb ob _ (inb_chunk j.isLt) y
  have h : n = n' := ob.view.emb.injective (hn.symm.trans (hx.trans (hy.symm.trans hn')))
  subst h
  have h1 : (x 0).val < 1536 := (x 0).isLt
  have h2 : (y 0).val < 1536 := (y 0).isLt
  exact hij (Fin.ext (by omega))

theorem mem_chunk (ob : Memref sig .scVector .vmem S10752 .i32) (n : S10752.Idx) (j : Fin 7) (h : (n 0).val / 1536 = j.val) : ob.view.emb n ∈ chunkSet ob j := by
  have e : (Rect.unit (s := S10752) ![1536 * j.val] S1536.size (inb_chunk j.isLt)).emb (lane1536 ((n 0).val % 1536) (Nat.mod_lt _ (by decide))) = n := by
    funext k
    match k with
    | 0 => exact Fin.ext (by rw [Rect.emb_apply]; show 1536 * j.val + 1 * ((n 0).val % 1536) = _; omega)
  refine Finset.mem_map.mpr ⟨lane1536 ((n 0).val % 1536) (Nat.mod_lt _ (by decide)), Finset.mem_univ _, ?_⟩
  exact congrArg ob.view.emb e

theorem chunks_cover {ob : Memref sig .scVector .vmem S10752 .i32} (hob : ob.IsWhole) : (Finset.univ : Finset (Fin 7)).biUnion (chunkSet ob) = Finset.univ := by
  refine Finset.eq_univ_of_forall fun a => ?_
  have ha : a ∈ ob.view.set := hob.set_eq_univ ▸ Finset.mem_univ a
  obtain ⟨n, -, rfl⟩ := Finset.mem_map.mp ha
  have hn : (n 0).val < 10752 := (n 0).isLt
  exact Finset.mem_biUnion.mpr ⟨⟨(n 0).val / 1536, by omega⟩, Finset.mem_univ _, mem_chunk ob n _ rfl⟩

/-! ## The contents -/

/-- The word a chunk sends, once the gather is done. -/
theorem chunk_read {ob : Memref sig .scVector .vmem S10752 .i32} {r : ℕ → BitVec 32} {X : S1536.Idx → BitVec 32} {f : ob.view.ty.Contents (Elt F)}
    (hf : ObHolds r X 96 0 (ob.view.read (Elt F) f)) {j : ℕ} (hj : j < 7) (inb) (x : S1536.Idx) :
    (chunk ob (1536 * j) inb).view.read (Elt F) f x = r (start (X (ixb (x 0).val)) + j) := by
  have hx : (x 0).val < 1536 := (x 0).isLt
  show ob.view.read (Elt F) f ((Rect.unit (s := S10752) ![1536 * j] S1536.size inb).emb x) = _
  have h0 : ((Rect.unit (s := S10752) ![1536 * j] S1536.size inb).emb x 0).val = 1536 * j + (x 0).val := by
    rw [Rect.emb_apply]; show 1536 * j + 1 * (x 0).val = _; omega
  rw [hf _ (by rw [h0]; omega)]
  unfold gathered
  rw [h0, show (1536 * j + (x 0).val) / 1536 = j by omega,
    show ixb (1536 * j + (x 0).val) = ixb (x 0).val from funext fun k => match k with | 0 => Fin.ext (by show _ % 1536 = _ % 1536; omega)]

theorem g_write {ob : Memref sig .scVector .vmem S10752 .i32} {W : S84x21x45000.Idx → BitVec 32} {X : S1536.Idx → BitVec 32} {u : ℕ} (hu : u < 1764) {f : ob.view.ty.Contents (Elt F)}
    (hf : ObHolds (wordRing W u) X 96 0 (ob.view.read (Elt F) f)) {j : ℕ} (hj : j < 7) (inb) {off : Fin 4 → ℕ} (hoff : off = outOff u j) (inb')
    (g : S21x7x84x1536.Idx → BitVec 32) (i : S21x7x84x1536.Idx) (hi : i ∈ piece u j) :
    (gSlice off inb').view.write (Elt F) g ((chunk ob (1536 * j) inb).view.read (Elt F) f) Finset.univ i = gathG W X i := by
  rw [← gSlice_set hoff inb'] at hi
  obtain ⟨x, -, rfl⟩ := Finset.mem_map.mp hi
  rw [View.write_emb_of_mem _ _ (Finset.mem_univ x)]
  show (chunk ob (1536 * j) inb).view.read (Elt F) f x = _
  obtain ⟨h0, h1, h2, h3⟩ := gSlice_emb hoff inb' x
  rw [chunk_read hf hj]
  unfold gathG
  rw [h0, h1, h2, h3, show unitOf (u / 21 / 4) (4 * (u % 21) + u / 21 % 4) = u by unfold unitOf; omega]

/-- The flags gathered into the first `j` rows. -/
def FHolds (E : S45000.Idx → BitVec 32) (X : S1536.Idx → BitVec 32) (f₀ : S8x1536.Idx → BitVec 32) (j : ℕ) (f : S8x1536.Idx → BitVec 32) : Prop :=
  ∀ i, f i = if (i 0).val < j then flagRing E (start (X (ixb (i 1).val)) + (i 0).val) else f₀ i

theorem f_write {ob : Memref sig .scVector .vmem S10752 .i32} {E : S45000.Idx → BitVec 32} {X : S1536.Idx → BitVec 32} {f : ob.view.ty.Contents (Elt F)}
    (hf : ObHolds (flagRing E) X 96 0 (ob.view.read (Elt F) f)) {j : ℕ} (hj : j < 7) (inb) (inb') {f₀ g : S8x1536.Idx → BitVec 32} (hg : FHolds E X f₀ j g) :
    FHolds E X f₀ (j + 1) ((fSlice ![j, 0] inb').view.write (Elt F) g ((chunk ob (1536 * j) inb).view.read (Elt F) f) Finset.univ) := by
  intro i
  by_cases h : (i 0).val = j
  · obtain ⟨h0, h1⟩ := fSlice_emb inb' (fun k => match k with | 0 => i 1)
    have hi : i = (fSlice ![j, 0] inb').view.emb (fun k => match k with | 0 => i 1) := by
      funext a; apply Fin.ext
      match a with
      | 0 => exact h.trans h0.symm
      | 1 => exact h1.symm
    rw [if_pos (by omega)]
    conv_lhs => rw [hi]
    rw [View.write_emb_of_mem _ _ (Finset.mem_univ _)]
    show (chunk ob (1536 * j) inb).view.read (Elt F) f _ = _
    rw [chunk_read hf hj, h]
  · rw [View.write_of_not_mem _ _ _ (by
      intro hm
      obtain ⟨x, -, rfl⟩ := Finset.mem_map.mp hm
      exact h (fSlice_emb inb' x).1)]
    rw [hg i]
    split_ifs <;> first | rfl | omega

/-- A row buffer just loaded: its first 45000 words are the ring. -/
def RowLoaded (r : ℕ → BitVec 32) (f : S45056.Idx → BitVec 32) : Prop := ∀ n : S45056.Idx, (n 0).val < 45000 → f n = r (n 0).val

theorem row_write {row : Memref sig .scVector .vmem S45056 .i32} (f : row.view.ty.Contents (Elt F)) (w : S45000.Idx → BitVec 32) {r : ℕ → BitVec 32}
    (hw : ∀ x : S45000.Idx, w x = r (x 0).val) : RowLoaded r (row.view.read (Elt F) ((ring row).view.write (Elt F) f w Finset.univ)) := by
  intro n hn
  have he : n = (Rect.unit (s := S45056) ![0] S45000.size inb_S45056_S45000_0).emb (fun k => match k with | 0 => ⟨(n 0).val, hn⟩) := by
    funext a; match a with
    | 0 => exact Fin.ext (by rw [Rect.emb_apply]; show _ = 0 + 1 * (n 0).val; omega)
  conv_lhs => rw [he]
  refine (View.read_slice_write_emb (v := row.view) (Rect.unit (s := S45056) ![0] S45000.size inb_S45056_S45000_0) f w (M := Finset.univ) (Finset.mem_univ _)).trans ?_
  exact hw _

theorem word_read (W : S84x21x45000.Idx → BitVec 32) {u : ℕ} {off : Fin 3 → ℕ} (hoff : off = inOff u) (inb) (x : S45000.Idx) :
    (wSlice off inb).view.read (Elt F) W x = wordRing W u (x 0).val := by
  show W ((wSlice off inb).view.emb x) = _
  rw [wSlice_emb hoff]; rfl

theorem flag_read (E : S45000.Idx → BitVec 32) (x : S45000.Idx) : sV.view.read (Elt F) E x = flagRing E (x 0).val := by
  show E x = E _
  congr 1; funext k; match k with
  | 0 => exact Fin.ext (by have : (x 0).val < 45000 := (x 0).isLt; show _ = (x 0).val % 45000; omega)

/-- The ring's first sixteen words copied behind it. -/
theorem row_tail {row : Memref sig .scVector .vmem S45056 .i32} {r : ℕ → BitVec 32} (hr : ∀ n, r (n % 45000) = r n) {f : row.view.ty.Contents (Elt F)} (hf : RowLoaded r (row.view.read (Elt F) f)) :
    RowHolds r (row.view.read (Elt F) ((row.access (Rect.unit (s := S45056) ![45000] S16.size inb_S45056_S16_45000)).write (Elt F) f
      (row.view.readAt (Elt F) (Rect.unit (s := S45056) ![0] S16.size inb_S45056_S16_0).toLoadRect f) Finset.univ)) := by
  refine ⟨hr, fun n hn => ?_⟩
  rw [read_store16 row 45000 rfl]
  split_ifs with h
  · rw [readAt16 row 0 rfl inb_S45056_S16_0 f (lane16 ((n 0).val - 45000) (by omega)) (rowIx ((n 0).val - 45000) (by omega)) (by show (n 0).val - 45000 = 0 + ((n 0).val - 45000); omega)]
    rw [hf _ (by show (n 0).val - 45000 < 45000; omega)]
    show r ((n 0).val - 45000) = _
    rw [← hr (n 0).val]; exact congrArg r (by omega)
  · exact hf n (by omega)

end Cert.Proof.Ring

end
-- ==== Proof.RingTransfers.lean ====
/-
  The ring gather's transfers: one unit's words into a row buffer, its gathered words out of an output buffer in seven pieces.
-/
module

public import proofs.«01_k».proof.Proof.RingViews

@[expose] public section

noncomputable section

namespace Cert.Proof.Ring

open Cert.Gather Cert.Gather.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type}

local notation "𝕄" => MT nD τ sig (HIx 1) (Elt F) ℕ UU ℕ

variable [FloatOps F]

/-! ## The transfers of one buffer pair -/

section
variable (d : Dev nD) (L : grid0.Coords) (O : CellTallies nD τ sig (HIx 1)) (Wt : Waits sig (HIx 1))
  (W : S84x21x45000.Idx → BitVec 32) (X : S1536.Idx → BitVec 32)
  (row : Memref sig .scVector .vmem S45056 .i32) (ob : Memref sig .scVector .vmem S10752 .i32) (si so : DmaSem sig)

/-- What the thread owes, some waits made since the start. -/
def OwesAt : sProp 𝕄 := iprop(∃ W', ⌜∀ p ∈ W', p ∈ Wt ∨ p.2 = none⌝ ∗ owes (VT d L) O W')
/-- A row buffer holding anything, and one just loaded. -/
def RowAny : sProp 𝕄 := iprop(∃ f : Buf (Elt F) (row.view.loc (VT d L)), row.view.loc (VT d L) ↦[Finset.univ]{fullShare} f)
def ObAny : sProp 𝕄 := iprop(∃ f : Buf (Elt F) (ob.view.loc (VT d L)), ob.view.loc (VT d L) ↦[Finset.univ]{fullShare} f)
def RowNew (r : ℕ → BitVec 32) : sProp 𝕄 :=
  iprop(∃ f : Buf (Elt F) (row.view.loc (VT d L)), (row.view.loc (VT d L) ↦[Finset.univ]{fullShare} f) ∗ ⌜RowLoaded r (row.view.read (Elt F) f)⌝)
/-- Unit `u`'s words; and its seven pieces of the gathered words, at the contents `g`. -/
def Words (u : ℕ) : sProp 𝕄 := iprop(wLoc d ↦[wset u]{fullShare} (W : Buf (Elt F) (wLoc d)))
def Pieces (g : S21x7x84x1536.Idx → BitVec 32) (u : ℕ) : sProp 𝕄 :=
  bigSep (Finset.univ : Finset (Fin 7)) fun j => iprop(gLoc d ↦[piece u j.val]{fullShare} (g : Buf (Elt F) (gLoc d)))

/-- A piece's amount on its cell. -/
def nOut : ℕ := (gSlice ![0, 0, 0, 0] (by decide)).view.dmaCredit
theorem nOut_pos : 0 < nOut := View.dmaCredit_pos (v := (gSlice ![0, 0, 0, 0] (by decide)).view) (by decide)

/-- The row buffer's transfer in flight with unit `u`'s words, or none in flight. -/
def InFly (u : ℕ) : sProp 𝕄 := Flight countersEmb (VT d L) (.dma si) (none : HIx 1) (ring row).view.dmaCredit iprop(RowNew (F := F) d L row (wordRing W u) ∗ Words (F := F) d W u)
def InIdle : sProp 𝕄 := iprop(RowAny (F := F) d L row ∗ semVal (VT d L, .dma si) 0)
/-- The output buffer's seven transfers in flight with unit `u`'s gathered words, or none in flight. -/
def OutD (u : ℕ) (f : Buf (Elt F) (ob.view.loc (VT d L))) (j : Fin 7) : sProp 𝕄 :=
  iprop((gLoc d ↦[piece u j.val]{fullShare} (gathG W X : Buf (Elt F) (gLoc d))) ∗ ob.view.loc (VT d L) ↦[chunkSet ob j]{fullShare} f)
instance (u : ℕ) (f : Buf (Elt F) (ob.view.loc (VT d L))) (j : Fin 7) : Storable (upEmb : UEmb _ 𝕄) (OutD (F := F) d L W X ob u f j) := by
  unfold OutD; infer_instance
def OutFly (u : ℕ) : sProp 𝕄 := iprop(∃ f, Batch countersEmb (VT d L) (.dma so) (none : HIx 1) nOut (OutD (F := F) d L W X ob u f) 7 0)
def OutIdle : sProp 𝕄 := iprop(ObAny (F := F) d L ob ∗ semVal (VT d L, .dma so) 0)

theorem seven {M : Type} [URA M] (D : Fin 7 → sProp M) : bigSep Finset.univ D = iprop(D 0 ∗ D 1 ∗ D 2 ∗ D 3 ∗ D 4 ∗ D 5 ∗ D 6) := by
  rw [show (Finset.univ : Finset (Fin 7)) = insert 0 (insert 1 (insert 2 (insert 3 (insert 4 (insert 5 {6}))))) by decide]
  repeat rw [bigSep_insert (by decide)]
  rw [bigSep_singleton]; rfl

theorem sep_big {M I : Type} [URA M] (s : Finset I) (Φ Ψ : I → sProp M) : bigSep s (fun i => iprop(Φ i ∗ Ψ i)) ⊢ iprop(bigSep s Φ ∗ bigSep s Ψ) :=
  Entails.of_eq (bigSep_sep s Φ Ψ)

theorem wp_startIn {u : ℕ} (hu : u < 1764) {off : Fin 3 → ℕ} (hoff : off = inOff u) {inb hsrc hdst hsem} {α : Type}
    {k : PUnit → Prog (TpuEff nD τ sig (Elt F) Λ₀ (VT d L).2) α} {Q : α → sProp 𝕄} :
    iprop(InIdle (F := F) d L row si ∗ Words (F := F) d W u)
      ⊢ iprop((InFly (F := F) d L W row si u -∗ wp frame (wpE (defs₀ (F := F)) 𝒱₀ (VT d L) none) Set.univ (k ⟨⟩) Q)
        -∗ wp frame (wpE (defs₀ (F := F)) 𝒱₀ (VT d L) none) Set.univ (.op (.enqueueDma (wSlice off inb) (.here (ring row)) (.dma si) hsrc hdst hsem) k) Q) := by
  unfold InIdle RowAny Words InFly
  iintro ⟨⟨⟨%f, Hr⟩, Hv⟩, Hw⟩ HK
  iapply (Transfers.wp_dmaLocal countersEmb 𝒱₀ (VT d L) none (src := wSlice off inb) (dst := ring row) (fs := W) (fd := f) (q := fullShare) (Sd := Finset.univ) (none : HIx 1) (ring row).view.dmaCredit (View.amount_dma _ _)
    (View.dmaCredit_pos (v := (ring row).view) (by decide)) (Finset.subset_univ _)) $$ [Hr Hv Hw]
  · isplitl [Hw]
    · rw [wSlice_set hu hoff inb]; iexact Hw
    isplitl [Hr] <;> iassumption
  iintro HF
  iapply HK
  iapply (Flight_mono (EC := countersEmb) (c := VT d L) (D := _) ?_) $$ HF
  rw [wSlice_set hu hoff inb]
  iintro ⟨Hr, Hw⟩
  unfold RowNew Words
  isplitl [Hr]
  · iexists _; isplitl; · iexact Hr
    ipureintro
    exact row_write (row := row) f _ fun x => word_read (F := F) W hoff inb x
  · iexact Hw

theorem wp_waitIn {u : ℕ} {src : Memref sig .scVector .hbm S45000 .i32} {hsrc hdst} {α : Type}
    {k : PUnit → Prog (TpuEff nD τ sig (Elt F) Λ₀ (VT d L).2) α} {Q : α → sProp 𝕄} :
    iprop(InFly (F := F) d L W row si u ∗ OwesAt (F := F) d L O Wt ∗ MayWaits (VT d L) (none : HIx 1) O)
      ⊢ iprop((iprop(RowNew (F := F) d L row (wordRing W u) ∗ Words (F := F) d W u ∗ semVal (VT d L, .dma si) 0 ∗ OwesAt (F := F) d L O Wt) -∗ wp frame (wpE (defs₀ (F := F)) 𝒱₀ (VT d L) none) Set.univ (k ⟨⟩) Q)
        -∗ wp frame (wpE (defs₀ (F := F)) 𝒱₀ (VT d L) none) Set.univ (.op (.waitDma2 si src (ring row) hsrc hdst) k) Q) := by
  unfold InFly OwesAt
  iintro ⟨HF, ⟨%W', %hW', HO⟩, HM⟩ HK
  iapply (Transfers.wp_waitLocalO countersEmb 𝒱₀ (VT d L) none (none : HIx 1) rfl) $$ [HF HO HM]
  · isplitl [HF]; · iexact HF
    isplitl [HO]; · iexact HO
    iapply (MayWaits.elim (SemLoc.dma si)) $$ HM
  iintro ⟨⟨Hr, Hw⟩, Hv, HO⟩
  iapply HK
  isplitl [Hr]; · iexact Hr
  isplitl [Hw]; · iexact Hw
  isplitl [Hv]; · iexact Hv
  iexists insert (SemLoc.dma si, none) W'; isplitr
  · ipureintro
    intro p hp
    rcases Finset.mem_insert.mp hp with rfl | hp
    · exact .inr rfl
    · exact hW' p hp
  · iexact HO

/-- A loaded row buffer's first sixteen words copied behind the ring. -/
theorem wp_tail {r : ℕ → BitVec 32} (hr : ∀ n, r (n % 45000) = r n) {h0 h1 h2 h3} {α : Type}
    {k : PUnit → Prog (TpuEff nD τ sig (Elt F) Λ₀ (VT d L).2) α} {Q : α → sProp 𝕄} :
    RowNew (F := F) d L row r
      ⊢ iprop((RowAt (F := F) d L row r -∗ wp frame (wpE (defs₀ (F := F)) 𝒱₀ (VT d L) none) Set.univ (k ⟨⟩) Q)
        -∗ wp frame (wpE (defs₀ (F := F)) 𝒱₀ (VT d L) none) Set.univ
          (.op (.load row (Rect.unit (s := S45056) ![0] S16.size inb_S45056_S16_0).toLoadRect h0) fun w =>
            .op (.load row (Rect.unit (s := S45056) ![45000] S16.size inb_S45056_S16_45000).toLoadRect h1) fun _ =>
            .op (.store row (Rect.unit (s := S45056) ![45000] S16.size inb_S45056_S16_45000) w Finset.univ h2 h3) k) Q) := by
  unfold RowNew RowAt
  iintro ⟨%f, Hr, %hf⟩ HK
  iapply (wp_load 𝒱₀ (VT d L) none Set.univ (m := row) (S := Finset.univ) (f := f) (Finset.subset_univ _)) $$ Hr; iintro Hr
  iapply (wp_load 𝒱₀ (VT d L) none Set.univ (m := row) (S := Finset.univ) (f := f) (Finset.subset_univ _)) $$ Hr; iintro Hr
  iapply (wp_store 𝒱₀ (VT d L) none Set.univ (m := row) (r := Rect.unit (s := S45056) ![45000] S16.size inb_S45056_S16_45000) (S := Finset.univ) (f := f) (Finset.subset_univ _)) $$ Hr; iintro Hr
  iapply HK
  iexists _; isplitl; · iexact Hr
  ipureintro
  exact row_tail hr hf

/-- One of the seven output transfers started. -/
theorem wp_startPiece {u : ℕ} (hu : u < 1764) {f : Buf (Elt F) (ob.view.loc (VT d L))} (hf : ObHolds (wordRing W u) X 96 0 (ob.view.read (Elt F) f)) (g : S21x7x84x1536.Idx → BitVec 32)
    {j : ℕ} (hj : j < 7) {o : ℕ} (ho : o = 1536 * j) {off : Fin 4 → ℕ} (hoff : off = outOff u j) {inb inb' hsrc hdst hsem} {α : Type}
    {k : PUnit → Prog (TpuEff nD τ sig (Elt F) Λ₀ (VT d L).2) α} {Q : α → sProp 𝕄} :
    iprop((gLoc d ↦[piece u j]{fullShare} (g : Buf (Elt F) (gLoc d))) ∗ (ob.view.loc (VT d L) ↦[chunkSet ob ⟨j, hj⟩]{fullShare} f) ∗ Batch countersEmb (VT d L) (.dma so) (none : HIx 1) nOut (OutD (F := F) d L W X ob u f) j 0)
      ⊢ iprop((Batch countersEmb (VT d L) (.dma so) (none : HIx 1) nOut (OutD (F := F) d L W X ob u f) (j + 1) 0 -∗ wp frame (wpE (defs₀ (F := F)) 𝒱₀ (VT d L) none) Set.univ (k ⟨⟩) Q)
        -∗ wp frame (wpE (defs₀ (F := F)) 𝒱₀ (VT d L) none) Set.univ (.op (.enqueueDma (chunk ob o inb) (.here (gSlice off inb')) (.dma so) hsrc hdst hsem) k) Q) := by
  subst ho
  iintro ⟨Hg, Ho, HB⟩ HK
  iapply (wp_dmaBatch countersEmb 𝒱₀ (VT d L) none (src := chunk ob (1536 * j) inb) (dst := gSlice off inb') (fs := f) (fd := g) (q := fullShare) (Sd := piece u j)
    (D := OutD (F := F) d L W X ob u f) (none : HIx 1) nOut rfl (by rw [gSlice_set hoff inb']) hj (Nat.zero_le _) ?_) $$ [Hg Ho HB]
  · unfold OutD
    iintro ⟨Hg, Ho⟩
    isplitl [Hg]
    · iapply (Entails.of_eq (pointsTo_congr fun i hi => g_write (W := W) (X := X) hu hf hj inb hoff inb' g i hi)) $$ Hg
    · iexact Ho
  · isplitl [Ho]; · iexact Ho
    isplitl [Hg] <;> iassumption
  iexact HK

/-- One of the first six waits of an output buffer. -/
theorem wp_waitPiece {D : Fin 7 → sProp 𝕄} {n : ℕ} (hn : n < 6) {src : Memref sig .scVector .vmem S1536 .i32} {off inb hsrc hdst} {α : Type}
    {k : PUnit → Prog (TpuEff nD τ sig (Elt F) Λ₀ (VT d L).2) α} {Q : α → sProp 𝕄} :
    iprop(Batch countersEmb (VT d L) (.dma so) (none : HIx 1) nOut D 7 (nOut * n) ∗ OwesAt (F := F) d L O Wt ∗ MayWaits (VT d L) (none : HIx 1) O)
      ⊢ iprop((iprop(Batch countersEmb (VT d L) (.dma so) (none : HIx 1) nOut D 7 (nOut * (n + 1)) ∗ OwesAt (F := F) d L O Wt) -∗ wp frame (wpE (defs₀ (F := F)) 𝒱₀ (VT d L) none) Set.univ (k ⟨⟩) Q)
        -∗ wp frame (wpE (defs₀ (F := F)) 𝒱₀ (VT d L) none) Set.univ (.op (.waitDma2 so src (gSlice off inb) hsrc hdst) k) Q) := by
  unfold OwesAt
  iintro ⟨HB, ⟨%W', %hW', HO⟩, HM⟩ HK
  iapply (wp_waitBatchO countersEmb 𝒱₀ (VT d L) none (dstw := gSlice off inb) (none : HIx 1) (N := nOut) (D := D) (u := nOut * n) rfl (by have := nOut_pos; rw [← Nat.mul_succ]; exact Nat.mul_lt_mul_of_pos_left (by omega) this)) $$ [HB HO HM]
  · isplitl [HB]; · iexact HB
    isplitl [HO]; · iexact HO
    iapply (MayWaits.elim (SemLoc.dma so)) $$ HM
  iintro ⟨HB, HO⟩
  iapply HK
  isplitl [HB]; · iexact HB
  iexists insert (SemLoc.dma so, none) W'; isplitr
  · ipureintro
    intro p hp
    rcases Finset.mem_insert.mp hp with rfl | hp
    · exact .inr rfl
    · exact hW' p hp
  · iexact HO

/-- The last of them. -/
theorem wp_waitLastPiece {D : Fin 7 → sProp 𝕄} {src : Memref sig .scVector .vmem S1536 .i32} {off inb hsrc hdst} {α : Type}
    {k : PUnit → Prog (TpuEff nD τ sig (Elt F) Λ₀ (VT d L).2) α} {Q : α → sProp 𝕄} :
    iprop(Batch countersEmb (VT d L) (.dma so) (none : HIx 1) nOut D 7 (nOut * 6) ∗ OwesAt (F := F) d L O Wt ∗ MayWaits (VT d L) (none : HIx 1) O)
      ⊢ iprop((iprop(bigSep Finset.univ D ∗ semVal (VT d L, .dma so) 0 ∗ OwesAt (F := F) d L O Wt) -∗ wp frame (wpE (defs₀ (F := F)) 𝒱₀ (VT d L) none) Set.univ (k ⟨⟩) Q)
        -∗ wp frame (wpE (defs₀ (F := F)) 𝒱₀ (VT d L) none) Set.univ (.op (.waitDma2 so src (gSlice off inb) hsrc hdst) k) Q) := by
  unfold OwesAt
  iintro ⟨HB, ⟨%W', %hW', HO⟩, HM⟩ HK
  iapply (wp_waitBatchLastO countersEmb 𝒱₀ (VT d L) none (dstw := gSlice off inb) (none : HIx 1) (N := nOut) (D := D) (u := nOut * 6) rfl nOut_pos (by omega)) $$ [HB HO HM]
  · isplitl [HB]; · iexact HB
    isplitl [HO]; · iexact HO
    iapply (MayWaits.elim (SemLoc.dma so)) $$ HM
  iintro ⟨HD, Hv, HO⟩
  iapply HK
  isplitl [HD]; · iexact HD
  isplitl [Hv]; · iexact Hv
  iexists insert (SemLoc.dma so, none) W'; isplitr
  · ipureintro
    intro p hp
    rcases Finset.mem_insert.mp hp with rfl | hp
    · exact .inr rfl
    · exact hW' p hp
  · iexact HO

/-- The seven output transfers of a unit started. -/
theorem wp_startOut (hob : ob.IsWhole) {u : ℕ} (hu : u < 1764) (g : S21x7x84x1536.Idx → BitVec 32)
    {o0 o1 o2 o3 o4 o5 o6 : Fin 4 → ℕ} (h0 : o0 = outOff u 0) (h1 : o1 = outOff u 1) (h2 : o2 = outOff u 2) (h3 : o3 = outOff u 3) (h4 : o4 = outOff u 4) (h5 : o5 = outOff u 5) (h6 : o6 = outOff u 6)
    {i0 i1 i2 i3 i4 i5 i6 b0 b1 b2 b3 b4 b5 b6 s0 s1 s2 s3 s4 s5 s6 t0 t1 t2 t3 t4 t5 t6 e0 e1 e2 e3 e4 e5 e6} {α : Type}
    {k : PUnit → Prog (TpuEff nD τ sig (Elt F) Λ₀ (VT d L).2) α} {Q : α → sProp 𝕄} :
    iprop(ObAt (F := F) d L ob (wordRing W u) X 96 0 ∗ semVal (VT d L, .dma so) 0 ∗ Pieces (F := F) d g u)
      ⊢ iprop((OutFly (F := F) d L W X ob so u -∗ wp frame (wpE (defs₀ (F := F)) 𝒱₀ (VT d L) none) Set.univ (k ⟨⟩) Q)
        -∗ wp frame (wpE (defs₀ (F := F)) 𝒱₀ (VT d L) none) Set.univ
          (.op (.enqueueDma (chunk ob 0 i0) (.here (gSlice o0 b0)) (.dma so) s0 t0 e0) fun _ =>
           .op (.enqueueDma (chunk ob 1536 i1) (.here (gSlice o1 b1)) (.dma so) s1 t1 e1) fun _ =>
           .op (.enqueueDma (chunk ob 3072 i2) (.here (gSlice o2 b2)) (.dma so) s2 t2 e2) fun _ =>
           .op (.enqueueDma (chunk ob 4608 i3) (.here (gSlice o3 b3)) (.dma so) s3 t3 e3) fun _ =>
           .op (.enqueueDma (chunk ob 6144 i4) (.here (gSlice o4 b4)) (.dma so) s4 t4 e4) fun _ =>
           .op (.enqueueDma (chunk ob 7680 i5) (.here (gSlice o5 b5)) (.dma so) s5 t5 e5) fun _ =>
           .op (.enqueueDma (chunk ob 9216 i6) (.here (gSlice o6 b6)) (.dma so) s6 t6 e6) k) Q) := by
  unfold ObAt Pieces OutFly
  iintro ⟨⟨%f, Ho, %hf⟩, Hv, Hg⟩ HK
  ihave Ho := (Entails.of_eq (by rw [← chunks_cover hob, pointsTo_biUnion _ _ (chunks_disjoint ob), seven])) $$ Ho
  ihave Hg := (Entails.of_eq (seven _)) $$ Hg
  icases Ho with ⟨H0, H1, H2, H3, H4, H5, H6⟩
  icases Hg with ⟨G0, G1, G2, G3, G4, G5, G6⟩
  imod (batch_alloc' countersEmb (VT d L) (sm := .dma so) (none : HIx 1) nOut (OutD (F := F) d L W X ob u f) (E := Set.univ)) $$ Hv with HB
  iapply (wp_startPiece d L W X ob so hu hf g (j := 0) (by decide) rfl h0) $$ [H0 G0 HB]
  · isplitl [G0]; · iexact G0
    isplitl [H0]; · iexact H0
    iexact HB
  iintro HB
  iapply (wp_startPiece d L W X ob so hu hf g (j := 1) (by decide) rfl h1) $$ [H1 G1 HB]
  · isplitl [G1]; · iexact G1
    isplitl [H1]; · iexact H1
    iexact HB
  iintro HB
  iapply (wp_startPiece d L W X ob so hu hf g (j := 2) (by decide) rfl h2) $$ [H2 G2 HB]
  · isplitl [G2]; · iexact G2
    isplitl [H2]; · iexact H2
    iexact HB
  iintro HB
  iapply (wp_startPiece d L W X ob so hu hf g (j := 3) (by decide) rfl h3) $$ [H3 G3 HB]
  · isplitl [G3]; · iexact G3
    isplitl [H3]; · iexact H3
    iexact HB
  iintro HB
  iapply (wp_startPiece d L W X ob so hu hf g (j := 4) (by decide) rfl h4) $$ [H4 G4 HB]
  · isplitl [G4]; · iexact G4
    isplitl [H4]; · iexact H4
    iexact HB
  iintro HB
  iapply (wp_startPiece d L W X ob so hu hf g (j := 5) (by decide) rfl h5) $$ [H5 G5 HB]
  · isplitl [G5]; · iexact G5
    isplitl [H5]; · iexact H5
    iexact HB
  iintro HB
  iapply (wp_startPiece d L W X ob so hu hf g (j := 6) (by decide) rfl h6) $$ [H6 G6 HB]
  · isplitl [G6]; · iexact G6
    isplitl [H6]; · iexact H6
    iexact HB
  iintro HB
  iapply HK
  iexists f; iexact HB

/-- The seven output transfers of a unit waited for. -/
theorem wp_waitOut (hob : ob.IsWhole) {u : ℕ} {c0 c1 c2 c3 c4 c5 c6 : Memref sig .scVector .vmem S1536 .i32}
    {o0 o1 o2 o3 o4 o5 o6 : Fin 4 → ℕ} {b0 b1 b2 b3 b4 b5 b6 s0 s1 s2 s3 s4 s5 s6 t0 t1 t2 t3 t4 t5 t6} {α : Type}
    {k : PUnit → Prog (TpuEff nD τ sig (Elt F) Λ₀ (VT d L).2) α} {Q : α → sProp 𝕄} :
    iprop(OutFly (F := F) d L W X ob so u ∗ OwesAt (F := F) d L O Wt ∗ MayWaits (VT d L) (none : HIx 1) O)
      ⊢ iprop((iprop(OutIdle (F := F) d L ob so ∗ Pieces (F := F) d (gathG W X) u ∗ OwesAt (F := F) d L O Wt) -∗ wp frame (wpE (defs₀ (F := F)) 𝒱₀ (VT d L) none) Set.univ (k ⟨⟩) Q)
        -∗ wp frame (wpE (defs₀ (F := F)) 𝒱₀ (VT d L) none) Set.univ
          (.op (.waitDma2 so c0 (gSlice o0 b0) s0 t0) fun _ => .op (.waitDma2 so c1 (gSlice o1 b1) s1 t1) fun _ => .op (.waitDma2 so c2 (gSlice o2 b2) s2 t2) fun _ =>
           .op (.waitDma2 so c3 (gSlice o3 b3) s3 t3) fun _ => .op (.waitDma2 so c4 (gSlice o4 b4) s4 t4) fun _ => .op (.waitDma2 so c5 (gSlice o5 b5) s5 t5) fun _ =>
           .op (.waitDma2 so c6 (gSlice o6 b6) s6 t6) k) Q) := by
  unfold OutFly
  iintro ⟨⟨%f, HB⟩, HO, #HM⟩ HK
  iapply (wp_waitPiece d L O Wt so (n := 0) (by decide)) $$ [HB HO]
  · isplitl [HB]; · iexact HB
    isplitl [HO]; · iexact HO
    iexact HM
  iintro ⟨HB, HO⟩
  iapply (wp_waitPiece d L O Wt so (n := 1) (by decide)) $$ [HB HO]
  · isplitl [HB]; · iexact HB
    isplitl [HO]; · iexact HO
    iexact HM
  iintro ⟨HB, HO⟩
  iapply (wp_waitPiece d L O Wt so (n := 2) (by decide)) $$ [HB HO]
  · isplitl [HB]; · iexact HB
    isplitl [HO]; · iexact HO
    iexact HM
  iintro ⟨HB, HO⟩
  iapply (wp_waitPiece d L O Wt so (n := 3) (by decide)) $$ [HB HO]
  · isplitl [HB]; · iexact HB
    isplitl [HO]; · iexact HO
    iexact HM
  iintro ⟨HB, HO⟩
  iapply (wp_waitPiece d L O Wt so (n := 4) (by decide)) $$ [HB HO]
  · isplitl [HB]; · iexact HB
    isplitl [HO]; · iexact HO
    iexact HM
  iintro ⟨HB, HO⟩
  iapply (wp_waitPiece d L O Wt so (n := 5) (by decide)) $$ [HB HO]
  · isplitl [HB]; · iexact HB
    isplitl [HO]; · iexact HO
    iexact HM
  iintro ⟨HB, HO⟩
  iapply (wp_waitLastPiece d L O Wt so) $$ [HB HO]
  · isplitl [HB]; · iexact HB
    isplitl [HO]; · iexact HO
    iexact HM
  iintro ⟨HD, Hv, HO⟩
  iapply HK
  unfold OutD
  ihave HD := (sep_big _ _ _) $$ HD
  icases HD with ⟨HG, HF⟩
  unfold OutIdle ObAny Pieces
  isplitl [HF Hv]
  · isplitl [HF]
    · iexists f
      iapply (Entails.of_eq (by rw [← chunks_cover hob, pointsTo_biUnion _ _ (chunks_disjoint ob)])) $$ HF
    · iexact Hv
  isplitl [HG] <;> iassumption

end

end Cert.Proof.Ring

end
-- ==== Proof.RingParts.lean ====
/-
  One round of the ring gather: its words in, the round before's gathered words out, the gather, and the next transfers started.
-/
module

public import proofs.«01_k».proof.Proof.RingTransfers
public import Idealize.SL.BI.BigOpNat

@[expose] public section

noncomputable section

namespace Cert.Proof.Ring

open Cert.Gather Cert.Gather.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type}

local notation "𝕄" => MT nD τ sig (HIx 1) (Elt F) ℕ UU ℕ
variable [FloatOps F]

/-- A program's head by its own specification, the rest by what that leaves. -/
theorem wp_seq {d : Dev nD} {L : grid0.Coords} {α β : Type} {p : Prog (TpuEff nD τ sig (Elt F) Λ₀ (VT d L).2) β} {k : β → Prog (TpuEff nD τ sig (Elt F) Λ₀ (VT d L).2) α}
    {P : sProp 𝕄} {R : β → sProp 𝕄} {Q : α → sProp 𝕄} (h : P ⊢ wp frame (wpE (defs₀ (F := F)) 𝒱₀ (VT d L) none) Set.univ p R) :
    P ⊢ iprop((∀ a, R a -∗ wp frame (wpE (defs₀ (F := F)) 𝒱₀ (VT d L) none) Set.univ (k a) Q) -∗ wp frame (wpE (defs₀ (F := F)) 𝒱₀ (VT d L) none) Set.univ (p >>= k) Q) := by
  rw [wp_bind]
  exact h.trans (wp_wand _ _ _)

section
variable (d : Dev nD) (L : grid0.Coords) (W : S84x21x45000.Idx → BitVec 32) (X : S1536.Idx → BitVec 32) (g : S21x7x84x1536.Idx → BitVec 32)
  (row : Memref sig .scVector .vmem S45056 .i32) (ob : Memref sig .scVector .vmem S10752 .i32) (si so : DmaSem sig)

/-- The output buffer before round `t` of its `a + 64 t`: idle at first, then the round before in flight. -/
def OutPart (a t : ℕ) : sProp 𝕄 := if t = 0 then OutIdle (F := F) d L ob so else OutFly (F := F) d L W X ob so (a + 64 * (t - 1))
/-- The row buffer before round `t` of `T`: the round's words in flight, or idle once there are no more. -/
def InPart (a T t : ℕ) : sProp 𝕄 := if t < T then InFly (F := F) d L W row si (a + 64 * t) else InIdle (F := F) d L row si
def WordsOf (a i j : ℕ) : sProp 𝕄 := bigSep (Finset.Ico i j) fun t => Words (F := F) d W (a + 64 * t)
def PiecesOf (h : S21x7x84x1536.Idx → BitVec 32) (a i j : ℕ) : sProp 𝕄 := bigSep (Finset.Ico i j) fun t => Pieces (F := F) d h (a + 64 * t)
/-- One buffer pair before its round `t` of `T`. -/
def Pair (a T t : ℕ) : sProp 𝕄 :=
  iprop(OutPart (F := F) d L W X ob so a t ∗ InPart (F := F) d L W row si a T t ∗ WordsOf (F := F) d W a 0 t ∗ WordsOf (F := F) d W a (t + 1) T
    ∗ PiecesOf (F := F) d (gathG W X) a 0 (t - 1) ∗ PiecesOf (F := F) d g a t T)

theorem obAny_start (r : ℕ → BitVec 32) : ObAny (F := F) d L ob ⊢ ObAt (F := F) d L ob r X 0 0 := by
  unfold ObAny ObAt
  iintro ⟨%f, H⟩
  iexists f; isplitl; · iexact H
  ipureintro
  intro n hn; exact absurd hn (by omega)
theorem rowAt_any (r : ℕ → BitVec 32) : RowAt (F := F) d L row r ⊢ RowAny (F := F) d L row := by
  unfold RowAt RowAny
  iintro ⟨%f, H, -⟩
  iexists f; iexact H
end

theorem pieces_done (d : Dev nD) (h : S21x7x84x1536.Idx → BitVec 32) (b : ℕ) {k : ℕ} (hk : 0 < k) : iprop(PiecesOf (F := F) d h b 0 (k - 1) ∗ Pieces (F := F) d h (b + 64 * (k - 1))) ⊢ PiecesOf (F := F) d h b 0 k := by
  unfold PiecesOf
  obtain ⟨n, rfl⟩ : ∃ n, k = n + 1 := ⟨k - 1, by omega⟩
  exact Laws.sep_comm.1.trans (Entails.of_eq (bigSep_Ico_succ_top (Nat.zero_le n) fun t => Pieces (F := F) d h (b + 64 * t)).symm)
theorem words_done (d : Dev nD) (W : S84x21x45000.Idx → BitVec 32) (b k : ℕ) : iprop(WordsOf (F := F) d W b 0 k ∗ Words (F := F) d W (b + 64 * k)) ⊢ WordsOf (F := F) d W b 0 (k + 1) := by
  unfold WordsOf
  exact Laws.sep_comm.1.trans (Entails.of_eq (bigSep_Ico_succ_top (Nat.zero_le k) fun t => Words (F := F) d W (b + 64 * t)).symm)
theorem words_next (d : Dev nD) (W : S84x21x45000.Idx → BitVec 32) (b : ℕ) {k T : ℕ} (hk : k < T) : WordsOf (F := F) d W b k T ⊢ iprop(Words (F := F) d W (b + 64 * k) ∗ WordsOf (F := F) d W b (k + 1) T) := by
  unfold WordsOf
  exact Entails.of_eq (bigSep_Ico_succ_bot hk _)
theorem pieces_next (d : Dev nD) (h : S21x7x84x1536.Idx → BitVec 32) (b : ℕ) {k T : ℕ} (hk : k < T) : PiecesOf (F := F) d h b k T ⊢ iprop(Pieces (F := F) d h (b + 64 * k) ∗ PiecesOf (F := F) d h b (k + 1) T) := by
  unfold PiecesOf
  exact Entails.of_eq (bigSep_Ico_succ_bot hk _)

section Tile
variable (d : Dev nD) (L : grid0.Coords) (O : CellTallies nD τ sig (HIx 1)) (Wt : Waits sig (HIx 1))
  (W : S84x21x45000.Idx → BitVec 32) {X : S1536.Idx → BitVec 32} (hX : InRing X) (g : S21x7x84x1536.Idx → BitVec 32)
variable (harg2 : wV.IsWhole) (arg3 : Memref sig .scVector .hbm S45000 .i32) (harg3 : arg3.IsWhole) (arg4 : Memref sig .scVector .hbm S1536 .i32) (harg4 : arg4.IsWhole) (harg5 : gV.IsWhole) (arg6 : Memref sig .scVector .hbm S8x1536 .i32) (harg6 : arg6.IsWhole) (arg7 : Memref sig .scVector .vmem S45056 .i32) (harg7 : arg7.IsWhole) (arg8 : Memref sig .scVector .vmem S45056 .i32) (harg8 : arg8.IsWhole) (arg9 : Memref sig .scVector .vmem S1536 .i32) (harg9 : arg9.IsWhole) (arg10 : Memref sig .scVector .vmem S10752 .i32) (harg10 : arg10.IsWhole) (arg11 : Memref sig .scVector .vmem S10752 .i32) (harg11 : arg11.IsWhole) (arg12 : DmaSems sig S2) (arg13 : DmaSems sig S2) (v553_r0 : DmaSems sig S_) (v556_r1 : DmaSems sig S_) (v556_r2 : DmaSems sig S_) (v556_r3 : DmaSems sig S_) (v556_r4 : DmaSems sig S_) (v556_r5 : DmaSems sig S_) (v556_r6 : DmaSems sig S_) (v556_r7 : DmaSems sig S_) (v556_r8 : DmaSems sig S_)

abbrev sem0 (a : DmaSems sig S2) : DmaSem sig := ((a.slice (Rect.unit (s := S2) ![0] S1.size inb_S2_S1_0)).squeeze S_ squeezes_S1_S_).sem
abbrev sem1 (a : DmaSems sig S2) : DmaSem sig := ((a.slice (Rect.unit (s := S2) ![1] S1.size inb_S2_S1_1)).squeeze S_ squeezes_S1_S_).sem

/-- Round `t`'s words arrived, the round before's gathered words out. -/
theorem part7_spec (k : Fin (k0_t2_loop L).trips) (v a : BitVec 32) (k0_h1 : k0_cond1 L k = 1#1) {u b : ℕ} (hc : k0_cond2 L k = 1#1 ↔ 0 < k.val) :
    iprop(InFly (F := F) d L W arg7 (sem0 arg12) u ∗ OutPart (F := F) d L W X arg10 (sem0 arg13) b k.val ∗ PiecesOf (F := F) d (gathG W X) b 0 (k.val - 1) ∗ OwesAt (F := F) d L O Wt ∗ MayWaits (VT d L) (none : HIx 1) O)
      ⊢ wp frame (wpE (defs₀ (F := F)) 𝒱₀ (VT d L) none) Set.univ (k0_part7 L wV harg2 arg3 harg3 arg4 harg4 gV harg5 arg6 harg6 arg7 harg7 arg8 harg8 arg9 harg9 arg10 harg10 arg11 harg11 arg12 arg13 v553_r0 v556_r1 v556_r2 v556_r3 v556_r4 v556_r5 v556_r6 v556_r7 v556_r8 k v a k0_h1)
        fun _ => iprop(RowNew (F := F) d L arg7 (wordRing W u) ∗ Words (F := F) d W u ∗ semVal (VT d L, .dma (sem0 arg12)) 0 ∗ OutIdle (F := F) d L arg10 (sem0 arg13)
          ∗ PiecesOf (F := F) d (gathG W X) b 0 k.val ∗ OwesAt (F := F) d L O Wt) := by
  rw [k0_part7_eq_skeleton]; unfold k0_part7_skel
  by_cases h2 : k0_cond2 L k = 1#1
  · have hk := hc.mp h2
    simp only [dif_pos h2, k0_part1_eq_skeleton, k0_part2_eq_skeleton, k0_part3_eq_skeleton, k0_part4_eq_skeleton, k0_part5_eq_skeleton]
    unfold k0_part1_skel k0_part2_skel k0_part3_skel k0_part4_skel k0_part5_skel
    simp only [Prog.lift, Prog.bind_op, Prog.bind_ret, Prog.pure_eq_ret, Prog.bind_assoc]
    unfold OutPart
    rw [if_neg (by omega)]
    iintro ⟨HI, Ho, Hp, HO, #HM⟩
    iapply (wp_waitIn d L O Wt W arg7 (sem0 arg12)) $$ [HI HO]
    · isplitl [HI]; · iexact HI
      isplitl [HO]; · iexact HO
      iexact HM
    iintro ⟨Hr, Hw, Hv, HO⟩
    iapply (wp_waitOut d L O Wt W X arg10 (sem0 arg13) harg10 (u := b + 64 * (k.val - 1))) $$ [Ho HO]
    · isplitl [Ho]; · iexact Ho
      isplitl [HO]; · iexact HO
      iexact HM
    iintro ⟨Ho, Hq, HO⟩
    sl_step
    isplitl [Hr]; · iexact Hr
    isplitl [Hw]; · iexact Hw
    isplitl [Hv]; · iexact Hv
    isplitl [Ho]; · iexact Ho
    isplitl [Hp Hq]
    · iapply (pieces_done d (gathG W X) b hk)
      isplitl [Hp] <;> iassumption
    iexact HO
  · have hk : k.val = 0 := by by_contra h; exact h2 (hc.mpr (by omega))
    simp only [dif_neg h2, Prog.lift, Prog.bind_op, Prog.bind_ret, Prog.pure_eq_ret, Prog.bind_assoc]
    unfold OutPart
    rw [if_pos hk, hk]
    iintro ⟨HI, Ho, Hp, HO, #HM⟩
    iapply (wp_waitIn d L O Wt W arg7 (sem0 arg12)) $$ [HI HO]
    · isplitl [HI]; · iexact HI
      isplitl [HO]; · iexact HO
      iexact HM
    iintro ⟨Hr, Hw, Hv, HO⟩
    sl_step
    isplitl [Hr]; · iexact Hr
    isplitl [Hw]; · iexact Hw
    isplitl [Hv]; · iexact Hv
    isplitl [Ho]; · iexact Ho
    isplitl [Hp]; · iexact Hp
    iexact HO

/-- Round `t`'s words arrived, the round before's gathered words out. -/
theorem part19_spec (k : Fin (k0_t2_loop L).trips) (v a : BitVec 32) (k0_h4 : k0_cond4 L k = 1#1) {u b : ℕ} (hc : k0_cond5 L k = 1#1 ↔ 0 < k.val) :
    iprop(InFly (F := F) d L W arg8 (sem1 arg12) u ∗ OutPart (F := F) d L W X arg11 (sem1 arg13) b k.val ∗ PiecesOf (F := F) d (gathG W X) b 0 (k.val - 1) ∗ OwesAt (F := F) d L O Wt ∗ MayWaits (VT d L) (none : HIx 1) O)
      ⊢ wp frame (wpE (defs₀ (F := F)) 𝒱₀ (VT d L) none) Set.univ (k0_part19 L wV harg2 arg3 harg3 arg4 harg4 gV harg5 arg6 harg6 arg7 harg7 arg8 harg8 arg9 harg9 arg10 harg10 arg11 harg11 arg12 arg13 v553_r0 v556_r1 v556_r2 v556_r3 v556_r4 v556_r5 v556_r6 v556_r7 v556_r8 k v a k0_h4)
        fun _ => iprop(RowNew (F := F) d L arg8 (wordRing W u) ∗ Words (F := F) d W u ∗ semVal (VT d L, .dma (sem1 arg12)) 0 ∗ OutIdle (F := F) d L arg11 (sem1 arg13)
          ∗ PiecesOf (F := F) d (gathG W X) b 0 k.val ∗ OwesAt (F := F) d L O Wt) := by
  rw [k0_part19_eq_skeleton]; unfold k0_part19_skel
  by_cases h2 : k0_cond5 L k = 1#1
  · have hk := hc.mp h2
    simp only [dif_pos h2, k0_part13_eq_skeleton, k0_part14_eq_skeleton, k0_part15_eq_skeleton, k0_part16_eq_skeleton, k0_part17_eq_skeleton]
    unfold k0_part13_skel k0_part14_skel k0_part15_skel k0_part16_skel k0_part17_skel
    simp only [Prog.lift, Prog.bind_op, Prog.bind_ret, Prog.pure_eq_ret, Prog.bind_assoc]
    unfold OutPart
    rw [if_neg (by omega)]
    iintro ⟨HI, Ho, Hp, HO, #HM⟩
    iapply (wp_waitIn d L O Wt W arg8 (sem1 arg12)) $$ [HI HO]
    · isplitl [HI]; · iexact HI
      isplitl [HO]; · iexact HO
      iexact HM
    iintro ⟨Hr, Hw, Hv, HO⟩
    iapply (wp_waitOut d L O Wt W X arg11 (sem1 arg13) harg11 (u := b + 64 * (k.val - 1))) $$ [Ho HO]
    · isplitl [Ho]; · iexact Ho
      isplitl [HO]; · iexact HO
      iexact HM
    iintro ⟨Ho, Hq, HO⟩
    sl_step
    isplitl [Hr]; · iexact Hr
    isplitl [Hw]; · iexact Hw
    isplitl [Hv]; · iexact Hv
    isplitl [Ho]; · iexact Ho
    isplitl [Hp Hq]
    · iapply (pieces_done d (gathG W X) b hk)
      isplitl [Hp] <;> iassumption
    iexact HO
  · have hk : k.val = 0 := by by_contra h; exact h2 (hc.mpr (by omega))
    simp only [dif_neg h2, Prog.lift, Prog.bind_op, Prog.bind_ret, Prog.pure_eq_ret, Prog.bind_assoc]
    unfold OutPart
    rw [if_pos hk, hk]
    iintro ⟨HI, Ho, Hp, HO, #HM⟩
    iapply (wp_waitIn d L O Wt W arg8 (sem1 arg12)) $$ [HI HO]
    · isplitl [HI]; · iexact HI
      isplitl [HO]; · iexact HO
      iexact HM
    iintro ⟨Hr, Hw, Hv, HO⟩
    sl_step
    isplitl [Hr]; · iexact Hr
    isplitl [Hw]; · iexact Hw
    isplitl [Hv]; · iexact Hv
    isplitl [Ho]; · iexact Ho
    isplitl [Hp]; · iexact Hp
    iexact HO

include hX in
/-- Round `t`'s gather. -/
theorem part8_spec (k : Fin (k0_t2_loop L).trips) (v : BitVec 32) (k0_h1 : k0_cond1 L k = 1#1) {r : ℕ → BitVec 32} (hr : ∀ n, r (n % 45000) = r n) :
    iprop(PosAt (F := F) d L arg9 X 96 ∗ RowNew (F := F) d L arg7 r ∗ ObAny (F := F) d L arg10)
      ⊢ wp frame (wpE (defs₀ (F := F)) 𝒱₀ (VT d L) none) Set.univ (k0_part8 L wV harg2 arg3 harg3 arg4 harg4 gV harg5 arg6 harg6 arg7 harg7 arg8 harg8 arg9 harg9 arg10 harg10 arg11 harg11 arg12 arg13 v553_r0 v556_r1 v556_r2 v556_r3 v556_r4 v556_r5 v556_r6 v556_r7 v556_r8 k v k0_h1)
        fun _ => iprop(PosAt (F := F) d L arg9 X 96 ∗ RowAny (F := F) d L arg7 ∗ ObAt (F := F) d L arg10 r X 96 0) := by
  rw [k0_part8_eq_skeleton]; unfold k0_part8_skel
  simp only [Prog.lift, Prog.bind_op, Prog.bind_ret, Prog.pure_eq_ret, Prog.bind_assoc]
  iintro ⟨HP, Hr, Ho⟩
  iapply (wp_tail d L arg7 hr) $$ Hr
  iintro Hr
  iapply (Scf.wp_for_bind _ _ _ _ _ _ _ _ _ (fun t _ => iprop(PosAt (F := F) d L arg9 X 96 ∗ RowAt (F := F) d L arg7 r ∗ ObAt (F := F) d L arg10 r X t 0))
    (fun t u => t3_trip d L hX wV harg2 arg3 harg3 arg4 harg4 gV harg5 arg6 harg6 arg7 harg7 arg8 harg8 arg9 harg9 arg10 harg10 arg11 harg11 arg12 arg13 v553_r0 v556_r1 v556_r2 v556_r3 v556_r4 v556_r5 v556_r6 v556_r7 v556_r8 k v k0_h1 t u)) $$ [HP Hr Ho]
  · isplitl [HP]; · iexact HP
    isplitl [Hr]; · iexact Hr
    iapply (obAny_start d L X arg10 r) $$ Ho
  iintro %_ ⟨HP, Hr, Ho⟩
  rw [show Scf.trips k0_t3_loop.lb k0_t3_loop.ub k0_t3_loop.st = 96 from trips_t3]
  sl_step
  isplitl [HP]; · iexact HP
  isplitl [Hr]; · iapply (rowAt_any d L arg7 r) $$ Hr
  iexact Ho

include hX in
/-- Round `t`'s gather. -/
theorem part20_spec (k : Fin (k0_t2_loop L).trips) (v : BitVec 32) (k0_h4 : k0_cond4 L k = 1#1) {r : ℕ → BitVec 32} (hr : ∀ n, r (n % 45000) = r n) :
    iprop(PosAt (F := F) d L arg9 X 96 ∗ RowNew (F := F) d L arg8 r ∗ ObAny (F := F) d L arg11)
      ⊢ wp frame (wpE (defs₀ (F := F)) 𝒱₀ (VT d L) none) Set.univ (k0_part20 L wV harg2 arg3 harg3 arg4 harg4 gV harg5 arg6 harg6 arg7 harg7 arg8 harg8 arg9 harg9 arg10 harg10 arg11 harg11 arg12 arg13 v553_r0 v556_r1 v556_r2 v556_r3 v556_r4 v556_r5 v556_r6 v556_r7 v556_r8 k v k0_h4)
        fun _ => iprop(PosAt (F := F) d L arg9 X 96 ∗ RowAny (F := F) d L arg8 ∗ ObAt (F := F) d L arg11 r X 96 0) := by
  rw [k0_part20_eq_skeleton]; unfold k0_part20_skel
  simp only [Prog.lift, Prog.bind_op, Prog.bind_ret, Prog.pure_eq_ret, Prog.bind_assoc]
  iintro ⟨HP, Hr, Ho⟩
  iapply (wp_tail d L arg8 hr) $$ Hr
  iintro Hr
  iapply (Scf.wp_for_bind _ _ _ _ _ _ _ _ _ (fun t _ => iprop(PosAt (F := F) d L arg9 X 96 ∗ RowAt (F := F) d L arg8 r ∗ ObAt (F := F) d L arg11 r X t 0))
    (fun t u => t4_trip d L hX wV harg2 arg3 harg3 arg4 harg4 gV harg5 arg6 harg6 arg7 harg7 arg8 harg8 arg9 harg9 arg10 harg10 arg11 harg11 arg12 arg13 v553_r0 v556_r1 v556_r2 v556_r3 v556_r4 v556_r5 v556_r6 v556_r7 v556_r8 k v k0_h4 t u)) $$ [HP Hr Ho]
  · isplitl [HP]; · iexact HP
    isplitl [Hr]; · iexact Hr
    iapply (obAny_start d L X arg11 r) $$ Ho
  iintro %_ ⟨HP, Hr, Ho⟩
  rw [show Scf.trips k0_t4_loop.lb k0_t4_loop.ub k0_t4_loop.st = 96 from trips_t4]
  sl_step
  isplitl [HP]; · iexact HP
  isplitl [Hr]; · iapply (rowAt_any d L arg8 r) $$ Hr
  iexact Ho

end Tile

end Cert.Proof.Ring

end
-- ==== Proof.RingRounds.lean ====
/-
  A round of one buffer pair, and a trip of the main loop: a round of each.
-/
module

public import proofs.«01_k».proof.Proof.RingParts

@[expose] public section

noncomputable section

namespace Cert.Proof.Ring

open Cert.Gather Cert.Gather.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type}

local notation "𝕄" => MT nD τ sig (HIx 1) (Elt F) ℕ UU ℕ
variable [FloatOps F]

section
variable (d : Dev nD) (L : grid0.Coords) (O : CellTallies nD τ sig (HIx 1)) (Wt : Waits sig (HIx 1)) (W : S84x21x45000.Idx → BitVec 32) (X : S1536.Idx → BitVec 32) (g : S21x7x84x1536.Idx → BitVec 32)
  (row : Memref sig .scVector .vmem S45056 .i32) (ob : Memref sig .scVector .vmem S10752 .i32) (si so : DmaSem sig)

theorem inPart_pos {a T t : ℕ} (ht : t < T) : InPart (F := F) d L W row si a T t = InFly (F := F) d L W row si (a + 64 * t) := if_pos ht
theorem outPart_succ (a t : ℕ) : OutPart (F := F) d L W X ob so a (t + 1) = OutFly (F := F) d L W X ob so (a + 64 * t) := if_neg (Nat.succ_ne_zero t)

/-- The next round's words started, if there is a next round. -/
theorem wp_prefetch {a t T : ℕ} (hT : ∀ i, i < T → a + 64 * i < 1764) {c : Prop} [Decidable c] (hc : c ↔ t + 1 < T) {off : Fin 3 → ℕ} (hoff : off = inOff (a + 64 * (t + 1))) {inb : c → ∀ x, off x + S1x1x45000.size x ≤ S84x21x45000.size x}
    {hsrc : ∀ h : c, (wSlice off (inb h)).view.WordExact} {hdst : c → (DmaTarget.here (ring row) : DmaTarget nD τ sig (VT d L).2 .vmem S45000 .i32).view.WordExact}
    {hsem : c → (DmaTarget.here (ring row) : DmaTarget nD τ sig (VT d L).2 .vmem S45000 .i32).Typed .hbm (.dma si)} {α : Type}
    {k : PUnit → Prog (TpuEff nD τ sig (Elt F) Λ₀ (VT d L).2) α} {Q : α → sProp 𝕄} :
    iprop(InIdle (F := F) d L row si ∗ WordsOf (F := F) d W a (t + 1) T)
      ⊢ iprop((iprop(InPart (F := F) d L W row si a T (t + 1) ∗ WordsOf (F := F) d W a (t + 2) T) -∗ wp frame (wpE (defs₀ (F := F)) 𝒱₀ (VT d L) none) Set.univ (k ⟨⟩) Q)
        -∗ wp frame (wpE (defs₀ (F := F)) 𝒱₀ (VT d L) none) Set.univ (if h : c then .op (.enqueueDma (wSlice off (inb h)) (.here (ring row)) (.dma si) (hsrc h) (hdst h) (hsem h)) k else k ⟨⟩) Q) := by
  by_cases h : c
  · have ht := hc.mp h
    rw [dif_pos h]
    unfold InPart
    rw [if_pos ht]
    iintro ⟨HI, Hw⟩ HK
    ihave Hw := (words_next d W a ht) $$ Hw
    icases Hw with ⟨Hw, Hws⟩
    iapply (wp_startIn d L W row si (hT _ ht) hoff) $$ [HI Hw]
    · isplitl [HI] <;> iassumption
    iintro HI
    iapply HK
    isplitl [HI] <;> iassumption
  · have ht : ¬ t + 1 < T := fun h' => h (hc.mpr h')
    rw [dif_neg h]
    unfold InPart WordsOf
    rw [if_neg ht, Finset.Ico_eq_empty (by omega), Finset.Ico_eq_empty (by omega)]
    iintro ⟨HI, Hw⟩ HK
    iapply HK
    isplitl [HI] <;> iassumption

/-- A round of one buffer pair. -/
theorem wp_round (hob : ob.IsWhole) {a t T : ℕ} (ht : t < T) (hT : ∀ i, i < T → a + 64 * i < 1764) {β : Type} {p : Prog (TpuEff nD τ sig (Elt F) Λ₀ (VT d L).2) PUnit} {q : Prog (TpuEff nD τ sig (Elt F) Λ₀ (VT d L).2) β}
    (hp : iprop(InFly (F := F) d L W row si (a + 64 * t) ∗ OutPart (F := F) d L W X ob so a t ∗ PiecesOf (F := F) d (gathG W X) a 0 (t - 1) ∗ OwesAt (F := F) d L O Wt ∗ MayWaits (VT d L) (none : HIx 1) O)
      ⊢ wp frame (wpE (defs₀ (F := F)) 𝒱₀ (VT d L) none) Set.univ p fun _ => iprop(RowNew (F := F) d L row (wordRing W (a + 64 * t)) ∗ Words (F := F) d W (a + 64 * t) ∗ semVal (VT d L, .dma si) 0 ∗ OutIdle (F := F) d L ob so
          ∗ PiecesOf (F := F) d (gathG W X) a 0 t ∗ OwesAt (F := F) d L O Wt))
    {pos : Memref sig .scVector .vmem S1536 .i32}
    (hq : iprop(PosAt (F := F) d L pos X 96 ∗ RowNew (F := F) d L row (wordRing W (a + 64 * t)) ∗ ObAny (F := F) d L ob)
      ⊢ wp frame (wpE (defs₀ (F := F)) 𝒱₀ (VT d L) none) Set.univ q fun _ => iprop(PosAt (F := F) d L pos X 96 ∗ RowAny (F := F) d L row ∗ ObAt (F := F) d L ob (wordRing W (a + 64 * t)) X 96 0))
    {o0 o1 o2 o3 o4 o5 o6 : Fin 4 → ℕ} (h0 : o0 = outOff (a + 64 * t) 0) (h1 : o1 = outOff (a + 64 * t) 1) (h2 : o2 = outOff (a + 64 * t) 2) (h3 : o3 = outOff (a + 64 * t) 3)
    (h4 : o4 = outOff (a + 64 * t) 4) (h5 : o5 = outOff (a + 64 * t) 5) (h6 : o6 = outOff (a + 64 * t) 6)
    {c : Prop} [Decidable c] (hc : c ↔ t + 1 < T) {off : Fin 3 → ℕ} (hoff : off = inOff (a + 64 * (t + 1))) {inb : c → ∀ x, off x + S1x1x45000.size x ≤ S84x21x45000.size x}
    {hsrc : ∀ h : c, (wSlice off (inb h)).view.WordExact} {hdst : c → (DmaTarget.here (ring row) : DmaTarget nD τ sig (VT d L).2 .vmem S45000 .i32).view.WordExact}
    {hsem : c → (DmaTarget.here (ring row) : DmaTarget nD τ sig (VT d L).2 .vmem S45000 .i32).Typed .hbm (.dma si)}
    {i0 i1 i2 i3 i4 i5 i6 b0 b1 b2 b3 b4 b5 b6 s0 s1 s2 s3 s4 s5 s6 t0 t1 t2 t3 t4 t5 t6 e0 e1 e2 e3 e4 e5 e6} {α : Type}
    {k : PUnit → Prog (TpuEff nD τ sig (Elt F) Λ₀ (VT d L).2) α} {Q : α → sProp 𝕄} :
    iprop(Pair (F := F) d L W X g row ob si so a T t ∗ PosAt (F := F) d L pos X 96 ∗ OwesAt (F := F) d L O Wt ∗ MayWaits (VT d L) (none : HIx 1) O)
      ⊢ iprop((iprop(Pair (F := F) d L W X g row ob si so a T (t + 1) ∗ PosAt (F := F) d L pos X 96 ∗ OwesAt (F := F) d L O Wt) -∗ wp frame (wpE (defs₀ (F := F)) 𝒱₀ (VT d L) none) Set.univ (k ⟨⟩) Q)
        -∗ wp frame (wpE (defs₀ (F := F)) 𝒱₀ (VT d L) none) Set.univ (p >>= fun _ => q >>= fun _ =>
          .op (.enqueueDma (chunk ob 0 i0) (.here (gSlice o0 b0)) (.dma so) s0 t0 e0) fun _ =>
           .op (.enqueueDma (chunk ob 1536 i1) (.here (gSlice o1 b1)) (.dma so) s1 t1 e1) fun _ =>
           .op (.enqueueDma (chunk ob 3072 i2) (.here (gSlice o2 b2)) (.dma so) s2 t2 e2) fun _ =>
           .op (.enqueueDma (chunk ob 4608 i3) (.here (gSlice o3 b3)) (.dma so) s3 t3 e3) fun _ =>
           .op (.enqueueDma (chunk ob 6144 i4) (.here (gSlice o4 b4)) (.dma so) s4 t4 e4) fun _ =>
           .op (.enqueueDma (chunk ob 7680 i5) (.here (gSlice o5 b5)) (.dma so) s5 t5 e5) fun _ =>
           .op (.enqueueDma (chunk ob 9216 i6) (.here (gSlice o6 b6)) (.dma so) s6 t6 e6) fun _ =>
           if h : c then .op (.enqueueDma (wSlice off (inb h)) (.here (ring row)) (.dma si) (hsrc h) (hdst h) (hsem h)) k else k ⟨⟩) Q) := by
  unfold Pair
  iintro ⟨⟨Ho, HI, Hwd, Hwn, Hpd, Hpn⟩, HP, HO, #HM⟩ HK
  iapply (wp_seq hp) $$ [Ho HI Hpd HO]
  · isplitl [HI]
    · iapply (Entails.of_eq (inPart_pos d L W row si ht)) $$ HI
    isplitl [Ho]; · iexact Ho
    isplitl [Hpd]; · iexact Hpd
    isplitl [HO]; · iexact HO
    iexact HM
  iintro %_ ⟨Hr, Hw, Hsi, Ho, Hpd, HO⟩
  unfold OutIdle
  icases Ho with ⟨Ho, Hso⟩
  iapply (wp_seq hq) $$ [HP Hr Ho]
  · isplitl [HP]; · iexact HP
    isplitl [Hr] <;> iassumption
  iintro %_ ⟨HP, Hr, Ho⟩
  ihave Hpn := (pieces_next d g a ht) $$ Hpn
  icases Hpn with ⟨Hp, Hpn⟩
  iapply (wp_startOut d L W X ob so hob (hT _ ht) g h0 h1 h2 h3 h4 h5 h6) $$ [Ho Hso Hp]
  · isplitl [Ho]; · iexact Ho
    isplitl [Hso] <;> iassumption
  iintro Ho
  iapply (wp_prefetch d L W row si hT hc hoff) $$ [Hr Hsi Hwn]
  · unfold InIdle
    isplitl [Hr Hsi]
    · isplitl [Hr] <;> iassumption
    iexact Hwn
  iintro ⟨HI, Hwn⟩
  iapply HK
  isplitr [HP HO]
  · isplitl [Ho]
    · iapply (Entails.of_eq (outPart_succ d L W X ob so a t).symm) $$ Ho
    isplitl [HI]; · iexact HI
    isplitl [Hwd Hw]
    · iapply (words_done d W a t); isplitl [Hwd] <;> iassumption
    isplitl [Hwn]; · iexact Hwn
    isplitl [Hpd]; · iexact Hpd
    iexact Hpn
  · isplitl [HP] <;> iassumption
end

theorem wid_lt (L : grid0.Coords) : wid L < 32 := by
  have h0 : (L 0).val < 2 := (L 0).isLt
  have h1 : (L 1).val < 16 := (L 1).isLt
  unfold wid; omega
theorem trips2 (L : grid0.Coords) : (k0_t2_loop L).trips = 28 := by rw [← co_eta L]; exact trips2_co (L 0) (L 1)
theorem conds (L : grid0.Coords) : ∀ t : Fin (k0_t2_loop L).trips, k0_cond1 L t = 1#1
    ∧ (k0_cond2 L t = 1#1 ↔ 0 < t.val) ∧ (k0_cond3 L t = 1#1 ↔ wid L + 64 * (t.val + 1) < 1764) ∧ (k0_cond4 L t = 1#1 ↔ wid L + 64 * t.val + 32 < 1764)
    ∧ (k0_cond5 L t = 1#1 ↔ 0 < t.val) ∧ (k0_cond6 L t = 1#1 ↔ wid L + 64 * (t.val + 1) + 32 < 1764) := by
  rw [← co_eta L]; exact cond_co (L 0) (L 1)
theorem out0 (L : grid0.Coords) : ∀ t : Fin (k0_t2_loop L).trips, k0_off19 L t = outOff (wid L + 64 * t.val) 0 ∧ k0_off20 L t = outOff (wid L + 64 * t.val) 1
    ∧ k0_off21 L t = outOff (wid L + 64 * t.val) 2 ∧ k0_off22 L t = outOff (wid L + 64 * t.val) 3 ∧ k0_off23 L t = outOff (wid L + 64 * t.val) 4
    ∧ k0_off24 L t = outOff (wid L + 64 * t.val) 5 ∧ k0_off25 L t = outOff (wid L + 64 * t.val) 6 ∧ k0_off26 L t = inOff (wid L + 64 * (t.val + 1)) := by
  rw [← co_eta L]; exact out0_co (L 0) (L 1)
theorem out1 (L : grid0.Coords) : ∀ t : Fin (k0_t2_loop L).trips, k0_off43 L t = outOff (wid L + 64 * t.val + 32) 0 ∧ k0_off44 L t = outOff (wid L + 64 * t.val + 32) 1
    ∧ k0_off45 L t = outOff (wid L + 64 * t.val + 32) 2 ∧ k0_off46 L t = outOff (wid L + 64 * t.val + 32) 3 ∧ k0_off47 L t = outOff (wid L + 64 * t.val + 32) 4
    ∧ k0_off48 L t = outOff (wid L + 64 * t.val + 32) 5 ∧ k0_off49 L t = outOff (wid L + 64 * t.val + 32) 6 ∧ k0_off50 L t = inOff (wid L + 64 * (t.val + 1) + 32) := by
  rw [← co_eta L]; exact out1_co (L 0) (L 1)

section Tile
variable (d : Dev nD) (L : grid0.Coords) (O : CellTallies nD τ sig (HIx 1)) (Wt : Waits sig (HIx 1))
  (W : S84x21x45000.Idx → BitVec 32) {X : S1536.Idx → BitVec 32} (hX : InRing X) (g : S21x7x84x1536.Idx → BitVec 32)
variable (harg2 : wV.IsWhole) (arg3 : Memref sig .scVector .hbm S45000 .i32) (harg3 : arg3.IsWhole) (arg4 : Memref sig .scVector .hbm S1536 .i32) (harg4 : arg4.IsWhole) (harg5 : gV.IsWhole) (arg6 : Memref sig .scVector .hbm S8x1536 .i32) (harg6 : arg6.IsWhole) (arg7 : Memref sig .scVector .vmem S45056 .i32) (harg7 : arg7.IsWhole) (arg8 : Memref sig .scVector .vmem S45056 .i32) (harg8 : arg8.IsWhole) (arg9 : Memref sig .scVector .vmem S1536 .i32) (harg9 : arg9.IsWhole) (arg10 : Memref sig .scVector .vmem S10752 .i32) (harg10 : arg10.IsWhole) (arg11 : Memref sig .scVector .vmem S10752 .i32) (harg11 : arg11.IsWhole) (arg12 : DmaSems sig S2) (arg13 : DmaSems sig S2) (v553_r0 : DmaSems sig S_) (v556_r1 : DmaSems sig S_) (v556_r2 : DmaSems sig S_) (v556_r3 : DmaSems sig S_) (v556_r4 : DmaSems sig S_) (v556_r5 : DmaSems sig S_) (v556_r6 : DmaSems sig S_) (v556_r7 : DmaSems sig S_) (v556_r8 : DmaSems sig S_)

/-- How many rounds the second pair has. -/
def rounds1 (L : grid0.Coords) : ℕ := if wid L < 4 then 28 else 27

/-- What a trip of the main loop keeps. -/
def Trips (t : ℕ) : sProp 𝕄 :=
  iprop(Pair (F := F) d L W X g arg7 arg10 (sem0 arg12) (sem0 arg13) (wid L) 28 t
    ∗ Pair (F := F) d L W X g arg8 arg11 (sem1 arg12) (sem1 arg13) (wid L + 32) (rounds1 L) (min t (rounds1 L))
    ∗ PosAt (F := F) d L arg9 X 96 ∗ OwesAt (F := F) d L O Wt ∗ MayWaits (VT d L) (none : HIx 1) O)

include hX in
/-- wV harg2 arg3 harg3 arg4 harg4 gV harg5 arg6 harg6 arg7 harg7 arg8 harg8 arg9 harg9 arg10 harg10 arg11 harg11 arg12 arg13 v553_r0 v556_r1 v556_r2 v556_r3 v556_r4 v556_r5 v556_r6 v556_r7 v556_r8 trip of the main loop. -/
theorem t2_trip (v1 v22 v96 : BitVec 32) (v110 : BitVec 1) (v111 : BitVec 32) (k : Fin (k0_t2_loop L).trips) (u : Unit) :
    Trips (F := F) d L O Wt W (X := X) g arg7 arg8 arg9 arg10 arg11 arg12 arg13 k.val
      ⊢ wp frame (wpE (defs₀ (F := F)) 𝒱₀ (VT d L) none) Set.univ (k0_t2_body L wV harg2 arg3 harg3 arg4 harg4 gV harg5 arg6 harg6 arg7 harg7 arg8 harg8 arg9 harg9 arg10 harg10 arg11 harg11 arg12 arg13 v553_r0 v556_r1 v556_r2 v556_r3 v556_r4 v556_r5 v556_r6 v556_r7 v556_r8 v1 v22 v96 v110 v111 k u)
        fun _ => Trips (F := F) d L O Wt W (X := X) g arg7 arg8 arg9 arg10 arg11 arg12 arg13 (k.val + 1) := by
  have hw := wid_lt L
  have hk : k.val < 28 := (trips2 L) ▸ k.isLt
  obtain ⟨c1, c2, c3, c4, c5, c6⟩ := conds L k
  obtain ⟨p0, p1, p2, p3, p4, p5, p6, p7⟩ := out0 L k
  obtain ⟨q0, q1, q2, q3, q4, q5, q6, q7⟩ := out1 L k
  have e1 : wid L + 64 * k.val + 32 = wid L + 32 + 64 * k.val := by omega
  have e2 : wid L + 64 * (k.val + 1) + 32 = wid L + 32 + 64 * (k.val + 1) := by omega
  rw [e1] at q0 q1 q2 q3 q4 q5 q6
  rw [e2] at q7
  have T1 : rounds1 L = if wid L < 4 then 28 else 27 := rfl
  unfold k0_t2_body
  simp only [dif_pos c1, k0_part9_eq_skeleton, k0_part10_eq_skeleton, k0_part11_eq_skeleton, k0_part12_eq_skeleton, k0_part21_eq_skeleton, k0_part22_eq_skeleton, k0_part23_eq_skeleton, k0_part24_eq_skeleton]
  unfold k0_part9_skel k0_part10_skel k0_part11_skel k0_part12_skel
  simp only [Prog.lift, Prog.bind_op, Prog.bind_ret, Prog.pure_eq_ret, Prog.bind_assoc]
  unfold Trips
  iintro ⟨H0, H1, HP, HO, #HM⟩
  iapply (wp_round d L O Wt W X g arg7 arg10 (sem0 arg12) (sem0 arg13) harg10 hk (fun i hi => by omega)
    (part7_spec d L O Wt W harg2 arg3 harg3 arg4 harg4 harg5 arg6 harg6 arg7 harg7 arg8 harg8 arg9 harg9 arg10 harg10 arg11 harg11 arg12 arg13 v553_r0 v556_r1 v556_r2 v556_r3 v556_r4 v556_r5 v556_r6 v556_r7 v556_r8 k _ _ c1 c2) (part8_spec d L hX harg2 arg3 harg3 arg4 harg4 harg5 arg6 harg6 arg7 harg7 arg8 harg8 arg9 harg9 arg10 harg10 arg11 harg11 arg12 arg13 v553_r0 v556_r1 v556_r2 v556_r3 v556_r4 v556_r5 v556_r6 v556_r7 v556_r8 k _ c1 (wordRing_mod W _))
    p0 p1 p2 p3 p4 p5 p6 (by rw [c3]; omega) p7) $$ [H0 HP HO]
  · isplitl [H0]; · iexact H0
    isplitl [HP]; · iexact HP
    isplitl [HO]; · iexact HO
    iexact HM
  iintro ⟨H0, HP, HO⟩
  by_cases h4 : k0_cond4 L k = 1#1
  · have ht : k.val < rounds1 L := by have := c4.mp h4; rw [T1]; split <;> omega
    simp only [dif_pos h4]
    unfold k0_part21_skel k0_part22_skel k0_part23_skel k0_part24_skel
    simp only [Prog.lift, Prog.bind_op, Prog.bind_ret, Prog.pure_eq_ret, Prog.bind_assoc]
    rw [show min k.val (rounds1 L) = k.val by omega, show min (k.val + 1) (rounds1 L) = k.val + 1 by omega]
    iapply (wp_round d L O Wt W X g arg8 arg11 (sem1 arg12) (sem1 arg13) harg11 ht (fun i hi => by rw [T1] at hi; split at hi <;> omega)
      (part19_spec d L O Wt W harg2 arg3 harg3 arg4 harg4 harg5 arg6 harg6 arg7 harg7 arg8 harg8 arg9 harg9 arg10 harg10 arg11 harg11 arg12 arg13 v553_r0 v556_r1 v556_r2 v556_r3 v556_r4 v556_r5 v556_r6 v556_r7 v556_r8 k _ _ h4 c5) (part20_spec d L hX harg2 arg3 harg3 arg4 harg4 harg5 arg6 harg6 arg7 harg7 arg8 harg8 arg9 harg9 arg10 harg10 arg11 harg11 arg12 arg13 v553_r0 v556_r1 v556_r2 v556_r3 v556_r4 v556_r5 v556_r6 v556_r7 v556_r8 k _ h4 (wordRing_mod W _))
      q0 q1 q2 q3 q4 q5 q6 (by rw [c6, T1]; split <;> omega) q7) $$ [H1 HP HO]
    · isplitl [H1]; · iexact H1
      isplitl [HP]; · iexact HP
      isplitl [HO]; · iexact HO
      iexact HM
    iintro ⟨H1, HP, HO⟩
    sl_step
    isplitl [H0]; · iexact H0
    isplitl [H1]; · iexact H1
    isplitl [HP]; · iexact HP
    isplitl [HO]; · iexact HO
    iexact HM
  · have ht : ¬ k.val < rounds1 L := fun h => h4 (c4.mpr (by rw [T1] at h; split at h <;> omega))
    simp only [dif_neg h4]
    rw [show min k.val (rounds1 L) = rounds1 L by omega, show min (k.val + 1) (rounds1 L) = rounds1 L by omega]
    sl_step
    isplitl [H0]; · iexact H0
    isplitl [H1]; · iexact H1
    isplitl [HP]; · iexact HP
    isplitl [HO]; · iexact HO
    iexact HM
end Tile

end Cert.Proof.Ring

end
-- ==== Proof.RingTask.lean ====
/-
  One task of the ring gather, from its transfers' first to their last.
-/
module

public import proofs.«01_k».proof.Proof.RingRounds

@[expose] public section

noncomputable section

namespace Cert.Proof.Ring

open Cert.Gather Cert.Gather.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type}

local notation "𝕄" => MT nD τ sig (HIx 1) (Elt F) ℕ UU ℕ
variable [FloatOps F]

section
variable (d : Dev nD) (L : grid0.Coords) (O : CellTallies nD τ sig (HIx 1)) (Wt : Waits sig (HIx 1))

/-- A transfer started and waited for at once. -/
theorem wp_sync {sp sp' : Space} {s : Shape} {src : Memref sig .scVector sp s .i32} {dst : Memref sig .scVector sp' s .i32} (sm : DmaSem sig) {src' : Memref sig .scVector sp s .i32}
    {hsrc hdst hsem hsrc' hdst'} {q : PosShare TreeShare} {fs : Buf (Elt F) (src.view.loc (VT d L))} {Sd : Finset (Idx (dst.view.loc (VT d L)))} {fd : Buf (Elt F) (dst.view.loc (VT d L))}
    (hN : 0 < dst.view.dmaCredit) (hSd : dst.view.set ⊆ Sd) {α : Type} {k : PUnit → Prog (TpuEff nD τ sig (Elt F) Λ₀ (VT d L).2) α} {Q : α → sProp 𝕄} :
    iprop((src.view.loc (VT d L) ↦[src.view.set]{q} fs) ∗ (dst.view.loc (VT d L) ↦[Sd]{fullShare} fd) ∗ semVal (VT d L, .dma sm) 0 ∗ OwesAt (F := F) d L O Wt ∗ MayWaits (VT d L) (none : HIx 1) O)
      ⊢ iprop((iprop((dst.view.loc (VT d L) ↦[Sd]{fullShare} (dst.view.write (Elt F) fd (src.view.read (Elt F) fs) Finset.univ)) ∗ (src.view.loc (VT d L) ↦[src.view.set]{q} fs)
          ∗ semVal (VT d L, .dma sm) 0 ∗ OwesAt (F := F) d L O Wt) -∗ wp frame (wpE (defs₀ (F := F)) 𝒱₀ (VT d L) none) Set.univ (k ⟨⟩) Q)
        -∗ wp frame (wpE (defs₀ (F := F)) 𝒱₀ (VT d L) none) Set.univ (.op (.enqueueDma src (.here dst) (.dma sm) hsrc hdst hsem) fun _ => .op (.waitDma2 sm src' dst hsrc' hdst') k) Q) := by
  unfold OwesAt
  iintro ⟨Hs, Hd, Hv, ⟨%W', %hW', HO⟩, HM⟩ HK
  iapply (Transfers.wp_dmaLocal countersEmb 𝒱₀ (VT d L) none (src := src) (dst := dst) (fs := fs) (fd := fd) (q := q) (Sd := Sd) (none : HIx 1) dst.view.dmaCredit (View.amount_dma _ _)
    hN hSd) $$ [Hs Hd Hv]
  · isplitl [Hs]; · iexact Hs
    isplitl [Hd] <;> iassumption
  iintro HF
  iapply (Transfers.wp_waitLocalO countersEmb 𝒱₀ (VT d L) none (none : HIx 1) rfl) $$ [HF HO HM]
  · isplitl [HF]; · iexact HF
    isplitl [HO]; · iexact HO
    iapply (MayWaits.elim (SemLoc.dma sm)) $$ HM
  iintro ⟨⟨Hd, Hs⟩, Hv, HO⟩
  iapply HK
  isplitl [Hd]; · iexact Hd
  isplitl [Hs]; · iexact Hs
  isplitl [Hv]; · iexact Hv
  iexists insert (SemLoc.dma sm, none) W'; isplitr
  · ipureintro
    intro p hp
    rcases Finset.mem_insert.mp hp with rfl | hp
    · exact .inr rfl
    · exact hW' p hp
  · iexact HO

/-- The flags, the first `j` rows written. -/
def FlagsAt (E : S45000.Idx → BitVec 32) (X : S1536.Idx → BitVec 32) (f₀ : S8x1536.Idx → BitVec 32) (j : ℕ) : sProp 𝕄 :=
  iprop(∃ f : S8x1536.Idx → BitVec 32, (fLoc d ↦[Finset.univ]{fullShare} (f : Buf (Elt F) (fLoc d))) ∗ ⌜FHolds E X f₀ j f⌝)

/-- A row of flags out. -/
theorem wp_flagRow {E : S45000.Idx → BitVec 32} {X : S1536.Idx → BitVec 32} {f₀ : S8x1536.Idx → BitVec 32} (ob : Memref sig .scVector .vmem S10752 .i32) (sm : DmaSem sig)
    (j : ℕ) (hj : j < 7) {o : ℕ} (ho : o = 1536 * j) {src' : Memref sig .scVector .vmem S1536 .i32} {inb inb' inb'' hsrc hdst hsem hsrc' hdst'} {α : Type} {k : PUnit → Prog (TpuEff nD τ sig (Elt F) Λ₀ (VT d L).2) α} {Q : α → sProp 𝕄} :
    iprop(ObAt (F := F) d L ob (flagRing E) X 96 0 ∗ FlagsAt (F := F) d E X f₀ j ∗ semVal (VT d L, .dma sm) 0 ∗ OwesAt (F := F) d L O Wt ∗ MayWaits (VT d L) (none : HIx 1) O)
      ⊢ iprop((iprop(ObAt (F := F) d L ob (flagRing E) X 96 0 ∗ FlagsAt (F := F) d E X f₀ (j + 1) ∗ semVal (VT d L, .dma sm) 0 ∗ OwesAt (F := F) d L O Wt) -∗ wp frame (wpE (defs₀ (F := F)) 𝒱₀ (VT d L) none) Set.univ (k ⟨⟩) Q)
        -∗ wp frame (wpE (defs₀ (F := F)) 𝒱₀ (VT d L) none) Set.univ (.op (.enqueueDma (chunk ob o inb) (.here (fSlice ![j, 0] inb')) (.dma sm) hsrc hdst hsem) fun _ => .op (.waitDma2 sm src' (fSlice ![j, 0] inb'') hsrc' hdst') k) Q) := by
  subst ho
  unfold ObAt FlagsAt
  iintro ⟨⟨%f, Ho, %hf⟩, ⟨%fl, Hf, %hfl⟩, Hv, HO, HM⟩ HK
  ihave Ho := ((pointsTo_split_subset (Finset.subset_univ (chunk ob (1536 * j) inb).view.set)).1) $$ Ho
  icases Ho with ⟨Ho, Ho'⟩
  iapply (wp_sync d L O Wt (src := chunk ob (1536 * j) inb) (dst := fSlice ![j, 0] inb') sm (fs := f) (fd := fl) (q := fullShare) (Sd := Finset.univ)
    (View.dmaCredit_pos (v := (fSlice ![j, 0] inb').view) (by decide)) (Finset.subset_univ _)) $$ [Ho Hf Hv HO HM]
  · isplitl [Ho]; · iexact Ho
    isplitl [Hf]; · iexact Hf
    isplitl [Hv]; · iexact Hv
    isplitl [HO] <;> iassumption
  iintro ⟨Hf, Ho, Hv, HO⟩
  iapply HK
  isplitl [Ho Ho']
  · iexists f; isplitl
    · iapply ((pointsTo_split_subset (Finset.subset_univ (chunk ob (1536 * j) inb).view.set)).2)
      isplitl [Ho]; · iexact Ho
      iexact Ho'
    · ipureintro; exact hf
  isplitl [Hf]
  · iexists _; isplitl; · iexact Hf
    ipureintro
    exact f_write (ob := ob) hf hj inb inb' hfl
  isplitl [Hv] <;> iassumption
end

theorem cond13 (L : grid0.Coords) : k0_cond13 L = 1#1 ↔ wid L = 31 := by rw [← co_eta L]; exact cond13_co (L 0) (L 1)
theorem trips5 (L : grid0.Coords) : (k0_t5_loop L).trips = 0 := by rw [← co_eta L]; exact trips5_co (L 0) (L 1)
theorem off2 (L : grid0.Coords) : k0_off2 L 0#32 = inOff (wid L) ∧ k0_off2 L 32#32 = inOff (wid L + 32) := by rw [← co_eta L]; exact off2_co (L 0) (L 1)

section
variable (d : Dev nD) (L : grid0.Coords) (W : S84x21x45000.Idx → BitVec 32) (X : S1536.Idx → BitVec 32) (g : S21x7x84x1536.Idx → BitVec 32)
  (row : Memref sig .scVector .vmem S45056 .i32) (ob : Memref sig .scVector .vmem S10752 .i32) (si so : DmaSem sig)

theorem pair_start {a T : ℕ} (hT : 0 < T) :
    iprop(OutIdle (F := F) d L ob so ∗ InFly (F := F) d L W row si a ∗ WordsOf (F := F) d W a 1 T ∗ PiecesOf (F := F) d g a 0 T) ⊢ Pair (F := F) d L W X g row ob si so a T 0 := by
  unfold Pair OutPart InPart
  rw [if_pos rfl, if_pos hT]
  iintro ⟨Ho, HI, Hw, Hp⟩
  isplitl [Ho]; · iexact Ho
  isplitl [HI]; · iexact HI
  unfold WordsOf PiecesOf
  isplitr; · iapply (Entails.of_eq bigSep_empty.symm); iempintro
  isplitl [Hw]; · iexact Hw
  isplitr; · iapply (Entails.of_eq bigSep_empty.symm); iempintro
  iexact Hp
theorem pair_end {a T : ℕ} (hT : 0 < T) :
    Pair (F := F) d L W X g row ob si so a T T
      ⊢ iprop(OutFly (F := F) d L W X ob so (a + 64 * (T - 1)) ∗ InIdle (F := F) d L row si ∗ WordsOf (F := F) d W a 0 T ∗ PiecesOf (F := F) d (gathG W X) a 0 (T - 1)) := by
  unfold Pair OutPart InPart
  rw [if_neg (by omega), if_neg (by omega)]
  iintro ⟨Ho, HI, Hw, -, Hp, -⟩
  isplitl [Ho]; · iexact Ho
  isplitl [HI]; · iexact HI
  isplitl [Hw] <;> iassumption
end

theorem posAt_any (d : Dev nD) (L : grid0.Coords) (pos : Memref sig .scVector .vmem S1536 .i32) (X : S1536.Idx → BitVec 32) :
    PosAt (F := F) d L pos X 96 ⊢ iprop(∃ f : Buf (Elt F) (pos.view.loc (VT d L)), pos.view.loc (VT d L) ↦[Finset.univ]{fullShare} f) := by
  unfold PosAt
  iintro ⟨%f, H, -⟩
  iexists f; iexact H
theorem obAt_any (d : Dev nD) (L : grid0.Coords) (X : S1536.Idx → BitVec 32) (ob : Memref sig .scVector .vmem S10752 .i32) (r : ℕ → BitVec 32) : ObAt (F := F) d L ob r X 96 0 ⊢ ObAny (F := F) d L ob := by
  unfold ObAt ObAny
  iintro ⟨%f, H, -⟩
  iexists f; iexact H
theorem flags_start (d : Dev nD) (E : S45000.Idx → BitVec 32) {X : S1536.Idx → BitVec 32} (f₀ : S8x1536.Idx → BitVec 32) :
    (fLoc d ↦[Finset.univ]{fullShare} (f₀ : Buf (Elt F) (fLoc d))) ⊢ FlagsAt (F := F) d E X f₀ 0 := by
  unfold FlagsAt
  iintro H
  iexists f₀; isplitl; · iexact H
  ipureintro
  intro i; rw [if_neg (by omega)]
section Tile
variable (d : Dev nD) (L : grid0.Coords) (O : CellTallies nD τ sig (HIx 1)) (Wt : Waits sig (HIx 1))
  (W : S84x21x45000.Idx → BitVec 32) {X : S1536.Idx → BitVec 32} (hX : InRing X) (g : S21x7x84x1536.Idx → BitVec 32)
variable (harg2 : wV.IsWhole) (harg3 : sV.IsWhole) (harg4 : iV.IsWhole) (harg5 : gV.IsWhole) (harg6 : fV.IsWhole) (arg7 : Memref sig .scVector .vmem S45056 .i32) (harg7 : arg7.IsWhole) (arg8 : Memref sig .scVector .vmem S45056 .i32) (harg8 : arg8.IsWhole) (arg9 : Memref sig .scVector .vmem S1536 .i32) (harg9 : arg9.IsWhole) (arg10 : Memref sig .scVector .vmem S10752 .i32) (harg10 : arg10.IsWhole) (arg11 : Memref sig .scVector .vmem S10752 .i32) (harg11 : arg11.IsWhole) (arg12 : DmaSems sig S2) (arg13 : DmaSems sig S2) (v553_r0 : DmaSems sig S_) (v556_r1 : DmaSems sig S_) (v556_r2 : DmaSems sig S_) (v556_r3 : DmaSems sig S_) (v556_r4 : DmaSems sig S_) (v556_r5 : DmaSems sig S_) (v556_r6 : DmaSems sig S_) (v556_r7 : DmaSems sig S_) (v556_r8 : DmaSems sig S_)

/-- The adjusted start positions. -/
theorem part53_spec {q : PosShare TreeShare} :
    iprop((∃ f : Buf (Elt F) (arg9.view.loc (VT d L)), arg9.view.loc (VT d L) ↦[Finset.univ]{fullShare} f) ∗ (iLoc d ↦[Finset.univ]{q} (X : Buf (Elt F) (iLoc d))) ∗ semVal (VT d L, .dma v553_r0.sem) 0
        ∗ OwesAt (F := F) d L O Wt ∗ MayWaits (VT d L) (none : HIx 1) O)
      ⊢ wp frame (wpE (defs₀ (F := F)) 𝒱₀ (VT d L) none) Set.univ (k0_part53 L wV harg2 sV harg3 iV harg4 gV harg5 fV harg6 arg7 harg7 arg8 harg8 arg9 harg9 arg10 harg10 arg11 harg11 arg12 arg13 v553_r0 v556_r1 v556_r2 v556_r3 v556_r4 v556_r5 v556_r6 v556_r7 v556_r8)
        fun _ => iprop(PosAt (F := F) d L arg9 X 96 ∗ (iLoc d ↦[Finset.univ]{q} (X : Buf (Elt F) (iLoc d))) ∗ semVal (VT d L, .dma v553_r0.sem) 0 ∗ OwesAt (F := F) d L O Wt) := by
  rw [k0_part53_eq_skeleton]; unfold k0_part53_skel
  simp only [Prog.lift, Prog.bind_op, Prog.bind_ret, Prog.pure_eq_ret, Prog.bind_assoc]
  iintro ⟨⟨%f, Hp⟩, Hi, Hv, HO, HM⟩
  iapply (wp_sync d L O Wt (src := iV) (dst := arg9) v553_r0.sem (fs := X) (fd := f) (q := q) (Sd := Finset.univ)
    (View.dmaCredit_pos (v := arg9.view) (by decide)) (Finset.subset_univ _)) $$ [Hp Hi Hv HO HM]
  · isplitl [Hi]; · iapply (Entails.of_eq (by rw [harg4.set_eq_univ])) $$ Hi
    isplitl [Hp]; · iexact Hp
    isplitl [Hv]; · iexact Hv
    isplitl [HO] <;> iassumption
  iintro ⟨Hp, Hi, Hv, HO⟩
  iapply (Scf.wp_for_bind _ _ _ _ _ _ _ _ _ (fun t _ => PosAt (F := F) d L arg9 X t) (fun t u => t1_trip d L wV harg2 sV harg3 iV harg4 gV harg5 fV harg6 arg7 harg7 arg8 harg8 arg9 harg9 arg10 harg10 arg11 harg11 arg12 arg13 v553_r0 v556_r1 v556_r2 v556_r3 v556_r4 v556_r5 v556_r6 v556_r7 v556_r8 t u)) $$ [Hp]
  · unfold PosAt
    iexists _; isplitl; · iexact Hp
    ipureintro
    intro b
    rw [View.read_write_univ, if_neg (by omega)]
    rfl
  iintro %_ HP
  rw [show Scf.trips k0_t1_loop.lb k0_t1_loop.ub k0_t1_loop.st = 96 from trips_t1]
  sl_step
  isplitl [HP]; · iexact HP
  isplitl [Hi]; · iapply (Entails.of_eq (by rw [harg4.set_eq_univ])) $$ Hi
  isplitl [Hv] <;> iassumption

/-- A task's buffers and its cells at zero. -/
def Bufs : sProp 𝕄 :=
  iprop(RowAny (F := F) d L arg7 ∗ RowAny (F := F) d L arg8 ∗ (∃ f : Buf (Elt F) (arg9.view.loc (VT d L)), arg9.view.loc (VT d L) ↦[Finset.univ]{fullShare} f) ∗ ObAny (F := F) d L arg10 ∗ ObAny (F := F) d L arg11)
def Cells : sProp 𝕄 :=
  iprop(semVal (VT d L, .dma (sem0 arg12)) 0 ∗ semVal (VT d L, .dma (sem1 arg12)) 0 ∗ semVal (VT d L, .dma (sem0 arg13)) 0 ∗ semVal (VT d L, .dma (sem1 arg13)) 0 ∗ semVal (VT d L, .dma v553_r0.sem) 0 ∗ semVal (VT d L, .dma v556_r1.sem) 0 ∗ semVal (VT d L, .dma v556_r2.sem) 0 ∗ semVal (VT d L, .dma v556_r3.sem) 0 ∗ semVal (VT d L, .dma v556_r4.sem) 0 ∗ semVal (VT d L, .dma v556_r5.sem) 0 ∗ semVal (VT d L, .dma v556_r6.sem) 0 ∗ semVal (VT d L, .dma v556_r7.sem) 0 ∗ semVal (VT d L, .dma v556_r8.sem) 0)
/-- A task's words, its pieces of the gathered words, and the flags, of which one task has the whole. -/
def Units (h : S21x7x84x1536.Idx → BitVec 32) : sProp 𝕄 :=
  iprop((WordsOf (F := F) d W (wid L) 0 28 ∗ WordsOf (F := F) d W (wid L + 32) 0 (rounds1 L)) ∗ PiecesOf (F := F) d h (wid L) 0 28 ∗ PiecesOf (F := F) d h (wid L + 32) 0 (rounds1 L))
def Flags (E : S45000.Idx → BitVec 32) (f : S8x1536.Idx → BitVec 32) : sProp 𝕄 :=
  if wid L = 31 then iprop((sLoc d ↦[Finset.univ]{fullShare} (E : Buf (Elt F) (sLoc d))) ∗ (fLoc d ↦[Finset.univ]{fullShare} (f : Buf (Elt F) (fLoc d)))) else iprop(emp)

theorem flags_done (E : S45000.Idx → BitVec 32) (f₀ : S8x1536.Idx → BitVec 32) : FlagsAt (F := F) d E X f₀ 7 ⊢ fLoc d ↦[Finset.univ]{fullShare} (gathF E X f₀ : Buf (Elt F) (fLoc d)) := by
  unfold FlagsAt
  iintro ⟨%f, Hf, %hf⟩
  have h : f = gathF E X f₀ := funext hf
  subst h
  iexact Hf

include hX in
/-- A whole task. -/
theorem task_spec {q : PosShare TreeShare} (E : S45000.Idx → BitVec 32) (f₀ : S8x1536.Idx → BitVec 32) :
    iprop(Bufs (F := F) d L arg7 arg8 arg9 arg10 arg11 ∗ Cells (F := F) d L arg12 arg13 v553_r0 v556_r1 v556_r2 v556_r3 v556_r4 v556_r5 v556_r6 v556_r7 v556_r8 ∗ (iLoc d ↦[Finset.univ]{q} (X : Buf (Elt F) (iLoc d))) ∗ Units (F := F) d L W g
        ∗ Flags (F := F) d L E f₀ ∗ OwesAt (F := F) d L O Wt ∗ MayWaits (VT d L) (none : HIx 1) O)
      ⊢ wp frame (wpE (defs₀ (F := F)) 𝒱₀ (VT d L) none) Set.univ (cc0_ring_gather L wV harg2 sV harg3 iV harg4 gV harg5 fV harg6 arg7 harg7 arg8 harg8 arg9 harg9 arg10 harg10 arg11 harg11 arg12 arg13 v553_r0 v556_r1 v556_r2 v556_r3 v556_r4 v556_r5 v556_r6 v556_r7 v556_r8)
        fun _ => iprop(Bufs (F := F) d L arg7 arg8 arg9 arg10 arg11 ∗ Cells (F := F) d L arg12 arg13 v553_r0 v556_r1 v556_r2 v556_r3 v556_r4 v556_r5 v556_r6 v556_r7 v556_r8 ∗ (iLoc d ↦[Finset.univ]{q} (X : Buf (Elt F) (iLoc d))) ∗ Units (F := F) d L W (gathG W X)
          ∗ Flags (F := F) d L E (gathF E X f₀) ∗ OwesAt (F := F) d L O Wt) := by
  have hw := wid_lt L
  obtain ⟨f0, f1⟩ := off2 L
  have T1 : rounds1 L = if wid L < 4 then 28 else 27 := rfl
  have hT1 : 0 < rounds1 L := by rw [T1]; split <;> decide
  unfold cc0_ring_gather
  simp only [k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton]
  unfold k0_part54_skel k0_part55_skel k0_part56_skel k0_part57_skel k0_part58_skel k0_part59_skel k0_part60_skel k0_part61_skel k0_part62_skel k0_part63_skel k0_part64_skel k0_part65_skel k0_part66_skel
  simp only [Prog.lift, Prog.bind_op, Prog.bind_ret, Prog.pure_eq_ret, Prog.bind_assoc]
  unfold Bufs Cells Units
  iintro ⟨⟨Hr0, Hr1, Hpos, Hob, Ho1⟩, ⟨HI0, HI1, HO0, HO1, HR0, HR1, HR2, HR3, HR4, HR5, HR6, HR7, HR8⟩, Hi, ⟨⟨Hw0, Hw1⟩, Hp0, Hp1⟩, HF, HO, #HM⟩
  iapply (wp_seq (part53_spec d L O Wt harg2 harg3 harg4 harg5 harg6 arg7 harg7 arg8 harg8 arg9 harg9 arg10 harg10 arg11 harg11 arg12 arg13 v553_r0 v556_r1 v556_r2 v556_r3 v556_r4 v556_r5 v556_r6 v556_r7 v556_r8)) $$ [Hpos Hi HR0 HO]
  · isplitl [Hpos]; · iexact Hpos
    isplitl [Hi]; · iexact Hi
    isplitl [HR0]; · iexact HR0
    isplitl [HO]; · iexact HO
    iexact HM
  iintro %_ ⟨HP, Hi, HR0, HO⟩
  ihave Hw0 := (words_next d W (wid L) (k := 0) (T := 28) (by decide)) $$ Hw0
  icases Hw0 with ⟨Hw, Hw0⟩
  iapply (wp_startIn d L W arg7 (sem0 arg12) (u := wid L + 64 * 0) (by omega) f0) $$ [Hr0 HI0 Hw]
  · unfold InIdle
    isplitl [Hr0 HI0]
    · isplitl [Hr0] <;> iassumption
    iexact Hw
  iintro HI0
  ihave Hw1 := (words_next d W (wid L + 32) (k := 0) (T := rounds1 L) hT1) $$ Hw1
  icases Hw1 with ⟨Hw, Hw1⟩
  iapply (wp_startIn d L W arg8 (sem1 arg12) (u := wid L + 32 + 64 * 0) (by omega) f1) $$ [Hr1 HI1 Hw]
  · unfold InIdle
    isplitl [Hr1 HI1]
    · isplitl [Hr1] <;> iassumption
    iexact Hw
  iintro HI1
  iapply (Scf.wp_for_bind _ _ _ _ _ _ _ _ _ (fun t _ => Trips (F := F) d L O Wt W (X := X) g arg7 arg8 arg9 arg10 arg11 arg12 arg13 t)
    (fun t u => t2_trip d L O Wt W hX g harg2 sV harg3 iV harg4 harg5 fV harg6 arg7 harg7 arg8 harg8 arg9 harg9 arg10 harg10 arg11 harg11 arg12 arg13 v553_r0 v556_r1 v556_r2 v556_r3 v556_r4 v556_r5 v556_r6 v556_r7 v556_r8 _ _ _ _ _ t u)) $$ [Hob Ho1 HO0 HO1 HI0 HI1 Hw0 Hw1 Hp0 Hp1 HP HO]
  · unfold Trips
    rw [show min 0 (rounds1 L) = 0 by omega]
    isplitl [Hob HO0 HI0 Hw0 Hp0]
    · iapply (pair_start d L W X g arg7 arg10 (sem0 arg12) (sem0 arg13) (a := wid L) (T := 28) (by decide))
      isplitl [Hob HO0]
      · unfold OutIdle; isplitl [Hob] <;> iassumption
      isplitl [HI0]; · iexact HI0
      isplitl [Hw0]; · iexact Hw0
      iexact Hp0
    isplitl [Ho1 HO1 HI1 Hw1 Hp1]
    · iapply (pair_start d L W X g arg8 arg11 (sem1 arg12) (sem1 arg13) (a := wid L + 32) (T := rounds1 L) hT1)
      isplitl [Ho1 HO1]
      · unfold OutIdle; isplitl [Ho1] <;> iassumption
      isplitl [HI1]; · iexact HI1
      isplitl [Hw1]; · iexact Hw1
      iexact Hp1
    isplitl [HP]; · iexact HP
    isplitl [HO]; · iexact HO
    iexact HM
  iintro %_ HT
  rw [show Scf.trips (k0_t2_loop L).lb (k0_t2_loop L).ub (k0_t2_loop L).st = 28 from trips2 L]
  iapply (Scf.wp_for_bind _ _ _ _ _ _ _ _ _ (fun t _ => iprop(emp)) (fun t u => (Fin.cast (trips5 L) t).elim0)) $$ []
  · iempintro
  iintro %_ -
  unfold Trips
  rw [show min 28 (rounds1 L) = rounds1 L by rw [T1]; split <;> rfl]
  icases HT with ⟨H0, H1, HP, HO, -⟩
  ihave H0 := (pair_end d L W X g arg7 arg10 (sem0 arg12) (sem0 arg13) (a := wid L) (T := 28) (by decide)) $$ H0
  icases H0 with ⟨Hob, HI0, Hw0, Hp0⟩
  ihave H1 := (pair_end d L W X g arg8 arg11 (sem1 arg12) (sem1 arg13) (a := wid L + 32) (T := rounds1 L) hT1) $$ H1
  icases H1 with ⟨Ho1, HI1, Hw1, Hp1⟩
  iapply (wp_waitOut d L O Wt W X arg10 (sem0 arg13) harg10 (u := wid L + 64 * (28 - 1))) $$ [Hob HO]
  · isplitl [Hob]; · iexact Hob
    isplitl [HO]; · iexact HO
    iexact HM
  iintro ⟨Hob, Hq0, HO⟩
  iapply (wp_waitOut d L O Wt W X arg11 (sem1 arg13) harg11 (u := wid L + 32 + 64 * (rounds1 L - 1))) $$ [Ho1 HO]
  · isplitl [Ho1]; · iexact Ho1
    isplitl [HO]; · iexact HO
    iexact HM
  iintro ⟨Ho1, Hq1, HO⟩
  ihave Hp0 := (pieces_done d (gathG W X) (wid L) (k := 28) (by decide)) $$ [Hp0 Hq0]
  · isplitl [Hp0] <;> iassumption
  ihave Hp1 := (pieces_done d (gathG W X) (wid L + 32) (k := rounds1 L) hT1) $$ [Hp1 Hq1]
  · isplitl [Hp1] <;> iassumption
  unfold OutIdle InIdle
  icases Hob with ⟨Hob, HO0⟩
  icases Ho1 with ⟨Ho1, HO1⟩
  icases HI0 with ⟨Hr0, HI0⟩
  icases HI1 with ⟨Hr1, HI1⟩
  by_cases h13 : k0_cond13 L = 1#1
  · have h31 : wid L = 31 := (cond13 L).mp h13
    unfold Flags
    simp only [if_pos h31, dif_pos h13, k0_part50_eq_skeleton, k0_part51_eq_skeleton, k0_part52_eq_skeleton]
    unfold k0_part50_skel k0_part51_skel k0_part52_skel
    simp only [Prog.lift, Prog.bind_op, Prog.bind_ret, Prog.pure_eq_ret, Prog.bind_assoc]
    icases HF with ⟨Hs, Hf⟩
    unfold RowAny
    icases Hr0 with ⟨%fr, Hr0⟩
    iapply (wp_sync d L O Wt (src := sV) (dst := ring arg7) v556_r1.sem (fs := E) (fd := fr) (q := fullShare) (Sd := Finset.univ)
      (View.dmaCredit_pos (v := (ring arg7).view) (by decide)) (Finset.subset_univ _)) $$ [Hs Hr0 HR1 HO]
    · isplitl [Hs]; · iapply (Entails.of_eq (by rw [harg3.set_eq_univ])) $$ Hs
      isplitl [Hr0]; · iexact Hr0
      isplitl [HR1]; · iexact HR1
      isplitl [HO]; · iexact HO
      iexact HM
    iintro ⟨Hr0, Hs, HR1, HO⟩
    iapply (wp_tail d L arg7 (r := flagRing E) (flagRing_mod E)) $$ [Hr0]
    · unfold RowNew
      iexists _; isplitl; · iexact Hr0
      ipureintro
      exact row_write (row := arg7) fr _ fun x => flag_read (F := F) E x
    iintro Hr0
    iapply (Scf.wp_for_bind _ _ _ _ _ _ _ _ _ (fun t _ => iprop(PosAt (F := F) d L arg9 X 96 ∗ RowAt (F := F) d L arg7 (flagRing E) ∗ ObAt (F := F) d L arg10 (flagRing E) X t 0))
      (fun t u => t8_trip d L hX wV harg2 sV harg3 iV harg4 gV harg5 fV harg6 arg7 harg7 arg8 harg8 arg9 harg9 arg10 harg10 arg11 harg11 arg12 arg13 v553_r0 v556_r1 v556_r2 v556_r3 v556_r4 v556_r5 v556_r6 v556_r7 v556_r8 h13 t u)) $$ [HP Hr0 Hob]
    · isplitl [HP]; · iexact HP
      isplitl [Hr0]; · iexact Hr0
      iapply (obAny_start d L X arg10 (flagRing E)) $$ Hob
    iintro %_ ⟨HP, Hr0, Hob⟩
    rw [show Scf.trips k0_t8_loop.lb k0_t8_loop.ub k0_t8_loop.st = 96 from trips_t8]
    ihave Hf := (show (fLoc d ↦[Finset.univ]{fullShare} (f₀ : Buf (Elt F) (fLoc d))) ⊢ FlagsAt (F := F) d E X f₀ 0 from flags_start d E f₀) $$ Hf
    iapply (wp_flagRow d L O Wt (E := E) (X := X) (f₀ := f₀) arg10 v556_r2.sem 0 (by decide) rfl) $$ [Hob Hf HR2 HO]
    · isplitl [Hob]; · iexact Hob
      isplitl [Hf]; · iexact Hf
      isplitl [HR2]; · iexact HR2
      isplitl [HO]; · iexact HO
      iexact HM
    iintro ⟨Hob, Hf, HR2, HO⟩
    iapply (wp_flagRow d L O Wt (E := E) (X := X) (f₀ := f₀) arg10 v556_r3.sem 1 (by decide) rfl) $$ [Hob Hf HR3 HO]
    · isplitl [Hob]; · iexact Hob
      isplitl [Hf]; · iexact Hf
      isplitl [HR3]; · iexact HR3
      isplitl [HO]; · iexact HO
      iexact HM
    iintro ⟨Hob, Hf, HR3, HO⟩
    iapply (wp_flagRow d L O Wt (E := E) (X := X) (f₀ := f₀) arg10 v556_r4.sem 2 (by decide) rfl) $$ [Hob Hf HR4 HO]
    · isplitl [Hob]; · iexact Hob
      isplitl [Hf]; · iexact Hf
      isplitl [HR4]; · iexact HR4
      isplitl [HO]; · iexact HO
      iexact HM
    iintro ⟨Hob, Hf, HR4, HO⟩
    iapply (wp_flagRow d L O Wt (E := E) (X := X) (f₀ := f₀) arg10 v556_r5.sem 3 (by decide) rfl) $$ [Hob Hf HR5 HO]
    · isplitl [Hob]; · iexact Hob
      isplitl [Hf]; · iexact Hf
      isplitl [HR5]; · iexact HR5
      isplitl [HO]; · iexact HO
      iexact HM
    iintro ⟨Hob, Hf, HR5, HO⟩
    iapply (wp_flagRow d L O Wt (E := E) (X := X) (f₀ := f₀) arg10 v556_r6.sem 4 (by decide) rfl) $$ [Hob Hf HR6 HO]
    · isplitl [Hob]; · iexact Hob
      isplitl [Hf]; · iexact Hf
      isplitl [HR6]; · iexact HR6
      isplitl [HO]; · iexact HO
      iexact HM
    iintro ⟨Hob, Hf, HR6, HO⟩
    iapply (wp_flagRow d L O Wt (E := E) (X := X) (f₀ := f₀) arg10 v556_r7.sem 5 (by decide) rfl) $$ [Hob Hf HR7 HO]
    · isplitl [Hob]; · iexact Hob
      isplitl [Hf]; · iexact Hf
      isplitl [HR7]; · iexact HR7
      isplitl [HO]; · iexact HO
      iexact HM
    iintro ⟨Hob, Hf, HR7, HO⟩
    iapply (wp_flagRow d L O Wt (E := E) (X := X) (f₀ := f₀) arg10 v556_r8.sem 6 (by decide) rfl) $$ [Hob Hf HR8 HO]
    · isplitl [Hob]; · iexact Hob
      isplitl [Hf]; · iexact Hf
      isplitl [HR8]; · iexact HR8
      isplitl [HO]; · iexact HO
      iexact HM
    iintro ⟨Hob, Hf, HR8, HO⟩
    sl_step
    isplitl [Hr0 Hr1 HP Hob Ho1]
    · isplitl [Hr0]
      · ihave Hr0 := (rowAt_any d L arg7 (flagRing E)) $$ Hr0
        unfold RowAny; iexact Hr0
      isplitl [Hr1]; · iexact Hr1
      isplitl [HP]; · iapply (posAt_any d L arg9 X) $$ HP
      isplitl [Hob]; · iapply (obAt_any d L X arg10 (flagRing E)) $$ Hob
      iexact Ho1
    isplitl [HI0 HI1 HO0 HO1 HR0 HR1 HR2 HR3 HR4 HR5 HR6 HR7 HR8]
    · isplitl [HI0]; · iexact HI0
      isplitl [HI1]; · iexact HI1
      isplitl [HO0]; · iexact HO0
      isplitl [HO1]; · iexact HO1
      isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      iexact HR8
    isplitl [Hi]; · iexact Hi
    isplitl [Hw0 Hw1 Hp0 Hp1]
    · isplitl [Hw0 Hw1]
      · isplitl [Hw0] <;> iassumption
      isplitl [Hp0] <;> iassumption
    isplitl [Hs Hf]
    · isplitl [Hs]; · iapply (Entails.of_eq (by rw [harg3.set_eq_univ])) $$ Hs
      iapply (flags_done d E f₀) $$ Hf
    iexact HO
  · have h31 : ¬ wid L = 31 := fun h => h13 ((cond13 L).mpr h)
    unfold Flags
    simp only [if_neg h31, dif_neg h13]
    sl_step
    isplitl [Hr0 Hr1 HP Hob Ho1]
    · isplitl [Hr0]; · iexact Hr0
      isplitl [Hr1]; · iexact Hr1
      isplitl [HP]; · iapply (posAt_any d L arg9 X) $$ HP
      isplitl [Hob]; · iexact Hob
      iexact Ho1
    isplitl [HI0 HI1 HO0 HO1 HR0 HR1 HR2 HR3 HR4 HR5 HR6 HR7 HR8]
    · isplitl [HI0]; · iexact HI0
      isplitl [HI1]; · iexact HI1
      isplitl [HO0]; · iexact HO0
      isplitl [HO1]; · iexact HO1
      isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      iexact HR8
    isplitl [Hi]; · iexact Hi
    isplitl [Hw0 Hw1 Hp0 Hp1]
    · isplitl [Hw0 Hw1]
      · isplitl [Hw0] <;> iassumption
      isplitl [Hp0] <;> iassumption
    isplitl [HF]; · iexact HF
    iexact HO

end Tile

end Cert.Proof.Ring

end
-- ==== Proof.RingDeal.lean ====
/-
  The ring gather's arrays dealt to its thirty-two tasks, and put together again.
-/
module

public import proofs.«01_k».proof.Proof.RingTask

@[expose] public section

noncomputable section

namespace Cert.Proof.Ring

open Cert.Gather Cert.Gather.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type}

local notation "𝕄" => MT nD τ sig (HIx 1) (Elt F) ℕ UU ℕ

/-! ## Units by key -/

section
variable {ℓ : Loc nD τ sig} (key : Idx ℓ → ℕ)

/-- The elements of unit `u`. -/
def ofUnit (u : ℕ) : Finset (Idx ℓ) := Finset.univ.filter fun i => key i = u
/-- The elements of the units congruent to `r` modulo `n`. -/
def ofMod (n r : ℕ) : Finset (Idx ℓ) := Finset.univ.filter fun i => key i % n = r

/-- An array's elements by disjoint classes. -/
theorem pts_classes {I : Type} (s : Finset I) (A : Finset (Idx ℓ)) (C : I → Finset (Idx ℓ)) (hA : ∀ x, x ∈ A ↔ ∃ i ∈ s, x ∈ C i)
    (hC : ∀ i ∈ s, ∀ j ∈ s, ∀ x, x ∈ C i → x ∈ C j → i = j) (f : Buf (Elt F) ℓ) :
    (ℓ ↦[A]{fullShare} f : sProp 𝕄) = bigSep s fun i => ℓ ↦[C i]{fullShare} f := by
  rw [← pointsTo_biUnion s C fun i hi j hj h => Finset.disjoint_left.mpr fun x hx hx' => h (hC i hi j hj x hx hx')]
  congr 1
  ext x; rw [hA, Finset.mem_biUnion]

variable (hk : ∀ i, key i < 1764)
include hk

theorem pts_rounds (a T : ℕ) (ha : a < 64) (hT : ∀ u < 1764, u % 64 = a ↔ ∃ t < T, u = a + 64 * t) (f : Buf (Elt F) ℓ) :
    (ℓ ↦[ofMod key 64 a]{fullShare} f : sProp 𝕄) = bigSep (Finset.Ico 0 T) fun t => ℓ ↦[ofUnit key (a + 64 * t)]{fullShare} f := by
  refine pts_classes (Finset.Ico 0 T) _ _ (fun x => ?_) (fun i _ j _ x hi hj => ?_) f
  · simp only [ofMod, ofUnit, Finset.mem_filter, Finset.mem_univ, _root_.true_and, Finset.mem_Ico, Nat.zero_le]
    exact hT _ (hk x)
  · simp only [ofUnit, Finset.mem_filter, Finset.mem_univ, _root_.true_and] at hi hj
    omega

theorem rounds0_iff (a : ℕ) (ha : a < 32) : ∀ u < 1764, u % 64 = a ↔ ∃ t < 28, u = a + 64 * t := by
  intro u hu
  constructor
  · intro h; exact ⟨u / 64, by omega, by omega⟩
  · rintro ⟨t, ht, rfl⟩; omega

theorem rounds1_iff (L : grid0.Coords) : ∀ u < 1764, u % 64 = wid L + 32 ↔ ∃ t < rounds1 L, u = wid L + 32 + 64 * t := by
  intro u hu
  have hw := wid_lt L
  have hr : rounds1 L = if wid L < 4 then 28 else 27 := rfl
  constructor
  · intro h
    refine ⟨u / 64, ?_, by omega⟩
    rw [hr]; split <;> omega
  · rintro ⟨t, ht, rfl⟩; omega

/-- One task's elements, its units in their rounds. -/
theorem pts_task (L : grid0.Coords) (f : Buf (Elt F) ℓ) :
    (ℓ ↦[ofMod key 32 (wid L)]{fullShare} f : sProp 𝕄)
      = iprop((bigSep (Finset.Ico 0 28) fun t => ℓ ↦[ofUnit key (wid L + 64 * t)]{fullShare} f)
          ∗ bigSep (Finset.Ico 0 (rounds1 L)) fun t => ℓ ↦[ofUnit key (wid L + 32 + 64 * t)]{fullShare} f) := by
  have hw := wid_lt L
  rw [← pts_rounds key hk (wid L) 28 (by omega) (rounds0_iff key hk _ hw), ← pts_rounds key hk (wid L + 32) _ (by omega) (rounds1_iff key hk L)]
  rw [show ofMod key 32 (wid L) = ofMod key 64 (wid L) ∪ ofMod key 64 (wid L + 32) from ?_]
  · refine Entails.antisymm (pointsTo_union ?_).1 (pointsTo_union ?_).2 <;>
    · refine Finset.disjoint_left.mpr fun x hx hx' => ?_
      simp only [ofMod, Finset.mem_filter, Finset.mem_univ, _root_.true_and] at hx hx'
      omega
  · ext x
    simp only [ofMod, Finset.mem_filter, Finset.mem_univ, _root_.true_and, Finset.mem_union]
    omega

omit hk in
/-- The whole array, by tasks. -/
theorem pts_tasks (f : Buf (Elt F) ℓ) :
    (ℓ ↦{fullShare} f : sProp 𝕄)
      = bigSep Finset.univ fun c : Fin 2 => bigSep Finset.univ fun s : Fin 16 => ℓ ↦[ofMod key 32 (wid (co c s))]{fullShare} f := by
  refine (pts_classes Finset.univ Finset.univ (fun c : Fin 2 => ofMod key 2 c.val) (fun x => ?_) (fun i _ j _ x hi hj => ?_) f).trans (bigSep_congr fun c _ => ?_)
  · simp only [ofMod, Finset.mem_filter, Finset.mem_univ, _root_.true_and, true_iff]
    exact ⟨⟨key x % 2, by omega⟩, rfl⟩
  · simp only [ofMod, Finset.mem_filter, Finset.mem_univ, _root_.true_and] at hi hj
    exact Fin.ext (hi.symm.trans hj)
  · refine pts_classes Finset.univ _ _ (fun x => ?_) (fun i _ j _ x hi hj => ?_) f
    · simp only [ofMod, Finset.mem_filter, Finset.mem_univ, _root_.true_and]
      have hc := c.isLt
      constructor
      · intro h
        refine ⟨⟨key x % 32 / 2, by omega⟩, ?_⟩
        show key x % 32 = 2 * (key x % 32 / 2) + c.val
        omega
      · rintro ⟨s, h⟩
        have h : key x % 32 = 2 * s.val + c.val := h
        omega
    · simp only [ofMod, Finset.mem_filter, Finset.mem_univ, _root_.true_and] at hi hj
      have hi : key x % 32 = 2 * i.val + c.val := hi
      have hj : key x % 32 = 2 * j.val + c.val := hj
      exact Fin.ext (by omega)
end

/-! ## The words and the gathered words -/

section
variable (d : Dev nD)

abbrev wKey (i : Idx (wLoc d)) : ℕ := let i : S84x21x45000.Idx := i; 21 * (i 0).val + (i 1).val
abbrev gKey (i : Idx (gLoc d)) : ℕ := let i : S21x7x84x1536.Idx := i; unitOf (i 0).val (i 2).val

theorem wKey_lt (i : Idx (wLoc d)) : wKey d i < 1764 := by
  have h0 : ((i : S84x21x45000.Idx) 0).val < 84 := ((i : S84x21x45000.Idx) 0).isLt
  have h1 : ((i : S84x21x45000.Idx) 1).val < 21 := ((i : S84x21x45000.Idx) 1).isLt
  show 21 * ((i : S84x21x45000.Idx) 0).val + ((i : S84x21x45000.Idx) 1).val < 1764
  omega
theorem gKey_lt (i : Idx (gLoc d)) : gKey d i < 1764 := by
  have h0 : ((i : S21x7x84x1536.Idx) 0).val < 21 := ((i : S21x7x84x1536.Idx) 0).isLt
  have h2 : ((i : S21x7x84x1536.Idx) 2).val < 84 := ((i : S21x7x84x1536.Idx) 2).isLt
  show unitOf ((i : S21x7x84x1536.Idx) 0).val ((i : S21x7x84x1536.Idx) 2).val < 1764
  unfold unitOf
  omega
theorem ofUnit_w (u : ℕ) : ofUnit (wKey d) u = wset u := by
  ext i
  have h1 : ((i : S84x21x45000.Idx) 1).val < 21 := ((i : S84x21x45000.Idx) 1).isLt
  unfold ofUnit wset
  rw [Finset.mem_filter, Finset.mem_filter]
  refine and_congr_right fun _ => ?_
  show 21 * ((i : S84x21x45000.Idx) 0).val + ((i : S84x21x45000.Idx) 1).val = u ↔ _
  omega
theorem pts_pieces (u : ℕ) (h : S21x7x84x1536.Idx → BitVec 32) :
    (gLoc d ↦[ofUnit (gKey d) u]{fullShare} (h : Buf (Elt F) (gLoc d)) : sProp 𝕄) = Pieces (F := F) d h u := by
  refine pts_classes Finset.univ _ _ (fun x => ?_) (fun i _ j _ x hi hj => ?_) _
  · have h0 : ((x : S21x7x84x1536.Idx) 0).val < 21 := ((x : S21x7x84x1536.Idx) 0).isLt
    have h2 : ((x : S21x7x84x1536.Idx) 2).val < 84 := ((x : S21x7x84x1536.Idx) 2).isLt
    unfold ofUnit piece
    simp only [Finset.mem_filter, Finset.mem_univ, _root_.true_and]
    show unitOf ((x : S21x7x84x1536.Idx) 0).val ((x : S21x7x84x1536.Idx) 2).val = u ↔ _
    unfold unitOf
    generalize ((x : S21x7x84x1536.Idx) 0).val = a at h0 ⊢
    generalize ((x : S21x7x84x1536.Idx) 2).val = c at h2 ⊢
    constructor
    · intro e
      have hq : u / 21 = 4 * a + c % 4 := by omega
      have hm : u % 21 = c / 4 := by omega
      exact ⟨⟨((x : S21x7x84x1536.Idx) 1).val, ((x : S21x7x84x1536.Idx) 1).isLt⟩, by omega, rfl, by omega⟩
    · rintro ⟨j, e0, -, e2⟩
      omega
  · unfold piece at hi hj
    exact Fin.ext ((Finset.mem_filter.mp hi).2.2.1.symm.trans (Finset.mem_filter.mp hj).2.2.1)

theorem words_dealt (W : S84x21x45000.Idx → BitVec 32) :
    (wLoc d ↦{fullShare} (W : Buf (Elt F) (wLoc d)) : sProp 𝕄)
      = bigSep Finset.univ fun c : Fin 2 => bigSep Finset.univ fun s : Fin 16 =>
          iprop(WordsOf (F := F) d W (wid (co c s)) 0 28 ∗ WordsOf (F := F) d W (wid (co c s) + 32) 0 (rounds1 (co c s))) := by
  rw [pts_tasks (wKey d)]
  refine bigSep_congr fun c _ => bigSep_congr fun s _ => ?_
  rw [pts_task (wKey d) (wKey_lt d)]
  unfold WordsOf Words
  simp only [ofUnit_w]
theorem pieces_dealt (h : S21x7x84x1536.Idx → BitVec 32) :
    (gLoc d ↦{fullShare} (h : Buf (Elt F) (gLoc d)) : sProp 𝕄)
      = bigSep Finset.univ fun c : Fin 2 => bigSep Finset.univ fun s : Fin 16 =>
          iprop(PiecesOf (F := F) d h (wid (co c s)) 0 28 ∗ PiecesOf (F := F) d h (wid (co c s) + 32) 0 (rounds1 (co c s))) := by
  rw [pts_tasks (gKey d)]
  refine bigSep_congr fun c _ => bigSep_congr fun s _ => ?_
  rw [pts_task (gKey d) (gKey_lt d)]
  unfold PiecesOf
  simp only [pts_pieces]

/-! ## The flags and the indices -/

theorem bigSep_nothing {I : Type} (s : Finset I) : (bigSep s fun _ => iprop(emp)) = (iprop(emp) : sProp 𝕄) := bigSep_emp_const s
theorem bigSep_one {I : Type} [DecidableEq I] {s : Finset I} {a : I} (ha : a ∈ s) (Φ : I → sProp 𝕄) (h : ∀ b ∈ s, b ≠ a → Φ b = iprop(emp)) :
    bigSep s Φ = Φ a := by
  rw [SparseCore.bigSep_erase' ha, bigSep_congr (fun b hb => h b (Finset.mem_of_mem_erase hb) (Finset.ne_of_mem_erase hb)), bigSep_nothing]
  exact Entails.antisymm sep_emp.1 sep_emp.2

theorem flags_dealt (E : S45000.Idx → BitVec 32) (f : S8x1536.Idx → BitVec 32) :
    (iprop((sLoc d ↦[Finset.univ]{fullShare} (E : Buf (Elt F) (sLoc d))) ∗ (fLoc d ↦[Finset.univ]{fullShare} (f : Buf (Elt F) (fLoc d)))) : sProp 𝕄)
      = bigSep Finset.univ fun c : Fin 2 => bigSep Finset.univ fun s : Fin 16 => Flags (F := F) d (co c s) E f := by
  have hw (c : Fin 2) (s : Fin 16) : wid (co c s) = 2 * s.val + c.val := rfl
  rw [bigSep_one (a := (1 : Fin 2)) (Finset.mem_univ _), bigSep_one (a := (15 : Fin 16)) (Finset.mem_univ _)]
  · unfold Flags; rw [if_pos (by rw [hw]; rfl)]
  · intro s _ hs
    have : ¬ s.val = 15 := fun h => hs (Fin.ext h)
    unfold Flags; rw [if_neg (by rw [hw]; show ¬ 2 * s.val + 1 = 31; omega)]
  · intro c _ hc
    have : ¬ c.val = 1 := fun h => hc (Fin.ext h)
    refine (bigSep_congr fun s _ => ?_).trans (bigSep_nothing _)
    unfold Flags; rw [if_neg (by rw [hw]; have := s.isLt; have := c.isLt; omega)]

/-- A task's share of the indices. -/
def shareOf (c : Fin 2) (s : Fin 16) : PosShare TreeShare := dealOf (dealOf fullShare Finset.univ c) Finset.univ s
theorem indices_dealt (X : S1536.Idx → BitVec 32) :
    (iLoc d ↦{fullShare} (X : Buf (Elt F) (iLoc d)) : sProp 𝕄)
      = bigSep Finset.univ fun c : Fin 2 => bigSep Finset.univ fun s : Fin 16 => iLoc d ↦[Finset.univ]{shareOf c s} (X : Buf (Elt F) (iLoc d)) := by
  rw [pointsTo_deal (Finset.univ : Finset (Fin 2)) Finset.univ_nonempty]
  refine bigSep_congr fun c _ => ?_
  rw [pointsTo_deal (Finset.univ : Finset (Fin 16)) Finset.univ_nonempty]
  rfl

/-- What one task is dealt, and what it gives back. -/
def Dealt (c : Fin 2) (s : Fin 16) (W : S84x21x45000.Idx → BitVec 32) (E : S45000.Idx → BitVec 32) (X : S1536.Idx → BitVec 32)
    (h : S21x7x84x1536.Idx → BitVec 32) (f : S8x1536.Idx → BitVec 32) : sProp 𝕄 :=
  iprop((iLoc d ↦[Finset.univ]{shareOf c s} (X : Buf (Elt F) (iLoc d))) ∗ Units (F := F) d (co c s) W h ∗ Flags (F := F) d (co c s) E f)

theorem all_dealt (W : S84x21x45000.Idx → BitVec 32) (E : S45000.Idx → BitVec 32) (X : S1536.Idx → BitVec 32)
    (h : S21x7x84x1536.Idx → BitVec 32) (f : S8x1536.Idx → BitVec 32) :
    (bigSep Finset.univ fun c : Fin 2 => bigSep Finset.univ fun s : Fin 16 => Dealt (F := F) d c s W E X h f)
      = iprop((iLoc d ↦{fullShare} (X : Buf (Elt F) (iLoc d))) ∗ ((wLoc d ↦{fullShare} (W : Buf (Elt F) (wLoc d))) ∗ (gLoc d ↦{fullShare} (h : Buf (Elt F) (gLoc d))))
          ∗ ((sLoc d ↦{fullShare} (E : Buf (Elt F) (sLoc d))) ∗ (fLoc d ↦{fullShare} (f : Buf (Elt F) (fLoc d))))) := by
  rw [indices_dealt, words_dealt, pieces_dealt, flags_dealt]
  unfold Dealt Units
  simp only [bigSep_sep']

instance (L : grid0.Coords) (E : S45000.Idx → BitVec 32) (f : S8x1536.Idx → BitVec 32) : BI.Storable (upEmb : UEmb _ 𝕄) (Flags (F := F) d L E f) := by
  unfold Flags; split <;> infer_instance
instance (L : grid0.Coords) (W : S84x21x45000.Idx → BitVec 32) (h : S21x7x84x1536.Idx → BitVec 32) : BI.Storable (upEmb : UEmb _ 𝕄) (Units (F := F) d L W h) := by
  unfold Units WordsOf PiecesOf Words Pieces; infer_instance
instance (c : Fin 2) (s : Fin 16) (W : S84x21x45000.Idx → BitVec 32) (E : S45000.Idx → BitVec 32) (X : S1536.Idx → BitVec 32)
    (h : S21x7x84x1536.Idx → BitVec 32) (f : S8x1536.Idx → BitVec 32) : BI.Storable (upEmb : UEmb _ 𝕄) (Dealt (F := F) d c s W E X h f) := by
  unfold Dealt; infer_instance
end

end Cert.Proof.Ring

end
-- ==== Proof.RingLaunch.lean ====
/-
  The ring gather's launch: its call from the TensorCore, and what the program leaves.
-/
module

public import proofs.«01_k».proof.Proof.RingDeal

@[expose] public section

noncomputable section

namespace Cert.Proof.Ring

open Cert.Gather Cert.Gather.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type}

local notation "𝕄" => MT nD τ sig (HIx 1) (Elt F) ℕ UU ℕ

variable [FloatOps F]

/-! ## A task's own semaphores and buffers -/

section
variable (d : Dev nD) (L : grid0.Coords)

/-- The thread's thirteen DMA cells, and its five buffers. -/
def cell (k : Fin 13) : GSem nD τ sig := (VT d L, .dma k)
abbrev bufs : List (Ref sig .scVector) := [cc0_scratch0, cc0_scratch1, cc0_scratch2, cc0_scratch3, cc0_scratch4]
abbrev bufRef (b : Ref sig .scVector) : DevRef τ sig := (Proc.scVector (cV L) (jV L)).devRef b

omit [FloatOps F] in
theorem cell_own (k : Fin 13) : cell d L k ∈ ownCells (VT d L) :=
  mem_ownCells.mpr ⟨rfl, by show (SemLoc.dma k : SemLoc sig).isScoped .scVector = true; revert k; decide⟩

omit [FloatOps F] in
theorem cells_own : Finset.univ.image (cell d L) ⊆ ownCells (VT d L) := fun _ h => by
  obtain ⟨k, -, rfl⟩ := Finset.mem_image.mp h
  exact cell_own d L k

omit [FloatOps F] in
theorem thirteen {M : Type} [URA M] (D : Fin 13 → sProp M) :
    bigSep Finset.univ D = iprop(D 0 ∗ D 1 ∗ D 2 ∗ D 3 ∗ D 4 ∗ D 5 ∗ D 6 ∗ D 7 ∗ D 8 ∗ D 9 ∗ D 10 ∗ D 11 ∗ D 12) := by
  rw [show (Finset.univ : Finset (Fin 13)) = insert 0 (insert 1 (insert 2 (insert 3 (insert 4 (insert 5 (insert 6 (insert 7 (insert 8 (insert 9 (insert 10 (insert 11 {12}))))))))))) by decide]
  repeat rw [bigSep_insert (by decide)]
  rw [bigSep_singleton]; rfl

omit [FloatOps F] in
theorem ownSems0_V :
    (ownSems0 (VT d L) : sProp 𝕄)
      = iprop(Cells (F := F) d L cc0_scratch5 cc0_scratch6 cc0_scoped0 cc0_scoped1 cc0_scoped2 cc0_scoped3 cc0_scoped4 cc0_scoped5 cc0_scoped6 cc0_scoped7 cc0_scoped8
          ∗ bigSep (ownCells (VT d L) \ Finset.univ.image (cell d L)) fun g => semVal g 0) := by
  unfold SparseCore.Cfg.ownSems0
  rw [SparseCore.bigSep_sdiff_split' (cells_own d L), SparseCore.bigSep_image_of_injOn (f := cell d L) (fun a _ b _ h => SemLoc.dma.inj (Prod.mk.inj h).2), thirteen]
  rfl

omit [FloatOps F] in
theorem ownBufs_V :
    (ownBufs (VT d L) : sProp 𝕄)
      = iprop(((∃ f, (VT d L).loc cc0_scratch0 ↦{fullShare} f) ∗ (∃ f, (VT d L).loc cc0_scratch1 ↦{fullShare} f)
          ∗ (∃ f, (VT d L).loc cc0_scratch2 ↦{fullShare} f) ∗ (∃ f, (VT d L).loc cc0_scratch3 ↦{fullShare} f) ∗ (∃ f, (VT d L).loc cc0_scratch4 ↦{fullShare} f))
          ∗ bigSep (ownRefs (τ := τ) (.scVector (cV L) (jV L)) \ {bufRef L cc0_scratch0, bufRef L cc0_scratch1, bufRef L cc0_scratch2, bufRef L cc0_scratch3, bufRef L cc0_scratch4})
              fun b => iprop(∃ f, ((d, b) : Loc nD τ sig) ↦{fullShare} f)) := by
  have ne {a b : Ref sig .scVector} (h : a ≠ b) : bufRef L a ≠ bufRef L b := fun e => h (Proc.devRef_injective _ e)
  unfold SparseCore.Cfg.ownBufs
  refine (SparseCore.bigSep_sdiff_split' (t := {bufRef L cc0_scratch0, bufRef L cc0_scratch1, bufRef L cc0_scratch2, bufRef L cc0_scratch3, bufRef L cc0_scratch4}) fun b hb => ?_).trans ?_
  · simp only [Finset.mem_insert, Finset.mem_singleton] at hb
    rcases hb with rfl | rfl | rfl | rfl | rfl <;> exact SparseCore.Cfg.mem_ownRefs_of_owner (p := Proc.scVector (cV L) (jV L)) rfl
  · rw [SparseCore.bigSep_insert' (by
        simp only [Finset.mem_insert, Finset.mem_singleton, not_or]
        exact ⟨ne (by decide), ne (by decide), ne (by decide), ne (by decide)⟩),
      SparseCore.bigSep_insert' (by
        simp only [Finset.mem_insert, Finset.mem_singleton, not_or]
        exact ⟨ne (by decide), ne (by decide), ne (by decide)⟩),
      SparseCore.bigSep_insert' (by
        simp only [Finset.mem_insert, Finset.mem_singleton, not_or]
        exact ⟨ne (by decide), ne (by decide)⟩),
      SparseCore.bigSep_insert' (by
        simp only [Finset.mem_singleton]
        exact ne (by decide)), bigSep_singleton]

omit [FloatOps F] in
theorem bufs_eq :
    (iprop((∃ f, (VT d L).loc cc0_scratch0 ↦{fullShare} f) ∗ (∃ f, (VT d L).loc cc0_scratch1 ↦{fullShare} f)
      ∗ (∃ f, (VT d L).loc cc0_scratch2 ↦{fullShare} f) ∗ (∃ f, (VT d L).loc cc0_scratch3 ↦{fullShare} f) ∗ (∃ f, (VT d L).loc cc0_scratch4 ↦{fullShare} f)) : sProp 𝕄)
      = Bufs (F := F) d L rowV0 rowV1 posV obV0 obV1 := rfl

variable {W : S84x21x45000.Idx → BitVec 32} {E : S45000.Idx → BitVec 32} {X : S1536.Idx → BitVec 32} (hX : InRing X)
  (g : S21x7x84x1536.Idx → BitVec 32) (f : S8x1536.Idx → BitVec 32) {q : PosShare TreeShare}

include hX in
/-- A task of the call, from what it is dealt to what it gives back. -/
theorem tile_body (hF : (K (F := F)).Facts) (O : CellTallies nD τ sig (HIx 1)) (Wt : Waits sig (HIx 1)) (hO : ∀ g, O g none = 0) :
    iprop(levAts (K (F := F)).L (K (F := F)).lev ∗ emp
        ∗ ((iLoc d ↦[Finset.univ]{q} (X : Buf (Elt F) (iLoc d))) ∗ Units (F := F) d L W g ∗ Flags (F := F) d L E f)
        ∗ scopedBufs (VT d L) ∗ scopedSems0 (VT d L) ∗ owes (VT d L) O Wt)
      ⊢ wp frame (wpE (defs₀ (F := F)) 𝒱₀ (VT d L) none) Set.univ
          (cc0_ring_gather L wV (Memref.isWhole_whole _) sV (Memref.isWhole_whole _) iV (Memref.isWhole_whole _) gV (Memref.isWhole_whole _) fV (Memref.isWhole_whole _)
            rowV0 (Memref.isWhole_whole _) rowV1 (Memref.isWhole_whole _) posV (Memref.isWhole_whole _) obV0 (Memref.isWhole_whole _) obV1 (Memref.isWhole_whole _)
            cc0_scratch5 cc0_scratch6 cc0_scoped0 cc0_scoped1 cc0_scoped2 cc0_scoped3 cc0_scoped4 cc0_scoped5 cc0_scoped6 cc0_scoped7 cc0_scoped8)
          fun _ => iprop(((iLoc d ↦[Finset.univ]{q} (X : Buf (Elt F) (iLoc d))) ∗ Units (F := F) d L W (gathG W X) ∗ Flags (F := F) d L E (gathF E X f))
            ∗ scopedBufs (VT d L) ∗ scopedSems0 (VT d L)
            ∗ ∃ W', ⌜∀ p ∈ W', p ∈ Wt ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  iintro ⟨#Hlv, -, ⟨Hi, HU, HF⟩, ⟨Hb, Hbufs⟩, ⟨Hc, Hsems⟩, HO⟩
  ihave #Hmw := (show levAts (K (F := F)).L (K (F := F)).lev ⊢ Transfers.MayWaits (VT d L) (default : HIx 1) O from
    (K (F := F)).mayWaits_none (thr := VT d L) hO) $$ Hlv
  iapply (wp_wand _ _ _) $$ [Hi HU HF Hb Hc HO]
  · iapply (task_spec d L O Wt W hX g (Memref.isWhole_whole _) (Memref.isWhole_whole _) (Memref.isWhole_whole _) (Memref.isWhole_whole _) (Memref.isWhole_whole _)
      rowV0 (Memref.isWhole_whole _) rowV1 (Memref.isWhole_whole _) posV (Memref.isWhole_whole _) obV0 (Memref.isWhole_whole _) obV1 (Memref.isWhole_whole _)
      cc0_scratch5 cc0_scratch6 cc0_scoped0 cc0_scoped1 cc0_scoped2 cc0_scoped3 cc0_scoped4 cc0_scoped5 cc0_scoped6 cc0_scoped7 cc0_scoped8 (q := q) E f)
    isplitl [Hb]; · iapply (Entails.of_eq (bufs_eq (F := F) d L)) $$ Hb
    isplitl [Hc]; · iexact Hc
    isplitl [Hi]; · iexact Hi
    isplitl [HU]; · iexact HU
    isplitl [HF]; · iexact HF
    isplitl [HO]
    · unfold OwesAt
      iexists Wt; isplitr
      · ipureintro; exact fun p hp => .inl hp
      · iexact HO
    · iexact Hmw
  iintro %_ ⟨Hb, Hc, Hi, HU, HF, HO⟩
  isplitl [Hi HU HF]
  · isplitl [Hi]; · iexact Hi
    isplitl [HU] <;> iassumption
  isplitl [Hb Hbufs]
  · isplitl [Hb]; · iapply (Entails.of_eq (bufs_eq (F := F) d L).symm) $$ Hb
    iexact Hbufs
  isplitl [Hc Hsems]
  · isplitl [Hc] <;> iassumption
  unfold OwesAt
  icases HO with ⟨%W', %hW', HO⟩
  iexists W'; isplitr
  · ipureintro; exact fun p hp => (hW' p hp).imp id .inl
  · iexact HO

end

/-! ## What the handshakes carry -/

variable (m : (ℓ : Loc nD τ sig) → Buf (Elt F) ℓ) (ρ : Dev nD → PrngReg)

def Go (d : Dev nD) (c : Fin 2) (s : Fin 16) : sProp 𝕄 :=
  Dealt (F := F) d c s (m (wLoc d)) (m (sLoc d)) (m (iLoc d)) (m (gLoc d)) (m (fLoc d))
def Td (d : Dev nD) (c : Fin 2) (s : Fin 16) : sProp 𝕄 :=
  Dealt (F := F) d c s (m (wLoc d)) (m (sLoc d)) (m (iLoc d)) (gathG (m (wLoc d)) (m (iLoc d))) (gathF (m (sLoc d)) (m (iLoc d)) (m (fLoc d)))
instance (d : Dev nD) (c : Fin 2) (s : Fin 16) : BI.Storable (upEmb : UEmb _ 𝕄) (Go m d c s) := by unfold Go; infer_instance
instance (d : Dev nD) (c : Fin 2) (s : Fin 16) : BI.Storable (upEmb : UEmb _ 𝕄) (Td m d c s) := by unfold Td; infer_instance

/-- Core and subcore by number. -/
def core (n : ℕ) : Fin 2 := ⟨n % 2, Nat.mod_lt _ (by decide)⟩
def sub (n : ℕ) : Fin 16 := ⟨n % 16, Nat.mod_lt _ (by decide)⟩
omit [FloatOps F] in
theorem core_val (c : Fin 2) : core c.val = c := Fin.ext (Nat.mod_eq_of_lt c.isLt)
omit [FloatOps F] in
theorem sub_val (s : Fin 16) : sub s.val = s := Fin.ext (Nat.mod_eq_of_lt s.isLt)

def P : (K (F := F)).Pay (nD := nD) (Val := Elt F) (Name := ℕ) (U := UU) where
  st := fun _ d c => bigSep Finset.univ fun s : Fin 16 => Go m d (core c.val) s
  dn := fun _ d c => bigSep Finset.univ fun s : Fin 16 => Td m d (core c.val) s
  go := fun _ d c i => Go m d (core c.val) (sub i.val)
  td := fun _ d c i => Td m d (core c.val) (sub i.val)
  x := fun _ _ => iprop(emp)

instance P_storable : (P (F := F) m).IsStorable where
  st _ d c := (inferInstance : BI.Storable (upEmb : UEmb _ 𝕄) (bigSep Finset.univ fun s : Fin 16 => Go m d (core c.val) s))
  dn _ d c := (inferInstance : BI.Storable (upEmb : UEmb _ 𝕄) (bigSep Finset.univ fun s : Fin 16 => Td m d (core c.val) s))
  go _ d c i := (inferInstance : BI.Storable (upEmb : UEmb _ 𝕄) (Go m d (core c.val) (sub i.val)))
  td _ d c i := (inferInstance : BI.Storable (upEmb : UEmb _ 𝕄) (Td m d (core c.val) (sub i.val)))

def coordsV (c : Fin (grid0.bound 0)) (s : Fin (grid0.bound 1)) : grid0.Coords :=
  fun | 0 => c | 1 => s | ⟨_ + 2, h⟩ => absurd h (Nat.not_lt.2 (Nat.le_add_left _ _))
omit [FloatOps F] in
theorem coordsV_eq (c : Fin 2) (s : Fin 16) : coordsV c s = co c s := by
  funext a
  match a with
  | 0 => rfl
  | 1 => rfl

theorem defs₀_vector (c : Fin τ.nSC) (s : Fin τ.nSub) :
    defs₀ (F := F) (.scVector c s) 0 ()
      = SparseCore.onTile hcore0 hsub0 (fun c s => cc0_ring_gather (coordsV c s)
          wV (Memref.isWhole_whole _) sV (Memref.isWhole_whole _) iV (Memref.isWhole_whole _) gV (Memref.isWhole_whole _) fV (Memref.isWhole_whole _)
          rowV0 (Memref.isWhole_whole _) rowV1 (Memref.isWhole_whole _) posV (Memref.isWhole_whole _) obV0 (Memref.isWhole_whole _) obV1 (Memref.isWhole_whole _)
          cc0_scratch5 cc0_scratch6 cc0_scoped0 cc0_scoped1 cc0_scoped2 cc0_scoped3 cc0_scoped4 cc0_scoped5 cc0_scoped6 cc0_scoped7 cc0_scoped8) ⟨⟩ c s := rfl

variable (hm : ∀ d, InRing (m (iLoc d)))

include hm in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have e : coordsV ⟨_, hci.1⟩ ⟨_, hci.2⟩ = co (core c.val) (sub i.val) := by
    rw [show core c.val = ⟨c.val, hci.1⟩ from core_val ⟨c.val, hci.1⟩, show sub i.val = ⟨i.val, hci.2⟩ from sub_val ⟨i.val, hci.2⟩]
    exact coordsV_eq _ _
  have h := tile_body d (coordsV ⟨_, hci.1⟩ ⟨_, hci.2⟩) (hm d) (m (gLoc d)) (m (fLoc d)) (W := m (wLoc d)) (E := m (sLoc d))
    (q := shareOf (core c.val) (sub i.val)) hF O W hO
  show iprop(levAts (K (F := F)).L (K (F := F)).lev ∗ emp ∗ Go m d (core c.val) (sub i.val) ∗ _) ⊢ wp _ _ _ _ fun _ => iprop(Td m d (core c.val) (sub i.val) ∗ _)
  unfold Go Td Dealt
  rw [← e]
  exact h

theorem tasks (Φ : Fin 16 → sProp 𝕄) : (bigSep Finset.univ fun i : Fin ((K (F := F)).nSub 0) => Φ (sub i.val)) = bigSep Finset.univ Φ :=
  bigSep_congr fun i _ => congrArg Φ (sub_val i)
theorem cores (Φ : Fin 2 → sProp 𝕄) : (bigSep Finset.univ fun c : Fin ((K (F := F)).nCore 0) => Φ (core c.val)) = bigSep Finset.univ Φ :=
  bigSep_congr fun i _ => congrArg Φ (core_val i)

theorem vecSplit : (K (F := F)).VecSplit' (P m) 0 := by
  intro d c
  show (bigSep Finset.univ fun s : Fin 16 => Go m d (core c.val) s) ⊢ |={Set.univ}=> iprop(
      (bigSep Finset.univ fun i : Fin ((K (F := F)).nSub 0) => Go m d (core c.val) (sub i.val))
      ∗ ((bigSep Finset.univ fun i : Fin ((K (F := F)).nSub 0) => Td m d (core c.val) (sub i.val)) -∗ bigSep Finset.univ fun s : Fin 16 => Td m d (core c.val) s))
  rw [tasks fun s => Go m d (core c.val) s, tasks fun s => Td m d (core c.val) s]
  iintro H; imodintro
  isplitl [H]; · iexact H
  iintro H; iexact H

/-! ## The launch -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iempintro

/-! ## The call -/

omit [FloatOps F] in
theorem unscopedBufs_eq (d : Dev nD) (W : (b : Ref sig .tc) → Buf (Elt F) ((d.tc : Thread nD τ).loc b)) :
    (unscopedBufs d W : sProp 𝕄)
      = iprop((wLoc d ↦{fullShare} W main_arg0) ∗ (sLoc d ↦{fullShare} W main_arg1) ∗ (iLoc d ↦{fullShare} W main_arg2)
          ∗ (gLoc d ↦{fullShare} W main_v0_0) ∗ fLoc d ↦{fullShare} W main_v0_1) := by
  unfold unscopedBufs
  rw [show (Finset.univ.filter fun b : Ref sig .tc => ¬ b.isScoped) = {main_arg0, main_arg1, main_arg2, main_v0_0, main_v0_1} by decide,
    SparseCore.bigSep_insert' (by decide), SparseCore.bigSep_insert' (by decide), SparseCore.bigSep_insert' (by decide), SparseCore.bigSep_insert' (by decide), bigSep_singleton]

/-- The five arrays, the two results at `h` and `f`. -/
abbrev Arrays (d : Dev nD) (h : S21x7x84x1536.Idx → BitVec 32) (f : S8x1536.Idx → BitVec 32) : sProp 𝕄 :=
  iprop((iLoc d ↦{fullShare} m (iLoc d)) ∗ ((wLoc d ↦{fullShare} m (wLoc d)) ∗ (gLoc d ↦{fullShare} (h : Buf (Elt F) (gLoc d))))
    ∗ ((sLoc d ↦{fullShare} m (sLoc d)) ∗ (fLoc d ↦{fullShare} (f : Buf (Elt F) (fLoc d)))))

theorem st0_eq (d : Dev nD) :
    (bigSep Finset.univ fun c : Fin ((K (F := F)).nCore 0) => (P m).st 0 d c) = Arrays m d (m (gLoc d)) (m (fLoc d)) :=
  (cores fun c => bigSep Finset.univ fun s : Fin 16 => Go m d c s).trans <| all_dealt d (m (wLoc d)) (m (sLoc d)) (m (iLoc d)) (m (gLoc d)) (m (fLoc d))
abbrev FIN (d : Dev nD) : sProp 𝕄 := Arrays m d (gathG (m (wLoc d)) (m (iLoc d))) (gathF (m (sLoc d)) (m (iLoc d)) (m (fLoc d)))
theorem dn0_eq (d : Dev nD) :
    (bigSep Finset.univ fun c : Fin ((K (F := F)).nCore 0) => (P m).dn 0 d c) = FIN m d :=
  (cores fun c => bigSep Finset.univ fun s : Fin 16 => Td m d c s).trans <| all_dealt d (m (wLoc d)) (m (sLoc d)) (m (iLoc d)) _ _

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hw, Hs, Hi, Hg, Hf⟩, Hts, -⟩, -⟩
  iapply ((K (F := F)).wp_run (D (F := F)) 𝒱 (EH := EH) (P := P m) κ d 0) $$ [Hst Hw Hs Hi Hg Hf Hb Hts]
  isplitr; · iexact Hctx
  isplitl [Hst]; · iexact Hst
  isplitl [Hw Hs Hi Hg Hf]
  · rw [st0_eq]
    isplitl [Hi]; · iexact Hi
    isplitl [Hw Hg]
    · isplitl [Hw]; · iexact Hw
      iexact Hg
    isplitl [Hs]; · iexact Hs
    iexact Hf
  iintro ⟨Hst, Hdn⟩
  ihave Hdn' := (Entails.of_eq (dn0_eq m d)) $$ Hdn
  imodintro
  isplitl [Hst]; · iexact Hst
  isplitr [Hb Hts]
  · iexact Hdn'
  isplitl [Hb] <;> iassumption

def fq (d : Dev nD) (s' : Phys nD τ sig (Elt F)) : Prop :=
  s'.mem.mem (iLoc d) = m (iLoc d) ∧ s'.mem.mem (wLoc d) = m (wLoc d) ∧ s'.mem.mem (gLoc d) = gathG (m (wLoc d)) (m (iLoc d))
    ∧ s'.mem.mem (sLoc d) = m (sLoc d) ∧ s'.mem.mem (fLoc d) = gathF (m (sLoc d)) (m (iLoc d)) (m (fLoc d))

omit [FloatOps F] in
theorem agree {ℓ : Loc nD τ sig} (s' : Phys nD τ sig (Elt F)) (f : Buf (Elt F) ℓ) :
    iprop(SI s' ∗ (ℓ ↦{fullShare} f)) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  iintro ⟨⟨Hi, ⟨Hw, Hg⟩, ⟨Hs, Hf⟩⟩, HSI⟩
  ihave H := (agree s' _) $$ [HSI Hi]
  · isplitl [HSI] <;> iassumption
  icases H with ⟨%hi, HSI⟩
  ihave H := (agree s' _) $$ [HSI Hw]
  · isplitl [HSI] <;> iassumption
  icases H with ⟨%hw, HSI⟩
  ihave H := (agree s' _) $$ [HSI Hg]
  · isplitl [HSI] <;> iassumption
  icases H with ⟨%hg, HSI⟩
  ihave H := (agree s' _) $$ [HSI Hs]
  · isplitl [HSI] <;> iassumption
  icases H with ⟨%hs, HSI⟩
  ihave H := (agree s' _) $$ [HSI Hf]
  · isplitl [HSI] <;> iassumption
  icases H with ⟨%hf, HSI⟩
  ipureintro; exact ⟨hi, hw, hg, hs, hf⟩

def QC : PUnit × MemSt nD τ sig (Elt F) → Prop := fun r =>
  (∀ d : Dev nD, r.2.mem (iLoc d) = m (iLoc d) ∧ r.2.mem (wLoc d) = m (wLoc d) ∧ r.2.mem (gLoc d) = gathG (m (wLoc d)) (m (iLoc d))
    ∧ r.2.mem (sLoc d) = m (sLoc d) ∧ r.2.mem (fLoc d) = gathF (m (sLoc d)) (m (iLoc d)) (m (fLoc d))) ∧ r.2.sem = fun _ => 0

include hm in
/-- The program's run: the arguments unchanged, the two results gathered. -/
theorem run_main [∀ e, Nonempty (Elt F e)] : θ_run (Cert.Gather.defs (F := F)) (Cert.Gather.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hm facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Ring

end
-- ==== Proof.GatherRefRun.lean ====
/- What the gather reference's host lines leave in its two results, as a composition of named stages: the ring positions, the
   gathered frames, the gathered flags. -/
module

public import proofs.«01_k».proof.Defs
public import proofs.«01_k».proof.Proof.Gen.GatherRef
public import Idealize.ShloMosaic.Lib.StableHlo.RunRead
public import Idealize.ShloMosaic.Lib.StableHlo.RunHlo

@[expose] public section

set_option maxRecDepth 65536

noncomputable section

namespace Cert.GatherRef.Hand

open Idealize.ShloMosaic Idealize.ShloMosaic.TcCoe Idealize.ShloMosaic.StableHlo Idealize.SL.Sem Cert.GatherRef Cert.GatherRef.Gen

variable {F : FTy → Type} [FloatOps F]

/-- The lines of the called selection. -/
abbrev whereOps (arg0 : TRef sig ⟨S_, .i1⟩) (arg1 : TRef sig ⟨S_, .i32⟩) (arg2 : TRef sig ⟨S_, .i32⟩) (φ : fn_where.Bufs) : List (HloOp τ sig (Elt F)) :=
  [ TRef.ternary arg0 arg1 arg2 φ.v0 select ]

/-- The lines of the called remainder. -/
abbrev remOps (arg0 : TRef sig ⟨S1536x7, .i32⟩) (arg1 : TRef sig ⟨S_, .i32⟩) (φ : fn_remainder.Bufs) : List (HloOp τ sig (Elt F)) :=
  [ TRef.unary arg1 φ.v0 id,
    TRef.nullary φ.c (constantI S_ 32 0#32),
    TRef.binary φ.v0 φ.c φ.v1 (cmpi .eq),
    TRef.nullary φ.c_0 (constantI S_ 32 1#32) ]
  ++ whereOps φ.v1 φ.c_0 φ.v0 φ.call0 ++
  [ TRef.unary φ.call0.v0 φ.v3 (broadcastInDim S1536x7 ![] bcast_S_S1536x7),
    TRef.binary arg0 φ.v3 φ.v4 Host.remsi,
    TRef.nullary φ.c_1 (constantI S_ 32 0#32),
    TRef.unary φ.c_1 φ.v5 (broadcastInDim S1536x7 ![] bcast_S_S1536x7),
    TRef.binary φ.v4 φ.v5 φ.v6 (cmpi .ne),
    TRef.nullary φ.c_2 (constantI S_ 32 0#32),
    TRef.unary φ.c_2 φ.v7 (broadcastInDim S1536x7 ![] bcast_S_S1536x7),
    TRef.binary φ.v4 φ.v7 φ.v8 (cmpi .slt),
    TRef.nullary φ.c_3 (constantI S_ 32 0#32),
    TRef.binary φ.call0.v0 φ.c_3 φ.v9 (cmpi .slt),
    TRef.unary φ.v9 φ.v10 (broadcastInDim S1536x7 ![] bcast_S_S1536x7),
    TRef.binary φ.v8 φ.v10 φ.v11 (cmpi .ne),
    TRef.binary φ.v11 φ.v6 φ.v12 andi,
    TRef.unary φ.call0.v0 φ.v13 (broadcastInDim S1536x7 ![] bcast_S_S1536x7),
    TRef.binary φ.v4 φ.v13 φ.v14 addi,
    TRef.ternary φ.v12 φ.v14 φ.v4 φ.v15 select ]

/-- The lines of the called padding. -/
abbrev padOps (arg0 : TRef sig ⟨S7x1536, .i32⟩) (arg1 : TRef sig ⟨S_, .i32⟩) (φ : fn_pad.Bufs) : List (HloOp τ sig (Elt F)) :=
  [ TRef.unary arg1 φ.v0 id,
    TRef.binary arg0 φ.v0 φ.v1 (fun x v => pad S8x1536 ![0, 0] ![1, 0] ![0, 0] x v pads_S7x1536_S8x1536_010_000 h_S_) ]

/-- The lines before the remainder: the positions as they are, before they go around the ring. -/
abbrev ops₁ : List (HloOp τ sig (Elt F)) :=
  [ unary main_arg2 main_v0 (broadcastInDim S1536x1 ![0] bcast_S1536_S1536x1_0 : (⟨S1536, .i32⟩ : BufTy).Contents (Elt F) → (⟨S1536x1, .i32⟩ : BufTy).Contents (Elt F)),
    nullary main_c (constantI S_ 32 3#32),
    unary main_c main_v1 (broadcastInDim S1536x1 ![] bcast_S_S1536x1 : (⟨S_, .i32⟩ : BufTy).Contents (Elt F) → (⟨S1536x1, .i32⟩ : BufTy).Contents (Elt F)),
    binary main_v0 main_v1 main_v2 (subi : (⟨S1536x1, .i32⟩ : BufTy).Contents (Elt F) → (⟨S1536x1, .i32⟩ : BufTy).Contents (Elt F) → (⟨S1536x1, .i32⟩ : BufTy).Contents (Elt F)),
    nullary main_v3 (iotaInDim S7 32 0),
    unary main_v3 main_v4 (broadcastInDim S1x7 ![1] bcast_S7_S1x7_1 : (⟨S7, .i32⟩ : BufTy).Contents (Elt F) → (⟨S1x7, .i32⟩ : BufTy).Contents (Elt F)),
    unary main_v2 main_v5 (broadcastInDim S1536x7 ![0, 1] bcast_S1536x1_S1536x7_0_1 : (⟨S1536x1, .i32⟩ : BufTy).Contents (Elt F) → (⟨S1536x7, .i32⟩ : BufTy).Contents (Elt F)),
    unary main_v4 main_v6 (broadcastInDim S1536x7 ![0, 1] bcast_S1x7_S1536x7_0_1 : (⟨S1x7, .i32⟩ : BufTy).Contents (Elt F) → (⟨S1536x7, .i32⟩ : BufTy).Contents (Elt F)),
    binary main_v5 main_v6 main_v7 (addi : (⟨S1536x7, .i32⟩ : BufTy).Contents (Elt F) → (⟨S1536x7, .i32⟩ : BufTy).Contents (Elt F) → (⟨S1536x7, .i32⟩ : BufTy).Contents (Elt F)),
    nullary main_c_0 (constantI S_ 32 45000#32) ]

/-- The lines between the two calls: both gathers. -/
abbrev ops₂ : List (HloOp τ sig (Elt F)) :=
  [ nullary main_c_1 (constantI S_ 32 0#32),
    unary main_c_1 main_v9 (broadcastInDim S1536x7 ![] bcast_S_S1536x7 : (⟨S_, .i32⟩ : BufTy).Contents (Elt F) → (⟨S1536x7, .i32⟩ : BufTy).Contents (Elt F)),
    binary main_v8 main_v9 main_v10 (cmpi .slt : (⟨S1536x7, .i32⟩ : BufTy).Contents (Elt F) → (⟨S1536x7, .i32⟩ : BufTy).Contents (Elt F) → (⟨S1536x7, .i1⟩ : BufTy).Contents (Elt F)),
    nullary main_c_2 (constantI S_ 32 45000#32),
    unary main_c_2 main_v11 (broadcastInDim S1536x7 ![] bcast_S_S1536x7 : (⟨S_, .i32⟩ : BufTy).Contents (Elt F) → (⟨S1536x7, .i32⟩ : BufTy).Contents (Elt F)),
    binary main_v8 main_v11 main_v12 (addi : (⟨S1536x7, .i32⟩ : BufTy).Contents (Elt F) → (⟨S1536x7, .i32⟩ : BufTy).Contents (Elt F) → (⟨S1536x7, .i32⟩ : BufTy).Contents (Elt F)),
    ternary main_v10 main_v12 main_v8 main_v13 (select : (⟨S1536x7, .i1⟩ : BufTy).Contents (Elt F) → (⟨S1536x7, .i32⟩ : BufTy).Contents (Elt F) → (⟨S1536x7, .i32⟩ : BufTy).Contents (Elt F) → (⟨S1536x7, .i32⟩ : BufTy).Contents (Elt F)),
    unary main_v13 main_v14 (broadcastInDim S1536x7x1 ![0, 1] bcast_S1536x7_S1536x7x1_0_1 : (⟨S1536x7, .i32⟩ : BufTy).Contents (Elt F) → (⟨S1536x7x1, .i32⟩ : BufTy).Contents (Elt F)),
    binary main_arg0 main_v14 main_v15 ((fun x i => Host.gather gather_S84x21x45000_S1536x7x1_S84x21x1536x7_01_2_n_n_2_2_84211 x i) : (⟨S84x21x45000, .i32⟩ : BufTy).Contents (Elt F) → (⟨S1536x7x1, .i32⟩ : BufTy).Contents (Elt F) → (⟨S84x21x1536x7, .i32⟩ : BufTy).Contents (Elt F)),
    reshape main_v15 main_v16 (rfl : (.i32 : EltTy) = .i32) shapeCasts_S84x21x1536x7_S21x4x21x1536x7,
    unary main_v16 main_v17 ((transpose S21x7x21x4x1536 [0, 4, 2, 1, 3] · transposes_S21x4x21x1536x7_S21x7x21x4x1536_0_4_2_1_3) : (⟨S21x4x21x1536x7, .i32⟩ : BufTy).Contents (Elt F) → (⟨S21x7x21x4x1536, .i32⟩ : BufTy).Contents (Elt F)),
    reshape main_v17 main_v18 (rfl : (.i32 : EltTy) = .i32) shapeCasts_S21x7x21x4x1536_S21x7x84x1536,
    nullary main_c_3 (constantI S_ 32 0#32),
    unary main_c_3 main_v19 (broadcastInDim S1536x7 ![] bcast_S_S1536x7 : (⟨S_, .i32⟩ : BufTy).Contents (Elt F) → (⟨S1536x7, .i32⟩ : BufTy).Contents (Elt F)),
    binary main_v8 main_v19 main_v20 (cmpi .slt : (⟨S1536x7, .i32⟩ : BufTy).Contents (Elt F) → (⟨S1536x7, .i32⟩ : BufTy).Contents (Elt F) → (⟨S1536x7, .i1⟩ : BufTy).Contents (Elt F)),
    nullary main_c_4 (constantI S_ 32 45000#32),
    unary main_c_4 main_v21 (broadcastInDim S1536x7 ![] bcast_S_S1536x7 : (⟨S_, .i32⟩ : BufTy).Contents (Elt F) → (⟨S1536x7, .i32⟩ : BufTy).Contents (Elt F)),
    binary main_v8 main_v21 main_v22 (addi : (⟨S1536x7, .i32⟩ : BufTy).Contents (Elt F) → (⟨S1536x7, .i32⟩ : BufTy).Contents (Elt F) → (⟨S1536x7, .i32⟩ : BufTy).Contents (Elt F)),
    ternary main_v20 main_v22 main_v8 main_v23 (select : (⟨S1536x7, .i1⟩ : BufTy).Contents (Elt F) → (⟨S1536x7, .i32⟩ : BufTy).Contents (Elt F) → (⟨S1536x7, .i32⟩ : BufTy).Contents (Elt F) → (⟨S1536x7, .i32⟩ : BufTy).Contents (Elt F)),
    unary main_v23 main_v24 (broadcastInDim S1536x7x1 ![0, 1] bcast_S1536x7_S1536x7x1_0_1 : (⟨S1536x7, .i32⟩ : BufTy).Contents (Elt F) → (⟨S1536x7x1, .i32⟩ : BufTy).Contents (Elt F)),
    binary main_arg1 main_v24 main_v25 ((fun x i => Host.gather gather_S45000_S1536x7x1_S1536x7_n_0_n_n_0_2_1 x i) : (⟨S45000, .i32⟩ : BufTy).Contents (Elt F) → (⟨S1536x7x1, .i32⟩ : BufTy).Contents (Elt F) → (⟨S1536x7, .i32⟩ : BufTy).Contents (Elt F)),
    unary main_v25 main_v26 ((transpose S7x1536 [1, 0] · transposes_S1536x7_S7x1536_1_0) : (⟨S1536x7, .i32⟩ : BufTy).Contents (Elt F) → (⟨S7x1536, .i32⟩ : BufTy).Contents (Elt F)),
    nullary main_c_5 (constantI S_ 32 0#32) ]

/-- All the lines, in order. -/
abbrev ops : List (HloOp τ sig (Elt F)) :=
  ops₁ ++ remOps (.of main_v7) (.of main_c_0) main_call0 ++ ops₂ ++ padOps (.of main_v26) (.of main_c_5) main_call1

theorem main_eq (c : Dev nD) : main (F := F) c = seq ops := rfl

theorem scopedRefs_eq : (Finset.univ.filter fun b : Ref sig .tc => b.isScoped) = ∅ := by decide +kernel
theorem scopedSems_eq : (Finset.univ.filter fun sm : SemLoc sig => sm.isScoped .tc) = ∅ := by decide +kernel

theorem ops_sub : (ops : List (HloOp τ sig (Elt F))).Forall fun op => op.bufs ⊆ tcRefs τ sig := by
  simp

/-- The positions in the ring: three before the index, and the six after that, around the ring. -/
def ring (x : IVec S1536 32) : IVec S1536x7 32 :=
  addi (broadcastInDim S1536x7 ![0, 1] bcast_S1536x1_S1536x7_0_1
      (subi (broadcastInDim S1536x1 ![0] bcast_S1536_S1536x1_0 x) (broadcastInDim S1536x1 ![] bcast_S_S1536x1 (constantI S_ 32 3#32))))
    (broadcastInDim S1536x7 ![0, 1] bcast_S1x7_S1536x7_0_1 (broadcastInDim S1x7 ![1] bcast_S7_S1x7_1 (iotaInDim S7 32 0)))

/-- The divisor of the remainder. -/
def divisor : IVec S_ 32 :=
  select (cmpi .eq (constantI S_ 32 45000#32) (constantI S_ 32 0#32)) (constantI S_ 32 1#32) (constantI S_ 32 45000#32)

/-- The remainder of the machine, whose sign is the dividend's. -/
def rem (p : IVec S1536x7 32) : IVec S1536x7 32 :=
  Host.remsi p (broadcastInDim S1536x7 ![] bcast_S_S1536x7 divisor)

/-- The remainder whose sign is the divisor's. -/
def mod (p : IVec S1536x7 32) : IVec S1536x7 32 :=
  select
    (andi
      (cmpi .ne (cmpi .slt (rem p) (broadcastInDim S1536x7 ![] bcast_S_S1536x7 (constantI S_ 32 0#32)))
        (broadcastInDim S1536x7 ![] bcast_S_S1536x7 (cmpi .slt divisor (constantI S_ 32 0#32))))
      (cmpi .ne (rem p) (broadcastInDim S1536x7 ![] bcast_S_S1536x7 (constantI S_ 32 0#32))))
    (addi (rem p) (broadcastInDim S1536x7 ![] bcast_S_S1536x7 divisor)) (rem p)

/-- The gathers' index: a negative one counted from the end. -/
def wrapped (p : IVec S1536x7 32) : IVec S1536x7x1 32 :=
  broadcastInDim S1536x7x1 ![0, 1] bcast_S1536x7_S1536x7x1_0_1
    (select (cmpi .slt p (broadcastInDim S1536x7 ![] bcast_S_S1536x7 (constantI S_ 32 0#32)))
      (addi p (broadcastInDim S1536x7 ![] bcast_S_S1536x7 (constantI S_ 32 45000#32))) p)

/-- The gathers' index of every frame of every stack. -/
def pos (x : IVec S1536 32) : IVec S1536x7x1 32 := wrapped (mod (ring x))

/-- The gathered frames. -/
def frames (w : IVec S84x21x45000 32) (x : IVec S1536 32) : IVec S21x7x84x1536 32 :=
  shapeCast S21x7x84x1536
    (transpose S21x7x21x4x1536 [0, 4, 2, 1, 3]
      (shapeCast S21x4x21x1536x7 (Host.gather gather_S84x21x45000_S1536x7x1_S84x21x1536x7_01_2_n_n_2_2_84211 w (pos x))
        shapeCasts_S84x21x1536x7_S21x4x21x1536x7)
      transposes_S21x4x21x1536x7_S21x7x21x4x1536_0_4_2_1_3)
    shapeCasts_S21x7x21x4x1536_S21x7x84x1536

/-- The gathered flags, with the row of zeros after them. -/
def flags (e : IVec S45000 32) (x : IVec S1536 32) : IVec S8x1536 32 :=
  pad S8x1536 ![0, 0] ![1, 0] ![0, 0]
    (transpose S7x1536 [1, 0] (Host.gather gather_S45000_S1536x7x1_S1536x7_n_0_n_n_0_2_1 e (pos x)) transposes_S1536x7_S7x1536_1_0)
    (constantI S_ 32 0#32) pads_S7x1536_S8x1536_010_000 h_S_

set_option maxHeartbeats 4000000

theorem frames_read (V : Valuation τ sig (Elt F)) :
    after ops V (main_v18 : DevRef τ sig) = frames (V (main_arg0 : DevRef τ sig)) (V (main_arg2 : DevRef τ sig)) := by
  after_reads_simp
  rfl

theorem flags_read (V : Valuation τ sig (Elt F)) :
    after ops V (main_v27 : DevRef τ sig) = flags (V (main_arg1 : DevRef τ sig)) (V (main_arg2 : DevRef τ sig)) := by
  after_reads_simp
  rfl

theorem arg0_read (V : Valuation τ sig (Elt F)) : after ops V (main_arg0 : DevRef τ sig) = V (main_arg0 : DevRef τ sig) := by
  after_reads_simp

theorem arg1_read (V : Valuation τ sig (Elt F)) : after ops V (main_arg1 : DevRef τ sig) = V (main_arg1 : DevRef τ sig) := by
  after_reads_simp

theorem arg2_read (V : Valuation τ sig (Elt F)) : after ops V (main_arg2 : DevRef τ sig) = V (main_arg2 : DevRef τ sig) := by
  after_reads_simp

theorem ops_fresh : ∀ op ∈ (ops : List (HloOp τ sig (Elt F))), op.fresh = ∅ :=
  List.forall_iff_forall_mem.mp (forall_fresh_of_map rfl)

/-- The run: every buffer holds what the lines leave, and no semaphore has counted. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.GatherRef.Hand

end
-- ==== Proof.GatherRefValue.lean ====
/- What the gather reference's stages hold at an index, for indices inside the ring: the words and the flags that the ring
   gather leaves. -/
module

public import proofs.«01_k».proof.Proof.GatherRefRun
public import proofs.«01_k».proof.Proof.RingDefs
public import Idealize.ShloMosaic.Lib.Pointwise
public import Idealize.ShloMosaic.Lib.Quiescent

@[expose] public section

set_option maxRecDepth 65536

noncomputable section

namespace Cert.GatherRef.Hand

open Idealize.ShloMosaic Idealize.ShloMosaic.TcCoe Idealize.SL.Sem Cert.GatherRef Cert.GatherRef.Gen
open Cert.Proof (Ring.start Ring.start_lt Ring.gathG Ring.gathF Ring.InRing Ring.ixb Ring.wordRing Ring.unitOf Ring.flagRing)

/-- One position as the reference computes it. -/
def posAt (x j : BitVec 32) : BitVec 32 :=
  let d := Scalar.select (IntOp.cmpi .eq 45000#32 0#32) 1#32 45000#32
  let p := IntOp.addi (IntOp.subi x 3#32) j
  let r := IntOp.remsi .host p d
  let q := Scalar.select (IntOp.andi (IntOp.cmpi .ne (IntOp.cmpi .slt r 0#32) (IntOp.cmpi .slt d 0#32)) (IntOp.cmpi .ne r 0#32))
    (IntOp.addi r d) r
  Scalar.select (IntOp.cmpi .slt q 0#32) (IntOp.addi q 45000#32) q

/-- A word below the ring's length is not negative. -/
theorem not_neg {r : BitVec 32} (h : r.toNat < 45000) : IntOp.cmpi .slt r 0#32 = 0#1 := by
  show BitVec.ofBool (r.slt 0#32) = 0#1
  have : r.slt 0#32 = false := by
    rw [BitVec.slt_eq_decide, BitVec.toInt_eq_toNat_of_lt (by omega)]
    simp
  rw [this]; rfl

/-- It is the position around the ring. -/
theorem posAt_toNat {x : BitVec 32} (hx : x.toNat < 45000) {j : ℕ} (hj : j < 7) :
    (posAt x (BitVec.ofNat 32 j)).toInt.toNat = (Ring.start x + j) % 45000 := by
  by_cases h : x.toNat + j < 3
  · have hx3 : x = BitVec.ofNat 32 x.toNat := by simp
    have hk : x.toNat = 0 ∨ x.toNat = 1 ∨ x.toNat = 2 := by omega
    have hj3 : j = 0 ∨ j = 1 ∨ j = 2 := by omega
    rcases hk with k | k | k <;> rw [k] at hx3 <;> subst hx3 <;> rcases hj3 with rfl | rfl | rfl <;> first | omega | decide +kernel
  · have hp : (IntOp.addi (IntOp.subi x 3#32) (BitVec.ofNat 32 j)).toNat = x.toNat + j - 3 := by
      show (x - 3#32 + BitVec.ofNat 32 j).toNat = _
      simp only [BitVec.toNat_add, BitVec.toNat_sub, BitVec.toNat_ofNat]
      omega
    have hr : (IntOp.remsi .host (IntOp.addi (IntOp.subi x 3#32) (BitVec.ofNat 32 j)) 45000#32).toNat = (x.toNat + j - 3) % 45000 := by
      generalize IntOp.addi (IntOp.subi x 3#32) (BitVec.ofNat 32 j) = p at hp
      unfold IntOp.remsi
      rw [if_neg (by rintro (h | ⟨_, h⟩) <;> exact absurd h (by decide)), BitVec.srem_eq,
        show p.msb = false from BitVec.msb_eq_false_iff_two_mul_lt.mpr (by omega), show (45000#32).msb = false from by decide]
      show (p % 45000#32).toNat = _
      rw [BitVec.toNat_umod, hp]; rfl
    have hlt := Nat.mod_lt (x.toNat + j - 3) (show 0 < 45000 by decide)
    unfold posAt
    dsimp only
    rw [show Scalar.select (IntOp.cmpi .eq 45000#32 0#32) 1#32 45000#32 = 45000#32 from rfl]
    generalize IntOp.remsi .host (IntOp.addi (IntOp.subi x 3#32) (BitVec.ofNat 32 j)) 45000#32 = r at hr
    have hn := not_neg (r := r) (by omega)
    have hq : Scalar.select (IntOp.andi (IntOp.cmpi .ne (IntOp.cmpi .slt r 0#32) (IntOp.cmpi .slt 45000#32 0#32)) (IntOp.cmpi .ne r 0#32))
        (IntOp.addi r 45000#32) r = r := by
      rw [hn, show IntOp.andi (IntOp.cmpi .ne 0#1 (IntOp.cmpi .slt 45000#32 0#32)) (IntOp.cmpi .ne r 0#32) = 0#1 from BitVec.zero_and]
      rfl
    rw [hq, hn, show Scalar.select 0#1 (IntOp.addi r 45000#32) r = r from rfl, BitVec.toInt_eq_toNat_of_lt (by omega), Int.toNat_natCast, hr]
    unfold Ring.start
    split <;> omega

/-- The gathers' index, at an index. -/
theorem pos_apply (X : IVec S1536 32) (hX : Ring.InRing X) (b : Fin 1536) (j : Fin 7) (z : Fin 1) :
    (pos X (ix3 b j z)).toInt.toNat = (Ring.start (X (ix1 b)) + j.val) % 45000 := by
  refine Eq.trans ?_ (posAt_toNat (hX (ix1 b)) j.isLt)
  pointwise [pos, wrapped, mod, rem, divisor, ring, posAt]

/-- The words gather's dimension numbers. -/
abbrev d₁ := gather_S84x21x45000_S1536x7x1_S84x21x1536x7_01_2_n_n_2_2_84211
/-- The flags gather's dimension numbers. -/
abbrev d₂ := gather_S45000_S1536x7x1_S1536x7_n_0_n_n_0_2_1

/-- The words gather. -/
theorem gather_words (W : IVec S84x21x45000 32) (X : IVec S1536 32) (hX : Ring.InRing X) (a : Fin 84) (c : Fin 21) (b : Fin 1536) (j : Fin 7) :
    Host.gather d₁ W (pos X) (ix4 a c b j)
      = W (ix3 a c ⟨(Ring.start (X (ix1 b)) + j.val) % 45000, Nat.mod_lt _ (by decide)⟩) := by
  unfold Host.gather
  congr 1
  funext k
  refine Fin.ext ?_
  show d₁.start (ix4 a c b j) (pos X) k + d₁.batchCoord (ix4 a c b j) k + d₁.offCoord (ix4 a c b j) k = _
  rw [GatherDims.batchCoord_eq_zero _ _ _ List.not_mem_nil, Nat.add_zero]
  have hs : d₁.start (ix4 a c b j) (pos X) (2 : Fin 3) = (Ring.start (X (ix1 b)) + j.val) % 45000 := by
    unfold GatherDims.start
    rw [dif_pos (show (2 : Fin 3) ∈ d₁.startIndexMap from List.mem_singleton.mpr rfl)]
    have hsi : d₁.siIdx (ix4 a c b j) ⟨List.idxOf (2 : Fin 3) d₁.startIndexMap,
        List.idxOf_lt_length_iff.2 (List.mem_singleton.mpr rfl)⟩ = ix3 b j 0 := by
      funext b; refine Fin.ext ?_
      match b with
      | ⟨0, _⟩ => rfl
      | ⟨1, _⟩ => rfl
      | ⟨2, _⟩ => rfl
    rw [hsi, pos_apply X hX]
    exact Nat.min_eq_left (Nat.le_of_lt_succ (Nat.mod_lt _ (by decide)))
  have hz : ∀ k : Fin 3, k ≠ 2 → d₁.start (ix4 a c b j) (pos X) k = 0 := fun k hk => by
    unfold GatherDims.start
    rw [dif_neg (show k ∉ d₁.startIndexMap from fun h => hk (List.mem_singleton.mp h))]
  match k with
  | ⟨0, _⟩ => exact (congrArg (· + _) (hz ⟨0, by decide⟩ (by decide))).trans (Nat.zero_add _)
  | ⟨1, _⟩ => exact (congrArg (· + _) (hz ⟨1, by decide⟩ (by decide))).trans (Nat.zero_add _)
  | ⟨2, _⟩ =>
    show d₁.start (ix4 a c b j) (pos X) (2 : Fin 3) + d₁.offCoord (ix4 a c b j) (2 : Fin 3) = _
    rw [hs, GatherDims.offCoord_eq_zero _ _ _ (fun h => ((GatherDims.mem_sKept _ _).mp h).1 (List.mem_singleton.mpr rfl))]
    rfl

/-- The flags gather. -/
theorem gather_flags (E : IVec S45000 32) (X : IVec S1536 32) (hX : Ring.InRing X) (b : Fin 1536) (j : Fin 7) :
    Host.gather d₂ E (pos X) (ix2 b j) = E (ix1 ⟨(Ring.start (X (ix1 b)) + j.val) % 45000, Nat.mod_lt _ (by decide)⟩) := by
  unfold Host.gather
  congr 1
  funext k
  refine Fin.ext ?_
  show d₂.start (ix2 b j) (pos X) k + d₂.batchCoord (ix2 b j) k + d₂.offCoord (ix2 b j) k = _
  rw [GatherDims.batchCoord_eq_zero _ _ _ List.not_mem_nil, Nat.add_zero]
  match k with
  | ⟨0, _⟩ =>
    show d₂.start (ix2 b j) (pos X) (0 : Fin 1) + d₂.offCoord (ix2 b j) (0 : Fin 1) = _
    rw [GatherDims.offCoord_eq_zero _ _ _ (fun h => ((GatherDims.mem_sKept _ _).mp h).1 (List.mem_singleton.mpr rfl)), Nat.add_zero]
    unfold GatherDims.start
    rw [dif_pos (show (0 : Fin 1) ∈ d₂.startIndexMap from List.mem_singleton.mpr rfl)]
    have hsi : d₂.siIdx (ix2 b j) ⟨List.idxOf (0 : Fin 1) d₂.startIndexMap,
        List.idxOf_lt_length_iff.2 (List.mem_singleton.mpr rfl)⟩ = ix3 b j 0 := by
      funext b; refine Fin.ext ?_
      match b with
      | ⟨0, _⟩ => rfl
      | ⟨1, _⟩ => rfl
      | ⟨2, _⟩ => rfl
    rw [hsi, pos_apply X hX]
    exact Nat.min_eq_left (Nat.le_of_lt_succ (Nat.mod_lt _ (by decide)))

/-- The gathered frames of the reference are those of the ring gather. -/
theorem frames_eq (W : IVec S84x21x45000 32) (X : IVec S1536 32) (hX : Ring.InRing X) : frames W X = Ring.gathG W X := by
  funext i
  obtain ⟨y, j, r, b, rfl⟩ : ∃ (y : Fin 21) (j : Fin 7) (r : Fin 84) (b : Fin 1536), i = ix4 y j r b :=
    ⟨i 0, i 1, i 2, i 3, by funext k; match k with | 0 => rfl | 1 => rfl | 2 => rfl | 3 => rfl⟩
  have e : frames W X (ix4 y j r b) = Host.gather d₁ W (pos X) (ix4 ⟨y.val * 4 + r.val % 4, by omega⟩ ⟨r.val / 4, by omega⟩ b j) := by
    pointwise [frames]
  have hx : Ring.ixb b.val = ix1 b := by
    funext k
    match k with
    | 0 => exact Fin.ext (Nat.mod_eq_of_lt b.isLt)
  rw [e, gather_words W X hX]
  show _ = Ring.wordRing W (Ring.unitOf y.val r.val) (Ring.start (X (Ring.ixb b.val)) + j.val)
  rw [hx]
  unfold Ring.wordRing Ring.unitOf
  have h1 : ((4 * y.val + r.val % 4) * 21 + r.val / 4) / 21 = 4 * y.val + r.val % 4 := by
    rw [Nat.add_comm, Nat.add_mul_div_right _ _ (by decide), Nat.div_eq_of_lt (by omega), Nat.zero_add]
  have h2 : ((4 * y.val + r.val % 4) * 21 + r.val / 4) % 21 = r.val / 4 := by
    rw [Nat.add_comm, Nat.add_mul_mod_self_right, Nat.mod_eq_of_lt (by omega)]
  congr 1
  funext k
  match k with
  | 0 => exact Fin.ext (by show y.val * 4 + r.val % 4 = _ / 21 % 84; rw [h1]; omega)
  | 1 => exact Fin.ext h2.symm
  | 2 => rfl

/-- The gathered flags of the reference, in the seven rows of the frames, are those of the ring gather. -/
theorem flags_eq (E : IVec S45000 32) (X : IVec S1536 32) (hX : Ring.InRing X) (f : IVec S8x1536 32) (i : S8x1536.Idx) (hi : (i 0).val < 7) :
    flags E X i = Ring.gathF E X f i := by
  obtain ⟨j, b, rfl⟩ : ∃ (j : Fin 8) (b : Fin 1536), i = ix2 j b := ⟨i 0, i 1, by funext k; match k with | 0 => rfl | 1 => rfl⟩
  have hj : j.val < 7 := hi
  have hx : Ring.ixb b.val = ix1 b := by
    funext k
    match k with
    | 0 => exact Fin.ext (Nat.mod_eq_of_lt b.isLt)
  have e : flags E X (ix2 j b) = Host.gather d₂ E (pos X) (ix2 b ⟨j.val, hj⟩) := by
    unfold flags pad
    rw [dif_pos]
    · refine congrArg (Host.gather d₂ E (pos X)) ?_
      funext k
      match k with
      | 0 => exact Fin.ext (by show (b.val - 0) / 1 = b.val; omega)
      | 1 => exact Fin.ext (by show (j.val - 0) / 1 = j.val; omega)
    · intro k
      match k with
      | 0 => show 0 ≤ j.val ∧ (j.val - 0) % 1 = 0 ∧ (j.val - 0) / 1 < 7; omega
      | 1 => show 0 ≤ b.val ∧ (b.val - 0) % 1 = 0 ∧ (b.val - 0) / 1 < 1536; omega
  rw [e, gather_flags E X hX]
  show _ = if j.val < 7 then Ring.flagRing E (Ring.start (X (Ring.ixb b.val)) + j.val) else _
  rw [if_pos hj, hx]
  unfold Ring.flagRing
  congr 1
  funext k
  match k with
  | 0 => rfl

/-- The precondition, at an index: every index lies in the ring. -/
theorem inRing_of_mask (x : BitVec 32) (h : IntOp.andi (IntOp.cmpi .sge x 0#32) (IntOp.cmpi .slt x 45000#32) = 1#1) : x.toNat < 45000 := by
  have hs : (0#32).sle x = true ∧ x.slt 45000#32 = true := by
    revert h
    show BitVec.ofBool ((0#32).sle x) &&& BitVec.ofBool (x.slt 45000#32) = 1#1 → _
    cases (0#32).sle x <;> cases x.slt 45000#32 <;> decide
  have h0 := BitVec.sle_iff_toInt_le.mp hs.1
  have h1 := BitVec.slt_iff_toInt_lt.mp hs.2
  rw [show (0#32).toInt = 0 from rfl] at h0
  rw [show (45000#32).toInt = 45000 from rfl] at h1
  rw [BitVec.toInt_eq_toNat_cond] at h0 h1
  split at h0 <;> omega

end Cert.GatherRef.Hand

end
-- ==== Proof.lean ====
/- The claims about the convolution kernel: the frames of both programs, that idealization rewrote nothing, and that over
   the extended reals the kernel's two results are the reference's. The claims about the ring gather: its frame, and that
   its results are its reference's, bit for bit, wherever it writes. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.KernelFrame
public import proofs.«01_k».proof.Proof.KernelIdealFrame
public import proofs.«01_k».proof.Proof.Gen.ReferenceIdeal.Frame
public import proofs.«01_k».proof.Proof.KernelIdealResult
public import proofs.«01_k».proof.Proof.RefResult
public import proofs.«01_k».proof.Proof.Gen.Gather
public import proofs.«01_k».proof.Proof.Gen.Gather.Skeleton
public import proofs.«01_k».proof.Proof.Gen.Pre_in_ring
public import proofs.«01_k».proof.Proof.Gen.On_seven_rows
public import proofs.«01_k».proof.Proof.Gen.GatherRef
public import proofs.«01_k».proof.Proof.RingLaunch
public import proofs.«01_k».proof.Proof.GatherRefValue
public import Idealize.ShloMosaic.Adequacy
public import Idealize.ShloMosaic.Init

@[expose] public section

noncomputable section

namespace Cert.Proof

open Idealize.ShloMosaic Idealize.SL.Sem Cert.Kernel

/-- Over the extended reals, from equal arguments, the kernel and the reference end with equal results: both are
    `Spec.feature` of the arguments. -/
theorem algebraic : Cert.algebraic_KernelIdeal_ReferenceIdeal (hKernelIdeal := Cert.KernelIdeal.Gen.facts)
    (hReferenceIdeal := Cert.ReferenceIdeal.Gen.facts) := by
  intro m ρ m' ρ' _ h
  have e : ∀ (c : Dev nD) (st : Fin 2), Cert.ReferenceIdeal.Hand.features m' c st = Cert.KernelIdeal.Hand.features m c st := fun c st => by
    obtain ⟨h0, h1, h2, h3, h4⟩ := h c
    unfold Cert.ReferenceIdeal.Hand.features Cert.KernelIdeal.Hand.features Cert.KernelIdeal.Hand.featureAt
    rw [h0, h1, h2, h3, h4]
  refine ⟨fun c => Cert.KernelIdeal.Hand.features m c 0, fun c => Cert.KernelIdeal.Hand.features m c 1,
    Cert.KernelIdeal.Hand.run m ρ, ?_⟩
  exact (θ_run _ _ _).mono (fun _ q c => ⟨(q c).1.trans (e c 0), (q c).2.1.trans (e c 1), (q c).2.2⟩) (Cert.ReferenceIdeal.Hand.run m' ρ')

/-! ## The ring gather -/

/-- Under the precondition every index lies in the ring. -/
theorem inRing (m : (ℓ : Loc Cert.Gather.nD Cert.Gather.τ Cert.Gather.sig) → Buf (Elt Bits) ℓ)
    (h : Cert.Pre_Gather (hPre_in_ring := Cert.Pre_in_ring.Gen.facts) m) (d : Dev Cert.Gather.nD) : Ring.InRing (m (Ring.iLoc d)) :=
  fun b => Cert.GatherRef.Hand.inRing_of_mask _ (congrFun (h d) b)

/-- The ring gather runs and leaves its arguments and its counters as they were. -/
theorem frame_gather : Cert.quiescent_Gather (hGather := Cert.Gather.Gen.facts) (hPre_in_ring := Cert.Pre_in_ring.Gen.facts) :=
  fun m g h => (θ_run _ _ _).mono (fun _ q => ⟨fun c => ⟨(q.1 c).2.1, (q.1 c).2.2.2.1, (q.1 c).1⟩, q.2⟩)
    (Ring.run_main (F := Bits) m g (inRing m h))

/-- The gather reference runs and leaves its arguments as they were. -/
theorem frame_gatherRef : Cert.quiescent_GatherRef (hGatherRef := Cert.GatherRef.Gen.facts) (hPre_in_ring := Cert.Pre_in_ring.Gen.facts) :=
  fun m g _ => (θ_run _ _ _).mono (fun r q => ⟨fun c => ⟨(q c _).trans (Cert.GatherRef.Hand.arg0_read _),
      (q c _).trans (Cert.GatherRef.Hand.arg1_read _), (q c _).trans (Cert.GatherRef.Hand.arg2_read _)⟩,
    sem_eq_zero_of_no_sems (by decide) r.2⟩)
    (Cert.GatherRef.Hand.run_main (F := Bits) m g)

/-- The mask of the flags is set in the seven rows of the frames alone. -/
theorem row_lt (n : ℕ) (hn : n < 8) (h : IntOp.cmpi .slt (BitVec.ofNat 32 n) 7#32 = 1#1) : n < 7 := by
  by_contra hc
  have : n = 7 := by omega
  subst this
  exact absurd h (by decide)

/-- From equal arguments, every index in the ring, the ring gather and its reference end with the same words, and with the
    same flags in the seven rows of the frames. -/
theorem bitexact_gather : Cert.bitexact_Gather_GatherRef_on_seven_rows (hGather := Cert.Gather.Gen.facts)
    (hGatherRef := Cert.GatherRef.Gen.facts) (hPre_in_ring := Cert.Pre_in_ring.Gen.facts) (hOn_seven_rows := Cert.On_seven_rows.Gen.facts) := by
  intro m g m' g' h e
  refine ⟨fun c => Ring.gathG (m (Ring.wLoc c)) (m (Ring.iLoc c)),
    fun c => Ring.gathF (m (Ring.sLoc c)) (m (Ring.iLoc c)) (m (Ring.fLoc c)),
    (θ_run _ _ _).mono (fun _ q c => ⟨fun i _ => congrFun (q.1 c).2.2.1 i, fun i _ => congrFun (q.1 c).2.2.2.2 i,
      (q.1 c).2.1, (q.1 c).2.2.2.1, (q.1 c).1⟩) (Ring.run_main (F := Bits) m g (inRing m h)),
    (θ_run _ _ _).mono (fun _ q c => ?_) (Cert.GatherRef.Hand.run_main (F := Bits) m' g')⟩
  obtain ⟨e0, e1, e2⟩ := e c
  refine ⟨fun i _ => ?_, fun i hi => ?_, (q c _).trans (Cert.GatherRef.Hand.arg0_read _), (q c _).trans (Cert.GatherRef.Hand.arg1_read _),
    (q c _).trans (Cert.GatherRef.Hand.arg2_read _)⟩
  · have k := (q c Cert.GatherRef.main_v18).trans (Cert.GatherRef.Hand.frames_read _)
    have w : Cert.GatherRef.Hand.frames (m' ((c.tc : Thread Cert.GatherRef.nD Cert.GatherRef.τ).loc Cert.GatherRef.main_arg0))
        (m' ((c.tc : Thread Cert.GatherRef.nD Cert.GatherRef.τ).loc Cert.GatherRef.main_arg2)) = Ring.gathG (m (Ring.wLoc c)) (m (Ring.iLoc c)) := by
      rw [e0, e2]; exact Cert.GatherRef.Hand.frames_eq _ _ (inRing m h c)
    exact congrFun (k.trans w) i
  · have k := (q c Cert.GatherRef.main_v27).trans (Cert.GatherRef.Hand.flags_read _)
    have w : Cert.GatherRef.Hand.flags (m' ((c.tc : Thread Cert.GatherRef.nD Cert.GatherRef.τ).loc Cert.GatherRef.main_arg1))
        (m' ((c.tc : Thread Cert.GatherRef.nD Cert.GatherRef.τ).loc Cert.GatherRef.main_arg2)) i
        = Ring.gathF (m (Ring.sLoc c)) (m (Ring.iLoc c)) (m (Ring.fLoc c)) i := by
      rw [e1, e2]; exact Cert.GatherRef.Hand.flags_eq _ _ (inRing m h c) _ i (row_lt _ (i 0).isLt hi)
    exact (congrFun k i).trans w

/-- All the claims. -/
theorem claim : Cert.Claim := ⟨Cert.Kernel.Gen.facts, Cert.KernelIdeal.Gen.facts, Cert.ReferenceIdeal.Gen.facts,
  Cert.Gather.Gen.facts, Cert.GatherRef.Gen.facts, Cert.Pre_in_ring.Gen.facts, Cert.On_seven_rows.Gen.facts,
  fun m ρ _ => Cert.Kernel.Hand.frame m ρ,
  fun m ρ _ => Cert.KernelIdeal.Hand.frame m ρ,
  fun m ρ _ => Cert.ReferenceIdeal.Gen.frame m ρ,
  frame_gather, frame_gatherRef,
  trivial, algebraic, bitexact_gather⟩

end Cert.Proof

end
